-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_MergeLat (m : (ℓ : Loc Cert.MergeLat.nD Cert.MergeLat.τ Cert.MergeLat.sig) → Buf (Elt Bits) ℓ) : Prop :=
  True

def Pre_MergeLatIdeal (m : (ℓ : Loc Cert.MergeLatIdeal.nD Cert.MergeLatIdeal.τ Cert.MergeLatIdeal.sig) → Buf (Elt Ideal) ℓ) : Prop :=
  True

def Pre_MergeLatReferenceIdeal (m : (ℓ : Loc Cert.MergeLatReferenceIdeal.nD Cert.MergeLatReferenceIdeal.τ Cert.MergeLatReferenceIdeal.sig) → Buf (Elt Ideal) ℓ) : Prop :=
  True

def Pre_FfnLat (m : (ℓ : Loc Cert.FfnLat.nD Cert.FfnLat.τ Cert.FfnLat.sig) → Buf (Elt Bits) ℓ) : Prop :=
  True

def Pre_FfnLatIdeal (m : (ℓ : Loc Cert.FfnLatIdeal.nD Cert.FfnLatIdeal.τ Cert.FfnLatIdeal.sig) → Buf (Elt Ideal) ℓ) : Prop :=
  True

def Pre_FfnLatIdeal_ffn_finite [hPre_ffn_finite : Cert.Pre_ffn_finite.Facts] (m : (ℓ : Loc Cert.FfnLatIdeal.nD Cert.FfnLatIdeal.τ Cert.FfnLatIdeal.sig) → Buf (Elt Ideal) ℓ) : Prop :=
  ∀ c : Dev Cert.FfnLatIdeal.nD,
    (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).1 = (fun _ => 1#1)
    ∧ (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).2.1 = (fun _ => 1#1)
    ∧ (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).2.2.1 = (fun _ => 1#1)
    ∧ (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).2.2.2.1 = (fun _ => 1#1)
    ∧ (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).2.2.2.2.1 = (fun _ => 1#1)
    ∧ (Cert.Pre_ffn_finite.fn (F := Ideal) (m ((c.tc : Thread Cert.FfnLatIdeal.nD Cert.FfnLatIdeal.τ).loc Cert.FfnLatIdeal.main_arg0)) (m ((c.tc : Thread Cert.FfnLatIdeal.nD Cert.FfnLatIdeal.τ).loc Cert.FfnLatIdeal.main_arg1)) (m ((c.tc : Thread Cert.FfnLatIdeal.nD Cert.FfnLatIdeal.τ).loc Cert.FfnLatIdeal.main_arg2)) (m ((c.tc : Thread Cert.FfnLatIdeal.nD Cert.FfnLatIdeal.τ).loc Cert.FfnLatIdeal.main_arg3)) (m ((c.tc : Thread Cert.FfnLatIdeal.nD Cert.FfnLatIdeal.τ).loc Cert.FfnLatIdeal.main_arg4)) (m ((c.tc : Thread Cert.FfnLatIdeal.nD Cert.FfnLatIdeal.τ).loc Cert.FfnLatIdeal.main_arg5)) (m ((c.tc : Thread Cert.FfnLatIdeal.nD Cert.FfnLatIdeal.τ).loc Cert.FfnLatIdeal.main_arg6))).2.2.2.2.2 = (fun _ => 1#1)

def Pre_FfnLatReferenceIdeal (m : (ℓ : Loc Cert.FfnLatReferenceIdeal.nD Cert.FfnLatReferenceIdeal.τ Cert.FfnLatReferenceIdeal.sig) → Buf (Elt Ideal) ℓ) : Prop :=
  True

def Pre_FfnLatReferenceIdeal_ffn_finite [hPre_ffn_finite : Cert.Pre_ffn_finite.Facts] (m : (ℓ : Loc Cert.FfnLatReferenceIdeal.nD Cert.FfnLatReferenceIdeal.τ Cert.FfnLatReferenceIdeal.sig) → Buf (Elt Ideal) ℓ) : Prop :=
  ∀ c : Dev Cert.FfnLatReferenceIdeal.nD,
    (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).1 = (fun _ => 1#1)
    ∧ (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).2.1 = (fun _ => 1#1)
    ∧ (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).2.2.1 = (fun _ => 1#1)
    ∧ (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).2.2.2.1 = (fun _ => 1#1)
    ∧ (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).2.2.2.2.1 = (fun _ => 1#1)
    ∧ (Cert.Pre_ffn_finite.fn (F := Ideal) (m ((c.tc : Thread Cert.FfnLatReferenceIdeal.nD Cert.FfnLatReferenceIdeal.τ).loc Cert.FfnLatReferenceIdeal.main_arg0)) (m ((c.tc : Thread Cert.FfnLatReferenceIdeal.nD Cert.FfnLatReferenceIdeal.τ).loc Cert.FfnLatReferenceIdeal.main_arg1)) (m ((c.tc : Thread Cert.FfnLatReferenceIdeal.nD Cert.FfnLatReferenceIdeal.τ).loc Cert.FfnLatReferenceIdeal.main_arg2)) (m ((c.tc : Thread Cert.FfnLatReferenceIdeal.nD Cert.FfnLatReferenceIdeal.τ).loc Cert.FfnLatReferenceIdeal.main_arg3)) (m ((c.tc : Thread Cert.FfnLatReferenceIdeal.nD Cert.FfnLatReferenceIdeal.τ).loc Cert.FfnLatReferenceIdeal.main_arg4)) (m ((c.tc : Thread Cert.FfnLatReferenceIdeal.nD Cert.FfnLatReferenceIdeal.τ).loc Cert.FfnLatReferenceIdeal.main_arg5)) (m ((c.tc : Thread Cert.FfnLatReferenceIdeal.nD Cert.FfnLatReferenceIdeal.τ).loc Cert.FfnLatReferenceIdeal.main_arg6))).2.2.2.2.2 = (fun _ => 1#1)

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxReferenceIdeal (m : (ℓ : Loc Cert.MergeCtxReferenceIdeal.nD Cert.MergeCtxReferenceIdeal.τ Cert.MergeCtxReferenceIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxIdeal_ffn_ctx_finite [hPre_ffn_ctx_finite : Cert.Pre_ffn_ctx_finite.Facts] (m : (ℓ : Loc Cert.FfnCtxIdeal.nD Cert.FfnCtxIdeal.τ Cert.FfnCtxIdeal.sig) → Buf (Elt Ideal) ℓ) : Prop :=
  ∀ c : Dev Cert.FfnCtxIdeal.nD,
    (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).2.2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).2.2.2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).2.2.2.2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)) (m ((c.tc : Thread Cert.FfnCtxIdeal.nD Cert.FfnCtxIdeal.τ).loc Cert.FfnCtxIdeal.main_arg6))).2.2.2.2.2 = (fun _ => 1#1)

def Pre_FfnCtxReferenceIdeal (m : (ℓ : Loc Cert.FfnCtxReferenceIdeal.nD Cert.FfnCtxReferenceIdeal.τ Cert.FfnCtxReferenceIdeal.sig) → Buf (Elt Ideal) ℓ) : Prop :=
  True

def Pre_FfnCtxReferenceIdeal_ffn_ctx_finite [hPre_ffn_ctx_finite : Cert.Pre_ffn_ctx_finite.Facts] (m : (ℓ : Loc Cert.FfnCtxReferenceIdeal.nD Cert.FfnCtxReferenceIdeal.τ Cert.FfnCtxReferenceIdeal.sig) → Buf (Elt Ideal) ℓ) : Prop :=
  ∀ c : Dev Cert.FfnCtxReferenceIdeal.nD,
    (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).1 = (fun _ => 1#1)
    ∧ (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).2.1 = (fun _ => 1#1)
    ∧ (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).2.2.1 = (fun _ => 1#1)
    ∧ (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).2.2.2.1 = (fun _ => 1#1)
    ∧ (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).2.2.2.2.1 = (fun _ => 1#1)
    ∧ (Cert.Pre_ffn_ctx_finite.fn (F := Ideal) (m ((c.tc : Thread Cert.FfnCtxReferenceIdeal.nD Cert.FfnCtxReferenceIdeal.τ).loc Cert.FfnCtxReferenceIdeal.main_arg0)) (m ((c.tc : Thread Cert.FfnCtxReferenceIdeal.nD Cert.FfnCtxReferenceIdeal.τ).loc Cert.FfnCtxReferenceIdeal.main_arg1)) (m ((c.tc : Thread Cert.FfnCtxReferenceIdeal.nD Cert.FfnCtxReferenceIdeal.τ).loc Cert.FfnCtxReferenceIdeal.main_arg2)) (m ((c.tc : Thread Cert.FfnCtxReferenceIdeal.nD Cert.FfnCtxReferenceIdeal.τ).loc Cert.FfnCtxReferenceIdeal.main_arg3)) (m ((c.tc : Thread Cert.FfnCtxReferenceIdeal.nD Cert.FfnCtxReferenceIdeal.τ).loc Cert.FfnCtxReferenceIdeal.main_arg4)) (m ((c.tc : Thread Cert.FfnCtxReferenceIdeal.nD Cert.FfnCtxReferenceIdeal.τ).loc Cert.FfnCtxReferenceIdeal.main_arg5)) (m ((c.tc : Thread Cert.FfnCtxReferenceIdeal.nD Cert.FfnCtxReferenceIdeal.τ).loc Cert.FfnCtxReferenceIdeal.main_arg6))).2.2.2.2.2 = (fun _ => 1#1)

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_ctx_scores_finite [hPre_ctx_scores_finite : Cert.Pre_ctx_scores_finite.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_ctx_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).1 = (fun _ => 1#1)
    ∧ (Cert.Pre_ctx_scores_finite.fn (F := Ideal) (m ((c.tc : Thread Cert.CtxAttnIdeal.nD Cert.CtxAttnIdeal.τ).loc Cert.CtxAttnIdeal.main_arg0)) (m ((c.tc : Thread Cert.CtxAttnIdeal.nD Cert.CtxAttnIdeal.τ).loc Cert.CtxAttnIdeal.main_arg1)) (m ((c.tc : Thread Cert.CtxAttnIdeal.nD Cert.CtxAttnIdeal.τ).loc Cert.CtxAttnIdeal.main_arg2)) (m ((c.tc : Thread Cert.CtxAttnIdeal.nD Cert.CtxAttnIdeal.τ).loc Cert.CtxAttnIdeal.main_arg3))).2 = (fun _ => 1#1)

def Pre_CtxAttnReferenceIdeal (m : (ℓ : Loc Cert.CtxAttnReferenceIdeal.nD Cert.CtxAttnReferenceIdeal.τ Cert.CtxAttnReferenceIdeal.sig) → Buf (Elt Ideal) ℓ) : Prop :=
  True

def Pre_CtxAttnReferenceIdeal_ctx_scores_finite [hPre_ctx_scores_finite : Cert.Pre_ctx_scores_finite.Facts] (m : (ℓ : Loc Cert.CtxAttnReferenceIdeal.nD Cert.CtxAttnReferenceIdeal.τ Cert.CtxAttnReferenceIdeal.sig) → Buf (Elt Ideal) ℓ) : Prop :=
  ∀ c : Dev Cert.CtxAttnReferenceIdeal.nD,
    (Cert.Pre_ctx_scores_finite.fn (F := Ideal) (m ((c.tc : Thread Cert.CtxAttnReferenceIdeal.nD Cert.CtxAttnReferenceIdeal.τ).loc Cert.CtxAttnReferenceIdeal.main_arg0)) (m ((c.tc : Thread Cert.CtxAttnReferenceIdeal.nD Cert.CtxAttnReferenceIdeal.τ).loc Cert.CtxAttnReferenceIdeal.main_arg1)) (m ((c.tc : Thread Cert.CtxAttnReferenceIdeal.nD Cert.CtxAttnReferenceIdeal.τ).loc Cert.CtxAttnReferenceIdeal.main_arg2)) (m ((c.tc : Thread Cert.CtxAttnReferenceIdeal.nD Cert.CtxAttnReferenceIdeal.τ).loc Cert.CtxAttnReferenceIdeal.main_arg3))).1 = (fun _ => 1#1)
    ∧ (Cert.Pre_ctx_scores_finite.fn (F := Ideal) (m ((c.tc : Thread Cert.CtxAttnReferenceIdeal.nD Cert.CtxAttnReferenceIdeal.τ).loc Cert.CtxAttnReferenceIdeal.main_arg0)) (m ((c.tc : Thread Cert.CtxAttnReferenceIdeal.nD Cert.CtxAttnReferenceIdeal.τ).loc Cert.CtxAttnReferenceIdeal.main_arg1)) (m ((c.tc : Thread Cert.CtxAttnReferenceIdeal.nD Cert.CtxAttnReferenceIdeal.τ).loc Cert.CtxAttnReferenceIdeal.main_arg2)) (m ((c.tc : Thread Cert.CtxAttnReferenceIdeal.nD Cert.CtxAttnReferenceIdeal.τ).loc Cert.CtxAttnReferenceIdeal.main_arg3))).2 = (fun _ => 1#1)

def Pre_InALat (m : (ℓ : Loc Cert.InALat.nD Cert.InALat.τ Cert.InALat.sig) → Buf (Elt Bits) ℓ) : Prop :=
  True

def Pre_InALatIdeal (m : (ℓ : Loc Cert.InALatIdeal.nD Cert.InALatIdeal.τ Cert.InALatIdeal.sig) → Buf (Elt Ideal) ℓ) : Prop :=
  True

def Pre_InALatReferenceIdeal (m : (ℓ : Loc Cert.InALatReferenceIdeal.nD Cert.InALatReferenceIdeal.τ Cert.InALatReferenceIdeal.sig) → Buf (Elt Ideal) ℓ) : Prop :=
  True

def Pre_InBLat (m : (ℓ : Loc Cert.InBLat.nD Cert.InBLat.τ Cert.InBLat.sig) → Buf (Elt Bits) ℓ) : Prop :=
  True

def Pre_InBLatIdeal (m : (ℓ : Loc Cert.InBLatIdeal.nD Cert.InBLatIdeal.τ Cert.InBLatIdeal.sig) → Buf (Elt Ideal) ℓ) : Prop :=
  True

def Pre_InBLatIdeal_in_b_finite [hPre_in_b_finite : Cert.Pre_in_b_finite.Facts] (m : (ℓ : Loc Cert.InBLatIdeal.nD Cert.InBLatIdeal.τ Cert.InBLatIdeal.sig) → Buf (Elt Ideal) ℓ) : Prop :=
  ∀ c : Dev Cert.InBLatIdeal.nD,
    (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).1 = (fun _ => 1#1)
    ∧ (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).2.1 = (fun _ => 1#1)
    ∧ (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).2.2.1 = (fun _ => 1#1)
    ∧ (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).2.2.2.1 = (fun _ => 1#1)
    ∧ (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).2.2.2.2.1 = (fun _ => 1#1)
    ∧ (Cert.Pre_in_b_finite.fn (F := Ideal) (m ((c.tc : Thread Cert.InBLatIdeal.nD Cert.InBLatIdeal.τ).loc Cert.InBLatIdeal.main_arg0)) (m ((c.tc : Thread Cert.InBLatIdeal.nD Cert.InBLatIdeal.τ).loc Cert.InBLatIdeal.main_arg1)) (m ((c.tc : Thread Cert.InBLatIdeal.nD Cert.InBLatIdeal.τ).loc Cert.InBLatIdeal.main_arg2)) (m ((c.tc : Thread Cert.InBLatIdeal.nD Cert.InBLatIdeal.τ).loc Cert.InBLatIdeal.main_arg3)) (m ((c.tc : Thread Cert.InBLatIdeal.nD Cert.InBLatIdeal.τ).loc Cert.InBLatIdeal.main_arg4)) (m ((c.tc : Thread Cert.InBLatIdeal.nD Cert.InBLatIdeal.τ).loc Cert.InBLatIdeal.main_arg5))).2.2.2.2.2 = (fun _ => 1#1)

def Pre_InBLatReferenceIdeal (m : (ℓ : Loc Cert.InBLatReferenceIdeal.nD Cert.InBLatReferenceIdeal.τ Cert.InBLatReferenceIdeal.sig) → Buf (Elt Ideal) ℓ) : Prop :=
  True

def Pre_InBLatReferenceIdeal_in_b_finite [hPre_in_b_finite : Cert.Pre_in_b_finite.Facts] (m : (ℓ : Loc Cert.InBLatReferenceIdeal.nD Cert.InBLatReferenceIdeal.τ Cert.InBLatReferenceIdeal.sig) → Buf (Elt Ideal) ℓ) : Prop :=
  ∀ c : Dev Cert.InBLatReferenceIdeal.nD,
    (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).1 = (fun _ => 1#1)
    ∧ (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).2.1 = (fun _ => 1#1)
    ∧ (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).2.2.1 = (fun _ => 1#1)
    ∧ (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).2.2.2.1 = (fun _ => 1#1)
    ∧ (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).2.2.2.2.1 = (fun _ => 1#1)
    ∧ (Cert.Pre_in_b_finite.fn (F := Ideal) (m ((c.tc : Thread Cert.InBLatReferenceIdeal.nD Cert.InBLatReferenceIdeal.τ).loc Cert.InBLatReferenceIdeal.main_arg0)) (m ((c.tc : Thread Cert.InBLatReferenceIdeal.nD Cert.InBLatReferenceIdeal.τ).loc Cert.InBLatReferenceIdeal.main_arg1)) (m ((c.tc : Thread Cert.InBLatReferenceIdeal.nD Cert.InBLatReferenceIdeal.τ).loc Cert.InBLatReferenceIdeal.main_arg2)) (m ((c.tc : Thread Cert.InBLatReferenceIdeal.nD Cert.InBLatReferenceIdeal.τ).loc Cert.InBLatReferenceIdeal.main_arg3)) (m ((c.tc : Thread Cert.InBLatReferenceIdeal.nD Cert.InBLatReferenceIdeal.τ).loc Cert.InBLatReferenceIdeal.main_arg4)) (m ((c.tc : Thread Cert.InBLatReferenceIdeal.nD Cert.InBLatReferenceIdeal.τ).loc Cert.InBLatReferenceIdeal.main_arg5))).2.2.2.2.2 = (fun _ => 1#1)

def Pre_InACtx (m : (ℓ : Loc Cert.InACtx.nD Cert.InACtx.τ Cert.InACtx.sig) → Buf (Elt Bits) ℓ) : Prop :=
  True

def Pre_InACtxIdeal (m : (ℓ : Loc Cert.InACtxIdeal.nD Cert.InACtxIdeal.τ Cert.InACtxIdeal.sig) → Buf (Elt Ideal) ℓ) : Prop :=
  True

def Pre_InACtxReferenceIdeal (m : (ℓ : Loc Cert.InACtxReferenceIdeal.nD Cert.InACtxReferenceIdeal.τ Cert.InACtxReferenceIdeal.sig) → Buf (Elt Ideal) ℓ) : Prop :=
  True

def Pre_InBCtx (m : (ℓ : Loc Cert.InBCtx.nD Cert.InBCtx.τ Cert.InBCtx.sig) → Buf (Elt Bits) ℓ) : Prop :=
  True

def Pre_InBCtxIdeal (m : (ℓ : Loc Cert.InBCtxIdeal.nD Cert.InBCtxIdeal.τ Cert.InBCtxIdeal.sig) → Buf (Elt Ideal) ℓ) : Prop :=
  True

def Pre_InBCtxIdeal_in_b_ctx_finite [hPre_in_b_ctx_finite : Cert.Pre_in_b_ctx_finite.Facts] (m : (ℓ : Loc Cert.InBCtxIdeal.nD Cert.InBCtxIdeal.τ Cert.InBCtxIdeal.sig) → Buf (Elt Ideal) ℓ) : Prop :=
  ∀ c : Dev Cert.InBCtxIdeal.nD,
    (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).1 = (fun _ => 1#1)
    ∧ (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).2.1 = (fun _ => 1#1)
    ∧ (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).2.2.1 = (fun _ => 1#1)
    ∧ (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).2.2.2.1 = (fun _ => 1#1)
    ∧ (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).2.2.2.2.1 = (fun _ => 1#1)
    ∧ (Cert.Pre_in_b_ctx_finite.fn (F := Ideal) (m ((c.tc : Thread Cert.InBCtxIdeal.nD Cert.InBCtxIdeal.τ).loc Cert.InBCtxIdeal.main_arg0)) (m ((c.tc : Thread Cert.InBCtxIdeal.nD Cert.InBCtxIdeal.τ).loc Cert.InBCtxIdeal.main_arg1)) (m ((c.tc : Thread Cert.InBCtxIdeal.nD Cert.InBCtxIdeal.τ).loc Cert.InBCtxIdeal.main_arg2)) (m ((c.tc : Thread Cert.InBCtxIdeal.nD Cert.InBCtxIdeal.τ).loc Cert.InBCtxIdeal.main_arg3)) (m ((c.tc : Thread Cert.InBCtxIdeal.nD Cert.InBCtxIdeal.τ).loc Cert.InBCtxIdeal.main_arg4)) (m ((c.tc : Thread Cert.InBCtxIdeal.nD Cert.InBCtxIdeal.τ).loc Cert.InBCtxIdeal.main_arg5))).2.2.2.2.2 = (fun _ => 1#1)

def Pre_InBCtxReferenceIdeal (m : (ℓ : Loc Cert.InBCtxReferenceIdeal.nD Cert.InBCtxReferenceIdeal.τ Cert.InBCtxReferenceIdeal.sig) → Buf (Elt Ideal) ℓ) : Prop :=
  True

def Pre_InBCtxReferenceIdeal_in_b_ctx_finite [hPre_in_b_ctx_finite : Cert.Pre_in_b_ctx_finite.Facts] (m : (ℓ : Loc Cert.InBCtxReferenceIdeal.nD Cert.InBCtxReferenceIdeal.τ Cert.InBCtxReferenceIdeal.sig) → Buf (Elt Ideal) ℓ) : Prop :=
  ∀ c : Dev Cert.InBCtxReferenceIdeal.nD,
    (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).1 = (fun _ => 1#1)
    ∧ (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).2.1 = (fun _ => 1#1)
    ∧ (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).2.2.1 = (fun _ => 1#1)
    ∧ (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).2.2.2.1 = (fun _ => 1#1)
    ∧ (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).2.2.2.2.1 = (fun _ => 1#1)
    ∧ (Cert.Pre_in_b_ctx_finite.fn (F := Ideal) (m ((c.tc : Thread Cert.InBCtxReferenceIdeal.nD Cert.InBCtxReferenceIdeal.τ).loc Cert.InBCtxReferenceIdeal.main_arg0)) (m ((c.tc : Thread Cert.InBCtxReferenceIdeal.nD Cert.InBCtxReferenceIdeal.τ).loc Cert.InBCtxReferenceIdeal.main_arg1)) (m ((c.tc : Thread Cert.InBCtxReferenceIdeal.nD Cert.InBCtxReferenceIdeal.τ).loc Cert.InBCtxReferenceIdeal.main_arg2)) (m ((c.tc : Thread Cert.InBCtxReferenceIdeal.nD Cert.InBCtxReferenceIdeal.τ).loc Cert.InBCtxReferenceIdeal.main_arg3)) (m ((c.tc : Thread Cert.InBCtxReferenceIdeal.nD Cert.InBCtxReferenceIdeal.τ).loc Cert.InBCtxReferenceIdeal.main_arg4)) (m ((c.tc : Thread Cert.InBCtxReferenceIdeal.nD Cert.InBCtxReferenceIdeal.τ).loc Cert.InBCtxReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MergeLat [hMergeLat : Cert.MergeLat.Facts] : Prop :=
  ∀ (m : (ℓ : Loc Cert.MergeLat.nD Cert.MergeLat.τ Cert.MergeLat.sig) → Buf (Elt Bits) ℓ) (g : Dev Cert.MergeLat.nD → PrngReg), Pre_MergeLat m →
    θ_run (Cert.MergeLat.defs (F := Bits)) (onTc (τ := Cert.MergeLat.τ) (Cert.MergeLat.main (F := Bits))) ⟨m, fun _ => 0, g⟩ (fun r => (∀ c : Dev Cert.MergeLat.nD,
      r.2.mem ((c.tc : Thread Cert.MergeLat.nD Cert.MergeLat.τ).loc Cert.MergeLat.main_arg0) = m ((c.tc : Thread Cert.MergeLat.nD Cert.MergeLat.τ).loc Cert.MergeLat.main_arg0)
      ∧ r.2.mem ((c.tc : Thread Cert.MergeLat.nD Cert.MergeLat.τ).loc Cert.MergeLat.main_arg1) = m ((c.tc : Thread Cert.MergeLat.nD Cert.MergeLat.τ).loc Cert.MergeLat.main_arg1)
      ∧ r.2.mem ((c.tc : Thread Cert.MergeLat.nD Cert.MergeLat.τ).loc Cert.MergeLat.main_arg2) = m ((c.tc : Thread Cert.MergeLat.nD Cert.MergeLat.τ).loc Cert.MergeLat.main_arg2)
      ∧ r.2.mem ((c.tc : Thread Cert.MergeLat.nD Cert.MergeLat.τ).loc Cert.MergeLat.main_arg3) = m ((c.tc : Thread Cert.MergeLat.nD Cert.MergeLat.τ).loc Cert.MergeLat.main_arg3)
      ∧ r.2.mem ((c.tc : Thread Cert.MergeLat.nD Cert.MergeLat.τ).loc Cert.MergeLat.main_arg4) = m ((c.tc : Thread Cert.MergeLat.nD Cert.MergeLat.τ).loc Cert.MergeLat.main_arg4)
      ∧ r.2.mem ((c.tc : Thread Cert.MergeLat.nD Cert.MergeLat.τ).loc Cert.MergeLat.main_arg5) = m ((c.tc : Thread Cert.MergeLat.nD Cert.MergeLat.τ).loc Cert.MergeLat.main_arg5)
      ∧ r.2.mem ((c.tc : Thread Cert.MergeLat.nD Cert.MergeLat.τ).loc Cert.MergeLat.main_arg6) = m ((c.tc : Thread Cert.MergeLat.nD Cert.MergeLat.τ).loc Cert.MergeLat.main_arg6)
      ∧ r.2.mem ((c.tc : Thread Cert.MergeLat.nD Cert.MergeLat.τ).loc Cert.MergeLat.main_arg7) = m ((c.tc : Thread Cert.MergeLat.nD Cert.MergeLat.τ).loc Cert.MergeLat.main_arg7)
      ∧ r.2.mem ((c.tc : Thread Cert.MergeLat.nD Cert.MergeLat.τ).loc Cert.MergeLat.main_arg8) = m ((c.tc : Thread Cert.MergeLat.nD Cert.MergeLat.τ).loc Cert.MergeLat.main_arg8)
      ∧ r.2.mem ((c.tc : Thread Cert.MergeLat.nD Cert.MergeLat.τ).loc Cert.MergeLat.main_arg9) = m ((c.tc : Thread Cert.MergeLat.nD Cert.MergeLat.τ).loc Cert.MergeLat.main_arg9)
      ∧ r.2.mem ((c.tc : Thread Cert.MergeLat.nD Cert.MergeLat.τ).loc Cert.MergeLat.main_arg10) = m ((c.tc : Thread Cert.MergeLat.nD Cert.MergeLat.τ).loc Cert.MergeLat.main_arg10))
      ∧ r.2.sem = fun _ => 0)

def quiescent_MergeLatIdeal [hMergeLatIdeal : Cert.MergeLatIdeal.Facts] : Prop :=
  ∀ (m : (ℓ : Loc Cert.MergeLatIdeal.nD Cert.MergeLatIdeal.τ Cert.MergeLatIdeal.sig) → Buf (Elt Ideal) ℓ) (g : Dev Cert.MergeLatIdeal.nD → PrngReg), Pre_MergeLatIdeal m →
    θ_run (Cert.MergeLatIdeal.defs (F := Ideal)) (onTc (τ := Cert.MergeLatIdeal.τ) (Cert.MergeLatIdeal.main (F := Ideal))) ⟨m, fun _ => 0, g⟩ (fun r => (∀ c : Dev Cert.MergeLatIdeal.nD,
      r.2.mem ((c.tc : Thread Cert.MergeLatIdeal.nD Cert.MergeLatIdeal.τ).loc Cert.MergeLatIdeal.main_arg0) = m ((c.tc : Thread Cert.MergeLatIdeal.nD Cert.MergeLatIdeal.τ).loc Cert.MergeLatIdeal.main_arg0)
      ∧ r.2.mem ((c.tc : Thread Cert.MergeLatIdeal.nD Cert.MergeLatIdeal.τ).loc Cert.MergeLatIdeal.main_arg1) = m ((c.tc : Thread Cert.MergeLatIdeal.nD Cert.MergeLatIdeal.τ).loc Cert.MergeLatIdeal.main_arg1)
      ∧ r.2.mem ((c.tc : Thread Cert.MergeLatIdeal.nD Cert.MergeLatIdeal.τ).loc Cert.MergeLatIdeal.main_arg2) = m ((c.tc : Thread Cert.MergeLatIdeal.nD Cert.MergeLatIdeal.τ).loc Cert.MergeLatIdeal.main_arg2)
      ∧ r.2.mem ((c.tc : Thread Cert.MergeLatIdeal.nD Cert.MergeLatIdeal.τ).loc Cert.MergeLatIdeal.main_arg3) = m ((c.tc : Thread Cert.MergeLatIdeal.nD Cert.MergeLatIdeal.τ).loc Cert.MergeLatIdeal.main_arg3)
      ∧ r.2.mem ((c.tc : Thread Cert.MergeLatIdeal.nD Cert.MergeLatIdeal.τ).loc Cert.MergeLatIdeal.main_arg4) = m ((c.tc : Thread Cert.MergeLatIdeal.nD Cert.MergeLatIdeal.τ).loc Cert.MergeLatIdeal.main_arg4)
      ∧ r.2.mem ((c.tc : Thread Cert.MergeLatIdeal.nD Cert.MergeLatIdeal.τ).loc Cert.MergeLatIdeal.main_arg5) = m ((c.tc : Thread Cert.MergeLatIdeal.nD Cert.MergeLatIdeal.τ).loc Cert.MergeLatIdeal.main_arg5)
      ∧ r.2.mem ((c.tc : Thread Cert.MergeLatIdeal.nD Cert.MergeLatIdeal.τ).loc Cert.MergeLatIdeal.main_arg6) = m ((c.tc : Thread Cert.MergeLatIdeal.nD Cert.MergeLatIdeal.τ).loc Cert.MergeLatIdeal.main_arg6)
      ∧ r.2.mem ((c.tc : Thread Cert.MergeLatIdeal.nD Cert.MergeLatIdeal.τ).loc Cert.MergeLatIdeal.main_arg7) = m ((c.tc : Thread Cert.MergeLatIdeal.nD Cert.MergeLatIdeal.τ).loc Cert.MergeLatIdeal.main_arg7)
      ∧ r.2.mem ((c.tc : Thread Cert.MergeLatIdeal.nD Cert.MergeLatIdeal.τ).loc Cert.MergeLatIdeal.main_arg8) = m ((c.tc : Thread Cert.MergeLatIdeal.nD Cert.MergeLatIdeal.τ).loc Cert.MergeLatIdeal.main_arg8)
      ∧ r.2.mem ((c.tc : Thread Cert.MergeLatIdeal.nD Cert.MergeLatIdeal.τ).loc Cert.MergeLatIdeal.main_arg9) = m ((c.tc : Thread Cert.MergeLatIdeal.nD Cert.MergeLatIdeal.τ).loc Cert.MergeLatIdeal.main_arg9)
      ∧ r.2.mem ((c.tc : Thread Cert.MergeLatIdeal.nD Cert.MergeLatIdeal.τ).loc Cert.MergeLatIdeal.main_arg10) = m ((c.tc : Thread Cert.MergeLatIdeal.nD Cert.MergeLatIdeal.τ).loc Cert.MergeLatIdeal.main_arg10))
      ∧ r.2.sem = fun _ => 0)

def quiescent_MergeLatReferenceIdeal [hMergeLatReferenceIdeal : Cert.MergeLatReferenceIdeal.Facts] : Prop :=
  ∀ (m : (ℓ : Loc Cert.MergeLatReferenceIdeal.nD Cert.MergeLatReferenceIdeal.τ Cert.MergeLatReferenceIdeal.sig) → Buf (Elt Ideal) ℓ) (g : Dev Cert.MergeLatReferenceIdeal.nD → PrngReg), Pre_MergeLatReferenceIdeal m →
    θ_run (Cert.MergeLatReferenceIdeal.defs (F := Ideal)) (onTc (τ := Cert.MergeLatReferenceIdeal.τ) (Cert.MergeLatReferenceIdeal.main (F := Ideal))) ⟨m, fun _ => 0, g⟩ (fun r => (∀ c : Dev Cert.MergeLatReferenceIdeal.nD,
      r.2.mem ((c.tc : Thread Cert.MergeLatReferenceIdeal.nD Cert.MergeLatReferenceIdeal.τ).loc Cert.MergeLatReferenceIdeal.main_arg0) = m ((c.tc : Thread Cert.MergeLatReferenceIdeal.nD Cert.MergeLatReferenceIdeal.τ).loc Cert.MergeLatReferenceIdeal.main_arg0)
      ∧ r.2.mem ((c.tc : Thread Cert.MergeLatReferenceIdeal.nD Cert.MergeLatReferenceIdeal.τ).loc Cert.MergeLatReferenceIdeal.main_arg1) = m ((c.tc : Thread Cert.MergeLatReferenceIdeal.nD Cert.MergeLatReferenceIdeal.τ).loc Cert.MergeLatReferenceIdeal.main_arg1)
      ∧ r.2.mem ((c.tc : Thread Cert.MergeLatReferenceIdeal.nD Cert.MergeLatReferenceIdeal.τ).loc Cert.MergeLatReferenceIdeal.main_arg2) = m ((c.tc : Thread Cert.MergeLatReferenceIdeal.nD Cert.MergeLatReferenceIdeal.τ).loc Cert.MergeLatReferenceIdeal.main_arg2)
      ∧ r.2.mem ((c.tc : Thread Cert.MergeLatReferenceIdeal.nD Cert.MergeLatReferenceIdeal.τ).loc Cert.MergeLatReferenceIdeal.main_arg3) = m ((c.tc : Thread Cert.MergeLatReferenceIdeal.nD Cert.MergeLatReferenceIdeal.τ).loc Cert.MergeLatReferenceIdeal.main_arg3)
      ∧ r.2.mem ((c.tc : Thread Cert.MergeLatReferenceIdeal.nD Cert.MergeLatReferenceIdeal.τ).loc Cert.MergeLatReferenceIdeal.main_arg4) = m ((c.tc : Thread Cert.MergeLatReferenceIdeal.nD Cert.MergeLatReferenceIdeal.τ).loc Cert.MergeLatReferenceIdeal.main_arg4)
      ∧ r.2.mem ((c.tc : Thread Cert.MergeLatReferenceIdeal.nD Cert.MergeLatReferenceIdeal.τ).loc Cert.MergeLatReferenceIdeal.main_arg5) = m ((c.tc : Thread Cert.MergeLatReferenceIdeal.nD Cert.MergeLatReferenceIdeal.τ).loc Cert.MergeLatReferenceIdeal.main_arg5)
      ∧ r.2.mem ((c.tc : Thread Cert.MergeLatReferenceIdeal.nD Cert.MergeLatReferenceIdeal.τ).loc Cert.MergeLatReferenceIdeal.main_arg6) = m ((c.tc : Thread Cert.MergeLatReferenceIdeal.nD Cert.MergeLatReferenceIdeal.τ).loc Cert.MergeLatReferenceIdeal.main_arg6)
      ∧ r.2.mem ((c.tc : Thread Cert.MergeLatReferenceIdeal.nD Cert.MergeLatReferenceIdeal.τ).loc Cert.MergeLatReferenceIdeal.main_arg7) = m ((c.tc : Thread Cert.MergeLatReferenceIdeal.nD Cert.MergeLatReferenceIdeal.τ).loc Cert.MergeLatReferenceIdeal.main_arg7)
      ∧ r.2.mem ((c.tc : Thread Cert.MergeLatReferenceIdeal.nD Cert.MergeLatReferenceIdeal.τ).loc Cert.MergeLatReferenceIdeal.main_arg8) = m ((c.tc : Thread Cert.MergeLatReferenceIdeal.nD Cert.MergeLatReferenceIdeal.τ).loc Cert.MergeLatReferenceIdeal.main_arg8)
      ∧ r.2.mem ((c.tc : Thread Cert.MergeLatReferenceIdeal.nD Cert.MergeLatReferenceIdeal.τ).loc Cert.MergeLatReferenceIdeal.main_arg9) = m ((c.tc : Thread Cert.MergeLatReferenceIdeal.nD Cert.MergeLatReferenceIdeal.τ).loc Cert.MergeLatReferenceIdeal.main_arg9)
      ∧ r.2.mem ((c.tc : Thread Cert.MergeLatReferenceIdeal.nD Cert.MergeLatReferenceIdeal.τ).loc Cert.MergeLatReferenceIdeal.main_arg10) = m ((c.tc : Thread Cert.MergeLatReferenceIdeal.nD Cert.MergeLatReferenceIdeal.τ).loc Cert.MergeLatReferenceIdeal.main_arg10))
      ∧ r.2.sem = fun _ => 0)

def quiescent_FfnLat [hFfnLat : Cert.FfnLat.Facts] : Prop :=
  ∀ (m : (ℓ : Loc Cert.FfnLat.nD Cert.FfnLat.τ Cert.FfnLat.sig) → Buf (Elt Bits) ℓ) (g : Dev Cert.FfnLat.nD → PrngReg), Pre_FfnLat m →
    θ_run (Cert.FfnLat.defs (F := Bits)) (onTc (τ := Cert.FfnLat.τ) (Cert.FfnLat.main (F := Bits))) ⟨m, fun _ => 0, g⟩ (fun r => (∀ c : Dev Cert.FfnLat.nD,
      r.2.mem ((c.tc : Thread Cert.FfnLat.nD Cert.FfnLat.τ).loc Cert.FfnLat.main_arg0) = m ((c.tc : Thread Cert.FfnLat.nD Cert.FfnLat.τ).loc Cert.FfnLat.main_arg0)
      ∧ r.2.mem ((c.tc : Thread Cert.FfnLat.nD Cert.FfnLat.τ).loc Cert.FfnLat.main_arg1) = m ((c.tc : Thread Cert.FfnLat.nD Cert.FfnLat.τ).loc Cert.FfnLat.main_arg1)
      ∧ r.2.mem ((c.tc : Thread Cert.FfnLat.nD Cert.FfnLat.τ).loc Cert.FfnLat.main_arg2) = m ((c.tc : Thread Cert.FfnLat.nD Cert.FfnLat.τ).loc Cert.FfnLat.main_arg2)
      ∧ r.2.mem ((c.tc : Thread Cert.FfnLat.nD Cert.FfnLat.τ).loc Cert.FfnLat.main_arg3) = m ((c.tc : Thread Cert.FfnLat.nD Cert.FfnLat.τ).loc Cert.FfnLat.main_arg3)
      ∧ r.2.mem ((c.tc : Thread Cert.FfnLat.nD Cert.FfnLat.τ).loc Cert.FfnLat.main_arg4) = m ((c.tc : Thread Cert.FfnLat.nD Cert.FfnLat.τ).loc Cert.FfnLat.main_arg4)
      ∧ r.2.mem ((c.tc : Thread Cert.FfnLat.nD Cert.FfnLat.τ).loc Cert.FfnLat.main_arg5) = m ((c.tc : Thread Cert.FfnLat.nD Cert.FfnLat.τ).loc Cert.FfnLat.main_arg5)
      ∧ r.2.mem ((c.tc : Thread Cert.FfnLat.nD Cert.FfnLat.τ).loc Cert.FfnLat.main_arg6) = m ((c.tc : Thread Cert.FfnLat.nD Cert.FfnLat.τ).loc Cert.FfnLat.main_arg6))
      ∧ r.2.sem = fun _ => 0)

def quiescent_FfnLatIdeal [hFfnLatIdeal : Cert.FfnLatIdeal.Facts] : Prop :=
  ∀ (m : (ℓ : Loc Cert.FfnLatIdeal.nD Cert.FfnLatIdeal.τ Cert.FfnLatIdeal.sig) → Buf (Elt Ideal) ℓ) (g : Dev Cert.FfnLatIdeal.nD → PrngReg), Pre_FfnLatIdeal m →
    θ_run (Cert.FfnLatIdeal.defs (F := Ideal)) (onTc (τ := Cert.FfnLatIdeal.τ) (Cert.FfnLatIdeal.main (F := Ideal))) ⟨m, fun _ => 0, g⟩ (fun r => (∀ c : Dev Cert.FfnLatIdeal.nD,
      r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
      ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
      ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
      ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
      ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
      ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
      ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6))
      ∧ r.2.sem = fun _ => 0)

def quiescent_FfnLatIdeal_pre_ffn_finite [hFfnLatIdeal : Cert.FfnLatIdeal.Facts] [hPre_ffn_finite : Cert.Pre_ffn_finite.Facts] : Prop :=
  ∀ (m : (ℓ : Loc Cert.FfnLatIdeal.nD Cert.FfnLatIdeal.τ Cert.FfnLatIdeal.sig) → Buf (Elt Ideal) ℓ) (g : Dev Cert.FfnLatIdeal.nD → PrngReg), Pre_FfnLatIdeal_ffn_finite m →
    θ_run (Cert.FfnLatIdeal.defs (F := Ideal)) (onTc (τ := Cert.FfnLatIdeal.τ) (Cert.FfnLatIdeal.main (F := Ideal))) ⟨m, fun _ => 0, g⟩ (fun r => (∀ c : Dev Cert.FfnLatIdeal.nD,
      r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
      ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
      ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
      ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
      ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
      ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
      ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6))
      ∧ r.2.sem = fun _ => 0)

def quiescent_FfnLatReferenceIdeal [hFfnLatReferenceIdeal : Cert.FfnLatReferenceIdeal.Facts] : Prop :=
  ∀ (m : (ℓ : Loc Cert.FfnLatReferenceIdeal.nD Cert.FfnLatReferenceIdeal.τ Cert.FfnLatReferenceIdeal.sig) → Buf (Elt Ideal) ℓ) (g : Dev Cert.FfnLatReferenceIdeal.nD → PrngReg), Pre_FfnLatReferenceIdeal m →
    θ_run (Cert.FfnLatReferenceIdeal.defs (F := Ideal)) (onTc (τ := Cert.FfnLatReferenceIdeal.τ) (Cert.FfnLatReferenceIdeal.main (F := Ideal))) ⟨m, fun _ => 0, g⟩ (fun r => (∀ c : Dev Cert.FfnLatReferenceIdeal.nD,
      r.2.mem ((c.tc : Thread Cert.FfnLatReferenceIdeal.nD Cert.FfnLatReferenceIdeal.τ).loc Cert.FfnLatReferenceIdeal.main_arg0) = m ((c.tc : Thread Cert.FfnLatReferenceIdeal.nD Cert.FfnLatReferenceIdeal.τ).loc Cert.FfnLatReferenceIdeal.main_arg0)
      ∧ r.2.mem ((c.tc : Thread Cert.FfnLatReferenceIdeal.nD Cert.FfnLatReferenceIdeal.τ).loc Cert.FfnLatReferenceIdeal.main_arg1) = m ((c.tc : Thread Cert.FfnLatReferenceIdeal.nD Cert.FfnLatReferenceIdeal.τ).loc Cert.FfnLatReferenceIdeal.main_arg1)
      ∧ r.2.mem ((c.tc : Thread Cert.FfnLatReferenceIdeal.nD Cert.FfnLatReferenceIdeal.τ).loc Cert.FfnLatReferenceIdeal.main_arg2) = m ((c.tc : Thread Cert.FfnLatReferenceIdeal.nD Cert.FfnLatReferenceIdeal.τ).loc Cert.FfnLatReferenceIdeal.main_arg2)
      ∧ r.2.mem ((c.tc : Thread Cert.FfnLatReferenceIdeal.nD Cert.FfnLatReferenceIdeal.τ).loc Cert.FfnLatReferenceIdeal.main_arg3) = m ((c.tc : Thread Cert.FfnLatReferenceIdeal.nD Cert.FfnLatReferenceIdeal.τ).loc Cert.FfnLatReferenceIdeal.main_arg3)
      ∧ r.2.mem ((c.tc : Thread Cert.FfnLatReferenceIdeal.nD Cert.FfnLatReferenceIdeal.τ).loc Cert.FfnLatReferenceIdeal.main_arg4) = m ((c.tc : Thread Cert.FfnLatReferenceIdeal.nD Cert.FfnLatReferenceIdeal.τ).loc Cert.FfnLatReferenceIdeal.main_arg4)
      ∧ r.2.mem ((c.tc : Thread Cert.FfnLatReferenceIdeal.nD Cert.FfnLatReferenceIdeal.τ).loc Cert.FfnLatReferenceIdeal.main_arg5) = m ((c.tc : Thread Cert.FfnLatReferenceIdeal.nD Cert.FfnLatReferenceIdeal.τ).loc Cert.FfnLatReferenceIdeal.main_arg5)
      ∧ r.2.mem ((c.tc : Thread Cert.FfnLatReferenceIdeal.nD Cert.FfnLatReferenceIdeal.τ).loc Cert.FfnLatReferenceIdeal.main_arg6) = m ((c.tc : Thread Cert.FfnLatReferenceIdeal.nD Cert.FfnLatReferenceIdeal.τ).loc Cert.FfnLatReferenceIdeal.main_arg6))
      ∧ r.2.sem = fun _ => 0)

def quiescent_FfnLatReferenceIdeal_pre_ffn_finite [hFfnLatReferenceIdeal : Cert.FfnLatReferenceIdeal.Facts] [hPre_ffn_finite : Cert.Pre_ffn_finite.Facts] : Prop :=
  ∀ (m : (ℓ : Loc Cert.FfnLatReferenceIdeal.nD Cert.FfnLatReferenceIdeal.τ Cert.FfnLatReferenceIdeal.sig) → Buf (Elt Ideal) ℓ) (g : Dev Cert.FfnLatReferenceIdeal.nD → PrngReg), Pre_FfnLatReferenceIdeal_ffn_finite m →
    θ_run (Cert.FfnLatReferenceIdeal.defs (F := Ideal)) (onTc (τ := Cert.FfnLatReferenceIdeal.τ) (Cert.FfnLatReferenceIdeal.main (F := Ideal))) ⟨m, fun _ => 0, g⟩ (fun r => (∀ c : Dev Cert.FfnLatReferenceIdeal.nD,
      r.2.mem ((c.tc : Thread Cert.FfnLatReferenceIdeal.nD Cert.FfnLatReferenceIdeal.τ).loc Cert.FfnLatReferenceIdeal.main_arg0) = m ((c.tc : Thread Cert.FfnLatReferenceIdeal.nD Cert.FfnLatReferenceIdeal.τ).loc Cert.FfnLatReferenceIdeal.main_arg0)
      ∧ r.2.mem ((c.tc : Thread Cert.FfnLatReferenceIdeal.nD Cert.FfnLatReferenceIdeal.τ).loc Cert.FfnLatReferenceIdeal.main_arg1) = m ((c.tc : Thread Cert.FfnLatReferenceIdeal.nD Cert.FfnLatReferenceIdeal.τ).loc Cert.FfnLatReferenceIdeal.main_arg1)
      ∧ r.2.mem ((c.tc : Thread Cert.FfnLatReferenceIdeal.nD Cert.FfnLatReferenceIdeal.τ).loc Cert.FfnLatReferenceIdeal.main_arg2) = m ((c.tc : Thread Cert.FfnLatReferenceIdeal.nD Cert.FfnLatReferenceIdeal.τ).loc Cert.FfnLatReferenceIdeal.main_arg2)
      ∧ r.2.mem ((c.tc : Thread Cert.FfnLatReferenceIdeal.nD Cert.FfnLatReferenceIdeal.τ).loc Cert.FfnLatReferenceIdeal.main_arg3) = m ((c.tc : Thread Cert.FfnLatReferenceIdeal.nD Cert.FfnLatReferenceIdeal.τ).loc Cert.FfnLatReferenceIdeal.main_arg3)
      ∧ r.2.mem ((c.tc : Thread Cert.FfnLatReferenceIdeal.nD Cert.FfnLatReferenceIdeal.τ).loc Cert.FfnLatReferenceIdeal.main_arg4) = m ((c.tc : Thread Cert.FfnLatReferenceIdeal.nD Cert.FfnLatReferenceIdeal.τ).loc Cert.FfnLatReferenceIdeal.main_arg4)
      ∧ r.2.mem ((c.tc : Thread Cert.FfnLatReferenceIdeal.nD Cert.FfnLatReferenceIdeal.τ).loc Cert.FfnLatReferenceIdeal.main_arg5) = m ((c.tc : Thread Cert.FfnLatReferenceIdeal.nD Cert.FfnLatReferenceIdeal.τ).loc Cert.FfnLatReferenceIdeal.main_arg5)
      ∧ r.2.mem ((c.tc : Thread Cert.FfnLatReferenceIdeal.nD Cert.FfnLatReferenceIdeal.τ).loc Cert.FfnLatReferenceIdeal.main_arg6) = m ((c.tc : Thread Cert.FfnLatReferenceIdeal.nD Cert.FfnLatReferenceIdeal.τ).loc Cert.FfnLatReferenceIdeal.main_arg6))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4)
      ∧ r.2.mem ((c.tc : Thread Cert.MergeCtx.nD Cert.MergeCtx.τ).loc Cert.MergeCtx.main_arg5) = m ((c.tc : Thread Cert.MergeCtx.nD Cert.MergeCtx.τ).loc Cert.MergeCtx.main_arg5)
      ∧ r.2.mem ((c.tc : Thread Cert.MergeCtx.nD Cert.MergeCtx.τ).loc Cert.MergeCtx.main_arg6) = m ((c.tc : Thread Cert.MergeCtx.nD Cert.MergeCtx.τ).loc Cert.MergeCtx.main_arg6)
      ∧ r.2.mem ((c.tc : Thread Cert.MergeCtx.nD Cert.MergeCtx.τ).loc Cert.MergeCtx.main_arg7) = m ((c.tc : Thread Cert.MergeCtx.nD Cert.MergeCtx.τ).loc Cert.MergeCtx.main_arg7)
      ∧ r.2.mem ((c.tc : Thread Cert.MergeCtx.nD Cert.MergeCtx.τ).loc Cert.MergeCtx.main_arg8) = m ((c.tc : Thread Cert.MergeCtx.nD Cert.MergeCtx.τ).loc Cert.MergeCtx.main_arg8)
      ∧ r.2.mem ((c.tc : Thread Cert.MergeCtx.nD Cert.MergeCtx.τ).loc Cert.MergeCtx.main_arg9) = m ((c.tc : Thread Cert.MergeCtx.nD Cert.MergeCtx.τ).loc Cert.MergeCtx.main_arg9)
      ∧ r.2.mem ((c.tc : Thread Cert.MergeCtx.nD Cert.MergeCtx.τ).loc Cert.MergeCtx.main_arg10) = m ((c.tc : Thread Cert.MergeCtx.nD Cert.MergeCtx.τ).loc Cert.MergeCtx.main_arg10))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
      ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
      ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
      ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
      ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
      ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9)
      ∧ r.2.mem ((c.tc : Thread Cert.MergeCtxIdeal.nD Cert.MergeCtxIdeal.τ).loc Cert.MergeCtxIdeal.main_arg10) = m ((c.tc : Thread Cert.MergeCtxIdeal.nD Cert.MergeCtxIdeal.τ).loc Cert.MergeCtxIdeal.main_arg10))
      ∧ r.2.sem = fun _ => 0)

def quiescent_MergeCtxReferenceIdeal [hMergeCtxReferenceIdeal : Cert.MergeCtxReferenceIdeal.Facts] : Prop :=
  ∀ (m : (ℓ : Loc Cert.MergeCtxReferenceIdeal.nD Cert.MergeCtxReferenceIdeal.τ Cert.MergeCtxReferenceIdeal.sig) → Buf (Elt Ideal) ℓ) (g : Dev Cert.MergeCtxReferenceIdeal.nD → PrngReg), Pre_MergeCtxReferenceIdeal m →
    θ_run (Cert.MergeCtxReferenceIdeal.defs (F := Ideal)) (onTc (τ := Cert.MergeCtxReferenceIdeal.τ) (Cert.MergeCtxReferenceIdeal.main (F := Ideal))) ⟨m, fun _ => 0, g⟩ (fun r => (∀ c : Dev Cert.MergeCtxReferenceIdeal.nD,
      r.2.mem ((c.tc : Thread Cert.MergeCtxReferenceIdeal.nD Cert.MergeCtxReferenceIdeal.τ).loc Cert.MergeCtxReferenceIdeal.main_arg0) = m ((c.tc : Thread Cert.MergeCtxReferenceIdeal.nD Cert.MergeCtxReferenceIdeal.τ).loc Cert.MergeCtxReferenceIdeal.main_arg0)
      ∧ r.2.mem ((c.tc : Thread Cert.MergeCtxReferenceIdeal.nD Cert.MergeCtxReferenceIdeal.τ).loc Cert.MergeCtxReferenceIdeal.main_arg1) = m ((c.tc : Thread Cert.MergeCtxReferenceIdeal.nD Cert.MergeCtxReferenceIdeal.τ).loc Cert.MergeCtxReferenceIdeal.main_arg1)
      ∧ r.2.mem ((c.tc : Thread Cert.MergeCtxReferenceIdeal.nD Cert.MergeCtxReferenceIdeal.τ).loc Cert.MergeCtxReferenceIdeal.main_arg2) = m ((c.tc : Thread Cert.MergeCtxReferenceIdeal.nD Cert.MergeCtxReferenceIdeal.τ).loc Cert.MergeCtxReferenceIdeal.main_arg2)
      ∧ r.2.mem ((c.tc : Thread Cert.MergeCtxReferenceIdeal.nD Cert.MergeCtxReferenceIdeal.τ).loc Cert.MergeCtxReferenceIdeal.main_arg3) = m ((c.tc : Thread Cert.MergeCtxReferenceIdeal.nD Cert.MergeCtxReferenceIdeal.τ).loc Cert.MergeCtxReferenceIdeal.main_arg3)
      ∧ r.2.mem ((c.tc : Thread Cert.MergeCtxReferenceIdeal.nD Cert.MergeCtxReferenceIdeal.τ).loc Cert.MergeCtxReferenceIdeal.main_arg4) = m ((c.tc : Thread Cert.MergeCtxReferenceIdeal.nD Cert.MergeCtxReferenceIdeal.τ).loc Cert.MergeCtxReferenceIdeal.main_arg4)
      ∧ r.2.mem ((c.tc : Thread Cert.MergeCtxReferenceIdeal.nD Cert.MergeCtxReferenceIdeal.τ).loc Cert.MergeCtxReferenceIdeal.main_arg5) = m ((c.tc : Thread Cert.MergeCtxReferenceIdeal.nD Cert.MergeCtxReferenceIdeal.τ).loc Cert.MergeCtxReferenceIdeal.main_arg5)
      ∧ r.2.mem ((c.tc : Thread Cert.MergeCtxReferenceIdeal.nD Cert.MergeCtxReferenceIdeal.τ).loc Cert.MergeCtxReferenceIdeal.main_arg6) = m ((c.tc : Thread Cert.MergeCtxReferenceIdeal.nD Cert.MergeCtxReferenceIdeal.τ).loc Cert.MergeCtxReferenceIdeal.main_arg6)
      ∧ r.2.mem ((c.tc : Thread Cert.MergeCtxReferenceIdeal.nD Cert.MergeCtxReferenceIdeal.τ).loc Cert.MergeCtxReferenceIdeal.main_arg7) = m ((c.tc : Thread Cert.MergeCtxReferenceIdeal.nD Cert.MergeCtxReferenceIdeal.τ).loc Cert.MergeCtxReferenceIdeal.main_arg7)
      ∧ r.2.mem ((c.tc : Thread Cert.MergeCtxReferenceIdeal.nD Cert.MergeCtxReferenceIdeal.τ).loc Cert.MergeCtxReferenceIdeal.main_arg8) = m ((c.tc : Thread Cert.MergeCtxReferenceIdeal.nD Cert.MergeCtxReferenceIdeal.τ).loc Cert.MergeCtxReferenceIdeal.main_arg8)
      ∧ r.2.mem ((c.tc : Thread Cert.MergeCtxReferenceIdeal.nD Cert.MergeCtxReferenceIdeal.τ).loc Cert.MergeCtxReferenceIdeal.main_arg9) = m ((c.tc : Thread Cert.MergeCtxReferenceIdeal.nD Cert.MergeCtxReferenceIdeal.τ).loc Cert.MergeCtxReferenceIdeal.main_arg9)
      ∧ r.2.mem ((c.tc : Thread Cert.MergeCtxReferenceIdeal.nD Cert.MergeCtxReferenceIdeal.τ).loc Cert.MergeCtxReferenceIdeal.main_arg10) = m ((c.tc : Thread Cert.MergeCtxReferenceIdeal.nD Cert.MergeCtxReferenceIdeal.τ).loc Cert.MergeCtxReferenceIdeal.main_arg10))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ r.2.sem = fun _ => 0)

def quiescent_FfnCtxIdeal_pre_ffn_ctx_finite [hFfnCtxIdeal : Cert.FfnCtxIdeal.Facts] [hPre_ffn_ctx_finite : Cert.Pre_ffn_ctx_finite.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal_ffn_ctx_finite m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ r.2.sem = fun _ => 0)

def quiescent_FfnCtxReferenceIdeal [hFfnCtxReferenceIdeal : Cert.FfnCtxReferenceIdeal.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4)
      ∧ r.2.mem ((c.tc : Thread Cert.FfnCtxReferenceIdeal.nD Cert.FfnCtxReferenceIdeal.τ).loc Cert.FfnCtxReferenceIdeal.main_arg5) = m ((c.tc : Thread Cert.FfnCtxReferenceIdeal.nD Cert.FfnCtxReferenceIdeal.τ).loc Cert.FfnCtxReferenceIdeal.main_arg5)
      ∧ r.2.mem ((c.tc : Thread Cert.FfnCtxReferenceIdeal.nD Cert.FfnCtxReferenceIdeal.τ).loc Cert.FfnCtxReferenceIdeal.main_arg6) = m ((c.tc : Thread Cert.FfnCtxReferenceIdeal.nD Cert.FfnCtxReferenceIdeal.τ).loc Cert.FfnCtxReferenceIdeal.main_arg6))
      ∧ r.2.sem = fun _ => 0)

def quiescent_FfnCtxReferenceIdeal_pre_ffn_ctx_finite [hFfnCtxReferenceIdeal : Cert.FfnCtxReferenceIdeal.Facts] [hPre_ffn_ctx_finite : Cert.Pre_ffn_ctx_finite.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal_ffn_ctx_finite m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4)
      ∧ r.2.mem ((c.tc : Thread Cert.FfnCtxReferenceIdeal.nD Cert.FfnCtxReferenceIdeal.τ).loc Cert.FfnCtxReferenceIdeal.main_arg5) = m ((c.tc : Thread Cert.FfnCtxReferenceIdeal.nD Cert.FfnCtxReferenceIdeal.τ).loc Cert.FfnCtxReferenceIdeal.main_arg5)
      ∧ r.2.mem ((c.tc : Thread Cert.FfnCtxReferenceIdeal.nD Cert.FfnCtxReferenceIdeal.τ).loc Cert.FfnCtxReferenceIdeal.main_arg6) = m ((c.tc : Thread Cert.FfnCtxReferenceIdeal.nD Cert.FfnCtxReferenceIdeal.τ).loc Cert.FfnCtxReferenceIdeal.main_arg6))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0)
      ∧ r.2.mem ((c.tc : Thread Cert.CtxAttn.nD Cert.CtxAttn.τ).loc Cert.CtxAttn.main_arg1) = m ((c.tc : Thread Cert.CtxAttn.nD Cert.CtxAttn.τ).loc Cert.CtxAttn.main_arg1)
      ∧ r.2.mem ((c.tc : Thread Cert.CtxAttn.nD Cert.CtxAttn.τ).loc Cert.CtxAttn.main_arg2) = m ((c.tc : Thread Cert.CtxAttn.nD Cert.CtxAttn.τ).loc Cert.CtxAttn.main_arg2)
      ∧ r.2.mem ((c.tc : Thread Cert.CtxAttn.nD Cert.CtxAttn.τ).loc Cert.CtxAttn.main_arg3) = m ((c.tc : Thread Cert.CtxAttn.nD Cert.CtxAttn.τ).loc Cert.CtxAttn.main_arg3))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ r.2.sem = fun _ => 0)

def quiescent_CtxAttnIdeal_pre_ctx_scores_finite [hCtxAttnIdeal : Cert.CtxAttnIdeal.Facts] [hPre_ctx_scores_finite : Cert.Pre_ctx_scores_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_ctx_scores_finite m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
      ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
      ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
      ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ r.2.sem = fun _ => 0)

def quiescent_CtxAttnReferenceIdeal [hCtxAttnReferenceIdeal : Cert.CtxAttnReferenceIdeal.Facts] : Prop :=
  ∀ (m : (ℓ : Loc Cert.CtxAttnReferenceIdeal.nD Cert.CtxAttnReferenceIdeal.τ Cert.CtxAttnReferenceIdeal.sig) → Buf (Elt Ideal) ℓ) (g : Dev Cert.CtxAttnReferenceIdeal.nD → PrngReg), Pre_CtxAttnReferenceIdeal m →
    θ_run (Cert.CtxAttnReferenceIdeal.defs (F := Ideal)) (onTc (τ := Cert.CtxAttnReferenceIdeal.τ) (Cert.CtxAttnReferenceIdeal.main (F := Ideal))) ⟨m, fun _ => 0, g⟩ (fun r => (∀ c : Dev Cert.CtxAttnReferenceIdeal.nD,
      r.2.mem ((c.tc : Thread Cert.CtxAttnReferenceIdeal.nD Cert.CtxAttnReferenceIdeal.τ).loc Cert.CtxAttnReferenceIdeal.main_arg0) = m ((c.tc : Thread Cert.CtxAttnReferenceIdeal.nD Cert.CtxAttnReferenceIdeal.τ).loc Cert.CtxAttnReferenceIdeal.main_arg0)
      ∧ r.2.mem ((c.tc : Thread Cert.CtxAttnReferenceIdeal.nD Cert.CtxAttnReferenceIdeal.τ).loc Cert.CtxAttnReferenceIdeal.main_arg1) = m ((c.tc : Thread Cert.CtxAttnReferenceIdeal.nD Cert.CtxAttnReferenceIdeal.τ).loc Cert.CtxAttnReferenceIdeal.main_arg1)
      ∧ r.2.mem ((c.tc : Thread Cert.CtxAttnReferenceIdeal.nD Cert.CtxAttnReferenceIdeal.τ).loc Cert.CtxAttnReferenceIdeal.main_arg2) = m ((c.tc : Thread Cert.CtxAttnReferenceIdeal.nD Cert.CtxAttnReferenceIdeal.τ).loc Cert.CtxAttnReferenceIdeal.main_arg2)
      ∧ r.2.mem ((c.tc : Thread Cert.CtxAttnReferenceIdeal.nD Cert.CtxAttnReferenceIdeal.τ).loc Cert.CtxAttnReferenceIdeal.main_arg3) = m ((c.tc : Thread Cert.CtxAttnReferenceIdeal.nD Cert.CtxAttnReferenceIdeal.τ).loc Cert.CtxAttnReferenceIdeal.main_arg3))
      ∧ r.2.sem = fun _ => 0)

def quiescent_CtxAttnReferenceIdeal_pre_ctx_scores_finite [hCtxAttnReferenceIdeal : Cert.CtxAttnReferenceIdeal.Facts] [hPre_ctx_scores_finite : Cert.Pre_ctx_scores_finite.Facts] : Prop :=
  ∀ (m : (ℓ : Loc Cert.CtxAttnReferenceIdeal.nD Cert.CtxAttnReferenceIdeal.τ Cert.CtxAttnReferenceIdeal.sig) → Buf (Elt Ideal) ℓ) (g : Dev Cert.CtxAttnReferenceIdeal.nD → PrngReg), Pre_CtxAttnReferenceIdeal_ctx_scores_finite m →
    θ_run (Cert.CtxAttnReferenceIdeal.defs (F := Ideal)) (onTc (τ := Cert.CtxAttnReferenceIdeal.τ) (Cert.CtxAttnReferenceIdeal.main (F := Ideal))) ⟨m, fun _ => 0, g⟩ (fun r => (∀ c : Dev Cert.CtxAttnReferenceIdeal.nD,
      r.2.mem ((c.tc : Thread Cert.CtxAttnReferenceIdeal.nD Cert.CtxAttnReferenceIdeal.τ).loc Cert.CtxAttnReferenceIdeal.main_arg0) = m ((c.tc : Thread Cert.CtxAttnReferenceIdeal.nD Cert.CtxAttnReferenceIdeal.τ).loc Cert.CtxAttnReferenceIdeal.main_arg0)
      ∧ r.2.mem ((c.tc : Thread Cert.CtxAttnReferenceIdeal.nD Cert.CtxAttnReferenceIdeal.τ).loc Cert.CtxAttnReferenceIdeal.main_arg1) = m ((c.tc : Thread Cert.CtxAttnReferenceIdeal.nD Cert.CtxAttnReferenceIdeal.τ).loc Cert.CtxAttnReferenceIdeal.main_arg1)
      ∧ r.2.mem ((c.tc : Thread Cert.CtxAttnReferenceIdeal.nD Cert.CtxAttnReferenceIdeal.τ).loc Cert.CtxAttnReferenceIdeal.main_arg2) = m ((c.tc : Thread Cert.CtxAttnReferenceIdeal.nD Cert.CtxAttnReferenceIdeal.τ).loc Cert.CtxAttnReferenceIdeal.main_arg2)
      ∧ r.2.mem ((c.tc : Thread Cert.CtxAttnReferenceIdeal.nD Cert.CtxAttnReferenceIdeal.τ).loc Cert.CtxAttnReferenceIdeal.main_arg3) = m ((c.tc : Thread Cert.CtxAttnReferenceIdeal.nD Cert.CtxAttnReferenceIdeal.τ).loc Cert.CtxAttnReferenceIdeal.main_arg3))
      ∧ r.2.sem = fun _ => 0)

def quiescent_InALat [hInALat : Cert.InALat.Facts] : Prop :=
  ∀ (m : (ℓ : Loc Cert.InALat.nD Cert.InALat.τ Cert.InALat.sig) → Buf (Elt Bits) ℓ) (g : Dev Cert.InALat.nD → PrngReg), Pre_InALat m →
    θ_run (Cert.InALat.defs (F := Bits)) (onTc (τ := Cert.InALat.τ) (Cert.InALat.main (F := Bits))) ⟨m, fun _ => 0, g⟩ (fun r => (∀ c : Dev Cert.InALat.nD,
      r.2.mem ((c.tc : Thread Cert.InALat.nD Cert.InALat.τ).loc Cert.InALat.main_arg0) = m ((c.tc : Thread Cert.InALat.nD Cert.InALat.τ).loc Cert.InALat.main_arg0)
      ∧ r.2.mem ((c.tc : Thread Cert.InALat.nD Cert.InALat.τ).loc Cert.InALat.main_arg1) = m ((c.tc : Thread Cert.InALat.nD Cert.InALat.τ).loc Cert.InALat.main_arg1)
      ∧ r.2.mem ((c.tc : Thread Cert.InALat.nD Cert.InALat.τ).loc Cert.InALat.main_arg2) = m ((c.tc : Thread Cert.InALat.nD Cert.InALat.τ).loc Cert.InALat.main_arg2)
      ∧ r.2.mem ((c.tc : Thread Cert.InALat.nD Cert.InALat.τ).loc Cert.InALat.main_arg3) = m ((c.tc : Thread Cert.InALat.nD Cert.InALat.τ).loc Cert.InALat.main_arg3)
      ∧ r.2.mem ((c.tc : Thread Cert.InALat.nD Cert.InALat.τ).loc Cert.InALat.main_arg4) = m ((c.tc : Thread Cert.InALat.nD Cert.InALat.τ).loc Cert.InALat.main_arg4)
      ∧ r.2.mem ((c.tc : Thread Cert.InALat.nD Cert.InALat.τ).loc Cert.InALat.main_arg5) = m ((c.tc : Thread Cert.InALat.nD Cert.InALat.τ).loc Cert.InALat.main_arg5))
      ∧ r.2.sem = fun _ => 0)

def quiescent_InALatIdeal [hInALatIdeal : Cert.InALatIdeal.Facts] : Prop :=
  ∀ (m : (ℓ : Loc Cert.InALatIdeal.nD Cert.InALatIdeal.τ Cert.InALatIdeal.sig) → Buf (Elt Ideal) ℓ) (g : Dev Cert.InALatIdeal.nD → PrngReg), Pre_InALatIdeal m →
    θ_run (Cert.InALatIdeal.defs (F := Ideal)) (onTc (τ := Cert.InALatIdeal.τ) (Cert.InALatIdeal.main (F := Ideal))) ⟨m, fun _ => 0, g⟩ (fun r => (∀ c : Dev Cert.InALatIdeal.nD,
      r.2.mem ((c.tc : Thread Cert.InALatIdeal.nD Cert.InALatIdeal.τ).loc Cert.InALatIdeal.main_arg0) = m ((c.tc : Thread Cert.InALatIdeal.nD Cert.InALatIdeal.τ).loc Cert.InALatIdeal.main_arg0)
      ∧ r.2.mem ((c.tc : Thread Cert.InALatIdeal.nD Cert.InALatIdeal.τ).loc Cert.InALatIdeal.main_arg1) = m ((c.tc : Thread Cert.InALatIdeal.nD Cert.InALatIdeal.τ).loc Cert.InALatIdeal.main_arg1)
      ∧ r.2.mem ((c.tc : Thread Cert.InALatIdeal.nD Cert.InALatIdeal.τ).loc Cert.InALatIdeal.main_arg2) = m ((c.tc : Thread Cert.InALatIdeal.nD Cert.InALatIdeal.τ).loc Cert.InALatIdeal.main_arg2)
      ∧ r.2.mem ((c.tc : Thread Cert.InALatIdeal.nD Cert.InALatIdeal.τ).loc Cert.InALatIdeal.main_arg3) = m ((c.tc : Thread Cert.InALatIdeal.nD Cert.InALatIdeal.τ).loc Cert.InALatIdeal.main_arg3)
      ∧ r.2.mem ((c.tc : Thread Cert.InALatIdeal.nD Cert.InALatIdeal.τ).loc Cert.InALatIdeal.main_arg4) = m ((c.tc : Thread Cert.InALatIdeal.nD Cert.InALatIdeal.τ).loc Cert.InALatIdeal.main_arg4)
      ∧ r.2.mem ((c.tc : Thread Cert.InALatIdeal.nD Cert.InALatIdeal.τ).loc Cert.InALatIdeal.main_arg5) = m ((c.tc : Thread Cert.InALatIdeal.nD Cert.InALatIdeal.τ).loc Cert.InALatIdeal.main_arg5))
      ∧ r.2.sem = fun _ => 0)

def quiescent_InALatReferenceIdeal [hInALatReferenceIdeal : Cert.InALatReferenceIdeal.Facts] : Prop :=
  ∀ (m : (ℓ : Loc Cert.InALatReferenceIdeal.nD Cert.InALatReferenceIdeal.τ Cert.InALatReferenceIdeal.sig) → Buf (Elt Ideal) ℓ) (g : Dev Cert.InALatReferenceIdeal.nD → PrngReg), Pre_InALatReferenceIdeal m →
    θ_run (Cert.InALatReferenceIdeal.defs (F := Ideal)) (onTc (τ := Cert.InALatReferenceIdeal.τ) (Cert.InALatReferenceIdeal.main (F := Ideal))) ⟨m, fun _ => 0, g⟩ (fun r => (∀ c : Dev Cert.InALatReferenceIdeal.nD,
      r.2.mem ((c.tc : Thread Cert.InALatReferenceIdeal.nD Cert.InALatReferenceIdeal.τ).loc Cert.InALatReferenceIdeal.main_arg0) = m ((c.tc : Thread Cert.InALatReferenceIdeal.nD Cert.InALatReferenceIdeal.τ).loc Cert.InALatReferenceIdeal.main_arg0)
      ∧ r.2.mem ((c.tc : Thread Cert.InALatReferenceIdeal.nD Cert.InALatReferenceIdeal.τ).loc Cert.InALatReferenceIdeal.main_arg1) = m ((c.tc : Thread Cert.InALatReferenceIdeal.nD Cert.InALatReferenceIdeal.τ).loc Cert.InALatReferenceIdeal.main_arg1)
      ∧ r.2.mem ((c.tc : Thread Cert.InALatReferenceIdeal.nD Cert.InALatReferenceIdeal.τ).loc Cert.InALatReferenceIdeal.main_arg2) = m ((c.tc : Thread Cert.InALatReferenceIdeal.nD Cert.InALatReferenceIdeal.τ).loc Cert.InALatReferenceIdeal.main_arg2)
      ∧ r.2.mem ((c.tc : Thread Cert.InALatReferenceIdeal.nD Cert.InALatReferenceIdeal.τ).loc Cert.InALatReferenceIdeal.main_arg3) = m ((c.tc : Thread Cert.InALatReferenceIdeal.nD Cert.InALatReferenceIdeal.τ).loc Cert.InALatReferenceIdeal.main_arg3)
      ∧ r.2.mem ((c.tc : Thread Cert.InALatReferenceIdeal.nD Cert.InALatReferenceIdeal.τ).loc Cert.InALatReferenceIdeal.main_arg4) = m ((c.tc : Thread Cert.InALatReferenceIdeal.nD Cert.InALatReferenceIdeal.τ).loc Cert.InALatReferenceIdeal.main_arg4)
      ∧ r.2.mem ((c.tc : Thread Cert.InALatReferenceIdeal.nD Cert.InALatReferenceIdeal.τ).loc Cert.InALatReferenceIdeal.main_arg5) = m ((c.tc : Thread Cert.InALatReferenceIdeal.nD Cert.InALatReferenceIdeal.τ).loc Cert.InALatReferenceIdeal.main_arg5))
      ∧ r.2.sem = fun _ => 0)

def quiescent_InBLat [hInBLat : Cert.InBLat.Facts] : Prop :=
  ∀ (m : (ℓ : Loc Cert.InBLat.nD Cert.InBLat.τ Cert.InBLat.sig) → Buf (Elt Bits) ℓ) (g : Dev Cert.InBLat.nD → PrngReg), Pre_InBLat m →
    θ_run (Cert.InBLat.defs (F := Bits)) (onTc (τ := Cert.InBLat.τ) (Cert.InBLat.main (F := Bits))) ⟨m, fun _ => 0, g⟩ (fun r => (∀ c : Dev Cert.InBLat.nD,
      r.2.mem ((c.tc : Thread Cert.InBLat.nD Cert.InBLat.τ).loc Cert.InBLat.main_arg0) = m ((c.tc : Thread Cert.InBLat.nD Cert.InBLat.τ).loc Cert.InBLat.main_arg0)
      ∧ r.2.mem ((c.tc : Thread Cert.InBLat.nD Cert.InBLat.τ).loc Cert.InBLat.main_arg1) = m ((c.tc : Thread Cert.InBLat.nD Cert.InBLat.τ).loc Cert.InBLat.main_arg1)
      ∧ r.2.mem ((c.tc : Thread Cert.InBLat.nD Cert.InBLat.τ).loc Cert.InBLat.main_arg2) = m ((c.tc : Thread Cert.InBLat.nD Cert.InBLat.τ).loc Cert.InBLat.main_arg2)
      ∧ r.2.mem ((c.tc : Thread Cert.InBLat.nD Cert.InBLat.τ).loc Cert.InBLat.main_arg3) = m ((c.tc : Thread Cert.InBLat.nD Cert.InBLat.τ).loc Cert.InBLat.main_arg3)
      ∧ r.2.mem ((c.tc : Thread Cert.InBLat.nD Cert.InBLat.τ).loc Cert.InBLat.main_arg4) = m ((c.tc : Thread Cert.InBLat.nD Cert.InBLat.τ).loc Cert.InBLat.main_arg4)
      ∧ r.2.mem ((c.tc : Thread Cert.InBLat.nD Cert.InBLat.τ).loc Cert.InBLat.main_arg5) = m ((c.tc : Thread Cert.InBLat.nD Cert.InBLat.τ).loc Cert.InBLat.main_arg5))
      ∧ r.2.sem = fun _ => 0)

def quiescent_InBLatIdeal [hInBLatIdeal : Cert.InBLatIdeal.Facts] : Prop :=
  ∀ (m : (ℓ : Loc Cert.InBLatIdeal.nD Cert.InBLatIdeal.τ Cert.InBLatIdeal.sig) → Buf (Elt Ideal) ℓ) (g : Dev Cert.InBLatIdeal.nD → PrngReg), Pre_InBLatIdeal m →
    θ_run (Cert.InBLatIdeal.defs (F := Ideal)) (onTc (τ := Cert.InBLatIdeal.τ) (Cert.InBLatIdeal.main (F := Ideal))) ⟨m, fun _ => 0, g⟩ (fun r => (∀ c : Dev Cert.InBLatIdeal.nD,
      r.2.mem ((c.tc : Thread Cert.InBLatIdeal.nD Cert.InBLatIdeal.τ).loc Cert.InBLatIdeal.main_arg0) = m ((c.tc : Thread Cert.InBLatIdeal.nD Cert.InBLatIdeal.τ).loc Cert.InBLatIdeal.main_arg0)
      ∧ r.2.mem ((c.tc : Thread Cert.InBLatIdeal.nD Cert.InBLatIdeal.τ).loc Cert.InBLatIdeal.main_arg1) = m ((c.tc : Thread Cert.InBLatIdeal.nD Cert.InBLatIdeal.τ).loc Cert.InBLatIdeal.main_arg1)
      ∧ r.2.mem ((c.tc : Thread Cert.InBLatIdeal.nD Cert.InBLatIdeal.τ).loc Cert.InBLatIdeal.main_arg2) = m ((c.tc : Thread Cert.InBLatIdeal.nD Cert.InBLatIdeal.τ).loc Cert.InBLatIdeal.main_arg2)
      ∧ r.2.mem ((c.tc : Thread Cert.InBLatIdeal.nD Cert.InBLatIdeal.τ).loc Cert.InBLatIdeal.main_arg3) = m ((c.tc : Thread Cert.InBLatIdeal.nD Cert.InBLatIdeal.τ).loc Cert.InBLatIdeal.main_arg3)
      ∧ r.2.mem ((c.tc : Thread Cert.InBLatIdeal.nD Cert.InBLatIdeal.τ).loc Cert.InBLatIdeal.main_arg4) = m ((c.tc : Thread Cert.InBLatIdeal.nD Cert.InBLatIdeal.τ).loc Cert.InBLatIdeal.main_arg4)
      ∧ r.2.mem ((c.tc : Thread Cert.InBLatIdeal.nD Cert.InBLatIdeal.τ).loc Cert.InBLatIdeal.main_arg5) = m ((c.tc : Thread Cert.InBLatIdeal.nD Cert.InBLatIdeal.τ).loc Cert.InBLatIdeal.main_arg5))
      ∧ r.2.sem = fun _ => 0)

def quiescent_InBLatIdeal_pre_in_b_finite [hInBLatIdeal : Cert.InBLatIdeal.Facts] [hPre_in_b_finite : Cert.Pre_in_b_finite.Facts] : Prop :=
  ∀ (m : (ℓ : Loc Cert.InBLatIdeal.nD Cert.InBLatIdeal.τ Cert.InBLatIdeal.sig) → Buf (Elt Ideal) ℓ) (g : Dev Cert.InBLatIdeal.nD → PrngReg), Pre_InBLatIdeal_in_b_finite m →
    θ_run (Cert.InBLatIdeal.defs (F := Ideal)) (onTc (τ := Cert.InBLatIdeal.τ) (Cert.InBLatIdeal.main (F := Ideal))) ⟨m, fun _ => 0, g⟩ (fun r => (∀ c : Dev Cert.InBLatIdeal.nD,
      r.2.mem ((c.tc : Thread Cert.InBLatIdeal.nD Cert.InBLatIdeal.τ).loc Cert.InBLatIdeal.main_arg0) = m ((c.tc : Thread Cert.InBLatIdeal.nD Cert.InBLatIdeal.τ).loc Cert.InBLatIdeal.main_arg0)
      ∧ r.2.mem ((c.tc : Thread Cert.InBLatIdeal.nD Cert.InBLatIdeal.τ).loc Cert.InBLatIdeal.main_arg1) = m ((c.tc : Thread Cert.InBLatIdeal.nD Cert.InBLatIdeal.τ).loc Cert.InBLatIdeal.main_arg1)
      ∧ r.2.mem ((c.tc : Thread Cert.InBLatIdeal.nD Cert.InBLatIdeal.τ).loc Cert.InBLatIdeal.main_arg2) = m ((c.tc : Thread Cert.InBLatIdeal.nD Cert.InBLatIdeal.τ).loc Cert.InBLatIdeal.main_arg2)
      ∧ r.2.mem ((c.tc : Thread Cert.InBLatIdeal.nD Cert.InBLatIdeal.τ).loc Cert.InBLatIdeal.main_arg3) = m ((c.tc : Thread Cert.InBLatIdeal.nD Cert.InBLatIdeal.τ).loc Cert.InBLatIdeal.main_arg3)
      ∧ r.2.mem ((c.tc : Thread Cert.InBLatIdeal.nD Cert.InBLatIdeal.τ).loc Cert.InBLatIdeal.main_arg4) = m ((c.tc : Thread Cert.InBLatIdeal.nD Cert.InBLatIdeal.τ).loc Cert.InBLatIdeal.main_arg4)
      ∧ r.2.mem ((c.tc : Thread Cert.InBLatIdeal.nD Cert.InBLatIdeal.τ).loc Cert.InBLatIdeal.main_arg5) = m ((c.tc : Thread Cert.InBLatIdeal.nD Cert.InBLatIdeal.τ).loc Cert.InBLatIdeal.main_arg5))
      ∧ r.2.sem = fun _ => 0)

def quiescent_InBLatReferenceIdeal [hInBLatReferenceIdeal : Cert.InBLatReferenceIdeal.Facts] : Prop :=
  ∀ (m : (ℓ : Loc Cert.InBLatReferenceIdeal.nD Cert.InBLatReferenceIdeal.τ Cert.InBLatReferenceIdeal.sig) → Buf (Elt Ideal) ℓ) (g : Dev Cert.InBLatReferenceIdeal.nD → PrngReg), Pre_InBLatReferenceIdeal m →
    θ_run (Cert.InBLatReferenceIdeal.defs (F := Ideal)) (onTc (τ := Cert.InBLatReferenceIdeal.τ) (Cert.InBLatReferenceIdeal.main (F := Ideal))) ⟨m, fun _ => 0, g⟩ (fun r => (∀ c : Dev Cert.InBLatReferenceIdeal.nD,
      r.2.mem ((c.tc : Thread Cert.InBLatReferenceIdeal.nD Cert.InBLatReferenceIdeal.τ).loc Cert.InBLatReferenceIdeal.main_arg0) = m ((c.tc : Thread Cert.InBLatReferenceIdeal.nD Cert.InBLatReferenceIdeal.τ).loc Cert.InBLatReferenceIdeal.main_arg0)
      ∧ r.2.mem ((c.tc : Thread Cert.InBLatReferenceIdeal.nD Cert.InBLatReferenceIdeal.τ).loc Cert.InBLatReferenceIdeal.main_arg1) = m ((c.tc : Thread Cert.InBLatReferenceIdeal.nD Cert.InBLatReferenceIdeal.τ).loc Cert.InBLatReferenceIdeal.main_arg1)
      ∧ r.2.mem ((c.tc : Thread Cert.InBLatReferenceIdeal.nD Cert.InBLatReferenceIdeal.τ).loc Cert.InBLatReferenceIdeal.main_arg2) = m ((c.tc : Thread Cert.InBLatReferenceIdeal.nD Cert.InBLatReferenceIdeal.τ).loc Cert.InBLatReferenceIdeal.main_arg2)
      ∧ r.2.mem ((c.tc : Thread Cert.InBLatReferenceIdeal.nD Cert.InBLatReferenceIdeal.τ).loc Cert.InBLatReferenceIdeal.main_arg3) = m ((c.tc : Thread Cert.InBLatReferenceIdeal.nD Cert.InBLatReferenceIdeal.τ).loc Cert.InBLatReferenceIdeal.main_arg3)
      ∧ r.2.mem ((c.tc : Thread Cert.InBLatReferenceIdeal.nD Cert.InBLatReferenceIdeal.τ).loc Cert.InBLatReferenceIdeal.main_arg4) = m ((c.tc : Thread Cert.InBLatReferenceIdeal.nD Cert.InBLatReferenceIdeal.τ).loc Cert.InBLatReferenceIdeal.main_arg4)
      ∧ r.2.mem ((c.tc : Thread Cert.InBLatReferenceIdeal.nD Cert.InBLatReferenceIdeal.τ).loc Cert.InBLatReferenceIdeal.main_arg5) = m ((c.tc : Thread Cert.InBLatReferenceIdeal.nD Cert.InBLatReferenceIdeal.τ).loc Cert.InBLatReferenceIdeal.main_arg5))
      ∧ r.2.sem = fun _ => 0)

def quiescent_InBLatReferenceIdeal_pre_in_b_finite [hInBLatReferenceIdeal : Cert.InBLatReferenceIdeal.Facts] [hPre_in_b_finite : Cert.Pre_in_b_finite.Facts] : Prop :=
  ∀ (m : (ℓ : Loc Cert.InBLatReferenceIdeal.nD Cert.InBLatReferenceIdeal.τ Cert.InBLatReferenceIdeal.sig) → Buf (Elt Ideal) ℓ) (g : Dev Cert.InBLatReferenceIdeal.nD → PrngReg), Pre_InBLatReferenceIdeal_in_b_finite m →
    θ_run (Cert.InBLatReferenceIdeal.defs (F := Ideal)) (onTc (τ := Cert.InBLatReferenceIdeal.τ) (Cert.InBLatReferenceIdeal.main (F := Ideal))) ⟨m, fun _ => 0, g⟩ (fun r => (∀ c : Dev Cert.InBLatReferenceIdeal.nD,
      r.2.mem ((c.tc : Thread Cert.InBLatReferenceIdeal.nD Cert.InBLatReferenceIdeal.τ).loc Cert.InBLatReferenceIdeal.main_arg0) = m ((c.tc : Thread Cert.InBLatReferenceIdeal.nD Cert.InBLatReferenceIdeal.τ).loc Cert.InBLatReferenceIdeal.main_arg0)
      ∧ r.2.mem ((c.tc : Thread Cert.InBLatReferenceIdeal.nD Cert.InBLatReferenceIdeal.τ).loc Cert.InBLatReferenceIdeal.main_arg1) = m ((c.tc : Thread Cert.InBLatReferenceIdeal.nD Cert.InBLatReferenceIdeal.τ).loc Cert.InBLatReferenceIdeal.main_arg1)
      ∧ r.2.mem ((c.tc : Thread Cert.InBLatReferenceIdeal.nD Cert.InBLatReferenceIdeal.τ).loc Cert.InBLatReferenceIdeal.main_arg2) = m ((c.tc : Thread Cert.InBLatReferenceIdeal.nD Cert.InBLatReferenceIdeal.τ).loc Cert.InBLatReferenceIdeal.main_arg2)
      ∧ r.2.mem ((c.tc : Thread Cert.InBLatReferenceIdeal.nD Cert.InBLatReferenceIdeal.τ).loc Cert.InBLatReferenceIdeal.main_arg3) = m ((c.tc : Thread Cert.InBLatReferenceIdeal.nD Cert.InBLatReferenceIdeal.τ).loc Cert.InBLatReferenceIdeal.main_arg3)
      ∧ r.2.mem ((c.tc : Thread Cert.InBLatReferenceIdeal.nD Cert.InBLatReferenceIdeal.τ).loc Cert.InBLatReferenceIdeal.main_arg4) = m ((c.tc : Thread Cert.InBLatReferenceIdeal.nD Cert.InBLatReferenceIdeal.τ).loc Cert.InBLatReferenceIdeal.main_arg4)
      ∧ r.2.mem ((c.tc : Thread Cert.InBLatReferenceIdeal.nD Cert.InBLatReferenceIdeal.τ).loc Cert.InBLatReferenceIdeal.main_arg5) = m ((c.tc : Thread Cert.InBLatReferenceIdeal.nD Cert.InBLatReferenceIdeal.τ).loc Cert.InBLatReferenceIdeal.main_arg5))
      ∧ r.2.sem = fun _ => 0)

def quiescent_InACtx [hInACtx : Cert.InACtx.Facts] : Prop :=
  ∀ (m : (ℓ : Loc Cert.InACtx.nD Cert.InACtx.τ Cert.InACtx.sig) → Buf (Elt Bits) ℓ) (g : Dev Cert.InACtx.nD → PrngReg), Pre_InACtx m →
    θ_run (Cert.InACtx.defs (F := Bits)) (onTc (τ := Cert.InACtx.τ) (Cert.InACtx.main (F := Bits))) ⟨m, fun _ => 0, g⟩ (fun r => (∀ c : Dev Cert.InACtx.nD,
      r.2.mem ((c.tc : Thread Cert.InACtx.nD Cert.InACtx.τ).loc Cert.InACtx.main_arg0) = m ((c.tc : Thread Cert.InACtx.nD Cert.InACtx.τ).loc Cert.InACtx.main_arg0)
      ∧ r.2.mem ((c.tc : Thread Cert.InACtx.nD Cert.InACtx.τ).loc Cert.InACtx.main_arg1) = m ((c.tc : Thread Cert.InACtx.nD Cert.InACtx.τ).loc Cert.InACtx.main_arg1)
      ∧ r.2.mem ((c.tc : Thread Cert.InACtx.nD Cert.InACtx.τ).loc Cert.InACtx.main_arg2) = m ((c.tc : Thread Cert.InACtx.nD Cert.InACtx.τ).loc Cert.InACtx.main_arg2)
      ∧ r.2.mem ((c.tc : Thread Cert.InACtx.nD Cert.InACtx.τ).loc Cert.InACtx.main_arg3) = m ((c.tc : Thread Cert.InACtx.nD Cert.InACtx.τ).loc Cert.InACtx.main_arg3)
      ∧ r.2.mem ((c.tc : Thread Cert.InACtx.nD Cert.InACtx.τ).loc Cert.InACtx.main_arg4) = m ((c.tc : Thread Cert.InACtx.nD Cert.InACtx.τ).loc Cert.InACtx.main_arg4)
      ∧ r.2.mem ((c.tc : Thread Cert.InACtx.nD Cert.InACtx.τ).loc Cert.InACtx.main_arg5) = m ((c.tc : Thread Cert.InACtx.nD Cert.InACtx.τ).loc Cert.InACtx.main_arg5))
      ∧ r.2.sem = fun _ => 0)

def quiescent_InACtxIdeal [hInACtxIdeal : Cert.InACtxIdeal.Facts] : Prop :=
  ∀ (m : (ℓ : Loc Cert.InACtxIdeal.nD Cert.InACtxIdeal.τ Cert.InACtxIdeal.sig) → Buf (Elt Ideal) ℓ) (g : Dev Cert.InACtxIdeal.nD → PrngReg), Pre_InACtxIdeal m →
    θ_run (Cert.InACtxIdeal.defs (F := Ideal)) (onTc (τ := Cert.InACtxIdeal.τ) (Cert.InACtxIdeal.main (F := Ideal))) ⟨m, fun _ => 0, g⟩ (fun r => (∀ c : Dev Cert.InACtxIdeal.nD,
      r.2.mem ((c.tc : Thread Cert.InACtxIdeal.nD Cert.InACtxIdeal.τ).loc Cert.InACtxIdeal.main_arg0) = m ((c.tc : Thread Cert.InACtxIdeal.nD Cert.InACtxIdeal.τ).loc Cert.InACtxIdeal.main_arg0)
      ∧ r.2.mem ((c.tc : Thread Cert.InACtxIdeal.nD Cert.InACtxIdeal.τ).loc Cert.InACtxIdeal.main_arg1) = m ((c.tc : Thread Cert.InACtxIdeal.nD Cert.InACtxIdeal.τ).loc Cert.InACtxIdeal.main_arg1)
      ∧ r.2.mem ((c.tc : Thread Cert.InACtxIdeal.nD Cert.InACtxIdeal.τ).loc Cert.InACtxIdeal.main_arg2) = m ((c.tc : Thread Cert.InACtxIdeal.nD Cert.InACtxIdeal.τ).loc Cert.InACtxIdeal.main_arg2)
      ∧ r.2.mem ((c.tc : Thread Cert.InACtxIdeal.nD Cert.InACtxIdeal.τ).loc Cert.InACtxIdeal.main_arg3) = m ((c.tc : Thread Cert.InACtxIdeal.nD Cert.InACtxIdeal.τ).loc Cert.InACtxIdeal.main_arg3)
      ∧ r.2.mem ((c.tc : Thread Cert.InACtxIdeal.nD Cert.InACtxIdeal.τ).loc Cert.InACtxIdeal.main_arg4) = m ((c.tc : Thread Cert.InACtxIdeal.nD Cert.InACtxIdeal.τ).loc Cert.InACtxIdeal.main_arg4)
      ∧ r.2.mem ((c.tc : Thread Cert.InACtxIdeal.nD Cert.InACtxIdeal.τ).loc Cert.InACtxIdeal.main_arg5) = m ((c.tc : Thread Cert.InACtxIdeal.nD Cert.InACtxIdeal.τ).loc Cert.InACtxIdeal.main_arg5))
      ∧ r.2.sem = fun _ => 0)

def quiescent_InACtxReferenceIdeal [hInACtxReferenceIdeal : Cert.InACtxReferenceIdeal.Facts] : Prop :=
  ∀ (m : (ℓ : Loc Cert.InACtxReferenceIdeal.nD Cert.InACtxReferenceIdeal.τ Cert.InACtxReferenceIdeal.sig) → Buf (Elt Ideal) ℓ) (g : Dev Cert.InACtxReferenceIdeal.nD → PrngReg), Pre_InACtxReferenceIdeal m →
    θ_run (Cert.InACtxReferenceIdeal.defs (F := Ideal)) (onTc (τ := Cert.InACtxReferenceIdeal.τ) (Cert.InACtxReferenceIdeal.main (F := Ideal))) ⟨m, fun _ => 0, g⟩ (fun r => (∀ c : Dev Cert.InACtxReferenceIdeal.nD,
      r.2.mem ((c.tc : Thread Cert.InACtxReferenceIdeal.nD Cert.InACtxReferenceIdeal.τ).loc Cert.InACtxReferenceIdeal.main_arg0) = m ((c.tc : Thread Cert.InACtxReferenceIdeal.nD Cert.InACtxReferenceIdeal.τ).loc Cert.InACtxReferenceIdeal.main_arg0)
      ∧ r.2.mem ((c.tc : Thread Cert.InACtxReferenceIdeal.nD Cert.InACtxReferenceIdeal.τ).loc Cert.InACtxReferenceIdeal.main_arg1) = m ((c.tc : Thread Cert.InACtxReferenceIdeal.nD Cert.InACtxReferenceIdeal.τ).loc Cert.InACtxReferenceIdeal.main_arg1)
      ∧ r.2.mem ((c.tc : Thread Cert.InACtxReferenceIdeal.nD Cert.InACtxReferenceIdeal.τ).loc Cert.InACtxReferenceIdeal.main_arg2) = m ((c.tc : Thread Cert.InACtxReferenceIdeal.nD Cert.InACtxReferenceIdeal.τ).loc Cert.InACtxReferenceIdeal.main_arg2)
      ∧ r.2.mem ((c.tc : Thread Cert.InACtxReferenceIdeal.nD Cert.InACtxReferenceIdeal.τ).loc Cert.InACtxReferenceIdeal.main_arg3) = m ((c.tc : Thread Cert.InACtxReferenceIdeal.nD Cert.InACtxReferenceIdeal.τ).loc Cert.InACtxReferenceIdeal.main_arg3)
      ∧ r.2.mem ((c.tc : Thread Cert.InACtxReferenceIdeal.nD Cert.InACtxReferenceIdeal.τ).loc Cert.InACtxReferenceIdeal.main_arg4) = m ((c.tc : Thread Cert.InACtxReferenceIdeal.nD Cert.InACtxReferenceIdeal.τ).loc Cert.InACtxReferenceIdeal.main_arg4)
      ∧ r.2.mem ((c.tc : Thread Cert.InACtxReferenceIdeal.nD Cert.InACtxReferenceIdeal.τ).loc Cert.InACtxReferenceIdeal.main_arg5) = m ((c.tc : Thread Cert.InACtxReferenceIdeal.nD Cert.InACtxReferenceIdeal.τ).loc Cert.InACtxReferenceIdeal.main_arg5))
      ∧ r.2.sem = fun _ => 0)

def quiescent_InBCtx [hInBCtx : Cert.InBCtx.Facts] : Prop :=
  ∀ (m : (ℓ : Loc Cert.InBCtx.nD Cert.InBCtx.τ Cert.InBCtx.sig) → Buf (Elt Bits) ℓ) (g : Dev Cert.InBCtx.nD → PrngReg), Pre_InBCtx m →
    θ_run (Cert.InBCtx.defs (F := Bits)) (onTc (τ := Cert.InBCtx.τ) (Cert.InBCtx.main (F := Bits))) ⟨m, fun _ => 0, g⟩ (fun r => (∀ c : Dev Cert.InBCtx.nD,
      r.2.mem ((c.tc : Thread Cert.InBCtx.nD Cert.InBCtx.τ).loc Cert.InBCtx.main_arg0) = m ((c.tc : Thread Cert.InBCtx.nD Cert.InBCtx.τ).loc Cert.InBCtx.main_arg0)
      ∧ r.2.mem ((c.tc : Thread Cert.InBCtx.nD Cert.InBCtx.τ).loc Cert.InBCtx.main_arg1) = m ((c.tc : Thread Cert.InBCtx.nD Cert.InBCtx.τ).loc Cert.InBCtx.main_arg1)
      ∧ r.2.mem ((c.tc : Thread Cert.InBCtx.nD Cert.InBCtx.τ).loc Cert.InBCtx.main_arg2) = m ((c.tc : Thread Cert.InBCtx.nD Cert.InBCtx.τ).loc Cert.InBCtx.main_arg2)
      ∧ r.2.mem ((c.tc : Thread Cert.InBCtx.nD Cert.InBCtx.τ).loc Cert.InBCtx.main_arg3) = m ((c.tc : Thread Cert.InBCtx.nD Cert.InBCtx.τ).loc Cert.InBCtx.main_arg3)
      ∧ r.2.mem ((c.tc : Thread Cert.InBCtx.nD Cert.InBCtx.τ).loc Cert.InBCtx.main_arg4) = m ((c.tc : Thread Cert.InBCtx.nD Cert.InBCtx.τ).loc Cert.InBCtx.main_arg4)
      ∧ r.2.mem ((c.tc : Thread Cert.InBCtx.nD Cert.InBCtx.τ).loc Cert.InBCtx.main_arg5) = m ((c.tc : Thread Cert.InBCtx.nD Cert.InBCtx.τ).loc Cert.InBCtx.main_arg5))
      ∧ r.2.sem = fun _ => 0)

def quiescent_InBCtxIdeal [hInBCtxIdeal : Cert.InBCtxIdeal.Facts] : Prop :=
  ∀ (m : (ℓ : Loc Cert.InBCtxIdeal.nD Cert.InBCtxIdeal.τ Cert.InBCtxIdeal.sig) → Buf (Elt Ideal) ℓ) (g : Dev Cert.InBCtxIdeal.nD → PrngReg), Pre_InBCtxIdeal m →
    θ_run (Cert.InBCtxIdeal.defs (F := Ideal)) (onTc (τ := Cert.InBCtxIdeal.τ) (Cert.InBCtxIdeal.main (F := Ideal))) ⟨m, fun _ => 0, g⟩ (fun r => (∀ c : Dev Cert.InBCtxIdeal.nD,
      r.2.mem ((c.tc : Thread Cert.InBCtxIdeal.nD Cert.InBCtxIdeal.τ).loc Cert.InBCtxIdeal.main_arg0) = m ((c.tc : Thread Cert.InBCtxIdeal.nD Cert.InBCtxIdeal.τ).loc Cert.InBCtxIdeal.main_arg0)
      ∧ r.2.mem ((c.tc : Thread Cert.InBCtxIdeal.nD Cert.InBCtxIdeal.τ).loc Cert.InBCtxIdeal.main_arg1) = m ((c.tc : Thread Cert.InBCtxIdeal.nD Cert.InBCtxIdeal.τ).loc Cert.InBCtxIdeal.main_arg1)
      ∧ r.2.mem ((c.tc : Thread Cert.InBCtxIdeal.nD Cert.InBCtxIdeal.τ).loc Cert.InBCtxIdeal.main_arg2) = m ((c.tc : Thread Cert.InBCtxIdeal.nD Cert.InBCtxIdeal.τ).loc Cert.InBCtxIdeal.main_arg2)
      ∧ r.2.mem ((c.tc : Thread Cert.InBCtxIdeal.nD Cert.InBCtxIdeal.τ).loc Cert.InBCtxIdeal.main_arg3) = m ((c.tc : Thread Cert.InBCtxIdeal.nD Cert.InBCtxIdeal.τ).loc Cert.InBCtxIdeal.main_arg3)
      ∧ r.2.mem ((c.tc : Thread Cert.InBCtxIdeal.nD Cert.InBCtxIdeal.τ).loc Cert.InBCtxIdeal.main_arg4) = m ((c.tc : Thread Cert.InBCtxIdeal.nD Cert.InBCtxIdeal.τ).loc Cert.InBCtxIdeal.main_arg4)
      ∧ r.2.mem ((c.tc : Thread Cert.InBCtxIdeal.nD Cert.InBCtxIdeal.τ).loc Cert.InBCtxIdeal.main_arg5) = m ((c.tc : Thread Cert.InBCtxIdeal.nD Cert.InBCtxIdeal.τ).loc Cert.InBCtxIdeal.main_arg5))
      ∧ r.2.sem = fun _ => 0)

def quiescent_InBCtxIdeal_pre_in_b_ctx_finite [hInBCtxIdeal : Cert.InBCtxIdeal.Facts] [hPre_in_b_ctx_finite : Cert.Pre_in_b_ctx_finite.Facts] : Prop :=
  ∀ (m : (ℓ : Loc Cert.InBCtxIdeal.nD Cert.InBCtxIdeal.τ Cert.InBCtxIdeal.sig) → Buf (Elt Ideal) ℓ) (g : Dev Cert.InBCtxIdeal.nD → PrngReg), Pre_InBCtxIdeal_in_b_ctx_finite m →
    θ_run (Cert.InBCtxIdeal.defs (F := Ideal)) (onTc (τ := Cert.InBCtxIdeal.τ) (Cert.InBCtxIdeal.main (F := Ideal))) ⟨m, fun _ => 0, g⟩ (fun r => (∀ c : Dev Cert.InBCtxIdeal.nD,
      r.2.mem ((c.tc : Thread Cert.InBCtxIdeal.nD Cert.InBCtxIdeal.τ).loc Cert.InBCtxIdeal.main_arg0) = m ((c.tc : Thread Cert.InBCtxIdeal.nD Cert.InBCtxIdeal.τ).loc Cert.InBCtxIdeal.main_arg0)
      ∧ r.2.mem ((c.tc : Thread Cert.InBCtxIdeal.nD Cert.InBCtxIdeal.τ).loc Cert.InBCtxIdeal.main_arg1) = m ((c.tc : Thread Cert.InBCtxIdeal.nD Cert.InBCtxIdeal.τ).loc Cert.InBCtxIdeal.main_arg1)
      ∧ r.2.mem ((c.tc : Thread Cert.InBCtxIdeal.nD Cert.InBCtxIdeal.τ).loc Cert.InBCtxIdeal.main_arg2) = m ((c.tc : Thread Cert.InBCtxIdeal.nD Cert.InBCtxIdeal.τ).loc Cert.InBCtxIdeal.main_arg2)
      ∧ r.2.mem ((c.tc : Thread Cert.InBCtxIdeal.nD Cert.InBCtxIdeal.τ).loc Cert.InBCtxIdeal.main_arg3) = m ((c.tc : Thread Cert.InBCtxIdeal.nD Cert.InBCtxIdeal.τ).loc Cert.InBCtxIdeal.main_arg3)
      ∧ r.2.mem ((c.tc : Thread Cert.InBCtxIdeal.nD Cert.InBCtxIdeal.τ).loc Cert.InBCtxIdeal.main_arg4) = m ((c.tc : Thread Cert.InBCtxIdeal.nD Cert.InBCtxIdeal.τ).loc Cert.InBCtxIdeal.main_arg4)
      ∧ r.2.mem ((c.tc : Thread Cert.InBCtxIdeal.nD Cert.InBCtxIdeal.τ).loc Cert.InBCtxIdeal.main_arg5) = m ((c.tc : Thread Cert.InBCtxIdeal.nD Cert.InBCtxIdeal.τ).loc Cert.InBCtxIdeal.main_arg5))
      ∧ r.2.sem = fun _ => 0)

def quiescent_InBCtxReferenceIdeal [hInBCtxReferenceIdeal : Cert.InBCtxReferenceIdeal.Facts] : Prop :=
  ∀ (m : (ℓ : Loc Cert.InBCtxReferenceIdeal.nD Cert.InBCtxReferenceIdeal.τ Cert.InBCtxReferenceIdeal.sig) → Buf (Elt Ideal) ℓ) (g : Dev Cert.InBCtxReferenceIdeal.nD → PrngReg), Pre_InBCtxReferenceIdeal m →
    θ_run (Cert.InBCtxReferenceIdeal.defs (F := Ideal)) (onTc (τ := Cert.InBCtxReferenceIdeal.τ) (Cert.InBCtxReferenceIdeal.main (F := Ideal))) ⟨m, fun _ => 0, g⟩ (fun r => (∀ c : Dev Cert.InBCtxReferenceIdeal.nD,
      r.2.mem ((c.tc : Thread Cert.InBCtxReferenceIdeal.nD Cert.InBCtxReferenceIdeal.τ).loc Cert.InBCtxReferenceIdeal.main_arg0) = m ((c.tc : Thread Cert.InBCtxReferenceIdeal.nD Cert.InBCtxReferenceIdeal.τ).loc Cert.InBCtxReferenceIdeal.main_arg0)
      ∧ r.2.mem ((c.tc : Thread Cert.InBCtxReferenceIdeal.nD Cert.InBCtxReferenceIdeal.τ).loc Cert.InBCtxReferenceIdeal.main_arg1) = m ((c.tc : Thread Cert.InBCtxReferenceIdeal.nD Cert.InBCtxReferenceIdeal.τ).loc Cert.InBCtxReferenceIdeal.main_arg1)
      ∧ r.2.mem ((c.tc : Thread Cert.InBCtxReferenceIdeal.nD Cert.InBCtxReferenceIdeal.τ).loc Cert.InBCtxReferenceIdeal.main_arg2) = m ((c.tc : Thread Cert.InBCtxReferenceIdeal.nD Cert.InBCtxReferenceIdeal.τ).loc Cert.InBCtxReferenceIdeal.main_arg2)
      ∧ r.2.mem ((c.tc : Thread Cert.InBCtxReferenceIdeal.nD Cert.InBCtxReferenceIdeal.τ).loc Cert.InBCtxReferenceIdeal.main_arg3) = m ((c.tc : Thread Cert.InBCtxReferenceIdeal.nD Cert.InBCtxReferenceIdeal.τ).loc Cert.InBCtxReferenceIdeal.main_arg3)
      ∧ r.2.mem ((c.tc : Thread Cert.InBCtxReferenceIdeal.nD Cert.InBCtxReferenceIdeal.τ).loc Cert.InBCtxReferenceIdeal.main_arg4) = m ((c.tc : Thread Cert.InBCtxReferenceIdeal.nD Cert.InBCtxReferenceIdeal.τ).loc Cert.InBCtxReferenceIdeal.main_arg4)
      ∧ r.2.mem ((c.tc : Thread Cert.InBCtxReferenceIdeal.nD Cert.InBCtxReferenceIdeal.τ).loc Cert.InBCtxReferenceIdeal.main_arg5) = m ((c.tc : Thread Cert.InBCtxReferenceIdeal.nD Cert.InBCtxReferenceIdeal.τ).loc Cert.InBCtxReferenceIdeal.main_arg5))
      ∧ r.2.sem = fun _ => 0)

def quiescent_InBCtxReferenceIdeal_pre_in_b_ctx_finite [hInBCtxReferenceIdeal : Cert.InBCtxReferenceIdeal.Facts] [hPre_in_b_ctx_finite : Cert.Pre_in_b_ctx_finite.Facts] : Prop :=
  ∀ (m : (ℓ : Loc Cert.InBCtxReferenceIdeal.nD Cert.InBCtxReferenceIdeal.τ Cert.InBCtxReferenceIdeal.sig) → Buf (Elt Ideal) ℓ) (g : Dev Cert.InBCtxReferenceIdeal.nD → PrngReg), Pre_InBCtxReferenceIdeal_in_b_ctx_finite m →
    θ_run (Cert.InBCtxReferenceIdeal.defs (F := Ideal)) (onTc (τ := Cert.InBCtxReferenceIdeal.τ) (Cert.InBCtxReferenceIdeal.main (F := Ideal))) ⟨m, fun _ => 0, g⟩ (fun r => (∀ c : Dev Cert.InBCtxReferenceIdeal.nD,
      r.2.mem ((c.tc : Thread Cert.InBCtxReferenceIdeal.nD Cert.InBCtxReferenceIdeal.τ).loc Cert.InBCtxReferenceIdeal.main_arg0) = m ((c.tc : Thread Cert.InBCtxReferenceIdeal.nD Cert.InBCtxReferenceIdeal.τ).loc Cert.InBCtxReferenceIdeal.main_arg0)
      ∧ r.2.mem ((c.tc : Thread Cert.InBCtxReferenceIdeal.nD Cert.InBCtxReferenceIdeal.τ).loc Cert.InBCtxReferenceIdeal.main_arg1) = m ((c.tc : Thread Cert.InBCtxReferenceIdeal.nD Cert.InBCtxReferenceIdeal.τ).loc Cert.InBCtxReferenceIdeal.main_arg1)
      ∧ r.2.mem ((c.tc : Thread Cert.InBCtxReferenceIdeal.nD Cert.InBCtxReferenceIdeal.τ).loc Cert.InBCtxReferenceIdeal.main_arg2) = m ((c.tc : Thread Cert.InBCtxReferenceIdeal.nD Cert.InBCtxReferenceIdeal.τ).loc Cert.InBCtxReferenceIdeal.main_arg2)
      ∧ r.2.mem ((c.tc : Thread Cert.InBCtxReferenceIdeal.nD Cert.InBCtxReferenceIdeal.τ).loc Cert.InBCtxReferenceIdeal.main_arg3) = m ((c.tc : Thread Cert.InBCtxReferenceIdeal.nD Cert.InBCtxReferenceIdeal.τ).loc Cert.InBCtxReferenceIdeal.main_arg3)
      ∧ r.2.mem ((c.tc : Thread Cert.InBCtxReferenceIdeal.nD Cert.InBCtxReferenceIdeal.τ).loc Cert.InBCtxReferenceIdeal.main_arg4) = m ((c.tc : Thread Cert.InBCtxReferenceIdeal.nD Cert.InBCtxReferenceIdeal.τ).loc Cert.InBCtxReferenceIdeal.main_arg4)
      ∧ r.2.mem ((c.tc : Thread Cert.InBCtxReferenceIdeal.nD Cert.InBCtxReferenceIdeal.τ).loc Cert.InBCtxReferenceIdeal.main_arg5) = m ((c.tc : Thread Cert.InBCtxReferenceIdeal.nD Cert.InBCtxReferenceIdeal.τ).loc Cert.InBCtxReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MergeLat_MergeLatIdeal : Prop :=
  True

def algebraic_MergeLatIdeal_MergeLatReferenceIdeal [hMergeLatIdeal : Cert.MergeLatIdeal.Facts] [hMergeLatReferenceIdeal : Cert.MergeLatReferenceIdeal.Facts] : Prop :=
  ∀ (m : (ℓ : Loc Cert.MergeLatIdeal.nD Cert.MergeLatIdeal.τ Cert.MergeLatIdeal.sig) → Buf (Elt Ideal) ℓ) (g : Dev Cert.MergeLatIdeal.nD → PrngReg)
    (m' : (ℓ : Loc Cert.MergeLatReferenceIdeal.nD Cert.MergeLatReferenceIdeal.τ Cert.MergeLatReferenceIdeal.sig) → Buf (Elt Ideal) ℓ) (g' : Dev Cert.MergeLatReferenceIdeal.nD → PrngReg), Pre_MergeLatIdeal m →
    (∀ c : Dev Cert.MergeLatIdeal.nD,
      m' ((c.tc : Thread Cert.MergeLatReferenceIdeal.nD Cert.MergeLatReferenceIdeal.τ).loc Cert.MergeLatReferenceIdeal.main_arg0) = m ((c.tc : Thread Cert.MergeLatIdeal.nD Cert.MergeLatIdeal.τ).loc Cert.MergeLatIdeal.main_arg0)
      ∧ m' ((c.tc : Thread Cert.MergeLatReferenceIdeal.nD Cert.MergeLatReferenceIdeal.τ).loc Cert.MergeLatReferenceIdeal.main_arg1) = m ((c.tc : Thread Cert.MergeLatIdeal.nD Cert.MergeLatIdeal.τ).loc Cert.MergeLatIdeal.main_arg1)
      ∧ m' ((c.tc : Thread Cert.MergeLatReferenceIdeal.nD Cert.MergeLatReferenceIdeal.τ).loc Cert.MergeLatReferenceIdeal.main_arg2) = m ((c.tc : Thread Cert.MergeLatIdeal.nD Cert.MergeLatIdeal.τ).loc Cert.MergeLatIdeal.main_arg2)
      ∧ m' ((c.tc : Thread Cert.MergeLatReferenceIdeal.nD Cert.MergeLatReferenceIdeal.τ).loc Cert.MergeLatReferenceIdeal.main_arg3) = m ((c.tc : Thread Cert.MergeLatIdeal.nD Cert.MergeLatIdeal.τ).loc Cert.MergeLatIdeal.main_arg3)
      ∧ m' ((c.tc : Thread Cert.MergeLatReferenceIdeal.nD Cert.MergeLatReferenceIdeal.τ).loc Cert.MergeLatReferenceIdeal.main_arg4) = m ((c.tc : Thread Cert.MergeLatIdeal.nD Cert.MergeLatIdeal.τ).loc Cert.MergeLatIdeal.main_arg4)
      ∧ m' ((c.tc : Thread Cert.MergeLatReferenceIdeal.nD Cert.MergeLatReferenceIdeal.τ).loc Cert.MergeLatReferenceIdeal.main_arg5) = m ((c.tc : Thread Cert.MergeLatIdeal.nD Cert.MergeLatIdeal.τ).loc Cert.MergeLatIdeal.main_arg5)
      ∧ m' ((c.tc : Thread Cert.MergeLatReferenceIdeal.nD Cert.MergeLatReferenceIdeal.τ).loc Cert.MergeLatReferenceIdeal.main_arg6) = m ((c.tc : Thread Cert.MergeLatIdeal.nD Cert.MergeLatIdeal.τ).loc Cert.MergeLatIdeal.main_arg6)
      ∧ m' ((c.tc : Thread Cert.MergeLatReferenceIdeal.nD Cert.MergeLatReferenceIdeal.τ).loc Cert.MergeLatReferenceIdeal.main_arg7) = m ((c.tc : Thread Cert.MergeLatIdeal.nD Cert.MergeLatIdeal.τ).loc Cert.MergeLatIdeal.main_arg7)
      ∧ m' ((c.tc : Thread Cert.MergeLatReferenceIdeal.nD Cert.MergeLatReferenceIdeal.τ).loc Cert.MergeLatReferenceIdeal.main_arg8) = m ((c.tc : Thread Cert.MergeLatIdeal.nD Cert.MergeLatIdeal.τ).loc Cert.MergeLatIdeal.main_arg8)
      ∧ m' ((c.tc : Thread Cert.MergeLatReferenceIdeal.nD Cert.MergeLatReferenceIdeal.τ).loc Cert.MergeLatReferenceIdeal.main_arg9) = m ((c.tc : Thread Cert.MergeLatIdeal.nD Cert.MergeLatIdeal.τ).loc Cert.MergeLatIdeal.main_arg9)
      ∧ m' ((c.tc : Thread Cert.MergeLatReferenceIdeal.nD Cert.MergeLatReferenceIdeal.τ).loc Cert.MergeLatReferenceIdeal.main_arg10) = m ((c.tc : Thread Cert.MergeLatIdeal.nD Cert.MergeLatIdeal.τ).loc Cert.MergeLatIdeal.main_arg10)) →
    ∃ (v0 : (c : Dev Cert.MergeLatIdeal.nD) → Buf (Elt Ideal) ((c.tc : Thread Cert.MergeLatIdeal.nD Cert.MergeLatIdeal.τ).loc Cert.MergeLatIdeal.main_v12)),
      θ_run (Cert.MergeLatIdeal.defs (F := Ideal)) (onTc (τ := Cert.MergeLatIdeal.τ) (Cert.MergeLatIdeal.main (F := Ideal))) ⟨m, fun _ => 0, g⟩ (fun r => ∀ c : Dev Cert.MergeLatIdeal.nD,
          r.2.mem ((c.tc : Thread Cert.MergeLatIdeal.nD Cert.MergeLatIdeal.τ).loc Cert.MergeLatIdeal.main_v12) = v0 c
          ∧ r.2.mem ((c.tc : Thread Cert.MergeLatIdeal.nD Cert.MergeLatIdeal.τ).loc Cert.MergeLatIdeal.main_arg0) = m ((c.tc : Thread Cert.MergeLatIdeal.nD Cert.MergeLatIdeal.τ).loc Cert.MergeLatIdeal.main_arg0)
          ∧ r.2.mem ((c.tc : Thread Cert.MergeLatIdeal.nD Cert.MergeLatIdeal.τ).loc Cert.MergeLatIdeal.main_arg1) = m ((c.tc : Thread Cert.MergeLatIdeal.nD Cert.MergeLatIdeal.τ).loc Cert.MergeLatIdeal.main_arg1)
          ∧ r.2.mem ((c.tc : Thread Cert.MergeLatIdeal.nD Cert.MergeLatIdeal.τ).loc Cert.MergeLatIdeal.main_arg2) = m ((c.tc : Thread Cert.MergeLatIdeal.nD Cert.MergeLatIdeal.τ).loc Cert.MergeLatIdeal.main_arg2)
          ∧ r.2.mem ((c.tc : Thread Cert.MergeLatIdeal.nD Cert.MergeLatIdeal.τ).loc Cert.MergeLatIdeal.main_arg3) = m ((c.tc : Thread Cert.MergeLatIdeal.nD Cert.MergeLatIdeal.τ).loc Cert.MergeLatIdeal.main_arg3)
          ∧ r.2.mem ((c.tc : Thread Cert.MergeLatIdeal.nD Cert.MergeLatIdeal.τ).loc Cert.MergeLatIdeal.main_arg4) = m ((c.tc : Thread Cert.MergeLatIdeal.nD Cert.MergeLatIdeal.τ).loc Cert.MergeLatIdeal.main_arg4)
          ∧ r.2.mem ((c.tc : Thread Cert.MergeLatIdeal.nD Cert.MergeLatIdeal.τ).loc Cert.MergeLatIdeal.main_arg5) = m ((c.tc : Thread Cert.MergeLatIdeal.nD Cert.MergeLatIdeal.τ).loc Cert.MergeLatIdeal.main_arg5)
          ∧ r.2.mem ((c.tc : Thread Cert.MergeLatIdeal.nD Cert.MergeLatIdeal.τ).loc Cert.MergeLatIdeal.main_arg6) = m ((c.tc : Thread Cert.MergeLatIdeal.nD Cert.MergeLatIdeal.τ).loc Cert.MergeLatIdeal.main_arg6)
          ∧ r.2.mem ((c.tc : Thread Cert.MergeLatIdeal.nD Cert.MergeLatIdeal.τ).loc Cert.MergeLatIdeal.main_arg7) = m ((c.tc : Thread Cert.MergeLatIdeal.nD Cert.MergeLatIdeal.τ).loc Cert.MergeLatIdeal.main_arg7)
          ∧ r.2.mem ((c.tc : Thread Cert.MergeLatIdeal.nD Cert.MergeLatIdeal.τ).loc Cert.MergeLatIdeal.main_arg8) = m ((c.tc : Thread Cert.MergeLatIdeal.nD Cert.MergeLatIdeal.τ).loc Cert.MergeLatIdeal.main_arg8)
          ∧ r.2.mem ((c.tc : Thread Cert.MergeLatIdeal.nD Cert.MergeLatIdeal.τ).loc Cert.MergeLatIdeal.main_arg9) = m ((c.tc : Thread Cert.MergeLatIdeal.nD Cert.MergeLatIdeal.τ).loc Cert.MergeLatIdeal.main_arg9)
          ∧ r.2.mem ((c.tc : Thread Cert.MergeLatIdeal.nD Cert.MergeLatIdeal.τ).loc Cert.MergeLatIdeal.main_arg10) = m ((c.tc : Thread Cert.MergeLatIdeal.nD Cert.MergeLatIdeal.τ).loc Cert.MergeLatIdeal.main_arg10))
      ∧ θ_run (Cert.MergeLatReferenceIdeal.defs (F := Ideal)) (onTc (τ := Cert.MergeLatReferenceIdeal.τ) (Cert.MergeLatReferenceIdeal.main (F := Ideal))) ⟨m', fun _ => 0, g'⟩ (fun r => ∀ c : Dev Cert.MergeLatReferenceIdeal.nD,
          r.2.mem ((c.tc : Thread Cert.MergeLatReferenceIdeal.nD Cert.MergeLatReferenceIdeal.τ).loc Cert.MergeLatReferenceIdeal.main_v37) = v0 c
          ∧ r.2.mem ((c.tc : Thread Cert.MergeLatReferenceIdeal.nD Cert.MergeLatReferenceIdeal.τ).loc Cert.MergeLatReferenceIdeal.main_arg0) = m' ((c.tc : Thread Cert.MergeLatReferenceIdeal.nD Cert.MergeLatReferenceIdeal.τ).loc Cert.MergeLatReferenceIdeal.main_arg0)
          ∧ r.2.mem ((c.tc : Thread Cert.MergeLatReferenceIdeal.nD Cert.MergeLatReferenceIdeal.τ).loc Cert.MergeLatReferenceIdeal.main_arg1) = m' ((c.tc : Thread Cert.MergeLatReferenceIdeal.nD Cert.MergeLatReferenceIdeal.τ).loc Cert.MergeLatReferenceIdeal.main_arg1)
          ∧ r.2.mem ((c.tc : Thread Cert.MergeLatReferenceIdeal.nD Cert.MergeLatReferenceIdeal.τ).loc Cert.MergeLatReferenceIdeal.main_arg2) = m' ((c.tc : Thread Cert.MergeLatReferenceIdeal.nD Cert.MergeLatReferenceIdeal.τ).loc Cert.MergeLatReferenceIdeal.main_arg2)
          ∧ r.2.mem ((c.tc : Thread Cert.MergeLatReferenceIdeal.nD Cert.MergeLatReferenceIdeal.τ).loc Cert.MergeLatReferenceIdeal.main_arg3) = m' ((c.tc : Thread Cert.MergeLatReferenceIdeal.nD Cert.MergeLatReferenceIdeal.τ).loc Cert.MergeLatReferenceIdeal.main_arg3)
          ∧ r.2.mem ((c.tc : Thread Cert.MergeLatReferenceIdeal.nD Cert.MergeLatReferenceIdeal.τ).loc Cert.MergeLatReferenceIdeal.main_arg4) = m' ((c.tc : Thread Cert.MergeLatReferenceIdeal.nD Cert.MergeLatReferenceIdeal.τ).loc Cert.MergeLatReferenceIdeal.main_arg4)
          ∧ r.2.mem ((c.tc : Thread Cert.MergeLatReferenceIdeal.nD Cert.MergeLatReferenceIdeal.τ).loc Cert.MergeLatReferenceIdeal.main_arg5) = m' ((c.tc : Thread Cert.MergeLatReferenceIdeal.nD Cert.MergeLatReferenceIdeal.τ).loc Cert.MergeLatReferenceIdeal.main_arg5)
          ∧ r.2.mem ((c.tc : Thread Cert.MergeLatReferenceIdeal.nD Cert.MergeLatReferenceIdeal.τ).loc Cert.MergeLatReferenceIdeal.main_arg6) = m' ((c.tc : Thread Cert.MergeLatReferenceIdeal.nD Cert.MergeLatReferenceIdeal.τ).loc Cert.MergeLatReferenceIdeal.main_arg6)
          ∧ r.2.mem ((c.tc : Thread Cert.MergeLatReferenceIdeal.nD Cert.MergeLatReferenceIdeal.τ).loc Cert.MergeLatReferenceIdeal.main_arg7) = m' ((c.tc : Thread Cert.MergeLatReferenceIdeal.nD Cert.MergeLatReferenceIdeal.τ).loc Cert.MergeLatReferenceIdeal.main_arg7)
          ∧ r.2.mem ((c.tc : Thread Cert.MergeLatReferenceIdeal.nD Cert.MergeLatReferenceIdeal.τ).loc Cert.MergeLatReferenceIdeal.main_arg8) = m' ((c.tc : Thread Cert.MergeLatReferenceIdeal.nD Cert.MergeLatReferenceIdeal.τ).loc Cert.MergeLatReferenceIdeal.main_arg8)
          ∧ r.2.mem ((c.tc : Thread Cert.MergeLatReferenceIdeal.nD Cert.MergeLatReferenceIdeal.τ).loc Cert.MergeLatReferenceIdeal.main_arg9) = m' ((c.tc : Thread Cert.MergeLatReferenceIdeal.nD Cert.MergeLatReferenceIdeal.τ).loc Cert.MergeLatReferenceIdeal.main_arg9)
          ∧ r.2.mem ((c.tc : Thread Cert.MergeLatReferenceIdeal.nD Cert.MergeLatReferenceIdeal.τ).loc Cert.MergeLatReferenceIdeal.main_arg10) = m' ((c.tc : Thread Cert.MergeLatReferenceIdeal.nD Cert.MergeLatReferenceIdeal.τ).loc Cert.MergeLatReferenceIdeal.main_arg10))

def preserves_FfnLat_FfnLatIdeal : Prop :=
  True

def algebraic_FfnLatIdeal_FfnLatReferenceIdeal_pre_ffn_finite [hFfnLatIdeal : Cert.FfnLatIdeal.Facts] [hFfnLatReferenceIdeal : Cert.FfnLatReferenceIdeal.Facts] [hPre_ffn_finite : Cert.Pre_ffn_finite.Facts] : Prop :=
  ∀ (m : (ℓ : Loc Cert.FfnLatIdeal.nD Cert.FfnLatIdeal.τ Cert.FfnLatIdeal.sig) → Buf (Elt Ideal) ℓ) (g : Dev Cert.FfnLatIdeal.nD → PrngReg)
    (m' : (ℓ : Loc Cert.FfnLatReferenceIdeal.nD Cert.FfnLatReferenceIdeal.τ Cert.FfnLatReferenceIdeal.sig) → Buf (Elt Ideal) ℓ) (g' : Dev Cert.FfnLatReferenceIdeal.nD → PrngReg), Pre_FfnLatIdeal_ffn_finite m →
    (∀ c : Dev Cert.FfnLatIdeal.nD,
      m' ((c.tc : Thread Cert.FfnLatReferenceIdeal.nD Cert.FfnLatReferenceIdeal.τ).loc Cert.FfnLatReferenceIdeal.main_arg0) = m ((c.tc : Thread Cert.FfnLatIdeal.nD Cert.FfnLatIdeal.τ).loc Cert.FfnLatIdeal.main_arg0)
      ∧ m' ((c.tc : Thread Cert.FfnLatReferenceIdeal.nD Cert.FfnLatReferenceIdeal.τ).loc Cert.FfnLatReferenceIdeal.main_arg1) = m ((c.tc : Thread Cert.FfnLatIdeal.nD Cert.FfnLatIdeal.τ).loc Cert.FfnLatIdeal.main_arg1)
      ∧ m' ((c.tc : Thread Cert.FfnLatReferenceIdeal.nD Cert.FfnLatReferenceIdeal.τ).loc Cert.FfnLatReferenceIdeal.main_arg2) = m ((c.tc : Thread Cert.FfnLatIdeal.nD Cert.FfnLatIdeal.τ).loc Cert.FfnLatIdeal.main_arg2)
      ∧ m' ((c.tc : Thread Cert.FfnLatReferenceIdeal.nD Cert.FfnLatReferenceIdeal.τ).loc Cert.FfnLatReferenceIdeal.main_arg3) = m ((c.tc : Thread Cert.FfnLatIdeal.nD Cert.FfnLatIdeal.τ).loc Cert.FfnLatIdeal.main_arg3)
      ∧ m' ((c.tc : Thread Cert.FfnLatReferenceIdeal.nD Cert.FfnLatReferenceIdeal.τ).loc Cert.FfnLatReferenceIdeal.main_arg4) = m ((c.tc : Thread Cert.FfnLatIdeal.nD Cert.FfnLatIdeal.τ).loc Cert.FfnLatIdeal.main_arg4)
      ∧ m' ((c.tc : Thread Cert.FfnLatReferenceIdeal.nD Cert.FfnLatReferenceIdeal.τ).loc Cert.FfnLatReferenceIdeal.main_arg5) = m ((c.tc : Thread Cert.FfnLatIdeal.nD Cert.FfnLatIdeal.τ).loc Cert.FfnLatIdeal.main_arg5)
      ∧ m' ((c.tc : Thread Cert.FfnLatReferenceIdeal.nD Cert.FfnLatReferenceIdeal.τ).loc Cert.FfnLatReferenceIdeal.main_arg6) = m ((c.tc : Thread Cert.FfnLatIdeal.nD Cert.FfnLatIdeal.τ).loc Cert.FfnLatIdeal.main_arg6)) →
    ∃ (v0 : (c : Dev Cert.FfnLatIdeal.nD) → Buf (Elt Ideal) ((c.tc : Thread Cert.FfnLatIdeal.nD Cert.FfnLatIdeal.τ).loc Cert.FfnLatIdeal.main_v8)),
      θ_run (Cert.FfnLatIdeal.defs (F := Ideal)) (onTc (τ := Cert.FfnLatIdeal.τ) (Cert.FfnLatIdeal.main (F := Ideal))) ⟨m, fun _ => 0, g⟩ (fun r => ∀ c : Dev Cert.FfnLatIdeal.nD,
          r.2.mem ((c.tc : Thread Cert.FfnLatIdeal.nD Cert.FfnLatIdeal.τ).loc Cert.FfnLatIdeal.main_v8) = v0 c
          ∧ r.2.mem ((c.tc : Thread Cert.FfnLatIdeal.nD Cert.FfnLatIdeal.τ).loc Cert.FfnLatIdeal.main_arg0) = m ((c.tc : Thread Cert.FfnLatIdeal.nD Cert.FfnLatIdeal.τ).loc Cert.FfnLatIdeal.main_arg0)
          ∧ r.2.mem ((c.tc : Thread Cert.FfnLatIdeal.nD Cert.FfnLatIdeal.τ).loc Cert.FfnLatIdeal.main_arg1) = m ((c.tc : Thread Cert.FfnLatIdeal.nD Cert.FfnLatIdeal.τ).loc Cert.FfnLatIdeal.main_arg1)
          ∧ r.2.mem ((c.tc : Thread Cert.FfnLatIdeal.nD Cert.FfnLatIdeal.τ).loc Cert.FfnLatIdeal.main_arg2) = m ((c.tc : Thread Cert.FfnLatIdeal.nD Cert.FfnLatIdeal.τ).loc Cert.FfnLatIdeal.main_arg2)
          ∧ r.2.mem ((c.tc : Thread Cert.FfnLatIdeal.nD Cert.FfnLatIdeal.τ).loc Cert.FfnLatIdeal.main_arg3) = m ((c.tc : Thread Cert.FfnLatIdeal.nD Cert.FfnLatIdeal.τ).loc Cert.FfnLatIdeal.main_arg3)
          ∧ r.2.mem ((c.tc : Thread Cert.FfnLatIdeal.nD Cert.FfnLatIdeal.τ).loc Cert.FfnLatIdeal.main_arg4) = m ((c.tc : Thread Cert.FfnLatIdeal.nD Cert.FfnLatIdeal.τ).loc Cert.FfnLatIdeal.main_arg4)
          ∧ r.2.mem ((c.tc : Thread Cert.FfnLatIdeal.nD Cert.FfnLatIdeal.τ).loc Cert.FfnLatIdeal.main_arg5) = m ((c.tc : Thread Cert.FfnLatIdeal.nD Cert.FfnLatIdeal.τ).loc Cert.FfnLatIdeal.main_arg5)
          ∧ r.2.mem ((c.tc : Thread Cert.FfnLatIdeal.nD Cert.FfnLatIdeal.τ).loc Cert.FfnLatIdeal.main_arg6) = m ((c.tc : Thread Cert.FfnLatIdeal.nD Cert.FfnLatIdeal.τ).loc Cert.FfnLatIdeal.main_arg6))
      ∧ θ_run (Cert.FfnLatReferenceIdeal.defs (F := Ideal)) (onTc (τ := Cert.FfnLatReferenceIdeal.τ) (Cert.FfnLatReferenceIdeal.main (F := Ideal))) ⟨m', fun _ => 0, g'⟩ (fun r => ∀ c : Dev Cert.FfnLatReferenceIdeal.nD,
          r.2.mem ((c.tc : Thread Cert.FfnLatReferenceIdeal.nD Cert.FfnLatReferenceIdeal.τ).loc Cert.FfnLatReferenceIdeal.main_v55) = v0 c
          ∧ r.2.mem ((c.tc : Thread Cert.FfnLatReferenceIdeal.nD Cert.FfnLatReferenceIdeal.τ).loc Cert.FfnLatReferenceIdeal.main_arg0) = m' ((c.tc : Thread Cert.FfnLatReferenceIdeal.nD Cert.FfnLatReferenceIdeal.τ).loc Cert.FfnLatReferenceIdeal.main_arg0)
          ∧ r.2.mem ((c.tc : Thread Cert.FfnLatReferenceIdeal.nD Cert.FfnLatReferenceIdeal.τ).loc Cert.FfnLatReferenceIdeal.main_arg1) = m' ((c.tc : Thread Cert.FfnLatReferenceIdeal.nD Cert.FfnLatReferenceIdeal.τ).loc Cert.FfnLatReferenceIdeal.main_arg1)
          ∧ r.2.mem ((c.tc : Thread Cert.FfnLatReferenceIdeal.nD Cert.FfnLatReferenceIdeal.τ).loc Cert.FfnLatReferenceIdeal.main_arg2) = m' ((c.tc : Thread Cert.FfnLatReferenceIdeal.nD Cert.FfnLatReferenceIdeal.τ).loc Cert.FfnLatReferenceIdeal.main_arg2)
          ∧ r.2.mem ((c.tc : Thread Cert.FfnLatReferenceIdeal.nD Cert.FfnLatReferenceIdeal.τ).loc Cert.FfnLatReferenceIdeal.main_arg3) = m' ((c.tc : Thread Cert.FfnLatReferenceIdeal.nD Cert.FfnLatReferenceIdeal.τ).loc Cert.FfnLatReferenceIdeal.main_arg3)
          ∧ r.2.mem ((c.tc : Thread Cert.FfnLatReferenceIdeal.nD Cert.FfnLatReferenceIdeal.τ).loc Cert.FfnLatReferenceIdeal.main_arg4) = m' ((c.tc : Thread Cert.FfnLatReferenceIdeal.nD Cert.FfnLatReferenceIdeal.τ).loc Cert.FfnLatReferenceIdeal.main_arg4)
          ∧ r.2.mem ((c.tc : Thread Cert.FfnLatReferenceIdeal.nD Cert.FfnLatReferenceIdeal.τ).loc Cert.FfnLatReferenceIdeal.main_arg5) = m' ((c.tc : Thread Cert.FfnLatReferenceIdeal.nD Cert.FfnLatReferenceIdeal.τ).loc Cert.FfnLatReferenceIdeal.main_arg5)
          ∧ r.2.mem ((c.tc : Thread Cert.FfnLatReferenceIdeal.nD Cert.FfnLatReferenceIdeal.τ).loc Cert.FfnLatReferenceIdeal.main_arg6) = m' ((c.tc : Thread Cert.FfnLatReferenceIdeal.nD Cert.FfnLatReferenceIdeal.τ).loc Cert.FfnLatReferenceIdeal.main_arg6))

def preserves_MergeCtx_MergeCtxIdeal : Prop :=
  True

def algebraic_MergeCtxIdeal_MergeCtxReferenceIdeal [hMergeCtxIdeal : Cert.MergeCtxIdeal.Facts] [hMergeCtxReferenceIdeal : Cert.MergeCtxReferenceIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxReferenceIdeal.nD Cert.MergeCtxReferenceIdeal.τ Cert.MergeCtxReferenceIdeal.sig) → Buf (Elt Ideal) ℓ) (g' : Dev Cert.MergeCtxReferenceIdeal.nD → PrngReg), Pre_MergeCtxIdeal m →
    (∀ c : Dev Cert.MergeCtxIdeal.nD,
      m' ((c.tc : Thread Cert.MergeCtxReferenceIdeal.nD Cert.MergeCtxReferenceIdeal.τ).loc Cert.MergeCtxReferenceIdeal.main_arg0) = m ((c.tc : Thread Cert.MergeCtxIdeal.nD Cert.MergeCtxIdeal.τ).loc Cert.MergeCtxIdeal.main_arg0)
      ∧ m' ((c.tc : Thread Cert.MergeCtxReferenceIdeal.nD Cert.MergeCtxReferenceIdeal.τ).loc Cert.MergeCtxReferenceIdeal.main_arg1) = m ((c.tc : Thread Cert.MergeCtxIdeal.nD Cert.MergeCtxIdeal.τ).loc Cert.MergeCtxIdeal.main_arg1)
      ∧ m' ((c.tc : Thread Cert.MergeCtxReferenceIdeal.nD Cert.MergeCtxReferenceIdeal.τ).loc Cert.MergeCtxReferenceIdeal.main_arg2) = m ((c.tc : Thread Cert.MergeCtxIdeal.nD Cert.MergeCtxIdeal.τ).loc Cert.MergeCtxIdeal.main_arg2)
      ∧ m' ((c.tc : Thread Cert.MergeCtxReferenceIdeal.nD Cert.MergeCtxReferenceIdeal.τ).loc Cert.MergeCtxReferenceIdeal.main_arg3) = m ((c.tc : Thread Cert.MergeCtxIdeal.nD Cert.MergeCtxIdeal.τ).loc Cert.MergeCtxIdeal.main_arg3)
      ∧ m' ((c.tc : Thread Cert.MergeCtxReferenceIdeal.nD Cert.MergeCtxReferenceIdeal.τ).loc Cert.MergeCtxReferenceIdeal.main_arg4) = m ((c.tc : Thread Cert.MergeCtxIdeal.nD Cert.MergeCtxIdeal.τ).loc Cert.MergeCtxIdeal.main_arg4)
      ∧ m' ((c.tc : Thread Cert.MergeCtxReferenceIdeal.nD Cert.MergeCtxReferenceIdeal.τ).loc Cert.MergeCtxReferenceIdeal.main_arg5) = m ((c.tc : Thread Cert.MergeCtxIdeal.nD Cert.MergeCtxIdeal.τ).loc Cert.MergeCtxIdeal.main_arg5)
      ∧ m' ((c.tc : Thread Cert.MergeCtxReferenceIdeal.nD Cert.MergeCtxReferenceIdeal.τ).loc Cert.MergeCtxReferenceIdeal.main_arg6) = m ((c.tc : Thread Cert.MergeCtxIdeal.nD Cert.MergeCtxIdeal.τ).loc Cert.MergeCtxIdeal.main_arg6)
      ∧ m' ((c.tc : Thread Cert.MergeCtxReferenceIdeal.nD Cert.MergeCtxReferenceIdeal.τ).loc Cert.MergeCtxReferenceIdeal.main_arg7) = m ((c.tc : Thread Cert.MergeCtxIdeal.nD Cert.MergeCtxIdeal.τ).loc Cert.MergeCtxIdeal.main_arg7)
      ∧ m' ((c.tc : Thread Cert.MergeCtxReferenceIdeal.nD Cert.MergeCtxReferenceIdeal.τ).loc Cert.MergeCtxReferenceIdeal.main_arg8) = m ((c.tc : Thread Cert.MergeCtxIdeal.nD Cert.MergeCtxIdeal.τ).loc Cert.MergeCtxIdeal.main_arg8)
      ∧ m' ((c.tc : Thread Cert.MergeCtxReferenceIdeal.nD Cert.MergeCtxReferenceIdeal.τ).loc Cert.MergeCtxReferenceIdeal.main_arg9) = m ((c.tc : Thread Cert.MergeCtxIdeal.nD Cert.MergeCtxIdeal.τ).loc Cert.MergeCtxIdeal.main_arg9)
      ∧ m' ((c.tc : Thread Cert.MergeCtxReferenceIdeal.nD Cert.MergeCtxReferenceIdeal.τ).loc Cert.MergeCtxReferenceIdeal.main_arg10) = m ((c.tc : Thread Cert.MergeCtxIdeal.nD Cert.MergeCtxIdeal.τ).loc Cert.MergeCtxIdeal.main_arg10)) →
    ∃ (v0 : (c : Dev Cert.MergeCtxIdeal.nD) → Buf (Elt Ideal) ((c.tc : Thread Cert.MergeCtxIdeal.nD Cert.MergeCtxIdeal.τ).loc Cert.MergeCtxIdeal.main_v11)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v11) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
          ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
          ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
          ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
          ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
          ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9)
          ∧ r.2.mem ((c.tc : Thread Cert.MergeCtxIdeal.nD Cert.MergeCtxIdeal.τ).loc Cert.MergeCtxIdeal.main_arg10) = m ((c.tc : Thread Cert.MergeCtxIdeal.nD Cert.MergeCtxIdeal.τ).loc Cert.MergeCtxIdeal.main_arg10))
      ∧ θ_run (Cert.MergeCtxReferenceIdeal.defs (F := Ideal)) (onTc (τ := Cert.MergeCtxReferenceIdeal.τ) (Cert.MergeCtxReferenceIdeal.main (F := Ideal))) ⟨m', fun _ => 0, g'⟩ (fun r => ∀ c : Dev Cert.MergeCtxReferenceIdeal.nD,
          r.2.mem ((c.tc : Thread Cert.MergeCtxReferenceIdeal.nD Cert.MergeCtxReferenceIdeal.τ).loc Cert.MergeCtxReferenceIdeal.main_v36) = v0 c
          ∧ r.2.mem ((c.tc : Thread Cert.MergeCtxReferenceIdeal.nD Cert.MergeCtxReferenceIdeal.τ).loc Cert.MergeCtxReferenceIdeal.main_arg0) = m' ((c.tc : Thread Cert.MergeCtxReferenceIdeal.nD Cert.MergeCtxReferenceIdeal.τ).loc Cert.MergeCtxReferenceIdeal.main_arg0)
          ∧ r.2.mem ((c.tc : Thread Cert.MergeCtxReferenceIdeal.nD Cert.MergeCtxReferenceIdeal.τ).loc Cert.MergeCtxReferenceIdeal.main_arg1) = m' ((c.tc : Thread Cert.MergeCtxReferenceIdeal.nD Cert.MergeCtxReferenceIdeal.τ).loc Cert.MergeCtxReferenceIdeal.main_arg1)
          ∧ r.2.mem ((c.tc : Thread Cert.MergeCtxReferenceIdeal.nD Cert.MergeCtxReferenceIdeal.τ).loc Cert.MergeCtxReferenceIdeal.main_arg2) = m' ((c.tc : Thread Cert.MergeCtxReferenceIdeal.nD Cert.MergeCtxReferenceIdeal.τ).loc Cert.MergeCtxReferenceIdeal.main_arg2)
          ∧ r.2.mem ((c.tc : Thread Cert.MergeCtxReferenceIdeal.nD Cert.MergeCtxReferenceIdeal.τ).loc Cert.MergeCtxReferenceIdeal.main_arg3) = m' ((c.tc : Thread Cert.MergeCtxReferenceIdeal.nD Cert.MergeCtxReferenceIdeal.τ).loc Cert.MergeCtxReferenceIdeal.main_arg3)
          ∧ r.2.mem ((c.tc : Thread Cert.MergeCtxReferenceIdeal.nD Cert.MergeCtxReferenceIdeal.τ).loc Cert.MergeCtxReferenceIdeal.main_arg4) = m' ((c.tc : Thread Cert.MergeCtxReferenceIdeal.nD Cert.MergeCtxReferenceIdeal.τ).loc Cert.MergeCtxReferenceIdeal.main_arg4)
          ∧ r.2.mem ((c.tc : Thread Cert.MergeCtxReferenceIdeal.nD Cert.MergeCtxReferenceIdeal.τ).loc Cert.MergeCtxReferenceIdeal.main_arg5) = m' ((c.tc : Thread Cert.MergeCtxReferenceIdeal.nD Cert.MergeCtxReferenceIdeal.τ).loc Cert.MergeCtxReferenceIdeal.main_arg5)
          ∧ r.2.mem ((c.tc : Thread Cert.MergeCtxReferenceIdeal.nD Cert.MergeCtxReferenceIdeal.τ).loc Cert.MergeCtxReferenceIdeal.main_arg6) = m' ((c.tc : Thread Cert.MergeCtxReferenceIdeal.nD Cert.MergeCtxReferenceIdeal.τ).loc Cert.MergeCtxReferenceIdeal.main_arg6)
          ∧ r.2.mem ((c.tc : Thread Cert.MergeCtxReferenceIdeal.nD Cert.MergeCtxReferenceIdeal.τ).loc Cert.MergeCtxReferenceIdeal.main_arg7) = m' ((c.tc : Thread Cert.MergeCtxReferenceIdeal.nD Cert.MergeCtxReferenceIdeal.τ).loc Cert.MergeCtxReferenceIdeal.main_arg7)
          ∧ r.2.mem ((c.tc : Thread Cert.MergeCtxReferenceIdeal.nD Cert.MergeCtxReferenceIdeal.τ).loc Cert.MergeCtxReferenceIdeal.main_arg8) = m' ((c.tc : Thread Cert.MergeCtxReferenceIdeal.nD Cert.MergeCtxReferenceIdeal.τ).loc Cert.MergeCtxReferenceIdeal.main_arg8)
          ∧ r.2.mem ((c.tc : Thread Cert.MergeCtxReferenceIdeal.nD Cert.MergeCtxReferenceIdeal.τ).loc Cert.MergeCtxReferenceIdeal.main_arg9) = m' ((c.tc : Thread Cert.MergeCtxReferenceIdeal.nD Cert.MergeCtxReferenceIdeal.τ).loc Cert.MergeCtxReferenceIdeal.main_arg9)
          ∧ r.2.mem ((c.tc : Thread Cert.MergeCtxReferenceIdeal.nD Cert.MergeCtxReferenceIdeal.τ).loc Cert.MergeCtxReferenceIdeal.main_arg10) = m' ((c.tc : Thread Cert.MergeCtxReferenceIdeal.nD Cert.MergeCtxReferenceIdeal.τ).loc Cert.MergeCtxReferenceIdeal.main_arg10))

def preserves_FfnCtx_FfnCtxIdeal : Prop :=
  True

def algebraic_FfnCtxIdeal_FfnCtxReferenceIdeal_pre_ffn_ctx_finite [hFfnCtxIdeal : Cert.FfnCtxIdeal.Facts] [hFfnCtxReferenceIdeal : Cert.FfnCtxReferenceIdeal.Facts] [hPre_ffn_ctx_finite : Cert.Pre_ffn_ctx_finite.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxReferenceIdeal.nD Cert.FfnCtxReferenceIdeal.τ Cert.FfnCtxReferenceIdeal.sig) → Buf (Elt Ideal) ℓ) (g' : Dev Cert.FfnCtxReferenceIdeal.nD → PrngReg), Pre_FfnCtxIdeal_ffn_ctx_finite m →
    (∀ c : Dev Cert.FfnCtxIdeal.nD,
      m' ((c.tc : Thread Cert.FfnCtxReferenceIdeal.nD Cert.FfnCtxReferenceIdeal.τ).loc Cert.FfnCtxReferenceIdeal.main_arg0) = m ((c.tc : Thread Cert.FfnCtxIdeal.nD Cert.FfnCtxIdeal.τ).loc Cert.FfnCtxIdeal.main_arg0)
      ∧ m' ((c.tc : Thread Cert.FfnCtxReferenceIdeal.nD Cert.FfnCtxReferenceIdeal.τ).loc Cert.FfnCtxReferenceIdeal.main_arg1) = m ((c.tc : Thread Cert.FfnCtxIdeal.nD Cert.FfnCtxIdeal.τ).loc Cert.FfnCtxIdeal.main_arg1)
      ∧ m' ((c.tc : Thread Cert.FfnCtxReferenceIdeal.nD Cert.FfnCtxReferenceIdeal.τ).loc Cert.FfnCtxReferenceIdeal.main_arg2) = m ((c.tc : Thread Cert.FfnCtxIdeal.nD Cert.FfnCtxIdeal.τ).loc Cert.FfnCtxIdeal.main_arg2)
      ∧ m' ((c.tc : Thread Cert.FfnCtxReferenceIdeal.nD Cert.FfnCtxReferenceIdeal.τ).loc Cert.FfnCtxReferenceIdeal.main_arg3) = m ((c.tc : Thread Cert.FfnCtxIdeal.nD Cert.FfnCtxIdeal.τ).loc Cert.FfnCtxIdeal.main_arg3)
      ∧ m' ((c.tc : Thread Cert.FfnCtxReferenceIdeal.nD Cert.FfnCtxReferenceIdeal.τ).loc Cert.FfnCtxReferenceIdeal.main_arg4) = m ((c.tc : Thread Cert.FfnCtxIdeal.nD Cert.FfnCtxIdeal.τ).loc Cert.FfnCtxIdeal.main_arg4)
      ∧ m' ((c.tc : Thread Cert.FfnCtxReferenceIdeal.nD Cert.FfnCtxReferenceIdeal.τ).loc Cert.FfnCtxReferenceIdeal.main_arg5) = m ((c.tc : Thread Cert.FfnCtxIdeal.nD Cert.FfnCtxIdeal.τ).loc Cert.FfnCtxIdeal.main_arg5)
      ∧ m' ((c.tc : Thread Cert.FfnCtxReferenceIdeal.nD Cert.FfnCtxReferenceIdeal.τ).loc Cert.FfnCtxReferenceIdeal.main_arg6) = m ((c.tc : Thread Cert.FfnCtxIdeal.nD Cert.FfnCtxIdeal.τ).loc Cert.FfnCtxIdeal.main_arg6)) →
    ∃ (v0 : (c : Dev Cert.FfnCtxIdeal.nD) → Buf (Elt Ideal) ((c.tc : Thread Cert.FfnCtxIdeal.nD Cert.FfnCtxIdeal.τ).loc Cert.FfnCtxIdeal.main_v7)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v7) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ θ_run (Cert.FfnCtxReferenceIdeal.defs (F := Ideal)) (onTc (τ := Cert.FfnCtxReferenceIdeal.τ) (Cert.FfnCtxReferenceIdeal.main (F := Ideal))) ⟨m', fun _ => 0, g'⟩ (fun r => ∀ c : Dev Cert.FfnCtxReferenceIdeal.nD,
          r.2.mem ((c.tc : Thread Cert.FfnCtxReferenceIdeal.nD Cert.FfnCtxReferenceIdeal.τ).loc Cert.FfnCtxReferenceIdeal.main_v55) = v0 c
          ∧ r.2.mem ((c.tc : Thread Cert.FfnCtxReferenceIdeal.nD Cert.FfnCtxReferenceIdeal.τ).loc Cert.FfnCtxReferenceIdeal.main_arg0) = m' ((c.tc : Thread Cert.FfnCtxReferenceIdeal.nD Cert.FfnCtxReferenceIdeal.τ).loc Cert.FfnCtxReferenceIdeal.main_arg0)
          ∧ r.2.mem ((c.tc : Thread Cert.FfnCtxReferenceIdeal.nD Cert.FfnCtxReferenceIdeal.τ).loc Cert.FfnCtxReferenceIdeal.main_arg1) = m' ((c.tc : Thread Cert.FfnCtxReferenceIdeal.nD Cert.FfnCtxReferenceIdeal.τ).loc Cert.FfnCtxReferenceIdeal.main_arg1)
          ∧ r.2.mem ((c.tc : Thread Cert.FfnCtxReferenceIdeal.nD Cert.FfnCtxReferenceIdeal.τ).loc Cert.FfnCtxReferenceIdeal.main_arg2) = m' ((c.tc : Thread Cert.FfnCtxReferenceIdeal.nD Cert.FfnCtxReferenceIdeal.τ).loc Cert.FfnCtxReferenceIdeal.main_arg2)
          ∧ r.2.mem ((c.tc : Thread Cert.FfnCtxReferenceIdeal.nD Cert.FfnCtxReferenceIdeal.τ).loc Cert.FfnCtxReferenceIdeal.main_arg3) = m' ((c.tc : Thread Cert.FfnCtxReferenceIdeal.nD Cert.FfnCtxReferenceIdeal.τ).loc Cert.FfnCtxReferenceIdeal.main_arg3)
          ∧ r.2.mem ((c.tc : Thread Cert.FfnCtxReferenceIdeal.nD Cert.FfnCtxReferenceIdeal.τ).loc Cert.FfnCtxReferenceIdeal.main_arg4) = m' ((c.tc : Thread Cert.FfnCtxReferenceIdeal.nD Cert.FfnCtxReferenceIdeal.τ).loc Cert.FfnCtxReferenceIdeal.main_arg4)
          ∧ r.2.mem ((c.tc : Thread Cert.FfnCtxReferenceIdeal.nD Cert.FfnCtxReferenceIdeal.τ).loc Cert.FfnCtxReferenceIdeal.main_arg5) = m' ((c.tc : Thread Cert.FfnCtxReferenceIdeal.nD Cert.FfnCtxReferenceIdeal.τ).loc Cert.FfnCtxReferenceIdeal.main_arg5)
          ∧ r.2.mem ((c.tc : Thread Cert.FfnCtxReferenceIdeal.nD Cert.FfnCtxReferenceIdeal.τ).loc Cert.FfnCtxReferenceIdeal.main_arg6) = m' ((c.tc : Thread Cert.FfnCtxReferenceIdeal.nD Cert.FfnCtxReferenceIdeal.τ).loc Cert.FfnCtxReferenceIdeal.main_arg6))

def preserves_CtxAttn_CtxAttnIdeal : Prop :=
  True

def algebraic_CtxAttnIdeal_CtxAttnReferenceIdeal_pre_ctx_scores_finite [hCtxAttnIdeal : Cert.CtxAttnIdeal.Facts] [hCtxAttnReferenceIdeal : Cert.CtxAttnReferenceIdeal.Facts] [hPre_ctx_scores_finite : Cert.Pre_ctx_scores_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnReferenceIdeal.nD Cert.CtxAttnReferenceIdeal.τ Cert.CtxAttnReferenceIdeal.sig) → Buf (Elt Ideal) ℓ) (g' : Dev Cert.CtxAttnReferenceIdeal.nD → PrngReg), Pre_CtxAttnIdeal_ctx_scores_finite m →
    (∀ c : Dev Cert.CtxAttnIdeal.nD,
      m' ((c.tc : Thread Cert.CtxAttnReferenceIdeal.nD Cert.CtxAttnReferenceIdeal.τ).loc Cert.CtxAttnReferenceIdeal.main_arg0) = m ((c.tc : Thread Cert.CtxAttnIdeal.nD Cert.CtxAttnIdeal.τ).loc Cert.CtxAttnIdeal.main_arg0)
      ∧ m' ((c.tc : Thread Cert.CtxAttnReferenceIdeal.nD Cert.CtxAttnReferenceIdeal.τ).loc Cert.CtxAttnReferenceIdeal.main_arg1) = m ((c.tc : Thread Cert.CtxAttnIdeal.nD Cert.CtxAttnIdeal.τ).loc Cert.CtxAttnIdeal.main_arg1)
      ∧ m' ((c.tc : Thread Cert.CtxAttnReferenceIdeal.nD Cert.CtxAttnReferenceIdeal.τ).loc Cert.CtxAttnReferenceIdeal.main_arg2) = m ((c.tc : Thread Cert.CtxAttnIdeal.nD Cert.CtxAttnIdeal.τ).loc Cert.CtxAttnIdeal.main_arg2)
      ∧ m' ((c.tc : Thread Cert.CtxAttnReferenceIdeal.nD Cert.CtxAttnReferenceIdeal.τ).loc Cert.CtxAttnReferenceIdeal.main_arg3) = m ((c.tc : Thread Cert.CtxAttnIdeal.nD Cert.CtxAttnIdeal.τ).loc Cert.CtxAttnIdeal.main_arg3)) →
    ∃ (v0 : (c : Dev Cert.CtxAttnIdeal.nD) → Buf (Elt Ideal) ((c.tc : Thread Cert.CtxAttnIdeal.nD Cert.CtxAttnIdeal.τ).loc Cert.CtxAttnIdeal.main_v10)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v10) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0)
          ∧ r.2.mem ((c.tc : Thread Cert.CtxAttnIdeal.nD Cert.CtxAttnIdeal.τ).loc Cert.CtxAttnIdeal.main_arg1) = m ((c.tc : Thread Cert.CtxAttnIdeal.nD Cert.CtxAttnIdeal.τ).loc Cert.CtxAttnIdeal.main_arg1)
          ∧ r.2.mem ((c.tc : Thread Cert.CtxAttnIdeal.nD Cert.CtxAttnIdeal.τ).loc Cert.CtxAttnIdeal.main_arg2) = m ((c.tc : Thread Cert.CtxAttnIdeal.nD Cert.CtxAttnIdeal.τ).loc Cert.CtxAttnIdeal.main_arg2)
          ∧ r.2.mem ((c.tc : Thread Cert.CtxAttnIdeal.nD Cert.CtxAttnIdeal.τ).loc Cert.CtxAttnIdeal.main_arg3) = m ((c.tc : Thread Cert.CtxAttnIdeal.nD Cert.CtxAttnIdeal.τ).loc Cert.CtxAttnIdeal.main_arg3))
      ∧ θ_run (Cert.CtxAttnReferenceIdeal.defs (F := Ideal)) (onTc (τ := Cert.CtxAttnReferenceIdeal.τ) (Cert.CtxAttnReferenceIdeal.main (F := Ideal))) ⟨m', fun _ => 0, g'⟩ (fun r => ∀ c : Dev Cert.CtxAttnReferenceIdeal.nD,
          r.2.mem ((c.tc : Thread Cert.CtxAttnReferenceIdeal.nD Cert.CtxAttnReferenceIdeal.τ).loc Cert.CtxAttnReferenceIdeal.main_v17) = v0 c
          ∧ r.2.mem ((c.tc : Thread Cert.CtxAttnReferenceIdeal.nD Cert.CtxAttnReferenceIdeal.τ).loc Cert.CtxAttnReferenceIdeal.main_arg0) = m' ((c.tc : Thread Cert.CtxAttnReferenceIdeal.nD Cert.CtxAttnReferenceIdeal.τ).loc Cert.CtxAttnReferenceIdeal.main_arg0)
          ∧ r.2.mem ((c.tc : Thread Cert.CtxAttnReferenceIdeal.nD Cert.CtxAttnReferenceIdeal.τ).loc Cert.CtxAttnReferenceIdeal.main_arg1) = m' ((c.tc : Thread Cert.CtxAttnReferenceIdeal.nD Cert.CtxAttnReferenceIdeal.τ).loc Cert.CtxAttnReferenceIdeal.main_arg1)
          ∧ r.2.mem ((c.tc : Thread Cert.CtxAttnReferenceIdeal.nD Cert.CtxAttnReferenceIdeal.τ).loc Cert.CtxAttnReferenceIdeal.main_arg2) = m' ((c.tc : Thread Cert.CtxAttnReferenceIdeal.nD Cert.CtxAttnReferenceIdeal.τ).loc Cert.CtxAttnReferenceIdeal.main_arg2)
          ∧ r.2.mem ((c.tc : Thread Cert.CtxAttnReferenceIdeal.nD Cert.CtxAttnReferenceIdeal.τ).loc Cert.CtxAttnReferenceIdeal.main_arg3) = m' ((c.tc : Thread Cert.CtxAttnReferenceIdeal.nD Cert.CtxAttnReferenceIdeal.τ).loc Cert.CtxAttnReferenceIdeal.main_arg3))

def preserves_InALat_InALatIdeal : Prop :=
  True

def algebraic_InALatIdeal_InALatReferenceIdeal [hInALatIdeal : Cert.InALatIdeal.Facts] [hInALatReferenceIdeal : Cert.InALatReferenceIdeal.Facts] : Prop :=
  ∀ (m : (ℓ : Loc Cert.InALatIdeal.nD Cert.InALatIdeal.τ Cert.InALatIdeal.sig) → Buf (Elt Ideal) ℓ) (g : Dev Cert.InALatIdeal.nD → PrngReg)
    (m' : (ℓ : Loc Cert.InALatReferenceIdeal.nD Cert.InALatReferenceIdeal.τ Cert.InALatReferenceIdeal.sig) → Buf (Elt Ideal) ℓ) (g' : Dev Cert.InALatReferenceIdeal.nD → PrngReg), Pre_InALatIdeal m →
    (∀ c : Dev Cert.InALatIdeal.nD,
      m' ((c.tc : Thread Cert.InALatReferenceIdeal.nD Cert.InALatReferenceIdeal.τ).loc Cert.InALatReferenceIdeal.main_arg0) = m ((c.tc : Thread Cert.InALatIdeal.nD Cert.InALatIdeal.τ).loc Cert.InALatIdeal.main_arg0)
      ∧ m' ((c.tc : Thread Cert.InALatReferenceIdeal.nD Cert.InALatReferenceIdeal.τ).loc Cert.InALatReferenceIdeal.main_arg1) = m ((c.tc : Thread Cert.InALatIdeal.nD Cert.InALatIdeal.τ).loc Cert.InALatIdeal.main_arg1)
      ∧ m' ((c.tc : Thread Cert.InALatReferenceIdeal.nD Cert.InALatReferenceIdeal.τ).loc Cert.InALatReferenceIdeal.main_arg2) = m ((c.tc : Thread Cert.InALatIdeal.nD Cert.InALatIdeal.τ).loc Cert.InALatIdeal.main_arg2)
      ∧ m' ((c.tc : Thread Cert.InALatReferenceIdeal.nD Cert.InALatReferenceIdeal.τ).loc Cert.InALatReferenceIdeal.main_arg3) = m ((c.tc : Thread Cert.InALatIdeal.nD Cert.InALatIdeal.τ).loc Cert.InALatIdeal.main_arg3)
      ∧ m' ((c.tc : Thread Cert.InALatReferenceIdeal.nD Cert.InALatReferenceIdeal.τ).loc Cert.InALatReferenceIdeal.main_arg4) = m ((c.tc : Thread Cert.InALatIdeal.nD Cert.InALatIdeal.τ).loc Cert.InALatIdeal.main_arg4)
      ∧ m' ((c.tc : Thread Cert.InALatReferenceIdeal.nD Cert.InALatReferenceIdeal.τ).loc Cert.InALatReferenceIdeal.main_arg5) = m ((c.tc : Thread Cert.InALatIdeal.nD Cert.InALatIdeal.τ).loc Cert.InALatIdeal.main_arg5)) →
    ∃ (v0 : (c : Dev Cert.InALatIdeal.nD) → Buf (Elt Ideal) ((c.tc : Thread Cert.InALatIdeal.nD Cert.InALatIdeal.τ).loc Cert.InALatIdeal.main_v25)),
      θ_run (Cert.InALatIdeal.defs (F := Ideal)) (onTc (τ := Cert.InALatIdeal.τ) (Cert.InALatIdeal.main (F := Ideal))) ⟨m, fun _ => 0, g⟩ (fun r => ∀ c : Dev Cert.InALatIdeal.nD,
          r.2.mem ((c.tc : Thread Cert.InALatIdeal.nD Cert.InALatIdeal.τ).loc Cert.InALatIdeal.main_v25) = v0 c
          ∧ r.2.mem ((c.tc : Thread Cert.InALatIdeal.nD Cert.InALatIdeal.τ).loc Cert.InALatIdeal.main_arg0) = m ((c.tc : Thread Cert.InALatIdeal.nD Cert.InALatIdeal.τ).loc Cert.InALatIdeal.main_arg0)
          ∧ r.2.mem ((c.tc : Thread Cert.InALatIdeal.nD Cert.InALatIdeal.τ).loc Cert.InALatIdeal.main_arg1) = m ((c.tc : Thread Cert.InALatIdeal.nD Cert.InALatIdeal.τ).loc Cert.InALatIdeal.main_arg1)
          ∧ r.2.mem ((c.tc : Thread Cert.InALatIdeal.nD Cert.InALatIdeal.τ).loc Cert.InALatIdeal.main_arg2) = m ((c.tc : Thread Cert.InALatIdeal.nD Cert.InALatIdeal.τ).loc Cert.InALatIdeal.main_arg2)
          ∧ r.2.mem ((c.tc : Thread Cert.InALatIdeal.nD Cert.InALatIdeal.τ).loc Cert.InALatIdeal.main_arg3) = m ((c.tc : Thread Cert.InALatIdeal.nD Cert.InALatIdeal.τ).loc Cert.InALatIdeal.main_arg3)
          ∧ r.2.mem ((c.tc : Thread Cert.InALatIdeal.nD Cert.InALatIdeal.τ).loc Cert.InALatIdeal.main_arg4) = m ((c.tc : Thread Cert.InALatIdeal.nD Cert.InALatIdeal.τ).loc Cert.InALatIdeal.main_arg4)
          ∧ r.2.mem ((c.tc : Thread Cert.InALatIdeal.nD Cert.InALatIdeal.τ).loc Cert.InALatIdeal.main_arg5) = m ((c.tc : Thread Cert.InALatIdeal.nD Cert.InALatIdeal.τ).loc Cert.InALatIdeal.main_arg5))
      ∧ θ_run (Cert.InALatReferenceIdeal.defs (F := Ideal)) (onTc (τ := Cert.InALatReferenceIdeal.τ) (Cert.InALatReferenceIdeal.main (F := Ideal))) ⟨m', fun _ => 0, g'⟩ (fun r => ∀ c : Dev Cert.InALatReferenceIdeal.nD,
          r.2.mem ((c.tc : Thread Cert.InALatReferenceIdeal.nD Cert.InALatReferenceIdeal.τ).loc Cert.InALatReferenceIdeal.main_v58) = v0 c
          ∧ r.2.mem ((c.tc : Thread Cert.InALatReferenceIdeal.nD Cert.InALatReferenceIdeal.τ).loc Cert.InALatReferenceIdeal.main_arg0) = m' ((c.tc : Thread Cert.InALatReferenceIdeal.nD Cert.InALatReferenceIdeal.τ).loc Cert.InALatReferenceIdeal.main_arg0)
          ∧ r.2.mem ((c.tc : Thread Cert.InALatReferenceIdeal.nD Cert.InALatReferenceIdeal.τ).loc Cert.InALatReferenceIdeal.main_arg1) = m' ((c.tc : Thread Cert.InALatReferenceIdeal.nD Cert.InALatReferenceIdeal.τ).loc Cert.InALatReferenceIdeal.main_arg1)
          ∧ r.2.mem ((c.tc : Thread Cert.InALatReferenceIdeal.nD Cert.InALatReferenceIdeal.τ).loc Cert.InALatReferenceIdeal.main_arg2) = m' ((c.tc : Thread Cert.InALatReferenceIdeal.nD Cert.InALatReferenceIdeal.τ).loc Cert.InALatReferenceIdeal.main_arg2)
          ∧ r.2.mem ((c.tc : Thread Cert.InALatReferenceIdeal.nD Cert.InALatReferenceIdeal.τ).loc Cert.InALatReferenceIdeal.main_arg3) = m' ((c.tc : Thread Cert.InALatReferenceIdeal.nD Cert.InALatReferenceIdeal.τ).loc Cert.InALatReferenceIdeal.main_arg3)
          ∧ r.2.mem ((c.tc : Thread Cert.InALatReferenceIdeal.nD Cert.InALatReferenceIdeal.τ).loc Cert.InALatReferenceIdeal.main_arg4) = m' ((c.tc : Thread Cert.InALatReferenceIdeal.nD Cert.InALatReferenceIdeal.τ).loc Cert.InALatReferenceIdeal.main_arg4)
          ∧ r.2.mem ((c.tc : Thread Cert.InALatReferenceIdeal.nD Cert.InALatReferenceIdeal.τ).loc Cert.InALatReferenceIdeal.main_arg5) = m' ((c.tc : Thread Cert.InALatReferenceIdeal.nD Cert.InALatReferenceIdeal.τ).loc Cert.InALatReferenceIdeal.main_arg5))

def preserves_InBLat_InBLatIdeal : Prop :=
  True

def algebraic_InBLatIdeal_InBLatReferenceIdeal_pre_in_b_finite [hInBLatIdeal : Cert.InBLatIdeal.Facts] [hInBLatReferenceIdeal : Cert.InBLatReferenceIdeal.Facts] [hPre_in_b_finite : Cert.Pre_in_b_finite.Facts] : Prop :=
  ∀ (m : (ℓ : Loc Cert.InBLatIdeal.nD Cert.InBLatIdeal.τ Cert.InBLatIdeal.sig) → Buf (Elt Ideal) ℓ) (g : Dev Cert.InBLatIdeal.nD → PrngReg)
    (m' : (ℓ : Loc Cert.InBLatReferenceIdeal.nD Cert.InBLatReferenceIdeal.τ Cert.InBLatReferenceIdeal.sig) → Buf (Elt Ideal) ℓ) (g' : Dev Cert.InBLatReferenceIdeal.nD → PrngReg), Pre_InBLatIdeal_in_b_finite m →
    (∀ c : Dev Cert.InBLatIdeal.nD,
      m' ((c.tc : Thread Cert.InBLatReferenceIdeal.nD Cert.InBLatReferenceIdeal.τ).loc Cert.InBLatReferenceIdeal.main_arg0) = m ((c.tc : Thread Cert.InBLatIdeal.nD Cert.InBLatIdeal.τ).loc Cert.InBLatIdeal.main_arg0)
      ∧ m' ((c.tc : Thread Cert.InBLatReferenceIdeal.nD Cert.InBLatReferenceIdeal.τ).loc Cert.InBLatReferenceIdeal.main_arg1) = m ((c.tc : Thread Cert.InBLatIdeal.nD Cert.InBLatIdeal.τ).loc Cert.InBLatIdeal.main_arg1)
      ∧ m' ((c.tc : Thread Cert.InBLatReferenceIdeal.nD Cert.InBLatReferenceIdeal.τ).loc Cert.InBLatReferenceIdeal.main_arg2) = m ((c.tc : Thread Cert.InBLatIdeal.nD Cert.InBLatIdeal.τ).loc Cert.InBLatIdeal.main_arg2)
      ∧ m' ((c.tc : Thread Cert.InBLatReferenceIdeal.nD Cert.InBLatReferenceIdeal.τ).loc Cert.InBLatReferenceIdeal.main_arg3) = m ((c.tc : Thread Cert.InBLatIdeal.nD Cert.InBLatIdeal.τ).loc Cert.InBLatIdeal.main_arg3)
      ∧ m' ((c.tc : Thread Cert.InBLatReferenceIdeal.nD Cert.InBLatReferenceIdeal.τ).loc Cert.InBLatReferenceIdeal.main_arg4) = m ((c.tc : Thread Cert.InBLatIdeal.nD Cert.InBLatIdeal.τ).loc Cert.InBLatIdeal.main_arg4)
      ∧ m' ((c.tc : Thread Cert.InBLatReferenceIdeal.nD Cert.InBLatReferenceIdeal.τ).loc Cert.InBLatReferenceIdeal.main_arg5) = m ((c.tc : Thread Cert.InBLatIdeal.nD Cert.InBLatIdeal.τ).loc Cert.InBLatIdeal.main_arg5)) →
    ∃ (v0 : (c : Dev Cert.InBLatIdeal.nD) → Buf (Elt Ideal) ((c.tc : Thread Cert.InBLatIdeal.nD Cert.InBLatIdeal.τ).loc Cert.InBLatIdeal.main_v23_0)) (v1 : (c : Dev Cert.InBLatIdeal.nD) → Buf (Elt Ideal) ((c.tc : Thread Cert.InBLatIdeal.nD Cert.InBLatIdeal.τ).loc Cert.InBLatIdeal.main_v23_1)),
      θ_run (Cert.InBLatIdeal.defs (F := Ideal)) (onTc (τ := Cert.InBLatIdeal.τ) (Cert.InBLatIdeal.main (F := Ideal))) ⟨m, fun _ => 0, g⟩ (fun r => ∀ c : Dev Cert.InBLatIdeal.nD,
          r.2.mem ((c.tc : Thread Cert.InBLatIdeal.nD Cert.InBLatIdeal.τ).loc Cert.InBLatIdeal.main_v23_0) = v0 c
          ∧ r.2.mem ((c.tc : Thread Cert.InBLatIdeal.nD Cert.InBLatIdeal.τ).loc Cert.InBLatIdeal.main_v23_1) = v1 c
          ∧ r.2.mem ((c.tc : Thread Cert.InBLatIdeal.nD Cert.InBLatIdeal.τ).loc Cert.InBLatIdeal.main_arg0) = m ((c.tc : Thread Cert.InBLatIdeal.nD Cert.InBLatIdeal.τ).loc Cert.InBLatIdeal.main_arg0)
          ∧ r.2.mem ((c.tc : Thread Cert.InBLatIdeal.nD Cert.InBLatIdeal.τ).loc Cert.InBLatIdeal.main_arg1) = m ((c.tc : Thread Cert.InBLatIdeal.nD Cert.InBLatIdeal.τ).loc Cert.InBLatIdeal.main_arg1)
          ∧ r.2.mem ((c.tc : Thread Cert.InBLatIdeal.nD Cert.InBLatIdeal.τ).loc Cert.InBLatIdeal.main_arg2) = m ((c.tc : Thread Cert.InBLatIdeal.nD Cert.InBLatIdeal.τ).loc Cert.InBLatIdeal.main_arg2)
          ∧ r.2.mem ((c.tc : Thread Cert.InBLatIdeal.nD Cert.InBLatIdeal.τ).loc Cert.InBLatIdeal.main_arg3) = m ((c.tc : Thread Cert.InBLatIdeal.nD Cert.InBLatIdeal.τ).loc Cert.InBLatIdeal.main_arg3)
          ∧ r.2.mem ((c.tc : Thread Cert.InBLatIdeal.nD Cert.InBLatIdeal.τ).loc Cert.InBLatIdeal.main_arg4) = m ((c.tc : Thread Cert.InBLatIdeal.nD Cert.InBLatIdeal.τ).loc Cert.InBLatIdeal.main_arg4)
          ∧ r.2.mem ((c.tc : Thread Cert.InBLatIdeal.nD Cert.InBLatIdeal.τ).loc Cert.InBLatIdeal.main_arg5) = m ((c.tc : Thread Cert.InBLatIdeal.nD Cert.InBLatIdeal.τ).loc Cert.InBLatIdeal.main_arg5))
      ∧ θ_run (Cert.InBLatReferenceIdeal.defs (F := Ideal)) (onTc (τ := Cert.InBLatReferenceIdeal.τ) (Cert.InBLatReferenceIdeal.main (F := Ideal))) ⟨m', fun _ => 0, g'⟩ (fun r => ∀ c : Dev Cert.InBLatReferenceIdeal.nD,
          r.2.mem ((c.tc : Thread Cert.InBLatReferenceIdeal.nD Cert.InBLatReferenceIdeal.τ).loc Cert.InBLatReferenceIdeal.main_v67) = v0 c
          ∧ r.2.mem ((c.tc : Thread Cert.InBLatReferenceIdeal.nD Cert.InBLatReferenceIdeal.τ).loc Cert.InBLatReferenceIdeal.main_v68) = v1 c
          ∧ r.2.mem ((c.tc : Thread Cert.InBLatReferenceIdeal.nD Cert.InBLatReferenceIdeal.τ).loc Cert.InBLatReferenceIdeal.main_arg0) = m' ((c.tc : Thread Cert.InBLatReferenceIdeal.nD Cert.InBLatReferenceIdeal.τ).loc Cert.InBLatReferenceIdeal.main_arg0)
          ∧ r.2.mem ((c.tc : Thread Cert.InBLatReferenceIdeal.nD Cert.InBLatReferenceIdeal.τ).loc Cert.InBLatReferenceIdeal.main_arg1) = m' ((c.tc : Thread Cert.InBLatReferenceIdeal.nD Cert.InBLatReferenceIdeal.τ).loc Cert.InBLatReferenceIdeal.main_arg1)
          ∧ r.2.mem ((c.tc : Thread Cert.InBLatReferenceIdeal.nD Cert.InBLatReferenceIdeal.τ).loc Cert.InBLatReferenceIdeal.main_arg2) = m' ((c.tc : Thread Cert.InBLatReferenceIdeal.nD Cert.InBLatReferenceIdeal.τ).loc Cert.InBLatReferenceIdeal.main_arg2)
          ∧ r.2.mem ((c.tc : Thread Cert.InBLatReferenceIdeal.nD Cert.InBLatReferenceIdeal.τ).loc Cert.InBLatReferenceIdeal.main_arg3) = m' ((c.tc : Thread Cert.InBLatReferenceIdeal.nD Cert.InBLatReferenceIdeal.τ).loc Cert.InBLatReferenceIdeal.main_arg3)
          ∧ r.2.mem ((c.tc : Thread Cert.InBLatReferenceIdeal.nD Cert.InBLatReferenceIdeal.τ).loc Cert.InBLatReferenceIdeal.main_arg4) = m' ((c.tc : Thread Cert.InBLatReferenceIdeal.nD Cert.InBLatReferenceIdeal.τ).loc Cert.InBLatReferenceIdeal.main_arg4)
          ∧ r.2.mem ((c.tc : Thread Cert.InBLatReferenceIdeal.nD Cert.InBLatReferenceIdeal.τ).loc Cert.InBLatReferenceIdeal.main_arg5) = m' ((c.tc : Thread Cert.InBLatReferenceIdeal.nD Cert.InBLatReferenceIdeal.τ).loc Cert.InBLatReferenceIdeal.main_arg5))

def preserves_InACtx_InACtxIdeal : Prop :=
  True

def algebraic_InACtxIdeal_InACtxReferenceIdeal [hInACtxIdeal : Cert.InACtxIdeal.Facts] [hInACtxReferenceIdeal : Cert.InACtxReferenceIdeal.Facts] : Prop :=
  ∀ (m : (ℓ : Loc Cert.InACtxIdeal.nD Cert.InACtxIdeal.τ Cert.InACtxIdeal.sig) → Buf (Elt Ideal) ℓ) (g : Dev Cert.InACtxIdeal.nD → PrngReg)
    (m' : (ℓ : Loc Cert.InACtxReferenceIdeal.nD Cert.InACtxReferenceIdeal.τ Cert.InACtxReferenceIdeal.sig) → Buf (Elt Ideal) ℓ) (g' : Dev Cert.InACtxReferenceIdeal.nD → PrngReg), Pre_InACtxIdeal m →
    (∀ c : Dev Cert.InACtxIdeal.nD,
      m' ((c.tc : Thread Cert.InACtxReferenceIdeal.nD Cert.InACtxReferenceIdeal.τ).loc Cert.InACtxReferenceIdeal.main_arg0) = m ((c.tc : Thread Cert.InACtxIdeal.nD Cert.InACtxIdeal.τ).loc Cert.InACtxIdeal.main_arg0)
      ∧ m' ((c.tc : Thread Cert.InACtxReferenceIdeal.nD Cert.InACtxReferenceIdeal.τ).loc Cert.InACtxReferenceIdeal.main_arg1) = m ((c.tc : Thread Cert.InACtxIdeal.nD Cert.InACtxIdeal.τ).loc Cert.InACtxIdeal.main_arg1)
      ∧ m' ((c.tc : Thread Cert.InACtxReferenceIdeal.nD Cert.InACtxReferenceIdeal.τ).loc Cert.InACtxReferenceIdeal.main_arg2) = m ((c.tc : Thread Cert.InACtxIdeal.nD Cert.InACtxIdeal.τ).loc Cert.InACtxIdeal.main_arg2)
      ∧ m' ((c.tc : Thread Cert.InACtxReferenceIdeal.nD Cert.InACtxReferenceIdeal.τ).loc Cert.InACtxReferenceIdeal.main_arg3) = m ((c.tc : Thread Cert.InACtxIdeal.nD Cert.InACtxIdeal.τ).loc Cert.InACtxIdeal.main_arg3)
      ∧ m' ((c.tc : Thread Cert.InACtxReferenceIdeal.nD Cert.InACtxReferenceIdeal.τ).loc Cert.InACtxReferenceIdeal.main_arg4) = m ((c.tc : Thread Cert.InACtxIdeal.nD Cert.InACtxIdeal.τ).loc Cert.InACtxIdeal.main_arg4)
      ∧ m' ((c.tc : Thread Cert.InACtxReferenceIdeal.nD Cert.InACtxReferenceIdeal.τ).loc Cert.InACtxReferenceIdeal.main_arg5) = m ((c.tc : Thread Cert.InACtxIdeal.nD Cert.InACtxIdeal.τ).loc Cert.InACtxIdeal.main_arg5)) →
    ∃ (v0 : (c : Dev Cert.InACtxIdeal.nD) → Buf (Elt Ideal) ((c.tc : Thread Cert.InACtxIdeal.nD Cert.InACtxIdeal.τ).loc Cert.InACtxIdeal.main_v26_0)) (v1 : (c : Dev Cert.InACtxIdeal.nD) → Buf (Elt Ideal) ((c.tc : Thread Cert.InACtxIdeal.nD Cert.InACtxIdeal.τ).loc Cert.InACtxIdeal.main_v26_1)) (v2 : (c : Dev Cert.InACtxIdeal.nD) → Buf (Elt Ideal) ((c.tc : Thread Cert.InACtxIdeal.nD Cert.InACtxIdeal.τ).loc Cert.InACtxIdeal.main_v26_2)),
      θ_run (Cert.InACtxIdeal.defs (F := Ideal)) (onTc (τ := Cert.InACtxIdeal.τ) (Cert.InACtxIdeal.main (F := Ideal))) ⟨m, fun _ => 0, g⟩ (fun r => ∀ c : Dev Cert.InACtxIdeal.nD,
          r.2.mem ((c.tc : Thread Cert.InACtxIdeal.nD Cert.InACtxIdeal.τ).loc Cert.InACtxIdeal.main_v26_0) = v0 c
          ∧ r.2.mem ((c.tc : Thread Cert.InACtxIdeal.nD Cert.InACtxIdeal.τ).loc Cert.InACtxIdeal.main_v26_1) = v1 c
          ∧ r.2.mem ((c.tc : Thread Cert.InACtxIdeal.nD Cert.InACtxIdeal.τ).loc Cert.InACtxIdeal.main_v26_2) = v2 c
          ∧ r.2.mem ((c.tc : Thread Cert.InACtxIdeal.nD Cert.InACtxIdeal.τ).loc Cert.InACtxIdeal.main_arg0) = m ((c.tc : Thread Cert.InACtxIdeal.nD Cert.InACtxIdeal.τ).loc Cert.InACtxIdeal.main_arg0)
          ∧ r.2.mem ((c.tc : Thread Cert.InACtxIdeal.nD Cert.InACtxIdeal.τ).loc Cert.InACtxIdeal.main_arg1) = m ((c.tc : Thread Cert.InACtxIdeal.nD Cert.InACtxIdeal.τ).loc Cert.InACtxIdeal.main_arg1)
          ∧ r.2.mem ((c.tc : Thread Cert.InACtxIdeal.nD Cert.InACtxIdeal.τ).loc Cert.InACtxIdeal.main_arg2) = m ((c.tc : Thread Cert.InACtxIdeal.nD Cert.InACtxIdeal.τ).loc Cert.InACtxIdeal.main_arg2)
          ∧ r.2.mem ((c.tc : Thread Cert.InACtxIdeal.nD Cert.InACtxIdeal.τ).loc Cert.InACtxIdeal.main_arg3) = m ((c.tc : Thread Cert.InACtxIdeal.nD Cert.InACtxIdeal.τ).loc Cert.InACtxIdeal.main_arg3)
          ∧ r.2.mem ((c.tc : Thread Cert.InACtxIdeal.nD Cert.InACtxIdeal.τ).loc Cert.InACtxIdeal.main_arg4) = m ((c.tc : Thread Cert.InACtxIdeal.nD Cert.InACtxIdeal.τ).loc Cert.InACtxIdeal.main_arg4)
          ∧ r.2.mem ((c.tc : Thread Cert.InACtxIdeal.nD Cert.InACtxIdeal.τ).loc Cert.InACtxIdeal.main_arg5) = m ((c.tc : Thread Cert.InACtxIdeal.nD Cert.InACtxIdeal.τ).loc Cert.InACtxIdeal.main_arg5))
      ∧ θ_run (Cert.InACtxReferenceIdeal.defs (F := Ideal)) (onTc (τ := Cert.InACtxReferenceIdeal.τ) (Cert.InACtxReferenceIdeal.main (F := Ideal))) ⟨m', fun _ => 0, g'⟩ (fun r => ∀ c : Dev Cert.InACtxReferenceIdeal.nD,
          r.2.mem ((c.tc : Thread Cert.InACtxReferenceIdeal.nD Cert.InACtxReferenceIdeal.τ).loc Cert.InACtxReferenceIdeal.main_v59) = v0 c
          ∧ r.2.mem ((c.tc : Thread Cert.InACtxReferenceIdeal.nD Cert.InACtxReferenceIdeal.τ).loc Cert.InACtxReferenceIdeal.main_v64) = v1 c
          ∧ r.2.mem ((c.tc : Thread Cert.InACtxReferenceIdeal.nD Cert.InACtxReferenceIdeal.τ).loc Cert.InACtxReferenceIdeal.main_v67) = v2 c
          ∧ r.2.mem ((c.tc : Thread Cert.InACtxReferenceIdeal.nD Cert.InACtxReferenceIdeal.τ).loc Cert.InACtxReferenceIdeal.main_arg0) = m' ((c.tc : Thread Cert.InACtxReferenceIdeal.nD Cert.InACtxReferenceIdeal.τ).loc Cert.InACtxReferenceIdeal.main_arg0)
          ∧ r.2.mem ((c.tc : Thread Cert.InACtxReferenceIdeal.nD Cert.InACtxReferenceIdeal.τ).loc Cert.InACtxReferenceIdeal.main_arg1) = m' ((c.tc : Thread Cert.InACtxReferenceIdeal.nD Cert.InACtxReferenceIdeal.τ).loc Cert.InACtxReferenceIdeal.main_arg1)
          ∧ r.2.mem ((c.tc : Thread Cert.InACtxReferenceIdeal.nD Cert.InACtxReferenceIdeal.τ).loc Cert.InACtxReferenceIdeal.main_arg2) = m' ((c.tc : Thread Cert.InACtxReferenceIdeal.nD Cert.InACtxReferenceIdeal.τ).loc Cert.InACtxReferenceIdeal.main_arg2)
          ∧ r.2.mem ((c.tc : Thread Cert.InACtxReferenceIdeal.nD Cert.InACtxReferenceIdeal.τ).loc Cert.InACtxReferenceIdeal.main_arg3) = m' ((c.tc : Thread Cert.InACtxReferenceIdeal.nD Cert.InACtxReferenceIdeal.τ).loc Cert.InACtxReferenceIdeal.main_arg3)
          ∧ r.2.mem ((c.tc : Thread Cert.InACtxReferenceIdeal.nD Cert.InACtxReferenceIdeal.τ).loc Cert.InACtxReferenceIdeal.main_arg4) = m' ((c.tc : Thread Cert.InACtxReferenceIdeal.nD Cert.InACtxReferenceIdeal.τ).loc Cert.InACtxReferenceIdeal.main_arg4)
          ∧ r.2.mem ((c.tc : Thread Cert.InACtxReferenceIdeal.nD Cert.InACtxReferenceIdeal.τ).loc Cert.InACtxReferenceIdeal.main_arg5) = m' ((c.tc : Thread Cert.InACtxReferenceIdeal.nD Cert.InACtxReferenceIdeal.τ).loc Cert.InACtxReferenceIdeal.main_arg5))

def preserves_InBCtx_InBCtxIdeal : Prop :=
  True

def algebraic_InBCtxIdeal_InBCtxReferenceIdeal_pre_in_b_ctx_finite [hInBCtxIdeal : Cert.InBCtxIdeal.Facts] [hInBCtxReferenceIdeal : Cert.InBCtxReferenceIdeal.Facts] [hPre_in_b_ctx_finite : Cert.Pre_in_b_ctx_finite.Facts] : Prop :=
  ∀ (m : (ℓ : Loc Cert.InBCtxIdeal.nD Cert.InBCtxIdeal.τ Cert.InBCtxIdeal.sig) → Buf (Elt Ideal) ℓ) (g : Dev Cert.InBCtxIdeal.nD → PrngReg)
    (m' : (ℓ : Loc Cert.InBCtxReferenceIdeal.nD Cert.InBCtxReferenceIdeal.τ Cert.InBCtxReferenceIdeal.sig) → Buf (Elt Ideal) ℓ) (g' : Dev Cert.InBCtxReferenceIdeal.nD → PrngReg), Pre_InBCtxIdeal_in_b_ctx_finite m →
    (∀ c : Dev Cert.InBCtxIdeal.nD,
      m' ((c.tc : Thread Cert.InBCtxReferenceIdeal.nD Cert.InBCtxReferenceIdeal.τ).loc Cert.InBCtxReferenceIdeal.main_arg0) = m ((c.tc : Thread Cert.InBCtxIdeal.nD Cert.InBCtxIdeal.τ).loc Cert.InBCtxIdeal.main_arg0)
      ∧ m' ((c.tc : Thread Cert.InBCtxReferenceIdeal.nD Cert.InBCtxReferenceIdeal.τ).loc Cert.InBCtxReferenceIdeal.main_arg1) = m ((c.tc : Thread Cert.InBCtxIdeal.nD Cert.InBCtxIdeal.τ).loc Cert.InBCtxIdeal.main_arg1)
      ∧ m' ((c.tc : Thread Cert.InBCtxReferenceIdeal.nD Cert.InBCtxReferenceIdeal.τ).loc Cert.InBCtxReferenceIdeal.main_arg2) = m ((c.tc : Thread Cert.InBCtxIdeal.nD Cert.InBCtxIdeal.τ).loc Cert.InBCtxIdeal.main_arg2)
      ∧ m' ((c.tc : Thread Cert.InBCtxReferenceIdeal.nD Cert.InBCtxReferenceIdeal.τ).loc Cert.InBCtxReferenceIdeal.main_arg3) = m ((c.tc : Thread Cert.InBCtxIdeal.nD Cert.InBCtxIdeal.τ).loc Cert.InBCtxIdeal.main_arg3)
      ∧ m' ((c.tc : Thread Cert.InBCtxReferenceIdeal.nD Cert.InBCtxReferenceIdeal.τ).loc Cert.InBCtxReferenceIdeal.main_arg4) = m ((c.tc : Thread Cert.InBCtxIdeal.nD Cert.InBCtxIdeal.τ).loc Cert.InBCtxIdeal.main_arg4)
      ∧ m' ((c.tc : Thread Cert.InBCtxReferenceIdeal.nD Cert.InBCtxReferenceIdeal.τ).loc Cert.InBCtxReferenceIdeal.main_arg5) = m ((c.tc : Thread Cert.InBCtxIdeal.nD Cert.InBCtxIdeal.τ).loc Cert.InBCtxIdeal.main_arg5)) →
    ∃ (v0 : (c : Dev Cert.InBCtxIdeal.nD) → Buf (Elt Ideal) ((c.tc : Thread Cert.InBCtxIdeal.nD Cert.InBCtxIdeal.τ).loc Cert.InBCtxIdeal.main_v22_0)) (v1 : (c : Dev Cert.InBCtxIdeal.nD) → Buf (Elt Ideal) ((c.tc : Thread Cert.InBCtxIdeal.nD Cert.InBCtxIdeal.τ).loc Cert.InBCtxIdeal.main_v22_1)),
      θ_run (Cert.InBCtxIdeal.defs (F := Ideal)) (onTc (τ := Cert.InBCtxIdeal.τ) (Cert.InBCtxIdeal.main (F := Ideal))) ⟨m, fun _ => 0, g⟩ (fun r => ∀ c : Dev Cert.InBCtxIdeal.nD,
          r.2.mem ((c.tc : Thread Cert.InBCtxIdeal.nD Cert.InBCtxIdeal.τ).loc Cert.InBCtxIdeal.main_v22_0) = v0 c
          ∧ r.2.mem ((c.tc : Thread Cert.InBCtxIdeal.nD Cert.InBCtxIdeal.τ).loc Cert.InBCtxIdeal.main_v22_1) = v1 c
          ∧ r.2.mem ((c.tc : Thread Cert.InBCtxIdeal.nD Cert.InBCtxIdeal.τ).loc Cert.InBCtxIdeal.main_arg0) = m ((c.tc : Thread Cert.InBCtxIdeal.nD Cert.InBCtxIdeal.τ).loc Cert.InBCtxIdeal.main_arg0)
          ∧ r.2.mem ((c.tc : Thread Cert.InBCtxIdeal.nD Cert.InBCtxIdeal.τ).loc Cert.InBCtxIdeal.main_arg1) = m ((c.tc : Thread Cert.InBCtxIdeal.nD Cert.InBCtxIdeal.τ).loc Cert.InBCtxIdeal.main_arg1)
          ∧ r.2.mem ((c.tc : Thread Cert.InBCtxIdeal.nD Cert.InBCtxIdeal.τ).loc Cert.InBCtxIdeal.main_arg2) = m ((c.tc : Thread Cert.InBCtxIdeal.nD Cert.InBCtxIdeal.τ).loc Cert.InBCtxIdeal.main_arg2)
          ∧ r.2.mem ((c.tc : Thread Cert.InBCtxIdeal.nD Cert.InBCtxIdeal.τ).loc Cert.InBCtxIdeal.main_arg3) = m ((c.tc : Thread Cert.InBCtxIdeal.nD Cert.InBCtxIdeal.τ).loc Cert.InBCtxIdeal.main_arg3)
          ∧ r.2.mem ((c.tc : Thread Cert.InBCtxIdeal.nD Cert.InBCtxIdeal.τ).loc Cert.InBCtxIdeal.main_arg4) = m ((c.tc : Thread Cert.InBCtxIdeal.nD Cert.InBCtxIdeal.τ).loc Cert.InBCtxIdeal.main_arg4)
          ∧ r.2.mem ((c.tc : Thread Cert.InBCtxIdeal.nD Cert.InBCtxIdeal.τ).loc Cert.InBCtxIdeal.main_arg5) = m ((c.tc : Thread Cert.InBCtxIdeal.nD Cert.InBCtxIdeal.τ).loc Cert.InBCtxIdeal.main_arg5))
      ∧ θ_run (Cert.InBCtxReferenceIdeal.defs (F := Ideal)) (onTc (τ := Cert.InBCtxReferenceIdeal.τ) (Cert.InBCtxReferenceIdeal.main (F := Ideal))) ⟨m', fun _ => 0, g'⟩ (fun r => ∀ c : Dev Cert.InBCtxReferenceIdeal.nD,
          r.2.mem ((c.tc : Thread Cert.InBCtxReferenceIdeal.nD Cert.InBCtxReferenceIdeal.τ).loc Cert.InBCtxReferenceIdeal.main_v67) = v0 c
          ∧ r.2.mem ((c.tc : Thread Cert.InBCtxReferenceIdeal.nD Cert.InBCtxReferenceIdeal.τ).loc Cert.InBCtxReferenceIdeal.main_v68) = v1 c
          ∧ r.2.mem ((c.tc : Thread Cert.InBCtxReferenceIdeal.nD Cert.InBCtxReferenceIdeal.τ).loc Cert.InBCtxReferenceIdeal.main_arg0) = m' ((c.tc : Thread Cert.InBCtxReferenceIdeal.nD Cert.InBCtxReferenceIdeal.τ).loc Cert.InBCtxReferenceIdeal.main_arg0)
          ∧ r.2.mem ((c.tc : Thread Cert.InBCtxReferenceIdeal.nD Cert.InBCtxReferenceIdeal.τ).loc Cert.InBCtxReferenceIdeal.main_arg1) = m' ((c.tc : Thread Cert.InBCtxReferenceIdeal.nD Cert.InBCtxReferenceIdeal.τ).loc Cert.InBCtxReferenceIdeal.main_arg1)
          ∧ r.2.mem ((c.tc : Thread Cert.InBCtxReferenceIdeal.nD Cert.InBCtxReferenceIdeal.τ).loc Cert.InBCtxReferenceIdeal.main_arg2) = m' ((c.tc : Thread Cert.InBCtxReferenceIdeal.nD Cert.InBCtxReferenceIdeal.τ).loc Cert.InBCtxReferenceIdeal.main_arg2)
          ∧ r.2.mem ((c.tc : Thread Cert.InBCtxReferenceIdeal.nD Cert.InBCtxReferenceIdeal.τ).loc Cert.InBCtxReferenceIdeal.main_arg3) = m' ((c.tc : Thread Cert.InBCtxReferenceIdeal.nD Cert.InBCtxReferenceIdeal.τ).loc Cert.InBCtxReferenceIdeal.main_arg3)
          ∧ r.2.mem ((c.tc : Thread Cert.InBCtxReferenceIdeal.nD Cert.InBCtxReferenceIdeal.τ).loc Cert.InBCtxReferenceIdeal.main_arg4) = m' ((c.tc : Thread Cert.InBCtxReferenceIdeal.nD Cert.InBCtxReferenceIdeal.τ).loc Cert.InBCtxReferenceIdeal.main_arg4)
          ∧ r.2.mem ((c.tc : Thread Cert.InBCtxReferenceIdeal.nD Cert.InBCtxReferenceIdeal.τ).loc Cert.InBCtxReferenceIdeal.main_arg5) = m' ((c.tc : Thread Cert.InBCtxReferenceIdeal.nD Cert.InBCtxReferenceIdeal.τ).loc Cert.InBCtxReferenceIdeal.main_arg5))

def Claim : Prop :=
  ∃ (hKernel : Cert.Kernel.Facts) (hKernelIdeal : Cert.KernelIdeal.Facts) (hReferenceIdeal : Cert.ReferenceIdeal.Facts) (hMergeLat : Cert.MergeLat.Facts) (hMergeLatIdeal : Cert.MergeLatIdeal.Facts) (hMergeLatReferenceIdeal : Cert.MergeLatReferenceIdeal.Facts) (hFfnLat : Cert.FfnLat.Facts) (hFfnLatIdeal : Cert.FfnLatIdeal.Facts) (hFfnLatReferenceIdeal : Cert.FfnLatReferenceIdeal.Facts) (hMergeCtx : Cert.MergeCtx.Facts) (hMergeCtxIdeal : Cert.MergeCtxIdeal.Facts) (hMergeCtxReferenceIdeal : Cert.MergeCtxReferenceIdeal.Facts) (hFfnCtx : Cert.FfnCtx.Facts) (hFfnCtxIdeal : Cert.FfnCtxIdeal.Facts) (hFfnCtxReferenceIdeal : Cert.FfnCtxReferenceIdeal.Facts) (hCtxAttn : Cert.CtxAttn.Facts) (hCtxAttnIdeal : Cert.CtxAttnIdeal.Facts) (hCtxAttnReferenceIdeal : Cert.CtxAttnReferenceIdeal.Facts) (hInALat : Cert.InALat.Facts) (hInALatIdeal : Cert.InALatIdeal.Facts) (hInALatReferenceIdeal : Cert.InALatReferenceIdeal.Facts) (hInBLat : Cert.InBLat.Facts) (hInBLatIdeal : Cert.InBLatIdeal.Facts) (hInBLatReferenceIdeal : Cert.InBLatReferenceIdeal.Facts) (hInACtx : Cert.InACtx.Facts) (hInACtxIdeal : Cert.InACtxIdeal.Facts) (hInACtxReferenceIdeal : Cert.InACtxReferenceIdeal.Facts) (hInBCtx : Cert.InBCtx.Facts) (hInBCtxIdeal : Cert.InBCtxIdeal.Facts) (hInBCtxReferenceIdeal : Cert.InBCtxReferenceIdeal.Facts) (hPre_scores_finite : Cert.Pre_scores_finite.Facts) (hPre_ffn_finite : Cert.Pre_ffn_finite.Facts) (hPre_ffn_ctx_finite : Cert.Pre_ffn_ctx_finite.Facts) (hPre_ctx_scores_finite : Cert.Pre_ctx_scores_finite.Facts) (hPre_in_b_finite : Cert.Pre_in_b_finite.Facts) (hPre_in_b_ctx_finite : Cert.Pre_in_b_ctx_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_MergeLat (hMergeLat := hMergeLat)
    ∧ quiescent_MergeLatIdeal (hMergeLatIdeal := hMergeLatIdeal)
    ∧ quiescent_MergeLatReferenceIdeal (hMergeLatReferenceIdeal := hMergeLatReferenceIdeal)
    ∧ quiescent_FfnLat (hFfnLat := hFfnLat)
    ∧ quiescent_FfnLatIdeal (hFfnLatIdeal := hFfnLatIdeal)
    ∧ quiescent_FfnLatIdeal_pre_ffn_finite (hFfnLatIdeal := hFfnLatIdeal) (hPre_ffn_finite := hPre_ffn_finite)
    ∧ quiescent_FfnLatReferenceIdeal (hFfnLatReferenceIdeal := hFfnLatReferenceIdeal)
    ∧ quiescent_FfnLatReferenceIdeal_pre_ffn_finite (hFfnLatReferenceIdeal := hFfnLatReferenceIdeal) (hPre_ffn_finite := hPre_ffn_finite)
    ∧ quiescent_MergeCtx (hMergeCtx := hMergeCtx)
    ∧ quiescent_MergeCtxIdeal (hMergeCtxIdeal := hMergeCtxIdeal)
    ∧ quiescent_MergeCtxReferenceIdeal (hMergeCtxReferenceIdeal := hMergeCtxReferenceIdeal)
    ∧ quiescent_FfnCtx (hFfnCtx := hFfnCtx)
    ∧ quiescent_FfnCtxIdeal (hFfnCtxIdeal := hFfnCtxIdeal)
    ∧ quiescent_FfnCtxIdeal_pre_ffn_ctx_finite (hFfnCtxIdeal := hFfnCtxIdeal) (hPre_ffn_ctx_finite := hPre_ffn_ctx_finite)
    ∧ quiescent_FfnCtxReferenceIdeal (hFfnCtxReferenceIdeal := hFfnCtxReferenceIdeal)
    ∧ quiescent_FfnCtxReferenceIdeal_pre_ffn_ctx_finite (hFfnCtxReferenceIdeal := hFfnCtxReferenceIdeal) (hPre_ffn_ctx_finite := hPre_ffn_ctx_finite)
    ∧ quiescent_CtxAttn (hCtxAttn := hCtxAttn)
    ∧ quiescent_CtxAttnIdeal (hCtxAttnIdeal := hCtxAttnIdeal)
    ∧ quiescent_CtxAttnIdeal_pre_ctx_scores_finite (hCtxAttnIdeal := hCtxAttnIdeal) (hPre_ctx_scores_finite := hPre_ctx_scores_finite)
    ∧ quiescent_CtxAttnReferenceIdeal (hCtxAttnReferenceIdeal := hCtxAttnReferenceIdeal)
    ∧ quiescent_CtxAttnReferenceIdeal_pre_ctx_scores_finite (hCtxAttnReferenceIdeal := hCtxAttnReferenceIdeal) (hPre_ctx_scores_finite := hPre_ctx_scores_finite)
    ∧ quiescent_InALat (hInALat := hInALat)
    ∧ quiescent_InALatIdeal (hInALatIdeal := hInALatIdeal)
    ∧ quiescent_InALatReferenceIdeal (hInALatReferenceIdeal := hInALatReferenceIdeal)
    ∧ quiescent_InBLat (hInBLat := hInBLat)
    ∧ quiescent_InBLatIdeal (hInBLatIdeal := hInBLatIdeal)
    ∧ quiescent_InBLatIdeal_pre_in_b_finite (hInBLatIdeal := hInBLatIdeal) (hPre_in_b_finite := hPre_in_b_finite)
    ∧ quiescent_InBLatReferenceIdeal (hInBLatReferenceIdeal := hInBLatReferenceIdeal)
    ∧ quiescent_InBLatReferenceIdeal_pre_in_b_finite (hInBLatReferenceIdeal := hInBLatReferenceIdeal) (hPre_in_b_finite := hPre_in_b_finite)
    ∧ quiescent_InACtx (hInACtx := hInACtx)
    ∧ quiescent_InACtxIdeal (hInACtxIdeal := hInACtxIdeal)
    ∧ quiescent_InACtxReferenceIdeal (hInACtxReferenceIdeal := hInACtxReferenceIdeal)
    ∧ quiescent_InBCtx (hInBCtx := hInBCtx)
    ∧ quiescent_InBCtxIdeal (hInBCtxIdeal := hInBCtxIdeal)
    ∧ quiescent_InBCtxIdeal_pre_in_b_ctx_finite (hInBCtxIdeal := hInBCtxIdeal) (hPre_in_b_ctx_finite := hPre_in_b_ctx_finite)
    ∧ quiescent_InBCtxReferenceIdeal (hInBCtxReferenceIdeal := hInBCtxReferenceIdeal)
    ∧ quiescent_InBCtxReferenceIdeal_pre_in_b_ctx_finite (hInBCtxReferenceIdeal := hInBCtxReferenceIdeal) (hPre_in_b_ctx_finite := hPre_in_b_ctx_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_MergeLat_MergeLatIdeal
    ∧ algebraic_MergeLatIdeal_MergeLatReferenceIdeal (hMergeLatIdeal := hMergeLatIdeal) (hMergeLatReferenceIdeal := hMergeLatReferenceIdeal)
    ∧ preserves_FfnLat_FfnLatIdeal
    ∧ algebraic_FfnLatIdeal_FfnLatReferenceIdeal_pre_ffn_finite (hFfnLatIdeal := hFfnLatIdeal) (hFfnLatReferenceIdeal := hFfnLatReferenceIdeal) (hPre_ffn_finite := hPre_ffn_finite)
    ∧ preserves_MergeCtx_MergeCtxIdeal
    ∧ algebraic_MergeCtxIdeal_MergeCtxReferenceIdeal (hMergeCtxIdeal := hMergeCtxIdeal) (hMergeCtxReferenceIdeal := hMergeCtxReferenceIdeal)
    ∧ preserves_FfnCtx_FfnCtxIdeal
    ∧ algebraic_FfnCtxIdeal_FfnCtxReferenceIdeal_pre_ffn_ctx_finite (hFfnCtxIdeal := hFfnCtxIdeal) (hFfnCtxReferenceIdeal := hFfnCtxReferenceIdeal) (hPre_ffn_ctx_finite := hPre_ffn_ctx_finite)
    ∧ preserves_CtxAttn_CtxAttnIdeal
    ∧ algebraic_CtxAttnIdeal_CtxAttnReferenceIdeal_pre_ctx_scores_finite (hCtxAttnIdeal := hCtxAttnIdeal) (hCtxAttnReferenceIdeal := hCtxAttnReferenceIdeal) (hPre_ctx_scores_finite := hPre_ctx_scores_finite)
    ∧ preserves_InALat_InALatIdeal
    ∧ algebraic_InALatIdeal_InALatReferenceIdeal (hInALatIdeal := hInALatIdeal) (hInALatReferenceIdeal := hInALatReferenceIdeal)
    ∧ preserves_InBLat_InBLatIdeal
    ∧ algebraic_InBLatIdeal_InBLatReferenceIdeal_pre_in_b_finite (hInBLatIdeal := hInBLatIdeal) (hInBLatReferenceIdeal := hInBLatReferenceIdeal) (hPre_in_b_finite := hPre_in_b_finite)
    ∧ preserves_InACtx_InACtxIdeal
    ∧ algebraic_InACtxIdeal_InACtxReferenceIdeal (hInACtxIdeal := hInACtxIdeal) (hInACtxReferenceIdeal := hInACtxReferenceIdeal)
    ∧ preserves_InBCtx_InBCtxIdeal
    ∧ algebraic_InBCtxIdeal_InBCtxReferenceIdeal_pre_in_b_ctx_finite (hInBCtxIdeal := hInBCtxIdeal) (hInBCtxReferenceIdeal := hInBCtxReferenceIdeal) (hPre_in_b_ctx_finite := hPre_in_b_ctx_finite)
-- ==== Pre_ctx_scores_finite.lean ====
abbrev S16x256x16x64 : Shape := ⟨4, ![16, 256, 16, 64]⟩
abbrev S4096x2048 : Shape := ⟨2, ![4096, 2048]⟩
abbrev S_ : Shape := ⟨0, ![]⟩

class Facts : Prop where
  bcast_S_S16x256x16x64 : S_.BroadcastsInDim S16x256x16x64 (![] : Fin 0 → Fin S16x256x16x64.rank)

variable [Facts]

def fn {F : FTy → Type} [FloatOps F] (main_arg0 : FVec F S16x256x16x64 .f32) (main_arg1 : FVec F S16x256x16x64 .f32) (main_arg2 : FVec F S16x256x16x64 .f32) (main_arg3 : FVec F S4096x2048 .f32) : IVec S16x256x16x64 1 × IVec S16x256x16x64 1 :=
  let main_v0 : FVec F S16x256x16x64 .f32 := Host.absf main_arg0
  let main_cst : FVec F S_ .f32 := constant S_ .f32 0x7F800000#32
  let main_v1 : FVec F S16x256x16x64 .f32 := broadcastInDim S16x256x16x64 ![] bcast_S_S16x256x16x64 main_cst
  let main_v2 : IVec S16x256x16x64 1 := cmpf .olt main_v0 main_v1
  let main_v3 : FVec F S16x256x16x64 .f32 := Host.absf main_arg1
  let main_cst_0 : FVec F S_ .f32 := constant S_ .f32 0x7F800000#32
  let main_v4 : FVec F S16x256x16x64 .f32 := broadcastInDim S16x256x16x64 ![] bcast_S_S16x256x16x64 main_cst_0
  let main_v5 : IVec S16x256x16x64 1 := cmpf .olt main_v3 main_v4
  (main_v2, main_v5)
-- ==== Pre_ffn_ctx_finite.lean ====
abbrev S16x256x1024 : Shape := ⟨3, ![16, 256, 1024]⟩
abbrev S1x1x6144 : Shape := ⟨3, ![1, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1x1x2048 : Shape := ⟨3, ![1, 1, 2048]⟩
abbrev S1024x2816 : Shape := ⟨2, ![1024, 2816]⟩
abbrev S3x2816 : Shape := ⟨2, ![3, 2816]⟩
abbrev S2816 : Shape := ⟨1, ![2816]⟩

class Facts : Prop where
  bcast_S_S16x256x1024 : S_.BroadcastsInDim S16x256x1024 (![] : Fin 0 → Fin S16x256x1024.rank)
  slices_S1x1x6144_S1x1x2048_0_0_3072 : S1x1x6144.Slices ![0, 0, 3072] S1x1x2048
  bcast_S_S1x1x2048 : S_.BroadcastsInDim S1x1x2048 (![] : Fin 0 → Fin S1x1x2048.rank)
  bcast_S_S1024 : S_.BroadcastsInDim S1024 (![] : Fin 0 → Fin S1024.rank)
  slices_S1024x5632_S1024x2816_0_2816 : S1024x5632.Slices ![0, 2816] S1024x2816
  bcast_S_S1024x2816 : S_.BroadcastsInDim S1024x2816 (![] : Fin 0 → Fin S1024x2816.rank)
  slices_S3x5632_S3x2816_0_2816 : S3x5632.Slices ![0, 2816] S3x2816
  bcast_S_S3x2816 : S_.BroadcastsInDim S3x2816 (![] : Fin 0 → Fin S3x2816.rank)
  slices_S5632_S2816_2816 : S5632.Slices ![2816] S2816
  bcast_S_S2816 : S_.BroadcastsInDim S2816 (![] : Fin 0 → Fin S2816.rank)

variable [Facts]

def fn_part1 {F : FTy → Type} [FloatOps F] (main_v2 : IVec S16x256x1024 1) (main_v6 : IVec S1x1x2048 1) (main_v9 : IVec S1024 1) (main_v13 : IVec S1024x2816 1) (main_v17 : IVec S3x2816 1) (main_v18 : FVec F S2816 .f32) : IVec S16x256x1024 1 × IVec S1x1x2048 1 × IVec S1024 1 × IVec S1024x2816 1 × IVec S3x2816 1 × IVec S2816 1 :=
  let main_v19 : FVec F S2816 .f32 := Host.absf main_v18
  let main_cst_4 : FVec F S_ .f32 := constant S_ .f32 0x7F800000#32
  let main_v20 : FVec F S2816 .f32 := broadcastInDim S2816 ![] bcast_S_S2816 main_cst_4
  let main_v21 : IVec S2816 1 := cmpf .olt main_v19 main_v20
  (main_v2, main_v6, main_v9, main_v13, main_v17, main_v21)

def fn {F : FTy → Type} [FloatOps F] (main_arg0 : FVec F S16x256x1024 .f32) (main_arg1 : FVec F S1x1x6144 .f32) (main_arg2 : FVec F S1024 .f32) (main_arg3 : FVec F S1024x5632 .f32) (main_arg4 : FVec F S3x5632 .f32) (main_arg5 : FVec F S5632 .f32) (main_arg6 : FVec F S2816x1024 .f32) : IVec S16x256x1024 1 × IVec S1x1x2048 1 × IVec S1024 1 × IVec S1024x2816 1 × IVec S3x2816 1 × IVec S2816 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_v3 : FVec F S1x1x2048 .f32 := (extractStridedSlice S1x1x2048 ![0, 0, 3072] · slices_S1x1x6144_S1x1x2048_0_0_3072) main_arg1
  let main_v4 : FVec F S1x1x2048 .f32 := Host.absf main_v3
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x2816 .f32 := (extractStridedSlice S1024x2816 ![0, 2816] · slices_S1024x5632_S1024x2816_0_2816) main_arg3
  let main_v11 : FVec F S1024x2816 .f32 := Host.absf main_v10
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S3x2816 .f32 := (extractStridedSlice S3x2816 ![0, 2816] · slices_S3x5632_S3x2816_0_2816) main_arg4
  let main_v15 : FVec F S3x2816 .f32 := Host.absf main_v14
  let main_cst_3 : FVec F S_ .f32 := constant S_ .f32 0x7F800000#32
  let main_v16 : FVec F S3x2816 .f32 := broadcastInDim S3x2816 ![] bcast_S_S3x2816 main_cst_3
  let main_v17 : IVec S3x2816 1 := cmpf .olt main_v15 main_v16
  let main_v18 : FVec F S2816 .f32 := (extractStridedSlice S2816 ![2816] · slices_S5632_S2816_2816) main_arg5
  fn_part1 (F := F) main_v2 main_v6 main_v9 main_v13 main_v17 main_v18
-- ==== Pre_ffn_finite.lean ====
abbrev S8x2048x1024 : Shape := ⟨3, ![8, 2048, 1024]⟩
abbrev S8x1x6144 : Shape := ⟨3, ![8, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x1x2048 : Shape := ⟨3, ![8, 1, 2048]⟩
abbrev S1024x2816 : Shape := ⟨2, ![1024, 2816]⟩
abbrev S3x2816 : Shape := ⟨2, ![3, 2816]⟩
abbrev S2816 : Shape := ⟨1, ![2816]⟩

class Facts : Prop where
  bcast_S_S8x2048x1024 : S_.BroadcastsInDim S8x2048x1024 (![] : Fin 0 → Fin S8x2048x1024.rank)
  slices_S8x1x6144_S8x1x2048_0_0_3072 : S8x1x6144.Slices ![0, 0, 3072] S8x1x2048
  bcast_S_S8x1x2048 : S_.BroadcastsInDim S8x1x2048 (![] : Fin 0 → Fin S8x1x2048.rank)
  bcast_S_S1024 : S_.BroadcastsInDim S1024 (![] : Fin 0 → Fin S1024.rank)
  slices_S1024x5632_S1024x2816_0_2816 : S1024x5632.Slices ![0, 2816] S1024x2816
  bcast_S_S1024x2816 : S_.BroadcastsInDim S1024x2816 (![] : Fin 0 → Fin S1024x2816.rank)
  slices_S3x5632_S3x2816_0_2816 : S3x5632.Slices ![0, 2816] S3x2816
  bcast_S_S3x2816 : S_.BroadcastsInDim S3x2816 (![] : Fin 0 → Fin S3x2816.rank)
  slices_S5632_S2816_2816 : S5632.Slices ![2816] S2816
  bcast_S_S2816 : S_.BroadcastsInDim S2816 (![] : Fin 0 → Fin S2816.rank)

variable [Facts]

def fn_part1 {F : FTy → Type} [FloatOps F] (main_v2 : IVec S8x2048x1024 1) (main_v6 : IVec S8x1x2048 1) (main_v9 : IVec S1024 1) (main_v13 : IVec S1024x2816 1) (main_v17 : IVec S3x2816 1) (main_v18 : FVec F S2816 .f32) : IVec S8x2048x1024 1 × IVec S8x1x2048 1 × IVec S1024 1 × IVec S1024x2816 1 × IVec S3x2816 1 × IVec S2816 1 :=
  let main_v19 : FVec F S2816 .f32 := Host.absf main_v18
  let main_cst_4 : FVec F S_ .f32 := constant S_ .f32 0x7F800000#32
  let main_v20 : FVec F S2816 .f32 := broadcastInDim S2816 ![] bcast_S_S2816 main_cst_4
  let main_v21 : IVec S2816 1 := cmpf .olt main_v19 main_v20
  (main_v2, main_v6, main_v9, main_v13, main_v17, main_v21)

def fn {F : FTy → Type} [FloatOps F] (main_arg0 : FVec F S8x2048x1024 .f32) (main_arg1 : FVec F S8x1x6144 .f32) (main_arg2 : FVec F S1024 .f32) (main_arg3 : FVec F S1024x5632 .f32) (main_arg4 : FVec F S3x5632 .f32) (main_arg5 : FVec F S5632 .f32) (main_arg6 : FVec F S2816x1024 .f32) : IVec S8x2048x1024 1 × IVec S8x1x2048 1 × IVec S1024 1 × IVec S1024x2816 1 × IVec S3x2816 1 × IVec S2816 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x1x2048 .f32 := (extractStridedSlice S8x1x2048 ![0, 0, 3072] · slices_S8x1x6144_S8x1x2048_0_0_3072) main_arg1
  let main_v4 : FVec F S8x1x2048 .f32 := Host.absf main_v3
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x2816 .f32 := (extractStridedSlice S1024x2816 ![0, 2816] · slices_S1024x5632_S1024x2816_0_2816) main_arg3
  let main_v11 : FVec F S1024x2816 .f32 := Host.absf main_v10
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S3x2816 .f32 := (extractStridedSlice S3x2816 ![0, 2816] · slices_S3x5632_S3x2816_0_2816) main_arg4
  let main_v15 : FVec F S3x2816 .f32 := Host.absf main_v14
  let main_cst_3 : FVec F S_ .f32 := constant S_ .f32 0x7F800000#32
  let main_v16 : FVec F S3x2816 .f32 := broadcastInDim S3x2816 ![] bcast_S_S3x2816 main_cst_3
  let main_v17 : IVec S3x2816 1 := cmpf .olt main_v15 main_v16
  let main_v18 : FVec F S2816 .f32 := (extractStridedSlice S2816 ![2816] · slices_S5632_S2816_2816) main_arg5
  fn_part1 (F := F) main_v2 main_v6 main_v9 main_v13 main_v17 main_v18
-- ==== Pre_in_b_ctx_finite.lean ====
abbrev S16x256x1024 : Shape := ⟨3, ![16, 256, 1024]⟩
abbrev S1x1x6144 : Shape := ⟨3, ![1, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S1x1x2048 : Shape := ⟨3, ![1, 1, 2048]⟩
abbrev S1024x3072 : Shape := ⟨2, ![1024, 3072]⟩

class Facts : Prop where
  bcast_S_S16x256x1024 : S_.BroadcastsInDim S16x256x1024 (![] : Fin 0 → Fin S16x256x1024.rank)
  slices_S1x1x6144_S1x1x2048_0_0_0 : S1x1x6144.Slices ![0, 0, 0] S1x1x2048
  bcast_S_S1x1x2048 : S_.BroadcastsInDim S1x1x2048 (![] : Fin 0 → Fin S1x1x2048.rank)
  bcast_S_S1024 : S_.BroadcastsInDim S1024 (![] : Fin 0 → Fin S1024.rank)
  slices_S1024x10304_S1024x3072_0_5120 : S1024x10304.Slices ![0, 5120] S1024x3072
  bcast_S_S1024x3072 : S_.BroadcastsInDim S1024x3072 (![] : Fin 0 → Fin S1024x3072.rank)
  bcast_S_S4x3072 : S_.BroadcastsInDim S4x3072 (![] : Fin 0 → Fin S4x3072.rank)
  bcast_S_S3072 : S_.BroadcastsInDim S3072 (![] : Fin 0 → Fin S3072.rank)

variable [Facts]

def fn_part1 {F : FTy → Type} [FloatOps F] (main_v2 : IVec S16x256x1024 1) (main_v6 : IVec S1x1x2048 1) (main_v9 : IVec S1024 1) (main_v13 : IVec S1024x3072 1) (main_v16 : IVec S4x3072 1) (main_v17 : FVec F S3072 .f32) (main_cst_4 : FVec F S_ .f32) : IVec S16x256x1024 1 × IVec S1x1x2048 1 × IVec S1024 1 × IVec S1024x3072 1 × IVec S4x3072 1 × IVec S3072 1 :=
  let main_v18 : FVec F S3072 .f32 := broadcastInDim S3072 ![] bcast_S_S3072 main_cst_4
  let main_v19 : IVec S3072 1 := cmpf .olt main_v17 main_v18
  (main_v2, main_v6, main_v9, main_v13, main_v16, main_v19)

def fn {F : FTy → Type} [FloatOps F] (main_arg0 : FVec F S16x256x1024 .f32) (main_arg1 : FVec F S1x1x6144 .f32) (main_arg2 : FVec F S1024 .f32) (main_arg3 : FVec F S1024x10304 .f32) (main_arg4 : FVec F S4x3072 .f32) (main_arg5 : FVec F S3072 .f32) : IVec S16x256x1024 1 × IVec S1x1x2048 1 × IVec S1024 1 × IVec S1024x3072 1 × IVec S4x3072 1 × IVec S3072 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_v3 : FVec F S1x1x2048 .f32 := (extractStridedSlice S1x1x2048 ![0, 0, 0] · slices_S1x1x6144_S1x1x2048_0_0_0) main_arg1
  let main_v4 : FVec F S1x1x2048 .f32 := Host.absf main_v3
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x3072 .f32 := (extractStridedSlice S1024x3072 ![0, 5120] · slices_S1024x10304_S1024x3072_0_5120) main_arg3
  let main_v11 : FVec F S1024x3072 .f32 := Host.absf main_v10
  let main_cst_2 : FVec F S_ .f32 := constant S_ .f32 0x7F800000#32
  let main_v12 : FVec F S1024x3072 .f32 := broadcastInDim S1024x3072 ![] bcast_S_S1024x3072 main_cst_2
  let main_v13 : IVec S1024x3072 1 := cmpf .olt main_v11 main_v12
  let main_v14 : FVec F S4x3072 .f32 := Host.absf main_arg4
  let main_cst_3 : FVec F S_ .f32 := constant S_ .f32 0x7F800000#32
  let main_v15 : FVec F S4x3072 .f32 := broadcastInDim S4x3072 ![] bcast_S_S4x3072 main_cst_3
  let main_v16 : IVec S4x3072 1 := cmpf .olt main_v14 main_v15
  let main_v17 : FVec F S3072 .f32 := Host.absf main_arg5
  let main_cst_4 : FVec F S_ .f32 := constant S_ .f32 0x7F800000#32
  fn_part1 (F := F) main_v2 main_v6 main_v9 main_v13 main_v16 main_v17 main_cst_4
-- ==== Pre_in_b_finite.lean ====
abbrev S8x2048x1024 : Shape := ⟨3, ![8, 2048, 1024]⟩
abbrev S8x1x6144 : Shape := ⟨3, ![8, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S8x1x2048 : Shape := ⟨3, ![8, 1, 2048]⟩
abbrev S1024x3072 : Shape := ⟨2, ![1024, 3072]⟩

class Facts : Prop where
  bcast_S_S8x2048x1024 : S_.BroadcastsInDim S8x2048x1024 (![] : Fin 0 → Fin S8x2048x1024.rank)
  slices_S8x1x6144_S8x1x2048_0_0_0 : S8x1x6144.Slices ![0, 0, 0] S8x1x2048
  bcast_S_S8x1x2048 : S_.BroadcastsInDim S8x1x2048 (![] : Fin 0 → Fin S8x1x2048.rank)
  bcast_S_S1024 : S_.BroadcastsInDim S1024 (![] : Fin 0 → Fin S1024.rank)
  slices_S1024x10304_S1024x3072_0_5120 : S1024x10304.Slices ![0, 5120] S1024x3072
  bcast_S_S1024x3072 : S_.BroadcastsInDim S1024x3072 (![] : Fin 0 → Fin S1024x3072.rank)
  bcast_S_S4x3072 : S_.BroadcastsInDim S4x3072 (![] : Fin 0 → Fin S4x3072.rank)
  bcast_S_S3072 : S_.BroadcastsInDim S3072 (![] : Fin 0 → Fin S3072.rank)

variable [Facts]

def fn_part1 {F : FTy → Type} [FloatOps F] (main_v2 : IVec S8x2048x1024 1) (main_v6 : IVec S8x1x2048 1) (main_v9 : IVec S1024 1) (main_v13 : IVec S1024x3072 1) (main_v16 : IVec S4x3072 1) (main_v17 : FVec F S3072 .f32) (main_cst_4 : FVec F S_ .f32) : IVec S8x2048x1024 1 × IVec S8x1x2048 1 × IVec S1024 1 × IVec S1024x3072 1 × IVec S4x3072 1 × IVec S3072 1 :=
  let main_v18 : FVec F S3072 .f32 := broadcastInDim S3072 ![] bcast_S_S3072 main_cst_4
  let main_v19 : IVec S3072 1 := cmpf .olt main_v17 main_v18
  (main_v2, main_v6, main_v9, main_v13, main_v16, main_v19)

def fn {F : FTy → Type} [FloatOps F] (main_arg0 : FVec F S8x2048x1024 .f32) (main_arg1 : FVec F S8x1x6144 .f32) (main_arg2 : FVec F S1024 .f32) (main_arg3 : FVec F S1024x10304 .f32) (main_arg4 : FVec F S4x3072 .f32) (main_arg5 : FVec F S3072 .f32) : IVec S8x2048x1024 1 × IVec S8x1x2048 1 × IVec S1024 1 × IVec S1024x3072 1 × IVec S4x3072 1 × IVec S3072 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x1x2048 .f32 := (extractStridedSlice S8x1x2048 ![0, 0, 0] · slices_S8x1x6144_S8x1x2048_0_0_0) main_arg1
  let main_v4 : FVec F S8x1x2048 .f32 := Host.absf main_v3
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x3072 .f32 := (extractStridedSlice S1024x3072 ![0, 5120] · slices_S1024x10304_S1024x3072_0_5120) main_arg3
  let main_v11 : FVec F S1024x3072 .f32 := Host.absf main_v10
  let main_cst_2 : FVec F S_ .f32 := constant S_ .f32 0x7F800000#32
  let main_v12 : FVec F S1024x3072 .f32 := broadcastInDim S1024x3072 ![] bcast_S_S1024x3072 main_cst_2
  let main_v13 : IVec S1024x3072 1 := cmpf .olt main_v11 main_v12
  let main_v14 : FVec F S4x3072 .f32 := Host.absf main_arg4
  let main_cst_3 : FVec F S_ .f32 := constant S_ .f32 0x7F800000#32
  let main_v15 : FVec F S4x3072 .f32 := broadcastInDim S4x3072 ![] bcast_S_S4x3072 main_cst_3
  let main_v16 : IVec S4x3072 1 := cmpf .olt main_v14 main_v15
  let main_v17 : FVec F S3072 .f32 := Host.absf main_arg5
  let main_cst_4 : FVec F S_ .f32 := constant S_ .f32 0x7F800000#32
  fn_part1 (F := F) main_v2 main_v6 main_v9 main_v13 main_v16 main_v17 main_cst_4
-- ==== Pre_scores_finite.lean ====
abbrev S8x2048x16x64 : Shape := ⟨4, ![8, 2048, 16, 64]⟩
abbrev S16384x2048 : Shape := ⟨2, ![16384, 2048]⟩
abbrev S8x2x256x16x64 : Shape := ⟨5, ![8, 2, 256, 16, 64]⟩
abbrev S16x15x31 : Shape := ⟨3, ![16, 15, 31]⟩
abbrev S_ : Shape := ⟨0, ![]⟩

class Facts : Prop where
  bcast_S_S8x2048x16x64 : S_.BroadcastsInDim S8x2048x16x64 (![] : Fin 0 → Fin S8x2048x16x64.rank)
  bcast_S_S8x2x256x16x64 : S_.BroadcastsInDim S8x2x256x16x64 (![] : Fin 0 → Fin S8x2x256x16x64.rank)
  bcast_S_S16x15x31 : S_.BroadcastsInDim S16x15x31 (![] : Fin 0 → Fin S16x15x31.rank)

variable [Facts]

def fn {F : FTy → Type} [FloatOps F] (main_arg0 : FVec F S8x2048x16x64 .f32) (main_arg1 : FVec F S8x2048x16x64 .f32) (main_arg2 : FVec F S8x2048x16x64 .f32) (main_arg3 : FVec F S16384x2048 .f32) (main_arg4 : FVec F S8x2x256x16x64 .f32) (main_arg5 : FVec F S8x2x256x16x64 .f32) (main_arg6 : FVec F S16x15x31 .f32) : IVec S8x2048x16x64 1 × IVec S8x2048x16x64 1 × IVec S8x2x256x16x64 1 × IVec S16x15x31 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_v3 : FVec F S8x2048x16x64 .f32 := Host.absf main_arg1
  let main_cst_0 : FVec F S_ .f32 := constant S_ .f32 0x7F800000#32
  let main_v4 : FVec F S8x2048x16x64 .f32 := broadcastInDim S8x2048x16x64 ![] bcast_S_S8x2048x16x64 main_cst_0
  let main_v5 : IVec S8x2048x16x64 1 := cmpf .olt main_v3 main_v4
  let main_v6 : FVec F S8x2x256x16x64 .f32 := Host.absf main_arg4
  let main_cst_1 : FVec F S_ .f32 := constant S_ .f32 0x7F800000#32
  let main_v7 : FVec F S8x2x256x16x64 .f32 := broadcastInDim S8x2x256x16x64 ![] bcast_S_S8x2x256x16x64 main_cst_1
  let main_v8 : IVec S8x2x256x16x64 1 := cmpf .olt main_v6 main_v7
  let main_v9 : FVec F S16x15x31 .f32 := Host.absf main_arg6
  let main_cst_2 : FVec F S_ .f32 := constant S_ .f32 0x7F800000#32
  let main_v10 : FVec F S16x15x31 .f32 := broadcastInDim S16x15x31 ![] bcast_S_S16x15x31 main_cst_2
  let main_v11 : IVec S16x15x31 1 := cmpf .olt main_v9 main_v10
  (main_v2, main_v5, main_v8, main_v11)
-- ==== Kernel.lean ====
abbrev S8x2048x16x64 : Shape := ⟨4, ![8, 2048, 16, 64]⟩
abbrev S16384x2048 : Shape := ⟨2, ![16384, 2048]⟩
abbrev S8x2x256x16x64 : Shape := ⟨5, ![8, 2, 256, 16, 64]⟩
abbrev S16x15x31 : Shape := ⟨3, ![16, 15, 31]⟩
abbrev S16384x1024 : Shape := ⟨2, ![16384, 1024]⟩
abbrev S_ : Shape := ⟨0, ![]⟩
abbrev S16384x5120 : Shape := ⟨2, ![16384, 5120]⟩
abbrev S8x2x256x1024 : Shape := ⟨4, ![8, 2, 256, 1024]⟩
abbrev S16x15x16 : Shape := ⟨3, ![16, 15, 16]⟩
abbrev S16x15x15 : Shape := ⟨3, ![16, 15, 15]⟩
abbrev S16x15x97 : Shape := ⟨3, ![16, 15, 97]⟩
abbrev S16x15x128 : Shape := ⟨3, ![16, 15, 128]⟩
abbrev S16x16x128 : Shape := ⟨3, ![16, 16, 128]⟩
abbrev S8x3x768x512 : Shape := ⟨4, ![8, 3, 768, 512]⟩
abbrev S1x16x128 : Shape := ⟨3, ![1, 16, 128]⟩
abbrev S1x3x768x256 : Shape := ⟨4, ![1, 3, 768, 256]⟩
abbrev S64x128 : Shape := ⟨2, ![64, 128]⟩
abbrev S1x1x128 : Shape := ⟨3, ![1, 1, 128]⟩
abbrev S1x128 : Shape := ⟨2, ![1, 128]⟩
abbrev S1x1x64x128 : Shape := ⟨4, ![1, 1, 64, 128]⟩
abbrev S2048x128 : Shape := ⟨2, ![2048, 128]⟩
abbrev S1x1x256x128 : Shape := ⟨4, ![1, 1, 256, 128]⟩
abbrev S1x3x768x512 : Shape := ⟨4, ![1, 3, 768, 512]⟩
abbrev S8x128x256 : Shape := ⟨3, ![8, 128, 256]⟩
abbrev S256x128 : Shape := ⟨2, ![256, 128]⟩
abbrev S128x256 : Shape := ⟨2, ![128, 256]⟩
abbrev S1x128x256 : Shape := ⟨3, ![1, 128, 256]⟩
abbrev S768x128 : Shape := ⟨2, ![768, 128]⟩
abbrev S512x128 : Shape := ⟨2, ![512, 128]⟩
abbrev S768x512 : Shape := ⟨2, ![768, 512]⟩
abbrev S1x1x768x512 : Shape := ⟨4, ![1, 1, 768, 512]⟩
abbrev S256x512 : Shape := ⟨2, ![256, 512]⟩
abbrev S512 : Shape := ⟨1, ![512]⟩
abbrev S1x512 : Shape := ⟨2, ![1, 512]⟩
abbrev S64x256 : Shape := ⟨2, ![64, 256]⟩
abbrev S256x256 : Shape := ⟨2, ![256, 256]⟩
abbrev S1x64x256 : Shape := ⟨3, ![1, 64, 256]⟩
abbrev S1x256 : Shape := ⟨2, ![1, 256]⟩

abbrev nBuf : Space → Nat
  | .hbm => 33
  | .vmem => 19
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16384x2048, .f32⟩
  | .hbm, ⟨4, _⟩ => ⟨S8x2x256x16x64, .f32⟩
  | .hbm, ⟨5, _⟩ => ⟨S8x2x256x16x64, .f32⟩
  | .hbm, ⟨6, _⟩ => ⟨S16x15x31, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x5120, .f32⟩
  | .hbm, ⟨18, _⟩ => ⟨S16384x5120, .bf16⟩
  | .hbm, ⟨19, _⟩ => ⟨S8x2x256x1024, .f32⟩
  | .hbm, ⟨20, _⟩ => ⟨S8x2x256x1024, .f32⟩
  | .hbm, ⟨21, _⟩ => ⟨S16x15x16, .f32⟩
  | .hbm, ⟨22, _⟩ => ⟨S16x15x16, .f32⟩
  | .hbm, ⟨23, _⟩ => ⟨S16x15x15, .f32⟩
  | .hbm, ⟨24, _⟩ => ⟨S16x15x15, .f32⟩
  | .hbm, ⟨25, _⟩ => ⟨S_, .f32⟩
  | .hbm, ⟨26, _⟩ => ⟨S16x15x97, .f32⟩
  | .hbm, ⟨27, _⟩ => ⟨S16x15x128, .f32⟩
  | .hbm, ⟨28, _⟩ => ⟨S_, .i32⟩
  | .hbm, ⟨29, _⟩ => ⟨S_, .f32⟩
  | .hbm, ⟨30, _⟩ => ⟨S16x16x128, .f32⟩
  | .hbm, ⟨31, _⟩ => ⟨S8x3x768x512, .f32⟩
  | .hbm, ⟨32, _⟩ => ⟨S16384x1024, .bf16⟩
  | .local _ .vmem, ⟨0, _⟩ => ⟨S1x16x128, .f32⟩
  | .local _ .vmem, ⟨1, _⟩ => ⟨S1x16x128, .f32⟩
  | .local _ .vmem, ⟨2, _⟩ => ⟨S1x3x768x256, .f32⟩
  | .local _ .vmem, ⟨3, _⟩ => ⟨S1x3x768x256, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x1x256x128, .f32⟩
  | .local _ .vmem, ⟨11, _⟩ => ⟨S1x1x256x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x3x768x512, .f32⟩
  | .local _ .vmem, ⟨15, _⟩ => ⟨S1x3x768x512, .f32⟩
  | .local _ .vmem, ⟨16, _⟩ => ⟨S2048x128, .bf16⟩
  | .local _ .vmem, ⟨17, _⟩ => ⟨S2048x128, .bf16⟩
  | .local _ .vmem, ⟨18, _⟩ => ⟨S8x128x256, .bf16⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x3x768x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x16x64 : Shape := ⟨4, ![8, 2048, 16, 64]⟩
abbrev S16384x2048 : Shape := ⟨2, ![16384, 2048]⟩
abbrev S8x2x256x16x64 : Shape := ⟨5, ![8, 2, 256, 16, 64]⟩
abbrev S16x15x31 : Shape := ⟨3, ![16, 15, 31]⟩
abbrev S8x1x256x16x64 : Shape := ⟨5, ![8, 1, 256, 16, 64]⟩
abbrev S8x256x16x64 : Shape := ⟨4, ![8, 256, 16, 64]⟩
abbrev S8x32x64x16x64 : Shape := ⟨5, ![8, 32, 64, 16, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x16x64 : Shape := ⟨6, ![8, 32, 8, 64, 16, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S16x32x64x8x64 : Shape := ⟨5, ![16, 32, 64, 8, 64]⟩
abbrev S8x16x32x64x8x64 : Shape := ⟨6, ![8, 16, 32, 64, 8, 64]⟩
abbrev S64x1x64 : Shape := ⟨3, ![64, 1, 64]⟩
abbrev S1x16x32x64x8x64 : Shape := ⟨6, ![1, 16, 32, 64, 8, 64]⟩
abbrev S8x16x32x64x256 : Shape := ⟨5, ![8, 16, 32, 64, 256]⟩
abbrev S8x16x32x64x512 : Shape := ⟨5, ![8, 16, 32, 64, 512]⟩
abbrev S8x16x32x64x768 : Shape := ⟨5, ![8, 16, 32, 64, 768]⟩
abbrev S8x16x32x64 : Shape := ⟨4, ![8, 16, 32, 64]⟩
abbrev S8x16x32x64x1 : Shape := ⟨5, ![8, 16, 32, 64, 1]⟩
abbrev S8x32x16x64x64 : Shape := ⟨5, ![8, 32, 16, 64, 64]⟩
abbrev S8x16x64x32x64 : Shape := ⟨5, ![8, 16, 64, 32, 64]⟩
abbrev S16384x1024 : Shape := ⟨2, ![16384, 1024]⟩

abbrev nBuf : Space → Nat
  | .hbm => 169
  | .vmem => 0
  | .smem => 0
  | _ => 0

abbrev hbmTy0_0 (i : Nat) : BufTy := match i % 128 with
  | 0 => ⟨S8x2048x16x64, .f32⟩
  | 1 => ⟨S8x2048x16x64, .f32⟩
  | 2 => ⟨S8x2048x16x64, .f32⟩
  | 3 => ⟨S16384x2048, .f32⟩
  | 4 => ⟨S8x2x256x16x64, .f32⟩
  | 5 => ⟨S8x2x256x16x64, .f32⟩
  | 6 => ⟨S16x15x31, .f32⟩
  | 7 => ⟨S8x1x256x16x64, .f32⟩
  | 8 => ⟨S8x256x16x64, .f32⟩
  | 9 => ⟨S8x1x256x16x64, .f32⟩
  | 10 => ⟨S8x256x16x64, .f32⟩
  | 11 => ⟨S8x32x64x16x64, .f32⟩
  | 12 => ⟨S8x32x64x16x64, .f32⟩
  | 13 => ⟨S8x32x64x16x64, .f32⟩
  | 14 => ⟨S64, .i32⟩
  | 15 => ⟨S_, .i32⟩
  | 16 => ⟨S64, .i32⟩
  | 17 => ⟨S64, .i32⟩
  | 18 => ⟨S_, .i32⟩
  | 19 => ⟨S_, .i32⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S1x64, .i32⟩
  | 27 => ⟨S64x1, .i32⟩
  | 28 => ⟨S64x64, .i32⟩
  | 29 => ⟨S64x64, .i32⟩
  | 30 => ⟨S64x64, .i1⟩
  | 31 => ⟨S1x64, .i32⟩
  | 32 => ⟨S64x1, .i32⟩
  | 33 => ⟨S_, .i32⟩
  | 34 => ⟨S64x1, .i32⟩
  | 35 => ⟨S64x1, .i32⟩
  | 36 => ⟨S64x64, .i32⟩
  | 37 => ⟨S64x64, .i32⟩
  | 38 => ⟨S64x64, .i1⟩
  | 39 => ⟨S64x64, .i1⟩
  | 40 => ⟨S1x64, .i32⟩
  | 41 => ⟨S64x1, .i32⟩
  | 42 => ⟨S64x64, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S_, .i32⟩
  | 53 => ⟨S_, .i32⟩
  | 54 => ⟨S64x64, .i32⟩
  | 55 => ⟨S64x64, .i32⟩
  | 56 => ⟨S_, .i32⟩
  | 57 => ⟨S64x64, .i32⟩
  | 58 => ⟨S64x64, .i32⟩
  | 59 => ⟨S32, .i32⟩
  | 60 => ⟨S_, .i32⟩
  | 61 => ⟨S32, .i32⟩
  | 62 => ⟨S32, .i32⟩
  | 63 => ⟨S_, .i32⟩
  | 64 => ⟨S_, .i32⟩
  | 65 => ⟨S_, .i32⟩
  | 66 => ⟨S32, .i32⟩
  | 67 => ⟨S32, .i32⟩
  | 68 => ⟨S_, .i32⟩
  | 69 => ⟨S32, .i32⟩
  | 70 => ⟨S32, .i32⟩
  | 71 => ⟨S32x1, .i32⟩
  | 72 => ⟨S8, .i32⟩
  | 73 => ⟨S1x8, .i32⟩
  | 74 => ⟨S32x8, .i32⟩
  | 75 => ⟨S32x8, .i32⟩
  | 76 => ⟨S32x8, .i32⟩
  | 77 => ⟨S32x1, .i32⟩
  | 78 => ⟨S32x8, .i32⟩
  | 79 => ⟨S32x8, .i32⟩
  | 80 => ⟨S_, .i32⟩
  | 81 => ⟨S32x8, .i32⟩
  | 82 => ⟨S32x8, .i32⟩
  | 83 => ⟨S_, .i32⟩
  | 84 => ⟨S32x8, .i32⟩
  | 85 => ⟨S32x8, .i32⟩
  | 86 => ⟨S_, .i32⟩
  | 87 => ⟨S32x8, .i32⟩
  | 88 => ⟨S32x8, .i1⟩
  | 89 => ⟨S_, .i32⟩
  | 90 => ⟨S32x8, .i32⟩
  | 91 => ⟨S32x8, .i32⟩
  | 92 => ⟨S32x8, .i32⟩
  | 93 => ⟨S32x8x1, .i32⟩
  | 94 => ⟨S8x32x8x64x16x64, .f32⟩
  | 95 => ⟨S_, .i32⟩
  | 96 => ⟨S32x8, .i32⟩
  | 97 => ⟨S32x8, .i1⟩
  | 98 => ⟨S_, .i32⟩
  | 99 => ⟨S32x8, .i32⟩
  | 100 => ⟨S32x8, .i32⟩
  | 101 => ⟨S32x8, .i32⟩
  | 102 => ⟨S32x8x1, .i32⟩
  | 103 => ⟨S8x32x8x64x16x64, .f32⟩
  | 104 => ⟨S32x1x8x1, .i32⟩
  | 105 => ⟨S1x64x1x64, .i32⟩
  | 106 => ⟨S_, .i32⟩
  | 107 => ⟨S32x1x8x1, .i32⟩
  | 108 => ⟨S32x1x8x1, .i1⟩
  | 109 => ⟨S_, .i32⟩
  | 110 => ⟨S32x1x8x1, .i32⟩
  | 111 => ⟨S32x1x8x1, .i32⟩
  | 112 => ⟨S32x1x8x1, .i32⟩
  | 113 => ⟨S_, .i32⟩
  | 114 => ⟨S1x64x1x64, .i32⟩
  | 115 => ⟨S1x64x1x64, .i1⟩
  | 116 => ⟨S_, .i32⟩
  | 117 => ⟨S1x64x1x64, .i32⟩
  | 118 => ⟨S1x64x1x64, .i32⟩
  | 119 => ⟨S1x64x1x64, .i32⟩
  | 120 => ⟨S32x64x8x64, .i32⟩
  | 121 => ⟨S32x64x8x64, .i32⟩
  | 122 => ⟨S32x64x8x64x1, .i32⟩
  | 123 => ⟨S32x64x8x64x1, .i32⟩
  | 124 => ⟨S32x64x8x64x2, .i32⟩
  | 125 => ⟨S16x32x64x8x64, .f32⟩
  | 126 => ⟨S8x16x32x64x8x64, .f32⟩
  | 127 => ⟨S_, .f32⟩
  | _ => ⟨S8x2048x16x64, .f32⟩

abbrev hbmTy0_1 (i : Nat) : BufTy := match i % 128 with
  | 0 => ⟨S8x16x32x64x8x64, .f32⟩
  | 1 => ⟨S8x16x32x64x8x64, .f32⟩
  | 2 => ⟨S64x1x64, .i1⟩
  | 3 => ⟨S1x16x32x64x8x64, .f32⟩
  | 4 => ⟨S8x16x32x64x8x64, .f32⟩
  | 5 => ⟨S8x16x32x64x8x64, .f32⟩
  | 6 => ⟨S_, .f32⟩
  | 7 => ⟨S_, .f32⟩
  | 8 => ⟨S8x16x32x64x8x64, .i1⟩
  | 9 => ⟨S8x16x32x64x8x64, .f32⟩
  | 10 => ⟨S8x16x32x64x8x64, .f32⟩
  | 11 => ⟨S8x16x32x64x256, .f32⟩
  | 12 => ⟨S_, .f32⟩
  | 13 => ⟨S8x16x32x64x256, .f32⟩
  | 14 => ⟨S8x16x32x64x256, .f32⟩
  | 15 => ⟨S8x16x32x64x512, .f32⟩
  | 16 => ⟨S8x16x32x64x768, .f32⟩
  | 17 => ⟨S_, .f32⟩
  | 18 => ⟨S8x16x32x64, .f32⟩
  | 19 => ⟨S_, .f32⟩
  | 20 => ⟨S8x16x32x64, .f32⟩
  | 21 => ⟨S8x16x32x64, .f32⟩
  | 22 => ⟨S8x16x32x64x1, .f32⟩
  | 23 => ⟨S8x16x32x64x768, .f32⟩
  | 24 => ⟨S8x16x32x64x768, .f32⟩
  | 25 => ⟨S8x16x32x64x768, .f32⟩
  | 26 => ⟨S_, .f32⟩
  | 27 => ⟨S8x16x32x64, .f32⟩
  | 28 => ⟨S8x16x32x64x1, .f32⟩
  | 29 => ⟨S8x16x32x64x768, .f32⟩
  | 30 => ⟨S8x16x32x64x768, .f32⟩
  | 31 => ⟨S8x16x32x64x512, .f32⟩
  | 32 => ⟨S8x16x32x64x8x64, .f32⟩
  | 33 => ⟨S8x16x32x64x256, .f32⟩
  | 34 => ⟨S8x32x16x64x64, .f32⟩
  | 35 => ⟨S8x32x64x16x64, .f32⟩
  | 36 => ⟨S8x16x64x32x64, .f32⟩
  | 37 => ⟨S8x32x64x16x64, .f32⟩
  | 38 => ⟨S8x32x64x16x64, .f32⟩
  | 39 => ⟨S16384x1024, .f32⟩
  | 40 => ⟨S16384x1024, .bf16⟩
  | _ => ⟨S8x2048x16x64, .f32⟩

abbrev hbmTy (i : Nat) : BufTy := match i / 128 with
  | 0 => hbmTy0_0 i
  | 1 => hbmTy0_1 i
  | _ => ⟨S8x2048x16x64, .f32⟩

abbrev bufTy : (tb : Table) → Fin (tcTables nBuf tb) → BufTy
  | .hbm, ⟨i, _⟩ => hbmTy i
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_c_6 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_c_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_14 : Ref sig .tc := ⟨.hbm, 95, rfl⟩
abbrev main_v58 : Ref sig .tc := ⟨.hbm, 96, rfl⟩
abbrev main_v59 : Ref sig .tc := ⟨.hbm, 97, rfl⟩
abbrev main_c_15 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_16 : Ref sig .tc := ⟨.hbm, 106, rfl⟩
abbrev main_v67 : Ref sig .tc := ⟨.hbm, 107, rfl⟩
abbrev main_v68 : Ref sig .tc := ⟨.hbm, 108, rfl⟩
abbrev main_c_17 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_18 : Ref sig .tc := ⟨.hbm, 113, rfl⟩
abbrev main_v72 : Ref sig .tc := ⟨.hbm, 114, rfl⟩
abbrev main_v73 : Ref sig .tc := ⟨.hbm, 115, rfl⟩
abbrev main_c_19 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_20 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v90 : Ref sig .tc := ⟨.hbm, 138, rfl⟩
abbrev main_v91 : Ref sig .tc := ⟨.hbm, 139, rfl⟩
abbrev main_cst_21 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_22 : Ref sig .tc := ⟨.hbm, 145, rfl⟩
abbrev main_v96 : Ref sig .tc := ⟨.hbm, 146, rfl⟩
abbrev main_cst_23 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_24 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩

abbrev nD : Nat := 1
abbrev τ : Topo := Topo.v7x

variable {F : FTy → Type} [FloatOps F]
-- ==== MergeLat.lean ====
abbrev S8x2048x1024 : Shape := ⟨3, ![8, 2048, 1024]⟩
abbrev S16384x1024 : Shape := ⟨2, ![16384, 1024]⟩
abbrev S16384x2048 : Shape := ⟨2, ![16384, 2048]⟩
abbrev S16384x3072 : Shape := ⟨2, ![16384, 3072]⟩
abbrev S8x1x6144 : Shape := ⟨3, ![8, 1, 6144]⟩
abbrev S2048 : Shape := ⟨1, ![2048]⟩
abbrev S1024x1024 : Shape := ⟨2, ![1024, 1024]⟩
abbrev S2048x1024 : Shape := ⟨2, ![2048, 1024]⟩
abbrev S16384x5120 : Shape := ⟨2, ![16384, 5120]⟩
abbrev S_ : Shape := ⟨0, ![]⟩
abbrev S1x1x6144 : Shape := ⟨3, ![1, 1, 6144]⟩
abbrev S7x1x6144 : Shape := ⟨3, ![7, 1, 6144]⟩
abbrev S16x1x6144 : Shape := ⟨3, ![16, 1, 6144]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 26
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .f32⟩
  | .hbm, ⟨2, _⟩ => ⟨S16384x2048, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S8x1x6144, .f32⟩
  | .hbm, ⟨7, _⟩ => ⟨S2048, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S16384x5120, .f32⟩
  | .hbm, ⟨12, _⟩ => ⟨S16384x5120, .bf16⟩
  | .hbm, ⟨13, _⟩ => ⟨S_, .f32⟩
  | .hbm, ⟨14, _⟩ => ⟨S1x1x6144, .f32⟩
  | .hbm, ⟨15, _⟩ => ⟨S_, .f32⟩
  | .hbm, ⟨16, _⟩ => ⟨S7x1x6144, .f32⟩
  | .hbm, ⟨17, _⟩ => ⟨S16x1x6144, .f32⟩
  | .hbm, ⟨18, _⟩ => ⟨S16384x1024, .f32⟩
  | .hbm, ⟨19, _⟩ => ⟨S16384x1024, .bf16⟩
  | .hbm, ⟨20, _⟩ => ⟨S16384x2048, .bf16⟩
  | .hbm, ⟨21, _⟩ => ⟨S1x2048, .f32⟩
  | .hbm, ⟨22, _⟩ => ⟨S1024x1024, .bf16⟩
  | .hbm, ⟨23, _⟩ => ⟨S2048x1024, .bf16⟩
  | .hbm, ⟨24, _⟩ => ⟨S1024x1024, .bf16⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x6144, .f32⟩
  | .local _ .vmem, ⟨11, _⟩ => ⟨S1x1x6144, .f32⟩
  | .local _ .vmem, ⟨12, _⟩ => ⟨S1x2048, .f32⟩
  | .local _ .vmem, ⟨13, _⟩ => ⟨S1024x1024, .bf16⟩
  | .local _ .vmem, ⟨14, _⟩ => ⟨S2048x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeLatReferenceIdeal.lean ====
abbrev S8x2048x1024 : Shape := ⟨3, ![8, 2048, 1024]⟩
abbrev S16384x1024 : Shape := ⟨2, ![16384, 1024]⟩
abbrev S16384x2048 : Shape := ⟨2, ![16384, 2048]⟩
abbrev S16384x3072 : Shape := ⟨2, ![16384, 3072]⟩
abbrev S8x1x6144 : Shape := ⟨3, ![8, 1, 6144]⟩
abbrev S2048 : Shape := ⟨1, ![2048]⟩
abbrev S1024x1024 : Shape := ⟨2, ![1024, 1024]⟩
abbrev S2048x1024 : Shape := ⟨2, ![2048, 1024]⟩
abbrev S8x1x1024 : Shape := ⟨3, ![8, 1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .f32⟩
  | .hbm, ⟨2, _⟩ => ⟨S16384x2048, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S8x1x6144, .f32⟩
  | .hbm, ⟨7, _⟩ => ⟨S2048, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S8x1x1024, .f32⟩
  | .hbm, ⟨12, _⟩ => ⟨S8x1024, .f32⟩
  | .hbm, ⟨13, _⟩ => ⟨S8x2048x1024, .f32⟩
  | .hbm, ⟨14, _⟩ => ⟨S16384x1024, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== FfnLat.lean ====
abbrev S8x2048x1024 : Shape := ⟨3, ![8, 2048, 1024]⟩
abbrev S8x1x6144 : Shape := ⟨3, ![8, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S1x1x6144 : Shape := ⟨3, ![1, 1, 6144]⟩
abbrev S7x1x6144 : Shape := ⟨3, ![7, 1, 6144]⟩
abbrev S16x1x6144 : Shape := ⟨3, ![16, 1, 6144]⟩
abbrev S16384x1024 : Shape := ⟨2, ![16384, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S528x1024 : Shape := ⟨2, ![528, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S528x256 : Shape := ⟨2, ![528, 256]⟩
abbrev S8x256 : Shape := ⟨2, ![8, 256]⟩
abbrev S512x256 : Shape := ⟨2, ![512, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S_, .f32⟩
  | .hbm, ⟨8, _⟩ => ⟨S1x1x6144, .f32⟩
  | .hbm, ⟨9, _⟩ => ⟨S_, .f32⟩
  | .hbm, ⟨10, _⟩ => ⟨S7x1x6144, .f32⟩
  | .hbm, ⟨11, _⟩ => ⟨S16x1x6144, .f32⟩
  | .hbm, ⟨12, _⟩ => ⟨S16384x1024, .f32⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S512x1024, .f32⟩
  | .local _ .vmem, ⟨14, _⟩ => ⟨S512x1024, .f32⟩
  | .local _ .vmem, ⟨15, _⟩ => ⟨S528x1024, .bf16⟩
  | .local _ .vmem, ⟨16, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnLatReferenceIdeal.lean ====
abbrev S8x2048x1024 : Shape := ⟨3, ![8, 2048, 1024]⟩
abbrev S8x1x6144 : Shape := ⟨3, ![8, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x5632, .f32⟩
  | .hbm, ⟨34, _⟩ => ⟨S_, .i32⟩
  | .hbm, ⟨35, _⟩ => ⟨S_, .f32⟩
  | .hbm, ⟨36, _⟩ => ⟨S8x2050x5632, .f32⟩
  | .hbm, ⟨37, _⟩ => ⟨S1x5632, .f32⟩
  | .hbm, ⟨38, _⟩ => ⟨S5632, .f32⟩
  | .hbm, ⟨39, _⟩ => ⟨S8x2048x5632, .f32⟩
  | .hbm, ⟨40, _⟩ => ⟨S1x1x5632, .f32⟩
  | .hbm, ⟨41, _⟩ => ⟨S8x2048x5632, .f32⟩
  | .hbm, ⟨42, _⟩ => ⟨S8x2048x5632, .f32⟩
  | .hbm, ⟨43, _⟩ => ⟨S1x5632, .f32⟩
  | .hbm, ⟨44, _⟩ => ⟨S5632, .f32⟩
  | .hbm, ⟨45, _⟩ => ⟨S8x2048x5632, .f32⟩
  | .hbm, ⟨46, _⟩ => ⟨S1x1x5632, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S1x5632, .f32⟩
  | .hbm, ⟨51, _⟩ => ⟨S5632, .f32⟩
  | .hbm, ⟨52, _⟩ => ⟨S8x2048x5632, .f32⟩
  | .hbm, ⟨53, _⟩ => ⟨S1x1x5632, .f32⟩
  | .hbm, ⟨54, _⟩ => ⟨S8x2048x5632, .f32⟩
  | .hbm, ⟨55, _⟩ => ⟨S8x2048x5632, .f32⟩
  | .hbm, ⟨56, _⟩ => ⟨S8x2048x5632, .f32⟩
  | .hbm, ⟨57, _⟩ => ⟨S1x1x5632, .f32⟩
  | .hbm, ⟨58, _⟩ => ⟨S8x2048x5632, .f32⟩
  | .hbm, ⟨59, _⟩ => ⟨S8x2048x5632, .f32⟩
  | .hbm, ⟨60, _⟩ => ⟨S8x2048x2816, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S_, .f32⟩
  | .hbm, ⟨65, _⟩ => ⟨S8x2048x2816, .f32⟩
  | .hbm, ⟨66, _⟩ => ⟨S8x2048x2816, .f32⟩
  | .hbm, ⟨67, _⟩ => ⟨S_, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S8x2048x2816, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== MergeCtx.lean ====
abbrev S16x256x1024 : Shape := ⟨3, ![16, 256, 1024]⟩
abbrev S4096x1024 : Shape := ⟨2, ![4096, 1024]⟩
abbrev S4096x2048 : Shape := ⟨2, ![4096, 2048]⟩
abbrev S4096x3072 : Shape := ⟨2, ![4096, 3072]⟩
abbrev S1x1x6144 : Shape := ⟨3, ![1, 1, 6144]⟩
abbrev S2048 : Shape := ⟨1, ![2048]⟩
abbrev S1024x1024 : Shape := ⟨2, ![1024, 1024]⟩
abbrev S2048x1024 : Shape := ⟨2, ![2048, 1024]⟩
abbrev S4096x5120 : Shape := ⟨2, ![4096, 5120]⟩
abbrev S_ : Shape := ⟨0, ![]⟩
abbrev S15x1x6144 : Shape := ⟨3, ![15, 1, 6144]⟩
abbrev S16x1x6144 : Shape := ⟨3, ![16, 1, 6144]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 24
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S4096x1024, .f32⟩
  | .hbm, ⟨2, _⟩ => ⟨S4096x2048, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S1x1x6144, .f32⟩
  | .hbm, ⟨7, _⟩ => ⟨S2048, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S4096x5120, .f32⟩
  | .hbm, ⟨12, _⟩ => ⟨S4096x5120, .bf16⟩
  | .hbm, ⟨13, _⟩ => ⟨S_, .f32⟩
  | .hbm, ⟨14, _⟩ => ⟨S15x1x6144, .f32⟩
  | .hbm, ⟨15, _⟩ => ⟨S16x1x6144, .f32⟩
  | .hbm, ⟨16, _⟩ => ⟨S4096x1024, .f32⟩
  | .hbm, ⟨17, _⟩ => ⟨S4096x1024, .bf16⟩
  | .hbm, ⟨18, _⟩ => ⟨S4096x2048, .bf16⟩
  | .hbm, ⟨19, _⟩ => ⟨S1x2048, .f32⟩
  | .hbm, ⟨20, _⟩ => ⟨S1024x1024, .bf16⟩
  | .hbm, ⟨21, _⟩ => ⟨S2048x1024, .bf16⟩
  | .hbm, ⟨22, _⟩ => ⟨S1024x1024, .bf16⟩
  | .hbm, ⟨23, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x6144, .f32⟩
  | .local _ .vmem, ⟨11, _⟩ => ⟨S1x2048, .f32⟩
  | .local _ .vmem, ⟨12, _⟩ => ⟨S1024x1024, .bf16⟩
  | .local _ .vmem, ⟨13, _⟩ => ⟨S2048x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeCtxReferenceIdeal.lean ====
abbrev S16x256x1024 : Shape := ⟨3, ![16, 256, 1024]⟩
abbrev S4096x1024 : Shape := ⟨2, ![4096, 1024]⟩
abbrev S4096x2048 : Shape := ⟨2, ![4096, 2048]⟩
abbrev S4096x3072 : Shape := ⟨2, ![4096, 3072]⟩
abbrev S1x1x6144 : Shape := ⟨3, ![1, 1, 6144]⟩
abbrev S2048 : Shape := ⟨1, ![2048]⟩
abbrev S1024x1024 : Shape := ⟨2, ![1024, 1024]⟩
abbrev S2048x1024 : Shape := ⟨2, ![2048, 1024]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4096x1024, .f32⟩
  | .hbm, ⟨2, _⟩ => ⟨S4096x2048, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S1x1x6144, .f32⟩
  | .hbm, ⟨7, _⟩ => ⟨S2048, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S1x1x1024, .f32⟩
  | .hbm, ⟨12, _⟩ => ⟨S1x1024, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== FfnCtx.lean ====
abbrev S16x256x1024 : Shape := ⟨3, ![16, 256, 1024]⟩
abbrev S1x1x6144 : Shape := ⟨3, ![1, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S15x1x6144 : Shape := ⟨3, ![15, 1, 6144]⟩
abbrev S16x1x6144 : Shape := ⟨3, ![16, 1, 6144]⟩
abbrev S4096x1024 : Shape := ⟨2, ![4096, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S528x1024 : Shape := ⟨2, ![528, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S528x256 : Shape := ⟨2, ![528, 256]⟩
abbrev S8x256 : Shape := ⟨2, ![8, 256]⟩
abbrev S512x256 : Shape := ⟨2, ![512, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 16
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S_, .f32⟩
  | .hbm, ⟨8, _⟩ => ⟨S15x1x6144, .f32⟩
  | .hbm, ⟨9, _⟩ => ⟨S16x1x6144, .f32⟩
  | .hbm, ⟨10, _⟩ => ⟨S4096x1024, .f32⟩
  | .hbm, ⟨11, _⟩ => ⟨S1x1024, .f32⟩
  | .hbm, ⟨12, _⟩ => ⟨S1024x5632, .bf16⟩
  | .hbm, ⟨13, _⟩ => ⟨S1x5632, .f32⟩
  | .hbm, ⟨14, _⟩ => ⟨S2816x1024, .bf16⟩
  | .hbm, ⟨15, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S528x1024, .bf16⟩
  | .local _ .vmem, ⟨15, _⟩ => ⟨S512x2816, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnCtxReferenceIdeal.lean ====
abbrev S16x256x1024 : Shape := ⟨3, ![16, 256, 1024]⟩
abbrev S1x1x6144 : Shape := ⟨3, ![1, 1, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x258x5632 : Shape := ⟨3, ![16, 258, 5632]⟩
abbrev S1x5632 : Shape := ⟨2, ![1, 5632]⟩
abbrev S1x1x5632 : Shape := ⟨3, ![1, 1, 5632]⟩
abbrev S16x256x2816 : Shape := ⟨3, ![16, 256, 2816]⟩
abbrev S4096x1024 : Shape := ⟨2, ![4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x5632, .f32⟩
  | .hbm, ⟨34, _⟩ => ⟨S_, .i32⟩
  | .hbm, ⟨35, _⟩ => ⟨S_, .f32⟩
  | .hbm, ⟨36, _⟩ => ⟨S16x258x5632, .f32⟩
  | .hbm, ⟨37, _⟩ => ⟨S1x5632, .f32⟩
  | .hbm, ⟨38, _⟩ => ⟨S5632, .f32⟩
  | .hbm, ⟨39, _⟩ => ⟨S16x256x5632, .f32⟩
  | .hbm, ⟨40, _⟩ => ⟨S1x1x5632, .f32⟩
  | .hbm, ⟨41, _⟩ => ⟨S16x256x5632, .f32⟩
  | .hbm, ⟨42, _⟩ => ⟨S16x256x5632, .f32⟩
  | .hbm, ⟨43, _⟩ => ⟨S1x5632, .f32⟩
  | .hbm, ⟨44, _⟩ => ⟨S5632, .f32⟩
  | .hbm, ⟨45, _⟩ => ⟨S16x256x5632, .f32⟩
  | .hbm, ⟨46, _⟩ => ⟨S1x1x5632, .f32⟩
  | .hbm, ⟨47, _⟩ => ⟨S16x256x5632, .f32⟩
  | .hbm, ⟨48, _⟩ => ⟨S16x256x5632, .f32⟩
  | .hbm, ⟨49, _⟩ => ⟨S16x256x5632, .f32⟩
  | .hbm, ⟨50, _⟩ => ⟨S1x5632, .f32⟩
  | .hbm, ⟨51, _⟩ => ⟨S5632, .f32⟩
  | .hbm, ⟨52, _⟩ => ⟨S16x256x5632, .f32⟩
  | .hbm, ⟨53, _⟩ => ⟨S1x1x5632, .f32⟩
  | .hbm, ⟨54, _⟩ => ⟨S16x256x5632, .f32⟩
  | .hbm, ⟨55, _⟩ => ⟨S16x256x5632, .f32⟩
  | .hbm, ⟨56, _⟩ => ⟨S16x256x5632, .f32⟩
  | .hbm, ⟨57, _⟩ => ⟨S1x1x5632, .f32⟩
  | .hbm, ⟨58, _⟩ => ⟨S16x256x5632, .f32⟩
  | .hbm, ⟨59, _⟩ => ⟨S16x256x5632, .f32⟩
  | .hbm, ⟨60, _⟩ => ⟨S16x256x2816, .f32⟩
  | .hbm, ⟨61, _⟩ => ⟨S16x256x2816, .f32⟩
  | .hbm, ⟨62, _⟩ => ⟨S16x256x2816, .f32⟩
  | .hbm, ⟨63, _⟩ => ⟨S16x256x2816, .f32⟩
  | .hbm, ⟨64, _⟩ => ⟨S_, .f32⟩
  | .hbm, ⟨65, _⟩ => ⟨S16x256x2816, .f32⟩
  | .hbm, ⟨66, _⟩ => ⟨S16x256x2816, .f32⟩
  | .hbm, ⟨67, _⟩ => ⟨S_, .f32⟩
  | .hbm, ⟨68, _⟩ => ⟨S16x256x2816, .f32⟩
  | .hbm, ⟨69, _⟩ => ⟨S16x256x2816, .f32⟩
  | .hbm, ⟨70, _⟩ => ⟨S16x256x2816, .f32⟩
  | .hbm, ⟨71, _⟩ => ⟨S16x256x2816, .f32⟩
  | .hbm, ⟨72, _⟩ => ⟨S16x256x1024, .f32⟩
  | .hbm, ⟨73, _⟩ => ⟨S16x256x1024, .f32⟩
  | .hbm, ⟨74, _⟩ => ⟨S16x256x1024, .f32⟩
  | .hbm, ⟨75, _⟩ => ⟨S16x256x1024, .f32⟩
  | .hbm, ⟨76, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== CtxAttn.lean ====
abbrev S16x256x16x64 : Shape := ⟨4, ![16, 256, 16, 64]⟩
abbrev S4096x2048 : Shape := ⟨2, ![4096, 2048]⟩
abbrev S4096x1024 : Shape := ⟨2, ![4096, 1024]⟩
abbrev S_ : Shape := ⟨0, ![]⟩
abbrev S4096x5120 : Shape := ⟨2, ![4096, 5120]⟩
abbrev S256x1024 : Shape := ⟨2, ![256, 1024]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 17
  | .vmem => 8
  | .smem => 0
  | _ => 0

abbrev bufTy : (tb : Table) → Fin (tcTables nBuf tb) → BufTy
  | .hbm, ⟨0, _⟩ => ⟨S16x256x16x64, .f32⟩
  | .hbm, ⟨1, _⟩ => ⟨S16x256x16x64, .f32⟩
  | .hbm, ⟨2, _⟩ => ⟨S16x256x16x64, .f32⟩
  | .hbm, ⟨3, _⟩ => ⟨S4096x2048, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x5120, .f32⟩
  | .hbm, ⟨15, _⟩ => ⟨S4096x5120, .bf16⟩
  | .hbm, ⟨16, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S16x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxAttnReferenceIdeal.lean ====
abbrev S16x256x16x64 : Shape := ⟨4, ![16, 256, 16, 64]⟩
abbrev S4096x2048 : Shape := ⟨2, ![4096, 2048]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x64x256 : Shape := ⟨4, ![16, 16, 64, 256]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x256x16x64, .f32⟩
  | .hbm, ⟨1, _⟩ => ⟨S16x256x16x64, .f32⟩
  | .hbm, ⟨2, _⟩ => ⟨S16x256x16x64, .f32⟩
  | .hbm, ⟨3, _⟩ => ⟨S4096x2048, .f32⟩
  | .hbm, ⟨4, _⟩ => ⟨S16x16x256x256, .f32⟩
  | .hbm, ⟨5, _⟩ => ⟨S_, .f32⟩
  | .hbm, ⟨6, _⟩ => ⟨S16x16x256x256, .f32⟩
  | .hbm, ⟨7, _⟩ => ⟨S16x16x256x256, .f32⟩
  | .hbm, ⟨8, _⟩ => ⟨S_, .f32⟩
  | .hbm, ⟨9, _⟩ => ⟨S16x16x256, .f32⟩
  | .hbm, ⟨10, _⟩ => ⟨S_, .f32⟩
  | .hbm, ⟨11, _⟩ => ⟨S16x16x256, .f32⟩
  | .hbm, ⟨12, _⟩ => ⟨S16x16x256, .f32⟩
  | .hbm, ⟨13, _⟩ => ⟨S16x16x256x1, .f32⟩
  | .hbm, ⟨14, _⟩ => ⟨S16x16x256x256, .f32⟩
  | .hbm, ⟨15, _⟩ => ⟨S16x16x256x256, .f32⟩
  | .hbm, ⟨16, _⟩ => ⟨S16x16x256x256, .f32⟩
  | .hbm, ⟨17, _⟩ => ⟨S_, .f32⟩
  | .hbm, ⟨18, _⟩ => ⟨S16x16x256, .f32⟩
  | .hbm, ⟨19, _⟩ => ⟨S16x16x256x1, .f32⟩
  | .hbm, ⟨20, _⟩ => ⟨S16x16x256x256, .f32⟩
  | .hbm, ⟨21, _⟩ => ⟨S16x16x256x256, .f32⟩
  | .hbm, ⟨22, _⟩ => ⟨S16x16x64x256, .f32⟩
  | .hbm, ⟨23, _⟩ => ⟨S16x256x16x64, .f32⟩
  | .hbm, ⟨24, _⟩ => ⟨S4096x1024, .f32⟩
  | .hbm, ⟨25, _⟩ => ⟨S4096x1024, .bf16⟩
  | _, _ => ⟨S16x256x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== InALat.lean ====
abbrev S8x2048x1024 : Shape := ⟨3, ![8, 2048, 1024]⟩
abbrev S8x1x6144 : Shape := ⟨3, ![8, 1, 6144]⟩
abbrev S1024 : Shape := ⟨1, ![1024]⟩
abbrev S1024x10304 : Shape := ⟨2, ![1024, 10304]⟩
abbrev S64 : Shape := ⟨1, ![64]⟩
abbrev S_ : Shape := ⟨0, ![]⟩
abbrev S1x1x6144 : Shape := ⟨3, ![1, 1, 6144]⟩
abbrev S7x1x6144 : Shape := ⟨3, ![7, 1, 6144]⟩
abbrev S16x1x6144 : Shape := ⟨3, ![16, 1, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S16x64 : Shape := ⟨2, ![16, 64]⟩
abbrev S2048 : Shape := ⟨1, ![2048]⟩
abbrev S1x2048 : Shape := ⟨2, ![1, 2048]⟩
abbrev S16384x1024 : Shape := ⟨2, ![16384, 1024]⟩
abbrev S1x1024 : Shape := ⟨2, ![1, 1024]⟩
abbrev S1024x5120 : Shape := ⟨2, ![1024, 5120]⟩
abbrev S16384x5120 : Shape := ⟨2, ![16384, 5120]⟩
abbrev S512x1024 : Shape := ⟨2, ![512, 1024]⟩
abbrev S512x5120 : Shape := ⟨2, ![512, 5120]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S1x512 : Shape := ⟨2, ![1, 512]⟩

abbrev nBuf : Space → Nat
  | .hbm => 68
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x10304, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S1x1x6144, .f32⟩
  | .hbm, ⟨8, _⟩ => ⟨S_, .f32⟩
  | .hbm, ⟨9, _⟩ => ⟨S7x1x6144, .f32⟩
  | .hbm, ⟨10, _⟩ => ⟨S16x1x6144, .f32⟩
  | .hbm, ⟨11, _⟩ => ⟨S256, .i32⟩
  | .hbm, ⟨12, _⟩ => ⟨S256x1, .i32⟩
  | .hbm, ⟨13, _⟩ => ⟨S_, .i32⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i32⟩
  | .hbm, ⟨22, _⟩ => ⟨S256x1, .i32⟩
  | .hbm, ⟨23, _⟩ => ⟨S_, .i32⟩
  | .hbm, ⟨24, _⟩ => ⟨S256x1, .i32⟩
  | .hbm, ⟨25, _⟩ => ⟨S256x1, .i1⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i1⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .bf16⟩
  | .hbm, ⟨55, _⟩ => ⟨S1x64, .f32⟩
  | .hbm, ⟨56, _⟩ => ⟨S16x64, .f32⟩
  | .hbm, ⟨57, _⟩ => ⟨S1024, .f32⟩
  | .hbm, ⟨58, _⟩ => ⟨S1x64, .f32⟩
  | .hbm, ⟨59, _⟩ => ⟨S16x64, .f32⟩
  | .hbm, ⟨60, _⟩ => ⟨S1024, .f32⟩
  | .hbm, ⟨61, _⟩ => ⟨S2048, .f32⟩
  | .hbm, ⟨62, _⟩ => ⟨S1x2048, .f32⟩
  | .hbm, ⟨63, _⟩ => ⟨S16384x1024, .f32⟩
  | .hbm, ⟨64, _⟩ => ⟨S1x1024, .f32⟩
  | .hbm, ⟨65, _⟩ => ⟨S1024x5120, .f32⟩
  | .hbm, ⟨66, _⟩ => ⟨S1024x5120, .bf16⟩
  | .hbm, ⟨67, _⟩ => ⟨S16384x5120, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x5120, .bf16⟩
  | .local _ .vmem, ⟨6, _⟩ => ⟨S1x2048, .f32⟩
  | .local _ .vmem, ⟨7, _⟩ => ⟨S256x256, .bf16⟩
  | .local _ .vmem, ⟨8, _⟩ => ⟨S512x5120, .bf16⟩
  | .local _ .vmem, ⟨9, _⟩ => ⟨S512x5120, .bf16⟩
  | .local _ .vmem, ⟨10, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InALatReferenceIdeal.lean ====
abbrev S8x2048x1024 : Shape := ⟨3, ![8, 2048, 1024]⟩
abbrev S8x1x6144 : Shape := ⟨3, ![8, 1, 6144]⟩
abbrev S1024 : Shape := ⟨1, ![1024]⟩
abbrev S1024x10304 : Shape := ⟨2, ![1024, 10304]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x5120 : Shape := ⟨2, ![1024, 5120]⟩
abbrev S8x2048x5120 : Shape := ⟨3, ![8, 2048, 5120]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S16384x1024 : Shape := ⟨2, ![16384, 1024]⟩
abbrev S8x2048x3072 : Shape := ⟨3, ![8, 2048, 3072]⟩
abbrev S16384x3072 : Shape := ⟨2, ![16384, 3072]⟩
abbrev S16384x5120 : Shape := ⟨2, ![16384, 5120]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x10304, .f32⟩
  | .hbm, ⟨4, _⟩ => ⟨S64, .f32⟩
  | .hbm, ⟨5, _⟩ => ⟨S64, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S1024x5120, .f32⟩
  | .hbm, ⟨32, _⟩ => ⟨S8x2048x5120, .f32⟩
  | .hbm, ⟨33, _⟩ => ⟨S8x2048x1024, .f32⟩
  | .hbm, ⟨34, _⟩ => ⟨S8x2048x16x64, .f32⟩
  | .hbm, ⟨35, _⟩ => ⟨S8x2048x16x64, .f32⟩
  | .hbm, ⟨36, _⟩ => ⟨S_, .f32⟩
  | .hbm, ⟨37, _⟩ => ⟨S8x2048x16, .f32⟩
  | .hbm, ⟨38, _⟩ => ⟨S8x2048x16x1, .f32⟩
  | .hbm, ⟨39, _⟩ => ⟨S_, .f32⟩
  | .hbm, ⟨40, _⟩ => ⟨S8x2048x16x1, .f32⟩
  | .hbm, ⟨41, _⟩ => ⟨S8x2048x16x1, .f32⟩
  | .hbm, ⟨42, _⟩ => ⟨S_, .f32⟩
  | .hbm, ⟨43, _⟩ => ⟨S8x2048x16x1, .f32⟩
  | .hbm, ⟨44, _⟩ => ⟨S8x2048x16x1, .f32⟩
  | .hbm, ⟨45, _⟩ => ⟨S8x2048x16x1, .f32⟩
  | .hbm, ⟨46, _⟩ => ⟨S8x2048x16x64, .f32⟩
  | .hbm, ⟨47, _⟩ => ⟨S8x2048x16x64, .f32⟩
  | .hbm, ⟨48, _⟩ => ⟨S1x1x1x64, .f32⟩
  | .hbm, ⟨49, _⟩ => ⟨S8x2048x16x64, .f32⟩
  | .hbm, ⟨50, _⟩ => ⟨S8x2048x16x64, .f32⟩
  | .hbm, ⟨51, _⟩ => ⟨S8x2048x1024, .f32⟩
  | .hbm, ⟨52, _⟩ => ⟨S8x2048x16x64, .f32⟩
  | .hbm, ⟨53, _⟩ => ⟨S8x2048x16x64, .f32⟩
  | .hbm, ⟨54, _⟩ => ⟨S_, .f32⟩
  | .hbm, ⟨55, _⟩ => ⟨S8x2048x16, .f32⟩
  | .hbm, ⟨56, _⟩ => ⟨S8x2048x16x1, .f32⟩
  | .hbm, ⟨57, _⟩ => ⟨S_, .f32⟩
  | .hbm, ⟨58, _⟩ => ⟨S8x2048x16x1, .f32⟩
  | .hbm, ⟨59, _⟩ => ⟨S8x2048x16x1, .f32⟩
  | .hbm, ⟨60, _⟩ => ⟨S_, .f32⟩
  | .hbm, ⟨61, _⟩ => ⟨S8x2048x16x1, .f32⟩
  | .hbm, ⟨62, _⟩ => ⟨S8x2048x16x1, .f32⟩
  | .hbm, ⟨63, _⟩ => ⟨S8x2048x16x1, .f32⟩
  | .hbm, ⟨64, _⟩ => ⟨S8x2048x16x64, .f32⟩
  | .hbm, ⟨65, _⟩ => ⟨S8x2048x16x64, .f32⟩
  | .hbm, ⟨66, _⟩ => ⟨S1x1x1x64, .f32⟩
  | .hbm, ⟨67, _⟩ => ⟨S8x2048x16x64, .f32⟩
  | .hbm, ⟨68, _⟩ => ⟨S8x2048x16x64, .f32⟩
  | .hbm, ⟨69, _⟩ => ⟨S16384x1024, .f32⟩
  | .hbm, ⟨70, _⟩ => ⟨S16384x1024, .f32⟩
  | .hbm, ⟨71, _⟩ => ⟨S8x2048x3072, .f32⟩
  | .hbm, ⟨72, _⟩ => ⟨S16384x3072, .f32⟩
  | .hbm, ⟨73, _⟩ => ⟨S16384x5120, .f32⟩
  | .hbm, ⟨74, _⟩ => ⟨S16384x5120, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== InBLat.lean ====
abbrev S8x2048x1024 : Shape := ⟨3, ![8, 2048, 1024]⟩
abbrev S8x1x6144 : Shape := ⟨3, ![8, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S1x1x6144 : Shape := ⟨3, ![1, 1, 6144]⟩
abbrev S7x1x6144 : Shape := ⟨3, ![7, 1, 6144]⟩
abbrev S16x1x6144 : Shape := ⟨3, ![16, 1, 6144]⟩
abbrev S16384x1024 : Shape := ⟨2, ![16384, 1024]⟩
abbrev S1x1024 : Shape := ⟨2, ![1, 1024]⟩
abbrev S1024x64 : Shape := ⟨2, ![1024, 64]⟩
abbrev S1024x8 : Shape := ⟨2, ![1024, 8]⟩
abbrev S1024x112 : Shape := ⟨2, ![1024, 112]⟩
abbrev S1024x3072 : Shape := ⟨2, ![1024, 3072]⟩
abbrev S1024x2048 : Shape := ⟨2, ![1024, 2048]⟩
abbrev S1024x5632 : Shape := ⟨2, ![1024, 5632]⟩
abbrev S1x3072 : Shape := ⟨2, ![1, 3072]⟩
abbrev S16384x5120 : Shape := ⟨2, ![16384, 5120]⟩
abbrev S16384x512 : Shape := ⟨2, ![16384, 512]⟩
abbrev S512x1024 : Shape := ⟨2, ![512, 1024]⟩
abbrev S8x1024 : Shape := ⟨2, ![8, 1024]⟩
abbrev S512x5120 : Shape := ⟨2, ![512, 5120]⟩
abbrev S512x512 : Shape := ⟨2, ![512, 512]⟩
abbrev S528x1024 : Shape := ⟨2, ![528, 1024]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x512 : Shape := ⟨2, ![1024, 512]⟩
abbrev S528x512 : Shape := ⟨2, ![528, 512]⟩
abbrev S8x512 : Shape := ⟨2, ![8, 512]⟩
abbrev S4x512 : Shape := ⟨2, ![4, 512]⟩
abbrev S1x512 : Shape := ⟨2, ![1, 512]⟩

abbrev nBuf : Space → Nat
  | .hbm => 37
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x10304, .f32⟩
  | .hbm, ⟨4, _⟩ => ⟨S4x3072, .f32⟩
  | .hbm, ⟨5, _⟩ => ⟨S3072, .f32⟩
  | .hbm, ⟨6, _⟩ => ⟨S_, .f32⟩
  | .hbm, ⟨7, _⟩ => ⟨S1x1x6144, .f32⟩
  | .hbm, ⟨8, _⟩ => ⟨S_, .f32⟩
  | .hbm, ⟨9, _⟩ => ⟨S7x1x6144, .f32⟩
  | .hbm, ⟨10, _⟩ => ⟨S16x1x6144, .f32⟩
  | .hbm, ⟨11, _⟩ => ⟨S16384x1024, .f32⟩
  | .hbm, ⟨12, _⟩ => ⟨S1x1024, .f32⟩
  | .hbm, ⟨13, _⟩ => ⟨S1024x64, .f32⟩
  | .hbm, ⟨14, _⟩ => ⟨S1024x8, .f32⟩
  | .hbm, ⟨15, _⟩ => ⟨S1024x8, .f32⟩
  | .hbm, ⟨16, _⟩ => ⟨S_, .f32⟩
  | .hbm, ⟨17, _⟩ => ⟨S1024x112, .f32⟩
  | .hbm, ⟨18, _⟩ => ⟨S1024x8, .f32⟩
  | .hbm, ⟨19, _⟩ => ⟨S1024x8, .f32⟩
  | .hbm, ⟨20, _⟩ => ⟨S_, .f32⟩
  | .hbm, ⟨21, _⟩ => ⟨S1024x112, .f32⟩
  | .hbm, ⟨22, _⟩ => ⟨S1024x8, .f32⟩
  | .hbm, ⟨23, _⟩ => ⟨S1024x8, .f32⟩
  | .hbm, ⟨24, _⟩ => ⟨S_, .f32⟩
  | .hbm, ⟨25, _⟩ => ⟨S1024x112, .f32⟩
  | .hbm, ⟨26, _⟩ => ⟨S1024x8, .f32⟩
  | .hbm, ⟨27, _⟩ => ⟨S1024x8, .f32⟩
  | .hbm, ⟨28, _⟩ => ⟨S_, .f32⟩
  | .hbm, ⟨29, _⟩ => ⟨S1024x112, .f32⟩
  | .hbm, ⟨30, _⟩ => ⟨S1024x3072, .f32⟩
  | .hbm, ⟨31, _⟩ => ⟨S1024x2048, .f32⟩
  | .hbm, ⟨32, _⟩ => ⟨S1024x5632, .f32⟩
  | .hbm, ⟨33, _⟩ => ⟨S1024x5632, .bf16⟩
  | .hbm, ⟨34, _⟩ => ⟨S1x3072, .f32⟩
  | .hbm, ⟨35, _⟩ => ⟨S16384x5120, .bf16⟩
  | .hbm, ⟨36, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x5632, .bf16⟩
  | .local _ .vmem, ⟨10, _⟩ => ⟨S4x3072, .f32⟩
  | .local _ .vmem, ⟨11, _⟩ => ⟨S1x3072, .f32⟩
  | .local _ .vmem, ⟨12, _⟩ => ⟨S512x5120, .bf16⟩
  | .local _ .vmem, ⟨13, _⟩ => ⟨S512x5120, .bf16⟩
  | .local _ .vmem, ⟨14, _⟩ => ⟨S512x512, .f32⟩
  | .local _ .vmem, ⟨15, _⟩ => ⟨S512x512, .f32⟩
  | .local _ .vmem, ⟨16, _⟩ => ⟨S528x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InBLatReferenceIdeal.lean ====
abbrev S8x2048x1024 : Shape := ⟨3, ![8, 2048, 1024]⟩
abbrev S8x1x6144 : Shape := ⟨3, ![8, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x5184 : Shape := ⟨2, ![1024, 5184]⟩
abbrev S8x2048x5184 : Shape := ⟨3, ![8, 2048, 5184]⟩
abbrev S8x2048x3072 : Shape := ⟨3, ![8, 2048, 3072]⟩
abbrev S8x2051x3072 : Shape := ⟨3, ![8, 2051, 3072]⟩
abbrev S1x3072 : Shape := ⟨2, ![1, 3072]⟩
abbrev S1x1x3072 : Shape := ⟨3, ![1, 1, 3072]⟩
abbrev S8x2048x64 : Shape := ⟨3, ![8, 2048, 64]⟩
abbrev S16384x2x4x8 : Shape := ⟨4, ![16384, 2, 4, 8]⟩
abbrev S16384x1x4x8 : Shape := ⟨4, ![16384, 1, 4, 8]⟩
abbrev S16384x4x8 : Shape := ⟨3, ![16384, 4, 8]⟩
abbrev S16384x4x112 : Shape := ⟨3, ![16384, 4, 112]⟩
abbrev S16384x4x128 : Shape := ⟨3, ![16384, 4, 128]⟩
abbrev S8x2048x2048 : Shape := ⟨3, ![8, 2048, 2048]⟩
abbrev S8x2048x5120 : Shape := ⟨3, ![8, 2048, 5120]⟩
abbrev S16384x5120 : Shape := ⟨2, ![16384, 5120]⟩
abbrev S16384x512 : Shape := ⟨2, ![16384, 512]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x6144, .f32⟩
  | .hbm, ⟨2, _⟩ => ⟨S1024, .f32⟩
  | .hbm, ⟨3, _⟩ => ⟨S1024x10304, .f32⟩
  | .hbm, ⟨4, _⟩ => ⟨S4x3072, .f32⟩
  | .hbm, ⟨5, _⟩ => ⟨S3072, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S1024x5184, .f32⟩
  | .hbm, ⟨32, _⟩ => ⟨S8x2048x5184, .f32⟩
  | .hbm, ⟨33, _⟩ => ⟨S8x2048x3072, .f32⟩
  | .hbm, ⟨34, _⟩ => ⟨S_, .i32⟩
  | .hbm, ⟨35, _⟩ => ⟨S_, .f32⟩
  | .hbm, ⟨36, _⟩ => ⟨S8x2051x3072, .f32⟩
  | .hbm, ⟨37, _⟩ => ⟨S1x3072, .f32⟩
  | .hbm, ⟨38, _⟩ => ⟨S3072, .f32⟩
  | .hbm, ⟨39, _⟩ => ⟨S8x2048x3072, .f32⟩
  | .hbm, ⟨40, _⟩ => ⟨S1x1x3072, .f32⟩
  | .hbm, ⟨41, _⟩ => ⟨S8x2048x3072, .f32⟩
  | .hbm, ⟨42, _⟩ => ⟨S8x2048x3072, .f32⟩
  | .hbm, ⟨43, _⟩ => ⟨S1x3072, .f32⟩
  | .hbm, ⟨44, _⟩ => ⟨S3072, .f32⟩
  | .hbm, ⟨45, _⟩ => ⟨S8x2048x3072, .f32⟩
  | .hbm, ⟨46, _⟩ => ⟨S1x1x3072, .f32⟩
  | .hbm, ⟨47, _⟩ => ⟨S8x2048x3072, .f32⟩
  | .hbm, ⟨48, _⟩ => ⟨S8x2048x3072, .f32⟩
  | .hbm, ⟨49, _⟩ => ⟨S8x2048x3072, .f32⟩
  | .hbm, ⟨50, _⟩ => ⟨S1x3072, .f32⟩
  | .hbm, ⟨51, _⟩ => ⟨S3072, .f32⟩
  | .hbm, ⟨52, _⟩ => ⟨S8x2048x3072, .f32⟩
  | .hbm, ⟨53, _⟩ => ⟨S1x1x3072, .f32⟩
  | .hbm, ⟨54, _⟩ => ⟨S8x2048x3072, .f32⟩
  | .hbm, ⟨55, _⟩ => ⟨S8x2048x3072, .f32⟩
  | .hbm, ⟨56, _⟩ => ⟨S8x2048x3072, .f32⟩
  | .hbm, ⟨57, _⟩ => ⟨S1x3072, .f32⟩
  | .hbm, ⟨58, _⟩ => ⟨S3072, .f32⟩
  | .hbm, ⟨59, _⟩ => ⟨S8x2048x3072, .f32⟩
  | .hbm, ⟨60, _⟩ => ⟨S1x1x3072, .f32⟩
  | .hbm, ⟨61, _⟩ => ⟨S8x2048x3072, .f32⟩
  | .hbm, ⟨62, _⟩ => ⟨S8x2048x3072, .f32⟩
  | .hbm, ⟨63, _⟩ => ⟨S8x2048x3072, .f32⟩
  | .hbm, ⟨64, _⟩ => ⟨S1x1x3072, .f32⟩
  | .hbm, ⟨65, _⟩ => ⟨S8x2048x3072, .f32⟩
  | .hbm, ⟨66, _⟩ => ⟨S8x2048x3072, .f32⟩
  | .hbm, ⟨67, _⟩ => ⟨S8x2048x64, .f32⟩
  | .hbm, ⟨68, _⟩ => ⟨S16384x2x4x8, .f32⟩
  | .hbm, ⟨69, _⟩ => ⟨S16384x1x4x8, .f32⟩
  | .hbm, ⟨70, _⟩ => ⟨S16384x4x8, .f32⟩
  | .hbm, ⟨71, _⟩ => ⟨S16384x1x4x8, .f32⟩
  | .hbm, ⟨72, _⟩ => ⟨S16384x4x8, .f32⟩
  | .hbm, ⟨73, _⟩ => ⟨S_, .f32⟩
  | .hbm, ⟨74, _⟩ => ⟨S16384x4x112, .f32⟩
  | .hbm, ⟨75, _⟩ => ⟨S16384x4x128, .f32⟩
  | .hbm, ⟨76, _⟩ => ⟨S8x2048x2048, .f32⟩
  | .hbm, ⟨77, _⟩ => ⟨S8x2048x3072, .f32⟩
  | .hbm, ⟨78, _⟩ => ⟨S8x2048x3072, .f32⟩
  | .hbm, ⟨79, _⟩ => ⟨S_, .f32⟩
  | .hbm, ⟨80, _⟩ => ⟨S8x2048x3072, .f32⟩
  | .hbm, ⟨81, _⟩ => ⟨S8x2048x3072, .f32⟩
  | .hbm, ⟨82, _⟩ => ⟨S_, .f32⟩
  | .hbm, ⟨83, _⟩ => ⟨S8x2048x3072, .f32⟩
  | .hbm, ⟨84, _⟩ => ⟨S8x2048x3072, .f32⟩
  | .hbm, ⟨85, _⟩ => ⟨S8x2048x3072, .f32⟩
  | .hbm, ⟨86, _⟩ => ⟨S8x2048x5120, .f32⟩
  | .hbm, ⟨87, _⟩ => ⟨S16384x5120, .f32⟩
  | .hbm, ⟨88, _⟩ => ⟨S16384x5120, .bf16⟩
  | .hbm, ⟨89, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== InACtx.lean ====
abbrev S16x256x1024 : Shape := ⟨3, ![16, 256, 1024]⟩
abbrev S1x1x6144 : Shape := ⟨3, ![1, 1, 6144]⟩
abbrev S1024 : Shape := ⟨1, ![1024]⟩
abbrev S1024x10304 : Shape := ⟨2, ![1024, 10304]⟩
abbrev S64 : Shape := ⟨1, ![64]⟩
abbrev S_ : Shape := ⟨0, ![]⟩
abbrev S15x1x6144 : Shape := ⟨3, ![15, 1, 6144]⟩
abbrev S16x1x6144 : Shape := ⟨3, ![16, 1, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S16x64 : Shape := ⟨2, ![16, 64]⟩
abbrev S2048 : Shape := ⟨1, ![2048]⟩
abbrev S1x2048 : Shape := ⟨2, ![1, 2048]⟩
abbrev S16x2x256x1024 : Shape := ⟨4, ![16, 2, 256, 1024]⟩
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S512x1024 : Shape := ⟨2, ![512, 1024]⟩
abbrev S512x5120 : Shape := ⟨2, ![512, 5120]⟩
abbrev S2x1x256x1024 : Shape := ⟨4, ![2, 1, 256, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S1x512 : Shape := ⟨2, ![1, 512]⟩
abbrev S256x512 : Shape := ⟨2, ![256, 512]⟩
abbrev S1x1x256x512 : Shape := ⟨4, ![1, 1, 256, 512]⟩

abbrev nBuf : Space → Nat
  | .hbm => 72
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x10304, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S15x1x6144, .f32⟩
  | .hbm, ⟨8, _⟩ => ⟨S16x1x6144, .f32⟩
  | .hbm, ⟨9, _⟩ => ⟨S256, .i32⟩
  | .hbm, ⟨10, _⟩ => ⟨S256x1, .i32⟩
  | .hbm, ⟨11, _⟩ => ⟨S_, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x1, .i1⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S_, .i32⟩
  | .hbm, ⟨33, _⟩ => ⟨S1x256, .i32⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i32⟩
  | .hbm, ⟨40, _⟩ => ⟨S1x256, .i32⟩
  | .hbm, ⟨41, _⟩ => ⟨S_, .i32⟩
  | .hbm, ⟨42, _⟩ => ⟨S1x256, .i32⟩
  | .hbm, ⟨43, _⟩ => ⟨S1x256, .i1⟩
  | .hbm, ⟨44, _⟩ => ⟨S1x256, .i1⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .bf16⟩
  | .hbm, ⟨53, _⟩ => ⟨S1x64, .f32⟩
  | .hbm, ⟨54, _⟩ => ⟨S16x64, .f32⟩
  | .hbm, ⟨55, _⟩ => ⟨S1024, .f32⟩
  | .hbm, ⟨56, _⟩ => ⟨S1x64, .f32⟩
  | .hbm, ⟨57, _⟩ => ⟨S16x64, .f32⟩
  | .hbm, ⟨58, _⟩ => ⟨S1024, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S16x2x256x1024, .f32⟩
  | .hbm, ⟨63, _⟩ => ⟨S_, .f32⟩
  | .hbm, ⟨64, _⟩ => ⟨S16x2x256x1024, .f32⟩
  | .hbm, ⟨65, _⟩ => ⟨S4096x1024, .f32⟩
  | .hbm, ⟨66, _⟩ => ⟨S1x1024, .f32⟩
  | .hbm, ⟨67, _⟩ => ⟨S1024x5120, .f32⟩
  | .hbm, ⟨68, _⟩ => ⟨S1024x5120, .bf16⟩
  | .hbm, ⟨69, _⟩ => ⟨S4096x5120, .bf16⟩
  | .hbm, ⟨70, _⟩ => ⟨S16x2x256x1024, .f32⟩
  | .hbm, ⟨71, _⟩ => ⟨S16x2x256x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x5120, .bf16⟩
  | .local _ .vmem, ⟨5, _⟩ => ⟨S1x2048, .f32⟩
  | .local _ .vmem, ⟨6, _⟩ => ⟨S256x256, .bf16⟩
  | .local _ .vmem, ⟨7, _⟩ => ⟨S512x5120, .bf16⟩
  | .local _ .vmem, ⟨8, _⟩ => ⟨S512x5120, .bf16⟩
  | .local _ .vmem, ⟨9, _⟩ => ⟨S2x1x256x1024, .f32⟩
  | .local _ .vmem, ⟨10, _⟩ => ⟨S2x1x256x1024, .f32⟩
  | .local _ .vmem, ⟨11, _⟩ => ⟨S2x1x256x1024, .f32⟩
  | .local _ .vmem, ⟨12, _⟩ => ⟨S2x1x256x1024, .f32⟩
  | .local _ .vmem, ⟨13, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_v20 : Ref sig .tc := ⟨.hbm, 62, rfl⟩
abbrev main_cst_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26_0 : Ref sig .tc := ⟨.hbm, 69, rfl⟩
abbrev main_v26_1 : Ref sig .tc := ⟨.hbm, 70, rfl⟩
abbrev main_v26_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InACtxReferenceIdeal.lean ====
abbrev S16x256x1024 : Shape := ⟨3, ![16, 256, 1024]⟩
abbrev S1x1x6144 : Shape := ⟨3, ![1, 1, 6144]⟩
abbrev S1024 : Shape := ⟨1, ![1024]⟩
abbrev S1024x10304 : Shape := ⟨2, ![1024, 10304]⟩
abbrev S64 : Shape := ⟨1, ![64]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x5120 : Shape := ⟨2, ![1024, 5120]⟩
abbrev S16x256x5120 : Shape := ⟨3, ![16, 256, 5120]⟩
abbrev S16x256x16x64 : Shape := ⟨4, ![16, 256, 16, 64]⟩
abbrev S16x256x16 : Shape := ⟨3, ![16, 256, 16]⟩
abbrev S16x256x16x1 : Shape := ⟨4, ![16, 256, 16, 1]⟩
abbrev S1x1x1x64 : Shape := ⟨4, ![1, 1, 1, 64]⟩
abbrev S4096x1024 : Shape := ⟨2, ![4096, 1024]⟩
abbrev S16x256x3072 : Shape := ⟨3, ![16, 256, 3072]⟩
abbrev S4096x3072 : Shape := ⟨2, ![4096, 3072]⟩
abbrev S4096x5120 : Shape := ⟨2, ![4096, 5120]⟩
abbrev S16x1x256x1024 : Shape := ⟨4, ![16, 1, 256, 1024]⟩
abbrev S16x2x256x1024 : Shape := ⟨4, ![16, 2, 256, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x10304, .f32⟩
  | .hbm, ⟨4, _⟩ => ⟨S64, .f32⟩
  | .hbm, ⟨5, _⟩ => ⟨S64, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S1024x5120, .f32⟩
  | .hbm, ⟨32, _⟩ => ⟨S16x256x5120, .f32⟩
  | .hbm, ⟨33, _⟩ => ⟨S16x256x1024, .f32⟩
  | .hbm, ⟨34, _⟩ => ⟨S16x256x16x64, .f32⟩
  | .hbm, ⟨35, _⟩ => ⟨S16x256x16x64, .f32⟩
  | .hbm, ⟨36, _⟩ => ⟨S_, .f32⟩
  | .hbm, ⟨37, _⟩ => ⟨S16x256x16, .f32⟩
  | .hbm, ⟨38, _⟩ => ⟨S16x256x16x1, .f32⟩
  | .hbm, ⟨39, _⟩ => ⟨S_, .f32⟩
  | .hbm, ⟨40, _⟩ => ⟨S16x256x16x1, .f32⟩
  | .hbm, ⟨41, _⟩ => ⟨S16x256x16x1, .f32⟩
  | .hbm, ⟨42, _⟩ => ⟨S_, .f32⟩
  | .hbm, ⟨43, _⟩ => ⟨S16x256x16x1, .f32⟩
  | .hbm, ⟨44, _⟩ => ⟨S16x256x16x1, .f32⟩
  | .hbm, ⟨45, _⟩ => ⟨S16x256x16x1, .f32⟩
  | .hbm, ⟨46, _⟩ => ⟨S16x256x16x64, .f32⟩
  | .hbm, ⟨47, _⟩ => ⟨S16x256x16x64, .f32⟩
  | .hbm, ⟨48, _⟩ => ⟨S1x1x1x64, .f32⟩
  | .hbm, ⟨49, _⟩ => ⟨S16x256x16x64, .f32⟩
  | .hbm, ⟨50, _⟩ => ⟨S16x256x16x64, .f32⟩
  | .hbm, ⟨51, _⟩ => ⟨S16x256x1024, .f32⟩
  | .hbm, ⟨52, _⟩ => ⟨S16x256x16x64, .f32⟩
  | .hbm, ⟨53, _⟩ => ⟨S16x256x16x64, .f32⟩
  | .hbm, ⟨54, _⟩ => ⟨S_, .f32⟩
  | .hbm, ⟨55, _⟩ => ⟨S16x256x16, .f32⟩
  | .hbm, ⟨56, _⟩ => ⟨S16x256x16x1, .f32⟩
  | .hbm, ⟨57, _⟩ => ⟨S_, .f32⟩
  | .hbm, ⟨58, _⟩ => ⟨S16x256x16x1, .f32⟩
  | .hbm, ⟨59, _⟩ => ⟨S16x256x16x1, .f32⟩
  | .hbm, ⟨60, _⟩ => ⟨S_, .f32⟩
  | .hbm, ⟨61, _⟩ => ⟨S16x256x16x1, .f32⟩
  | .hbm, ⟨62, _⟩ => ⟨S16x256x16x1, .f32⟩
  | .hbm, ⟨63, _⟩ => ⟨S16x256x16x1, .f32⟩
  | .hbm, ⟨64, _⟩ => ⟨S16x256x16x64, .f32⟩
  | .hbm, ⟨65, _⟩ => ⟨S16x256x16x64, .f32⟩
  | .hbm, ⟨66, _⟩ => ⟨S1x1x1x64, .f32⟩
  | .hbm, ⟨67, _⟩ => ⟨S16x256x16x64, .f32⟩
  | .hbm, ⟨68, _⟩ => ⟨S16x256x16x64, .f32⟩
  | .hbm, ⟨69, _⟩ => ⟨S16x256x1024, .f32⟩
  | .hbm, ⟨70, _⟩ => ⟨S4096x1024, .f32⟩
  | .hbm, ⟨71, _⟩ => ⟨S4096x1024, .f32⟩
  | .hbm, ⟨72, _⟩ => ⟨S16x256x3072, .f32⟩
  | .hbm, ⟨73, _⟩ => ⟨S4096x3072, .f32⟩
  | .hbm, ⟨74, _⟩ => ⟨S4096x5120, .f32⟩
  | .hbm, ⟨75, _⟩ => ⟨S4096x5120, .bf16⟩
  | .hbm, ⟨76, _⟩ => ⟨S_, .f32⟩
  | .hbm, ⟨77, _⟩ => ⟨S16x256x1024, .f32⟩
  | .hbm, ⟨78, _⟩ => ⟨S16x256x1024, .f32⟩
  | .hbm, ⟨79, _⟩ => ⟨S16x1x256x1024, .f32⟩
  | .hbm, ⟨80, _⟩ => ⟨S16x1x256x1024, .f32⟩
  | .hbm, ⟨81, _⟩ => ⟨S16x2x256x1024, .f32⟩
  | .hbm, ⟨82, _⟩ => ⟨S16x1x256x1024, .f32⟩
  | .hbm, ⟨83, _⟩ => ⟨S16x1x256x1024, .f32⟩
  | .hbm, ⟨84, _⟩ => ⟨S16x2x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== InBCtx.lean ====
abbrev S16x256x1024 : Shape := ⟨3, ![16, 256, 1024]⟩
abbrev S1x1x6144 : Shape := ⟨3, ![1, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S15x1x6144 : Shape := ⟨3, ![15, 1, 6144]⟩
abbrev S16x1x6144 : Shape := ⟨3, ![16, 1, 6144]⟩
abbrev S4096x1024 : Shape := ⟨2, ![4096, 1024]⟩
abbrev S1x1024 : Shape := ⟨2, ![1, 1024]⟩
abbrev S1024x64 : Shape := ⟨2, ![1024, 64]⟩
abbrev S1024x8 : Shape := ⟨2, ![1024, 8]⟩
abbrev S1024x112 : Shape := ⟨2, ![1024, 112]⟩
abbrev S1024x3072 : Shape := ⟨2, ![1024, 3072]⟩
abbrev S1024x2048 : Shape := ⟨2, ![1024, 2048]⟩
abbrev S1024x5632 : Shape := ⟨2, ![1024, 5632]⟩
abbrev S1x3072 : Shape := ⟨2, ![1, 3072]⟩
abbrev S4096x5120 : Shape := ⟨2, ![4096, 5120]⟩
abbrev S4096x512 : Shape := ⟨2, ![4096, 512]⟩
abbrev S512x1024 : Shape := ⟨2, ![512, 1024]⟩
abbrev S8x1024 : Shape := ⟨2, ![8, 1024]⟩
abbrev S512x5120 : Shape := ⟨2, ![512, 5120]⟩
abbrev S512x512 : Shape := ⟨2, ![512, 512]⟩
abbrev S528x1024 : Shape := ⟨2, ![528, 1024]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S1024x512 : Shape := ⟨2, ![1024, 512]⟩
abbrev S528x512 : Shape := ⟨2, ![528, 512]⟩
abbrev S8x512 : Shape := ⟨2, ![8, 512]⟩
abbrev S4x512 : Shape := ⟨2, ![4, 512]⟩
abbrev S1x512 : Shape := ⟨2, ![1, 512]⟩

abbrev nBuf : Space → Nat
  | .hbm => 35
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x10304, .f32⟩
  | .hbm, ⟨4, _⟩ => ⟨S4x3072, .f32⟩
  | .hbm, ⟨5, _⟩ => ⟨S3072, .f32⟩
  | .hbm, ⟨6, _⟩ => ⟨S_, .f32⟩
  | .hbm, ⟨7, _⟩ => ⟨S15x1x6144, .f32⟩
  | .hbm, ⟨8, _⟩ => ⟨S16x1x6144, .f32⟩
  | .hbm, ⟨9, _⟩ => ⟨S4096x1024, .f32⟩
  | .hbm, ⟨10, _⟩ => ⟨S1x1024, .f32⟩
  | .hbm, ⟨11, _⟩ => ⟨S1024x64, .f32⟩
  | .hbm, ⟨12, _⟩ => ⟨S1024x8, .f32⟩
  | .hbm, ⟨13, _⟩ => ⟨S1024x8, .f32⟩
  | .hbm, ⟨14, _⟩ => ⟨S_, .f32⟩
  | .hbm, ⟨15, _⟩ => ⟨S1024x112, .f32⟩
  | .hbm, ⟨16, _⟩ => ⟨S1024x8, .f32⟩
  | .hbm, ⟨17, _⟩ => ⟨S1024x8, .f32⟩
  | .hbm, ⟨18, _⟩ => ⟨S_, .f32⟩
  | .hbm, ⟨19, _⟩ => ⟨S1024x112, .f32⟩
  | .hbm, ⟨20, _⟩ => ⟨S1024x8, .f32⟩
  | .hbm, ⟨21, _⟩ => ⟨S1024x8, .f32⟩
  | .hbm, ⟨22, _⟩ => ⟨S_, .f32⟩
  | .hbm, ⟨23, _⟩ => ⟨S1024x112, .f32⟩
  | .hbm, ⟨24, _⟩ => ⟨S1024x8, .f32⟩
  | .hbm, ⟨25, _⟩ => ⟨S1024x8, .f32⟩
  | .hbm, ⟨26, _⟩ => ⟨S_, .f32⟩
  | .hbm, ⟨27, _⟩ => ⟨S1024x112, .f32⟩
  | .hbm, ⟨28, _⟩ => ⟨S1024x3072, .f32⟩
  | .hbm, ⟨29, _⟩ => ⟨S1024x2048, .f32⟩
  | .hbm, ⟨30, _⟩ => ⟨S1024x5632, .f32⟩
  | .hbm, ⟨31, _⟩ => ⟨S1024x5632, .bf16⟩
  | .hbm, ⟨32, _⟩ => ⟨S1x3072, .f32⟩
  | .hbm, ⟨33, _⟩ => ⟨S4096x5120, .bf16⟩
  | .hbm, ⟨34, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1024, .f32⟩
  | .local _ .vmem, ⟨8, _⟩ => ⟨S1024x5632, .bf16⟩
  | .local _ .vmem, ⟨9, _⟩ => ⟨S4x3072, .f32⟩
  | .local _ .vmem, ⟨10, _⟩ => ⟨S1x3072, .f32⟩
  | .local _ .vmem, ⟨11, _⟩ => ⟨S512x5120, .bf16⟩
  | .local _ .vmem, ⟨12, _⟩ => ⟨S512x5120, .bf16⟩
  | .local _ .vmem, ⟨13, _⟩ => ⟨S512x512, .f32⟩
  | .local _ .vmem, ⟨14, _⟩ => ⟨S512x512, .f32⟩
  | .local _ .vmem, ⟨15, _⟩ => ⟨S528x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InBCtxReferenceIdeal.lean ====
abbrev S16x256x1024 : Shape := ⟨3, ![16, 256, 1024]⟩
abbrev S1x1x6144 : Shape := ⟨3, ![1, 1, 6144]⟩
abbrev S1024 : Shape := ⟨1, ![1024]⟩
abbrev S1024x10304 : Shape := ⟨2, ![1024, 10304]⟩
abbrev S4x3072 : Shape := ⟨2, ![4, 3072]⟩
abbrev S3072 : Shape := ⟨1, ![3072]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x5184 : Shape := ⟨2, ![1024, 5184]⟩
abbrev S16x256x5184 : Shape := ⟨3, ![16, 256, 5184]⟩
abbrev S16x256x3072 : Shape := ⟨3, ![16, 256, 3072]⟩
abbrev S16x259x3072 : Shape := ⟨3, ![16, 259, 3072]⟩
abbrev S1x3072 : Shape := ⟨2, ![1, 3072]⟩
abbrev S1x1x3072 : Shape := ⟨3, ![1, 1, 3072]⟩
abbrev S16x256x64 : Shape := ⟨3, ![16, 256, 64]⟩
abbrev S4096x2x4x8 : Shape := ⟨4, ![4096, 2, 4, 8]⟩
abbrev S4096x1x4x8 : Shape := ⟨4, ![4096, 1, 4, 8]⟩
abbrev S4096x4x8 : Shape := ⟨3, ![4096, 4, 8]⟩
abbrev S4096x4x112 : Shape := ⟨3, ![4096, 4, 112]⟩
abbrev S4096x4x128 : Shape := ⟨3, ![4096, 4, 128]⟩
abbrev S16x256x2048 : Shape := ⟨3, ![16, 256, 2048]⟩
abbrev S16x256x5120 : Shape := ⟨3, ![16, 256, 5120]⟩
abbrev S4096x5120 : Shape := ⟨2, ![4096, 5120]⟩
abbrev S4096x512 : Shape := ⟨2, ![4096, 512]⟩

abbrev nBuf : Space → Nat
  | .hbm => 90
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x6144, .f32⟩
  | .hbm, ⟨2, _⟩ => ⟨S1024, .f32⟩
  | .hbm, ⟨3, _⟩ => ⟨S1024x10304, .f32⟩
  | .hbm, ⟨4, _⟩ => ⟨S4x3072, .f32⟩
  | .hbm, ⟨5, _⟩ => ⟨S3072, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S1x1x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S1024x5184, .f32⟩
  | .hbm, ⟨32, _⟩ => ⟨S16x256x5184, .f32⟩
  | .hbm, ⟨33, _⟩ => ⟨S16x256x3072, .f32⟩
  | .hbm, ⟨34, _⟩ => ⟨S_, .i32⟩
  | .hbm, ⟨35, _⟩ => ⟨S_, .f32⟩
  | .hbm, ⟨36, _⟩ => ⟨S16x259x3072, .f32⟩
  | .hbm, ⟨37, _⟩ => ⟨S1x3072, .f32⟩
  | .hbm, ⟨38, _⟩ => ⟨S3072, .f32⟩
  | .hbm, ⟨39, _⟩ => ⟨S16x256x3072, .f32⟩
  | .hbm, ⟨40, _⟩ => ⟨S1x1x3072, .f32⟩
  | .hbm, ⟨41, _⟩ => ⟨S16x256x3072, .f32⟩
  | .hbm, ⟨42, _⟩ => ⟨S16x256x3072, .f32⟩
  | .hbm, ⟨43, _⟩ => ⟨S1x3072, .f32⟩
  | .hbm, ⟨44, _⟩ => ⟨S3072, .f32⟩
  | .hbm, ⟨45, _⟩ => ⟨S16x256x3072, .f32⟩
  | .hbm, ⟨46, _⟩ => ⟨S1x1x3072, .f32⟩
  | .hbm, ⟨47, _⟩ => ⟨S16x256x3072, .f32⟩
  | .hbm, ⟨48, _⟩ => ⟨S16x256x3072, .f32⟩
  | .hbm, ⟨49, _⟩ => ⟨S16x256x3072, .f32⟩
  | .hbm, ⟨50, _⟩ => ⟨S1x3072, .f32⟩
  | .hbm, ⟨51, _⟩ => ⟨S3072, .f32⟩
  | .hbm, ⟨52, _⟩ => ⟨S16x256x3072, .f32⟩
  | .hbm, ⟨53, _⟩ => ⟨S1x1x3072, .f32⟩
  | .hbm, ⟨54, _⟩ => ⟨S16x256x3072, .f32⟩
  | .hbm, ⟨55, _⟩ => ⟨S16x256x3072, .f32⟩
  | .hbm, ⟨56, _⟩ => ⟨S16x256x3072, .f32⟩
  | .hbm, ⟨57, _⟩ => ⟨S1x3072, .f32⟩
  | .hbm, ⟨58, _⟩ => ⟨S3072, .f32⟩
  | .hbm, ⟨59, _⟩ => ⟨S16x256x3072, .f32⟩
  | .hbm, ⟨60, _⟩ => ⟨S1x1x3072, .f32⟩
  | .hbm, ⟨61, _⟩ => ⟨S16x256x3072, .f32⟩
  | .hbm, ⟨62, _⟩ => ⟨S16x256x3072, .f32⟩
  | .hbm, ⟨63, _⟩ => ⟨S16x256x3072, .f32⟩
  | .hbm, ⟨64, _⟩ => ⟨S1x1x3072, .f32⟩
  | .hbm, ⟨65, _⟩ => ⟨S16x256x3072, .f32⟩
  | .hbm, ⟨66, _⟩ => ⟨S16x256x3072, .f32⟩
  | .hbm, ⟨67, _⟩ => ⟨S16x256x64, .f32⟩
  | .hbm, ⟨68, _⟩ => ⟨S4096x2x4x8, .f32⟩
  | .hbm, ⟨69, _⟩ => ⟨S4096x1x4x8, .f32⟩
  | .hbm, ⟨70, _⟩ => ⟨S4096x4x8, .f32⟩
  | .hbm, ⟨71, _⟩ => ⟨S4096x1x4x8, .f32⟩
  | .hbm, ⟨72, _⟩ => ⟨S4096x4x8, .f32⟩
  | .hbm, ⟨73, _⟩ => ⟨S_, .f32⟩
  | .hbm, ⟨74, _⟩ => ⟨S4096x4x112, .f32⟩
  | .hbm, ⟨75, _⟩ => ⟨S4096x4x128, .f32⟩
  | .hbm, ⟨76, _⟩ => ⟨S16x256x2048, .f32⟩
  | .hbm, ⟨77, _⟩ => ⟨S16x256x3072, .f32⟩
  | .hbm, ⟨78, _⟩ => ⟨S16x256x3072, .f32⟩
  | .hbm, ⟨79, _⟩ => ⟨S_, .f32⟩
  | .hbm, ⟨80, _⟩ => ⟨S16x256x3072, .f32⟩
  | .hbm, ⟨81, _⟩ => ⟨S16x256x3072, .f32⟩
  | .hbm, ⟨82, _⟩ => ⟨S_, .f32⟩
  | .hbm, ⟨83, _⟩ => ⟨S16x256x3072, .f32⟩
  | .hbm, ⟨84, _⟩ => ⟨S16x256x3072, .f32⟩
  | .hbm, ⟨85, _⟩ => ⟨S16x256x3072, .f32⟩
  | .hbm, ⟨86, _⟩ => ⟨S16x256x5120, .f32⟩
  | .hbm, ⟨87, _⟩ => ⟨S4096x5120, .f32⟩
  | .hbm, ⟨88, _⟩ => ⟨S4096x5120, .bf16⟩
  | .hbm, ⟨89, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Proof.NA.Attn.lean ====
/-
  What one point of the attention call stores: the eight 256-row blocks of its output are one step function of the
  point's queries, keys, values, cached keys and values, and bias rows.
-/
module

public import proofs.«01_k».proof.Proof.Gen.KernelIdeal.Frame
public import Idealize.ShloMosaic.Lib.Pipeline.Value
public import Idealize.ShloMosaic.Lib.Pipeline.ValueKit.Tiles
public import Idealize.ShloMosaic.Lib.ValueIdx
public import Idealize.ShloMosaic.Lib.Tactic

@[expose] public section

set_option maxRecDepth 16384

noncomputable section

open Idealize.ShloMosaic Idealize.ShloMosaic.TcCoe Idealize.SL.Sem

namespace Cert.KernelIdeal.Gen

variable {F : FTy → Type} [FloatOps F] [Named F]

/-- Both head halves' queries of a step, one above the other, each with the other half's lanes zero. -/
def stQ (q : Vec F S256x128 .bf16) : FVec F S512x128 .bf16 :=
  concatenate S512x128 0
    [⟨S256x128, select (broadcastTo S256x128 (shapeCast S1x128 (cmpi .slt (iota .tc S1x128 32 [1] iota_S1x128_d1_w32) (broadcast S1x128 64#32)) shapeCasts_S1x128_S1x128) broadcasts_S1x128_S256x128)
        (shapeCast S256x128 q shapeCasts_S256x128_S256x128) (broadcast S256x128 (Scalar.ofBits .bf16 0x0000#16))⟩,
     ⟨S256x128, select (broadcastTo S256x128 (shapeCast S1x128 (cmpi .slt (iota .tc S1x128 32 [1] iota_S1x128_d1_w32) (broadcast S1x128 64#32)) shapeCasts_S1x128_S1x128) broadcasts_S1x128_S256x128)
        (broadcast S256x128 (Scalar.ofBits .bf16 0x0000#16)) (shapeCast S256x128 q shapeCasts_S256x128_S256x128)⟩]
    concatenates_S256x128_S256x128_S512x128_d0

/-- The scores of the window's keys, the bias added. -/
def stSw (q : Vec F S256x128 .bf16) (kw : Vec F S768x128 .bf16) (b : Vec F S1x1x768x512 .f32) : FVec F S768x512 .f32 :=
  addf (matmul dot_S768x128_S512x128_S768x512_1_1_0_0_n_n none (shapeCast S768x128 kw shapeCasts_S768x128_S768x128) (stQ q)
      (constant S768x512 .f32 0x00000000#32))
    (shapeCast S768x512 b shapeCasts_S1x1x768x512_S768x512)

/-- The scores of the cached keys. -/
def stSc (q : Vec F S256x128 .bf16) (kc : Vec F S1x1x256x128 .f32) : FVec F S256x512 .f32 :=
  matmul dot_S256x128_S512x128_S256x512_1_1_0_0_n_n none
    (truncf .bf16 (shapeCast S256x128 kc shapeCasts_S1x1x256x128_S256x128) bitsLt_bf16_f32) (stQ q)
    (constant S256x512 .f32 0x00000000#32)

/-- The largest score of each query. -/
def stMx (sw : FVec F S768x512 .f32) (sc : FVec F S256x512 .f32) : FVec F S1x512 .f32 :=
  maximumf (shapeCast S1x512 (multiReduction .maximumf [0] S512 sw 0xFF800000#32 reduces_S768x512_S512 (.inl rfl) rfl) shapeCasts_S512_S1x512)
    (shapeCast S1x512 (multiReduction .maximumf [0] S512 sc 0xFF800000#32 reduces_S256x512_S512 (.inl rfl) rfl) shapeCasts_S512_S1x512)

/-- The window's weights. -/
def stPw (sw : FVec F S768x512 .f32) (sc : FVec F S256x512 .f32) : FVec F S768x512 .f32 :=
  exp2 (subf sw (broadcastTo S768x512 (stMx sw sc) broadcasts_S1x512_S768x512))

/-- The cache's weights. -/
def stPc (sw : FVec F S768x512 .f32) (sc : FVec F S256x512 .f32) : FVec F S256x512 .f32 :=
  exp2 (subf sc (broadcastTo S256x512 (stMx sw sc) broadcasts_S1x512_S256x512))

/-- The sum of each query's weights. -/
def stL (pw : FVec F S768x512 .f32) (pc : FVec F S256x512 .f32) : FVec F S1x512 .f32 :=
  addf (shapeCast S1x512 (multiReduction .add [0] S512 pw 0x00000000#32 reduces_S768x512_S512 (.inl rfl) rfl) shapeCasts_S512_S1x512)
    (shapeCast S1x512 (multiReduction .add [0] S512 pc 0x00000000#32 reduces_S256x512_S512 (.inl rfl) rfl) shapeCasts_S512_S1x512)

/-- The cached values, transposed. -/
def stVc (vc : Vec F S1x1x256x128 .f32) : FVec F S128x256 .bf16 :=
  truncf .bf16 (transpose S128x256 [1, 0] (shapeCast S256x128 vc shapeCasts_S1x1x256x128_S256x128) transposes_S256x128_p1_0_S128x256) bitsLt_bf16_f32

/-- The product of transposed values with a block of weights. -/
def stMm (v : FVec F S64x256 .bf16) (p : FVec F S256x256 .bf16) : FVec F S64x256 .f32 :=
  matmul dot_S64x256_S256x256_S64x256_1_0_0_1_n_n none v p (constant S64x256 .f32 0x00000000#32)

/-- The first head half's rows: the weighted values over the sum of the weights. -/
def stO0 (vc : Vec F S1x1x256x128 .f32) (pw : FVec F S768x512 .f32) (pc : FVec F S256x512 .f32) (w0 w1 w2 : Vec F S1x64x256 .bf16) : FVec F S64x256 .f32 :=
  divf
    (addf (addf (addf
      (stMm (extractStridedSlice S64x256 ![0, 0] (stVc vc) slices_S128x256_o0_0_S64x256)
        (extractStridedSlice S256x256 ![0, 0] (truncf .bf16 pc bitsLt_bf16_f32) slices_S256x512_o0_0_S256x256))
      (stMm (shapeCast S64x256 w0 shapeCasts_S1x64x256_S64x256)
        (extractStridedSlice S256x256 ![0, 0] (truncf .bf16 pw bitsLt_bf16_f32) slices_S768x512_o0_0_S256x256)))
      (stMm (shapeCast S64x256 w1 shapeCasts_S1x64x256_S64x256)
        (extractStridedSlice S256x256 ![256, 0] (truncf .bf16 pw bitsLt_bf16_f32) slices_S768x512_o256_0_S256x256)))
      (stMm (shapeCast S64x256 w2 shapeCasts_S1x64x256_S64x256)
        (extractStridedSlice S256x256 ![512, 0] (truncf .bf16 pw bitsLt_bf16_f32) slices_S768x512_o512_0_S256x256)))
    (broadcastTo S64x256 (extractStridedSlice S1x256 ![0, 0] (stL pw pc) slices_S1x512_o0_0_S1x256) broadcasts_S1x256_S64x256)

/-- The second head half's rows. -/
def stO1 (vc : Vec F S1x1x256x128 .f32) (pw : FVec F S768x512 .f32) (pc : FVec F S256x512 .f32) (w0 w1 w2 : Vec F S1x64x256 .bf16) : FVec F S64x256 .f32 :=
  divf
    (addf (addf (addf
      (stMm (extractStridedSlice S64x256 ![64, 0] (stVc vc) slices_S128x256_o64_0_S64x256)
        (extractStridedSlice S256x256 ![0, 256] (truncf .bf16 pc bitsLt_bf16_f32) slices_S256x512_o0_256_S256x256))
      (stMm (shapeCast S64x256 w0 shapeCasts_S1x64x256_S64x256)
        (extractStridedSlice S256x256 ![0, 256] (truncf .bf16 pw bitsLt_bf16_f32) slices_S768x512_o0_256_S256x256)))
      (stMm (shapeCast S64x256 w1 shapeCasts_S1x64x256_S64x256)
        (extractStridedSlice S256x256 ![256, 256] (truncf .bf16 pw bitsLt_bf16_f32) slices_S768x512_o256_256_S256x256)))
      (stMm (shapeCast S64x256 w2 shapeCasts_S1x64x256_S64x256)
        (extractStridedSlice S256x256 ![512, 256] (truncf .bf16 pw bitsLt_bf16_f32) slices_S768x512_o512_256_S256x256)))
    (broadcastTo S64x256 (extractStridedSlice S1x256 ![0, 256] (stL pw pc) slices_S1x512_o0_256_S1x256) broadcasts_S1x256_S64x256)

/-- The step: the block of 256 rows it stores. -/
def stOut (vc : Vec F S1x1x256x128 .f32) (sw : FVec F S768x512 .f32) (sc : FVec F S256x512 .f32)
    (a0 a1 a2 b0 b1 b2 : Vec F S1x64x256 .bf16) : FVec F S256x128 .bf16 :=
  truncf .bf16 (transpose S256x128 [1, 0]
    (concatenate S128x256 0 [⟨S64x256, stO0 vc (stPw sw sc) (stPc sw sc) a0 a1 a2⟩, ⟨S64x256, stO1 vc (stPw sw sc) (stPc sw sc) b0 b1 b2⟩]
      concatenates_S64x256_S64x256_S128x256_d0) transposes_S128x256_p1_0_S256x128) bitsLt_bf16_f32

/-- One 256-row block of the values, transposed. -/
def stVt (v : Vec F S256x128 .bf16) : FVec F S1x128x256 .bf16 :=
  shapeCast S1x128x256 (truncf .bf16 (transpose S128x256 [1, 0] (extf .f32 (shapeCast S256x128 v shapeCasts_S256x128_S256x128) bitsLt_bf16_f32)
    transposes_S256x128_p1_0_S128x256) bitsLt_bf16_f32) shapeCasts_S128x256_S1x128x256

/-- The transposed values as the scratch holds them. -/
def stV (x2 : Vec F S2048x128 .bf16) : Vec F S8x128x256 .bf16 :=
  View.canon
    [⟨Rect.unit ![7, 0, 0] S1x128x256.size inb_S8x128x256_S1x128x256_7_0_0, stVt (View.ld x2 (Rect.unit ![1792, 0] S256x128.size inb_S2048x128_S256x128_1792_0))⟩,
     ⟨Rect.unit ![6, 0, 0] S1x128x256.size inb_S8x128x256_S1x128x256_6_0_0, stVt (View.ld x2 (Rect.unit ![1536, 0] S256x128.size inb_S2048x128_S256x128_1536_0))⟩,
     ⟨Rect.unit ![5, 0, 0] S1x128x256.size inb_S8x128x256_S1x128x256_5_0_0, stVt (View.ld x2 (Rect.unit ![1280, 0] S256x128.size inb_S2048x128_S256x128_1280_0))⟩,
     ⟨Rect.unit ![4, 0, 0] S1x128x256.size inb_S8x128x256_S1x128x256_4_0_0, stVt (View.ld x2 (Rect.unit ![1024, 0] S256x128.size inb_S2048x128_S256x128_1024_0))⟩,
     ⟨Rect.unit ![3, 0, 0] S1x128x256.size inb_S8x128x256_S1x128x256_3_0_0, stVt (View.ld x2 (Rect.unit ![768, 0] S256x128.size inb_S2048x128_S256x128_768_0))⟩,
     ⟨Rect.unit ![2, 0, 0] S1x128x256.size inb_S8x128x256_S1x128x256_2_0_0, stVt (View.ld x2 (Rect.unit ![512, 0] S256x128.size inb_S2048x128_S256x128_512_0))⟩,
     ⟨Rect.unit ![1, 0, 0] S1x128x256.size inb_S8x128x256_S1x128x256_1_0_0, stVt (View.ld x2 (Rect.unit ![256, 0] S256x128.size inb_S2048x128_S256x128_256_0))⟩,
     ⟨Rect.unit ![0, 0, 0] S1x128x256.size inb_S8x128x256_S1x128x256_0_0_0, stVt (View.ld x2 (Rect.unit ![0, 0] S256x128.size inb_S2048x128_S256x128_0_0))⟩]

/-- The step at literal places: query row `q`, key row `k`, bias rows of variant `v`, value blocks `t`, `t + 1`, `t + 2`. -/
def stAt (q k v t : Nat) (hq : ∀ a, (![q, 0] : Fin 2 → Nat) a + S256x128.size a ≤ S2048x128.size a)
    (hk : ∀ a, (![k, 0] : Fin 2 → Nat) a + S768x128.size a ≤ S2048x128.size a)
    (hv : ∀ a, (![0, v, 0, 0] : Fin 4 → Nat) a + S1x1x768x512.size a ≤ S1x3x768x512.size a)
    (ha : ∀ s, s < 3 → ∀ a, (![t + s, 0, 0] : Fin 3 → Nat) a + S1x64x256.size a ≤ S8x128x256.size a)
    (hb : ∀ s, s < 3 → ∀ a, (![t + s, 64, 0] : Fin 3 → Nat) a + S1x64x256.size a ≤ S8x128x256.size a)
    (x0 x1 x2 : Vec F S2048x128 .bf16) (x3 x4 : Vec F S1x1x256x128 .f32) (x5 : Vec F S1x3x768x512 .f32) : FVec F S256x128 .bf16 :=
  stOut x4
    (stSw (View.ld x0 (Rect.unit ![q, 0] S256x128.size hq)) (View.ld x1 (Rect.unit ![k, 0] S768x128.size hk))
      (View.ld x5 (Rect.unit ![0, v, 0, 0] S1x1x768x512.size hv)))
    (stSc (View.ld x0 (Rect.unit ![q, 0] S256x128.size hq)) x3)
    (View.ld (stV x2) (Rect.unit ![t + 0, 0, 0] S1x64x256.size (ha 0 (by decide))))
    (View.ld (stV x2) (Rect.unit ![t + 1, 0, 0] S1x64x256.size (ha 1 (by decide))))
    (View.ld (stV x2) (Rect.unit ![t + 2, 0, 0] S1x64x256.size (ha 2 (by decide))))
    (View.ld (stV x2) (Rect.unit ![t + 0, 64, 0] S1x64x256.size (hb 0 (by decide))))
    (View.ld (stV x2) (Rect.unit ![t + 1, 64, 0] S1x64x256.size (hb 1 (by decide))))
    (View.ld (stV x2) (Rect.unit ![t + 2, 64, 0] S1x64x256.size (hb 2 (by decide))))

set_option maxHeartbeats 4000000 in
/-- What a point leaves in its output block: the eight steps' blocks. -/
theorem out1_steps (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x1x256x128 .f32) (harg5 : arg5.IsWhole) (arg6 : Memref sig .tc .vmem S1x1x256x128 .f32) (harg6 : arg6.IsWhole) (arg7 : Memref sig .tc .vmem S1x3x768x512 .f32) (harg7 : arg7.IsWhole) (arg8 : Memref sig .tc .vmem S2048x128 .bf16) (harg8 : arg8.IsWhole) (arg9 : Memref sig .tc .vmem S8x128x256 .bf16) (harg9 : arg9.IsWhole)
    (x0 : Vec F S2048x128 .bf16) (x1 : Vec F S2048x128 .bf16) (x2 : Vec F S2048x128 .bf16) (x3 : Vec F S1x1x256x128 .f32) (x4 : Vec F S1x1x256x128 .f32) (x5 : Vec F S1x3x768x512 .f32) :
    out1_A_6 c i arg2 harg2 arg3 harg3 arg4 harg4 arg5 harg5 arg6 harg6 arg7 harg7 arg8 harg8 arg9 harg9 x0 x1 x2 x3 x4 x5 = View.canon
    [⟨Rect.unit (s := S2048x128) ![1792, 0] S256x128.size inb_S2048x128_S256x128_1792_0,
      stAt 1792 1280 2 5 (by decide) (by decide) (by decide) (by decide) (by decide) x0 x1 x2 x3 x4 x5⟩,
     ⟨Rect.unit (s := S2048x128) ![1536, 0] S256x128.size inb_S2048x128_S256x128_1536_0,
      stAt 1536 1280 1 5 (by decide) (by decide) (by decide) (by decide) (by decide) x0 x1 x2 x3 x4 x5⟩,
     ⟨Rect.unit (s := S2048x128) ![1280, 0] S256x128.size inb_S2048x128_S256x128_1280_0,
      stAt 1280 1024 1 4 (by decide) (by decide) (by decide) (by decide) (by decide) x0 x1 x2 x3 x4 x5⟩,
     ⟨Rect.unit (s := S2048x128) ![1024, 0] S256x128.size inb_S2048x128_S256x128_1024_0,
      stAt 1024 768 1 3 (by decide) (by decide) (by decide) (by decide) (by decide) x0 x1 x2 x3 x4 x5⟩,
     ⟨Rect.unit (s := S2048x128) ![768, 0] S256x128.size inb_S2048x128_S256x128_768_0,
      stAt 768 512 1 2 (by decide) (by decide) (by decide) (by decide) (by decide) x0 x1 x2 x3 x4 x5⟩,
     ⟨Rect.unit (s := S2048x128) ![512, 0] S256x128.size inb_S2048x128_S256x128_512_0,
      stAt 512 256 1 1 (by decide) (by decide) (by decide) (by decide) (by decide) x0 x1 x2 x3 x4 x5⟩,
     ⟨Rect.unit (s := S2048x128) ![256, 0] S256x128.size inb_S2048x128_S256x128_256_0,
      stAt 256 0 1 0 (by decide) (by decide) (by decide) (by decide) (by decide) x0 x1 x2 x3 x4 x5⟩,
     ⟨Rect.unit (s := S2048x128) ![0, 0] S256x128.size inb_S2048x128_S256x128_0_0,
      stAt 0 0 0 0 (by decide) (by decide) (by decide) (by decide) (by decide) x0 x1 x2 x3 x4 x5⟩] := by
  unfold out1_A_6
  rw [View.read_writes_eq_canon _ _ _ (cover1_A_6 c i arg2 harg2 arg3 harg3 arg4 harg4 arg5 harg5 arg6 harg6 arg7 harg7 arg8 harg8 arg9 harg9 x0 x1 x2 x3 x4 x5)]
  unfold kernelRun1_A
  dsimp only
  sl_unfold_words
  simp only [View.readCov_eq_canon', View.readAt_eq_ld, harg2.read_unread, harg3.read_unread, harg4.read_unread, harg5.read_unread, harg6.read_unread, harg7.read_unread,
    View.ld_unit_zero (S := S1x1x256x128) (show (![0, 0, 0, 0] : Fin 4 → Nat) = fun _ => 0 by decide)]
  rfl

end Cert.KernelIdeal.Gen
-- ==== Proof.NA.AttnRead.lean ====
/-
  One point's stored block read at an element, over the extended reals: each element is the attention of one query of one
  head over a 768-row window of keys and the 256 cached keys.
-/
module

public import proofs.«01_k».proof.Proof.NA.Attn
public import Idealize.ShloMosaic.Lib.Pointwise

@[expose] public section

set_option maxRecDepth 16384

noncomputable section

open Idealize.ShloMosaic Idealize.ShloMosaic.TcCoe Idealize.SL.Sem

namespace Cert.KernelIdeal.Gen

/-- The attention of one query over window rows with a bias and over cached rows, in powers of two. -/
def attn (q : Fin 64 → EReal) (k : Fin 768 → Fin 64 → EReal) (v : Fin 768 → EReal) (ck : Fin 256 → Fin 64 → EReal)
    (cv : Fin 256 → EReal) (b : Fin 768 → EReal) : EReal :=
  Ideal.div
    ((∑ j, cv j * Ideal.exp2 ((∑ d, ck j d * q d) - max (Finset.univ.sup fun w => (∑ d, k w d * q d) + b w) (Finset.univ.sup fun j => ∑ d, ck j d * q d)))
      + ∑ w, v w * Ideal.exp2 (((∑ d, k w d * q d) + b w) - max (Finset.univ.sup fun w => (∑ d, k w d * q d) + b w) (Finset.univ.sup fun j => ∑ d, ck j d * q d)))
    ((∑ w, Ideal.exp2 (((∑ d, k w d * q d) + b w) - max (Finset.univ.sup fun w => (∑ d, k w d * q d) + b w) (Finset.univ.sup fun j => ∑ d, ck j d * q d)))
      + ∑ j, Ideal.exp2 ((∑ d, ck j d * q d) - max (Finset.univ.sup fun w => (∑ d, k w d * q d) + b w) (Finset.univ.sup fun j => ∑ d, ck j d * q d)))

theorem ofBits_negInf : Ideal.ofBits .f32 0xFF800000#32 = ⊥ := by
  simp [Ideal.ofBits, Ideal.ieee]

theorem slt_64 (d : Fin 128) : IntOp.cmpi CmpIPredicate.slt (BitVec.ofNat 32 d.val) 64#32 = if d.val < 64 then 1#1 else 0#1 := by
  revert d; decide +kernel

theorem stQ_lo (q : Vec Ideal S256x128 .bf16) (c : Fin 512) (r : Fin 256) (hc : c.val = r.val) (d : Fin 128) :
    stQ (F := Ideal) q (ix2 c d) = if d.val < 64 then q (ix2 r d) else 0 := by
  obtain ⟨c, hc'⟩ := c
  obtain rfl : c = r.val := hc
  pointwise [stQ]
  rw [slt_64]
  by_cases h : d.val < 64
  · rw [if_pos h, if_pos h]; rfl
  · rw [if_neg h, if_neg h]; rfl

theorem stQ_hi (q : Vec Ideal S256x128 .bf16) (c : Fin 512) (r : Fin 256) (hc : c.val = 256 + r.val) (d : Fin 128) :
    stQ (F := Ideal) q (ix2 c d) = if d.val < 64 then 0 else q (ix2 r d) := by
  obtain ⟨c, hc'⟩ := c
  obtain rfl : c = 256 + r.val := hc
  pointwise [stQ]
  rw [slt_64]
  by_cases h : d.val < 64
  · rw [if_pos h, if_pos h]; rfl
  · rw [if_neg h, if_neg h]; rfl

/-- A product with the masked queries keeps one half's lanes. -/
theorem sum_stQ (q : Vec Ideal S256x128 .bf16) (f : Fin 128 → EReal) (c : Fin 512) (r : Fin 256) (hh : Nat) (hlt : hh < 2)
    (hc : c.val = 256 * hh + r.val) :
    ∑ x, f x * stQ (F := Ideal) q (ix2 c x)
      = ∑ d : Fin 64, f ⟨64 * hh + d.val, by omega⟩ * q (ix2 r ⟨64 * hh + d.val, by omega⟩) := by
  rw [Fin.sum_univ_two_halves 64 64 rfl]
  obtain rfl | rfl : hh = 0 ∨ hh = 1 := by omega
  · rw [Finset.sum_eq_zero (s := (Finset.univ : Finset (Fin 64))) (f := fun k => f ⟨64 + k.val, _⟩ * _) fun k _ => by
      rw [stQ_lo q c r (by omega), if_neg (by simp), mul_zero], add_zero]
    refine Finset.sum_congr rfl fun d _ => ?_
    rw [stQ_lo q c r (by omega), if_pos d.isLt]
    have : (⟨64 * 0 + d.val, by omega⟩ : Fin 128) = ⟨d.val, by omega⟩ := Fin.ext (by simp)
    simp only [this]
  · rw [Finset.sum_eq_zero (s := (Finset.univ : Finset (Fin 64))) (f := fun k => f ⟨k.val, _⟩ * _) fun k _ => by
      rw [stQ_hi q c r (by omega), if_pos k.isLt, mul_zero], zero_add]
    refine Finset.sum_congr rfl fun d _ => ?_
    rw [stQ_hi q c r (by omega), if_neg (by simp)]

theorem stSw_at (q : Vec Ideal S256x128 .bf16) (kw : Vec Ideal S768x128 .bf16) (b : Vec Ideal S1x1x768x512 .f32) (k : Fin 768) (c : Fin 512) :
    stSw (F := Ideal) q kw b (ix2 k c) = ∑ x, kw (ix2 k x) * stQ q (ix2 c x) + b (ix4 0 0 k c) := by
  pointwise [stSw]

theorem stSc_at (q : Vec Ideal S256x128 .bf16) (kc : Vec Ideal S1x1x256x128 .f32) (k : Fin 256) (c : Fin 512) :
    stSc (F := Ideal) q kc (ix2 k c) = ∑ x, kc (ix4 0 0 k x) * stQ q (ix2 c x) := by
  pointwise [stSc]

theorem stMx_at (sw : FVec Ideal S768x512 .f32) (sc : FVec Ideal S256x512 .f32) (c : Fin 512) :
    stMx (F := Ideal) sw sc (ix2 0 c) = max (Finset.univ.sup fun x => sw (ix2 x c)) (Finset.univ.sup fun x => sc (ix2 x c)) := by
  pointwise [stMx]
  try rw [show Ideal.ofBits FTy.f32 4286578688#32 = ⊥ from ofBits_negInf]
  rfl

theorem stPw_at (sw : FVec Ideal S768x512 .f32) (sc : FVec Ideal S256x512 .f32) (k : Fin 768) (c : Fin 512) :
    stPw (F := Ideal) sw sc (ix2 k c) = Ideal.exp2 (sw (ix2 k c) - stMx sw sc (ix2 0 c)) := by
  pointwise [stPw]
  try rfl

theorem stPc_at (sw : FVec Ideal S768x512 .f32) (sc : FVec Ideal S256x512 .f32) (k : Fin 256) (c : Fin 512) :
    stPc (F := Ideal) sw sc (ix2 k c) = Ideal.exp2 (sc (ix2 k c) - stMx sw sc (ix2 0 c)) := by
  pointwise [stPc]
  try rfl

theorem stL_at (sw : FVec Ideal S768x512 .f32) (sc : FVec Ideal S256x512 .f32) (c : Fin 512) :
    stL (F := Ideal) sw sc (ix2 0 c) = ∑ x, sw (ix2 x c) + ∑ x, sc (ix2 x c) := by
  pointwise [stL]

theorem sum_three (f : Fin 768 → EReal) (z : EReal) :
    z + (∑ x : Fin 256, f ⟨x.val, by omega⟩) + (∑ x : Fin 256, f ⟨256 + x.val, by omega⟩) + (∑ x : Fin 256, f ⟨512 + x.val, by omega⟩)
      = z + ∑ w, f w := by
  rw [Fin.sum_univ_two_halves 256 512 rfl f, Fin.sum_univ_two_halves 256 256 rfl fun k : Fin 512 => f ⟨256 + k.val, by omega⟩]
  rw [add_assoc, add_assoc]
  congr 2

/-- A step's element, over values given by window row. -/
theorem stOut_at (vc : Vec Ideal S1x1x256x128 .f32) (sw : FVec Ideal S768x512 .f32) (sc : FVec Ideal S256x512 .f32)
    (a0 a1 a2 b0 b1 b2 : Vec Ideal S1x64x256 .bf16) (r : Fin 256) (e : Fin 128) (c : Fin 512) (hc : c.val = 256 * (e.val / 64) + r.val)
    (v : Fin 768 → EReal)
    (ha0 : e.val < 64 → ∀ (i : Fin 64) (x : Fin 256), i.val = e.val → a0 (ix3 0 i x) = v ⟨x.val, by omega⟩)
    (ha1 : e.val < 64 → ∀ (i : Fin 64) (x : Fin 256), i.val = e.val → a1 (ix3 0 i x) = v ⟨256 + x.val, by omega⟩)
    (ha2 : e.val < 64 → ∀ (i : Fin 64) (x : Fin 256), i.val = e.val → a2 (ix3 0 i x) = v ⟨512 + x.val, by omega⟩)
    (hb0 : ¬ e.val < 64 → ∀ (i : Fin 64) (x : Fin 256), 64 + i.val = e.val → b0 (ix3 0 i x) = v ⟨x.val, by omega⟩)
    (hb1 : ¬ e.val < 64 → ∀ (i : Fin 64) (x : Fin 256), 64 + i.val = e.val → b1 (ix3 0 i x) = v ⟨256 + x.val, by omega⟩)
    (hb2 : ¬ e.val < 64 → ∀ (i : Fin 64) (x : Fin 256), 64 + i.val = e.val → b2 (ix3 0 i x) = v ⟨512 + x.val, by omega⟩) :
    stOut (F := Ideal) vc sw sc a0 a1 a2 b0 b1 b2 (ix2 r e)
      = Ideal.div (∑ x, vc (ix4 0 0 x e) * stPc sw sc (ix2 x c) + ∑ w, v w * stPw sw sc (ix2 w c)) (stL (stPw sw sc) (stPc sw sc) (ix2 0 c)) := by
  rw [← sum_three (fun w => v w * stPw sw sc (ix2 w c))]
  pointwise [stOut, stO0, stO1, stMm, stVc]
  by_cases h : e.val < 64
  · rw [dif_pos h]
    have hc' : (⟨r.val, by omega⟩ : Fin 512) = c := Fin.ext (by rw [hc]; show r.val = _; omega)
    simp only [hc']
    simp only [ha0 h ⟨e.val, h⟩ _ rfl, ha1 h ⟨e.val, h⟩ _ rfl, ha2 h ⟨e.val, h⟩ _ rfl]
  · rw [dif_neg h]
    have hc' : (⟨256 + r.val, by omega⟩ : Fin 512) = c := Fin.ext (by rw [hc]; show 256 + r.val = _; omega)
    have he : (⟨64 + (e.val - 64), by omega⟩ : Fin 128) = e := Fin.ext (by show 64 + (e.val - 64) = _; omega)
    simp only [hc', he]
    have he' : 64 + (⟨e.val - 64, by omega⟩ : Fin 64).val = e.val := by show 64 + (e.val - 64) = _; omega
    simp only [hb0 h ⟨e.val - 64, by omega⟩ _ he', hb1 h ⟨e.val - 64, by omega⟩ _ he', hb2 h ⟨e.val - 64, by omega⟩ _ he']

theorem stVt_at (v : Vec Ideal S256x128 .bf16) (k : Fin 256) (e : Fin 128) : stVt (F := Ideal) v (ix3 0 e k) = v (ix2 k e) := by
  pointwise [stVt]

end Cert.KernelIdeal.Gen
-- ==== Proof.NA.AttnRead2.lean ====
/-
  The attention call's whole output block, read at an element.
-/
module

public import proofs.«01_k».proof.Proof.NA.AttnRead

@[expose] public section

set_option maxRecDepth 16384

noncomputable section

open Idealize.ShloMosaic Idealize.ShloMosaic.TcCoe Idealize.SL.Sem

namespace Cert.KernelIdeal.Gen

theorem ld_at2 {m n m' n' : Nat} (x : Vec Ideal ⟨2, ![m, n]⟩ .bf16) (p : Nat)
    (inb : ∀ a, (![p, 0] : Fin 2 → Nat) a + (![m', n'] : Fin 2 → Nat) a ≤ (⟨2, ![m, n]⟩ : Shape).size a) (i : Fin m') (j : Fin n') (i' : Fin m) (j' : Fin n)
    (hi : i'.val = p + i.val) (hj : j'.val = j.val) :
    View.ld x (Rect.unit ![p, 0] ![m', n'] inb) (ix2 i j) = x (ix2 i' j') :=
  View.ld_unit_apply_of x _ _ inb (ix2 i j) (ix2 i' j') fun a => by
    refine Fin.cases ?_ (fun a => Fin.cases ?_ (fun a => a.elim0) a) a
    · exact hi
    · exact hj.trans (Nat.zero_add _).symm

theorem stV_tile (x2 : Vec Ideal S2048x128 .bf16) (t : Fin 8) (e : Fin 128) (k : Fin 256) (n p : Nat) (hp : p = 256 * n)
    (inb : ∀ a, (![p, 0] : Fin 2 → Nat) a + S256x128.size a ≤ S2048x128.size a) :
    View.TileAt (S := S8x128x256) (Val := Elt Ideal) (e := .bf16) (ix3 t e k) ![n, 0, 0] S1x128x256.size
      (stVt (View.ld x2 (Rect.unit ![p, 0] S256x128.size inb))) (x2 (ix2 ⟨256 * t.val + k.val, by omega⟩ e)) := by
  intro x hx
  obtain ⟨x0, x1, x2', rfl⟩ : ∃ (a : Fin 1) (b : Fin 128) (c : Fin 256), x = ix3 a b c := ⟨x 0, x 1, x 2, eq_ix3 x⟩
  have h0 : t.val = n + x0.val := hx 0
  have h1 : e.val = 0 + x1.val := hx 1
  have h2 : k.val = 0 + x2'.val := hx 2
  obtain rfl : x0 = 0 := Subsingleton.elim _ _
  obtain rfl : x1 = e := Fin.ext (by omega)
  obtain rfl : x2' = k := Fin.ext (by omega)
  refine (stVt_at _ _ _).trans (ld_at2 x2 p inb x2' x1 _ _ ?_ rfl)
  show 256 * t.val + x2'.val = _
  rw [h0, hp]; simp

theorem stV_at (x2 : Vec Ideal S2048x128 .bf16) (t : Fin 8) (e : Fin 128) (k : Fin 256) :
    stV (F := Ideal) x2 (ix3 t e k) = x2 (ix2 ⟨256 * t.val + k.val, by omega⟩ e) := by
  unfold stV
  refine View.canon_eq_of_allAt _ _ _ ?_ ?_
  · exact View.cover_of_tiled _ ![1, 128, 256] rfl _
  · refine View.allAt_cons_unit _ _ _ _ _ (stV_tile x2 t e k 7 _ rfl _) ?_
    refine View.allAt_cons_unit _ _ _ _ _ (stV_tile x2 t e k 6 _ rfl _) ?_
    refine View.allAt_cons_unit _ _ _ _ _ (stV_tile x2 t e k 5 _ rfl _) ?_
    refine View.allAt_cons_unit _ _ _ _ _ (stV_tile x2 t e k 4 _ rfl _) ?_
    refine View.allAt_cons_unit _ _ _ _ _ (stV_tile x2 t e k 3 _ rfl _) ?_
    refine View.allAt_cons_unit _ _ _ _ _ (stV_tile x2 t e k 2 _ rfl _) ?_
    refine View.allAt_cons_unit _ _ _ _ _ (stV_tile x2 t e k 1 _ rfl _) ?_
    refine View.allAt_cons_unit _ _ _ _ _ (stV_tile x2 t e k 0 _ rfl _) ?_
    exact View.allAt_nil _ _

theorem ld_at3 (X : Vec Ideal S8x128x256 .bf16) (t o : Nat)
    (h : ∀ a, (![t, o, 0] : Fin 3 → Nat) a + S1x64x256.size a ≤ S8x128x256.size a)
    (i : Fin 64) (x : Fin 256) (e : Fin 128) (he : e.val = o + i.val) (t' : Fin 8) (ht : t'.val = t) :
    View.ld X (Rect.unit ![t, o, 0] S1x64x256.size h) (ix3 0 i x) = X (ix3 t' e x) :=
  View.ld_unit_apply_of X _ _ h (ix3 0 i x) (ix3 t' e x) fun a => by
    refine Fin.cases ?_ (fun a => Fin.cases ?_ (fun a => Fin.cases ?_ (fun a => a.elim0) a) a) a
    · exact ht
    · exact he
    · exact (Nat.zero_add _).symm

theorem stV_ld (x2 : Vec Ideal S2048x128 .bf16) (t o : Nat)
    (h : ∀ a, (![t, o, 0] : Fin 3 → Nat) a + S1x64x256.size a ≤ S8x128x256.size a)
    (i : Fin 64) (x : Fin 256) (e : Fin 128) (he : e.val = o + i.val) (n : Fin 2048) (hn : n.val = 256 * t + x.val) :
    View.ld (stV (F := Ideal) x2) (Rect.unit ![t, o, 0] S1x64x256.size h) (ix3 0 i x) = x2 (ix2 n e) := by
  have ht : t + 1 ≤ 8 := h 0
  rw [ld_at3 (stV (F := Ideal) x2) t o h i x e he ⟨t, by omega⟩ rfl, stV_at]
  exact congrArg (fun n => x2 (ix2 n e)) (Fin.ext (by rw [hn]))

/-- The score of a window row at the step's column. -/
theorem stAt_at (q k v t : Nat) (hq hk hv ha hb) (x0 x1 x2 : Vec Ideal S2048x128 .bf16) (x3 x4 : Vec Ideal S1x1x256x128 .f32)
    (x5 : Vec Ideal S1x3x768x512 .f32) (r : Fin 256) (e : Fin 128) (hq' : q + 256 ≤ 2048) (hk' : k + 768 ≤ 2048) (hkt : k = 256 * t) (hv' : v < 3) :
    stAt (F := Ideal) q k v t hq hk hv ha hb x0 x1 x2 x3 x4 x5 (ix2 r e)
      = attn (fun d => x0 (ix2 ⟨q + r.val, by omega⟩ ⟨64 * (e.val / 64) + d.val, by omega⟩))
          (fun w d => x1 (ix2 ⟨k + w.val, by omega⟩ ⟨64 * (e.val / 64) + d.val, by omega⟩))
          (fun w => x2 (ix2 ⟨k + w.val, by omega⟩ e))
          (fun j d => x3 (ix4 0 0 j ⟨64 * (e.val / 64) + d.val, by omega⟩))
          (fun j => x4 (ix4 0 0 j e))
          (fun w => x5 (ix4 0 ⟨v, hv'⟩ w ⟨256 * (e.val / 64) + r.val, by omega⟩)) := by
  unfold stAt
  have hc : (⟨256 * (e.val / 64) + r.val, by omega⟩ : Fin 512).val = 256 * (e.val / 64) + r.val := rfl
  rw [stOut_at _ _ _ _ _ _ _ _ _ r e ⟨256 * (e.val / 64) + r.val, by omega⟩ rfl (fun w => x2 (ix2 ⟨k + w.val, by omega⟩ e))
    (fun h i x hi => stV_ld x2 _ _ _ i x e (by omega) _ (by simp only; omega))
    (fun h i x hi => stV_ld x2 _ _ _ i x e (by omega) _ (by simp only; omega))
    (fun h i x hi => stV_ld x2 _ _ _ i x e (by omega) _ (by simp only; omega))
    (fun h i x hi => stV_ld x2 _ _ _ i x e (by omega) _ (by simp only; omega))
    (fun h i x hi => stV_ld x2 _ _ _ i x e (by omega) _ (by simp only; omega))
    (fun h i x hi => stV_ld x2 _ _ _ i x e (by omega) _ (by simp only; omega))]
  simp only [stPw_at, stPc_at, stL_at, stMx_at, stSw_at, stSc_at]
  simp only [sum_stQ _ (fun x => View.ld x1 (Rect.unit ![k, 0] S768x128.size hk) (ix2 _ x)) _ r (e.val / 64) (by omega) hc,
    sum_stQ _ (fun x => x3 (ix4 0 0 _ x)) _ r (e.val / 64) (by omega) hc]
  have E1 : ∀ (w : Fin 768) (d : Fin 128), View.ld x1 (Rect.unit ![k, 0] S768x128.size hk) (ix2 w d) = x1 (ix2 ⟨k + w.val, by omega⟩ d) :=
    fun w d => ld_at2 x1 k hk w d _ _ rfl rfl
  have E2 : ∀ (w : Fin 256) (d : Fin 128), View.ld x0 (Rect.unit ![q, 0] S256x128.size hq) (ix2 w d) = x0 (ix2 ⟨q + w.val, by omega⟩ d) :=
    fun w d => ld_at2 x0 q hq w d _ _ rfl rfl
  have E3 : ∀ (w : Fin 768) (c : Fin 512), View.ld x5 (Rect.unit ![0, v, 0, 0] S1x1x768x512.size hv) (ix4 0 0 w c) = x5 (ix4 0 ⟨v, hv'⟩ w c) :=
    fun w c => View.ld_unit_apply_of x5 _ _ hv (ix4 0 0 w c) (ix4 0 ⟨v, hv'⟩ w c) fun a => by
      refine Fin.cases ?_ (fun a => Fin.cases ?_ (fun a => Fin.cases ?_ (fun a => Fin.cases ?_ (fun a => a.elim0) a) a) a) a
      · rfl
      · rfl
      · exact (Nat.zero_add _).symm
      · exact (Nat.zero_add _).symm
  simp only [E1, E2, E3]
  rfl

/-- The first of the three 256-row blocks of keys that row `R` attends to. -/
def blk (R : Nat) : Nat := min (R / 256 - 1) 5

/-- The bias variant of row `R`: first block, last block, or between. -/
def var (R : Nat) : Nat := if R < 256 then 0 else if R < 1792 then 1 else 2

theorem var_lt (R : Nat) : var R < 3 := by unfold var; split <;> [omega; split <;> omega]
theorem blk_le (R : Nat) : blk R ≤ 5 := by unfold blk; omega

/-- One element of a point's output. -/
def outAt (x0 x1 x2 : Vec Ideal S2048x128 .bf16) (x3 x4 : Vec Ideal S1x1x256x128 .f32) (x5 : Vec Ideal S1x3x768x512 .f32)
    (R : Fin 2048) (e : Fin 128) : EReal :=
  attn (fun d => x0 (ix2 R ⟨64 * (e.val / 64) + d.val, by omega⟩))
    (fun w d => x1 (ix2 ⟨256 * blk R.val + w.val, by have := blk_le R.val; omega⟩ ⟨64 * (e.val / 64) + d.val, by omega⟩))
    (fun w => x2 (ix2 ⟨256 * blk R.val + w.val, by have := blk_le R.val; omega⟩ e))
    (fun j d => x3 (ix4 0 0 j ⟨64 * (e.val / 64) + d.val, by omega⟩))
    (fun j => x4 (ix4 0 0 j e))
    (fun w => x5 (ix4 0 ⟨var R.val, var_lt _⟩ w ⟨256 * (e.val / 64) + R.val % 256, by omega⟩))

theorem step_tile (q k v t : Nat) (hq hk hv ha hb) (x0 x1 x2 : Vec Ideal S2048x128 .bf16) (x3 x4 : Vec Ideal S1x1x256x128 .f32)
    (x5 : Vec Ideal S1x3x768x512 .f32) (R : Fin 2048) (e : Fin 128) (hkt : k = 256 * t) (hq8 : q % 256 = 0)
    (hb' : ∀ r : Nat, r < 256 → blk (q + r) = t) (hv'' : ∀ r : Nat, r < 256 → var (q + r) = v) :
    View.TileAt (S := S2048x128) (Val := Elt Ideal) (e := .bf16) (ix2 R e) ![q, 0] S256x128.size
      (stAt (F := Ideal) q k v t hq hk hv ha hb x0 x1 x2 x3 x4 x5) (outAt x0 x1 x2 x3 x4 x5 R e) := by
  intro x hx
  obtain ⟨r, e', rfl⟩ : ∃ (a : Fin 256) (b : Fin 128), x = ix2 a b := ⟨x 0, x 1, eq_ix2 x⟩
  have h0 : R.val = q + r.val := hx 0
  have h1 : e.val = 0 + e'.val := hx 1
  obtain rfl : e' = e := Fin.ext (by omega)
  have hq' : q + 256 ≤ 2048 := hq 0
  have hk' : k + 768 ≤ 2048 := hk 0
  have hv' : v + 1 ≤ 3 := hv 1
  rw [stAt_at q k v t hq hk hv ha hb x0 x1 x2 x3 x4 x5 r e' hq' hk' hkt (by omega)]
  have e1 : blk R.val = t := by rw [h0]; exact hb' _ r.isLt
  have e2 : var R.val = v := by rw [h0]; exact hv'' _ r.isLt
  have e3 : R.val % 256 = r.val := by omega
  unfold outAt
  subst hkt
  have E0 : (⟨q + r.val, by omega⟩ : Fin 2048) = R := Fin.ext h0.symm
  have E1 : ∀ w : Fin 768, (⟨256 * blk R.val + w.val, by have := blk_le R.val; omega⟩ : Fin 2048) = ⟨256 * t + w.val, by omega⟩ :=
    fun w => Fin.ext (by simp only [e1])
  have E2 : (⟨var R.val, var_lt _⟩ : Fin 3) = ⟨v, by omega⟩ := Fin.ext e2
  have E3 : (⟨256 * (e'.val / 64) + R.val % 256, by omega⟩ : Fin 512) = ⟨256 * (e'.val / 64) + r.val, by omega⟩ := Fin.ext (by simp only [e3])
  simp only [E0, E1, E2, E3]

theorem blk_of (q : Nat) (t : Nat) (h : q % 256 = 0 ∧ min (q / 256 - 1) 5 = t) : ∀ r : Nat, r < 256 → blk (q + r) = t := by
  intro r hr; unfold blk; omega

theorem var_of (q v : Nat) (h : q % 256 = 0 ∧ (if q < 256 then 0 else if q < 1792 then 1 else 2) = v) : ∀ r : Nat, r < 256 → var (q + r) = v := by
  intro r hr; unfold var; obtain ⟨h1, h2⟩ := h; subst h2
  split_ifs <;> omega

set_option maxHeartbeats 2000000 in
/-- What a point leaves in its output block, at an element. -/
theorem out1_at (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x1x256x128 .f32) (harg5 : arg5.IsWhole) (arg6 : Memref sig .tc .vmem S1x1x256x128 .f32) (harg6 : arg6.IsWhole) (arg7 : Memref sig .tc .vmem S1x3x768x512 .f32) (harg7 : arg7.IsWhole) (arg8 : Memref sig .tc .vmem S2048x128 .bf16) (harg8 : arg8.IsWhole) (arg9 : Memref sig .tc .vmem S8x128x256 .bf16) (harg9 : arg9.IsWhole)
    (x0 : Vec Ideal S2048x128 .bf16) (x1 : Vec Ideal S2048x128 .bf16) (x2 : Vec Ideal S2048x128 .bf16) (x3 : Vec Ideal S1x1x256x128 .f32) (x4 : Vec Ideal S1x1x256x128 .f32) (x5 : Vec Ideal S1x3x768x512 .f32)
    (R : Fin 2048) (e : Fin 128) :
    out1_A_6 (F := Ideal) c i arg2 harg2 arg3 harg3 arg4 harg4 arg5 harg5 arg6 harg6 arg7 harg7 arg8 harg8 arg9 harg9 x0 x1 x2 x3 x4 x5 (ix2 R e) = outAt x0 x1 x2 x3 x4 x5 R e := by
  rw [out1_steps]
  refine View.canon_eq_of_allAt _ _ _ ?_ ?_
  · exact View.cover_of_tiled _ ![256, 128] rfl _
  · refine View.allAt_cons_unit _ _ _ _ _ (step_tile 1792 1280 2 5 _ _ _ _ _ x0 x1 x2 x3 x4 x5 R e rfl rfl (blk_of _ _ (by decide)) (var_of _ _ (by decide))) ?_
    refine View.allAt_cons_unit _ _ _ _ _ (step_tile 1536 1280 1 5 _ _ _ _ _ x0 x1 x2 x3 x4 x5 R e rfl rfl (blk_of _ _ (by decide)) (var_of _ _ (by decide))) ?_
    refine View.allAt_cons_unit _ _ _ _ _ (step_tile 1280 1024 1 4 _ _ _ _ _ x0 x1 x2 x3 x4 x5 R e rfl rfl (blk_of _ _ (by decide)) (var_of _ _ (by decide))) ?_
    refine View.allAt_cons_unit _ _ _ _ _ (step_tile 1024 768 1 3 _ _ _ _ _ x0 x1 x2 x3 x4 x5 R e rfl rfl (blk_of _ _ (by decide)) (var_of _ _ (by decide))) ?_
    refine View.allAt_cons_unit _ _ _ _ _ (step_tile 768 512 1 2 _ _ _ _ _ x0 x1 x2 x3 x4 x5 R e rfl rfl (blk_of _ _ (by decide)) (var_of _ _ (by decide))) ?_
    refine View.allAt_cons_unit _ _ _ _ _ (step_tile 512 256 1 1 _ _ _ _ _ x0 x1 x2 x3 x4 x5 R e rfl rfl (blk_of _ _ (by decide)) (var_of _ _ (by decide))) ?_
    refine View.allAt_cons_unit _ _ _ _ _ (step_tile 256 0 1 0 _ _ _ _ _ x0 x1 x2 x3 x4 x5 R e rfl rfl (blk_of _ _ (by decide)) (var_of _ _ (by decide))) ?_
    refine View.allAt_cons_unit _ _ _ _ _ (step_tile 0 0 0 0 _ _ _ _ _ x0 x1 x2 x3 x4 x5 R e rfl rfl (blk_of _ _ (by decide)) (var_of _ _ (by decide))) ?_
    exact View.allAt_nil _ _

end Cert.KernelIdeal.Gen
-- ==== Proof.NA.Math.lean ====
/-
  The extended reals' side of the attention: a softmax taken in powers of two over scaled scores, some of them minus
  infinity, divided once at the end, is the softmax in powers of e, divided weight by weight.
-/
module

public import Idealize.ShloMosaic.PureOps.Ideal
public import Idealize.ShloMosaic.PureOps.Ideal.Laws
public import Mathlib.Analysis.SpecialFunctions.Pow.Real

@[expose] public section

noncomputable section

open Idealize.ShloMosaic
open scoped BigOperators

namespace Cert.NA

/-- log₂ e. -/
def lam : ℝ := (Real.log 2)⁻¹

theorem lam_pos : 0 < lam := inv_pos.mpr (Real.log_pos (by norm_num))

theorem sum_mul_coe {ι : Type*} (s : Finset ι) (f : ι → EReal) (x : ℝ) (hx : 0 ≤ x) :
    ∑ i ∈ s, f i * (x : EReal) = (∑ i ∈ s, f i) * (x : EReal) := by
  classical
  induction s using Finset.induction_on with
  | empty => simp
  | insert a s ha ih =>
    rw [Finset.sum_insert ha, Finset.sum_insert ha, ih,
      EReal.right_distrib_of_nonneg_of_ne_top (EReal.coe_nonneg.mpr hx) (EReal.coe_ne_top x)]

theorem sum_coe_mul {ι : Type*} (s : Finset ι) (f : ι → EReal) (x : ℝ) (hx : 0 ≤ x) :
    ∑ i ∈ s, (x : EReal) * f i = (x : EReal) * ∑ i ∈ s, f i := by
  rw [mul_comm, ← sum_mul_coe s f x hx]; simp only [mul_comm]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_lam (x : EReal) (hx : x ≠ ⊤) (m : ℝ) :
    Ideal.exp2 ((lam : EReal) * x - (lam : EReal) * (m : EReal)) = Ideal.exp (x - m) := by
  induction x using EReal.rec with
  | bot => rw [EReal.coe_mul_bot_of_pos lam_pos, EReal.bot_sub, EReal.bot_sub]; rfl
  | top => exact absurd rfl hx
  | coe r =>
    rw [← EReal.coe_mul, ← EReal.coe_mul, ← EReal.coe_sub, ← EReal.coe_sub, Ideal.exp2_coe, Ideal.exp_coe]
    congr 1
    show (2 : ℝ) ^ (lam * r - lam * m) = _
    rw [Real.rpow_def_of_pos (by norm_num)]
    congr 1
    unfold lam
    have : Real.log 2 ≠ 0 := (Real.log_pos (by norm_num)).ne'
    field_simp

theorem exp_sub_real (x : EReal) (hx : x ≠ ⊤) (m : ℝ) : ∃ p : ℝ, 0 ≤ p ∧ Ideal.exp (x - m) = (p : EReal) := by
  induction x using EReal.rec with
  | bot => exact ⟨0, le_refl _, by rw [EReal.bot_sub]; simp⟩
  | top => exact absurd rfl hx
  | coe r => exact ⟨Real.exp (r - m), (Real.exp_pos _).le, by rw [← EReal.coe_sub, Ideal.exp_coe]⟩

theorem lam_mono : Monotone (fun x : EReal => (lam : EReal) * x) := fun _ _ h =>
  mul_le_mul_of_nonneg_left h (EReal.coe_nonneg.mpr lam_pos.le)

theorem lam_bot : (lam : EReal) * ⊥ = ⊥ := EReal.coe_mul_bot_of_pos lam_pos

theorem softmax {W R C : Type*} [Fintype W] [Fintype R] [Fintype C] [Nonempty C] (e : R → W) (he : Function.Injective e)
    (tW vW : W → EReal) (tC vC sC : C → EReal) (sR : R → EReal)
    (hR : ∀ r, sR r ≠ ⊤) (hC : ∀ j, sC j ≠ ⊤) (hC' : ∀ j, sC j ≠ ⊥)
    (h1 : ∀ r, tW (e r) = (lam : EReal) * sR r) (h2 : ∀ w, w ∉ Set.range e → tW w = ⊥)
    (h3 : ∀ j, tC j = (lam : EReal) * sC j) (M m : EReal)
    (hM : M = max (Finset.univ.sup tW) (Finset.univ.sup tC)) (hm : m = max (Finset.univ.sup sR) (Finset.univ.sup sC)) :
    Ideal.div ((∑ j, vC j * Ideal.exp2 (tC j - M)) + ∑ w, vW w * Ideal.exp2 (tW w - M))
        ((∑ w, Ideal.exp2 (tW w - M)) + ∑ j, Ideal.exp2 (tC j - M))
      = (∑ r, Ideal.div (Ideal.exp (sR r - m)) ((∑ r, Ideal.exp (sR r - m)) + ∑ j, Ideal.exp (sC j - m)) * vW (e r))
        + ∑ j, Ideal.div (Ideal.exp (sC j - m)) ((∑ r, Ideal.exp (sR r - m)) + ∑ j, Ideal.exp (sC j - m)) * vC j := by
  classical
  have hMm : M = (lam : EReal) * m := by
    rw [hM, hm, lam_mono.map_max]
    congr 1
    · rw [show (lam : EReal) * Finset.univ.sup sR = Finset.univ.sup ((fun x : EReal => (lam : EReal) * x) ∘ sR) from
        Finset.comp_sup_eq_sup_comp_of_is_total (fun x : EReal => (lam : EReal) * x) lam_mono lam_bot]
      refine le_antisymm (Finset.sup_le fun w _ => ?_) (Finset.sup_le fun r _ => ?_)
      · by_cases hw : w ∈ Set.range e
        · obtain ⟨r, rfl⟩ := hw
          rw [h1]; exact Finset.le_sup (f := (fun x : EReal => (lam : EReal) * x) ∘ sR) (Finset.mem_univ r)
        · rw [h2 w hw]; exact bot_le
      · show (lam : EReal) * sR r ≤ _
        rw [← h1]; exact Finset.le_sup (f := tW) (Finset.mem_univ (e r))
    · rw [show (lam : EReal) * Finset.univ.sup sC = Finset.univ.sup ((fun x : EReal => (lam : EReal) * x) ∘ sC) from
        Finset.comp_sup_eq_sup_comp_of_is_total (fun x : EReal => (lam : EReal) * x) lam_mono lam_bot]
      exact congrArg _ (funext h3)
  have hmt : m ≠ ⊤ := by
    rw [hm]
    refine (max_lt ?_ ?_).ne
    · exact (Finset.sup_lt_iff bot_lt_top).mpr fun r _ => lt_top_iff_ne_top.mpr (hR r)
    · exact (Finset.sup_lt_iff bot_lt_top).mpr fun r _ => lt_top_iff_ne_top.mpr (hC r)
  have hmb : m ≠ ⊥ := by
    obtain ⟨j⟩ := ‹Nonempty C›
    rw [hm]
    have : sC j ≤ max (Finset.univ.sup sR) (Finset.univ.sup sC) := le_max_of_le_right (Finset.le_sup (Finset.mem_univ j))
    exact (lt_of_lt_of_le (bot_lt_iff_ne_bot.mpr (hC' j)) this).ne'
  obtain ⟨m0, rfl⟩ : ∃ m0 : ℝ, m = (m0 : EReal) := ⟨m.toReal, (EReal.coe_toReal hmt hmb).symm⟩
  choose pR hpR0 hpR using fun r => exp_sub_real (sR r) (hR r) m0
  choose pC hpC0 hpC using fun j => exp_sub_real (sC j) (hC j) m0
  have kC : ∀ j, Ideal.exp2 (tC j - M) = (pC j : EReal) := fun j => by
    rw [h3, hMm, exp2_lam _ (hC j), hpC]
  have kR : ∀ r, Ideal.exp2 (tW (e r) - M) = (pR r : EReal) := fun r => by
    rw [h1, hMm, exp2_lam _ (hR r), hpR]
  have kW : ∀ w, w ∉ Set.range e → Ideal.exp2 (tW w - M) = 0 := fun w hw => by
    rw [h2 w hw, EReal.bot_sub]; rfl
  have s1 : (∑ w, vW w * Ideal.exp2 (tW w - M)) = ∑ r, vW (e r) * (pR r : EReal) :=
    (Fintype.sum_of_injective e he _ _ (fun w hw => by rw [kW w hw, mul_zero]) fun r => by rw [kR]).symm
  have s2 : (∑ w, Ideal.exp2 (tW w - M)) = ∑ r, (pR r : EReal) :=
    (Fintype.sum_of_injective e he _ _ (fun w hw => kW w hw) fun r => by rw [kR]).symm
  rw [s1, s2]
  simp only [kC, hpR, hpC]
  rw [← coe_sum, ← coe_sum, ← EReal.coe_add]
  -- the sum of the weights is positive: the largest score's weight is one
  have hL : (0 : ℝ) < (∑ r, pR r) + ∑ j, pC j := by
    have hex : (∃ r, sR r = (m0 : EReal)) ∨ ∃ j, sC j = (m0 : EReal) := by
      rcases max_choice (Finset.univ.sup sR) (Finset.univ.sup sC) with h | h
      · left
        rw [h] at hm
        have hne : (Finset.univ : Finset R).Nonempty := by
          rw [Finset.nonempty_iff_ne_empty]; intro h0
          rw [h0, Finset.sup_empty] at hm; exact EReal.coe_ne_bot m0 hm
        obtain ⟨r, _, hr⟩ := Finset.exists_mem_eq_sup _ hne sR
        exact ⟨r, by rw [← hr, ← hm]⟩
      · right
        rw [h] at hm
        obtain ⟨j, _, hj⟩ := Finset.exists_mem_eq_sup _ (Finset.univ_nonempty (α := C)) sC
        exact ⟨j, by rw [← hj, ← hm]⟩
    have one : Ideal.exp ((m0 : EReal) - (m0 : EReal)) = ((1 : ℝ) : EReal) := by
      rw [← EReal.coe_sub, sub_self, Ideal.exp_coe, Real.exp_zero]
    rcases hex with ⟨r, hr⟩ | ⟨j, hj⟩
    · have : pR r = 1 := by have := hpR r; rw [hr, one] at this; exact_mod_cast this.symm
      have h1 : pR r ≤ ∑ r, pR r := Finset.single_le_sum (fun r _ => hpR0 r) (Finset.mem_univ r)
      have h2 : 0 ≤ ∑ j, pC j := Finset.sum_nonneg fun j _ => hpC0 j
      linarith
    · have : pC j = 1 := by have := hpC j; rw [hj, one] at this; exact_mod_cast this.symm
      have h1 : pC j ≤ ∑ r, pC r := Finset.single_le_sum (fun r _ => hpC0 r) (Finset.mem_univ j)
      have h2 : 0 ≤ ∑ j, pR j := Finset.sum_nonneg fun j _ => hpR0 j
      linarith
  generalize (∑ r, pR r) + ∑ j, pC j = L at hL ⊢
  have hL0 : (0 : ℝ) ≤ 1 / L := by positivity
  simp only [Ideal.div_coe hL.ne']
  rw [EReal.right_distrib_of_nonneg_of_ne_top (EReal.coe_nonneg.mpr hL0) (EReal.coe_ne_top _), ← sum_mul_coe _ _ _ hL0, ← sum_mul_coe _ _ _ hL0, add_comm]
  congr 1
  · exact Finset.sum_congr rfl fun r _ => by rw [mul_assoc, mul_comm]
  · exact Finset.sum_congr rfl fun r _ => by rw [mul_assoc, mul_comm]

end Cert.NA
-- ==== Proof.NA.Bias.lean ====
/-
  The bias call's output block, read at an element: per variant, key row and query lane, the head's relative-position bias in
  powers of two where the window's rows and columns admit the pair, minus infinity elsewhere.
-/
module

public import proofs.«01_k».proof.Proof.Gen.KernelIdeal.Frame
public import Idealize.ShloMosaic.Lib.Pipeline.ValueKit.Tiles
public import Idealize.ShloMosaic.Lib.Pointwise
public import proofs.«01_k».proof.Proof.NA.Math

@[expose] public section

set_option maxRecDepth 16384

noncomputable section

open Idealize.ShloMosaic Idealize.ShloMosaic.TcCoe Idealize.SL.Sem

namespace Cert.KernelIdeal.Gen

section
variable {F : FTy → Type} [FloatOps F] [Named F]

/-- One relative row of the bias, every key column's row rotated by its number and by `sh` lanes more. -/
def bRow (x0 : Vec F S1x16x128 .f32) (dr : Nat) (h : ∀ a, (![0, dr, 0] : Fin 3 → Nat) a + S1x1x128.size a ≤ S1x16x128.size a) (sh : BitVec 32) : FVec F S64x128 .f32 :=
  dynamicRotate 1 sh (some (1, 0))
    (broadcastTo S64x128 (shapeCast S1x128 (mulf (shapeCast S1x128 (View.ld x0 (Rect.unit ![0, dr, 0] S1x1x128.size h)) shapeCasts_S1x1x128_S1x128)
      (broadcast S1x128 (Named.named κ "log2e" 0x3FB8AA3B#32))) shapeCasts_S1x128_S1x128) broadcasts_S1x128_S64x128) rotates_S64x128_d1s1a0

/-- It, where the columns admit the pair. -/
def bOn (x0 : Vec F S1x16x128 .f32) (dr : Nat) (h : ∀ a, (![0, dr, 0] : Fin 3 → Nat) a + S1x1x128.size a ≤ S1x16x128.size a) (sh : BitVec 32) : FVec F S64x128 .f32 :=
  select k0_pay3 (bRow x0 dr h sh) k0_pay46

/-- A tile: two query rows side by side. -/
def bTile (a b : FVec F S64x128 .f32) : FVec F S1x1x64x128 .f32 :=
  shapeCast S1x1x64x128 (select k0_pay4 a b) shapeCasts_S64x128_S1x1x64x128

set_option maxHeartbeats 4000000 in
theorem out0_steps (x0 : Vec F S1x16x128 .f32) : out0_1 x0 = View.canon
    [⟨Rect.unit (s := S1x3x768x256) ![0, 2, 704, 128] S1x1x64x128.size inb_S1x3x768x256_S1x1x64x128_0_2_704_128, bTile (bOn x0 8 inb_S1x16x128_S1x1x128_0_8_0 0#32) (bOn x0 7 inb_S1x16x128_S1x1x128_0_7_0 64#32)⟩,
     ⟨Rect.unit (s := S1x3x768x256) ![0, 2, 704, 0] S1x1x64x128.size inb_S1x3x768x256_S1x1x64x128_0_2_704_0, bTile (bOn x0 10 inb_S1x16x128_S1x1x128_0_10_0 0#32) (bOn x0 9 inb_S1x16x128_S1x1x128_0_9_0 64#32)⟩,
     ⟨Rect.unit (s := S1x3x768x256) ![0, 2, 640, 128] S1x1x64x128.size inb_S1x3x768x256_S1x1x64x128_0_2_640_128, bTile (bOn x0 7 inb_S1x16x128_S1x1x128_0_7_0 0#32) (bOn x0 6 inb_S1x16x128_S1x1x128_0_6_0 64#32)⟩,
     ⟨Rect.unit (s := S1x3x768x256) ![0, 2, 640, 0] S1x1x64x128.size inb_S1x3x768x256_S1x1x64x128_0_2_640_0, bTile (bOn x0 9 inb_S1x16x128_S1x1x128_0_9_0 0#32) (bOn x0 8 inb_S1x16x128_S1x1x128_0_8_0 64#32)⟩,
     ⟨Rect.unit (s := S1x3x768x256) ![0, 2, 576, 128] S1x1x64x128.size inb_S1x3x768x256_S1x1x64x128_0_2_576_128, bTile (bOn x0 6 inb_S1x16x128_S1x1x128_0_6_0 0#32) (bOn x0 5 inb_S1x16x128_S1x1x128_0_5_0 64#32)⟩,
     ⟨Rect.unit (s := S1x3x768x256) ![0, 2, 576, 0] S1x1x64x128.size inb_S1x3x768x256_S1x1x64x128_0_2_576_0, bTile (bOn x0 8 inb_S1x16x128_S1x1x128_0_8_0 0#32) (bOn x0 7 inb_S1x16x128_S1x1x128_0_7_0 64#32)⟩,
     ⟨Rect.unit (s := S1x3x768x256) ![0, 2, 512, 128] S1x1x64x128.size inb_S1x3x768x256_S1x1x64x128_0_2_512_128, bTile (bOn x0 5 inb_S1x16x128_S1x1x128_0_5_0 0#32) (bOn x0 4 inb_S1x16x128_S1x1x128_0_4_0 64#32)⟩,
     ⟨Rect.unit (s := S1x3x768x256) ![0, 2, 512, 0] S1x1x64x128.size inb_S1x3x768x256_S1x1x64x128_0_2_512_0, bTile (bOn x0 7 inb_S1x16x128_S1x1x128_0_7_0 0#32) (bOn x0 6 inb_S1x16x128_S1x1x128_0_6_0 64#32)⟩,
     ⟨Rect.unit (s := S1x3x768x256) ![0, 2, 448, 128] S1x1x64x128.size inb_S1x3x768x256_S1x1x64x128_0_2_448_128, bTile (bOn x0 4 inb_S1x16x128_S1x1x128_0_4_0 0#32) (bOn x0 3 inb_S1x16x128_S1x1x128_0_3_0 64#32)⟩,
     ⟨Rect.unit (s := S1x3x768x256) ![0, 2, 448, 0] S1x1x64x128.size inb_S1x3x768x256_S1x1x64x128_0_2_448_0, bTile (bOn x0 6 inb_S1x16x128_S1x1x128_0_6_0 0#32) (bOn x0 5 inb_S1x16x128_S1x1x128_0_5_0 64#32)⟩,
     ⟨Rect.unit (s := S1x3x768x256) ![0, 2, 384, 128] S1x1x64x128.size inb_S1x3x768x256_S1x1x64x128_0_2_384_128, bTile (bOn x0 3 inb_S1x16x128_S1x1x128_0_3_0 0#32) (bOn x0 2 inb_S1x16x128_S1x1x128_0_2_0 64#32)⟩,
     ⟨Rect.unit (s := S1x3x768x256) ![0, 2, 384, 0] S1x1x64x128.size inb_S1x3x768x256_S1x1x64x128_0_2_384_0, bTile (bOn x0 5 inb_S1x16x128_S1x1x128_0_5_0 0#32) (bOn x0 4 inb_S1x16x128_S1x1x128_0_4_0 64#32)⟩,
     ⟨Rect.unit (s := S1x3x768x256) ![0, 2, 320, 128] S1x1x64x128.size inb_S1x3x768x256_S1x1x64x128_0_2_320_128, bTile (bOn x0 2 inb_S1x16x128_S1x1x128_0_2_0 0#32) (bOn x0 1 inb_S1x16x128_S1x1x128_0_1_0 64#32)⟩,
     ⟨Rect.unit (s := S1x3x768x256) ![0, 2, 320, 0] S1x1x64x128.size inb_S1x3x768x256_S1x1x64x128_0_2_320_0, bTile (bOn x0 4 inb_S1x16x128_S1x1x128_0_4_0 0#32) (bOn x0 3 inb_S1x16x128_S1x1x128_0_3_0 64#32)⟩,
     ⟨Rect.unit (s := S1x3x768x256) ![0, 2, 256, 128] S1x1x64x128.size inb_S1x3x768x256_S1x1x64x128_0_2_256_128, bTile (bOn x0 1 inb_S1x16x128_S1x1x128_0_1_0 0#32) (bOn x0 0 inb_S1x16x128_S1x1x128_0_0_0 64#32)⟩,
     ⟨Rect.unit (s := S1x3x768x256) ![0, 2, 256, 0] S1x1x64x128.size inb_S1x3x768x256_S1x1x64x128_0_2_256_0, bTile (bOn x0 3 inb_S1x16x128_S1x1x128_0_3_0 0#32) (bOn x0 2 inb_S1x16x128_S1x1x128_0_2_0 64#32)⟩,
     ⟨Rect.unit (s := S1x3x768x256) ![0, 2, 192, 128] S1x1x64x128.size inb_S1x3x768x256_S1x1x64x128_0_2_192_128, bTile k0_pay46 k0_pay46⟩,
     ⟨Rect.unit (s := S1x3x768x256) ![0, 2, 192, 0] S1x1x64x128.size inb_S1x3x768x256_S1x1x64x128_0_2_192_0, bTile k0_pay46 k0_pay46⟩,
     ⟨Rect.unit (s := S1x3x768x256) ![0, 2, 128, 128] S1x1x64x128.size inb_S1x3x768x256_S1x1x64x128_0_2_128_128, bTile k0_pay46 k0_pay46⟩,
     ⟨Rect.unit (s := S1x3x768x256) ![0, 2, 128, 0] S1x1x64x128.size inb_S1x3x768x256_S1x1x64x128_0_2_128_0, bTile k0_pay46 k0_pay46⟩,
     ⟨Rect.unit (s := S1x3x768x256) ![0, 2, 64, 128] S1x1x64x128.size inb_S1x3x768x256_S1x1x64x128_0_2_64_128, bTile k0_pay46 k0_pay46⟩,
     ⟨Rect.unit (s := S1x3x768x256) ![0, 2, 64, 0] S1x1x64x128.size inb_S1x3x768x256_S1x1x64x128_0_2_64_0, bTile k0_pay46 k0_pay46⟩,
     ⟨Rect.unit (s := S1x3x768x256) ![0, 2, 0, 128] S1x1x64x128.size inb_S1x3x768x256_S1x1x64x128_0_2_0_128, bTile k0_pay46 k0_pay46⟩,
     ⟨Rect.unit (s := S1x3x768x256) ![0, 2, 0, 0] S1x1x64x128.size inb_S1x3x768x256_S1x1x64x128_0_2_0_0, bTile k0_pay46 k0_pay46⟩,
     ⟨Rect.unit (s := S1x3x768x256) ![0, 1, 704, 128] S1x1x64x128.size inb_S1x3x768x256_S1x1x64x128_0_1_704_128, bTile k0_pay46 k0_pay46⟩,
     ⟨Rect.unit (s := S1x3x768x256) ![0, 1, 704, 0] S1x1x64x128.size inb_S1x3x768x256_S1x1x64x128_0_1_704_0, bTile k0_pay46 k0_pay46⟩,
     ⟨Rect.unit (s := S1x3x768x256) ![0, 1, 640, 128] S1x1x64x128.size inb_S1x3x768x256_S1x1x64x128_0_1_640_128, bTile k0_pay46 (bOn x0 10 inb_S1x16x128_S1x1x128_0_10_0 64#32)⟩,
     ⟨Rect.unit (s := S1x3x768x256) ![0, 1, 640, 0] S1x1x64x128.size inb_S1x3x768x256_S1x1x64x128_0_1_640_0, bTile k0_pay46 k0_pay46⟩,
     ⟨Rect.unit (s := S1x3x768x256) ![0, 1, 576, 128] S1x1x64x128.size inb_S1x3x768x256_S1x1x64x128_0_1_576_128, bTile (bOn x0 10 inb_S1x16x128_S1x1x128_0_10_0 0#32) (bOn x0 9 inb_S1x16x128_S1x1x128_0_9_0 64#32)⟩,
     ⟨Rect.unit (s := S1x3x768x256) ![0, 1, 576, 0] S1x1x64x128.size inb_S1x3x768x256_S1x1x64x128_0_1_576_0, bTile k0_pay46 k0_pay46⟩,
     ⟨Rect.unit (s := S1x3x768x256) ![0, 1, 512, 128] S1x1x64x128.size inb_S1x3x768x256_S1x1x64x128_0_1_512_128, bTile (bOn x0 9 inb_S1x16x128_S1x1x128_0_9_0 0#32) (bOn x0 8 inb_S1x16x128_S1x1x128_0_8_0 64#32)⟩,
     ⟨Rect.unit (s := S1x3x768x256) ![0, 1, 512, 0] S1x1x64x128.size inb_S1x3x768x256_S1x1x64x128_0_1_512_0, bTile k0_pay46 (bOn x0 10 inb_S1x16x128_S1x1x128_0_10_0 64#32)⟩,
     ⟨Rect.unit (s := S1x3x768x256) ![0, 1, 448, 128] S1x1x64x128.size inb_S1x3x768x256_S1x1x64x128_0_1_448_128, bTile (bOn x0 8 inb_S1x16x128_S1x1x128_0_8_0 0#32) (bOn x0 7 inb_S1x16x128_S1x1x128_0_7_0 64#32)⟩,
     ⟨Rect.unit (s := S1x3x768x256) ![0, 1, 448, 0] S1x1x64x128.size inb_S1x3x768x256_S1x1x64x128_0_1_448_0, bTile (bOn x0 10 inb_S1x16x128_S1x1x128_0_10_0 0#32) (bOn x0 9 inb_S1x16x128_S1x1x128_0_9_0 64#32)⟩,
     ⟨Rect.unit (s := S1x3x768x256) ![0, 1, 384, 128] S1x1x64x128.size inb_S1x3x768x256_S1x1x64x128_0_1_384_128, bTile (bOn x0 7 inb_S1x16x128_S1x1x128_0_7_0 0#32) (bOn x0 6 inb_S1x16x128_S1x1x128_0_6_0 64#32)⟩,
     ⟨Rect.unit (s := S1x3x768x256) ![0, 1, 384, 0] S1x1x64x128.size inb_S1x3x768x256_S1x1x64x128_0_1_384_0, bTile (bOn x0 9 inb_S1x16x128_S1x1x128_0_9_0 0#32) (bOn x0 8 inb_S1x16x128_S1x1x128_0_8_0 64#32)⟩,
     ⟨Rect.unit (s := S1x3x768x256) ![0, 1, 320, 128] S1x1x64x128.size inb_S1x3x768x256_S1x1x64x128_0_1_320_128, bTile (bOn x0 6 inb_S1x16x128_S1x1x128_0_6_0 0#32) (bOn x0 5 inb_S1x16x128_S1x1x128_0_5_0 64#32)⟩,
     ⟨Rect.unit (s := S1x3x768x256) ![0, 1, 320, 0] S1x1x64x128.size inb_S1x3x768x256_S1x1x64x128_0_1_320_0, bTile (bOn x0 8 inb_S1x16x128_S1x1x128_0_8_0 0#32) (bOn x0 7 inb_S1x16x128_S1x1x128_0_7_0 64#32)⟩,
     ⟨Rect.unit (s := S1x3x768x256) ![0, 1, 256, 128] S1x1x64x128.size inb_S1x3x768x256_S1x1x64x128_0_1_256_128, bTile (bOn x0 5 inb_S1x16x128_S1x1x128_0_5_0 0#32) (bOn x0 4 inb_S1x16x128_S1x1x128_0_4_0 64#32)⟩,
     ⟨Rect.unit (s := S1x3x768x256) ![0, 1, 256, 0] S1x1x64x128.size inb_S1x3x768x256_S1x1x64x128_0_1_256_0, bTile (bOn x0 7 inb_S1x16x128_S1x1x128_0_7_0 0#32) (bOn x0 6 inb_S1x16x128_S1x1x128_0_6_0 64#32)⟩,
     ⟨Rect.unit (s := S1x3x768x256) ![0, 1, 192, 128] S1x1x64x128.size inb_S1x3x768x256_S1x1x64x128_0_1_192_128, bTile (bOn x0 4 inb_S1x16x128_S1x1x128_0_4_0 0#32) (bOn x0 3 inb_S1x16x128_S1x1x128_0_3_0 64#32)⟩,
     ⟨Rect.unit (s := S1x3x768x256) ![0, 1, 192, 0] S1x1x64x128.size inb_S1x3x768x256_S1x1x64x128_0_1_192_0, bTile (bOn x0 6 inb_S1x16x128_S1x1x128_0_6_0 0#32) (bOn x0 5 inb_S1x16x128_S1x1x128_0_5_0 64#32)⟩,
     ⟨Rect.unit (s := S1x3x768x256) ![0, 1, 128, 128] S1x1x64x128.size inb_S1x3x768x256_S1x1x64x128_0_1_128_128, bTile (bOn x0 3 inb_S1x16x128_S1x1x128_0_3_0 0#32) k0_pay46⟩,
     ⟨Rect.unit (s := S1x3x768x256) ![0, 1, 128, 0] S1x1x64x128.size inb_S1x3x768x256_S1x1x64x128_0_1_128_0, bTile (bOn x0 5 inb_S1x16x128_S1x1x128_0_5_0 0#32) (bOn x0 4 inb_S1x16x128_S1x1x128_0_4_0 64#32)⟩,
     ⟨Rect.unit (s := S1x3x768x256) ![0, 1, 64, 128] S1x1x64x128.size inb_S1x3x768x256_S1x1x64x128_0_1_64_128, bTile k0_pay46 k0_pay46⟩,
     ⟨Rect.unit (s := S1x3x768x256) ![0, 1, 64, 0] S1x1x64x128.size inb_S1x3x768x256_S1x1x64x128_0_1_64_0, bTile (bOn x0 4 inb_S1x16x128_S1x1x128_0_4_0 0#32) (bOn x0 3 inb_S1x16x128_S1x1x128_0_3_0 64#32)⟩,
     ⟨Rect.unit (s := S1x3x768x256) ![0, 1, 0, 128] S1x1x64x128.size inb_S1x3x768x256_S1x1x64x128_0_1_0_128, bTile k0_pay46 k0_pay46⟩,
     ⟨Rect.unit (s := S1x3x768x256) ![0, 1, 0, 0] S1x1x64x128.size inb_S1x3x768x256_S1x1x64x128_0_1_0_0, bTile (bOn x0 3 inb_S1x16x128_S1x1x128_0_3_0 0#32) k0_pay46⟩,
     ⟨Rect.unit (s := S1x3x768x256) ![0, 0, 704, 128] S1x1x64x128.size inb_S1x3x768x256_S1x1x64x128_0_0_704_128, bTile k0_pay46 k0_pay46⟩,
     ⟨Rect.unit (s := S1x3x768x256) ![0, 0, 704, 0] S1x1x64x128.size inb_S1x3x768x256_S1x1x64x128_0_0_704_0, bTile k0_pay46 k0_pay46⟩,
     ⟨Rect.unit (s := S1x3x768x256) ![0, 0, 640, 128] S1x1x64x128.size inb_S1x3x768x256_S1x1x64x128_0_0_640_128, bTile k0_pay46 k0_pay46⟩,
     ⟨Rect.unit (s := S1x3x768x256) ![0, 0, 640, 0] S1x1x64x128.size inb_S1x3x768x256_S1x1x64x128_0_0_640_0, bTile k0_pay46 k0_pay46⟩,
     ⟨Rect.unit (s := S1x3x768x256) ![0, 0, 576, 128] S1x1x64x128.size inb_S1x3x768x256_S1x1x64x128_0_0_576_128, bTile k0_pay46 k0_pay46⟩,
     ⟨Rect.unit (s := S1x3x768x256) ![0, 0, 576, 0] S1x1x64x128.size inb_S1x3x768x256_S1x1x64x128_0_0_576_0, bTile k0_pay46 k0_pay46⟩,
     ⟨Rect.unit (s := S1x3x768x256) ![0, 0, 512, 128] S1x1x64x128.size inb_S1x3x768x256_S1x1x64x128_0_0_512_128, bTile k0_pay46 k0_pay46⟩,
     ⟨Rect.unit (s := S1x3x768x256) ![0, 0, 512, 0] S1x1x64x128.size inb_S1x3x768x256_S1x1x64x128_0_0_512_0, bTile k0_pay46 k0_pay46⟩,
     ⟨Rect.unit (s := S1x3x768x256) ![0, 0, 448, 128] S1x1x64x128.size inb_S1x3x768x256_S1x1x64x128_0_0_448_128, bTile (bOn x0 12 inb_S1x16x128_S1x1x128_0_12_0 0#32) (bOn x0 11 inb_S1x16x128_S1x1x128_0_11_0 64#32)⟩,
     ⟨Rect.unit (s := S1x3x768x256) ![0, 0, 448, 0] S1x1x64x128.size inb_S1x3x768x256_S1x1x64x128_0_0_448_0, bTile (bOn x0 14 inb_S1x16x128_S1x1x128_0_14_0 0#32) (bOn x0 13 inb_S1x16x128_S1x1x128_0_13_0 64#32)⟩,
     ⟨Rect.unit (s := S1x3x768x256) ![0, 0, 384, 128] S1x1x64x128.size inb_S1x3x768x256_S1x1x64x128_0_0_384_128, bTile (bOn x0 11 inb_S1x16x128_S1x1x128_0_11_0 0#32) (bOn x0 10 inb_S1x16x128_S1x1x128_0_10_0 64#32)⟩,
     ⟨Rect.unit (s := S1x3x768x256) ![0, 0, 384, 0] S1x1x64x128.size inb_S1x3x768x256_S1x1x64x128_0_0_384_0, bTile (bOn x0 13 inb_S1x16x128_S1x1x128_0_13_0 0#32) (bOn x0 12 inb_S1x16x128_S1x1x128_0_12_0 64#32)⟩,
     ⟨Rect.unit (s := S1x3x768x256) ![0, 0, 320, 128] S1x1x64x128.size inb_S1x3x768x256_S1x1x64x128_0_0_320_128, bTile (bOn x0 10 inb_S1x16x128_S1x1x128_0_10_0 0#32) (bOn x0 9 inb_S1x16x128_S1x1x128_0_9_0 64#32)⟩,
     ⟨Rect.unit (s := S1x3x768x256) ![0, 0, 320, 0] S1x1x64x128.size inb_S1x3x768x256_S1x1x64x128_0_0_320_0, bTile (bOn x0 12 inb_S1x16x128_S1x1x128_0_12_0 0#32) (bOn x0 11 inb_S1x16x128_S1x1x128_0_11_0 64#32)⟩,
     ⟨Rect.unit (s := S1x3x768x256) ![0, 0, 256, 128] S1x1x64x128.size inb_S1x3x768x256_S1x1x64x128_0_0_256_128, bTile (bOn x0 9 inb_S1x16x128_S1x1x128_0_9_0 0#32) (bOn x0 8 inb_S1x16x128_S1x1x128_0_8_0 64#32)⟩,
     ⟨Rect.unit (s := S1x3x768x256) ![0, 0, 256, 0] S1x1x64x128.size inb_S1x3x768x256_S1x1x64x128_0_0_256_0, bTile (bOn x0 11 inb_S1x16x128_S1x1x128_0_11_0 0#32) (bOn x0 10 inb_S1x16x128_S1x1x128_0_10_0 64#32)⟩,
     ⟨Rect.unit (s := S1x3x768x256) ![0, 0, 192, 128] S1x1x64x128.size inb_S1x3x768x256_S1x1x64x128_0_0_192_128, bTile (bOn x0 8 inb_S1x16x128_S1x1x128_0_8_0 0#32) (bOn x0 7 inb_S1x16x128_S1x1x128_0_7_0 64#32)⟩,
     ⟨Rect.unit (s := S1x3x768x256) ![0, 0, 192, 0] S1x1x64x128.size inb_S1x3x768x256_S1x1x64x128_0_0_192_0, bTile (bOn x0 10 inb_S1x16x128_S1x1x128_0_10_0 0#32) (bOn x0 9 inb_S1x16x128_S1x1x128_0_9_0 64#32)⟩,
     ⟨Rect.unit (s := S1x3x768x256) ![0, 0, 128, 128] S1x1x64x128.size inb_S1x3x768x256_S1x1x64x128_0_0_128_128, bTile (bOn x0 7 inb_S1x16x128_S1x1x128_0_7_0 0#32) (bOn x0 6 inb_S1x16x128_S1x1x128_0_6_0 64#32)⟩,
     ⟨Rect.unit (s := S1x3x768x256) ![0, 0, 128, 0] S1x1x64x128.size inb_S1x3x768x256_S1x1x64x128_0_0_128_0, bTile (bOn x0 9 inb_S1x16x128_S1x1x128_0_9_0 0#32) (bOn x0 8 inb_S1x16x128_S1x1x128_0_8_0 64#32)⟩,
     ⟨Rect.unit (s := S1x3x768x256) ![0, 0, 64, 128] S1x1x64x128.size inb_S1x3x768x256_S1x1x64x128_0_0_64_128, bTile (bOn x0 6 inb_S1x16x128_S1x1x128_0_6_0 0#32) (bOn x0 5 inb_S1x16x128_S1x1x128_0_5_0 64#32)⟩,
     ⟨Rect.unit (s := S1x3x768x256) ![0, 0, 64, 0] S1x1x64x128.size inb_S1x3x768x256_S1x1x64x128_0_0_64_0, bTile (bOn x0 8 inb_S1x16x128_S1x1x128_0_8_0 0#32) (bOn x0 7 inb_S1x16x128_S1x1x128_0_7_0 64#32)⟩,
     ⟨Rect.unit (s := S1x3x768x256) ![0, 0, 0, 128] S1x1x64x128.size inb_S1x3x768x256_S1x1x64x128_0_0_0_128, bTile (bOn x0 5 inb_S1x16x128_S1x1x128_0_5_0 0#32) (bOn x0 4 inb_S1x16x128_S1x1x128_0_4_0 64#32)⟩,
     ⟨Rect.unit (s := S1x3x768x256) ![0, 0, 0, 0] S1x1x64x128.size inb_S1x3x768x256_S1x1x64x128_0_0_0_0, bTile (bOn x0 7 inb_S1x16x128_S1x1x128_0_7_0 0#32) (bOn x0 6 inb_S1x16x128_S1x1x128_0_6_0 64#32)⟩] := by
  unfold_out out0_1
  rfl

end

/-- The relative row of key row `j` and query row `q` in variant `v`. -/
def drOf (v j q : Nat) : Nat := if v = 0 then j + 7 - q else if v = 1 then j + 3 - q else j - 1 - q

/-- Whether key row `j` is in query row `q`'s window. -/
def okRow (v j q : Nat) : Bool := if v = 0 then decide (j < 8) else if v = 1 then decide (q ≤ j ∧ j < q + 8) else decide (4 ≤ j)

/-- Whether key column `ck` is in query column `cq`'s window. -/
def okCol (ck cq : Nat) : Bool := decide (min (cq - 8) 48 ≤ ck ∧ ck < min (cq - 8) 48 + 16)

/-- The bias of key row and column `k` and query row and column `l`. -/
def biasAt (x0 : Vec Ideal S1x16x128 .f32) (v k l : Nat) : EReal :=
  if okRow v (k / 64) (l / 64) = true ∧ okCol (k % 64) (l % 64) = true then
    x0 (ix3 0 ⟨drOf v (k / 64) (l / 64) % 16, Nat.mod_lt _ (by decide)⟩ ⟨(l % 64 + 128 - k % 64) % 128, Nat.mod_lt _ (by decide)⟩) * ((Cert.NA.lam : ℝ) : EReal)
  else ⊥

theorem named_mask : Named.named (F := Ideal) κ "mask" (φ := .f32) 0xF149F2CA#32 = (⊥ : EReal) :=
  IdealRules.named_const.ideal_named_scalar _ _ _ _ rfl

theorem named_log2e : Named.named (F := Ideal) κ "log2e" (φ := .f32) 0x3FB8AA3B#32 = ((Cert.NA.lam : ℝ) : EReal) :=
  IdealRules.named_const.ideal_named_scalar _ _ _ _ rfl

theorem pay3_at (ck : Fin 64) (ln : Fin 128) : k0_pay3 (ix2 ck ln) = if okCol ck.val (ln.val % 64) = true then 1#1 else 0#1 := by
  pointwise [k0_pay3]
  revert ck ln; decide +kernel

theorem pay4_at (ck : Fin 64) (ln : Fin 128) : k0_pay4 (ix2 ck ln) = if ln.val < 64 then 1#1 else 0#1 := by
  pointwise [k0_pay4]
  revert ln; decide +kernel

theorem pay46_at (ck : Fin 64) (ln : Fin 128) : k0_pay46 (F := Ideal) (ix2 ck ln) = ⊥ := by
  pointwise [k0_pay46]
  exact named_mask

theorem bRow_at (x0 : Vec Ideal S1x16x128 .f32) (dr : Nat) (h) (s : Nat) (sh : BitVec 32) (hs : s < 2) (hsh : sh = BitVec.ofNat 32 (64 * s)) (hdr : dr < 15) (ck : Fin 64) (ln : Fin 128) :
    bRow (F := Ideal) x0 dr h sh (ix2 ck ln) = x0 (ix3 0 ⟨dr, by omega⟩ ⟨(ln.val + 256 - 64 * s - ck.val) % 128, Nat.mod_lt _ (by decide)⟩) * ((Cert.NA.lam : ℝ) : EReal) := by
  obtain rfl | rfl : s = 0 ∨ s = 1 := by omega
  · subst hsh
    pointwise [bRow]
    rw [show Named.named (F := Ideal) κ "log2e" (φ := .f32) 1069066811#32 = ((Cert.NA.lam : ℝ) : EReal) from named_log2e]
    congr 1
    exact congrArg (fun n => x0 (ix3 0 ⟨dr, by omega⟩ n)) (Fin.ext (by show (ln.val + 128 - ck.val % 128) % 128 = _; simp only; omega))
  · subst hsh
    pointwise [bRow]
    rw [show Named.named (F := Ideal) κ "log2e" (φ := .f32) 1069066811#32 = ((Cert.NA.lam : ℝ) : EReal) from named_log2e]
    congr 1
    exact congrArg (fun n => x0 (ix3 0 ⟨dr, by omega⟩ n)) (Fin.ext (by show (ln.val + 128 - (64 + ck.val) % 128) % 128 = _; simp only; omega))

/-- A half tile has the bias of key row `j` and query row `q` in the lanes of half `s`. -/
def HalfAt (x0 : Vec Ideal S1x16x128 .f32) (v j q s : Nat) (a : FVec Ideal S64x128 .f32) : Prop :=
  ∀ (ck : Fin 64) (ln : Fin 128), ln.val / 64 = s → a (ix2 ck ln) = biasAt x0 v (64 * j + ck.val) (64 * q + ln.val % 64)

theorem bOff_at (x0 : Vec Ideal S1x16x128 .f32) (v j q s : Nat) (hok : okRow v j q = false) : HalfAt x0 v j q s (k0_pay46 (F := Ideal)) := by
  intro ck ln hln
  rw [pay46_at, biasAt, if_neg]
  rw [show (64 * j + ck.val) / 64 = j by omega, show (64 * q + ln.val % 64) / 64 = q by omega, hok]
  simp

theorem bOn_at (x0 : Vec Ideal S1x16x128 .f32) (dr : Nat) (h) (sh : BitVec 32) (v j q s : Nat) (hok : okRow v j q = true)
    (hdr : drOf v j q = dr) (hdr' : dr < 15) (hsh : sh = BitVec.ofNat 32 (64 * s)) (hs : s < 2) : HalfAt x0 v j q s (bOn (F := Ideal) x0 dr h sh) := by
  intro ck ln hln
  show Scalar.select (k0_pay3 (ix2 ck ln)) (bRow (F := Ideal) x0 dr h sh (ix2 ck ln)) (k0_pay46 (F := Ideal) (ix2 ck ln)) = _
  rw [pay3_at, bRow_at x0 dr h s sh hs hsh hdr', pay46_at]
  unfold biasAt
  have d1 : (64 * j + ck.val) / 64 = j := by omega
  have d2 : (64 * q + ln.val % 64) / 64 = q := by omega
  have d3 : (64 * j + ck.val) % 64 = ck.val := by omega
  have d4 : (64 * q + ln.val % 64) % 64 = ln.val % 64 := by omega
  simp only [d1, d2, d3, d4, hok]
  by_cases hc : okCol ck.val (ln.val % 64) = true
  · rw [if_pos hc, if_pos ⟨trivial, hc⟩]
    have e1 : (⟨drOf v j q % 16, Nat.mod_lt _ (by decide)⟩ : Fin 16) = ⟨dr, by omega⟩ := Fin.ext (by simp only [hdr]; omega)
    have e2 : (⟨(ln.val + 256 - 64 * s - ck.val) % 128, Nat.mod_lt _ (by decide)⟩ : Fin 128) = ⟨(ln.val % 64 + 128 - ck.val) % 128, Nat.mod_lt _ (by decide)⟩ :=
      Fin.ext (by simp only; omega)
    rw [e1, ← e2]
    rfl
  · rw [if_neg hc, if_neg fun hh => hc hh.2]
    rfl

theorem tile_at (x0 : Vec Ideal S1x16x128 .f32) (v j lb : Nat) (a b : FVec Ideal S64x128 .f32) (vv : Fin 3) (k : Fin 768) (l : Fin 256)
    (ha : HalfAt x0 v j (2 * lb) 0 a) (hb : HalfAt x0 v j (2 * lb + 1) 1 b) :
    View.TileAt (S := S1x3x768x256) (Val := Elt Ideal) (e := .f32) (ix4 0 vv k l) ![0, v, 64 * j, 128 * lb] S1x1x64x128.size
      (bTile (F := Ideal) a b) (biasAt x0 vv.val k.val l.val) := by
  intro x hx
  obtain ⟨x0', x1, ck, ln, rfl⟩ : ∃ (a : Fin 1) (b : Fin 1) (c : Fin 64) (d : Fin 128), x = ix4 a b c d := ⟨x 0, x 1, x 2, x 3, eq_ix4 x⟩
  have h1 : vv.val = v + x1.val := hx 1
  have h2 : k.val = 64 * j + ck.val := hx 2
  have h3 : l.val = 128 * lb + ln.val := hx 3
  obtain rfl : x0' = 0 := Subsingleton.elim _ _
  obtain rfl : x1 = 0 := Subsingleton.elim _ _
  have hv : vv.val = v := h1
  have e : bTile (F := Ideal) a b (ix4 0 0 ck ln) = Scalar.select (k0_pay4 (ix2 ck ln)) (a (ix2 ck ln)) (b (ix2 ck ln)) := by
    pointwise [bTile]
  rw [e, pay4_at, hv, h2, h3]
  by_cases hl : ln.val < 64
  · rw [if_pos hl]
    refine (show Scalar.select 1#1 (a (ix2 ck ln)) (b (ix2 ck ln)) = a (ix2 ck ln) from rfl).trans ((ha ck ln (by omega)).trans ?_)
    rw [show 64 * (2 * lb) + ln.val % 64 = 128 * lb + ln.val by omega]
  · rw [if_neg hl]
    refine (show Scalar.select 0#1 (a (ix2 ck ln)) (b (ix2 ck ln)) = b (ix2 ck ln) from rfl).trans ((hb ck ln (by omega)).trans ?_)
    rw [show 64 * (2 * lb + 1) + ln.val % 64 = 128 * lb + ln.val by omega]

set_option maxHeartbeats 4000000 in
/-- The bias call's block at an element. -/
theorem out0_at (x0 : Vec Ideal S1x16x128 .f32) (vv : Fin 3) (k : Fin 768) (l : Fin 256) :
    out0_1 (F := Ideal) x0 (ix4 0 vv k l) = biasAt x0 vv.val k.val l.val := by
  rw [out0_steps]
  refine View.canon_eq_of_allAt _ _ _ ?_ ?_
  · exact View.cover_of_tiled _ ![1, 1, 64, 128] rfl _
  · skip
    refine View.allAt_cons_unit _ _ _ _ _ (tile_at x0 2 11 1 _ _ vv k l (bOn_at x0 8 _ 0#32 2 11 2 0 rfl rfl (by decide) rfl (by decide)) (bOn_at x0 7 _ 64#32 2 11 3 1 rfl rfl (by decide) rfl (by decide))) ?_
    refine View.allAt_cons_unit _ _ _ _ _ (tile_at x0 2 11 0 _ _ vv k l (bOn_at x0 10 _ 0#32 2 11 0 0 rfl rfl (by decide) rfl (by decide)) (bOn_at x0 9 _ 64#32 2 11 1 1 rfl rfl (by decide) rfl (by decide))) ?_
    refine View.allAt_cons_unit _ _ _ _ _ (tile_at x0 2 10 1 _ _ vv k l (bOn_at x0 7 _ 0#32 2 10 2 0 rfl rfl (by decide) rfl (by decide)) (bOn_at x0 6 _ 64#32 2 10 3 1 rfl rfl (by decide) rfl (by decide))) ?_
    refine View.allAt_cons_unit _ _ _ _ _ (tile_at x0 2 10 0 _ _ vv k l (bOn_at x0 9 _ 0#32 2 10 0 0 rfl rfl (by decide) rfl (by decide)) (bOn_at x0 8 _ 64#32 2 10 1 1 rfl rfl (by decide) rfl (by decide))) ?_
    refine View.allAt_cons_unit _ _ _ _ _ (tile_at x0 2 9 1 _ _ vv k l (bOn_at x0 6 _ 0#32 2 9 2 0 rfl rfl (by decide) rfl (by decide)) (bOn_at x0 5 _ 64#32 2 9 3 1 rfl rfl (by decide) rfl (by decide))) ?_
    refine View.allAt_cons_unit _ _ _ _ _ (tile_at x0 2 9 0 _ _ vv k l (bOn_at x0 8 _ 0#32 2 9 0 0 rfl rfl (by decide) rfl (by decide)) (bOn_at x0 7 _ 64#32 2 9 1 1 rfl rfl (by decide) rfl (by decide))) ?_
    refine View.allAt_cons_unit _ _ _ _ _ (tile_at x0 2 8 1 _ _ vv k l (bOn_at x0 5 _ 0#32 2 8 2 0 rfl rfl (by decide) rfl (by decide)) (bOn_at x0 4 _ 64#32 2 8 3 1 rfl rfl (by decide) rfl (by decide))) ?_
    refine View.allAt_cons_unit _ _ _ _ _ (tile_at x0 2 8 0 _ _ vv k l (bOn_at x0 7 _ 0#32 2 8 0 0 rfl rfl (by decide) rfl (by decide)) (bOn_at x0 6 _ 64#32 2 8 1 1 rfl rfl (by decide) rfl (by decide))) ?_
    refine View.allAt_cons_unit _ _ _ _ _ (tile_at x0 2 7 1 _ _ vv k l (bOn_at x0 4 _ 0#32 2 7 2 0 rfl rfl (by decide) rfl (by decide)) (bOn_at x0 3 _ 64#32 2 7 3 1 rfl rfl (by decide) rfl (by decide))) ?_
    refine View.allAt_cons_unit _ _ _ _ _ (tile_at x0 2 7 0 _ _ vv k l (bOn_at x0 6 _ 0#32 2 7 0 0 rfl rfl (by decide) rfl (by decide)) (bOn_at x0 5 _ 64#32 2 7 1 1 rfl rfl (by decide) rfl (by decide))) ?_
    refine View.allAt_cons_unit _ _ _ _ _ (tile_at x0 2 6 1 _ _ vv k l (bOn_at x0 3 _ 0#32 2 6 2 0 rfl rfl (by decide) rfl (by decide)) (bOn_at x0 2 _ 64#32 2 6 3 1 rfl rfl (by decide) rfl (by decide))) ?_
    refine View.allAt_cons_unit _ _ _ _ _ (tile_at x0 2 6 0 _ _ vv k l (bOn_at x0 5 _ 0#32 2 6 0 0 rfl rfl (by decide) rfl (by decide)) (bOn_at x0 4 _ 64#32 2 6 1 1 rfl rfl (by decide) rfl (by decide))) ?_
    refine View.allAt_cons_unit _ _ _ _ _ (tile_at x0 2 5 1 _ _ vv k l (bOn_at x0 2 _ 0#32 2 5 2 0 rfl rfl (by decide) rfl (by decide)) (bOn_at x0 1 _ 64#32 2 5 3 1 rfl rfl (by decide) rfl (by decide))) ?_
    refine View.allAt_cons_unit _ _ _ _ _ (tile_at x0 2 5 0 _ _ vv k l (bOn_at x0 4 _ 0#32 2 5 0 0 rfl rfl (by decide) rfl (by decide)) (bOn_at x0 3 _ 64#32 2 5 1 1 rfl rfl (by decide) rfl (by decide))) ?_
    refine View.allAt_cons_unit _ _ _ _ _ (tile_at x0 2 4 1 _ _ vv k l (bOn_at x0 1 _ 0#32 2 4 2 0 rfl rfl (by decide) rfl (by decide)) (bOn_at x0 0 _ 64#32 2 4 3 1 rfl rfl (by decide) rfl (by decide))) ?_
    refine View.allAt_cons_unit _ _ _ _ _ (tile_at x0 2 4 0 _ _ vv k l (bOn_at x0 3 _ 0#32 2 4 0 0 rfl rfl (by decide) rfl (by decide)) (bOn_at x0 2 _ 64#32 2 4 1 1 rfl rfl (by decide) rfl (by decide))) ?_
    refine View.allAt_cons_unit _ _ _ _ _ (tile_at x0 2 3 1 _ _ vv k l (bOff_at x0 2 3 2 0 rfl) (bOff_at x0 2 3 3 1 rfl)) ?_
    refine View.allAt_cons_unit _ _ _ _ _ (tile_at x0 2 3 0 _ _ vv k l (bOff_at x0 2 3 0 0 rfl) (bOff_at x0 2 3 1 1 rfl)) ?_
    refine View.allAt_cons_unit _ _ _ _ _ (tile_at x0 2 2 1 _ _ vv k l (bOff_at x0 2 2 2 0 rfl) (bOff_at x0 2 2 3 1 rfl)) ?_
    refine View.allAt_cons_unit _ _ _ _ _ (tile_at x0 2 2 0 _ _ vv k l (bOff_at x0 2 2 0 0 rfl) (bOff_at x0 2 2 1 1 rfl)) ?_
    refine View.allAt_cons_unit _ _ _ _ _ (tile_at x0 2 1 1 _ _ vv k l (bOff_at x0 2 1 2 0 rfl) (bOff_at x0 2 1 3 1 rfl)) ?_
    refine View.allAt_cons_unit _ _ _ _ _ (tile_at x0 2 1 0 _ _ vv k l (bOff_at x0 2 1 0 0 rfl) (bOff_at x0 2 1 1 1 rfl)) ?_
    refine View.allAt_cons_unit _ _ _ _ _ (tile_at x0 2 0 1 _ _ vv k l (bOff_at x0 2 0 2 0 rfl) (bOff_at x0 2 0 3 1 rfl)) ?_
    refine View.allAt_cons_unit _ _ _ _ _ (tile_at x0 2 0 0 _ _ vv k l (bOff_at x0 2 0 0 0 rfl) (bOff_at x0 2 0 1 1 rfl)) ?_
    refine View.allAt_cons_unit _ _ _ _ _ (tile_at x0 1 11 1 _ _ vv k l (bOff_at x0 1 11 2 0 rfl) (bOff_at x0 1 11 3 1 rfl)) ?_
    refine View.allAt_cons_unit _ _ _ _ _ (tile_at x0 1 11 0 _ _ vv k l (bOff_at x0 1 11 0 0 rfl) (bOff_at x0 1 11 1 1 rfl)) ?_
    refine View.allAt_cons_unit _ _ _ _ _ (tile_at x0 1 10 1 _ _ vv k l (bOff_at x0 1 10 2 0 rfl) (bOn_at x0 10 _ 64#32 1 10 3 1 rfl rfl (by decide) rfl (by decide))) ?_
    refine View.allAt_cons_unit _ _ _ _ _ (tile_at x0 1 10 0 _ _ vv k l (bOff_at x0 1 10 0 0 rfl) (bOff_at x0 1 10 1 1 rfl)) ?_
    refine View.allAt_cons_unit _ _ _ _ _ (tile_at x0 1 9 1 _ _ vv k l (bOn_at x0 10 _ 0#32 1 9 2 0 rfl rfl (by decide) rfl (by decide)) (bOn_at x0 9 _ 64#32 1 9 3 1 rfl rfl (by decide) rfl (by decide))) ?_
    refine View.allAt_cons_unit _ _ _ _ _ (tile_at x0 1 9 0 _ _ vv k l (bOff_at x0 1 9 0 0 rfl) (bOff_at x0 1 9 1 1 rfl)) ?_
    refine View.allAt_cons_unit _ _ _ _ _ (tile_at x0 1 8 1 _ _ vv k l (bOn_at x0 9 _ 0#32 1 8 2 0 rfl rfl (by decide) rfl (by decide)) (bOn_at x0 8 _ 64#32 1 8 3 1 rfl rfl (by decide) rfl (by decide))) ?_
    refine View.allAt_cons_unit _ _ _ _ _ (tile_at x0 1 8 0 _ _ vv k l (bOff_at x0 1 8 0 0 rfl) (bOn_at x0 10 _ 64#32 1 8 1 1 rfl rfl (by decide) rfl (by decide))) ?_
    refine View.allAt_cons_unit _ _ _ _ _ (tile_at x0 1 7 1 _ _ vv k l (bOn_at x0 8 _ 0#32 1 7 2 0 rfl rfl (by decide) rfl (by decide)) (bOn_at x0 7 _ 64#32 1 7 3 1 rfl rfl (by decide) rfl (by decide))) ?_
    refine View.allAt_cons_unit _ _ _ _ _ (tile_at x0 1 7 0 _ _ vv k l (bOn_at x0 10 _ 0#32 1 7 0 0 rfl rfl (by decide) rfl (by decide)) (bOn_at x0 9 _ 64#32 1 7 1 1 rfl rfl (by decide) rfl (by decide))) ?_
    refine View.allAt_cons_unit _ _ _ _ _ (tile_at x0 1 6 1 _ _ vv k l (bOn_at x0 7 _ 0#32 1 6 2 0 rfl rfl (by decide) rfl (by decide)) (bOn_at x0 6 _ 64#32 1 6 3 1 rfl rfl (by decide) rfl (by decide))) ?_
    refine View.allAt_cons_unit _ _ _ _ _ (tile_at x0 1 6 0 _ _ vv k l (bOn_at x0 9 _ 0#32 1 6 0 0 rfl rfl (by decide) rfl (by decide)) (bOn_at x0 8 _ 64#32 1 6 1 1 rfl rfl (by decide) rfl (by decide))) ?_
    refine View.allAt_cons_unit _ _ _ _ _ (tile_at x0 1 5 1 _ _ vv k l (bOn_at x0 6 _ 0#32 1 5 2 0 rfl rfl (by decide) rfl (by decide)) (bOn_at x0 5 _ 64#32 1 5 3 1 rfl rfl (by decide) rfl (by decide))) ?_
    refine View.allAt_cons_unit _ _ _ _ _ (tile_at x0 1 5 0 _ _ vv k l (bOn_at x0 8 _ 0#32 1 5 0 0 rfl rfl (by decide) rfl (by decide)) (bOn_at x0 7 _ 64#32 1 5 1 1 rfl rfl (by decide) rfl (by decide))) ?_
    refine View.allAt_cons_unit _ _ _ _ _ (tile_at x0 1 4 1 _ _ vv k l (bOn_at x0 5 _ 0#32 1 4 2 0 rfl rfl (by decide) rfl (by decide)) (bOn_at x0 4 _ 64#32 1 4 3 1 rfl rfl (by decide) rfl (by decide))) ?_
    refine View.allAt_cons_unit _ _ _ _ _ (tile_at x0 1 4 0 _ _ vv k l (bOn_at x0 7 _ 0#32 1 4 0 0 rfl rfl (by decide) rfl (by decide)) (bOn_at x0 6 _ 64#32 1 4 1 1 rfl rfl (by decide) rfl (by decide))) ?_
    refine View.allAt_cons_unit _ _ _ _ _ (tile_at x0 1 3 1 _ _ vv k l (bOn_at x0 4 _ 0#32 1 3 2 0 rfl rfl (by decide) rfl (by decide)) (bOn_at x0 3 _ 64#32 1 3 3 1 rfl rfl (by decide) rfl (by decide))) ?_
    refine View.allAt_cons_unit _ _ _ _ _ (tile_at x0 1 3 0 _ _ vv k l (bOn_at x0 6 _ 0#32 1 3 0 0 rfl rfl (by decide) rfl (by decide)) (bOn_at x0 5 _ 64#32 1 3 1 1 rfl rfl (by decide) rfl (by decide))) ?_
    refine View.allAt_cons_unit _ _ _ _ _ (tile_at x0 1 2 1 _ _ vv k l (bOn_at x0 3 _ 0#32 1 2 2 0 rfl rfl (by decide) rfl (by decide)) (bOff_at x0 1 2 3 1 rfl)) ?_
    refine View.allAt_cons_unit _ _ _ _ _ (tile_at x0 1 2 0 _ _ vv k l (bOn_at x0 5 _ 0#32 1 2 0 0 rfl rfl (by decide) rfl (by decide)) (bOn_at x0 4 _ 64#32 1 2 1 1 rfl rfl (by decide) rfl (by decide))) ?_
    refine View.allAt_cons_unit _ _ _ _ _ (tile_at x0 1 1 1 _ _ vv k l (bOff_at x0 1 1 2 0 rfl) (bOff_at x0 1 1 3 1 rfl)) ?_
    refine View.allAt_cons_unit _ _ _ _ _ (tile_at x0 1 1 0 _ _ vv k l (bOn_at x0 4 _ 0#32 1 1 0 0 rfl rfl (by decide) rfl (by decide)) (bOn_at x0 3 _ 64#32 1 1 1 1 rfl rfl (by decide) rfl (by decide))) ?_
    refine View.allAt_cons_unit _ _ _ _ _ (tile_at x0 1 0 1 _ _ vv k l (bOff_at x0 1 0 2 0 rfl) (bOff_at x0 1 0 3 1 rfl)) ?_
    refine View.allAt_cons_unit _ _ _ _ _ (tile_at x0 1 0 0 _ _ vv k l (bOn_at x0 3 _ 0#32 1 0 0 0 rfl rfl (by decide) rfl (by decide)) (bOff_at x0 1 0 1 1 rfl)) ?_
    refine View.allAt_cons_unit _ _ _ _ _ (tile_at x0 0 11 1 _ _ vv k l (bOff_at x0 0 11 2 0 rfl) (bOff_at x0 0 11 3 1 rfl)) ?_
    refine View.allAt_cons_unit _ _ _ _ _ (tile_at x0 0 11 0 _ _ vv k l (bOff_at x0 0 11 0 0 rfl) (bOff_at x0 0 11 1 1 rfl)) ?_
    refine View.allAt_cons_unit _ _ _ _ _ (tile_at x0 0 10 1 _ _ vv k l (bOff_at x0 0 10 2 0 rfl) (bOff_at x0 0 10 3 1 rfl)) ?_
    refine View.allAt_cons_unit _ _ _ _ _ (tile_at x0 0 10 0 _ _ vv k l (bOff_at x0 0 10 0 0 rfl) (bOff_at x0 0 10 1 1 rfl)) ?_
    refine View.allAt_cons_unit _ _ _ _ _ (tile_at x0 0 9 1 _ _ vv k l (bOff_at x0 0 9 2 0 rfl) (bOff_at x0 0 9 3 1 rfl)) ?_
    refine View.allAt_cons_unit _ _ _ _ _ (tile_at x0 0 9 0 _ _ vv k l (bOff_at x0 0 9 0 0 rfl) (bOff_at x0 0 9 1 1 rfl)) ?_
    refine View.allAt_cons_unit _ _ _ _ _ (tile_at x0 0 8 1 _ _ vv k l (bOff_at x0 0 8 2 0 rfl) (bOff_at x0 0 8 3 1 rfl)) ?_
    refine View.allAt_cons_unit _ _ _ _ _ (tile_at x0 0 8 0 _ _ vv k l (bOff_at x0 0 8 0 0 rfl) (bOff_at x0 0 8 1 1 rfl)) ?_
    refine View.allAt_cons_unit _ _ _ _ _ (tile_at x0 0 7 1 _ _ vv k l (bOn_at x0 12 _ 0#32 0 7 2 0 rfl rfl (by decide) rfl (by decide)) (bOn_at x0 11 _ 64#32 0 7 3 1 rfl rfl (by decide) rfl (by decide))) ?_
    refine View.allAt_cons_unit _ _ _ _ _ (tile_at x0 0 7 0 _ _ vv k l (bOn_at x0 14 _ 0#32 0 7 0 0 rfl rfl (by decide) rfl (by decide)) (bOn_at x0 13 _ 64#32 0 7 1 1 rfl rfl (by decide) rfl (by decide))) ?_
    refine View.allAt_cons_unit _ _ _ _ _ (tile_at x0 0 6 1 _ _ vv k l (bOn_at x0 11 _ 0#32 0 6 2 0 rfl rfl (by decide) rfl (by decide)) (bOn_at x0 10 _ 64#32 0 6 3 1 rfl rfl (by decide) rfl (by decide))) ?_
    refine View.allAt_cons_unit _ _ _ _ _ (tile_at x0 0 6 0 _ _ vv k l (bOn_at x0 13 _ 0#32 0 6 0 0 rfl rfl (by decide) rfl (by decide)) (bOn_at x0 12 _ 64#32 0 6 1 1 rfl rfl (by decide) rfl (by decide))) ?_
    refine View.allAt_cons_unit _ _ _ _ _ (tile_at x0 0 5 1 _ _ vv k l (bOn_at x0 10 _ 0#32 0 5 2 0 rfl rfl (by decide) rfl (by decide)) (bOn_at x0 9 _ 64#32 0 5 3 1 rfl rfl (by decide) rfl (by decide))) ?_
    refine View.allAt_cons_unit _ _ _ _ _ (tile_at x0 0 5 0 _ _ vv k l (bOn_at x0 12 _ 0#32 0 5 0 0 rfl rfl (by decide) rfl (by decide)) (bOn_at x0 11 _ 64#32 0 5 1 1 rfl rfl (by decide) rfl (by decide))) ?_
    refine View.allAt_cons_unit _ _ _ _ _ (tile_at x0 0 4 1 _ _ vv k l (bOn_at x0 9 _ 0#32 0 4 2 0 rfl rfl (by decide) rfl (by decide)) (bOn_at x0 8 _ 64#32 0 4 3 1 rfl rfl (by decide) rfl (by decide))) ?_
    refine View.allAt_cons_unit _ _ _ _ _ (tile_at x0 0 4 0 _ _ vv k l (bOn_at x0 11 _ 0#32 0 4 0 0 rfl rfl (by decide) rfl (by decide)) (bOn_at x0 10 _ 64#32 0 4 1 1 rfl rfl (by decide) rfl (by decide))) ?_
    refine View.allAt_cons_unit _ _ _ _ _ (tile_at x0 0 3 1 _ _ vv k l (bOn_at x0 8 _ 0#32 0 3 2 0 rfl rfl (by decide) rfl (by decide)) (bOn_at x0 7 _ 64#32 0 3 3 1 rfl rfl (by decide) rfl (by decide))) ?_
    refine View.allAt_cons_unit _ _ _ _ _ (tile_at x0 0 3 0 _ _ vv k l (bOn_at x0 10 _ 0#32 0 3 0 0 rfl rfl (by decide) rfl (by decide)) (bOn_at x0 9 _ 64#32 0 3 1 1 rfl rfl (by decide) rfl (by decide))) ?_
    refine View.allAt_cons_unit _ _ _ _ _ (tile_at x0 0 2 1 _ _ vv k l (bOn_at x0 7 _ 0#32 0 2 2 0 rfl rfl (by decide) rfl (by decide)) (bOn_at x0 6 _ 64#32 0 2 3 1 rfl rfl (by decide) rfl (by decide))) ?_
    refine View.allAt_cons_unit _ _ _ _ _ (tile_at x0 0 2 0 _ _ vv k l (bOn_at x0 9 _ 0#32 0 2 0 0 rfl rfl (by decide) rfl (by decide)) (bOn_at x0 8 _ 64#32 0 2 1 1 rfl rfl (by decide) rfl (by decide))) ?_
    refine View.allAt_cons_unit _ _ _ _ _ (tile_at x0 0 1 1 _ _ vv k l (bOn_at x0 6 _ 0#32 0 1 2 0 rfl rfl (by decide) rfl (by decide)) (bOn_at x0 5 _ 64#32 0 1 3 1 rfl rfl (by decide) rfl (by decide))) ?_
    refine View.allAt_cons_unit _ _ _ _ _ (tile_at x0 0 1 0 _ _ vv k l (bOn_at x0 8 _ 0#32 0 1 0 0 rfl rfl (by decide) rfl (by decide)) (bOn_at x0 7 _ 64#32 0 1 1 1 rfl rfl (by decide) rfl (by decide))) ?_
    refine View.allAt_cons_unit _ _ _ _ _ (tile_at x0 0 0 1 _ _ vv k l (bOn_at x0 5 _ 0#32 0 0 2 0 rfl rfl (by decide) rfl (by decide)) (bOn_at x0 4 _ 64#32 0 0 3 1 rfl rfl (by decide) rfl (by decide))) ?_
    refine View.allAt_cons_unit _ _ _ _ _ (tile_at x0 0 0 0 _ _ vv k l (bOn_at x0 7 _ 0#32 0 0 0 0 rfl rfl (by decide) rfl (by decide)) (bOn_at x0 6 _ 64#32 0 0 1 1 rfl rfl (by decide) rfl (by decide))) ?_
    exact View.allAt_nil _ _

end Cert.KernelIdeal.Gen
-- ==== Proof.NA.Arrays.lean ====
/-
  The two calls' result arrays, at every element, from the arrays the calls read.
-/
module

public import proofs.«01_k».proof.Proof.NA.AttnRead2
public import proofs.«01_k».proof.Proof.NA.Bias
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.KernelIdeal.Gen

/-- The table the bias call leaves, from the padded relative-position array. -/
def biasArr (T : S16x16x128.Idx → EReal) : S8x3x768x512.Idx → EReal := fun i =>
  biasAt (fun x => T (ix3 (Fin.ofNat 16 (2 * (i 0).val + (i 3).val / 256)) (x 1 : Fin 16) (x 2 : Fin 128)))
    (i 1).val (i 2).val ((i 3).val % 256)

/-- The attention call's result, from its operands. -/
def attnArr (pa : S16384x5120.Idx → EReal) (ck cv : S8x2x256x1024.Idx → EReal) (tb : S8x3x768x512.Idx → EReal) : S16384x1024.Idx → EReal := fun i =>
  outAt (fun x => pa (ix2 (Fin.ofNat 16384 (2048 * ((i 0).val / 2048) + (x 0).val)) (Fin.ofNat 5120 (128 * ((i 1).val / 128) + (x 1).val))))
    (fun x => pa (ix2 (Fin.ofNat 16384 (2048 * ((i 0).val / 2048) + (x 0).val)) (Fin.ofNat 5120 (1024 + 128 * ((i 1).val / 128) + (x 1).val))))
    (fun x => pa (ix2 (Fin.ofNat 16384 (2048 * ((i 0).val / 2048) + (x 0).val)) (Fin.ofNat 5120 (2048 + 128 * ((i 1).val / 128) + (x 1).val))))
    (fun x => ck (ix4 (Fin.ofNat 8 ((i 0).val / 2048)) (0 : Fin 2) (x 2 : Fin 256) (Fin.ofNat 1024 (128 * ((i 1).val / 128) + (x 3).val))))
    (fun x => cv (ix4 (Fin.ofNat 8 ((i 0).val / 2048)) (0 : Fin 2) (x 2 : Fin 256) (Fin.ofNat 1024 (128 * ((i 1).val / 128) + (x 3).val))))
    (fun x => tb (ix4 (Fin.ofNat 8 ((i 1).val / 128)) (x 1 : Fin 3) (x 2 : Fin 768) (x 3 : Fin 512)))
    (Fin.ofNat 2048 ((i 0).val % 2048)) (Fin.ofNat 128 ((i 1).val % 128))

section
variable (V : (c : Dev nD) → (b : Ref sig .tc) → Buf (Elt Ideal) ((c : Thread nD τ).loc b))

theorem idx0_0 : ∀ t : Fin cfg0.N, win0_0.index t = ![(grid0.coords t 0).val, 0, 0] :=
  (by decide +kernel : ∀ t : Fin grid0.N, win0_0.index t = ![(grid0.coords t 0).val, 0, 0])
theorem idx0_1 : ∀ t : Fin cfg0.N, win0_1.index t = ![(grid0.coords t 0).val / 2, 0, 0, (grid0.coords t 0).val % 2] :=
  (by decide +kernel : ∀ t : Fin grid0.N, win0_1.index t = ![(grid0.coords t 0).val / 2, 0, 0, (grid0.coords t 0).val % 2])

theorem coords0_lt : ∀ t : Fin cfg0.N, (grid0.coords t 0).val < 16 :=
  (by decide +kernel : ∀ t : Fin grid0.N, _)

theorem bias_final (c : Dev nD) : (dat0 V c).arrAt 1 cfg0.N = biasArr (V c main_v18) := by
  refine (dat0 V c).arrAt_eq_of_covers 1 _ (by decide +kernel) fun t hf y => ?_
  blk_simp
  rw [after0_1]
  obtain ⟨z, a, k, l, rfl⟩ : ∃ (z : Fin 1) (a : Fin 3) (k : Fin 768) (l : Fin 256), y = ix4 z a k l := ⟨y 0, y 1, y 2, y 3, eq_ix4 y⟩
  obtain rfl : z = 0 := Subsingleton.elim _ _
  refine (out0_at _ a k l).trans ?_
  unfold biasArr
  blk_simp [idx0_1]
  have ht := coords0_lt t
  have hx : iblk0 V c 0 t = fun x => V c main_v18 (ix3 (Fin.ofNat 16 ((grid0.coords t 0).val)) (x 1) (x 2)) := by
    funext x
    obtain ⟨p, q, r, rfl⟩ : ∃ (p : Fin 1) (q : Fin 16) (r : Fin 128), x = ix3 p q r := ⟨x 0, x 1, x 2, eq_ix3 x⟩
    blk_simp [iblk0]
    refine congrArg _ ((eq_ix3 _).trans ?_)
    refine congr (congr (congrArg ix3 (Fin.ext ?_)) (Fin.ext ?_)) (Fin.ext ?_) <;> blk_simp [idx0_0]
    · simp [Fin.ofNat]; try omega
  rw [hx]
  have e1 : Fin.ofNat 16 (2 * ((grid0.coords t 0).val / 2 + (0 : Fin 1).val) + ((grid0.coords t 0).val % 2 * 256 + l.val) / 256) = Fin.ofNat 16 ((grid0.coords t 0).val) :=
    congrArg _ (by have := l.isLt; simp; omega)
  have e2 : ((grid0.coords t 0).val % 2 * 256 + l.val) % 256 = l.val := by have := l.isLt; omega
  rw [e2]
  exact congrArg (biasAt · a.val k.val l.val) (funext fun x => congrArg (fun z => V c main_v18 (ix3 z (x 1 : Fin 16) (x 2 : Fin 128))) e1.symm)

theorem idx1_0 : ∀ t : Fin cfg1.N, win1_0.index t = ![(grid1.coords t 1).val, (grid1.coords t 0).val] :=
  (by decide +kernel : ∀ t : Fin grid1.N, _)
theorem idx1_1 : ∀ t : Fin cfg1.N, win1_1.index t = ![(grid1.coords t 1).val, 8 + (grid1.coords t 0).val] :=
  (by decide +kernel : ∀ t : Fin grid1.N, _)
theorem idx1_2 : ∀ t : Fin cfg1.N, win1_2.index t = ![(grid1.coords t 1).val, 16 + (grid1.coords t 0).val] :=
  (by decide +kernel : ∀ t : Fin grid1.N, _)
theorem idx1_3 : ∀ t : Fin cfg1.N, win1_3.index t = ![(grid1.coords t 1).val, 0, 0, (grid1.coords t 0).val] :=
  (by decide +kernel : ∀ t : Fin grid1.N, _)
theorem idx1_4 : ∀ t : Fin cfg1.N, win1_4.index t = ![(grid1.coords t 1).val, 0, 0, (grid1.coords t 0).val] :=
  (by decide +kernel : ∀ t : Fin grid1.N, _)
theorem idx1_5 : ∀ t : Fin cfg1.N, win1_5.index t = ![(grid1.coords t 0).val, 0, 0, 0] :=
  (by decide +kernel : ∀ t : Fin grid1.N, _)
theorem idx1_6 : ∀ t : Fin cfg1.N, win1_6.index t = ![(grid1.coords t 1).val, (grid1.coords t 0).val] :=
  (by decide +kernel : ∀ t : Fin grid1.N, _)

theorem coords1_lt : ∀ t : Fin cfg1.N, (grid1.coords t 0).val < 8 ∧ (grid1.coords t 1).val < 8 :=
  (by decide +kernel : ∀ t : Fin grid1.N, _)

theorem attn_final (c : Dev nD) : (dat1 V c).arrAt 6 cfg1.N = attnArr (V c main_v9) (V c main_v10) (V c main_v11) (V c main_v19) := by
  refine (dat1 V c).arrAt_eq_of_covers 6 _ (by decide +kernel) fun t hf y => ?_
  blk_simp
  rw [after1_6]
  obtain ⟨R, e, rfl⟩ : ∃ (R : Fin 2048) (e : Fin 128), y = ix2 R e := ⟨y 0, y 1, eq_ix2 y⟩
  refine (out1_at c _ _ _ _ _ _ _ _ _ _ _ _ _ _ _ _ _ _ _ _ _ _ _ R e).trans ?_
  unfold attnArr
  blk_simp [idx1_6]
  obtain ⟨ht0, ht1⟩ := coords1_lt t
  have h0 : iblk1 V c 0 t = fun x => V c main_v9 (ix2 (Fin.ofNat 16384 (2048 * (grid1.coords t 1).val + (x 0).val)) (Fin.ofNat 5120 (128 * (grid1.coords t 0).val + (x 1).val))) := by
    funext x
    obtain ⟨p, q, rfl⟩ : ∃ (p : Fin 2048) (q : Fin 128), x = ix2 p q := ⟨x 0, x 1, eq_ix2 x⟩
    blk_simp [iblk1]
    refine congrArg _ ((eq_ix2 _).trans ?_)
    refine congr (congrArg ix2 (Fin.ext ?_)) (Fin.ext ?_) <;> blk_simp [idx1_0] <;> simp [Fin.ofNat] <;> omega
  have h1 : iblk1 V c 1 t = fun x => V c main_v9 (ix2 (Fin.ofNat 16384 (2048 * (grid1.coords t 1).val + (x 0).val)) (Fin.ofNat 5120 (1024 + 128 * (grid1.coords t 0).val + (x 1).val))) := by
    funext x
    obtain ⟨p, q, rfl⟩ : ∃ (p : Fin 2048) (q : Fin 128), x = ix2 p q := ⟨x 0, x 1, eq_ix2 x⟩
    blk_simp [iblk1]
    refine congrArg _ ((eq_ix2 _).trans ?_)
    refine congr (congrArg ix2 (Fin.ext ?_)) (Fin.ext ?_) <;> blk_simp [idx1_1] <;> simp [Fin.ofNat] <;> omega
  have h2 : iblk1 V c 2 t = fun x => V c main_v9 (ix2 (Fin.ofNat 16384 (2048 * (grid1.coords t 1).val + (x 0).val)) (Fin.ofNat 5120 (2048 + 128 * (grid1.coords t 0).val + (x 1).val))) := by
    funext x
    obtain ⟨p, q, rfl⟩ : ∃ (p : Fin 2048) (q : Fin 128), x = ix2 p q := ⟨x 0, x 1, eq_ix2 x⟩
    blk_simp [iblk1]
    refine congrArg _ ((eq_ix2 _).trans ?_)
    refine congr (congrArg ix2 (Fin.ext ?_)) (Fin.ext ?_) <;> blk_simp [idx1_2] <;> simp [Fin.ofNat] <;> omega
  have h3 : iblk1 V c 3 t = fun x => V c main_v10 (ix4 (Fin.ofNat 8 (grid1.coords t 1).val) (0 : Fin 2) (x 2 : Fin 256) (Fin.ofNat 1024 (128 * (grid1.coords t 0).val + (x 3).val))) := by
    funext x
    obtain ⟨p, q, r, s, rfl⟩ : ∃ (p : Fin 1) (q : Fin 1) (r : Fin 256) (s : Fin 128), x = ix4 p q r s := ⟨x 0, x 1, x 2, x 3, eq_ix4 x⟩
    blk_simp [iblk1]
    refine congrArg _ ((eq_ix4 _).trans ?_)
    refine congr (congr (congr (congrArg ix4 (Fin.ext ?_)) (Fin.ext ?_)) (Fin.ext ?_)) (Fin.ext ?_) <;> blk_simp [idx1_3] <;> simp [Fin.ofNat] <;> omega
  have h4 : iblk1 V c 4 t = fun x => V c main_v11 (ix4 (Fin.ofNat 8 (grid1.coords t 1).val) (0 : Fin 2) (x 2 : Fin 256) (Fin.ofNat 1024 (128 * (grid1.coords t 0).val + (x 3).val))) := by
    funext x
    obtain ⟨p, q, r, s, rfl⟩ : ∃ (p : Fin 1) (q : Fin 1) (r : Fin 256) (s : Fin 128), x = ix4 p q r s := ⟨x 0, x 1, x 2, x 3, eq_ix4 x⟩
    blk_simp [iblk1]
    refine congrArg _ ((eq_ix4 _).trans ?_)
    refine congr (congr (congr (congrArg ix4 (Fin.ext ?_)) (Fin.ext ?_)) (Fin.ext ?_)) (Fin.ext ?_) <;> blk_simp [idx1_4] <;> simp [Fin.ofNat] <;> omega
  have h5 : iblk1 V c 5 t = fun x => V c main_v19 (ix4 (Fin.ofNat 8 (grid1.coords t 0).val) (x 1 : Fin 3) (x 2 : Fin 768) (x 3 : Fin 512)) := by
    funext x
    obtain ⟨p, q, r, s, rfl⟩ : ∃ (p : Fin 1) (q : Fin 3) (r : Fin 768) (s : Fin 512), x = ix4 p q r s := ⟨x 0, x 1, x 2, x 3, eq_ix4 x⟩
    blk_simp [iblk1]
    refine congrArg _ ((eq_ix4 _).trans ?_)
    refine congr (congr (congr (congrArg ix4 (Fin.ext ?_)) (Fin.ext ?_)) (Fin.ext ?_)) (Fin.ext ?_) <;> blk_simp [idx1_5] <;> simp [Fin.ofNat] <;> omega
  have hR := R.isLt
  have he := e.isLt
  have e1 : ((grid1.coords t 1).val * 2048 + R.val) / 2048 = (grid1.coords t 1).val := by omega
  have e2 : ((grid1.coords t 0).val * 128 + e.val) / 128 = (grid1.coords t 0).val := by omega
  have e3 : Fin.ofNat 2048 (((grid1.coords t 1).val * 2048 + R.val) % 2048) = R := Fin.ext (by simp [Fin.ofNat]; try omega)
  have e4 : Fin.ofNat 128 (((grid1.coords t 0).val * 128 + e.val) % 128) = e := Fin.ext (by simp [Fin.ofNat]; try omega)
  rw [h0, h1, h2, h3, h4, h5, e1, e2, e3, e4]
  rfl

end

end Cert.KernelIdeal.Gen
-- ==== Proof.NA.Host.lean ====
/-
  What the two calls read, at every element, from the arguments.
-/
module

public import proofs.«01_k».proof.Proof.NA.Arrays
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.KernelIdeal.Gen

variable (U : Valuation τ sig (Elt Ideal))

/-- The head's relative-position row laid out by column distance: distance `x` in lane `x` modulo 128. -/
def rrev (rpb : S16x15x31.Idx → EReal) (h : Fin 16) (d : Fin 16) (l : Fin 128) : EReal :=
  if hd : d.val < 15 then
    if l.val < 16 then rpb (ix3 h ⟨d.val, hd⟩ (Fin.ofNat 31 (15 - l.val)))
    else if l.val < 113 then 0
    else rpb (ix3 h ⟨d.val, hd⟩ (Fin.ofNat 31 (143 - l.val)))
  else 0

theorem v5_at (q : S8x2048x16x64.Idx → EReal) (hq : U (Proc.devRef .tc main_arg0) = q) (n : Fin 16384) (col : Fin 1024) :
    (StableHlo.upto hostOps0 U 10 (Proc.devRef .tc main_v5) : S16384x1024.Idx → EReal) (ix2 n col)
      = Ideal.div (q (ix4 ⟨n.val / 2048, by omega⟩ ⟨n.val % 2048, by omega⟩ ⟨col.val / 64, by omega⟩ ⟨col.val % 64, by omega⟩) * Ideal.ofBits FTy.f32 0x3E000000#32) (Ideal.log (Ideal.ofBits FTy.f32 0x40000000#32)) := by
  after_reads_at
  exact congrArg (fun z => Ideal.div (z * Ideal.ofBits FTy.f32 0x3E000000#32) (Ideal.log (Ideal.ofBits FTy.f32 0x40000000#32))) (congrFun hq _)
theorem v6_at (n : Fin 16384) (col : Fin 1024) :
    (StableHlo.upto hostOps0 U 10 (Proc.devRef .tc main_v6) : S16384x1024.Idx → EReal) (ix2 n col)
      = (U (Proc.devRef .tc main_arg1) : S8x2048x16x64.Idx → EReal) (ix4 ⟨n.val / 2048, by omega⟩ ⟨n.val % 2048, by omega⟩ ⟨col.val / 64, by omega⟩ ⟨col.val % 64, by omega⟩) := by
  after_reads_at
theorem v7_at (n : Fin 16384) (col : Fin 1024) :
    (StableHlo.upto hostOps0 U 10 (Proc.devRef .tc main_v7) : S16384x1024.Idx → EReal) (ix2 n col)
      = (U (Proc.devRef .tc main_arg2) : S8x2048x16x64.Idx → EReal) (ix4 ⟨n.val / 2048, by omega⟩ ⟨n.val % 2048, by omega⟩ ⟨col.val / 64, by omega⟩ ⟨col.val % 64, by omega⟩) := by
  after_reads_at
theorem v9_at (n : Fin 16384) (col : Fin 5120) (w : Fin 1024) (g : Nat) (hg : g < 3) (hc : col.val = 1024 * g + w.val) :
    (StableHlo.after hostOps0 U (Proc.devRef .tc main_v9) : S16384x5120.Idx → EReal) (ix2 n col)
      = if g = 0 then (StableHlo.upto hostOps0 U 10 (Proc.devRef .tc main_v5) : S16384x1024.Idx → EReal) (ix2 n w)
        else if g = 1 then (StableHlo.upto hostOps0 U 10 (Proc.devRef .tc main_v6) : S16384x1024.Idx → EReal) (ix2 n w)
        else (StableHlo.upto hostOps0 U 10 (Proc.devRef .tc main_v7) : S16384x1024.Idx → EReal) (ix2 n w) := by
  have key : (StableHlo.after hostOps0 U (Proc.devRef .tc main_v9) : S16384x5120.Idx → EReal) (ix2 n col)
      = (if h : col.val < 1024 then (StableHlo.upto hostOps0 U 10 (Proc.devRef .tc main_v5) : S16384x1024.Idx → EReal) (ix2 n ⟨col.val, h⟩)
        else if h : col.val - 1024 < 1024 then (StableHlo.upto hostOps0 U 10 (Proc.devRef .tc main_v6) : S16384x1024.Idx → EReal) (ix2 n ⟨col.val - 1024, h⟩)
        else if h : col.val - 1024 - 1024 < 1024 then (StableHlo.upto hostOps0 U 10 (Proc.devRef .tc main_v7) : S16384x1024.Idx → EReal) (ix2 n ⟨col.val - 1024 - 1024, h⟩)
        else (StableHlo.upto hostOps0 U 10 (Proc.devRef .tc main_arg3) : S16384x2048.Idx → EReal) (ix2 n ⟨col.val - 1024 - 1024 - 1024, by omega⟩)) := by
    generalize hR : (if h : col.val < 1024 then _ else _ : EReal) = R
    after_reads_at
    exact hR
  rw [key]
  have hw := w.isLt
  have hcases : g = 0 ∨ g = 1 ∨ g = 2 := by omega
  rcases hcases with rfl | rfl | rfl
  · rw [dif_pos (by omega), if_pos rfl]; exact congrArg (fun z => _) rfl |>.trans (congrArg _ (congrArg (ix2 n) (Fin.ext (by simp; omega))))
  · rw [dif_neg (by omega), dif_pos (by omega), if_neg (by omega), if_pos rfl]; exact congrArg _ (congrArg (ix2 n) (Fin.ext (by simp; omega)))
  · rw [dif_neg (by omega), dif_neg (by omega), dif_pos (by omega), if_neg (by omega), if_neg (by omega)]; exact congrArg _ (congrArg (ix2 n) (Fin.ext (by simp; omega)))

theorem v10_at (b : Fin 8) (l : Fin 2) (j : Fin 256) (col : Fin 1024) :
    (StableHlo.after hostOps0 U (Proc.devRef .tc main_v10) : S8x2x256x1024.Idx → EReal) (ix4 b l j col)
      = (U (Proc.devRef .tc main_arg4) : S8x2x256x16x64.Idx → EReal) (ix5 b l j ⟨col.val / 64, by omega⟩ ⟨col.val % 64, by omega⟩) := by
  after_reads_at
theorem v11_at (b : Fin 8) (l : Fin 2) (j : Fin 256) (col : Fin 1024) :
    (StableHlo.after hostOps0 U (Proc.devRef .tc main_v11) : S8x2x256x1024.Idx → EReal) (ix4 b l j col)
      = (U (Proc.devRef .tc main_arg5) : S8x2x256x16x64.Idx → EReal) (ix5 b l j ⟨col.val / 64, by omega⟩ ⟨col.val % 64, by omega⟩) := by
  after_reads_at

theorem v17_at (h : Fin 16) (d : Fin 15) (l : Fin 128) :
    (StableHlo.after hostOps0 U (Proc.devRef .tc main_v17) : S16x15x128.Idx → EReal) (ix3 h d l)
      = rrev (U (Proc.devRef .tc main_arg6) : S16x15x31.Idx → EReal) h ⟨d.val, by omega⟩ l := by
  generalize hR : rrev (U (Proc.devRef .tc main_arg6) : S16x15x31.Idx → EReal) h ⟨d.val, by omega⟩ l = R
  after_reads_at
  rw [← hR]
  unfold rrev
  rw [dif_pos d.isLt]
  have hl := l.isLt
  split
  · after_reads_at
    refine congrArg _ ?_
    refine congr (congr (congrArg ix3 ?_) ?_) (Fin.ext ?_) <;> simp [Fin.ofNat, Fin.rev]
    all_goals first | rfl | omega
  · split
    · rename_i h1 h2
      refine Eq.trans ?_ (if_pos (by omega)).symm
      after_reads_at
    · rename_i h1 h2
      refine Eq.trans ?_ (if_neg (by omega)).symm
      after_reads_at
      refine congrArg _ ?_
      refine congr (congr (congrArg ix3 ?_) ?_) (Fin.ext ?_) <;> simp [Fin.ofNat, Fin.rev]
      all_goals first | rfl | omega

theorem v18_at (h : Fin 16) (d : Fin 16) (hd : d.val < 15) (l : Fin 128) :
    (StableHlo.after hostOps0_1 (StableHlo.after hostOps0 U) (Proc.devRef .tc main_v18) : S16x16x128.Idx → EReal) (ix3 h d l)
      = rrev (U (Proc.devRef .tc main_arg6) : S16x15x31.Idx → EReal) h d l := by
  refine Eq.trans ?_ (v17_at U h ⟨d.val, hd⟩ l)
  generalize StableHlo.after hostOps0 U = U'
  after_reads_at
  exact dif_pos hd

end Cert.KernelIdeal.Gen
-- ==== Proof.NA.Spec.lean ====
/-
  Neighbourhood attention of one query and one value column, as the reference computes it, read at numbers.
-/
module

public import Idealize.ShloMosaic.Lib.Pointwise
public import Idealize.ShloMosaic.PureOps.Ideal.Laws

@[expose] public section

noncomputable section

open Idealize.ShloMosaic

namespace Cert.NA

/-- The first key row of a query row's window. -/
def rs (r : Nat) : Nat := min (r - 4) 24

/-- Whether a key column is in a query column's window. -/
def colOk (cq kc : Nat) : Prop := min (cq - 8) 48 ≤ kc ∧ kc < min (cq - 8) 48 + 16

instance (cq kc : Nat) : Decidable (colOk cq kc) := by unfold colOk; infer_instance

/-- The score scale, one eighth. -/
def c8 : EReal := Ideal.ofBits .f32 0x3E000000#32

/-- A query's score against the key at row `kr` of its window and column `kc`. -/
def scoreR (q k : (⟨4, ![8, 2048, 16, 64]⟩ : Shape).Idx → EReal) (rpb : (⟨3, ![16, 15, 31]⟩ : Shape).Idx → EReal)
    (b : Fin 8) (r : Fin 32) (cq : Fin 64) (h : Fin 16) (p : Fin 8 × Fin 64) : EReal :=
  if colOk cq.val p.2.val then
    (∑ d : Fin 64, q (ix4 b ⟨r.val * 64 + cq.val, by omega⟩ h d) * k (ix4 b ⟨(rs r.val + p.1.val) * 64 + p.2.val, by unfold rs; omega⟩ h d)) * c8
      + rpb (ix3 h ⟨min (rs r.val + p.1.val + 7 - r.val) 14, by omega⟩ ⟨min (p.2.val + 15 - cq.val) 30, by omega⟩)
  else ⊥

/-- A query's score against a context key. -/
def scoreC (q : (⟨4, ![8, 2048, 16, 64]⟩ : Shape).Idx → EReal) (ck : (⟨5, ![8, 2, 256, 16, 64]⟩ : Shape).Idx → EReal)
    (b : Fin 8) (r : Fin 32) (cq : Fin 64) (h : Fin 16) (j : Fin 256) : EReal :=
  (∑ d : Fin 64, q (ix4 b ⟨r.val * 64 + cq.val, by omega⟩ h d) * ck (ix5 b 0 j h d)) * c8

/-- The weighted values: softmax over both kinds of key, then the sums. -/
def soft (s : Fin 8 × Fin 64 → EReal) (t : Fin 256 → EReal) (v : Fin 8 × Fin 64 → EReal) (w : Fin 256 → EReal) : EReal :=
  (∑ p, Ideal.div (Ideal.exp (s p - max (Finset.univ.sup s) (Finset.univ.sup t)))
      ((∑ p, Ideal.exp (s p - max (Finset.univ.sup s) (Finset.univ.sup t))) + ∑ j, Ideal.exp (t j - max (Finset.univ.sup s) (Finset.univ.sup t))) * v p)
    + ∑ j, Ideal.div (Ideal.exp (t j - max (Finset.univ.sup s) (Finset.univ.sup t)))
      ((∑ p, Ideal.exp (s p - max (Finset.univ.sup s) (Finset.univ.sup t))) + ∑ j, Ideal.exp (t j - max (Finset.univ.sup s) (Finset.univ.sup t))) * w j

/-- The result at batch `b`, query row `r`, query column `cq`, head `h`, value column `d`. -/
def out (q k v : (⟨4, ![8, 2048, 16, 64]⟩ : Shape).Idx → EReal) (ck cv : (⟨5, ![8, 2, 256, 16, 64]⟩ : Shape).Idx → EReal)
    (rpb : (⟨3, ![16, 15, 31]⟩ : Shape).Idx → EReal) (b : Fin 8) (r : Fin 32) (cq : Fin 64) (h : Fin 16) (d : Fin 64) : EReal :=
  soft (scoreR q k rpb b r cq h) (scoreC q ck b r cq h)
    (fun p => v (ix4 b ⟨(rs r.val + p.1.val) * 64 + p.2.val, by unfold rs; omega⟩ h d)) (fun j => cv (ix5 b 0 j h d))

/-- The two kinds of key on one axis. -/
def keys : (Fin 8 × Fin 64) ⊕ Fin 256 ≃ Fin 768 where
  toFun x := match x with
    | .inl p => ⟨p.1.val * 64 + p.2.val, by omega⟩
    | .inr j => ⟨512 + j.val, by omega⟩
  invFun x := if h : x.val < 512 then .inl (⟨x.val / 64, by omega⟩, ⟨x.val % 64, by omega⟩) else .inr ⟨x.val - 512, by omega⟩
  left_inv x := by
    rcases x with ⟨a, c⟩ | j
    · have := a.isLt; have := c.isLt
      simp only
      rw [dif_pos (by omega)]
      congr 2 <;> ext <;> simp <;> omega
    · simp
  right_inv x := by
    by_cases h : x.val < 512
    · simp only [dif_pos h]; ext; simp; omega
    · simp only [dif_neg h]; ext; simp; omega

theorem sum_keys (f : Fin 768 → EReal) : ∑ x, f x = (∑ p, f (keys (.inl p))) + ∑ j, f (keys (.inr j)) := by
  rw [← Equiv.sum_comp keys, Fintype.sum_sum_type]

theorem sup_keys (f : Fin 768 → EReal) : Finset.univ.sup f = max (Finset.univ.sup fun p => f (keys (.inl p))) (Finset.univ.sup fun j => f (keys (.inr j))) := by
  simp only [Finset.sup_univ_eq_iSup]
  rw [← Equiv.iSup_comp keys, iSup_sum]

end Cert.NA
-- ==== Proof.NA.Join.lean ====
/-
  The kernel's attention in powers of two is the reference's softmax attention, of finite queries, keys and biases.
-/
module

public import proofs.«01_k».proof.Proof.NA.Host
public import proofs.«01_k».proof.Proof.NA.Spec

@[expose] public section

set_option maxRecDepth 16384

noncomputable section

open Idealize.ShloMosaic Idealize.ShloMosaic.TcCoe Idealize.SL.Sem

namespace Cert.KernelIdeal.Gen

theorem c8_real : Cert.NA.c8 = ((1 / 8 : ℝ) : EReal) := by
  show Ideal.ofBits .f32 0x3E000000#32 = _
  simp [Ideal.ofBits, Ideal.ieee]
  rw [← EReal.coe_mul]
  norm_num

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this]
  exact if_neg (by norm_num)

/-- Which key rows of the three blocks are in the window. -/
theorem row_ok : ∀ r : Fin 32, ∀ j : Fin 12, ∀ cq : Fin 1, okRow (var (r.val * 64 + cq.val)) j.val (r.val % 4)
    = decide (Cert.NA.rs r.val ≤ 4 * blk (r.val * 64 + cq.val) + j.val ∧ 4 * blk (r.val * 64 + cq.val) + j.val < Cert.NA.rs r.val + 8) := by
  decide

theorem row_dr : ∀ r : Fin 32, ∀ j : Fin 12, ∀ cq : Fin 1, okRow (var (r.val * 64 + cq.val)) j.val (r.val % 4) = true →
    drOf (var (r.val * 64 + cq.val)) j.val (r.val % 4) = 4 * blk (r.val * 64 + cq.val) + j.val + 7 - r.val
      ∧ drOf (var (r.val * 64 + cq.val)) j.val (r.val % 4) < 15 := by
  decide

theorem blk_row (r : Fin 32) (cq : Fin 64) : blk (r.val * 64 + cq.val) = blk (r.val * 64 + 0) := by unfold blk; omega
theorem var_row (r : Fin 32) (cq : Fin 64) : var (r.val * 64 + cq.val) = var (r.val * 64 + 0) := by
  unfold var; split <;> split <;> (try split) <;> (try split) <;> omega

theorem blk_rs : ∀ r : Fin 32, 4 * blk (r.val * 64 + 0) ≤ Cert.NA.rs r.val ∧ Cert.NA.rs r.val + 8 ≤ 4 * blk (r.val * 64 + 0) + 12 := by
  decide

/-- The key's place in the three blocks. -/
def place (r : Fin 32) (p : Fin 8 × Fin 64) : Fin 768 :=
  ⟨(Cert.NA.rs r.val + p.1.val - 4 * blk (r.val * 64 + 0)) * 64 + p.2.val, by have := blk_rs r; omega⟩

theorem place_row (r : Fin 32) (p : Fin 8 × Fin 64) : 4 * blk (r.val * 64 + 0) + (place r p).val / 64 = Cert.NA.rs r.val + p.1.val := by
  have := blk_rs r; unfold place; simp only; omega
theorem place_col (r : Fin 32) (p : Fin 8 × Fin 64) : (place r p).val % 64 = p.2.val := by
  unfold place; simp only; omega

theorem place_inj (r : Fin 32) : Function.Injective (place r) := by
  intro a b h
  have h1 := place_row r a; have h2 := place_row r b; have h3 := place_col r a; have h4 := place_col r b
  rw [h] at h1 h3
  exact Prod.ext (Fin.ext (by omega)) (Fin.ext (by omega))

variable (q k v : S8x2048x16x64.Idx → EReal) (ck cv : S8x2x256x16x64.Idx → EReal) (rpb : S16x15x31.Idx → EReal)
variable (b : Fin 8) (r : Fin 32) (cq : Fin 64) (h : Fin 16)

theorem rrev_lane (kc : Fin 64) (d : Fin 16) (hd : d.val < 15) (hok : okCol kc.val cq.val = true) :
    rrev rpb h d ⟨(cq.val + 128 - kc.val) % 128, Nat.mod_lt _ (by decide)⟩ = rpb (ix3 h ⟨d.val, hd⟩ ⟨min (kc.val + 15 - cq.val) 30, by omega⟩) := by
  have hk : min (cq.val - 8) 48 ≤ kc.val ∧ kc.val < min (cq.val - 8) 48 + 16 := by simpa [okCol] using hok
  unfold rrev
  rw [dif_pos hd]
  by_cases h1 : (cq.val + 128 - kc.val) % 128 < 16
  · rw [if_pos h1]
    refine congrArg rpb (congrArg (ix3 h ⟨d.val, hd⟩) (Fin.ext ?_))
    show (15 - (cq.val + 128 - kc.val) % 128) % 31 = min (kc.val + 15 - cq.val) 30
    omega
  · rw [if_neg h1, if_neg (by show ¬ (cq.val + 128 - kc.val) % 128 < 113; omega)]
    refine congrArg rpb (congrArg (ix3 h ⟨d.val, hd⟩) (Fin.ext ?_))
    show (143 - (cq.val + 128 - kc.val) % 128) % 31 = min (kc.val + 15 - cq.val) 30
    omega

/-- A real dot product with the query scaled and in powers of two. -/
theorem dot_lam (f g : Fin 64 → ℝ) (c : ℝ) :
    (∑ d, (f d : EReal) * (((Cert.NA.lam : ℝ) : EReal) * ((g d : EReal) * (c : EReal)))) = ((Cert.NA.lam * ((∑ d, g d * f d) * c) : ℝ) : EReal) := by
  simp only [← EReal.coe_mul, ← Cert.NA.coe_sum]
  refine congrArg _ ?_
  rw [Finset.sum_mul, Finset.mul_sum]
  exact Finset.sum_congr rfl fun d _ => by ring

theorem dot_real (f g : Fin 64 → ℝ) : (∑ d, (g d : EReal) * (f d : EReal)) = ((∑ d, g d * f d : ℝ) : EReal) := by
  simp only [← EReal.coe_mul, ← Cert.NA.coe_sum]

theorem join_attn (T : S16x16x128.Idx → EReal) (hT : ∀ (d : Fin 16) (l : Fin 128), d.val < 15 → T (ix3 h d l) = rrev rpb h d l)
    (qr kr : S8x2048x16x64.Idx → ℝ) (ckr : S8x2x256x16x64.Idx → ℝ) (rpbr : S16x15x31.Idx → ℝ)
    (hq : ∀ i, q i = (qr i : EReal)) (hk : ∀ i, k i = (kr i : EReal)) (hck : ∀ i, ck i = (ckr i : EReal)) (hrpb : ∀ i, rpb i = (rpbr i : EReal))
    (d : Fin 64) :
    attn (fun d => ((Cert.NA.lam : ℝ) : EReal) * (q (ix4 b ⟨r.val * 64 + cq.val, by omega⟩ h d) * Cert.NA.c8))
      (fun w d => k (ix4 b ⟨256 * blk (r.val * 64 + 0) + w.val, by have := blk_le (r.val * 64 + 0); omega⟩ h d))
      (fun w => v (ix4 b ⟨256 * blk (r.val * 64 + 0) + w.val, by have := blk_le (r.val * 64 + 0); omega⟩ h d))
      (fun j d => ck (ix5 b 0 j h d)) (fun j => cv (ix5 b 0 j h d))
      (fun w => if okRow (var (r.val * 64 + 0)) (w.val / 64) (r.val % 4) = true ∧ okCol (w.val % 64) cq.val = true then
        T (ix3 h ⟨drOf (var (r.val * 64 + 0)) (w.val / 64) (r.val % 4) % 16, Nat.mod_lt _ (by decide)⟩ ⟨(cq.val + 128 - w.val % 64) % 128, Nat.mod_lt _ (by decide)⟩)
          * ((Cert.NA.lam : ℝ) : EReal) else ⊥)
    = Cert.NA.out q k v ck cv rpb b r cq h d := by
  have hrow : ∀ w : Fin 768, okRow (var (r.val * 64 + 0)) (w.val / 64) (r.val % 4) = true ↔
      (Cert.NA.rs r.val ≤ 4 * blk (r.val * 64 + 0) + w.val / 64 ∧ 4 * blk (r.val * 64 + 0) + w.val / 64 < Cert.NA.rs r.val + 8) := fun w => by
    have := row_ok r ⟨w.val / 64, by omega⟩ 0
    simp only [Fin.val_zero] at this
    rw [this, decide_eq_true_iff]
  have hK : ∀ (p : Fin 8 × Fin 64), (⟨256 * blk (r.val * 64 + 0) + (place r p).val, by have := blk_le (r.val * 64 + 0); omega⟩ : Fin 2048)
      = ⟨(Cert.NA.rs r.val + p.1.val) * 64 + p.2.val, by unfold Cert.NA.rs; omega⟩ := fun p => by
    have h1 := place_row r p; have h2 := place_col r p
    exact Fin.ext (by simp only; omega)
  unfold attn
  refine (Cert.NA.softmax (place r) (place_inj r) _ _ _ _ (Cert.NA.scoreC q ck b r cq h) (Cert.NA.scoreR q k rpb b r cq h) ?_ ?_ ?_ ?_ ?_ ?_ _ _ rfl rfl).trans ?_
  · intro p
    unfold Cert.NA.scoreR
    split
    · simp only [hq, hk, hrpb, c8_real]
      rw [dot_real (fun d => kr _) (fun d => qr _), ← EReal.coe_mul, ← EReal.coe_add]
      exact EReal.coe_ne_top _
    · exact bot_ne_top
  · intro j
    unfold Cert.NA.scoreC
    simp only [hq, hck, c8_real]
    rw [dot_real (fun d => ckr _) (fun d => qr _), ← EReal.coe_mul]
    exact EReal.coe_ne_top _
  · intro j
    unfold Cert.NA.scoreC
    simp only [hq, hck, c8_real]
    rw [dot_real (fun d => ckr _) (fun d => qr _), ← EReal.coe_mul]
    exact EReal.coe_ne_bot _
  · intro p
    have hr := (hrow (place r p)).2 (by rw [place_row]; omega)
    have hd := row_dr r ⟨(place r p).val / 64, by omega⟩ 0
    simp only [Fin.val_zero] at hd
    have hd' := hd hr
    unfold Cert.NA.scoreR
    simp only [hK, hr, place_col, true_and]
    by_cases hc : okCol p.2.val cq.val = true
    · have hc' : Cert.NA.colOk cq.val p.2.val := by simpa [okCol, Cert.NA.colOk] using hc
      have hm : drOf (var (r.val * 64 + 0)) ((place r p).val / 64) (r.val % 4) % 16 < 15 := by omega
      rw [if_pos hc, if_pos hc', hT _ _ hm, rrev_lane rpb cq h p.2 _ hm hc]
      have hi : (⟨drOf (var (r.val * 64 + 0)) ((place r p).val / 64) (r.val % 4) % 16, hm⟩ : Fin 15)
          = ⟨min (Cert.NA.rs r.val + p.1.val + 7 - r.val) 14, by omega⟩ := Fin.ext (by
        have := place_row r p; simp only; omega)
      rw [hi]
      simp only [hq, hk, hrpb, c8_real]
      rw [dot_lam (fun d => kr _) (fun d => qr _), dot_real (fun d => kr _) (fun d => qr _)]
      simp only [← EReal.coe_mul, ← EReal.coe_add]
      refine congrArg _ ?_
      ring
    · have hc' : ¬ Cert.NA.colOk cq.val p.2.val := by simpa [okCol, Cert.NA.colOk] using hc
      rw [if_neg hc, if_neg hc', EReal.add_bot, Cert.NA.lam_bot]
  · intro w hw
    have : ¬ okRow (var (r.val * 64 + 0)) (w.val / 64) (r.val % 4) = true := fun hr => hw (by
      have hr' := (hrow w).1 hr
      refine ⟨(⟨4 * blk (r.val * 64 + 0) + w.val / 64 - Cert.NA.rs r.val, by omega⟩, ⟨w.val % 64, by omega⟩), Fin.ext ?_⟩
      unfold place; simp only; omega)
    beta_reduce
    rw [if_neg (fun h => this (And.left h)), EReal.add_bot]
  · intro j
    unfold Cert.NA.scoreC
    simp only [hq, hck, c8_real]
    rw [dot_lam (fun d => ckr _) (fun d => qr _), dot_real (fun d => ckr _) (fun d => qr _)]
    simp only [← EReal.coe_mul]
  · unfold Cert.NA.out Cert.NA.soft
    simp only [hK]

end Cert.KernelIdeal.Gen

end
-- ==== Proof.NA.Join2.lean ====
/-
  The kernel's result array is the reference's attention of the arguments.
-/
module

public import proofs.«01_k».proof.Proof.NA.Join

@[expose] public section

set_option maxRecDepth 16384

noncomputable section

open Idealize.ShloMosaic Idealize.ShloMosaic.TcCoe Idealize.SL.Sem Idealize.ShloMosaic.Pipeline

namespace Cert.KernelIdeal.Gen

theorem biasArr_at (T : S16x16x128.Idx → EReal) (hp : Fin 8) (v : Fin 3) (w : Fin 768) (l : Fin 512) (h : Fin 16) (vv rq cq : Nat)
    (h1 : h.val = 2 * hp.val + l.val / 256) (h2 : v.val = vv) (h3 : l.val % 256 / 64 = rq) (h4 : l.val % 256 % 64 = cq) :
    biasArr T (ix4 hp v w l) = if okRow vv (w.val / 64) rq = true ∧ okCol (w.val % 64) cq = true then
        T (ix3 h ⟨drOf vv (w.val / 64) rq % 16, Nat.mod_lt _ (by decide)⟩ ⟨(cq + 128 - w.val % 64) % 128, Nat.mod_lt _ (by decide)⟩)
          * ((Cert.NA.lam : ℝ) : EReal) else ⊥ := by
  subst h2 h3 h4
  have hh : Fin.ofNat 16 (2 * hp.val + l.val / 256) = h := Fin.ext (by rw [Fin.val_ofNat]; omega)
  rw [← hh]
  rfl

variable (q k v : S8x2048x16x64.Idx → EReal) (ck cv : S8x2x256x16x64.Idx → EReal) (rpb : S16x15x31.Idx → EReal)

theorem join_arr (pa : S16384x5120.Idx → EReal) (ka va : S8x2x256x1024.Idx → EReal) (T : S16x16x128.Idx → EReal)
    (hpq : ∀ (n : Fin 16384) (col : Fin 5120) (b : Fin 8) (R : Fin 2048) (h : Fin 16) (d : Fin 64), n.val = 2048 * b.val + R.val → col.val = 64 * h.val + d.val →
      pa (ix2 n col) = ((Cert.NA.lam : ℝ) : EReal) * (q (ix4 b R h d) * Cert.NA.c8))
    (hpk : ∀ (n : Fin 16384) (col : Fin 5120) (b : Fin 8) (R : Fin 2048) (h : Fin 16) (d : Fin 64), n.val = 2048 * b.val + R.val → col.val = 1024 + (64 * h.val + d.val) →
      pa (ix2 n col) = k (ix4 b R h d))
    (hpv : ∀ (n : Fin 16384) (col : Fin 5120) (b : Fin 8) (R : Fin 2048) (h : Fin 16) (d : Fin 64), n.val = 2048 * b.val + R.val → col.val = 2048 + (64 * h.val + d.val) →
      pa (ix2 n col) = v (ix4 b R h d))
    (hka : ∀ (b : Fin 8) (l : Fin 2) (j : Fin 256) (col : Fin 1024) (h : Fin 16) (d : Fin 64), col.val = 64 * h.val + d.val → ka (ix4 b l j col) = ck (ix5 b l j h d))
    (hva : ∀ (b : Fin 8) (l : Fin 2) (j : Fin 256) (col : Fin 1024) (h : Fin 16) (d : Fin 64), col.val = 64 * h.val + d.val → va (ix4 b l j col) = cv (ix5 b l j h d))
    (hT : ∀ (h : Fin 16) (d : Fin 16) (l : Fin 128), d.val < 15 → T (ix3 h d l) = rrev rpb h d l)
    (qr kr : S8x2048x16x64.Idx → ℝ) (ckr : S8x2x256x16x64.Idx → ℝ) (rpbr : S16x15x31.Idx → ℝ)
    (hq : ∀ i, q i = (qr i : EReal)) (hk : ∀ i, k i = (kr i : EReal)) (hck : ∀ i, ck i = (ckr i : EReal)) (hrpb : ∀ i, rpb i = (rpbr i : EReal))
    (n : Fin 16384) (col : Fin 1024) :
    attnArr pa ka va (biasArr T) (ix2 n col)
      = Cert.NA.out q k v ck cv rpb ⟨n.val / 2048, by omega⟩ ⟨n.val / 64 % 32, by omega⟩ ⟨n.val % 64, by omega⟩ ⟨col.val / 64, by omega⟩ ⟨col.val % 64, by omega⟩ := by
  refine Eq.trans ?_ (join_attn q k v ck cv rpb ⟨n.val / 2048, by omega⟩ ⟨n.val / 64 % 32, by omega⟩ ⟨n.val % 64, by omega⟩ ⟨col.val / 64, by omega⟩
    T (hT _) qr kr ckr rpbr hq hk hck hrpb ⟨col.val % 64, by omega⟩)
  have hR : (Fin.ofNat 2048 (n.val % 2048)).val = n.val / 64 % 32 * 64 + n.val % 64 := by rw [Fin.val_ofNat]; omega
  have hB : blk (Fin.ofNat 2048 (n.val % 2048)).val = blk (n.val / 64 % 32 * 64 + 0) := by
    rw [hR]; exact blk_row ⟨n.val / 64 % 32, by omega⟩ ⟨n.val % 64, by omega⟩
  have hV : var (Fin.ofNat 2048 (n.val % 2048)).val = var (n.val / 64 % 32 * 64 + 0) := by
    rw [hR]; exact var_row ⟨n.val / 64 % 32, by omega⟩ ⟨n.val % 64, by omega⟩
  have hb := blk_le (n.val / 64 % 32 * 64 + 0)
  have he : (Fin.ofNat 128 (col.val % 128)).val = col.val % 128 := by rw [Fin.val_ofNat]; omega
  show attn _ _ _ _ _ _ = _
  refine congr (congr (congr (congr (congr (congrArg attn (funext fun d => ?_)) (funext fun w => funext fun d => ?_)) (funext fun w => ?_))
    (funext fun j => funext fun d => ?_)) (funext fun j => ?_)) (funext fun w => ?_)
  · refine hpq _ _ _ ⟨n.val / 64 % 32 * 64 + n.val % 64, by omega⟩ _ d ?_ ?_
    · simp only [Fin.val_ofNat, hR, ix2]
      show (2048 * (n.val / 2048) + (Fin.ofNat 2048 (n.val % 2048)).val) % 16384 = 2048 * (n.val / 2048) + (n.val / 64 % 32 * 64 + n.val % 64)
      omega
    · simp only [Fin.val_ofNat]
      show (128 * (col.val / 128) + (64 * ((Fin.ofNat 128 (col.val % 128)).val / 64) + d.val)) % 5120 = 64 * (col.val / 64) + d.val
      omega
  · refine hpk _ _ _ ⟨256 * blk (n.val / 64 % 32 * 64 + 0) + w.val, by omega⟩ _ d ?_ ?_
    · simp only [Fin.val_ofNat]
      show (2048 * (n.val / 2048) + (256 * blk (Fin.ofNat 2048 (n.val % 2048)).val + w.val)) % 16384 = 2048 * (n.val / 2048) + (256 * blk (n.val / 64 % 32 * 64 + 0) + w.val)
      omega
    · simp only [Fin.val_ofNat]
      show (1024 + 128 * (col.val / 128) + (64 * ((Fin.ofNat 128 (col.val % 128)).val / 64) + d.val)) % 5120 = 1024 + (64 * (col.val / 64) + d.val)
      omega
  · refine hpv _ _ _ ⟨256 * blk (n.val / 64 % 32 * 64 + 0) + w.val, by omega⟩ _ ⟨col.val % 64, by omega⟩ ?_ ?_
    · simp only [Fin.val_ofNat]
      show (2048 * (n.val / 2048) + (256 * blk (Fin.ofNat 2048 (n.val % 2048)).val + w.val)) % 16384 = 2048 * (n.val / 2048) + (256 * blk (n.val / 64 % 32 * 64 + 0) + w.val)
      omega
    · simp only [Fin.val_ofNat]
      show (2048 + 128 * (col.val / 128) + (Fin.ofNat 128 (col.val % 128)).val) % 5120 = 2048 + (64 * (col.val / 64) + col.val % 64)
      omega
  · have hb8 : Fin.ofNat 8 (n.val / 2048) = ⟨n.val / 2048, by omega⟩ := Fin.ext (by rw [Fin.val_ofNat]; simp only; omega)
    rw [← hb8]
    refine hka _ _ _ _ _ d ?_
    simp only [Fin.val_ofNat]
    show (128 * (col.val / 128) + (64 * ((Fin.ofNat 128 (col.val % 128)).val / 64) + d.val)) % 1024 = 64 * (col.val / 64) + d.val
    omega
  · have hb8 : Fin.ofNat 8 (n.val / 2048) = ⟨n.val / 2048, by omega⟩ := Fin.ext (by rw [Fin.val_ofNat]; simp only; omega)
    rw [← hb8]
    refine hva _ _ _ _ _ ⟨col.val % 64, by omega⟩ ?_
    simp only [Fin.val_ofNat]
    show (128 * (col.val / 128) + (Fin.ofNat 128 (col.val % 128)).val) % 1024 = 64 * (col.val / 64) + col.val % 64
    omega
  · refine biasArr_at T _ _ _ _ ⟨col.val / 64, by omega⟩ _ _ _ ?_ hV ?_ ?_
    · show col.val / 64 = 2 * (Fin.ofNat 8 (col.val / 128)).val + (256 * ((Fin.ofNat 128 (col.val % 128)).val / 64) + (Fin.ofNat 2048 (n.val % 2048)).val % 256) / 256
      rw [he, Fin.val_ofNat]
      omega
    · show (256 * ((Fin.ofNat 128 (col.val % 128)).val / 64) + (Fin.ofNat 2048 (n.val % 2048)).val % 256) % 256 / 64 = n.val / 64 % 32 % 4
      omega
    · show (256 * ((Fin.ofNat 128 (col.val % 128)).val / 64) + (Fin.ofNat 2048 (n.val % 2048)).val % 256) % 256 % 64 = n.val % 64
      omega

end Cert.KernelIdeal.Gen

end
-- ==== Proof.NA.Run.lean ====
/-
  The kernel's run with its result, and the precondition read at an element.
-/
module

public import proofs.«01_k».proof.Proof.NA.Join2
public import proofs.«01_k».proof.Pre_scores_finite

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem Cert.Pre_scores_finite.holds : Cert.Pre_scores_finite.Facts where
  bcast_S_S8x2048x16x64 := by decide
  bcast_S_S8x2x256x16x64 := by decide
  bcast_S_S16x15x31 := by decide

/-- A word comparing an absolute value below infinity is one only of a real. -/
theorem Cert.NA.real_of_word (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

namespace Cert.KernelIdeal.Gen

variable (m : (ℓ : Loc nD τ sig) → Buf (Elt Ideal) ℓ) (ρ : Dev nD → PrngReg)

set_option backward.isDefEq.respectTransparency.types false in
/-- The launch's run with what it leaves in the result. -/
theorem result_run : θ_run defs (onTc (τ := τ) (main (F := Ideal))) ⟨m, fun _ => 0, ρ⟩ (fun r => (∀ c : Dev nD,
      r.2.mem ((c.tc : Thread nD τ).loc main_v20) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v20 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

theorem host_of (c : Dev nD) (r : Ref sig .tc) (h : ∀ w : Fin cfg0.W, Pipeline.arrRef spec0 w = r → (cfg0.win w).isOut = false) (h' : r ∉ hostOps0_1_W) :
    V3 m ρ c r = StableHlo.after hostOps0 (W0 m ρ c) (Proc.devRef .tc r) :=
  (W3_of m ρ c r h).trans (W2_of m ρ c r h')

theorem div_log (x : EReal) : Ideal.div x (Ideal.log (Ideal.ofBits .f32 0x40000000#32)) = ((Cert.NA.lam : ℝ) : EReal) * x := by
  rw [log_two, Ideal.div_coe (Real.log_pos (by norm_num)).ne', mul_comm, one_div]
  rfl

theorem result_at (c : Dev nD) (qr kr : S8x2048x16x64.Idx → ℝ) (ckr : S8x2x256x16x64.Idx → ℝ) (rpbr : S16x15x31.Idx → ℝ)
    (hq : ∀ i, (m ((c : Thread nD τ).loc main_arg0) : S8x2048x16x64.Idx → EReal) i = (qr i : EReal))
    (hk : ∀ i, (m ((c : Thread nD τ).loc main_arg1) : S8x2048x16x64.Idx → EReal) i = (kr i : EReal))
    (hck : ∀ i, (m ((c : Thread nD τ).loc main_arg4) : S8x2x256x16x64.Idx → EReal) i = (ckr i : EReal))
    (hrpb : ∀ i, (m ((c : Thread nD τ).loc main_arg6) : S16x15x31.Idx → EReal) i = (rpbr i : EReal))
    (n : Fin 16384) (col : Fin 1024) :
    ((dat1 (V3 m ρ) c).arrAt 6 cfg1.N : S16384x1024.Idx → EReal) (ix2 n col)
      = Cert.NA.out (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg6))
          ⟨n.val / 2048, by omega⟩ ⟨n.val / 64 % 32, by omega⟩ ⟨n.val % 64, by omega⟩ ⟨col.val / 64, by omega⟩ ⟨col.val % 64, by omega⟩ := by
  have e9 : V3 m ρ c main_v9 = StableHlo.after hostOps0 (W0 m ρ c) (Proc.devRef .tc main_v9) := host_of m ρ c main_v9 (by decide) (by decide)
  have e10 : V3 m ρ c main_v10 = StableHlo.after hostOps0 (W0 m ρ c) (Proc.devRef .tc main_v10) := host_of m ρ c main_v10 (by decide) (by decide)
  have e11 : V3 m ρ c main_v11 = StableHlo.after hostOps0 (W0 m ρ c) (Proc.devRef .tc main_v11) := host_of m ρ c main_v11 (by decide) (by decide)
  have e19 : V3 m ρ c main_v19 = biasArr (V2 m ρ c main_v18) := (W3_arr m ρ c 1).trans (bias_final (V2 m ρ) c)
  rw [attn_final, e19]
  refine join_arr _ _ _ _ _ _ _ _ _ _ ?_ ?_ ?_ ?_ ?_ ?_ qr kr ckr rpbr hq hk hck hrpb n col
  · intro n col b R h d h1 h2
    rw [e9]
    refine (v9_at (W0 m ρ c) n col ⟨64 * h.val + d.val, by omega⟩ 0 (by decide) (by simp only; omega)).trans ?_
    rw [if_pos rfl]
    refine (v5_at (W0 m ρ c) _ rfl n _).trans ((div_log _).trans ?_)
    refine congrArg (fun z => ((Cert.NA.lam : ℝ) : EReal) * (z * Cert.NA.c8)) (congrArg (m ((c : Thread nD τ).loc main_arg0)) ?_)
    refine congr (congr (congr (congrArg ix4 ?_) ?_) ?_) ?_ <;> apply Fin.ext <;> simp only <;> omega
  · intro n col b R h d h1 h2
    rw [e9]
    refine (v9_at (W0 m ρ c) n col ⟨64 * h.val + d.val, by omega⟩ 1 (by decide) (by simp only; omega)).trans ?_
    rw [if_neg (by decide), if_pos rfl]
    refine (v6_at (W0 m ρ c) n _).trans (congrArg (m ((c : Thread nD τ).loc main_arg1)) ?_)
    refine congr (congr (congr (congrArg ix4 ?_) ?_) ?_) ?_ <;> apply Fin.ext <;> simp only <;> omega
  · intro n col b R h d h1 h2
    rw [e9]
    refine (v9_at (W0 m ρ c) n col ⟨64 * h.val + d.val, by omega⟩ 2 (by decide) (by simp only; omega)).trans ?_
    rw [if_neg (by decide), if_neg (by decide)]
    refine (v7_at (W0 m ρ c) n _).trans (congrArg (m ((c : Thread nD τ).loc main_arg2)) ?_)
    refine congr (congr (congr (congrArg ix4 ?_) ?_) ?_) ?_ <;> apply Fin.ext <;> simp only <;> omega
  · intro b l j col h d h1
    rw [e10]
    refine (v10_at (W0 m ρ c) b l j col).trans (congrArg (m ((c : Thread nD τ).loc main_arg4)) ?_)
    refine congr (congrArg (ix5 b l j) ?_) ?_ <;> apply Fin.ext <;> simp only <;> omega
  · intro b l j col h d h1
    rw [e11]
    refine (v11_at (W0 m ρ c) b l j col).trans (congrArg (m ((c : Thread nD τ).loc main_arg5)) ?_)
    refine congr (congrArg (ix5 b l j) ?_) ?_ <;> apply Fin.ext <;> simp only <;> omega
  · intro h d l hd
    exact v18_at (W0 m ρ c) h d hd l

end Cert.KernelIdeal.Gen

end
-- ==== Proof.Layer.Math.lean ====
/-
  The extended reals' side of the dense calls: a row's normalization, the logistic function written with the hyperbolic
  tangent, and one element of the merge of the two branches.
-/
module

public import Idealize.ShloMosaic.PureOps.Ideal
public import Idealize.ShloMosaic.PureOps.Ideal.Laws
public import Mathlib.Analysis.SpecialFunctions.Trigonometric.DerivHyp
public import Mathlib.Analysis.SpecialFunctions.Artanh

@[expose] public section

noncomputable section

open Idealize.ShloMosaic
open scoped BigOperators

namespace Cert.Layer

theorem half_word : Ideal.ofBits .f32 0x3F000000#32 = ((1 / 2 : ℝ) : EReal) := by
  simp [Ideal.ofBits, Ideal.ieee]
  rw [← EReal.coe_mul]; norm_num

theorem one_word : Ideal.ofBits .f32 0x3F800000#32 = 1 := by
  simp [Ideal.ofBits, Ideal.ieee]
  rw [← EReal.coe_mul]; norm_num

theorem tanh_half (r : ℝ) : 1 / 2 + 1 / 2 * Real.tanh (1 / 2 * r) = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  rw [e]
  have h1 := Real.exp_pos (1 / 2 * r)
  have h2 := Real.exp_pos (-(1 / 2 * r))
  generalize Real.exp (1 / 2 * r) = p at *
  generalize Real.exp (-(1 / 2 * r)) = q at *
  have : p ≠ 0 := h1.ne'
  have : q ≠ 0 := h2.ne'
  have : p + q ≠ 0 := (add_pos h1 h2).ne'
  have h3 : (1 + q * q) ≠ 0 := by positivity
  field_simp
  linear_combination (2 * q) * e2

/-- The logistic function, from the hyperbolic tangent of half its argument. -/
theorem sigm (x : EReal) : ((1 / 2 : ℝ) : EReal) + ((1 / 2 : ℝ) : EReal) * Ideal.tanh (((1 / 2 : ℝ) : EReal) * x)
    = Ideal.div 1 (1 + Ideal.exp (-x)) := by
  show _ = Ideal.logistic x
  induction x with
  | bot =>
    rw [EReal.coe_mul_bot_of_pos (by norm_num), Ideal.tanh_bot, Ideal.logistic_bot]
    norm_num [← EReal.coe_one, ← EReal.coe_neg, ← EReal.coe_mul, ← EReal.coe_add]
  | top =>
    rw [EReal.coe_mul_top_of_pos (by norm_num), Ideal.tanh_top, Ideal.logistic_top]
    rw [← EReal.coe_one, ← EReal.coe_mul, ← EReal.coe_add]; norm_num
  | coe r =>
    rw [← EReal.coe_mul, Ideal.tanh_coe, Ideal.logistic_coe, ← EReal.coe_mul, ← EReal.coe_add, tanh_half]

/-- The element `k` of a row divided by the root of the mean of its squares (`n` the row's length, `e` added to the
    mean). -/
def rms {w : Nat} (n e : EReal) (y : Fin w → EReal) (k : Fin w) : EReal :=
  y k * Ideal.rsqrt (Ideal.div (∑ j : Fin w, y j * y j) n + e)

/-- The SSD branch's width, the query width and the number added to a mean of squares, as the programs' words. -/
abbrev dimW : EReal := Ideal.ofBits FTy.f32 0x45000000#32
abbrev modW : EReal := Ideal.ofBits FTy.f32 0x44800000#32
abbrev epsW : EReal := Ideal.ofBits FTy.f32 0x358637BD#32

/-- One element of the merge: the residual, plus the gated output projection of the two branches' gated sum. -/
def mergeAt {w v : Nat} (n e x gate : EReal) (na : Fin w → EReal) (y : Fin v → EReal) (ga gb : Fin w → EReal)
    (g : Fin v → EReal) (wna : Fin w → Fin w → EReal) (wssd : Fin v → Fin w → EReal) (wo : Fin w → EReal) : EReal :=
  x + gate * ∑ j : Fin w,
    (Ideal.div 1 (1 + Ideal.exp (-ga j)) * (∑ k : Fin w, na k * wna k j)
      + Ideal.div 1 (1 + Ideal.exp (-gb j)) * (∑ k : Fin v, rms n e y k * g k * wssd k j)) * wo j

end Cert.Layer
-- ==== Proof.Layer.MergeLat.Out.lean ====
/-
  What one point of the merge call stores, at every element.
-/
module

public import proofs.«01_k».proof.Proof.Gen.MergeLatIdeal.Value
public import proofs.«01_k».proof.Proof.Layer.Math
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.MergeLatIdeal.Gen
open Cert.Layer

theorem pay2_at (y : S512x2048.Idx → EReal) (g : S1x2048.Idx → EReal) (w : S2048x1024.Idx → EReal) (r : Fin 512) (j : Fin 1024) :
    k0_pay2 (F := Ideal) y g w (ix2 r j) = ∑ k : Fin 2048, rms dimW epsW (fun k => y (ix2 r k)) k * g (ix2 0 k) * w (ix2 k j) := by
  pointwise [k0_pay2]
  rfl

theorem pay3_at (na ga : S512x1024.Idx → EReal) (w : S1024x1024.Idx → EReal) (r : Fin 512) (j : Fin 1024) :
    k0_pay3 (F := Ideal) na w ga (ix2 r j) = Ideal.div 1 (1 + Ideal.exp (-ga (ix2 r j))) * ∑ k : Fin 1024, na (ix2 r k) * w (ix2 k j) := by
  pointwise [k0_pay3]
  rw [half_word, sigm]

theorem pay1_at (s n gb x : S512x1024.Idx → EReal) (w : S1024x1024.Idx → EReal) (gt : S1x1x1024.Idx → EReal) (r : Fin 512) (c : Fin 1024) :
    k0_pay1 (F := Ideal) s n gb w x gt (ix2 r c)
      = x (ix2 r c) + gt (ix3 0 0 c) * ∑ j : Fin 1024, (n (ix2 r j) + Ideal.div 1 (1 + Ideal.exp (-gb (ix2 r j))) * s (ix2 r j)) * w (ix2 j c) := by
  pointwise [k0_pay1]
  simp only [half_word, sigm]

theorem out_at (x na : S512x1024.Idx → EReal) (y : S512x2048.Idx → EReal) (ga gb : S512x1024.Idx → EReal) (m : S1x1x6144.Idx → EReal)
    (g : S1x2048.Idx → EReal) (wna : S1024x1024.Idx → EReal) (wssd : S2048x1024.Idx → EReal) (wo : S1024x1024.Idx → EReal) (r : Fin 512) (c : Fin 1024) :
    out0_10 (F := Ideal) x na y ga gb m g wna wssd wo (ix2 r c)
      = mergeAt dimW epsW (x (ix2 r c)) (m (ix3 0 0 (Fin.ofNat 6144 (2048 + c.val)))) (fun k => na (ix2 r k)) (fun k => y (ix2 r k)) (fun k => ga (ix2 r k))
          (fun k => gb (ix2 r k)) (fun k => g (ix2 0 k)) (fun k j => wna (ix2 k j)) (fun k j => wssd (ix2 k j)) (fun j => wo (ix2 j c)) := by
  frame_out
  rw [pay1_at]
  unfold mergeAt
  simp only [pay2_at, pay3_at]
  exact congrArg (fun z => x (ix2 r c) + m z * _) ((by funext a; exact Fin.ext (by match a with | ⟨0, _⟩ => rfl | ⟨1, _⟩ => rfl | ⟨2, _⟩ => simp [r0_5, Rect.unit, Fin.ofNat]; try omega)))

end Cert.MergeLatIdeal.Gen
-- ==== Proof.Layer.MergeLat.Spec.lean ====
/-
  The merge's result as a function of the arguments.
-/
module

public import proofs.«01_k».proof.Proof.Layer.Math
public import Idealize.ShloMosaic.Lib.Pointwise

@[expose] public section

noncomputable section

open Idealize.ShloMosaic

namespace Cert.Layer

def mergeLat (x : Shape.Idx ⟨3, ![8, 2048, 1024]⟩ → EReal) (na : Shape.Idx ⟨2, ![16384, 1024]⟩ → EReal) (y : Shape.Idx ⟨2, ![16384, 2048]⟩ → EReal)
    (ga gb : Shape.Idx ⟨2, ![16384, 1024]⟩ → EReal) (m : Shape.Idx ⟨3, ![8, 1, 6144]⟩ → EReal) (g : Shape.Idx ⟨1, ![2048]⟩ → EReal)
    (wna : Shape.Idx ⟨2, ![1024, 1024]⟩ → EReal) (wssd : Shape.Idx ⟨2, ![2048, 1024]⟩ → EReal) (wo : Shape.Idx ⟨2, ![1024, 1024]⟩ → EReal)
    (n : Fin 16384) (c : Fin 1024) : EReal :=
  mergeAt dimW epsW (x (ix3 ⟨n.val / 2048, by omega⟩ ⟨n.val % 2048, by omega⟩ c)) (m (ix3 ⟨n.val / 2048, by omega⟩ 0 ⟨2048 + c.val, by omega⟩))
    (fun k => na (ix2 n k)) (fun k => y (ix2 n k)) (fun k => ga (ix2 n k)) (fun k => gb (ix2 n k)) (fun k => g (ix1 k))
    (fun k j => wna (ix2 k j)) (fun k j => wssd (ix2 k j)) (fun j => wo (ix2 j c))

end Cert.Layer
-- ==== Proof.Layer.MergeLat.Arr.lean ====
/-
  The merge call's result array, at every element, from the arguments.
-/
module

public import proofs.«01_k».proof.Proof.Layer.MergeLat.Out
public import proofs.«01_k».proof.Proof.Layer.MergeLat.Spec
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.MergeLatIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 0] := (by decide +kernel : ∀ t : Fin grid0.N, win0_1.index t = ![t.val, 0])
theorem idx0_2 : ∀ t : Fin cfg0.N, win0_2.index t = ![t.val, 0] := (by decide +kernel : ∀ t : Fin grid0.N, win0_2.index t = ![t.val, 0])
theorem idx0_3 : ∀ t : Fin cfg0.N, win0_3.index t = ![t.val, 3] := (by decide +kernel : ∀ t : Fin grid0.N, win0_3.index t = ![t.val, 3])
theorem idx0_4 : ∀ t : Fin cfg0.N, win0_4.index t = ![t.val, 4] := (by decide +kernel : ∀ t : Fin grid0.N, win0_4.index t = ![t.val, 4])
theorem idx0_5 : ∀ t : Fin cfg0.N, win0_5.index t = ![1 + t.val / 4, 0, 0] := (by decide +kernel : ∀ t : Fin grid0.N, win0_5.index t = ![1 + t.val / 4, 0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![0, 0] := (by decide +kernel : ∀ t : Fin grid0.N, win0_8.index t = ![0, 0])
theorem idx0_9 : ∀ t : Fin cfg0.N, win0_9.index t = ![0, 0] := (by decide +kernel : ∀ t : Fin grid0.N, win0_9.index t = ![0, 0])
theorem idx0_10 : ∀ t : Fin cfg0.N, win0_10.index t = ![t.val, 0] := (by decide +kernel : ∀ t : Fin grid0.N, win0_10.index t = ![t.val, 0])

/-- The result, at the arguments of core `c`. -/
def spec (c : Dev nD) : S16384x1024.Idx → EReal := fun i =>
  mergeLat (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 0) (i 1)

section
variable (U : Valuation τ sig (Elt Ideal))

theorem pa_at (n : Fin 16384) (col : Fin 1024) :
    (StableHlo.after hostOps0 U (Proc.devRef .tc main_v1) : S16384x5120.Idx → EReal) (ix2 n ⟨3072 + col.val, by omega⟩)
      = (U (Proc.devRef .tc main_arg4) : S16384x1024.Idx → EReal) (ix2 n col) := by
  after_reads_at
  rfl

theorem pb_at (n : Fin 16384) (col : Fin 1024) :
    (StableHlo.after hostOps0 U (Proc.devRef .tc main_v1) : S16384x5120.Idx → EReal) (ix2 n ⟨4096 + col.val, by omega⟩)
      = (U (Proc.devRef .tc main_arg5) : S16384x1024.Idx → EReal) (ix2 n col) := by
  after_reads_at
  rw [dif_neg (by omega), dif_neg (by omega)]
  exact congrArg (fun z => (U (Proc.devRef .tc main_arg5) : S16384x1024.Idx → EReal) (ix2 n z)) (Fin.ext (by simp; omega))

theorem mod_at (n : Fin 8) (col : Fin 6144) :
    (StableHlo.after hostOps0 U (Proc.devRef .tc main_v4) : S16x1x6144.Idx → EReal) (ix3 ⟨1 + n.val, by omega⟩ 0 col)
      = (U (Proc.devRef .tc main_arg6) : S8x1x6144.Idx → EReal) (ix3 n 0 col) := by
  after_reads_at
end

theorem b0 (c : Dev nD) (t : Fin cfg0.N) (r : Fin 512) (k : Fin 1024) (n : Fin 16384) (hn : n.val = t.val * 512 + r.val) :
    iblk m c 0 t (ix2 r k) = m ((c : Thread nD τ).loc main_arg0) (ix3 ⟨n.val / 2048, by omega⟩ ⟨n.val % 2048, by omega⟩ k) := by
  blk_point [iblk, V, idx0_0 t]
theorem b1 (c : Dev nD) (t : Fin cfg0.N) (r : Fin 512) (k : Fin 1024) (n : Fin 16384) (hn : n.val = t.val * 512 + r.val) :
    iblk m c 1 t (ix2 r k) = m ((c : Thread nD τ).loc main_arg1) (ix2 n k) := by
  blk_point [iblk, V, idx0_1 t]
theorem b2 (c : Dev nD) (t : Fin cfg0.N) (r : Fin 512) (k : Fin 2048) (n : Fin 16384) (hn : n.val = t.val * 512 + r.val) :
    iblk m c 2 t (ix2 r k) = m ((c : Thread nD τ).loc main_arg2) (ix2 n k) := by
  blk_point [iblk, V, idx0_2 t]
theorem b3 (c : Dev nD) (t : Fin cfg0.N) (r : Fin 512) (k : Fin 1024) (n : Fin 16384) (hn : n.val = t.val * 512 + r.val) :
    iblk m c 3 t (ix2 r k) = m ((c : Thread nD τ).loc main_arg4) (ix2 n k) := by
  have e : iblk m c 3 t (ix2 r k) = V m c main_v1 (ix2 n ⟨3072 + k.val, by omega⟩) := by
    blk_simp [iblk]
    refine congrArg _ ((eq_ix2 _).trans ?_)
    refine congr (congrArg ix2 (Fin.ext ?_)) (Fin.ext ?_) <;> blk_simp [idx0_3 t]
    omega
  exact e.trans (pa_at _ n k)
theorem b4 (c : Dev nD) (t : Fin cfg0.N) (r : Fin 512) (k : Fin 1024) (n : Fin 16384) (hn : n.val = t.val * 512 + r.val) :
    iblk m c 4 t (ix2 r k) = m ((c : Thread nD τ).loc main_arg5) (ix2 n k) := by
  have e : iblk m c 4 t (ix2 r k) = V m c main_v1 (ix2 n ⟨4096 + k.val, by omega⟩) := by
    blk_simp [iblk]
    refine congrArg _ ((eq_ix2 _).trans ?_)
    refine congr (congrArg ix2 (Fin.ext ?_)) (Fin.ext ?_) <;> blk_simp [idx0_4 t]
    omega
  exact e.trans (pb_at _ n k)
theorem b5 (c : Dev nD) (t : Fin cfg0.N) (k : Fin 6144) (n : Fin 8) (hn : n.val = t.val / 4) :
    iblk m c 5 t (ix3 0 0 k) = m ((c : Thread nD τ).loc main_arg6) (ix3 n 0 k) := by
  have e : iblk m c 5 t (ix3 0 0 k) = V m c main_v4 (ix3 ⟨1 + n.val, by omega⟩ 0 k) := by
    blk_simp [iblk]
    refine congrArg _ ((eq_ix3 _).trans ?_)
    refine congr (congr (congrArg ix3 (Fin.ext ?_)) (Fin.ext ?_)) (Fin.ext ?_) <;> blk_simp [idx0_5 t]
    simp; omega
  exact e.trans (mod_at _ n k)
theorem b6 (c : Dev nD) (t : Fin cfg0.N) (k : Fin 2048) :
    iblk m c 6 t (ix2 0 k) = m ((c : Thread nD τ).loc main_arg7) (ix1 k) := by
  blk_point [iblk, V, idx0_6 t]
theorem b7 (c : Dev nD) (t : Fin cfg0.N) (j k : Fin 1024) :
    iblk m c 7 t (ix2 j k) = m ((c : Thread nD τ).loc main_arg8) (ix2 j k) := by
  blk_point [iblk, V, idx0_7 t]
theorem b8 (c : Dev nD) (t : Fin cfg0.N) (j : Fin 2048) (k : Fin 1024) :
    iblk m c 8 t (ix2 j k) = m ((c : Thread nD τ).loc main_arg9) (ix2 j k) := by
  blk_point [iblk, V, idx0_8 t]
theorem b9 (c : Dev nD) (t : Fin cfg0.N) (j k : Fin 1024) :
    iblk m c 9 t (ix2 j k) = m ((c : Thread nD τ).loc main_arg10) (ix2 j k) := by
  blk_point [iblk, V, idx0_9 t]

theorem final (c : Dev nD) : (dats m 0 c).arrAt 10 cfg0.N = spec m c := by
  refine (dats m 0 c).arrAt_eq_of_covers 10 _ (by decide +kernel) fun t hf y => ?_
  have ht : t.val < 32 := t.isLt
  have hemb : ∃ (r : Fin 512) (k : Fin 1024), y = ix2 r k ∧ ((cfg0.win 10).blk t).view.emb y = ix2 (⟨t.val * 512 + r.val, by omega⟩ : Fin 16384) k := by
    obtain ⟨r, k, rfl⟩ : ∃ (r : Fin 512) (k : Fin 1024), y = ix2 r k := ⟨y 0, y 1, eq_ix2 y⟩
    refine ⟨r, k, rfl, (eq_ix2 _).trans ?_⟩
    refine congr (congrArg ix2 (Fin.ext ?_)) (Fin.ext ?_) <;> blk_simp [idx0_10 t]
  obtain ⟨r, k, rfl, he⟩ := hemb
  rw [he]
  show (dats m 0 c).after 10 t (ix2 r k) = _
  rw [after0_10]
  refine (out_at _ _ _ _ _ _ _ _ _ _ r k).trans ?_
  have hr := r.isLt
  obtain ⟨n, hn⟩ : ∃ n : Fin 16384, n.val = t.val * 512 + r.val := ⟨⟨t.val * 512 + r.val, by omega⟩, rfl⟩
  have e0 := b0 m c t r k n hn
  have e5 := b5 m c t (Fin.ofNat 6144 (2048 + k.val)) ⟨n.val / 2048, by omega⟩ (by simp; omega)
  have e1 := fun k => b1 m c t r k n hn
  have e2 := fun k => b2 m c t r k n hn
  have e3 := fun k => b3 m c t r k n hn
  have e4 := fun k => b4 m c t r k n hn
  have e6 := b6 m c t
  have e7 := b7 m c t
  have e8 := b8 m c t
  have e9 := b9 m c t
  rw [e0, e5, funext e1, funext e2, funext e3, funext e4, funext e6, funext fun a => funext (e7 a), funext fun a => funext (e8 a), funext fun a => e9 a k]
  have hn' : (⟨t.val * 512 + r.val, by omega⟩ : Fin 16384) = n := Fin.ext hn.symm
  rw [hn']
  have hk : Fin.ofNat 6144 (2048 + k.val) = ⟨2048 + k.val, by omega⟩ := Fin.ext (Nat.mod_eq_of_lt (by omega))
  rw [hk]
  rfl

end Cert.MergeLatIdeal.Gen
-- ==== Proof.Layer.MergeLat.Ref.lean ====
/-
  The merge reference's result, read at every element.
-/
module

public import proofs.«01_k».proof.Proof.Gen.MergeLatReferenceIdeal.Read
public import proofs.«01_k».proof.Proof.Layer.MergeLat.Spec

@[expose] public section

set_option maxRecDepth 16384

noncomputable section

open Idealize.ShloMosaic Idealize.ShloMosaic.TcCoe Idealize.SL.Sem

namespace Cert.MergeLatReferenceIdeal.Read
open Cert.MergeLatReferenceIdeal Cert.Layer

variable (x0 : S8x2048x1024.Idx → EReal) (x1 : S16384x1024.Idx → EReal) (x2 : S16384x2048.Idx → EReal) (x4 x5 : S16384x1024.Idx → EReal)
  (x6 : S8x1x6144.Idx → EReal) (x7 : S2048.Idx → EReal) (x8 : S1024x1024.Idx → EReal) (x9 : S2048x1024.Idx → EReal) (x10 : S1024x1024.Idx → EReal)

theorem gate_at (n : Fin 16384) (c : Fin 1024) :
    val_main_v3 (F := Ideal) x6 (ix2 n c) = x6 (ix3 ⟨n.val / 2048, by omega⟩ 0 ⟨2048 + c.val, by omega⟩) := by
  pointwise [val_main_v3, val_main_v2, val_main_v1, val_main_v0]

theorem norm_at (n : Fin 16384) (k : Fin 2048) :
    val_main_v16 (F := Ideal) x2 x7 (ix2 n k) = rms dimW epsW (fun k => x2 (ix2 n k)) k * x7 (ix1 k) := by
  pointwise [val_main_v16, val_main_v13, val_main_v12, val_main_v11, val_main_v10, val_main_v8, val_main_v6, val_main_v5, val_main_v4,
    val_main_v7, val_main_v9, val_main_v15, val_main_v14, val_main_cst, val_main_cst_0, val_main_cst_1]
  rfl

theorem siga_at (n : Fin 16384) (k : Fin 1024) :
    val_main_v22 (F := Ideal) x4 (ix2 n k) = Ideal.div 1 (1 + Ideal.exp (-x4 (ix2 n k))) := by
  pointwise [val_main_v22, val_main_v21, val_main_v20, val_main_v19, val_main_v18, val_main_v17, val_main_cst_2, val_main_cst_3]

theorem sigb_at (n : Fin 16384) (k : Fin 1024) :
    val_main_v30 (F := Ideal) x5 (ix2 n k) = Ideal.div 1 (1 + Ideal.exp (-x5 (ix2 n k))) := by
  pointwise [val_main_v30, val_main_v29, val_main_v28, val_main_v27, val_main_v26, val_main_v25, val_main_cst_4, val_main_cst_5]

theorem ssd_at (n : Fin 16384) (j : Fin 1024) :
    val_main_v31 (F := Ideal) x2 x7 x9 (ix2 n j) = ∑ k : Fin 2048, rms dimW epsW (fun k => x2 (ix2 n k)) k * x7 (ix1 k) * x9 (ix2 k j) := by
  have h := norm_at x2 x7 n
  unfold val_main_v31
  generalize val_main_v16 (F := Ideal) x2 x7 = z at *
  pointwise
  simp only [h]

theorem mix_at (n : Fin 16384) (j : Fin 1024) :
    val_main_v33 (F := Ideal) x1 x2 x4 x5 x7 x8 x9 (ix2 n j)
      = Ideal.div 1 (1 + Ideal.exp (-x4 (ix2 n j))) * (∑ k : Fin 1024, x1 (ix2 n k) * x8 (ix2 k j))
        + Ideal.div 1 (1 + Ideal.exp (-x5 (ix2 n j))) * ∑ k : Fin 2048, rms dimW epsW (fun k => x2 (ix2 n k)) k * x7 (ix1 k) * x9 (ix2 k j) := by
  have h1 := siga_at x4 n j
  have h2 := sigb_at x5 n j
  have h3 := ssd_at x2 x7 x9 n j
  unfold val_main_v33 val_main_v32 val_main_v24
  generalize val_main_v22 (F := Ideal) x4 = a at *
  generalize val_main_v30 (F := Ideal) x5 = b at *
  generalize val_main_v31 (F := Ideal) x2 x7 x9 = d at *
  pointwise [val_main_v23]
  rw [h1, h2, h3]

theorem result_at (n : Fin 16384) (c : Fin 1024) :
    val_main_v37 (F := Ideal) x0 x1 x2 x4 x5 x6 x7 x8 x9 x10 (ix2 n c) = mergeLat x0 x1 x2 x4 x5 x6 x7 x8 x9 x10 n c := by
  have h1 := gate_at x6 n c
  have h2 := fun j => mix_at x1 x2 x4 x5 x7 x8 x9 n j
  unfold val_main_v37 val_main_v36 val_main_v35 mergeLat mergeAt
  generalize val_main_v3 (F := Ideal) x6 = a at *
  generalize val_main_v33 (F := Ideal) x1 x2 x4 x5 x7 x8 x9 = b at *
  pointwise [val_main_v34]
  rw [h1]
  simp only [h2]

end Cert.MergeLatReferenceIdeal.Read
-- ==== Proof.Layer.MergeLat.Run.lean ====
/-
  The merge: the call's result is the reference's.
-/
module

public import proofs.«01_k».proof.Defs
public import proofs.«01_k».proof.Proof.Layer.MergeLat.Arr
public import proofs.«01_k».proof.Proof.Layer.MergeLat.Ref
public import proofs.«01_k».proof.Proof.Gen.MergeLatReferenceIdeal.Run

@[expose] public section

set_option maxRecDepth 16384

noncomputable section

open Idealize.ShloMosaic Idealize.ShloMosaic.TcCoe Idealize.SL.Sem

namespace Cert.Layer.MergeLat

theorem frame_reference : Cert.quiescent_MergeLatReferenceIdeal (hMergeLatReferenceIdeal := Cert.MergeLatReferenceIdeal.Gen.facts) := fun m ρ _ =>
  (θ_run _ _ _).mono (fun _ h => ⟨fun c => (h c).2, sem_eq_zero_of_no_sems rfl _⟩) (Cert.MergeLatReferenceIdeal.Value.run (F := Ideal) m ρ)

set_option maxHeartbeats 1000000 in
theorem algebraic : Cert.algebraic_MergeLatIdeal_MergeLatReferenceIdeal (hMergeLatIdeal := Cert.MergeLatIdeal.Gen.facts)
    (hMergeLatReferenceIdeal := Cert.MergeLatReferenceIdeal.Gen.facts) := by
  intro m g m' g' hpre hargs
  refine ⟨fun c => Cert.MergeLatIdeal.Gen.spec m c,
    (θ_run _ _ _).mono (fun _ h c => ⟨(h c).1.trans (Cert.MergeLatIdeal.Gen.final m c), (h c).2⟩) (Cert.MergeLatIdeal.Value.run_blocks m g),
    (θ_run _ _ _).mono (fun _ h c => ⟨(h c).1.trans ?_, (h c).2⟩) (Cert.MergeLatReferenceIdeal.Value.run (F := Ideal) m' g')⟩
  obtain ⟨a0, a1, a2, a3, a4, a5, a6, a7, a8, a9, a10⟩ := hargs c
  rw [Cert.MergeLatReferenceIdeal.Read.val_main_v37_eq, a0, a1, a2, a4, a5, a6, a7, a8, a9, a10]
  funext i
  rw [eq_ix2 i]
  exact Cert.MergeLatReferenceIdeal.Read.result_at _ _ _ _ _ _ _ _ _ _ _ _

end Cert.Layer.MergeLat
-- ==== Proof.Layer.Ffn.lean ====
/-
  The arithmetic of the feed-forward layer and of the first norm: a row's norm and modulation, the convolved up-projection, and
  the activation, which the programs write two ways that agree at finite numbers.
-/
module

public import proofs.«01_k».proof.Proof.Layer.Math

@[expose] public section

noncomputable section

open Idealize.ShloMosaic
open scoped BigOperators

namespace Cert.Layer

/-- A row normed, scaled by the weight, and modulated. -/
def normMod {w : Nat} (n e : EReal) (x g sc sh : Fin w → EReal) (k : Fin w) : EReal := rms n e x k * g k * (1 + sc k) + sh k

/-- One element of the up-projection of a normed row. -/
def upAt (x g sc sh w : Fin 1024 → EReal) : EReal := ∑ k : Fin 1024, normMod modW epsW x g sc sh k * w k

/-- The activation as the kernel has it, from the hyperbolic tangent of half the argument. -/
def siluK (x : EReal) : EReal := ((1 / 2 : ℝ) : EReal) * x + ((1 / 2 : ℝ) : EReal) * x * Ideal.tanh (((1 / 2 : ℝ) : EReal) * x)

/-- The activation as the reference has it. -/
def siluR (x : EReal) : EReal := x * Ideal.div 1 (1 + Ideal.exp (-x))

theorem silu_coe (r : ℝ) : siluK (r : EReal) = siluR (r : EReal) := by
  unfold siluK siluR
  rw [← sigm]
  rw [← EReal.coe_mul, Ideal.tanh_coe]
  simp only [← EReal.coe_mul, ← EReal.coe_add]
  congr 1
  ring

/-- The up-projection convolved along the tokens: the previous row, the row, the next row; a missing one counts as zero. -/
def convUp (hasL hasR : Bool) (xl xs xn g sc sh : Fin 1024 → EReal) (c0 c1 c2 b : EReal) (w : Fin 1024 → EReal) : EReal :=
  c0 * (if hasL then upAt xl g sc sh w else 0) + c1 * upAt xs g sc sh w + c2 * (if hasR then upAt xn g sc sh w else 0) + b

/-- One element of the layer's second half. -/
def ffnAt (act : EReal → EReal) (x gt : EReal) (hasL hasR : Bool) (xl xs xn g sc sh : Fin 1024 → EReal)
    (w : Fin 1024 → Fin 5632 → EReal) (c0 c1 c2 b : Fin 5632 → EReal) (wd : Fin 2816 → EReal) : EReal :=
  x + gt * ∑ f : Fin 2816,
    act (convUp hasL hasR xl xs xn g sc sh (c0 ⟨2816 + f.val, by omega⟩) (c1 ⟨2816 + f.val, by omega⟩) (c2 ⟨2816 + f.val, by omega⟩)
        (b ⟨2816 + f.val, by omega⟩) (fun k => w k ⟨2816 + f.val, by omega⟩))
      * convUp hasL hasR xl xs xn g sc sh (c0 ⟨f.val, by omega⟩) (c1 ⟨f.val, by omega⟩) (c2 ⟨f.val, by omega⟩) (b ⟨f.val, by omega⟩)
        (fun k => w k ⟨f.val, by omega⟩)
      * wd f

/-- A number that is finite. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩
theorem Fin'.mul {x y : EReal} : Fin' x → Fin' y → Fin' (x * y) := by
  rintro ⟨a, rfl⟩ ⟨b, rfl⟩; exact ⟨a * b, (EReal.coe_mul a b).symm⟩
theorem Fin'.zero : Fin' 0 := ⟨0, rfl⟩
theorem Fin'.one : Fin' 1 := ⟨1, rfl⟩
theorem Fin'.ite {p : Prop} [Decidable p] {x : EReal} (h : Fin' x) : Fin' (if p then x else 0) := by
  split
  · exact h
  · exact Fin'.zero
theorem coe_sum {ι : Type} (s : Finset ι) (r : ι → ℝ) : ((∑ i ∈ s, r i : ℝ) : EReal) = ∑ i ∈ s, (r i : EReal) := by
  classical
  induction s using Finset.induction_on with
  | empty => simp
  | insert a s h ih => rw [Finset.sum_insert h, Finset.sum_insert h, EReal.coe_add, ih]
theorem Fin'.sum {ι : Type} (s : Finset ι) (f : ι → EReal) (h : ∀ i, Fin' (f i)) : Fin' (∑ i ∈ s, f i) := by
  choose r hr using h
  exact ⟨∑ i ∈ s, r i, by simp only [hr]; exact (coe_sum s r).symm⟩

theorem modW_eq : modW = ((1024 : ℝ) : EReal) := by
  simp [Ideal.ofBits, Ideal.ieee]
  rw [← EReal.coe_mul]; norm_num

theorem epsW_pos : ∃ e : ℝ, 0 < e ∧ epsW = (e : EReal) := by
  refine ⟨8796093 / 2 ^ 43, by norm_num, ?_⟩
  simp [Ideal.ofBits, Ideal.ieee]
  rw [← EReal.coe_mul]; norm_num

theorem Fin'.rms {x : Fin 1024 → EReal} (h : ∀ k, Fin' (x k)) (k : Fin 1024) : Fin' (rms modW epsW x k) := by
  choose r hr using h
  obtain ⟨e, he, hE⟩ := epsW_pos
  unfold Cert.Layer.rms
  rw [hE, modW_eq]
  simp only [hr, ← EReal.coe_mul]
  have hs : (∑ j : Fin 1024, ((r j * r j : ℝ) : EReal)) = ((∑ j : Fin 1024, r j * r j : ℝ) : EReal) := (coe_sum _ _).symm
  rw [hs, Ideal.div_coe (by norm_num), ← EReal.coe_mul, ← EReal.coe_add]
  have hp : 0 < (∑ j : Fin 1024, r j * r j) * (1 / 1024) + e := by
    have : 0 ≤ ∑ j : Fin 1024, r j * r j := Finset.sum_nonneg fun j _ => mul_self_nonneg _
    positivity
  exact Fin'.mul ⟨_, rfl⟩ ⟨_, (Ideal.rsqrt_coe _).trans ((if_neg hp.not_gt).trans (if_neg hp.ne'))⟩

theorem Fin'.normMod {x g sc sh : Fin 1024 → EReal} (hx : ∀ k, Fin' (x k)) (hg : ∀ k, Fin' (g k)) (hc : ∀ k, Fin' (sc k)) (hh : ∀ k, Fin' (sh k))
    (k : Fin 1024) : Fin' (normMod modW epsW x g sc sh k) :=
  (((Fin'.rms hx k).mul (hg k)).mul (Fin'.one.add (hc k))).add (hh k)

theorem Fin'.upAt {x g sc sh w : Fin 1024 → EReal} (hx : ∀ k, Fin' (x k)) (hg : ∀ k, Fin' (g k)) (hc : ∀ k, Fin' (sc k)) (hh : ∀ k, Fin' (sh k))
    (hw : ∀ k, Fin' (w k)) : Fin' (upAt x g sc sh w) :=
  Fin'.sum _ _ fun k => (Fin'.normMod hx hg hc hh k).mul (hw k)

theorem Fin'.silu {x : EReal} : Fin' x → siluK x = siluR x := by
  rintro ⟨r, rfl⟩; exact silu_coe r

theorem ffnAt_act (x gt : EReal) (hasL hasR : Bool) (xl xs xn g sc sh : Fin 1024 → EReal)
    (w : Fin 1024 → Fin 5632 → EReal) (c0 c1 c2 b : Fin 5632 → EReal) (wd : Fin 2816 → EReal)
    (hl : ∀ k, Fin' (xl k)) (hs : ∀ k, Fin' (xs k)) (hn : ∀ k, Fin' (xn k)) (hg : ∀ k, Fin' (g k)) (hc : ∀ k, Fin' (sc k)) (hh : ∀ k, Fin' (sh k))
    (hw : ∀ k (f : Fin 2816), Fin' (w k ⟨2816 + f.val, by omega⟩)) (h0 : ∀ f : Fin 2816, Fin' (c0 ⟨2816 + f.val, by omega⟩))
    (h1 : ∀ f : Fin 2816, Fin' (c1 ⟨2816 + f.val, by omega⟩)) (h2 : ∀ f : Fin 2816, Fin' (c2 ⟨2816 + f.val, by omega⟩))
    (hb : ∀ f : Fin 2816, Fin' (b ⟨2816 + f.val, by omega⟩)) :
    ffnAt siluK x gt hasL hasR xl xs xn g sc sh w c0 c1 c2 b wd = ffnAt siluR x gt hasL hasR xl xs xn g sc sh w c0 c1 c2 b wd := by
  unfold ffnAt
  congr 2
  refine Finset.sum_congr rfl fun f _ => ?_
  rw [Fin'.silu]
  exact ((((h0 f).mul (Fin'.upAt hl hg hc hh fun k => hw k f).ite).add ((h1 f).mul (Fin'.upAt hs hg hc hh fun k => hw k f))).add
    ((h2 f).mul (Fin'.upAt hn hg hc hh fun k => hw k f).ite)).add (hb f)

end Cert.Layer
-- ==== Proof.Layer.FfnLat.Out.lean ====
/-
  What one point of the feed-forward call stores, at every element: the normed rows and their neighbours' in one scratch, the
  activated columns, a block of 256 at a time, in another.
-/
module

public import proofs.«01_k».proof.Proof.Gen.FfnLatIdeal.Value
public import proofs.«01_k».proof.Proof.Layer.Ffn
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.FfnLatIdeal.Gen
open Cert.Layer

variable (m : (l : Loc nD τ sig) → Buf (Elt Ideal) l)

/-- The convolved up-projection of row `r` of a point, from the up-projections `u` of its rows: 512 of its own, then the eight
    before and the eight after. -/
def convRow (kb ka : BitVec 1) (u : Fin 528 → EReal) (c0 c1 c2 b : EReal) (r : Fin 512) : EReal :=
  c0 * (if h : r.val = 0 then Scalar.select kb (u 519) 0 else u ⟨r.val - 1, by omega⟩) + c1 * u ⟨r.val, by omega⟩
    + c2 * (if h : r.val = 511 then Scalar.select ka (u 520) 0 else u ⟨r.val + 1, by omega⟩) + b

theorem conv_at (kb ka : BitVec 1) (H : S528x1024.Idx → EReal) (w : S1024x256.Idx → EReal) (cw : S3x256.Idx → EReal) (cb : S1x256.Idx → EReal) (r : Fin 512) (x : Fin 256) :
    k0_pay53 (F := Ideal) kb ka H w cw cb (ix2 r x)
      = convRow kb ka (fun row => ∑ k : Fin 1024, H (ix2 row k) * w (ix2 k x)) (cw (ix2 0 x)) (cw (ix2 1 x)) (cw (ix2 2 x)) (cb (ix2 0 x)) r := by
  pointwise [k0_pay53]
  unfold convRow
  have hr := r.isLt
  refine congr (congrArg HAdd.hAdd (congr (congrArg HAdd.hAdd (congr (congrArg HAdd.hAdd (congrArg _ ?_)) rfl)) (congrArg _ ?_))) rfl
  · by_cases h0 : r.val = 0
    on_goal 1 => rw [dif_pos h0]
    on_goal 2 => rw [dif_neg h0]
    all_goals split_ifs
    all_goals first
      | omega
      | exact congrArg (fun z => Scalar.select kb z 0) (congrArg (fun z : Fin 528 => ∑ k : Fin 1024, H (ix2 z k) * w (ix2 k x)) (Fin.ext (by first | omega | (simp; done) | (simp; omega) | (show _ = (_ : Nat); change _ = 519; omega) | (change _ = 520; omega))))
      | exact congrArg (fun z : Fin 528 => ∑ k : Fin 1024, H (ix2 z k) * w (ix2 k x)) (Fin.ext (by first | omega | (simp; done) | (simp; omega) | (show _ = (_ : Nat); change _ = 519; omega) | (change _ = 520; omega)))
  · by_cases h0 : r.val = 511
    on_goal 1 => rw [dif_pos h0]
    on_goal 2 => rw [dif_neg h0]
    all_goals split_ifs
    all_goals first
      | omega
      | exact congrArg (fun z => Scalar.select ka z 0) (congrArg (fun z : Fin 528 => ∑ k : Fin 1024, H (ix2 z k) * w (ix2 k x)) (Fin.ext (by first | omega | (simp; done) | (simp; omega) | (show _ = (_ : Nat); change _ = 519; omega) | (change _ = 520; omega))))
      | exact congrArg (fun z : Fin 528 => ∑ k : Fin 1024, H (ix2 z k) * w (ix2 k x)) (Fin.ext (by first | omega | (simp; done) | (simp; omega) | (show _ = (_ : Nat); change _ = 519; omega) | (change _ = 520; omega)))

/-- A block of 256 activated columns: the gate's activation times the value. -/
def tile (kb ka : BitVec 1) (H : S528x1024.Idx → EReal) (wv : S1024x256.Idx → EReal) (cwv : S3x256.Idx → EReal) (cbv : S1x256.Idx → EReal)
    (wg : S1024x256.Idx → EReal) (cwg : S3x256.Idx → EReal) (cbg : S1x256.Idx → EReal) : S512x256.Idx → EReal :=
  k0_pay54 (F := Ideal) kb ka (k0_pay53 (F := Ideal) kb ka H wv cwv cbv) H wg cwg cbg

theorem act_at (kb ka : BitVec 1) (V : S512x256.Idx → EReal) (H : S528x1024.Idx → EReal) (w : S1024x256.Idx → EReal) (cw : S3x256.Idx → EReal) (cb : S1x256.Idx → EReal) (r : Fin 512) (x : Fin 256) :
    k0_pay54 (F := Ideal) kb ka V H w cw cb (ix2 r x) = siluK (k0_pay53 (F := Ideal) kb ka H w cw cb (ix2 r x)) * V (ix2 r x) := by
  pointwise [k0_pay54, k0_pay53, siluK]
  simp only [half_word]

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_wd {e : EltTy} {n w : Nat} (X : (⟨2, ![n, w]⟩ : Shape).Idx → Elt Ideal e) (o z : Nat) (inb) (k : Fin z) (x : Fin w) (h : o + k.val < n) :
    View.ld (Val := Elt Ideal) (e' := e) (S := ⟨2, ![n, w]⟩) X (Rect.unit ![o, 0] ![z, w] inb) (ix2 k x) = X (ix2 ⟨o + k.val, h⟩ x) :=
  View.ld_unit_apply_of (Val := Elt Ideal) (e := e) X _ _ inb (ix2 k x) (ix2 ⟨o + k.val, h⟩ x) fun a => by
    match a with
    | ⟨0, _⟩ => rfl
    | ⟨1, _⟩ => exact (Nat.zero_add _).symm

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

/-- One activated column of the layer, at row `r` of a point. -/
def actCol (kb ka : BitVec 1) (H : S528x1024.Idx → EReal) (w : S1024x5632.Idx → EReal) (cw : S3x5632.Idx → EReal) (cb : S1x5632.Idx → EReal)
    (r : Fin 512) (f : Fin 5632) : EReal :=
  convRow kb ka (fun row => ∑ k : Fin 1024, H (ix2 row k) * w (ix2 k f)) (cw (ix2 0 f)) (cw (ix2 1 f)) (cw (ix2 2 f)) (cb (ix2 0 f)) r

theorem tile_at (kb ka : BitVec 1) (H : S528x1024.Idx → EReal) (w : S1024x5632.Idx → EReal) (cw : S3x5632.Idx → EReal) (cb : S1x5632.Idx → EReal)
    (o og : Nat) (ho : og = 2816 + o) (i1 i2 i3 i4 i5 i6) (r : Fin 512) (x : Fin 256) (h : o + x.val < 2816) :
    tile kb ka H (View.ld (Val := Elt Ideal) (e' := .bf16) (S := S1024x5632) w (Rect.unit ![0, o] ![1024, 256] i1))
      (View.ld (Val := Elt Ideal) (e' := .f32) (S := S3x5632) cw (Rect.unit ![0, o] ![3, 256] i2))
      (View.ld (Val := Elt Ideal) (e' := .f32) (S := S1x5632) cb (Rect.unit ![0, o] ![1, 256] i3))
      (View.ld (Val := Elt Ideal) (e' := .bf16) (S := S1024x5632) w (Rect.unit ![0, og] ![1024, 256] i4))
      (View.ld (Val := Elt Ideal) (e' := .f32) (S := S3x5632) cw (Rect.unit ![0, og] ![3, 256] i5))
      (View.ld (Val := Elt Ideal) (e' := .f32) (S := S1x5632) cb (Rect.unit ![0, og] ![1, 256] i6)) (ix2 r x)
      = siluK (actCol kb ka H w cw cb r ⟨2816 + (o + x.val), by omega⟩) * actCol kb ka H w cw cb r ⟨o + x.val, by omega⟩ := by
  have e : (⟨2816 + (o + x.val), by omega⟩ : Fin 5632) = ⟨og + x.val, by omega⟩ := Fin.ext (by subst ho; exact (Nat.add_assoc _ _ _).symm)
  rw [e]
  unfold tile actCol
  rw [act_at, conv_at, conv_at]
  refine congr (congrArg HMul.hMul (congrArg siluK ?_)) ?_
  · refine (congr (congr (congr (congr (congr (congrArg (convRow kb ka) ?_) ?_) ?_) ?_) ?_) rfl)
    · funext row
      exact Finset.sum_congr rfl fun k _ => congrArg (fun z : EReal => H (ix2 row k) * z) (ld_w (e := .bf16) w og 256 i4 k x _)
    · exact ld_w (e := .f32) cw og 256 i5 0 x _
    · exact ld_w (e := .f32) cw og 256 i5 1 x _
    · exact ld_w (e := .f32) cw og 256 i5 2 x _
    · exact ld_w (e := .f32) cb og 256 i6 0 x _
  · refine (congr (congr (congr (congr (congr (congrArg (convRow kb ka) ?_) ?_) ?_) ?_) ?_) rfl)
    · funext row
      exact Finset.sum_congr rfl fun k _ => congrArg (fun z : EReal => H (ix2 row k) * z) (ld_w (e := .bf16) w o 256 i1 k x _)
    · exact ld_w (e := .f32) cw o 256 i2 0 x _
    · exact ld_w (e := .f32) cw o 256 i2 1 x _
    · exact ld_w (e := .f32) cw o 256 i2 2 x _
    · exact ld_w (e := .f32) cb o 256 i3 0 x _

section
variable (kb ka : BitVec 1) (H : S528x1024.Idx → EReal) (wv : S1024x256.Idx → EReal) (cwv : S3x256.Idx → EReal) (cbv : S1x256.Idx → EReal)
  (wg : S1024x256.Idx → EReal) (cwg : S3x256.Idx → EReal) (cbg : S1x256.Idx → EReal)
theorem tile_0 (a0 : BitVec 32) (hb : Scalar.cmpi CmpIPredicate.ne (Scalar.andi (Scalar.muli a0 512#32) 2047#32) 0#32 = kb)
    (ha : Scalar.cmpi CmpIPredicate.ne (Scalar.andi (Scalar.addi (Scalar.muli a0 512#32) 512#32) 2047#32) 0#32 = ka) :
    k0_pay17 (F := Ideal) (k0_pay12 (F := Ideal) (k0_pay9 (F := Ideal) H wv) (k0_pay10 (F := Ideal) a0 H wv) (k0_pay11 (F := Ideal) a0 H wv) cwv cbv) (k0_pay15 (F := Ideal) kb ka H wg) cwg (k0_pay16 (F := Ideal) kb ka H wg cwg) cbg
      = tile kb ka H wv cwv cbv wg cwg cbg := by
  subst hb ha
  rfl
theorem tile_1 : k0_pay25 (F := Ideal) (k0_pay22 (F := Ideal) (k0_pay20 (F := Ideal) kb ka H wv) cwv (k0_pay21 (F := Ideal) kb ka H wv cwv) cbv) (k0_pay23 (F := Ideal) kb ka H wg cwg cbg) (k0_pay24 (F := Ideal) kb ka H wg cwg cbg)
      = tile kb ka H wv cwv cbv wg cwg cbg := rfl
theorem tile_2 : k0_pay27 (F := Ideal) kb ka (k0_pay26 (F := Ideal) kb ka H wv cwv cbv) H wg cwg cbg
      = tile kb ka H wv cwv cbv wg cwg cbg := rfl
theorem tile_3 : k0_pay33 (F := Ideal) (k0_pay28 (F := Ideal) kb ka H wv cwv cbv) (k0_pay29 (F := Ideal) H wg) (k0_pay30 (F := Ideal) kb H wg) (k0_pay31 (F := Ideal) ka H wg) (k0_pay32 (F := Ideal) H wg) cwg cbg
      = tile kb ka H wv cwv cbv wg cwg cbg := rfl
theorem tile_4 : k0_pay44 (F := Ideal) (k0_pay38 (F := Ideal) (k0_pay34 (F := Ideal) H wv) (k0_pay35 (F := Ideal) kb H wv) (k0_pay36 (F := Ideal) ka H wv) (k0_pay37 (F := Ideal) H wv) cwv cbv) (k0_pay39 (F := Ideal) H wg) (k0_pay41 (F := Ideal) kb ka H wg) cwg (k0_pay42 (F := Ideal) kb ka H wg cwg) (k0_pay43 (F := Ideal) cwg) cbg
      = tile kb ka H wv cwv cbv wg cwg cbg := rfl
theorem tile_5 : k0_pay52 (F := Ideal) (k0_pay50 (F := Ideal) (k0_pay45 (F := Ideal) H wv) (k0_pay47 (F := Ideal) kb ka H wv) cwv (k0_pay48 (F := Ideal) kb ka H wv cwv) (k0_pay49 (F := Ideal) cwv) cbv) (k0_pay51 (F := Ideal) kb ka H wg cwg cbg)
      = tile kb ka H wv cwv cbv wg cwg cbg := rfl
theorem tile_6 : k0_pay54 (F := Ideal) kb ka (k0_pay53 (F := Ideal) kb ka H wv cwv cbv) H wg cwg cbg
      = tile kb ka H wv cwv cbv wg cwg cbg := rfl
theorem tile_7 : k0_pay59 (F := Ideal) ka (k0_pay55 (F := Ideal) kb ka H wv cwv cbv) (k0_pay56 (F := Ideal) H wg) (k0_pay57 (F := Ideal) kb H wg) (k0_pay58 (F := Ideal) H wg) cwg cbg
      = tile kb ka H wv cwv cbv wg cwg cbg := rfl
theorem tile_8 : k0_pay68 (F := Ideal) (k0_pay63 (F := Ideal) ka (k0_pay60 (F := Ideal) H wv) (k0_pay61 (F := Ideal) kb H wv) (k0_pay62 (F := Ideal) H wv) cwv cbv) (k0_pay64 (F := Ideal) H wg) (k0_pay66 (F := Ideal) kb ka H wg) (k0_pay67 (F := Ideal) kb ka H wg) cwg cbg
      = tile kb ka H wv cwv cbv wg cwg cbg := rfl
theorem tile_9 : k0_pay75 (F := Ideal) (k0_pay73 (F := Ideal) (k0_pay69 (F := Ideal) H wv) (k0_pay71 (F := Ideal) kb ka H wv) (k0_pay72 (F := Ideal) kb ka H wv) cwv cbv) (k0_pay74 (F := Ideal) kb ka H wg cwg) cbg
      = tile kb ka H wv cwv cbv wg cwg cbg := rfl
theorem tile_10 : k0_pay78 (F := Ideal) (k0_pay77 (F := Ideal) kb ka (k0_pay76 (F := Ideal) kb ka H wv cwv) cbv H wg cwg cbg)
      = tile kb ka H wv cwv cbv wg cwg cbg := rfl
end

section
variable (P0 P1 P2 P3 P4 P5 P6 P7 P8 P9 P10 : S512x256.Idx → EReal)
/-- The blocks of activated columns as the second scratch holds them, the last written first. -/
abbrev cols : List (View.Piece (Elt Ideal) S512x2816 .bf16) :=
  [⟨Rect.unit ![0, 2560] ![512, 256] inb_S512x2816_S512x256_0_2560, P10⟩, ⟨Rect.unit ![0, 2304] ![512, 256] inb_S512x2816_S512x256_0_2304, P9⟩, ⟨Rect.unit ![0, 2048] ![512, 256] inb_S512x2816_S512x256_0_2048, P8⟩, ⟨Rect.unit ![0, 1792] ![512, 256] inb_S512x2816_S512x256_0_1792, P7⟩, ⟨Rect.unit ![0, 1536] ![512, 256] inb_S512x2816_S512x256_0_1536, P6⟩, ⟨Rect.unit ![0, 1280] ![512, 256] inb_S512x2816_S512x256_0_1280, P5⟩, ⟨Rect.unit ![0, 1024] ![512, 256] inb_S512x2816_S512x256_0_1024, P4⟩, ⟨Rect.unit ![0, 768] ![512, 256] inb_S512x2816_S512x256_0_768, P3⟩, ⟨Rect.unit ![0, 512] ![512, 256] inb_S512x2816_S512x256_0_512, P2⟩, ⟨Rect.unit ![0, 256] ![512, 256] inb_S512x2816_S512x256_0_256, P1⟩, ⟨Rect.unit ![0, 0] ![512, 256] inb_S512x2816_S512x256_0_0, P0⟩]
theorem skip (P : S512x256.Idx → EReal) (L : List (View.Piece (Elt Ideal) S512x2816 .bf16)) (o o' : Nat) (i i') (h : o + 256 ≤ o') :
    (View.whole cc0_scratch1).readCov (⟨Rect.unit ![0, o'] ![512, 256] i', P⟩ :: L) (Rect.unit (s := S512x2816) ![0, o] ![512, 256] i).toLoadRect
      = (View.whole cc0_scratch1).readCov L (Rect.unit (s := S512x2816) ![0, o] ![512, 256] i).toLoadRect :=
  View.readCov_cons_of_disjoint _ _ _ _ (Rect.unit_disjoint (inb := i') (inb' := i) (1 : Fin 2) (Or.inr h))
theorem cols_0 : (View.whole cc0_scratch1).readCov (cols P0 P1 P2 P3 P4 P5 P6 P7 P8 P9 P10) (Rect.unit ![0, 0] ![512, 256] inb_S512x2816_S512x256_0_0).toLoadRect = P0 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))))))
theorem cols_1 : (View.whole cc0_scratch1).readCov (cols P0 P1 P2 P3 P4 P5 P6 P7 P8 P9 P10) (Rect.unit ![0, 256] ![512, 256] inb_S512x2816_S512x256_0_256).toLoadRect = P1 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))))))
theorem cols_2 : (View.whole cc0_scratch1).readCov (cols P0 P1 P2 P3 P4 P5 P6 P7 P8 P9 P10) (Rect.unit ![0, 512] ![512, 256] inb_S512x2816_S512x256_0_512).toLoadRect = P2 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))))
theorem cols_3 : (View.whole cc0_scratch1).readCov (cols P0 P1 P2 P3 P4 P5 P6 P7 P8 P9 P10) (Rect.unit ![0, 768] ![512, 256] inb_S512x2816_S512x256_0_768).toLoadRect = P3 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))))
theorem cols_4 : (View.whole cc0_scratch1).readCov (cols P0 P1 P2 P3 P4 P5 P6 P7 P8 P9 P10) (Rect.unit ![0, 1024] ![512, 256] inb_S512x2816_S512x256_0_1024).toLoadRect = P4 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))
theorem cols_5 : (View.whole cc0_scratch1).readCov (cols P0 P1 P2 P3 P4 P5 P6 P7 P8 P9 P10) (Rect.unit ![0, 1280] ![512, 256] inb_S512x2816_S512x256_0_1280).toLoadRect = P5 :=
  (skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))
theorem cols_6 : (View.whole cc0_scratch1).readCov (cols P0 P1 P2 P3 P4 P5 P6 P7 P8 P9 P10) (Rect.unit ![0, 1536] ![512, 256] inb_S512x2816_S512x256_0_1536).toLoadRect = P6 :=
  (skip _ _ _ _ _ _ (by decide)).trans ((skip _ _ _ _ _ _ (by decide)).trans ((skip _ _ _ _ _ _ (by decide)).trans ((skip _ _ _ _ _ _ (by decide)).trans (View.readCov_cons_toLoadRect _ _ _ _))))
theorem cols_7 : (View.whole cc0_scratch1).readCov (cols P0 P1 P2 P3 P4 P5 P6 P7 P8 P9 P10) (Rect.unit ![0, 1792] ![512, 256] inb_S512x2816_S512x256_0_1792).toLoadRect = P7 :=
  (skip _ _ _ _ _ _ (by decide)).trans ((skip _ _ _ _ _ _ (by decide)).trans ((skip _ _ _ _ _ _ (by decide)).trans (View.readCov_cons_toLoadRect _ _ _ _)))
theorem cols_8 : (View.whole cc0_scratch1).readCov (cols P0 P1 P2 P3 P4 P5 P6 P7 P8 P9 P10) (Rect.unit ![0, 2048] ![512, 256] inb_S512x2816_S512x256_0_2048).toLoadRect = P8 :=
  (skip _ _ _ _ _ _ (by decide)).trans ((skip _ _ _ _ _ _ (by decide)).trans (View.readCov_cons_toLoadRect _ _ _ _))
theorem cols_9 : (View.whole cc0_scratch1).readCov (cols P0 P1 P2 P3 P4 P5 P6 P7 P8 P9 P10) (Rect.unit ![0, 2304] ![512, 256] inb_S512x2816_S512x256_0_2304).toLoadRect = P9 :=
  (skip _ _ _ _ _ _ (by decide)).trans (View.readCov_cons_toLoadRect _ _ _ _)
theorem cols_10 : (View.whole cc0_scratch1).readCov (cols P0 P1 P2 P3 P4 P5 P6 P7 P8 P9 P10) (Rect.unit ![0, 2560] ![512, 256] inb_S512x2816_S512x256_0_2560).toLoadRect = P10 :=
  View.readCov_cons_toLoadRect _ _ _ _
end

theorem acc_at (A0 A1 A2 A3 A4 A5 A6 A7 A8 A9 A10 : S512x256.Idx → EReal) (W0 W1 W2 W3 W4 W5 W6 W7 W8 W9 W10 : S256x1024.Idx → EReal) (r : Fin 512) (c : Fin 1024) :
    k0_pay81 (F := Ideal) (k0_pay79 (F := Ideal) A0 W0 A1 W1 A2 W2 A3 W3 A4 W4) A5 (k0_pay80 (F := Ideal) W5) A6 W6 A7 W7 A8 W8 A9 W9 A10 W10 (ix2 r c)
      = (∑ k : Fin 256, A0 (ix2 r k) * W0 (ix2 k c)) + (∑ k : Fin 256, A1 (ix2 r k) * W1 (ix2 k c)) + (∑ k : Fin 256, A2 (ix2 r k) * W2 (ix2 k c)) + (∑ k : Fin 256, A3 (ix2 r k) * W3 (ix2 k c)) + (∑ k : Fin 256, A4 (ix2 r k) * W4 (ix2 k c)) + (∑ k : Fin 256, A5 (ix2 r k) * W5 (ix2 k c)) + (∑ k : Fin 256, A6 (ix2 r k) * W6 (ix2 k c)) + (∑ k : Fin 256, A7 (ix2 r k) * W7 (ix2 k c)) + (∑ k : Fin 256, A8 (ix2 r k) * W8 (ix2 k c)) + (∑ k : Fin 256, A9 (ix2 r k) * W9 (ix2 k c)) + (∑ k : Fin 256, A10 (ix2 r k) * W10 (ix2 k c)) := by
  pointwise [k0_pay81, k0_pay79, k0_pay80]

theorem sum11 (f : Fin 2816 → EReal) : ∑ k : Fin 2816, f k
    = (∑ k : Fin 256, f ⟨0 + k.val, by omega⟩) + (∑ k : Fin 256, f ⟨256 + k.val, by omega⟩) + (∑ k : Fin 256, f ⟨512 + k.val, by omega⟩) + (∑ k : Fin 256, f ⟨768 + k.val, by omega⟩) + (∑ k : Fin 256, f ⟨1024 + k.val, by omega⟩) + (∑ k : Fin 256, f ⟨1280 + k.val, by omega⟩) + (∑ k : Fin 256, f ⟨1536 + k.val, by omega⟩) + (∑ k : Fin 256, f ⟨1792 + k.val, by omega⟩) + (∑ k : Fin 256, f ⟨2048 + k.val, by omega⟩) + (∑ k : Fin 256, f ⟨2304 + k.val, by omega⟩) + (∑ k : Fin 256, f ⟨2560 + k.val, by omega⟩) := by
  have g (S : Fin 11 → EReal) : ∑ s, S s = S ⟨0, by decide⟩ + S ⟨1, by decide⟩ + S ⟨2, by decide⟩ + S ⟨3, by decide⟩ + S ⟨4, by decide⟩ + S ⟨5, by decide⟩ + S ⟨6, by decide⟩ + S ⟨7, by decide⟩ + S ⟨8, by decide⟩ + S ⟨9, by decide⟩ + S ⟨10, by decide⟩ := by
    simp only [Fin.sum_univ_castSucc, Fin.sum_univ_zero, zero_add]
    rfl
  have h := (Fin.sum_mul_add_fin 11 256 f).symm.trans (g fun s : Fin 11 => ∑ k : Fin 256, f ⟨s.val * 256 + k.val, by omega⟩)
  refine h.trans ?_
  clear h g
  iterate 10 refine congr (congrArg HAdd.hAdd ?_) ?_
  all_goals exact Finset.sum_congr rfl fun k _ => congrArg f (Fin.ext (by simp))

section
variable (P8 : S16x1024.Idx → EReal) (P5 : S512x1024.Idx → EReal)
/-- The normed rows as the first scratch holds them: the neighbours', written last, and the point's own. -/
abbrev rows : S528x1024.Idx → EReal :=
  View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![528, 1024] inb_S528x1024_S528x1024_0_0).toLoadRect
theorem rows_main (r : Fin 512) (k : Fin 1024) : rows P8 P5 (ix2 ⟨r.val, by omega⟩ k) = P5 (ix2 r k) := by
  have e : (Rect.unit (s := S528x1024) ![0, 0] ![528, 1024] inb_S528x1024_S528x1024_0_0).toLoadRect.idx (ix2 ⟨r.val, by omega⟩ k)
      = (Rect.unit (s := S528x1024) ![0, 0] ![512, 1024] inb_S528x1024_S512x1024_0_0).emb (ix2 r k) := by
    funext a
    match a with
    | ⟨0, _⟩ => exact Fin.ext rfl
    | ⟨1, _⟩ => exact Fin.ext rfl
  unfold rows
  rw [View.readCov_eq_canon']
  show View.canon _ (LoadRect.idx _ _) = _
  rw [e, View.canon_cons_of_not_mem]
  · exact View.canon_cons_emb (Val := Elt Ideal) (e := .bf16) _ _ _ _
  · intro hm
    obtain ⟨j, _, hj⟩ := (LoadRect.mem_set _).mp hm (0 : Fin 2)
    have h1 : 0 + 1 * r.val = 512 + 1 * j := hj
    omega
theorem rows_side (r : Fin 16) (k : Fin 1024) : rows P8 P5 (ix2 ⟨512 + r.val, by omega⟩ k) = P8 (ix2 r k) := by
  have e : (Rect.unit (s := S528x1024) ![0, 0] ![528, 1024] inb_S528x1024_S528x1024_0_0).toLoadRect.idx (ix2 ⟨512 + r.val, by omega⟩ k)
      = (Rect.unit (s := S528x1024) ![512, 0] ![16, 1024] inb_S528x1024_S16x1024_512_0).emb (ix2 r k) := by
    funext a
    match a with
    | ⟨0, _⟩ => exact Fin.ext (show 0 + 1 * (512 + r.val) = 512 + 1 * r.val by omega)
    | ⟨1, _⟩ => exact Fin.ext rfl
  unfold rows
  rw [View.readCov_eq_canon']
  show View.canon _ (LoadRect.idx _ _) = _
  rw [e]
  exact View.canon_cons_emb (Val := Elt Ideal) (e := .bf16) _ _ _ _
end

theorem main_at (g : S1x1024.Idx → EReal) (sh sc : S1x1x1024.Idx → EReal) (x : S512x1024.Idx → EReal) (r : Fin 512) (k : Fin 1024) :
    k0_pay5 (F := Ideal) g sh sc x (ix2 r k)
      = normMod modW epsW (fun k => x (ix2 r k)) (fun k => g (ix2 0 k)) (fun k => sc (ix3 0 0 k)) (fun k => sh (ix3 0 0 k)) k := by
  pointwise [k0_pay5, k0_pay2, k0_pay3, k0_pay4]
  rfl

theorem side_at (g : S1x1024.Idx → EReal) (sh sc : S1x1x1024.Idx → EReal) (xp xn : S8x1024.Idx → EReal) (r : Fin 16) (k : Fin 1024) :
    k0_pay8 (F := Ideal) (k0_pay2 g) (k0_pay3 sh) (k0_pay4 sc) (k0_pay6 xp xn) (k0_pay7 xp xn) (ix2 r k)
      = normMod modW epsW (fun k => if h : r.val < 8 then xp (ix2 ⟨r.val, h⟩ k) else xn (ix2 ⟨r.val - 8, by omega⟩ k)) (fun k => g (ix2 0 k))
          (fun k => sc (ix3 0 0 k)) (fun k => sh (ix3 0 0 k)) k := by
  pointwise [k0_pay8, k0_pay2, k0_pay3, k0_pay4, k0_pay6, k0_pay7]
  rfl

theorem res_at (a x : S512x1024.Idx → EReal) (gt : S1x1x1024.Idx → EReal) (r : Fin 512) (c : Fin 1024) :
    k0_pay1 (F := Ideal) a x gt (ix2 r c) = x (ix2 r c) + gt (ix3 0 0 c) * a (ix2 r c) := by
  pointwise [k0_pay1]

end Cert.FfnLatIdeal.Gen
-- ==== Proof.Layer.FfnLat.Point.lean ====
/-
  One point of the feed-forward call, as the layer's own expression over the rows and weights its blocks hold.
-/
module

public import proofs.«01_k».proof.Proof.Layer.FfnLat.Out

@[expose] public section

set_option maxRecDepth 16384

noncomputable section

open Idealize.ShloMosaic Idealize.ShloMosaic.TcCoe Idealize.SL.Sem Idealize.ShloMosaic.Pipeline

namespace Cert.FfnLatIdeal.Gen
open Cert.Layer

variable (m : (l : Loc nD τ sig) → Buf (Elt Ideal) l)

/-- A point's first row has a row before it, unless the point begins a sequence. -/
def lft (kb : BitVec 1) (r : Fin 512) : Bool := decide (r.val = 0 → kb = 1#1)
/-- A point's last row has a row after it, unless the point ends a sequence. -/
def rgt (ka : BitVec 1) (r : Fin 512) : Bool := decide (r.val = 511 → ka = 1#1)

/-- The row before row `r`. -/
def rowL (x : S512x1024.Idx → EReal) (xp : S8x1024.Idx → EReal) (r : Fin 512) (k : Fin 1024) : EReal :=
  if h : r.val = 0 then xp (ix2 7 k) else x (ix2 ⟨r.val - 1, by omega⟩ k)
/-- The row after row `r`. -/
def rowR (x : S512x1024.Idx → EReal) (xn : S8x1024.Idx → EReal) (r : Fin 512) (k : Fin 1024) : EReal :=
  if h : r.val = 511 then xn (ix2 0 k) else x (ix2 ⟨r.val + 1, by omega⟩ k)

section
variable (g : S1x1024.Idx → EReal) (sh sc : S1x1x1024.Idx → EReal) (x : S512x1024.Idx → EReal) (xp xn : S8x1024.Idx → EReal)

/-- The first scratch's rows, from the blocks. -/
abbrev hrows : S528x1024.Idx → EReal :=
  rows (k0_pay8 (F := Ideal) (k0_pay2 g) (k0_pay3 sh) (k0_pay4 sc) (k0_pay6 xp xn) (k0_pay7 xp xn)) (k0_pay5 (F := Ideal) g sh sc x)

theorem hrows_main (w : Fin 1024 → EReal) (z : Fin 528) (r : Fin 512) (hz : z.val = r.val) :
    ∑ k : Fin 1024, hrows g sh sc x xp xn (ix2 z k) * w k
      = upAt (fun k => x (ix2 r k)) (fun k => g (ix2 0 k)) (fun k => sc (ix3 0 0 k)) (fun k => sh (ix3 0 0 k)) w := by
  rw [show z = ⟨r.val, by omega⟩ from Fin.ext hz]
  exact Finset.sum_congr rfl fun k _ => congrArg (fun z : EReal => z * w k) ((rows_main _ _ r k).trans (main_at g sh sc x r k))

theorem hrows_side (w : Fin 1024 → EReal) (z : Fin 528) (r : Fin 16) (hz : z.val = 512 + r.val) :
    ∑ k : Fin 1024, hrows g sh sc x xp xn (ix2 z k) * w k
      = upAt (fun k => if h : r.val < 8 then xp (ix2 ⟨r.val, h⟩ k) else xn (ix2 ⟨r.val - 8, by omega⟩ k)) (fun k => g (ix2 0 k))
          (fun k => sc (ix3 0 0 k)) (fun k => sh (ix3 0 0 k)) w := by
  obtain ⟨z, hz'⟩ := z
  have e : z = 512 + r.val := hz
  subst e
  exact Finset.sum_congr rfl fun k _ => congrArg (fun z : EReal => z * w k) ((rows_side _ _ r k).trans (side_at g sh sc xp xn r k))

theorem act_conv (kb ka : BitVec 1) (w : S1024x5632.Idx → EReal) (cw : S3x5632.Idx → EReal) (cb : S1x5632.Idx → EReal) (r : Fin 512) (f : Fin 5632) :
    actCol kb ka (hrows g sh sc x xp xn) w cw cb r f
      = convUp (lft kb r) (rgt ka r) (rowL x xp r) (fun k => x (ix2 r k)) (rowR x xn r) (fun k => g (ix2 0 k)) (fun k => sc (ix3 0 0 k))
          (fun k => sh (ix3 0 0 k)) (cw (ix2 0 f)) (cw (ix2 1 f)) (cw (ix2 2 f)) (cb (ix2 0 f)) (fun k => w (ix2 k f)) := by
  unfold actCol convRow convUp
  have hr := r.isLt
  refine congr (congrArg HAdd.hAdd (congr (congrArg HAdd.hAdd (congr (congrArg HAdd.hAdd (congrArg _ ?_)) (congrArg _ ?_))) (congrArg _ ?_))) rfl
  · by_cases h0 : r.val = 0
    · rw [dif_pos h0]
      have e : rowL x xp r = fun k => xp (ix2 7 k) := funext fun k => dif_pos h0
      rw [e]
      by_cases hk : kb = 1#1
      · rw [if_pos (show lft kb r = true from decide_eq_true fun _ => hk)]
        exact (if_pos hk).trans (hrows_side g sh sc x xp xn (fun k => w (ix2 k f)) 519 7 rfl)
      · rw [if_neg (show ¬ lft kb r = true from fun h => hk (of_decide_eq_true h h0))]
        exact if_neg hk
    · rw [dif_neg h0]
      have e : rowL x xp r = fun k => x (ix2 ⟨r.val - 1, by omega⟩ k) := funext fun k => dif_neg h0
      rw [e, if_pos (show lft kb r = true from decide_eq_true fun h => absurd h h0)]
      exact hrows_main g sh sc x xp xn (fun k => w (ix2 k f)) _ ⟨r.val - 1, by omega⟩ rfl
  · exact hrows_main g sh sc x xp xn (fun k => w (ix2 k f)) _ r rfl
  · by_cases h0 : r.val = 511
    · rw [dif_pos h0]
      have e : rowR x xn r = fun k => xn (ix2 0 k) := funext fun k => dif_pos h0
      rw [e]
      by_cases hk : ka = 1#1
      · rw [if_pos (show rgt ka r = true from decide_eq_true fun _ => hk)]
        exact (if_pos hk).trans (hrows_side g sh sc x xp xn (fun k => w (ix2 k f)) 520 8 rfl)
      · rw [if_neg (show ¬ rgt ka r = true from fun h => hk (of_decide_eq_true h h0))]
        exact if_neg hk
    · rw [dif_neg h0]
      have e : rowR x xn r = fun k => x (ix2 ⟨r.val + 1, by omega⟩ k) := funext fun k => dif_neg h0
      rw [e, if_pos (show rgt ka r = true from decide_eq_true fun h => absurd h h0)]
      exact hrows_main g sh sc x xp xn (fun k => w (ix2 k f)) _ ⟨r.val + 1, by omega⟩ rfl
end

/-- What the call stores at a point, from the point's blocks. -/
def ffnPoint (kb ka : BitVec 1) (x : S512x1024.Idx → EReal) (xp xn : S8x1024.Idx → EReal) (md : S1x1x6144.Idx → EReal) (g : S1x1024.Idx → EReal)
    (w : S1024x5632.Idx → EReal) (cw : S3x5632.Idx → EReal) (cb : S1x5632.Idx → EReal) (wd : S2816x1024.Idx → EReal) (r : Fin 512) (col : Fin 1024) : EReal :=
  ffnAt siluK (x (ix2 r col)) (md (ix3 0 0 ⟨5120 + col.val, by omega⟩)) (lft kb r) (rgt ka r) (rowL x xp r) (fun k => x (ix2 r k)) (rowR x xn r)
    (fun k => g (ix2 0 k)) (fun k => md (ix3 0 0 ⟨4096 + k.val, by omega⟩)) (fun k => md (ix3 0 0 ⟨3072 + k.val, by omega⟩))
    (fun k f => w (ix2 k f)) (fun f => cw (ix2 0 f)) (fun f => cw (ix2 1 f)) (fun f => cw (ix2 2 f)) (fun f => cb (ix2 0 f)) (fun f => wd (ix2 f col))

/-- The two edge words of a point. -/
def kbOf (t : Fin cfg0.N) : BitVec 1 :=
  Scalar.cmpi CmpIPredicate.ne (Scalar.andi (Scalar.muli (BitVec.ofNat 32 ↑(grid0.coords t 0)) 512#32) 2047#32) 0#32
def kaOf (t : Fin cfg0.N) : BitVec 1 :=
  Scalar.cmpi CmpIPredicate.ne (Scalar.andi (Scalar.addi (Scalar.muli (BitVec.ofNat 32 ↑(grid0.coords t 0)) 512#32) 512#32) 2047#32) 0#32

theorem out_at (c : Dev nD) (t : Fin cfg0.N) (r : Fin 512) (col : Fin 1024) :
    outsAt0 m c t (ix2 r col) = ffnPoint (kbOf t) (kaOf t) (iblk m c 0 t) (iblk m c 1 t) (iblk m c 2 t) (iblk m c 3 t) (iblk m c 4 t) (iblk m c 5 t)
      (iblk m c 6 t) (iblk m c 7 t) (iblk m c 8 t) r col := by
  unfold outsAt0
  frame_out
  generalize iblk m c 0 t = x
  generalize iblk m c 1 t = xp
  generalize iblk m c 2 t = xn
  generalize iblk m c 3 t = md
  generalize iblk m c 4 t = g
  generalize iblk m c 5 t = w
  generalize iblk m c 6 t = cw
  generalize iblk m c 7 t = cb
  generalize iblk m c 8 t = wd
  generalize hH : View.readCov (View.whole cc0_scratch0) (_ : List (View.Piece (Elt Ideal) S528x1024 .bf16)) _ = H
  have hH' : hrows g (View.ld (Val := Elt Ideal) (e' := .f32) (S := S1x1x6144) md (Rect.unit ![0, 0, 3072] ![1, 1, 1024] inb_S1x1x6144_S1x1x1024_0_0_3072))
    (View.ld (Val := Elt Ideal) (e' := .f32) (S := S1x1x6144) md (Rect.unit ![0, 0, 4096] ![1, 1, 1024] inb_S1x1x6144_S1x1x1024_0_0_4096)) x xp xn = H := hH
  clear hH
  generalize hkb : Scalar.cmpi CmpIPredicate.ne (Scalar.andi (Scalar.muli (BitVec.ofNat 32 ↑(grid0.coords t 0)) 512#32) 2047#32) 0#32 = kb
  generalize hka : Scalar.cmpi CmpIPredicate.ne (Scalar.andi (Scalar.addi (Scalar.muli (BitVec.ofNat 32 ↑(grid0.coords t 0)) 512#32) 512#32) 2047#32) 0#32 = ka
  rw [show kbOf t = kb from hkb, show kaOf t = ka from hka]
  rw [tile_0 (hb := hkb) (ha := hka), tile_1, tile_2, tile_3, tile_4, tile_5, tile_6, tile_7, tile_8, tile_9, tile_10]
  rw [cols_0, cols_1, cols_2, cols_3, cols_4, cols_5, cols_6, cols_7, cols_8, cols_9, cols_10]
  rw [res_at, acc_at]
  unfold ffnPoint ffnAt
  have hA : ∀ f : Fin 5632, actCol kb ka H w cw cb r f = convUp (lft kb r) (rgt ka r) (rowL x xp r) (fun k => x (ix2 r k)) (rowR x xn r)
      (fun k => g (ix2 0 k)) (fun k => md (ix3 0 0 ⟨4096 + k.val, by omega⟩)) (fun k => md (ix3 0 0 ⟨3072 + k.val, by omega⟩))
      (cw (ix2 0 f)) (cw (ix2 1 f)) (cw (ix2 2 f)) (cb (ix2 0 f)) (fun k => w (ix2 k f)) := fun f => by
    rw [← hH', act_conv]
    refine congr (congr (congr (congr (congr (congr (congrArg _ ?_) ?_) rfl) rfl) rfl) rfl) rfl
    · funext k
      exact ld_m md 4096 _ k _
    · funext k
      exact ld_m md 3072 _ k _
  refine congr (congrArg HAdd.hAdd (by pointwise [k0_pay82])) (congr (congrArg HMul.hMul (ld_m md 5120 _ col _)) ?_)
  simp only [← hA]
  rw [sum11]
  iterate 10 refine congr (congrArg HAdd.hAdd ?_) ?_
  · exact Finset.sum_congr rfl fun k _ => congr (congrArg HMul.hMul (tile_at kb ka H w cw cb 0 2816 rfl _ _ _ _ _ _ r k (by omega))) (ld_wd (e := .bf16) wd 0 256 _ k col (by omega))
  · exact Finset.sum_congr rfl fun k _ => congr (congrArg HMul.hMul (tile_at kb ka H w cw cb 256 3072 rfl _ _ _ _ _ _ r k (by omega))) (ld_wd (e := .bf16) wd 256 256 _ k col (by omega))
  · exact Finset.sum_congr rfl fun k _ => congr (congrArg HMul.hMul (tile_at kb ka H w cw cb 512 3328 rfl _ _ _ _ _ _ r k (by omega))) (ld_wd (e := .bf16) wd 512 256 _ k col (by omega))
  · exact Finset.sum_congr rfl fun k _ => congr (congrArg HMul.hMul (tile_at kb ka H w cw cb 768 3584 rfl _ _ _ _ _ _ r k (by omega))) (ld_wd (e := .bf16) wd 768 256 _ k col (by omega))
  · exact Finset.sum_congr rfl fun k _ => congr (congrArg HMul.hMul (tile_at kb ka H w cw cb 1024 3840 rfl _ _ _ _ _ _ r k (by omega))) (ld_wd (e := .bf16) wd 1024 256 _ k col (by omega))
  · exact Finset.sum_congr rfl fun k _ => congr (congrArg HMul.hMul (tile_at kb ka H w cw cb 1280 4096 rfl _ _ _ _ _ _ r k (by omega))) (ld_wd (e := .bf16) wd 1280 256 _ k col (by omega))
  · exact Finset.sum_congr rfl fun k _ => congr (congrArg HMul.hMul (tile_at kb ka H w cw cb 1536 4352 rfl _ _ _ _ _ _ r k (by omega))) (ld_wd (e := .bf16) wd 1536 256 _ k col (by omega))
  · exact Finset.sum_congr rfl fun k _ => congr (congrArg HMul.hMul (tile_at kb ka H w cw cb 1792 4608 rfl _ _ _ _ _ _ r k (by omega))) (ld_wd (e := .bf16) wd 1792 256 _ k col (by omega))
  · exact Finset.sum_congr rfl fun k _ => congr (congrArg HMul.hMul (tile_at kb ka H w cw cb 2048 4864 rfl _ _ _ _ _ _ r k (by omega))) (ld_wd (e := .bf16) wd 2048 256 _ k col (by omega))
  · exact Finset.sum_congr rfl fun k _ => congr (congrArg HMul.hMul (tile_at kb ka H w cw cb 2304 5120 rfl _ _ _ _ _ _ r k (by omega))) (ld_wd (e := .bf16) wd 2304 256 _ k col (by omega))
  · exact Finset.sum_congr rfl fun k _ => congr (congrArg HMul.hMul (tile_at kb ka H w cw cb 2560 5376 rfl _ _ _ _ _ _ r k (by omega))) (ld_wd (e := .bf16) wd 2560 256 _ k col (by omega))

end Cert.FfnLatIdeal.Gen
-- ==== Proof.Layer.FfnLat.Spec.lean ====
/-
  The feed-forward result as a function of the arguments.
-/
module

public import proofs.«01_k».proof.Proof.Layer.Ffn
public import Idealize.ShloMosaic.Lib.Pointwise

@[expose] public section

noncomputable section

open Idealize.ShloMosaic

namespace Cert.Layer

/-- Token `n`'s result, with the activation `act`. -/
def ffnLat (act : EReal → EReal) (x : Shape.Idx ⟨3, ![8, 2048, 1024]⟩ → EReal) (m : Shape.Idx ⟨3, ![8, 1, 6144]⟩ → EReal) (g : Shape.Idx ⟨1, ![1024]⟩ → EReal)
    (w : Shape.Idx ⟨2, ![1024, 5632]⟩ → EReal) (cw : Shape.Idx ⟨2, ![3, 5632]⟩ → EReal) (cb : Shape.Idx ⟨1, ![5632]⟩ → EReal)
    (wd : Shape.Idx ⟨2, ![2816, 1024]⟩ → EReal) (n : Fin 16384) (c : Fin 1024) : EReal :=
  ffnAt act (x (ix3 ⟨n.val / 2048, by omega⟩ ⟨n.val % 2048, by omega⟩ c)) (m (ix3 ⟨n.val / 2048, by omega⟩ 0 ⟨5120 + c.val, by omega⟩))
    (decide (n.val % 2048 ≠ 0)) (decide (n.val % 2048 ≠ 2047))
    (fun k => x (ix3 ⟨n.val / 2048, by omega⟩ ⟨n.val % 2048 - 1, by omega⟩ k))
    (fun k => x (ix3 ⟨n.val / 2048, by omega⟩ ⟨n.val % 2048, by omega⟩ k))
    (fun k => x (ix3 ⟨n.val / 2048, by omega⟩ ⟨(n.val % 2048 + 1) % 2048, by omega⟩ k))
    (fun k => g (ix1 k)) (fun k => m (ix3 ⟨n.val / 2048, by omega⟩ 0 ⟨4096 + k.val, by omega⟩))
    (fun k => m (ix3 ⟨n.val / 2048, by omega⟩ 0 ⟨3072 + k.val, by omega⟩))
    (fun k f => w (ix2 k f)) (fun f => cw (ix2 0 f)) (fun f => cw (ix2 1 f)) (fun f => cw (ix2 2 f)) (fun f => cb (ix1 f)) (fun f => wd (ix2 f c))

/-- What stands beside a row matters only where there is a row beside it. -/
theorem ffnAt_beside (act : EReal → EReal) (x gt : EReal) (hasL hasR : Bool) (xl xl' xs xn xn' g sc sh : Fin 1024 → EReal)
    (w : Fin 1024 → Fin 5632 → EReal) (c0 c1 c2 b : Fin 5632 → EReal) (wd : Fin 2816 → EReal)
    (hl : hasL = true → xl = xl') (hr : hasR = true → xn = xn') :
    ffnAt act x gt hasL hasR xl xs xn g sc sh w c0 c1 c2 b wd = ffnAt act x gt hasL hasR xl' xs xn' g sc sh w c0 c1 c2 b wd := by
  have e : ∀ a0 a1 a2 a3 v, convUp hasL hasR xl xs xn g sc sh a0 a1 a2 a3 v = convUp hasL hasR xl' xs xn' g sc sh a0 a1 a2 a3 v := by
    intro a0 a1 a2 a3 v
    unfold convUp
    cases hasL <;> cases hasR <;> simp_all
  unfold ffnAt
  simp only [e]

end Cert.Layer
-- ==== Proof.Layer.FfnLat.Arr.lean ====
/-
  The feed-forward call's result array, at every element, from the arguments.
-/
module

public import proofs.«01_k».proof.Proof.Layer.FfnLat.Point
public import proofs.«01_k».proof.Proof.Layer.FfnLat.Spec
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.FfnLatIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![64 * t.val - 1, 0] := (by decide +kernel : ∀ t : Fin grid0.N, win0_1.index t = ![64 * t.val - 1, 0])
theorem idx0_2 : ∀ t : Fin cfg0.N, win0_2.index t = ![min (64 * t.val + 64) 2047, 0] := (by decide +kernel : ∀ t : Fin grid0.N, win0_2.index t = ![min (64 * t.val + 64) 2047, 0])
theorem idx0_3 : ∀ t : Fin cfg0.N, win0_3.index t = ![1 + t.val / 4, 0, 0] := (by decide +kernel : ∀ t : Fin grid0.N, win0_3.index t = ![1 + t.val / 4, 0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![0, 0] := (by decide +kernel : ∀ t : Fin grid0.N, win0_8.index t = ![0, 0])
theorem idx0_9 : ∀ t : Fin cfg0.N, win0_9.index t = ![t.val, 0] := (by decide +kernel : ∀ t : Fin grid0.N, win0_9.index t = ![t.val, 0])

theorem kb_at : ∀ t : Fin cfg0.N, (kbOf t = 1#1 ↔ t.val % 4 ≠ 0) := (by decide +kernel : ∀ t : Fin grid0.N, (kbOf t = 1#1 ↔ t.val % 4 ≠ 0))
theorem ka_at : ∀ t : Fin cfg0.N, (kaOf t = 1#1 ↔ t.val % 4 ≠ 3) := (by decide +kernel : ∀ t : Fin grid0.N, (kaOf t = 1#1 ↔ t.val % 4 ≠ 3))

/-- The result, at the arguments of core `c`. -/
def spec (c : Dev nD) : S16384x1024.Idx → EReal := fun i =>
  ffnLat siluK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

section
variable (U : Valuation τ sig (Elt Ideal))

theorem mod_at (n : Fin 8) (col : Fin 6144) :
    (StableHlo.after hostOps0 U (Proc.devRef .tc main_v2) : S16x1x6144.Idx → EReal) (ix3 ⟨1 + n.val, by omega⟩ 0 col)
      = (U (Proc.devRef .tc main_arg1) : S8x1x6144.Idx → EReal) (ix3 n 0 col) := by
  after_reads_at
end

theorem b0 (c : Dev nD) (t : Fin cfg0.N) (r : Fin 512) (k : Fin 1024) (n : Fin 16384) (hn : n.val = t.val * 512 + r.val) :
    iblk m c 0 t (ix2 r k) = m ((c : Thread nD τ).loc main_arg0) (ix3 ⟨n.val / 2048, by omega⟩ ⟨n.val % 2048, by omega⟩ k) := by
  blk_point [iblk, V, idx0_0 t]
theorem b1 (c : Dev nD) (t : Fin cfg0.N) (k : Fin 1024) (n : Fin 16384) (hn : n.val + 1 = t.val * 512) :
    iblk m c 1 t (ix2 7 k) = m ((c : Thread nD τ).loc main_arg0) (ix3 ⟨n.val / 2048, by omega⟩ ⟨n.val % 2048, by omega⟩ k) := by
  have h1 : t.val = 64 * t.val / 64 := by omega
  blk_point [iblk, V, idx0_1 t]
theorem b2 (c : Dev nD) (t : Fin cfg0.N) (k : Fin 1024) (n : Fin 16384) (hn : n.val = t.val * 512 + 512) :
    iblk m c 2 t (ix2 0 k) = m ((c : Thread nD τ).loc main_arg0) (ix3 ⟨n.val / 2048, by omega⟩ ⟨n.val % 2048, by omega⟩ k) := by
  have h1 := n.isLt
  blk_point [iblk, V, idx0_2 t]
theorem b3 (c : Dev nD) (t : Fin cfg0.N) (k : Fin 6144) (n : Fin 8) (hn : n.val = t.val / 4) :
    iblk m c 3 t (ix3 0 0 k) = m ((c : Thread nD τ).loc main_arg1) (ix3 n 0 k) := by
  have e : iblk m c 3 t (ix3 0 0 k) = V m c main_v2 (ix3 ⟨1 + n.val, by omega⟩ 0 k) := by
    blk_simp [iblk]
    refine congrArg _ ((eq_ix3 _).trans ?_)
    refine congr (congr (congrArg ix3 (Fin.ext ?_)) (Fin.ext ?_)) (Fin.ext ?_) <;> blk_simp [idx0_3 t]
    simp; omega
  exact e.trans (mod_at _ n k)
theorem b4 (c : Dev nD) (t : Fin cfg0.N) (k : Fin 1024) :
    iblk m c 4 t (ix2 0 k) = m ((c : Thread nD τ).loc main_arg2) (ix1 k) := by
  blk_point [iblk, V, idx0_4 t]
theorem b5 (c : Dev nD) (t : Fin cfg0.N) (j : Fin 1024) (k : Fin 5632) :
    iblk m c 5 t (ix2 j k) = m ((c : Thread nD τ).loc main_arg3) (ix2 j k) := by
  blk_point [iblk, V, idx0_5 t]
theorem b6 (c : Dev nD) (t : Fin cfg0.N) (j : Fin 3) (k : Fin 5632) :
    iblk m c 6 t (ix2 j k) = m ((c : Thread nD τ).loc main_arg4) (ix2 j k) := by
  blk_point [iblk, V, idx0_6 t]
theorem b7 (c : Dev nD) (t : Fin cfg0.N) (k : Fin 5632) :
    iblk m c 7 t (ix2 0 k) = m ((c : Thread nD τ).loc main_arg5) (ix1 k) := by
  blk_point [iblk, V, idx0_7 t]
theorem b8 (c : Dev nD) (t : Fin cfg0.N) (j : Fin 2816) (k : Fin 1024) :
    iblk m c 8 t (ix2 j k) = m ((c : Thread nD τ).loc main_arg6) (ix2 j k) := by
  blk_point [iblk, V, idx0_8 t]

theorem point_at (c : Dev nD) (t : Fin cfg0.N) (r : Fin 512) (k : Fin 1024) (n : Fin 16384) (hn : n.val = t.val * 512 + r.val) :
    outsAt0 m c t (ix2 r k) = spec m c (ix2 n k) := by
  have ht : t.val < 32 := t.isLt
  have hr := r.isLt
  refine (out_at m c t r k).trans ?_
  unfold ffnPoint
  have e3 := fun k => b3 m c t k ⟨n.val / 2048, by omega⟩ (show n.val / 2048 = t.val / 4 by omega)
  have e4 := b4 m c t
  have e5 := b5 m c t
  have e6 := b6 m c t
  have e7 := b7 m c t
  have e8 := b8 m c t
  have eL : lft (kbOf t) r = decide (n.val % 2048 ≠ 0) := by
    unfold lft
    rw [decide_eq_decide, kb_at t]
    omega
  have eR : rgt (kaOf t) r = decide (n.val % 2048 ≠ 2047) := by
    unfold rgt
    rw [decide_eq_decide, ka_at t]
    omega
  rw [b0 m c t r k n hn, funext fun k => b0 m c t r k n hn, eL, eR]
  simp only [e3, e4, e5, e6, e7, e8]
  refine ffnAt_beside _ _ _ _ _ _ _ _ _ _ _ _ _ _ _ _ _ _ _ (fun h => ?_) fun h => ?_
  · have hs : n.val % 2048 ≠ 0 := of_decide_eq_true h
    funext k
    unfold rowL
    split
    · rw [b1 m c t k ⟨n.val - 1, by omega⟩ (by show n.val - 1 + 1 = _; omega)]
      exact congrArg (m ((c : Thread nD τ).loc main_arg0)) (congr (congr (congrArg ix3 (Fin.ext (by show (n.val - 1) / 2048 = n.val / 2048; omega))) (Fin.ext (by show (n.val - 1) % 2048 = n.val % 2048 - 1; omega))) rfl)
    · rw [b0 m c t ⟨r.val - 1, by omega⟩ k ⟨n.val - 1, by omega⟩ (by show n.val - 1 = t.val * 512 + (r.val - 1); omega)]
      exact congrArg (m ((c : Thread nD τ).loc main_arg0)) (congr (congr (congrArg ix3 (Fin.ext (by show (n.val - 1) / 2048 = n.val / 2048; omega))) (Fin.ext (by show (n.val - 1) % 2048 = n.val % 2048 - 1; omega))) rfl)
  · have hs : n.val % 2048 ≠ 2047 := of_decide_eq_true h
    have hn1 : n.val + 1 < 16384 := by omega
    funext k
    unfold rowR
    split
    · rw [b2 m c t k ⟨n.val + 1, hn1⟩ (by show n.val + 1 = _; omega)]
      exact congrArg (m ((c : Thread nD τ).loc main_arg0)) (congr (congr (congrArg ix3 (Fin.ext (by show (n.val + 1) / 2048 = n.val / 2048; omega))) (Fin.ext (by show (n.val + 1) % 2048 = (n.val % 2048 + 1) % 2048; omega))) rfl)
    · rw [b0 m c t ⟨r.val + 1, by omega⟩ k ⟨n.val + 1, hn1⟩ (by show n.val + 1 = t.val * 512 + (r.val + 1); omega)]
      exact congrArg (m ((c : Thread nD τ).loc main_arg0)) (congr (congr (congrArg ix3 (Fin.ext (by show (n.val + 1) / 2048 = n.val / 2048; omega))) (Fin.ext (by show (n.val + 1) % 2048 = (n.val % 2048 + 1) % 2048; omega))) rfl)

theorem final (c : Dev nD) : (dats m 0 c).arrAt 9 cfg0.N = spec m c := by
  refine (dats m 0 c).arrAt_eq_of_covers 9 _ (by decide +kernel) fun t hf y => ?_
  have ht : t.val < 32 := t.isLt
  have hemb : ∃ (r : Fin 512) (k : Fin 1024), y = ix2 r k ∧ ((cfg0.win 9).blk t).view.emb y = ix2 (⟨t.val * 512 + r.val, by omega⟩ : Fin 16384) k := by
    obtain ⟨r, k, rfl⟩ : ∃ (r : Fin 512) (k : Fin 1024), y = ix2 r k := ⟨y 0, y 1, eq_ix2 y⟩
    refine ⟨r, k, rfl, (eq_ix2 _).trans ?_⟩
    refine congr (congrArg ix2 (Fin.ext ?_)) (Fin.ext ?_) <;> blk_simp [idx0_9 t]
  obtain ⟨r, k, rfl, he⟩ := hemb
  rw [he]
  show (dats m 0 c).after 9 t (ix2 r k) = _
  rw [after0_9]
  exact point_at m c t r k _ rfl

end Cert.FfnLatIdeal.Gen
-- ==== Proof.Layer.FfnLat.Ref.lean ====
/-
  The feed-forward reference's result, read at every element.
-/
module

public import proofs.«01_k».proof.Proof.Gen.FfnLatReferenceIdeal.Read
public import proofs.«01_k».proof.Proof.Layer.FfnLat.Spec

@[expose] public section

set_option maxRecDepth 16384

noncomputable section

open Idealize.ShloMosaic Idealize.ShloMosaic.TcCoe Idealize.SL.Sem

namespace Cert.FfnLatReferenceIdeal.Read
open Cert.FfnLatReferenceIdeal Cert.Layer

variable (x0 : S8x2048x1024.Idx → EReal) (x1 : S8x1x6144.Idx → EReal) (x2 : S1024.Idx → EReal) (x3 : S1024x5632.Idx → EReal)
  (x4 : S3x5632.Idx → EReal) (x5 : S5632.Idx → EReal) (x6 : S2816x1024.Idx → EReal)

theorem norm_at (b : Fin 8) (s : Fin 2048) (k : Fin 1024) :
    val_main_v21 (F := Ideal) x0 x1 x2 (ix3 b s k)
      = normMod modW epsW (fun k => x0 (ix3 b s k)) (fun k => x2 (ix1 k)) (fun k => x1 (ix3 b 0 ⟨4096 + k.val, by omega⟩))
          (fun k => x1 (ix3 b 0 ⟨3072 + k.val, by omega⟩)) k := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v1, val_main_v0,
    val_main_cst, val_main_cst_0, val_main_cst_1, val_main_cst_2]
  rfl

/-- One element of a row's up-projection. -/
def up (b : Fin 8) (s : Fin 2048) (f : Fin 5632) : EReal :=
  upAt (fun k => x0 (ix3 b s k)) (fun k => x2 (ix1 k)) (fun k => x1 (ix3 b 0 ⟨4096 + k.val, by omega⟩))
          (fun k => x1 (ix3 b 0 ⟨3072 + k.val, by omega⟩)) (fun k => x3 (ix2 k f))

theorem up_at (b : Fin 8) (s : Fin 2048) (f : Fin 5632) : val_main_v22 (F := Ideal) x0 x1 x2 x3 (ix3 b s f) = up x0 x1 x2 x3 b s f := by
  have h := norm_at x0 x1 x2 b s
  unfold val_main_v22
  generalize val_main_v21 (F := Ideal) x0 x1 x2 = z at *
  pointwise
  simp only [h]
  rfl

theorem conv_at (b : Fin 8) (s : Fin 2048) (f : Fin 5632) :
    val_main_v46 (F := Ideal) x0 x1 x2 x3 x4 x5 (ix3 b s f)
      = x4 (ix2 0 f) * (if h : s.val ≠ 0 then up x0 x1 x2 x3 b ⟨s.val - 1, by omega⟩ f else 0) + x4 (ix2 1 f) * up x0 x1 x2 x3 b s f
        + x4 (ix2 2 f) * (if h : s.val ≠ 2047 then up x0 x1 x2 x3 b ⟨(s.val + 1) % 2048, by omega⟩ f else 0) + x5 (ix1 f) := by
  have h := fun b s => up_at x0 x1 x2 x3 b s f
  unfold val_main_v46 val_main_v43 val_main_v42 val_main_v39 val_main_v36 val_main_v35 val_main_v32 val_main_v29 val_main_v26 val_main_v23
  generalize val_main_v22 (F := Ideal) x0 x1 x2 x3 = z at *
  pointwise [val_main_v24, val_main_v25, val_main_v27, val_main_v28, val_main_v30, val_main_v31, val_main_v33, val_main_v34, val_main_v37, val_main_v38,
    val_main_v40, val_main_v41, val_main_v44, val_main_v45, val_main_call0_v0, val_main_c]
  simp only [h]
  have hz : FloatOps.sitofp (F := Ideal) FTy.f32 0#32 = 0 := by
    show (((0#32 : BitVec 32).toInt : ℝ) : EReal) = 0
    simp
  rw [hz]
  have hs := s.isLt
  refine congr (congrArg HAdd.hAdd (congr (congrArg HAdd.hAdd (congr (congrArg HAdd.hAdd (congrArg _ ?_)) rfl)) (congrArg _ ?_))) rfl
  · split_ifs
    all_goals first
      | omega
      | rfl
  · split_ifs
    all_goals first
      | omega
      | exact congrArg (fun z : Fin 2048 => up x0 x1 x2 x3 b z f) (Fin.ext (by show 2 + s.val - 1 = (s.val + 1) % 2048; omega))
      | rfl

theorem convUp_at (b : Fin 8) (s : Fin 2048) (f : Fin 5632) :
    val_main_v46 (F := Ideal) x0 x1 x2 x3 x4 x5 (ix3 b s f)
      = convUp (decide (s.val ≠ 0)) (decide (s.val ≠ 2047)) (fun k => x0 (ix3 b ⟨s.val - 1, by omega⟩ k)) (fun k => x0 (ix3 b s k))
          (fun k => x0 (ix3 b ⟨(s.val + 1) % 2048, by omega⟩ k)) (fun k => x2 (ix1 k)) (fun k => x1 (ix3 b 0 ⟨4096 + k.val, by omega⟩))
          (fun k => x1 (ix3 b 0 ⟨3072 + k.val, by omega⟩)) (x4 (ix2 0 f)) (x4 (ix2 1 f)) (x4 (ix2 2 f)) (x5 (ix1 f)) (fun k => x3 (ix2 k f)) := by
  refine (conv_at x0 x1 x2 x3 x4 x5 b s f).trans ?_
  unfold convUp up
  simp only [decide_eq_true_eq, dite_eq_ite]

theorem act_at (b : Fin 8) (s : Fin 2048) (f : Fin 2816) :
    val_main_v50 (F := Ideal) x0 x1 x2 x3 x4 x5 (ix3 b s f)
      = siluR (val_main_v46 (F := Ideal) x0 x1 x2 x3 x4 x5 (ix3 b s ⟨2816 + f.val, by omega⟩))
          * val_main_v46 (F := Ideal) x0 x1 x2 x3 x4 x5 (ix3 b s ⟨f.val, by omega⟩) := by
  unfold val_main_v50 val_main_v49 val_main_call1_v5 val_main_call1_v3 val_main_call1_v1 val_main_call1_v0 val_main_v48 val_main_v47
  generalize val_main_v46 (F := Ideal) x0 x1 x2 x3 x4 x5 = z
  pointwise [val_main_call1_v2, val_main_call1_v4, val_main_call1_cst, val_main_call1_cst_0]
  rfl

theorem result_at (n : Fin 16384) (c : Fin 1024) :
    val_main_v55 (F := Ideal) x0 x1 x2 x3 x4 x5 x6 (ix2 n c) = ffnLat siluR x0 x1 x2 x3 x4 x5 x6 n c := by
  have h1 := fun b s f => act_at x0 x1 x2 x3 x4 x5 b s f
  have h2 := fun b s f => convUp_at x0 x1 x2 x3 x4 x5 b s f
  unfold val_main_v55 val_main_v54 val_main_v53 val_main_v51 ffnLat ffnAt
  generalize val_main_v50 (F := Ideal) x0 x1 x2 x3 x4 x5 = a at *
  generalize val_main_v46 (F := Ideal) x0 x1 x2 x3 x4 x5 = z at *
  pointwise [val_main_v52, val_main_v2]
  simp only [h1, h2]

end Cert.FfnLatReferenceIdeal.Read
-- ==== Proof.Layer.FfnLat.Run.lean ====
/-
  The feed-forward: the call's result is the reference's, of finite arguments of the activation.
-/
module

public import proofs.«01_k».proof.Defs
public import proofs.«01_k».proof.Proof.NA.Run
public import proofs.«01_k».proof.Proof.Layer.FfnLat.Arr
public import proofs.«01_k».proof.Proof.Layer.FfnLat.Ref
public import proofs.«01_k».proof.Proof.Gen.FfnLatReferenceIdeal.Run

@[expose] public section

set_option maxRecDepth 16384

noncomputable section

open Idealize.ShloMosaic Idealize.ShloMosaic.TcCoe Idealize.SL.Sem

theorem Cert.Pre_ffn_finite.holds : Cert.Pre_ffn_finite.Facts where
  bcast_S_S8x2048x1024 := by decide
  slices_S8x1x6144_S8x1x2048_0_0_3072 := by decide
  bcast_S_S8x1x2048 := by decide
  bcast_S_S1024 := by decide
  slices_S1024x5632_S1024x2816_0_2816 := by decide
  bcast_S_S1024x2816 := by decide
  slices_S3x5632_S3x2816_0_2816 := by decide
  bcast_S_S3x2816 := by decide
  slices_S5632_S2816_2816 := by decide
  bcast_S_S2816 := by decide

namespace Cert.Layer.FfnLat

theorem frame_reference : Cert.quiescent_FfnLatReferenceIdeal (hFfnLatReferenceIdeal := Cert.FfnLatReferenceIdeal.Gen.facts) := fun m ρ _ =>
  (θ_run _ _ _).mono (fun _ h => ⟨fun c => (h c).2, sem_eq_zero_of_no_sems rfl _⟩) (Cert.FfnLatReferenceIdeal.Value.run (F := Ideal) m ρ)

section
attribute [local instance] Cert.Pre_ffn_finite.holds

theorem act_eq (m : (ℓ : Loc Cert.FfnLatIdeal.nD Cert.FfnLatIdeal.τ Cert.FfnLatIdeal.sig) → Buf (Elt Ideal) ℓ)
    (hpre : Cert.Pre_FfnLatIdeal_ffn_finite (hPre_ffn_finite := Cert.Pre_ffn_finite.holds) m) (c : Dev Cert.FfnLatIdeal.nD) (n : Fin 16384) (k : Fin 1024) :
    ffnLat siluK (m ((c : Thread Cert.FfnLatIdeal.nD Cert.FfnLatIdeal.τ).loc Cert.FfnLatIdeal.main_arg0)) (m ((c : Thread Cert.FfnLatIdeal.nD Cert.FfnLatIdeal.τ).loc Cert.FfnLatIdeal.main_arg1))
        (m ((c : Thread Cert.FfnLatIdeal.nD Cert.FfnLatIdeal.τ).loc Cert.FfnLatIdeal.main_arg2)) (m ((c : Thread Cert.FfnLatIdeal.nD Cert.FfnLatIdeal.τ).loc Cert.FfnLatIdeal.main_arg3))
        (m ((c : Thread Cert.FfnLatIdeal.nD Cert.FfnLatIdeal.τ).loc Cert.FfnLatIdeal.main_arg4)) (m ((c : Thread Cert.FfnLatIdeal.nD Cert.FfnLatIdeal.τ).loc Cert.FfnLatIdeal.main_arg5))
        (m ((c : Thread Cert.FfnLatIdeal.nD Cert.FfnLatIdeal.τ).loc Cert.FfnLatIdeal.main_arg6)) n k
      = ffnLat siluR (m ((c : Thread Cert.FfnLatIdeal.nD Cert.FfnLatIdeal.τ).loc Cert.FfnLatIdeal.main_arg0)) (m ((c : Thread Cert.FfnLatIdeal.nD Cert.FfnLatIdeal.τ).loc Cert.FfnLatIdeal.main_arg1))
        (m ((c : Thread Cert.FfnLatIdeal.nD Cert.FfnLatIdeal.τ).loc Cert.FfnLatIdeal.main_arg2)) (m ((c : Thread Cert.FfnLatIdeal.nD Cert.FfnLatIdeal.τ).loc Cert.FfnLatIdeal.main_arg3))
        (m ((c : Thread Cert.FfnLatIdeal.nD Cert.FfnLatIdeal.τ).loc Cert.FfnLatIdeal.main_arg4)) (m ((c : Thread Cert.FfnLatIdeal.nD Cert.FfnLatIdeal.τ).loc Cert.FfnLatIdeal.main_arg5))
        (m ((c : Thread Cert.FfnLatIdeal.nD Cert.FfnLatIdeal.τ).loc Cert.FfnLatIdeal.main_arg6)) n k := by
  obtain ⟨p0, p1, p2, p3, p4, p5⟩ := hpre c
  generalize m ((c : Thread Cert.FfnLatIdeal.nD Cert.FfnLatIdeal.τ).loc Cert.FfnLatIdeal.main_arg0) = x0 at *
  generalize m ((c : Thread Cert.FfnLatIdeal.nD Cert.FfnLatIdeal.τ).loc Cert.FfnLatIdeal.main_arg1) = x1 at *
  generalize m ((c : Thread Cert.FfnLatIdeal.nD Cert.FfnLatIdeal.τ).loc Cert.FfnLatIdeal.main_arg2) = x2 at *
  generalize m ((c : Thread Cert.FfnLatIdeal.nD Cert.FfnLatIdeal.τ).loc Cert.FfnLatIdeal.main_arg3) = x3 at *
  generalize m ((c : Thread Cert.FfnLatIdeal.nD Cert.FfnLatIdeal.τ).loc Cert.FfnLatIdeal.main_arg4) = x4 at *
  generalize m ((c : Thread Cert.FfnLatIdeal.nD Cert.FfnLatIdeal.τ).loc Cert.FfnLatIdeal.main_arg5) = x5 at *
  have f0 : ∀ i, Fin' (x0 i) := fun i => Cert.NA.real_of_word _ (congrFun p0 i)
  have f1 : ∀ (b : Fin 8) (k : Fin 6144), 3072 ≤ k.val → k.val < 5120 → Fin' (x1 (ix3 b 0 k)) := fun b k h1 h2 => by
    obtain ⟨r, hr⟩ := Cert.NA.real_of_word _ (congrFun p1 (ix3 b 0 (⟨k.val - 3072, by omega⟩ : Fin 2048)))
    refine ⟨r, Eq.trans ?_ hr⟩
    exact (extractStridedSlice_apply ![0, 0, 3072] x1 _ (ix3 b 0 (⟨k.val - 3072, by omega⟩ : Fin 2048)) (ix3 b 0 k) (fun a => match a with
      | ⟨0, _⟩ => (Nat.zero_add _).symm
      | ⟨1, _⟩ => rfl
      | ⟨2, _⟩ => (show k.val = 3072 + (k.val - 3072) by omega))).symm
  have f2 : ∀ i, Fin' (x2 i) := fun i => Cert.NA.real_of_word _ (congrFun p2 i)
  have f3 : ∀ (j : Fin 1024) (f : Fin 2816), Fin' (x3 (ix2 j ⟨2816 + f.val, by omega⟩)) := fun j f => by
    obtain ⟨r, hr⟩ := Cert.NA.real_of_word _ (congrFun p3 (ix2 j f))
    refine ⟨r, Eq.trans ?_ hr⟩
    exact (extractStridedSlice_apply ![0, 2816] x3 _ (ix2 j f) (ix2 j ⟨2816 + f.val, by omega⟩) (fun a => match a with
      | ⟨0, _⟩ => (Nat.zero_add _).symm
      | ⟨1, _⟩ => rfl)).symm
  have f4 : ∀ (j : Fin 3) (f : Fin 2816), Fin' (x4 (ix2 j ⟨2816 + f.val, by omega⟩)) := fun j f => by
    obtain ⟨r, hr⟩ := Cert.NA.real_of_word _ (congrFun p4 (ix2 j f))
    refine ⟨r, Eq.trans ?_ hr⟩
    exact (extractStridedSlice_apply ![0, 2816] x4 _ (ix2 j f) (ix2 j ⟨2816 + f.val, by omega⟩) (fun a => match a with
      | ⟨0, _⟩ => (Nat.zero_add _).symm
      | ⟨1, _⟩ => rfl)).symm
  have f5 : ∀ (f : Fin 2816), Fin' (x5 (ix1 ⟨2816 + f.val, by omega⟩)) := fun f => by
    obtain ⟨r, hr⟩ := Cert.NA.real_of_word _ (congrFun p5 (ix1 f))
    refine ⟨r, Eq.trans ?_ hr⟩
    exact (extractStridedSlice_apply ![2816] x5 _ (ix1 f) (ix1 ⟨2816 + f.val, by omega⟩) (fun a => match a with
      | ⟨0, _⟩ => rfl)).symm
  exact ffnAt_act _ _ _ _ _ _ _ _ _ _ _ _ _ _ _ _ (fun _ => f0 _) (fun _ => f0 _) (fun _ => f0 _) (fun _ => f2 _)
    (fun k => f1 _ _ (show 3072 ≤ 4096 + k.val by omega) (show 4096 + k.val < 5120 by omega))
    (fun k => f1 _ _ (show 3072 ≤ 3072 + k.val by omega) (show 3072 + k.val < 5120 by omega)) f3 (f4 0) (f4 1) (f4 2) f5
end

set_option maxHeartbeats 1000000 in
theorem algebraic : Cert.algebraic_FfnLatIdeal_FfnLatReferenceIdeal_pre_ffn_finite (hFfnLatIdeal := Cert.FfnLatIdeal.Gen.facts)
    (hFfnLatReferenceIdeal := Cert.FfnLatReferenceIdeal.Gen.facts) (hPre_ffn_finite := Cert.Pre_ffn_finite.holds) := by
  intro m g m' g' hpre hargs
  refine ⟨fun c => Cert.FfnLatIdeal.Gen.spec m c,
    (θ_run _ _ _).mono (fun _ h c => ⟨(h c).1.trans (Cert.FfnLatIdeal.Gen.final m c), (h c).2⟩) (Cert.FfnLatIdeal.Value.run_blocks m g),
    (θ_run _ _ _).mono (fun _ h c => ⟨(h c).1.trans ?_, (h c).2⟩) (Cert.FfnLatReferenceIdeal.Value.run (F := Ideal) m' g')⟩
  obtain ⟨a0, a1, a2, a3, a4, a5, a6⟩ := hargs c
  rw [Cert.FfnLatReferenceIdeal.Read.val_main_v55_eq, a0, a1, a2, a3, a4, a5, a6]
  funext i
  rw [eq_ix2 i]
  exact (Cert.FfnLatReferenceIdeal.Read.result_at _ _ _ _ _ _ _ _ _).trans (act_eq m hpre c _ _).symm

end Cert.Layer.FfnLat
-- ==== Proof.Layer.MergeCtx.Out.lean ====
/-
  What one point of the context's merge call stores, at every element.
-/
module

public import proofs.«01_k».proof.Proof.Gen.MergeCtxIdeal.Value
public import proofs.«01_k».proof.Proof.Layer.Math
public import Idealize.ShloMosaic.Lib.Pointwise
public import Idealize.ShloMosaic.Lib.Pipeline.ValueKit

@[expose] public section

set_option maxRecDepth 4096

noncomputable section

open Idealize.ShloMosaic Idealize.ShloMosaic.TcCoe Idealize.SL.Sem Idealize.ShloMosaic.Pipeline

namespace Cert.MergeCtxIdeal.Gen
open Cert.Layer

theorem pay2_at (y : S512x2048.Idx → EReal) (g : S1x2048.Idx → EReal) (w : S2048x1024.Idx → EReal) (r : Fin 512) (j : Fin 1024) :
    k0_pay2 (F := Ideal) y g w (ix2 r j) = ∑ k : Fin 2048, rms dimW epsW (fun k => y (ix2 r k)) k * g (ix2 0 k) * w (ix2 k j) := by
  pointwise [k0_pay2]
  rfl

theorem pay3_at (na ga : S512x1024.Idx → EReal) (w : S1024x1024.Idx → EReal) (r : Fin 512) (j : Fin 1024) :
    k0_pay3 (F := Ideal) na w ga (ix2 r j) = Ideal.div 1 (1 + Ideal.exp (-ga (ix2 r j))) * ∑ k : Fin 1024, na (ix2 r k) * w (ix2 k j) := by
  pointwise [k0_pay3]
  rw [half_word, sigm]

theorem pay1_at (s n gb x : S512x1024.Idx → EReal) (w : S1024x1024.Idx → EReal) (gt : S1x1x1024.Idx → EReal) (r : Fin 512) (c : Fin 1024) :
    k0_pay1 (F := Ideal) s n gb w x gt (ix2 r c)
      = x (ix2 r c) + gt (ix3 0 0 c) * ∑ j : Fin 1024, (n (ix2 r j) + Ideal.div 1 (1 + Ideal.exp (-gb (ix2 r j))) * s (ix2 r j)) * w (ix2 j c) := by
  pointwise [k0_pay1]
  simp only [half_word, sigm]

theorem out_at (x na : S512x1024.Idx → EReal) (y : S512x2048.Idx → EReal) (ga gb : S512x1024.Idx → EReal) (m : S1x1x6144.Idx → EReal)
    (g : S1x2048.Idx → EReal) (wna : S1024x1024.Idx → EReal) (wssd : S2048x1024.Idx → EReal) (wo : S1024x1024.Idx → EReal) (r : Fin 512) (c : Fin 1024) :
    out0_10 (F := Ideal) x na y ga gb m g wna wssd wo (ix2 r c)
      = mergeAt dimW epsW (x (ix2 r c)) (m (ix3 0 0 (Fin.ofNat 6144 (2048 + c.val)))) (fun k => na (ix2 r k)) (fun k => y (ix2 r k)) (fun k => ga (ix2 r k))
          (fun k => gb (ix2 r k)) (fun k => g (ix2 0 k)) (fun k j => wna (ix2 k j)) (fun k j => wssd (ix2 k j)) (fun j => wo (ix2 j c)) := by
  frame_out
  rw [pay1_at]
  unfold mergeAt
  simp only [pay2_at, pay3_at]
  exact congrArg (fun z => x (ix2 r c) + m z * _) ((by funext a; exact Fin.ext (by match a with | ⟨0, _⟩ => rfl | ⟨1, _⟩ => rfl | ⟨2, _⟩ => simp [r0_5, Rect.unit, Fin.ofNat]; try omega)))

end Cert.MergeCtxIdeal.Gen
-- ==== Proof.Layer.MergeCtx.Spec.lean ====
/-
  The context's merge's result as a function of the arguments.
-/
module

public import proofs.«01_k».proof.Proof.Layer.Math
public import Idealize.ShloMosaic.Lib.Pointwise

@[expose] public section

noncomputable section

open Idealize.ShloMosaic

namespace Cert.Layer

def mergeCtx (x : Shape.Idx ⟨3, ![16, 256, 1024]⟩ → EReal) (na : Shape.Idx ⟨2, ![4096, 1024]⟩ → EReal) (y : Shape.Idx ⟨2, ![4096, 2048]⟩ → EReal)
    (ga gb : Shape.Idx ⟨2, ![4096, 1024]⟩ → EReal) (m : Shape.Idx ⟨3, ![1, 1, 6144]⟩ → EReal) (g : Shape.Idx ⟨1, ![2048]⟩ → EReal)
    (wna : Shape.Idx ⟨2, ![1024, 1024]⟩ → EReal) (wssd : Shape.Idx ⟨2, ![2048, 1024]⟩ → EReal) (wo : Shape.Idx ⟨2, ![1024, 1024]⟩ → EReal)
    (n : Fin 4096) (c : Fin 1024) : EReal :=
  mergeAt dimW epsW (x (ix3 ⟨n.val / 256, by omega⟩ ⟨n.val % 256, by omega⟩ c)) (m (ix3 0 0 ⟨2048 + c.val, by omega⟩))
    (fun k => na (ix2 n k)) (fun k => y (ix2 n k)) (fun k => ga (ix2 n k)) (fun k => gb (ix2 n k)) (fun k => g (ix1 k))
    (fun k j => wna (ix2 k j)) (fun k j => wssd (ix2 k j)) (fun j => wo (ix2 j c))

end Cert.Layer
-- ==== Proof.Layer.MergeCtx.Arr.lean ====
/-
  The context's merge call's result array, at every element, from the arguments.
-/
module

public import proofs.«01_k».proof.Proof.Layer.MergeCtx.Out
public import proofs.«01_k».proof.Proof.Layer.MergeCtx.Spec
public import Idealize.ShloMosaic.Lib.StableHlo.ReadAt

@[expose] public section

set_option maxRecDepth 4096

noncomputable section

open Idealize.ShloMosaic Idealize.ShloMosaic.TcCoe Idealize.SL.Sem Idealize.ShloMosaic.Pipeline

namespace Cert.MergeCtxIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 0] := (by decide +kernel : ∀ t : Fin grid0.N, win0_1.index t = ![t.val, 0])
theorem idx0_2 : ∀ t : Fin cfg0.N, win0_2.index t = ![t.val, 0] := (by decide +kernel : ∀ t : Fin grid0.N, win0_2.index t = ![t.val, 0])
theorem idx0_3 : ∀ t : Fin cfg0.N, win0_3.index t = ![t.val, 3] := (by decide +kernel : ∀ t : Fin grid0.N, win0_3.index t = ![t.val, 3])
theorem idx0_4 : ∀ t : Fin cfg0.N, win0_4.index t = ![t.val, 4] := (by decide +kernel : ∀ t : Fin grid0.N, win0_4.index t = ![t.val, 4])
theorem idx0_5 : ∀ t : Fin cfg0.N, win0_5.index t = ![0, 0, 0] := (by decide +kernel : ∀ t : Fin grid0.N, win0_5.index t = ![0, 0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![0, 0] := (by decide +kernel : ∀ t : Fin grid0.N, win0_8.index t = ![0, 0])
theorem idx0_9 : ∀ t : Fin cfg0.N, win0_9.index t = ![0, 0] := (by decide +kernel : ∀ t : Fin grid0.N, win0_9.index t = ![0, 0])
theorem idx0_10 : ∀ t : Fin cfg0.N, win0_10.index t = ![t.val, 0] := (by decide +kernel : ∀ t : Fin grid0.N, win0_10.index t = ![t.val, 0])

/-- The result, at the arguments of core `c`. -/
def spec (c : Dev nD) : S4096x1024.Idx → EReal := fun i =>
  mergeCtx (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (i 0) (i 1)

section
variable (U : Valuation τ sig (Elt Ideal))

theorem pa_at (n : Fin 4096) (col : Fin 1024) :
    (StableHlo.after hostOps0 U (Proc.devRef .tc main_v1) : S4096x5120.Idx → EReal) (ix2 n ⟨3072 + col.val, by omega⟩)
      = (U (Proc.devRef .tc main_arg4) : S4096x1024.Idx → EReal) (ix2 n col) := by
  after_reads_at
  rfl

theorem pb_at (n : Fin 4096) (col : Fin 1024) :
    (StableHlo.after hostOps0 U (Proc.devRef .tc main_v1) : S4096x5120.Idx → EReal) (ix2 n ⟨4096 + col.val, by omega⟩)
      = (U (Proc.devRef .tc main_arg5) : S4096x1024.Idx → EReal) (ix2 n col) := by
  after_reads_at
  rw [dif_neg (by omega), dif_neg (by omega)]
  exact congrArg (fun z => (U (Proc.devRef .tc main_arg5) : S4096x1024.Idx → EReal) (ix2 n z)) (Fin.ext (by simp; omega))

theorem mod_at (col : Fin 6144) :
    (StableHlo.after hostOps0 U (Proc.devRef .tc main_v3) : S16x1x6144.Idx → EReal) (ix3 0 0 col)
      = (U (Proc.devRef .tc main_arg6) : S1x1x6144.Idx → EReal) (ix3 0 0 col) := by
  after_reads_at
end

theorem b0 (c : Dev nD) (t : Fin cfg0.N) (r : Fin 512) (k : Fin 1024) (n : Fin 4096) (hn : n.val = t.val * 512 + r.val) :
    iblk m c 0 t (ix2 r k) = m ((c : Thread nD τ).loc main_arg0) (ix3 ⟨n.val / 256, by omega⟩ ⟨n.val % 256, by omega⟩ k) := by
  blk_point [iblk, V, idx0_0 t]
theorem b1 (c : Dev nD) (t : Fin cfg0.N) (r : Fin 512) (k : Fin 1024) (n : Fin 4096) (hn : n.val = t.val * 512 + r.val) :
    iblk m c 1 t (ix2 r k) = m ((c : Thread nD τ).loc main_arg1) (ix2 n k) := by
  blk_point [iblk, V, idx0_1 t]
theorem b2 (c : Dev nD) (t : Fin cfg0.N) (r : Fin 512) (k : Fin 2048) (n : Fin 4096) (hn : n.val = t.val * 512 + r.val) :
    iblk m c 2 t (ix2 r k) = m ((c : Thread nD τ).loc main_arg2) (ix2 n k) := by
  blk_point [iblk, V, idx0_2 t]
theorem b3 (c : Dev nD) (t : Fin cfg0.N) (r : Fin 512) (k : Fin 1024) (n : Fin 4096) (hn : n.val = t.val * 512 + r.val) :
    iblk m c 3 t (ix2 r k) = m ((c : Thread nD τ).loc main_arg4) (ix2 n k) := by
  have e : iblk m c 3 t (ix2 r k) = V m c main_v1 (ix2 n ⟨3072 + k.val, by omega⟩) := by
    blk_simp [iblk]
    refine congrArg _ ((eq_ix2 _).trans ?_)
    refine congr (congrArg ix2 (Fin.ext ?_)) (Fin.ext ?_) <;> blk_simp [idx0_3 t]
    omega
  exact e.trans (pa_at _ n k)
theorem b4 (c : Dev nD) (t : Fin cfg0.N) (r : Fin 512) (k : Fin 1024) (n : Fin 4096) (hn : n.val = t.val * 512 + r.val) :
    iblk m c 4 t (ix2 r k) = m ((c : Thread nD τ).loc main_arg5) (ix2 n k) := by
  have e : iblk m c 4 t (ix2 r k) = V m c main_v1 (ix2 n ⟨4096 + k.val, by omega⟩) := by
    blk_simp [iblk]
    refine congrArg _ ((eq_ix2 _).trans ?_)
    refine congr (congrArg ix2 (Fin.ext ?_)) (Fin.ext ?_) <;> blk_simp [idx0_4 t]
    omega
  exact e.trans (pb_at _ n k)
theorem b5 (c : Dev nD) (t : Fin cfg0.N) (k : Fin 6144) :
    iblk m c 5 t (ix3 0 0 k) = m ((c : Thread nD τ).loc main_arg6) (ix3 0 0 k) := by
  have e : iblk m c 5 t (ix3 0 0 k) = V m c main_v3 (ix3 0 0 k) := by
    blk_simp [iblk]
    refine congrArg _ ((eq_ix3 _).trans ?_)
    refine congr (congr (congrArg ix3 (Fin.ext ?_)) (Fin.ext ?_)) (Fin.ext ?_) <;> blk_simp [idx0_5 t]
    rfl
  exact e.trans (mod_at _ k)
theorem b6 (c : Dev nD) (t : Fin cfg0.N) (k : Fin 2048) :
    iblk m c 6 t (ix2 0 k) = m ((c : Thread nD τ).loc main_arg7) (ix1 k) := by
  blk_point [iblk, V, idx0_6 t]
theorem b7 (c : Dev nD) (t : Fin cfg0.N) (j k : Fin 1024) :
    iblk m c 7 t (ix2 j k) = m ((c : Thread nD τ).loc main_arg8) (ix2 j k) := by
  blk_point [iblk, V, idx0_7 t]
theorem b8 (c : Dev nD) (t : Fin cfg0.N) (j : Fin 2048) (k : Fin 1024) :
    iblk m c 8 t (ix2 j k) = m ((c : Thread nD τ).loc main_arg9) (ix2 j k) := by
  blk_point [iblk, V, idx0_8 t]
theorem b9 (c : Dev nD) (t : Fin cfg0.N) (j k : Fin 1024) :
    iblk m c 9 t (ix2 j k) = m ((c : Thread nD τ).loc main_arg10) (ix2 j k) := by
  blk_point [iblk, V, idx0_9 t]

theorem final (c : Dev nD) : (dats m 0 c).arrAt 10 cfg0.N = spec m c := by
  refine (dats m 0 c).arrAt_eq_of_covers 10 _ (by decide +kernel) fun t hf y => ?_
  have ht : t.val < 8 := t.isLt
  have hemb : ∃ (r : Fin 512) (k : Fin 1024), y = ix2 r k ∧ ((cfg0.win 10).blk t).view.emb y = ix2 (⟨t.val * 512 + r.val, by omega⟩ : Fin 4096) k := by
    obtain ⟨r, k, rfl⟩ : ∃ (r : Fin 512) (k : Fin 1024), y = ix2 r k := ⟨y 0, y 1, eq_ix2 y⟩
    refine ⟨r, k, rfl, (eq_ix2 _).trans ?_⟩
    refine congr (congrArg ix2 (Fin.ext ?_)) (Fin.ext ?_) <;> blk_simp [idx0_10 t]
  obtain ⟨r, k, rfl, he⟩ := hemb
  rw [he]
  show (dats m 0 c).after 10 t (ix2 r k) = _
  rw [after0_10]
  refine (out_at _ _ _ _ _ _ _ _ _ _ r k).trans ?_
  have hr := r.isLt
  obtain ⟨n, hn⟩ : ∃ n : Fin 4096, n.val = t.val * 512 + r.val := ⟨⟨t.val * 512 + r.val, by omega⟩, rfl⟩
  have e0 := b0 m c t r k n hn
  have e5 := b5 m c t (Fin.ofNat 6144 (2048 + k.val))
  have e1 := fun k => b1 m c t r k n hn
  have e2 := fun k => b2 m c t r k n hn
  have e3 := fun k => b3 m c t r k n hn
  have e4 := fun k => b4 m c t r k n hn
  have e6 := b6 m c t
  have e7 := b7 m c t
  have e8 := b8 m c t
  have e9 := b9 m c t
  rw [e0, e5, funext e1, funext e2, funext e3, funext e4, funext e6, funext fun a => funext (e7 a), funext fun a => funext (e8 a), funext fun a => e9 a k]
  have hn' : (⟨t.val * 512 + r.val, by omega⟩ : Fin 4096) = n := Fin.ext hn.symm
  rw [hn']
  have hk : Fin.ofNat 6144 (2048 + k.val) = ⟨2048 + k.val, by omega⟩ := Fin.ext (Nat.mod_eq_of_lt (by omega))
  rw [hk]
  rfl

end Cert.MergeCtxIdeal.Gen
-- ==== Proof.Layer.MergeCtx.Ref.lean ====
/-
  The context's merge reference's result, read at every element.
-/
module

public import proofs.«01_k».proof.Proof.Gen.MergeCtxReferenceIdeal.Read
public import proofs.«01_k».proof.Proof.Layer.MergeCtx.Spec

@[expose] public section

set_option maxRecDepth 4096

noncomputable section

open Idealize.ShloMosaic Idealize.ShloMosaic.TcCoe Idealize.SL.Sem

namespace Cert.MergeCtxReferenceIdeal.Read
open Cert.MergeCtxReferenceIdeal Cert.Layer

variable (x0 : S16x256x1024.Idx → EReal) (x1 : S4096x1024.Idx → EReal) (x2 : S4096x2048.Idx → EReal) (x4 x5 : S4096x1024.Idx → EReal)
  (x6 : S1x1x6144.Idx → EReal) (x7 : S2048.Idx → EReal) (x8 : S1024x1024.Idx → EReal) (x9 : S2048x1024.Idx → EReal) (x10 : S1024x1024.Idx → EReal)

theorem gate_at (n : Fin 4096) (c : Fin 1024) :
    val_main_v34 (F := Ideal) x6 (ix2 n c) = x6 (ix3 0 0 ⟨2048 + c.val, by omega⟩) := by
  pointwise [val_main_v34, val_main_v1, val_main_v0]

theorem norm_at (n : Fin 4096) (k : Fin 2048) :
    val_main_v14 (F := Ideal) x2 x7 (ix2 n k) = rms dimW epsW (fun k => x2 (ix2 n k)) k * x7 (ix1 k) := by
  pointwise [val_main_v14, val_main_v11, val_main_v10, val_main_v9, val_main_v8, val_main_v6, val_main_v4, val_main_v3, val_main_v2,
    val_main_v5, val_main_v7, val_main_v13, val_main_v12, val_main_cst, val_main_cst_0, val_main_cst_1]
  rfl

theorem siga_at (n : Fin 4096) (k : Fin 1024) :
    val_main_v20 (F := Ideal) x4 (ix2 n k) = Ideal.div 1 (1 + Ideal.exp (-x4 (ix2 n k))) := by
  pointwise [val_main_v20, val_main_v19, val_main_v18, val_main_v17, val_main_v16, val_main_v15, val_main_cst_2, val_main_cst_3]

theorem sigb_at (n : Fin 4096) (k : Fin 1024) :
    val_main_v28 (F := Ideal) x5 (ix2 n k) = Ideal.div 1 (1 + Ideal.exp (-x5 (ix2 n k))) := by
  pointwise [val_main_v28, val_main_v27, val_main_v26, val_main_v25, val_main_v24, val_main_v23, val_main_cst_4, val_main_cst_5]

theorem ssd_at (n : Fin 4096) (j : Fin 1024) :
    val_main_v29 (F := Ideal) x2 x7 x9 (ix2 n j) = ∑ k : Fin 2048, rms dimW epsW (fun k => x2 (ix2 n k)) k * x7 (ix1 k) * x9 (ix2 k j) := by
  have h := norm_at x2 x7 n
  unfold val_main_v29
  generalize val_main_v14 (F := Ideal) x2 x7 = z at *
  pointwise
  simp only [h]

theorem mix_at (n : Fin 4096) (j : Fin 1024) :
    val_main_v31 (F := Ideal) x1 x2 x4 x5 x7 x8 x9 (ix2 n j)
      = Ideal.div 1 (1 + Ideal.exp (-x4 (ix2 n j))) * (∑ k : Fin 1024, x1 (ix2 n k) * x8 (ix2 k j))
        + Ideal.div 1 (1 + Ideal.exp (-x5 (ix2 n j))) * ∑ k : Fin 2048, rms dimW epsW (fun k => x2 (ix2 n k)) k * x7 (ix1 k) * x9 (ix2 k j) := by
  have h1 := siga_at x4 n j
  have h2 := sigb_at x5 n j
  have h3 := ssd_at x2 x7 x9 n j
  unfold val_main_v31 val_main_v30 val_main_v22
  generalize val_main_v20 (F := Ideal) x4 = a at *
  generalize val_main_v28 (F := Ideal) x5 = b at *
  generalize val_main_v29 (F := Ideal) x2 x7 x9 = d at *
  pointwise [val_main_v21]
  rw [h1, h2, h3]

theorem result_at (n : Fin 4096) (c : Fin 1024) :
    val_main_v36 (F := Ideal) x0 x1 x2 x4 x5 x6 x7 x8 x9 x10 (ix2 n c) = mergeCtx x0 x1 x2 x4 x5 x6 x7 x8 x9 x10 n c := by
  have h1 := gate_at x6 n c
  have h2 := fun j => mix_at x1 x2 x4 x5 x7 x8 x9 n j
  unfold val_main_v36 val_main_v35 val_main_v33 mergeCtx mergeAt
  generalize val_main_v34 (F := Ideal) x6 = a at *
  generalize val_main_v31 (F := Ideal) x1 x2 x4 x5 x7 x8 x9 = b at *
  pointwise [val_main_v32]
  rw [h1]
  simp only [h2]

end Cert.MergeCtxReferenceIdeal.Read
-- ==== Proof.Layer.MergeCtx.Run.lean ====
/-
  The context's merge: the call's result is the reference's.
-/
module

public import proofs.«01_k».proof.Defs
public import proofs.«01_k».proof.Proof.Layer.MergeCtx.Arr
public import proofs.«01_k».proof.Proof.Layer.MergeCtx.Ref
public import proofs.«01_k».proof.Proof.Gen.MergeCtxReferenceIdeal.Run

@[expose] public section

set_option maxRecDepth 4096

noncomputable section

open Idealize.ShloMosaic Idealize.ShloMosaic.TcCoe Idealize.SL.Sem

namespace Cert.Layer.MergeCtx

theorem frame_reference : Cert.quiescent_MergeCtxReferenceIdeal (hMergeCtxReferenceIdeal := Cert.MergeCtxReferenceIdeal.Gen.facts) := fun m ρ _ =>
  (θ_run _ _ _).mono (fun _ h => ⟨fun c => (h c).2, sem_eq_zero_of_no_sems rfl _⟩) (Cert.MergeCtxReferenceIdeal.Value.run (F := Ideal) m ρ)

set_option maxHeartbeats 1000000 in
theorem algebraic : Cert.algebraic_MergeCtxIdeal_MergeCtxReferenceIdeal (hMergeCtxIdeal := Cert.MergeCtxIdeal.Gen.facts)
    (hMergeCtxReferenceIdeal := Cert.MergeCtxReferenceIdeal.Gen.facts) := by
  intro m g m' g' hpre hargs
  refine ⟨fun c => Cert.MergeCtxIdeal.Gen.spec m c,
    (θ_run _ _ _).mono (fun _ h c => ⟨(h c).1.trans (Cert.MergeCtxIdeal.Gen.final m c), (h c).2⟩) (Cert.MergeCtxIdeal.Value.run_blocks m g),
    (θ_run _ _ _).mono (fun _ h c => ⟨(h c).1.trans ?_, (h c).2⟩) (Cert.MergeCtxReferenceIdeal.Value.run (F := Ideal) m' g')⟩
  obtain ⟨a0, a1, a2, a3, a4, a5, a6, a7, a8, a9, a10⟩ := hargs c
  rw [Cert.MergeCtxReferenceIdeal.Read.val_main_v36_eq, a0, a1, a2, a4, a5, a6, a7, a8, a9, a10]
  funext i
  rw [eq_ix2 i]
  exact Cert.MergeCtxReferenceIdeal.Read.result_at _ _ _ _ _ _ _ _ _ _ _ _

end Cert.Layer.MergeCtx
-- ==== Proof.Layer.FfnCtx.Out.lean ====
/-
  What one point of the context's feed-forward call stores, at every element: the normed rows and their neighbours' in one scratch, the
  activated columns, a block of 256 at a time, in another.
-/
module

public import proofs.«01_k».proof.Proof.Gen.FfnCtxIdeal.Value
public import proofs.«01_k».proof.Proof.Layer.Ffn
public import Idealize.ShloMosaic.Lib.Pointwise
public import Idealize.ShloMosaic.Lib.Pipeline.ValueKit

@[expose] public section

set_option maxRecDepth 4096

noncomputable section

open Idealize.ShloMosaic Idealize.ShloMosaic.TcCoe Idealize.SL.Sem Idealize.ShloMosaic.Pipeline

namespace Cert.FfnCtxIdeal.Gen
open Cert.Layer

variable (m : (l : Loc nD τ sig) → Buf (Elt Ideal) l)

/-- The convolved up-projection of row `r` of a point, from the up-projections `u` of its rows: 512 of its own, then the eight
    before and the eight after; `p` is the row's place in its sequence. -/
def convRow (p : BitVec 32) (kb ka : BitVec 1) (u : Fin 528 → EReal) (c0 c1 c2 b : EReal) (r : Fin 512) : EReal :=
  c0 * Scalar.select (Scalar.cmpi .ne p 0#32) (if h : r.val = 0 then Scalar.select kb (u 519) 0 else u ⟨r.val - 1, by omega⟩) 0 + c1 * u ⟨r.val, by omega⟩
    + c2 * Scalar.select (Scalar.cmpi .ne p 255#32) (if h : r.val = 511 then Scalar.select ka (u 520) 0 else u ⟨r.val + 1, by omega⟩) 0 + b

theorem mul_sel (k : BitVec 1) (a b : EReal) : Scalar.select k (a * b) 0 = a * Scalar.select k b 0 := by
  unfold Scalar.select
  split
  · rfl
  · exact (mul_zero a).symm

theorem conv_at (p : S512x1.Idx → BitVec 32) (kb ka : BitVec 1) (H : S528x1024.Idx → EReal) (w : S1024x256.Idx → EReal) (cw : S3x256.Idx → EReal) (cb : S1x256.Idx → EReal) (r : Fin 512) (x : Fin 256) :
    k0_pay44 (F := Ideal) p kb ka H w cw cb (ix2 r x)
      = convRow (p (ix2 r 0)) kb ka (fun row => ∑ k : Fin 1024, H (ix2 row k) * w (ix2 k x)) (cw (ix2 0 x)) (cw (ix2 1 x)) (cw (ix2 2 x)) (cb (ix2 0 x)) r := by
  pointwise [k0_pay44]
  simp only [mul_sel]
  unfold convRow
  have hr := r.isLt
  refine congr (congrArg HAdd.hAdd (congr (congrArg HAdd.hAdd (congr (congrArg HAdd.hAdd (congrArg _ (congrArg (fun z : EReal => Scalar.select (Scalar.cmpi .ne (p (ix2 r 0)) 0#32) z 0) ?_))) rfl)) (congrArg _ (congrArg (fun z : EReal => Scalar.select (Scalar.cmpi .ne (p (ix2 r 0)) 255#32) z 0) ?_)))) rfl
  · by_cases h0 : r.val = 0
    on_goal 1 => rw [dif_pos h0]
    on_goal 2 => rw [dif_neg h0]
    all_goals split_ifs
    all_goals first
      | omega
      | exact congrArg (fun z => Scalar.select kb z 0) (congrArg (fun z : Fin 528 => ∑ k : Fin 1024, H (ix2 z k) * w (ix2 k x)) (Fin.ext (by first | omega | (simp; done) | (simp; omega) | (show _ = (_ : Nat); change _ = 519; omega) | (change _ = 520; omega))))
      | exact congrArg (fun z : Fin 528 => ∑ k : Fin 1024, H (ix2 z k) * w (ix2 k x)) (Fin.ext (by first | omega | (simp; done) | (simp; omega) | (show _ = (_ : Nat); change _ = 519; omega) | (change _ = 520; omega)))
  · by_cases h0 : r.val = 511
    on_goal 1 => rw [dif_pos h0]
    on_goal 2 => rw [dif_neg h0]
    all_goals split_ifs
    all_goals first
      | omega
      | exact congrArg (fun z => Scalar.select ka z 0) (congrArg (fun z : Fin 528 => ∑ k : Fin 1024, H (ix2 z k) * w (ix2 k x)) (Fin.ext (by first | omega | (simp; done) | (simp; omega) | (show _ = (_ : Nat); change _ = 519; omega) | (change _ = 520; omega))))
      | exact congrArg (fun z : Fin 528 => ∑ k : Fin 1024, H (ix2 z k) * w (ix2 k x)) (Fin.ext (by first | omega | (simp; done) | (simp; omega) | (show _ = (_ : Nat); change _ = 519; omega) | (change _ = 520; omega)))

/-- A block of 256 activated columns: the gate's activation times the value. -/
def tile (p : S512x1.Idx → BitVec 32) (kb ka : BitVec 1) (H : S528x1024.Idx → EReal) (wv : S1024x256.Idx → EReal) (cwv : S3x256.Idx → EReal) (cbv : S1x256.Idx → EReal)
    (wg : S1024x256.Idx → EReal) (cwg : S3x256.Idx → EReal) (cbg : S1x256.Idx → EReal) : S512x256.Idx → EReal :=
  k0_pay46 (F := Ideal) (k0_pay44 (F := Ideal) p kb ka H wv cwv cbv) (k0_pay45 (F := Ideal) p kb ka H wg cwg cbg)

theorem act_at (p : S512x1.Idx → BitVec 32) (kb ka : BitVec 1) (V : S512x256.Idx → EReal) (H : S528x1024.Idx → EReal) (w : S1024x256.Idx → EReal) (cw : S3x256.Idx → EReal) (cb : S1x256.Idx → EReal) (r : Fin 512) (x : Fin 256) :
    k0_pay46 (F := Ideal) V (k0_pay45 (F := Ideal) p kb ka H w cw cb) (ix2 r x) = siluK (k0_pay44 (F := Ideal) p kb ka H w cw cb (ix2 r x)) * V (ix2 r x) := by
  pointwise [k0_pay46, k0_pay45, k0_pay44, siluK]
  simp only [half_word]

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_wd {e : EltTy} {n w : Nat} (X : (⟨2, ![n, w]⟩ : Shape).Idx → Elt Ideal e) (o z : Nat) (inb) (k : Fin z) (x : Fin w) (h : o + k.val < n) :
    View.ld (Val := Elt Ideal) (e' := e) (S := ⟨2, ![n, w]⟩) X (Rect.unit ![o, 0] ![z, w] inb) (ix2 k x) = X (ix2 ⟨o + k.val, h⟩ x) :=
  View.ld_unit_apply_of (Val := Elt Ideal) (e := e) X _ _ inb (ix2 k x) (ix2 ⟨o + k.val, h⟩ x) fun a => by
    match a with
    | ⟨0, _⟩ => rfl
    | ⟨1, _⟩ => exact (Nat.zero_add _).symm

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

/-- One activated column of the layer, at row `r` of a point. -/
def actCol (p : BitVec 32) (kb ka : BitVec 1) (H : S528x1024.Idx → EReal) (w : S1024x5632.Idx → EReal) (cw : S3x5632.Idx → EReal) (cb : S1x5632.Idx → EReal)
    (r : Fin 512) (f : Fin 5632) : EReal :=
  convRow p kb ka (fun row => ∑ k : Fin 1024, H (ix2 row k) * w (ix2 k f)) (cw (ix2 0 f)) (cw (ix2 1 f)) (cw (ix2 2 f)) (cb (ix2 0 f)) r

theorem tile_at (p : S512x1.Idx → BitVec 32) (kb ka : BitVec 1) (H : S528x1024.Idx → EReal) (w : S1024x5632.Idx → EReal) (cw : S3x5632.Idx → EReal) (cb : S1x5632.Idx → EReal)
    (o og : Nat) (ho : og = 2816 + o) (i1 i2 i3 i4 i5 i6) (r : Fin 512) (x : Fin 256) (h : o + x.val < 2816) :
    tile p kb ka H (View.ld (Val := Elt Ideal) (e' := .bf16) (S := S1024x5632) w (Rect.unit ![0, o] ![1024, 256] i1))
      (View.ld (Val := Elt Ideal) (e' := .f32) (S := S3x5632) cw (Rect.unit ![0, o] ![3, 256] i2))
      (View.ld (Val := Elt Ideal) (e' := .f32) (S := S1x5632) cb (Rect.unit ![0, o] ![1, 256] i3))
      (View.ld (Val := Elt Ideal) (e' := .bf16) (S := S1024x5632) w (Rect.unit ![0, og] ![1024, 256] i4))
      (View.ld (Val := Elt Ideal) (e' := .f32) (S := S3x5632) cw (Rect.unit ![0, og] ![3, 256] i5))
      (View.ld (Val := Elt Ideal) (e' := .f32) (S := S1x5632) cb (Rect.unit ![0, og] ![1, 256] i6)) (ix2 r x)
      = siluK (actCol (p (ix2 r 0)) kb ka H w cw cb r ⟨2816 + (o + x.val), by omega⟩) * actCol (p (ix2 r 0)) kb ka H w cw cb r ⟨o + x.val, by omega⟩ := by
  have e : (⟨2816 + (o + x.val), by omega⟩ : Fin 5632) = ⟨og + x.val, by omega⟩ := Fin.ext (by subst ho; exact (Nat.add_assoc _ _ _).symm)
  rw [e]
  unfold tile actCol
  rw [act_at, conv_at, conv_at]
  refine congr (congrArg HMul.hMul (congrArg siluK ?_)) ?_
  · refine (congr (congr (congr (congr (congr (congrArg (convRow (p (ix2 r 0)) kb ka) ?_) ?_) ?_) ?_) ?_) rfl)
    · funext row
      exact Finset.sum_congr rfl fun k _ => congrArg (fun z : EReal => H (ix2 row k) * z) (ld_w (e := .bf16) w og 256 i4 k x _)
    · exact ld_w (e := .f32) cw og 256 i5 0 x _
    · exact ld_w (e := .f32) cw og 256 i5 1 x _
    · exact ld_w (e := .f32) cw og 256 i5 2 x _
    · exact ld_w (e := .f32) cb og 256 i6 0 x _
  · refine (congr (congr (congr (congr (congr (congrArg (convRow (p (ix2 r 0)) kb ka) ?_) ?_) ?_) ?_) ?_) rfl)
    · funext row
      exact Finset.sum_congr rfl fun k _ => congrArg (fun z : EReal => H (ix2 row k) * z) (ld_w (e := .bf16) w o 256 i1 k x _)
    · exact ld_w (e := .f32) cw o 256 i2 0 x _
    · exact ld_w (e := .f32) cw o 256 i2 1 x _
    · exact ld_w (e := .f32) cw o 256 i2 2 x _
    · exact ld_w (e := .f32) cb o 256 i3 0 x _

section
variable (p : S512x1.Idx → BitVec 32) (kb ka : BitVec 1) (H : S528x1024.Idx → EReal) (wv : S1024x256.Idx → EReal) (cwv : S3x256.Idx → EReal) (cbv : S1x256.Idx → EReal)
  (wg : S1024x256.Idx → EReal) (cwg : S3x256.Idx → EReal) (cbg : S1x256.Idx → EReal)
theorem tile_0 (a0 : BitVec 32) (hb : Scalar.cmpi CmpIPredicate.ne (Scalar.andi (Scalar.muli a0 512#32) 255#32) 0#32 = kb) :
    k0_pay19 (F := Ideal) (k0_pay18 (F := Ideal) p ka (k0_pay14 (F := Ideal) p ka (k0_pay10 (F := Ideal) H wv) (k0_pay11 (F := Ideal) a0 H wv) (k0_pay12 (F := Ideal) H wv) (k0_pay13 (F := Ideal)) cwv cbv) (k0_pay15 (F := Ideal) H wg) (k0_pay16 (F := Ideal) kb H wg) (k0_pay17 (F := Ideal) H wg) cwg cbg)
      = tile p kb ka H wv cwv cbv wg cwg cbg := by
  subst hb
  rfl
theorem tile_1 : k0_pay23 (F := Ideal) (k0_pay21 (F := Ideal) (k0_pay20 (F := Ideal) p kb ka H wv cwv) cbv) (k0_pay22 (F := Ideal) p kb ka H wg cwg) cbg
      = tile p kb ka H wv cwv cbv wg cwg cbg := rfl
theorem tile_2 : k0_pay36 (F := Ideal) (k0_pay30 (F := Ideal) (k0_pay24 (F := Ideal) H wv) (k0_pay26 (F := Ideal) kb ka H wv) (k0_pay27 (F := Ideal) p kb ka H wv) (k0_pay28 p) (k0_pay29 (F := Ideal)) cwv cbv) (k0_pay31 (F := Ideal) H wg) (k0_pay33 (F := Ideal) kb ka H wg) (k0_pay34 (F := Ideal) p kb ka H wg) (FloatOps.ofBits (F := Ideal) FTy.f32 0#32) (k0_pay35 p) cwg cbg
      = tile p kb ka H wv cwv cbv wg cwg cbg := rfl
theorem tile_3 : k0_pay43 (F := Ideal) p (k0_pay40 (F := Ideal) p (k0_pay37 (F := Ideal) H wv) (k0_pay38 (F := Ideal) kb ka H wv) (k0_pay39 (F := Ideal) kb ka H wv) cwv cbv) (k0_pay41 (F := Ideal) H wg) (k0_pay42 (F := Ideal) kb ka H wg) (1#32) cwg cbg
      = tile p kb ka H wv cwv cbv wg cwg cbg := rfl
theorem tile_4 : k0_pay46 (F := Ideal) (k0_pay44 (F := Ideal) p kb ka H wv cwv cbv) (k0_pay45 (F := Ideal) p kb ka H wg cwg cbg)
      = tile p kb ka H wv cwv cbv wg cwg cbg := rfl
theorem tile_5 : k0_pay57 (F := Ideal) (k0_pay52 (F := Ideal) (k0_pay47 (F := Ideal) H wv) (k0_pay49 (F := Ideal) p kb ka H wv) (k0_pay50 (F := Ideal) p kb ka H wv) cwv (k0_pay51 (F := Ideal) cwv) cbv) (k0_pay53 (F := Ideal) H wg) (k0_pay55 (F := Ideal) p kb ka H wg) (k0_pay56 (F := Ideal) p kb ka H wg) cwg cbg
      = tile p kb ka H wv cwv cbv wg cwg cbg := rfl
theorem tile_6 : k0_pay68 (F := Ideal) p (k0_pay63 (F := Ideal) p (k0_pay58 (F := Ideal) H wv) (k0_pay60 (F := Ideal) kb ka H wv) (k0_pay61 (F := Ideal) kb ka H wv) (k0_pay62 p) cwv cbv) (k0_pay64 (F := Ideal) H wg) (k0_pay66 (F := Ideal) kb ka H wg) (k0_pay67 (F := Ideal) kb ka H wg) (0#32) cwg cbg
      = tile p kb ka H wv cwv cbv wg cwg cbg := rfl
theorem tile_7 : k0_pay74 (F := Ideal) (k0_pay71 (F := Ideal) p kb ka (k0_pay69 (F := Ideal) H wv) (k0_pay70 (F := Ideal) H wv) cwv cbv) (k0_pay73 (F := Ideal) p kb ka H (k0_pay72 (F := Ideal) wg) (constant (F := Ideal) S528x256 FTy.f32 0#32) cwg cbg)
      = tile p kb ka H wv cwv cbv wg cwg cbg := rfl
theorem tile_8 : k0_pay86 (F := Ideal) (k0_pay79 (F := Ideal) (k0_pay77 (F := Ideal) p kb ka H wv) cwv (k0_pay78 (F := Ideal) p kb ka H wv cwv) cbv) (k0_pay82 (F := Ideal) p kb ka H wg) cwg (k0_pay83 (F := Ideal) p kb ka H wg cwg) (k0_pay84 (F := Ideal) H wg) (k0_pay85 (F := Ideal) cwg) cbg
      = tile p kb ka H wv cwv cbv wg cwg cbg := rfl
theorem tile_9 : k0_pay98 (F := Ideal) p (k0_pay91 (F := Ideal) p (k0_pay87 (F := Ideal) H wv) (k0_pay89 (F := Ideal) kb ka H wv) (k0_pay90 (F := Ideal) p kb ka H wv) (255#32) cwv cbv) (k0_pay92 (F := Ideal) H wg) (k0_pay94 (F := Ideal) kb ka H wg) (k0_pay95 (F := Ideal) kb ka H wg) (k0_pay96 p) (k0_pay97 (F := Ideal)) cwg cbg
      = tile p kb ka H wv cwv cbv wg cwg cbg := rfl
theorem tile_10 : k0_pay108 (F := Ideal) (k0_pay107 (F := Ideal) p ka (k0_pay103 (F := Ideal) p ka (k0_pay99 (F := Ideal) H wv) (k0_pay100 (F := Ideal) kb H wv) (k0_pay101 (F := Ideal) H wv) (k0_pay102 (F := Ideal)) cwv cbv) (k0_pay104 (F := Ideal) H wg) (k0_pay105 (F := Ideal) kb H wg) (k0_pay106 (F := Ideal) H wg) cwg cbg)
      = tile p kb ka H wv cwv cbv wg cwg cbg := rfl
end

section
variable (P0 P1 P2 P3 P4 P5 P6 P7 P8 P9 P10 : S512x256.Idx → EReal)
/-- The blocks of activated columns as the second scratch holds them, the last written first. -/
abbrev cols : List (View.Piece (Elt Ideal) S512x2816 .bf16) :=
  [⟨Rect.unit ![0, 2560] ![512, 256] inb_S512x2816_S512x256_0_2560, P10⟩, ⟨Rect.unit ![0, 2304] ![512, 256] inb_S512x2816_S512x256_0_2304, P9⟩, ⟨Rect.unit ![0, 2048] ![512, 256] inb_S512x2816_S512x256_0_2048, P8⟩, ⟨Rect.unit ![0, 1792] ![512, 256] inb_S512x2816_S512x256_0_1792, P7⟩, ⟨Rect.unit ![0, 1536] ![512, 256] inb_S512x2816_S512x256_0_1536, P6⟩, ⟨Rect.unit ![0, 1280] ![512, 256] inb_S512x2816_S512x256_0_1280, P5⟩, ⟨Rect.unit ![0, 1024] ![512, 256] inb_S512x2816_S512x256_0_1024, P4⟩, ⟨Rect.unit ![0, 768] ![512, 256] inb_S512x2816_S512x256_0_768, P3⟩, ⟨Rect.unit ![0, 512] ![512, 256] inb_S512x2816_S512x256_0_512, P2⟩, ⟨Rect.unit ![0, 256] ![512, 256] inb_S512x2816_S512x256_0_256, P1⟩, ⟨Rect.unit ![0, 0] ![512, 256] inb_S512x2816_S512x256_0_0, P0⟩]
theorem skip (P : S512x256.Idx → EReal) (L : List (View.Piece (Elt Ideal) S512x2816 .bf16)) (o o' : Nat) (i i') (h : o + 256 ≤ o') :
    (View.whole cc0_scratch1).readCov (⟨Rect.unit ![0, o'] ![512, 256] i', P⟩ :: L) (Rect.unit (s := S512x2816) ![0, o] ![512, 256] i).toLoadRect
      = (View.whole cc0_scratch1).readCov L (Rect.unit (s := S512x2816) ![0, o] ![512, 256] i).toLoadRect :=
  View.readCov_cons_of_disjoint _ _ _ _ (Rect.unit_disjoint (inb := i') (inb' := i) (1 : Fin 2) (Or.inr h))
theorem cols_0 : (View.whole cc0_scratch1).readCov (cols P0 P1 P2 P3 P4 P5 P6 P7 P8 P9 P10) (Rect.unit ![0, 0] ![512, 256] inb_S512x2816_S512x256_0_0).toLoadRect = P0 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))))))
theorem cols_1 : (View.whole cc0_scratch1).readCov (cols P0 P1 P2 P3 P4 P5 P6 P7 P8 P9 P10) (Rect.unit ![0, 256] ![512, 256] inb_S512x2816_S512x256_0_256).toLoadRect = P1 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))))))
theorem cols_2 : (View.whole cc0_scratch1).readCov (cols P0 P1 P2 P3 P4 P5 P6 P7 P8 P9 P10) (Rect.unit ![0, 512] ![512, 256] inb_S512x2816_S512x256_0_512).toLoadRect = P2 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))))
theorem cols_3 : (View.whole cc0_scratch1).readCov (cols P0 P1 P2 P3 P4 P5 P6 P7 P8 P9 P10) (Rect.unit ![0, 768] ![512, 256] inb_S512x2816_S512x256_0_768).toLoadRect = P3 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))))
theorem cols_4 : (View.whole cc0_scratch1).readCov (cols P0 P1 P2 P3 P4 P5 P6 P7 P8 P9 P10) (Rect.unit ![0, 1024] ![512, 256] inb_S512x2816_S512x256_0_1024).toLoadRect = P4 :=
  (skip _ _ _ _ _ _ (by decide)).trans ((skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _))))))
theorem cols_5 : (View.whole cc0_scratch1).readCov (cols P0 P1 P2 P3 P4 P5 P6 P7 P8 P9 P10) (Rect.unit ![0, 1280] ![512, 256] inb_S512x2816_S512x256_0_1280).toLoadRect = P5 :=
  (skip _ _ _ _ _ _ (by decide)).trans ((skip _ _ _ _ _ _ (by decide)).trans ((skip _ _ _ _ _ _ (by decide)).trans ((skip _ _ _ _ _ _ (by decide)).trans ((skip _ _ _ _ _ _ (by decide)).trans (View.readCov_cons_toLoadRect _ _ _ _)))))
theorem cols_6 : (View.whole cc0_scratch1).readCov (cols P0 P1 P2 P3 P4 P5 P6 P7 P8 P9 P10) (Rect.unit ![0, 1536] ![512, 256] inb_S512x2816_S512x256_0_1536).toLoadRect = P6 :=
  (skip _ _ _ _ _ _ (by decide)).trans ((skip _ _ _ _ _ _ (by decide)).trans ((skip _ _ _ _ _ _ (by decide)).trans ((skip _ _ _ _ _ _ (by decide)).trans (View.readCov_cons_toLoadRect _ _ _ _))))
theorem cols_7 : (View.whole cc0_scratch1).readCov (cols P0 P1 P2 P3 P4 P5 P6 P7 P8 P9 P10) (Rect.unit ![0, 1792] ![512, 256] inb_S512x2816_S512x256_0_1792).toLoadRect = P7 :=
  (skip _ _ _ _ _ _ (by decide)).trans ((skip _ _ _ _ _ _ (by decide)).trans ((skip _ _ _ _ _ _ (by decide)).trans (View.readCov_cons_toLoadRect _ _ _ _)))
theorem cols_8 : (View.whole cc0_scratch1).readCov (cols P0 P1 P2 P3 P4 P5 P6 P7 P8 P9 P10) (Rect.unit ![0, 2048] ![512, 256] inb_S512x2816_S512x256_0_2048).toLoadRect = P8 :=
  (skip _ _ _ _ _ _ (by decide)).trans ((skip _ _ _ _ _ _ (by decide)).trans (View.readCov_cons_toLoadRect _ _ _ _))
theorem cols_9 : (View.whole cc0_scratch1).readCov (cols P0 P1 P2 P3 P4 P5 P6 P7 P8 P9 P10) (Rect.unit ![0, 2304] ![512, 256] inb_S512x2816_S512x256_0_2304).toLoadRect = P9 :=
  (skip _ _ _ _ _ _ (by decide)).trans (View.readCov_cons_toLoadRect _ _ _ _)
theorem cols_10 : (View.whole cc0_scratch1).readCov (cols P0 P1 P2 P3 P4 P5 P6 P7 P8 P9 P10) (Rect.unit ![0, 2560] ![512, 256] inb_S512x2816_S512x256_0_2560).toLoadRect = P10 :=
  View.readCov_cons_toLoadRect _ _ _ _
end

theorem acc_at (A0 A1 A2 A3 A4 A5 A6 A7 A8 A9 A10 : S512x256.Idx → EReal) (W0 W1 W2 W3 W4 W5 W6 W7 W8 W9 W10 : S256x1024.Idx → EReal) (r : Fin 512) (c : Fin 1024) :
    k0_pay111 (F := Ideal) (k0_pay109 (F := Ideal) A0 W0 A1 W1 A2 W2 A3 W3 A4 W4) (k0_pay110 (F := Ideal) A5 W5) A6 W6 A7 W7 A8 W8 A9 W9 A10 W10 (ix2 r c)
      = (∑ k : Fin 256, A0 (ix2 r k) * W0 (ix2 k c)) + (∑ k : Fin 256, A1 (ix2 r k) * W1 (ix2 k c)) + (∑ k : Fin 256, A2 (ix2 r k) * W2 (ix2 k c)) + (∑ k : Fin 256, A3 (ix2 r k) * W3 (ix2 k c)) + (∑ k : Fin 256, A4 (ix2 r k) * W4 (ix2 k c)) + (∑ k : Fin 256, A5 (ix2 r k) * W5 (ix2 k c)) + (∑ k : Fin 256, A6 (ix2 r k) * W6 (ix2 k c)) + (∑ k : Fin 256, A7 (ix2 r k) * W7 (ix2 k c)) + (∑ k : Fin 256, A8 (ix2 r k) * W8 (ix2 k c)) + (∑ k : Fin 256, A9 (ix2 r k) * W9 (ix2 k c)) + (∑ k : Fin 256, A10 (ix2 r k) * W10 (ix2 k c)) := by
  pointwise [k0_pay111, k0_pay109, k0_pay110]

theorem sum11 (f : Fin 2816 → EReal) : ∑ k : Fin 2816, f k
    = (∑ k : Fin 256, f ⟨0 + k.val, by omega⟩) + (∑ k : Fin 256, f ⟨256 + k.val, by omega⟩) + (∑ k : Fin 256, f ⟨512 + k.val, by omega⟩) + (∑ k : Fin 256, f ⟨768 + k.val, by omega⟩) + (∑ k : Fin 256, f ⟨1024 + k.val, by omega⟩) + (∑ k : Fin 256, f ⟨1280 + k.val, by omega⟩) + (∑ k : Fin 256, f ⟨1536 + k.val, by omega⟩) + (∑ k : Fin 256, f ⟨1792 + k.val, by omega⟩) + (∑ k : Fin 256, f ⟨2048 + k.val, by omega⟩) + (∑ k : Fin 256, f ⟨2304 + k.val, by omega⟩) + (∑ k : Fin 256, f ⟨2560 + k.val, by omega⟩) := by
  have g (S : Fin 11 → EReal) : ∑ s, S s = S ⟨0, by decide⟩ + S ⟨1, by decide⟩ + S ⟨2, by decide⟩ + S ⟨3, by decide⟩ + S ⟨4, by decide⟩ + S ⟨5, by decide⟩ + S ⟨6, by decide⟩ + S ⟨7, by decide⟩ + S ⟨8, by decide⟩ + S ⟨9, by decide⟩ + S ⟨10, by decide⟩ := by
    simp only [Fin.sum_univ_castSucc, Fin.sum_univ_zero, zero_add]
    rfl
  have h := (Fin.sum_mul_add_fin 11 256 f).symm.trans (g fun s : Fin 11 => ∑ k : Fin 256, f ⟨s.val * 256 + k.val, by omega⟩)
  refine h.trans ?_
  clear h g
  iterate 10 refine congr (congrArg HAdd.hAdd ?_) ?_
  all_goals exact Finset.sum_congr rfl fun k _ => congrArg f (Fin.ext (by simp))

section
variable (P8 : S16x1024.Idx → EReal) (P5 : S512x1024.Idx → EReal)
/-- The normed rows as the first scratch holds them: the neighbours', written last, and the point's own. -/
abbrev rows : S528x1024.Idx → EReal :=
  View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![528, 1024] inb_S528x1024_S528x1024_0_0).toLoadRect
theorem rows_main (r : Fin 512) (k : Fin 1024) : rows P8 P5 (ix2 ⟨r.val, by omega⟩ k) = P5 (ix2 r k) := by
  have e : (Rect.unit (s := S528x1024) ![0, 0] ![528, 1024] inb_S528x1024_S528x1024_0_0).toLoadRect.idx (ix2 ⟨r.val, by omega⟩ k)
      = (Rect.unit (s := S528x1024) ![0, 0] ![512, 1024] inb_S528x1024_S512x1024_0_0).emb (ix2 r k) := by
    funext a
    match a with
    | ⟨0, _⟩ => exact Fin.ext rfl
    | ⟨1, _⟩ => exact Fin.ext rfl
  unfold rows
  rw [View.readCov_eq_canon']
  show View.canon _ (LoadRect.idx _ _) = _
  rw [e, View.canon_cons_of_not_mem]
  · exact View.canon_cons_emb (Val := Elt Ideal) (e := .bf16) _ _ _ _
  · intro hm
    obtain ⟨j, _, hj⟩ := (LoadRect.mem_set _).mp hm (0 : Fin 2)
    have h1 : 0 + 1 * r.val = 512 + 1 * j := hj
    omega
theorem rows_side (r : Fin 16) (k : Fin 1024) : rows P8 P5 (ix2 ⟨512 + r.val, by omega⟩ k) = P8 (ix2 r k) := by
  have e : (Rect.unit (s := S528x1024) ![0, 0] ![528, 1024] inb_S528x1024_S528x1024_0_0).toLoadRect.idx (ix2 ⟨512 + r.val, by omega⟩ k)
      = (Rect.unit (s := S528x1024) ![512, 0] ![16, 1024] inb_S528x1024_S16x1024_512_0).emb (ix2 r k) := by
    funext a
    match a with
    | ⟨0, _⟩ => exact Fin.ext (show 0 + 1 * (512 + r.val) = 512 + 1 * r.val by omega)
    | ⟨1, _⟩ => exact Fin.ext rfl
  unfold rows
  rw [View.readCov_eq_canon']
  show View.canon _ (LoadRect.idx _ _) = _
  rw [e]
  exact View.canon_cons_emb (Val := Elt Ideal) (e := .bf16) _ _ _ _
end

theorem main_at (g : S1x1024.Idx → EReal) (sh sc : S1x1x1024.Idx → EReal) (x : S512x1024.Idx → EReal) (r : Fin 512) (k : Fin 1024) :
    k0_pay5 (F := Ideal) g sh sc x (ix2 r k)
      = normMod modW epsW (fun k => x (ix2 r k)) (fun k => g (ix2 0 k)) (fun k => sc (ix3 0 0 k)) (fun k => sh (ix3 0 0 k)) k := by
  pointwise [k0_pay5, k0_pay2, k0_pay3, k0_pay4]
  rfl

theorem side_at (g : S1x1024.Idx → EReal) (sh sc : S1x1x1024.Idx → EReal) (xp xn : S8x1024.Idx → EReal) (r : Fin 16) (k : Fin 1024) :
    k0_pay8 (F := Ideal) (k0_pay2 g) (k0_pay3 sh) (k0_pay4 sc) (k0_pay6 xp xn) (k0_pay7 xp xn) (ix2 r k)
      = normMod modW epsW (fun k => if h : r.val < 8 then xp (ix2 ⟨r.val, h⟩ k) else xn (ix2 ⟨r.val - 8, by omega⟩ k)) (fun k => g (ix2 0 k))
          (fun k => sc (ix3 0 0 k)) (fun k => sh (ix3 0 0 k)) k := by
  pointwise [k0_pay8, k0_pay2, k0_pay3, k0_pay4, k0_pay6, k0_pay7]
  rfl

theorem res_at (a x : S512x1024.Idx → EReal) (gt : S1x1x1024.Idx → EReal) (r : Fin 512) (c : Fin 1024) :
    k0_pay1 (F := Ideal) a x (k0_pay113 (F := Ideal) gt) (ix2 r c) = x (ix2 r c) + gt (ix3 0 0 c) * a (ix2 r c) := by
  pointwise [k0_pay1, k0_pay113]

end Cert.FfnCtxIdeal.Gen
-- ==== Proof.Layer.FfnCtx.Point.lean ====
/-
  One point of the context's feed-forward call, as the layer's own expression over the rows and weights its blocks hold.
-/
module

public import proofs.«01_k».proof.Proof.Layer.FfnCtx.Out

@[expose] public section

set_option maxRecDepth 4096

noncomputable section

open Idealize.ShloMosaic Idealize.ShloMosaic.TcCoe Idealize.SL.Sem Idealize.ShloMosaic.Pipeline

namespace Cert.FfnCtxIdeal.Gen
open Cert.Layer

variable (m : (l : Loc nD τ sig) → Buf (Elt Ideal) l)

/-- A row has a row before it in its sequence of 256, and one after it. -/
def lft (r : Fin 512) : Bool := decide (r.val % 256 ≠ 0)
def rgt (r : Fin 512) : Bool := decide (r.val % 256 ≠ 255)

/-- The row before row `r`. -/
def rowL (x : S512x1024.Idx → EReal) (r : Fin 512) (k : Fin 1024) : EReal := x (ix2 ⟨r.val - 1, by omega⟩ k)
/-- The row after row `r`. -/
def rowR (x : S512x1024.Idx → EReal) (r : Fin 512) (k : Fin 1024) : EReal := x (ix2 ⟨(r.val + 1) % 512, by omega⟩ k)

/-- A row's place in its sequence, as the call computes it. -/
theorem pos_at (i : Nat) (r : Fin 512) : (k0_pay9 (BitVec.ofNat 32 i) (ix2 r 0)).toNat = r.val % 256 := by
  have e : k0_pay9 (BitVec.ofNat 32 i) (ix2 r 0) = (BitVec.ofNat 32 i * 512#32 + BitVec.ofNat 32 r.val) &&& 255#32 := by
    pointwise [k0_pay9]
    rfl
  rw [e, BitVec.toNat_and]
  refine (Nat.and_two_pow_sub_one_eq_mod _ 8).trans ?_
  have hr := r.isLt
  simp only [BitVec.toNat_add, BitVec.toNat_mul, BitVec.toNat_ofNat]
  omega

theorem ne_at {p q : BitVec 32} (h : p ≠ q) : Scalar.cmpi CmpIPredicate.ne p q = 1#1 := by
  show BitVec.ofBool (p != q) = 1#1
  rw [bne_iff_ne.mpr h]
  rfl
theorem eq_at (p : BitVec 32) : ¬ Scalar.cmpi CmpIPredicate.ne p p = 1#1 := by
  simp [Scalar.cmpi, IntOp.cmpi]

section
variable (g : S1x1024.Idx → EReal) (sh sc : S1x1x1024.Idx → EReal) (x : S512x1024.Idx → EReal) (xp xn : S8x1024.Idx → EReal)

/-- The first scratch's rows, from the blocks. -/
abbrev hrows : S528x1024.Idx → EReal :=
  rows (k0_pay8 (F := Ideal) (k0_pay2 g) (k0_pay3 sh) (k0_pay4 sc) (k0_pay6 xp xn) (k0_pay7 xp xn)) (k0_pay5 (F := Ideal) g sh sc x)

theorem hrows_main (w : Fin 1024 → EReal) (z : Fin 528) (r : Fin 512) (hz : z.val = r.val) :
    ∑ k : Fin 1024, hrows g sh sc x xp xn (ix2 z k) * w k
      = upAt (fun k => x (ix2 r k)) (fun k => g (ix2 0 k)) (fun k => sc (ix3 0 0 k)) (fun k => sh (ix3 0 0 k)) w := by
  rw [show z = ⟨r.val, by omega⟩ from Fin.ext hz]
  exact Finset.sum_congr rfl fun k _ => congrArg (fun z : EReal => z * w k) ((rows_main _ _ r k).trans (main_at g sh sc x r k))

theorem act_conv (p : BitVec 32) (kb ka : BitVec 1) (w : S1024x5632.Idx → EReal) (cw : S3x5632.Idx → EReal) (cb : S1x5632.Idx → EReal) (r : Fin 512) (f : Fin 5632)
    (hp : p.toNat = r.val % 256) :
    actCol p kb ka (hrows g sh sc x xp xn) w cw cb r f
      = convUp (lft r) (rgt r) (rowL x r) (fun k => x (ix2 r k)) (rowR x r) (fun k => g (ix2 0 k)) (fun k => sc (ix3 0 0 k))
          (fun k => sh (ix3 0 0 k)) (cw (ix2 0 f)) (cw (ix2 1 f)) (cw (ix2 2 f)) (cb (ix2 0 f)) (fun k => w (ix2 k f)) := by
  unfold actCol convRow convUp
  have hr := r.isLt
  refine congr (congrArg HAdd.hAdd (congr (congrArg HAdd.hAdd (congr (congrArg HAdd.hAdd (congrArg _ ?_)) (congrArg _ ?_))) (congrArg _ ?_))) rfl
  · by_cases h0 : r.val % 256 = 0
    · rw [if_neg (show ¬ lft r = true from fun h => (of_decide_eq_true h) h0), show p = 0#32 from BitVec.eq_of_toNat_eq (hp.trans h0)]
      exact if_neg (eq_at _)
    · rw [if_pos (show lft r = true from decide_eq_true h0), dif_neg (show ¬ r.val = 0 by omega)]
      exact (if_pos (ne_at fun h => h0 (by rw [← hp, h]; rfl))).trans (hrows_main g sh sc x xp xn (fun k => w (ix2 k f)) _ ⟨r.val - 1, by omega⟩ rfl)
  · exact hrows_main g sh sc x xp xn (fun k => w (ix2 k f)) _ r rfl
  · by_cases h0 : r.val % 256 = 255
    · rw [if_neg (show ¬ rgt r = true from fun h => (of_decide_eq_true h) h0), show p = 255#32 from BitVec.eq_of_toNat_eq (hp.trans h0)]
      exact if_neg (eq_at _)
    · rw [if_pos (show rgt r = true from decide_eq_true h0), dif_neg (show ¬ r.val = 511 by omega)]
      exact (if_pos (ne_at fun h => h0 (by rw [← hp, h]; rfl))).trans (hrows_main g sh sc x xp xn (fun k => w (ix2 k f)) _ ⟨(r.val + 1) % 512, by omega⟩
        (Nat.mod_eq_of_lt (show r.val + 1 < 512 by omega)).symm)
end

/-- What the call stores at a point, from the point's blocks. -/
def ffnPoint (x : S512x1024.Idx → EReal) (md : S1x1x6144.Idx → EReal) (g : S1x1024.Idx → EReal)
    (w : S1024x5632.Idx → EReal) (cw : S3x5632.Idx → EReal) (cb : S1x5632.Idx → EReal) (wd : S2816x1024.Idx → EReal) (r : Fin 512) (col : Fin 1024) : EReal :=
  ffnAt siluK (x (ix2 r col)) (md (ix3 0 0 ⟨5120 + col.val, by omega⟩)) (lft r) (rgt r) (rowL x r) (fun k => x (ix2 r k)) (rowR x r)
    (fun k => g (ix2 0 k)) (fun k => md (ix3 0 0 ⟨4096 + k.val, by omega⟩)) (fun k => md (ix3 0 0 ⟨3072 + k.val, by omega⟩))
    (fun k f => w (ix2 k f)) (fun f => cw (ix2 0 f)) (fun f => cw (ix2 1 f)) (fun f => cw (ix2 2 f)) (fun f => cb (ix2 0 f)) (fun f => wd (ix2 f col))

theorem out_at (c : Dev nD) (t : Fin cfg0.N) (r : Fin 512) (col : Fin 1024) :
    outsAt0 m c t (ix2 r col) = ffnPoint (iblk m c 0 t) (iblk m c 3 t) (iblk m c 4 t) (iblk m c 5 t)
      (iblk m c 6 t) (iblk m c 7 t) (iblk m c 8 t) r col := by
  unfold outsAt0
  frame_out
  generalize iblk m c 0 t = x
  generalize iblk m c 1 t = xp
  generalize iblk m c 2 t = xn
  generalize iblk m c 3 t = md
  generalize iblk m c 4 t = g
  generalize iblk m c 5 t = w
  generalize iblk m c 6 t = cw
  generalize iblk m c 7 t = cb
  generalize iblk m c 8 t = wd
  generalize hH : View.readCov (View.whole cc0_scratch0) (_ : List (View.Piece (Elt Ideal) S528x1024 .bf16)) _ = H
  have hH' : hrows g (View.ld (Val := Elt Ideal) (e' := .f32) (S := S1x1x6144) md (Rect.unit ![0, 0, 3072] ![1, 1, 1024] inb_S1x1x6144_S1x1x1024_0_0_3072))
    (View.ld (Val := Elt Ideal) (e' := .f32) (S := S1x1x6144) md (Rect.unit ![0, 0, 4096] ![1, 1, 1024] inb_S1x1x6144_S1x1x1024_0_0_4096)) x xp xn = H := hH
  clear hH
  generalize hkb : Scalar.cmpi CmpIPredicate.ne (Scalar.andi (Scalar.muli (BitVec.ofNat 32 ↑(grid0.coords t 0)) 512#32) 255#32) 0#32 = kb
  generalize hka : Scalar.cmpi CmpIPredicate.ne (Scalar.andi (Scalar.addi (Scalar.muli (BitVec.ofNat 32 ↑(grid0.coords t 0)) 512#32) 512#32) 255#32) 0#32 = ka
  have hp := pos_at (grid0.coords t 0).val r
  generalize hP : k0_pay9 (BitVec.ofNat 32 ↑(grid0.coords t 0)) = p at *
  rw [tile_0 (hb := hkb), tile_1, tile_2, tile_3, tile_4, tile_5, tile_6, tile_7, tile_8, tile_9, tile_10]
  rw [cols_0, cols_1, cols_2, cols_3, cols_4, cols_5, cols_6, cols_7, cols_8, cols_9, cols_10]
  rw [res_at, acc_at]
  unfold ffnPoint ffnAt
  have hA : ∀ f : Fin 5632, actCol (p (ix2 r 0)) kb ka H w cw cb r f = convUp (lft r) (rgt r) (rowL x r) (fun k => x (ix2 r k)) (rowR x r)
      (fun k => g (ix2 0 k)) (fun k => md (ix3 0 0 ⟨4096 + k.val, by omega⟩)) (fun k => md (ix3 0 0 ⟨3072 + k.val, by omega⟩))
      (cw (ix2 0 f)) (cw (ix2 1 f)) (cw (ix2 2 f)) (cb (ix2 0 f)) (fun k => w (ix2 k f)) := fun f => by
    rw [← hH', act_conv (hp := hp)]
    refine congr (congr (congr (congr (congr (congr (congrArg _ ?_) ?_) rfl) rfl) rfl) rfl) rfl
    · funext k
      exact ld_m md 4096 _ k _
    · funext k
      exact ld_m md 3072 _ k _
  refine congr (congrArg HAdd.hAdd (by pointwise [k0_pay112])) (congr (congrArg HMul.hMul (ld_m md 5120 _ col _)) ?_)
  simp only [← hA]
  rw [sum11]
  iterate 10 refine congr (congrArg HAdd.hAdd ?_) ?_
  · exact Finset.sum_congr rfl fun k _ => congr (congrArg HMul.hMul (tile_at p kb ka H w cw cb 0 2816 rfl _ _ _ _ _ _ r k (by omega))) (ld_wd (e := .bf16) wd 0 256 _ k col (by omega))
  · exact Finset.sum_congr rfl fun k _ => congr (congrArg HMul.hMul (tile_at p kb ka H w cw cb 256 3072 rfl _ _ _ _ _ _ r k (by omega))) (ld_wd (e := .bf16) wd 256 256 _ k col (by omega))
  · exact Finset.sum_congr rfl fun k _ => congr (congrArg HMul.hMul (tile_at p kb ka H w cw cb 512 3328 rfl _ _ _ _ _ _ r k (by omega))) (ld_wd (e := .bf16) wd 512 256 _ k col (by omega))
  · exact Finset.sum_congr rfl fun k _ => congr (congrArg HMul.hMul (tile_at p kb ka H w cw cb 768 3584 rfl _ _ _ _ _ _ r k (by omega))) (ld_wd (e := .bf16) wd 768 256 _ k col (by omega))
  · exact Finset.sum_congr rfl fun k _ => congr (congrArg HMul.hMul (tile_at p kb ka H w cw cb 1024 3840 rfl _ _ _ _ _ _ r k (by omega))) (ld_wd (e := .bf16) wd 1024 256 _ k col (by omega))
  · exact Finset.sum_congr rfl fun k _ => congr (congrArg HMul.hMul (tile_at p kb ka H w cw cb 1280 4096 rfl _ _ _ _ _ _ r k (by omega))) (ld_wd (e := .bf16) wd 1280 256 _ k col (by omega))
  · exact Finset.sum_congr rfl fun k _ => congr (congrArg HMul.hMul (tile_at p kb ka H w cw cb 1536 4352 rfl _ _ _ _ _ _ r k (by omega))) (ld_wd (e := .bf16) wd 1536 256 _ k col (by omega))
  · exact Finset.sum_congr rfl fun k _ => congr (congrArg HMul.hMul (tile_at p kb ka H w cw cb 1792 4608 rfl _ _ _ _ _ _ r k (by omega))) (ld_wd (e := .bf16) wd 1792 256 _ k col (by omega))
  · exact Finset.sum_congr rfl fun k _ => congr (congrArg HMul.hMul (tile_at p kb ka H w cw cb 2048 4864 rfl _ _ _ _ _ _ r k (by omega))) (ld_wd (e := .bf16) wd 2048 256 _ k col (by omega))
  · exact Finset.sum_congr rfl fun k _ => congr (congrArg HMul.hMul (tile_at p kb ka H w cw cb 2304 5120 rfl _ _ _ _ _ _ r k (by omega))) (ld_wd (e := .bf16) wd 2304 256 _ k col (by omega))
  · exact Finset.sum_congr rfl fun k _ => congr (congrArg HMul.hMul (tile_at p kb ka H w cw cb 2560 5376 rfl _ _ _ _ _ _ r k (by omega))) (ld_wd (e := .bf16) wd 2560 256 _ k col (by omega))

end Cert.FfnCtxIdeal.Gen
-- ==== Proof.Layer.FfnCtx.Spec.lean ====
/-
  The context's feed-forward result as a function of the arguments.
-/
module

public import proofs.«01_k».proof.Proof.Layer.Ffn
public import Idealize.ShloMosaic.Lib.Pointwise

@[expose] public section

noncomputable section

open Idealize.ShloMosaic

namespace Cert.Layer

/-- Token `n`'s result, with the activation `act`. -/
def ffnCtx (act : EReal → EReal) (x : Shape.Idx ⟨3, ![16, 256, 1024]⟩ → EReal) (m : Shape.Idx ⟨3, ![1, 1, 6144]⟩ → EReal) (g : Shape.Idx ⟨1, ![1024]⟩ → EReal)
    (w : Shape.Idx ⟨2, ![1024, 5632]⟩ → EReal) (cw : Shape.Idx ⟨2, ![3, 5632]⟩ → EReal) (cb : Shape.Idx ⟨1, ![5632]⟩ → EReal)
    (wd : Shape.Idx ⟨2, ![2816, 1024]⟩ → EReal) (n : Fin 4096) (c : Fin 1024) : EReal :=
  ffnAt act (x (ix3 ⟨n.val / 256, by omega⟩ ⟨n.val % 256, by omega⟩ c)) (m (ix3 0 0 ⟨5120 + c.val, by omega⟩))
    (decide (n.val % 256 ≠ 0)) (decide (n.val % 256 ≠ 255))
    (fun k => x (ix3 ⟨n.val / 256, by omega⟩ ⟨n.val % 256 - 1, by omega⟩ k))
    (fun k => x (ix3 ⟨n.val / 256, by omega⟩ ⟨n.val % 256, by omega⟩ k))
    (fun k => x (ix3 ⟨n.val / 256, by omega⟩ ⟨(n.val % 256 + 1) % 256, by omega⟩ k))
    (fun k => g (ix1 k)) (fun k => m (ix3 0 0 ⟨4096 + k.val, by omega⟩))
    (fun k => m (ix3 0 0 ⟨3072 + k.val, by omega⟩))
    (fun k f => w (ix2 k f)) (fun f => cw (ix2 0 f)) (fun f => cw (ix2 1 f)) (fun f => cw (ix2 2 f)) (fun f => cb (ix1 f)) (fun f => wd (ix2 f c))

end Cert.Layer
-- ==== Proof.Layer.FfnCtx.Arr.lean ====
/-
  The context's feed-forward call's result array, at every element, from the arguments.
-/
module

public import proofs.«01_k».proof.Proof.Layer.FfnCtx.Point
public import proofs.«01_k».proof.Proof.Layer.FfnCtx.Spec
public import proofs.«01_k».proof.Proof.Layer.FfnLat.Spec
public import Idealize.ShloMosaic.Lib.StableHlo.ReadAt

@[expose] public section

set_option maxRecDepth 4096

noncomputable section

open Idealize.ShloMosaic Idealize.ShloMosaic.TcCoe Idealize.SL.Sem Idealize.ShloMosaic.Pipeline

namespace Cert.FfnCtxIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_3 : ∀ t : Fin cfg0.N, win0_3.index t = ![0, 0, 0] := (by decide +kernel : ∀ t : Fin grid0.N, win0_3.index t = ![0, 0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![0, 0] := (by decide +kernel : ∀ t : Fin grid0.N, win0_8.index t = ![0, 0])
theorem idx0_9 : ∀ t : Fin cfg0.N, win0_9.index t = ![t.val, 0] := (by decide +kernel : ∀ t : Fin grid0.N, win0_9.index t = ![t.val, 0])

/-- The result, at the arguments of core `c`. -/
def spec (c : Dev nD) : S4096x1024.Idx → EReal := fun i =>
  ffnCtx siluK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

section
variable (U : Valuation τ sig (Elt Ideal))

theorem mod_at (col : Fin 6144) :
    (StableHlo.after hostOps0 U (Proc.devRef .tc main_v1) : S16x1x6144.Idx → EReal) (ix3 0 0 col)
      = (U (Proc.devRef .tc main_arg1) : S1x1x6144.Idx → EReal) (ix3 0 0 col) := by
  after_reads_at
end

theorem b0 (c : Dev nD) (t : Fin cfg0.N) (r : Fin 512) (k : Fin 1024) (n : Fin 4096) (hn : n.val = t.val * 512 + r.val) :
    iblk m c 0 t (ix2 r k) = m ((c : Thread nD τ).loc main_arg0) (ix3 ⟨n.val / 256, by omega⟩ ⟨n.val % 256, by omega⟩ k) := by
  blk_point [iblk, V, idx0_0 t]
theorem b3 (c : Dev nD) (t : Fin cfg0.N) (k : Fin 6144) :
    iblk m c 3 t (ix3 0 0 k) = m ((c : Thread nD τ).loc main_arg1) (ix3 0 0 k) := by
  have e : iblk m c 3 t (ix3 0 0 k) = V m c main_v1 (ix3 0 0 k) := by
    blk_simp [iblk]
    refine congrArg _ ((eq_ix3 _).trans ?_)
    refine congr (congr (congrArg ix3 (Fin.ext ?_)) (Fin.ext ?_)) (Fin.ext ?_) <;> blk_simp [idx0_3 t]
    rfl
  exact e.trans (mod_at _ k)
theorem b4 (c : Dev nD) (t : Fin cfg0.N) (k : Fin 1024) :
    iblk m c 4 t (ix2 0 k) = m ((c : Thread nD τ).loc main_arg2) (ix1 k) := by
  blk_point [iblk, V, idx0_4 t]
theorem b5 (c : Dev nD) (t : Fin cfg0.N) (j : Fin 1024) (k : Fin 5632) :
    iblk m c 5 t (ix2 j k) = m ((c : Thread nD τ).loc main_arg3) (ix2 j k) := by
  blk_point [iblk, V, idx0_5 t]
theorem b6 (c : Dev nD) (t : Fin cfg0.N) (j : Fin 3) (k : Fin 5632) :
    iblk m c 6 t (ix2 j k) = m ((c : Thread nD τ).loc main_arg4) (ix2 j k) := by
  blk_point [iblk, V, idx0_6 t]
theorem b7 (c : Dev nD) (t : Fin cfg0.N) (k : Fin 5632) :
    iblk m c 7 t (ix2 0 k) = m ((c : Thread nD τ).loc main_arg5) (ix1 k) := by
  blk_point [iblk, V, idx0_7 t]
theorem b8 (c : Dev nD) (t : Fin cfg0.N) (j : Fin 2816) (k : Fin 1024) :
    iblk m c 8 t (ix2 j k) = m ((c : Thread nD τ).loc main_arg6) (ix2 j k) := by
  blk_point [iblk, V, idx0_8 t]

theorem point_at (c : Dev nD) (t : Fin cfg0.N) (r : Fin 512) (k : Fin 1024) (n : Fin 4096) (hn : n.val = t.val * 512 + r.val) :
    outsAt0 m c t (ix2 r k) = spec m c (ix2 n k) := by
  have ht : t.val < 8 := t.isLt
  have hr := r.isLt
  refine (out_at m c t r k).trans ?_
  unfold ffnPoint
  have e3 := b3 m c t
  have e4 := b4 m c t
  have e5 := b5 m c t
  have e6 := b6 m c t
  have e7 := b7 m c t
  have e8 := b8 m c t
  have hm : n.val % 256 = r.val % 256 := by omega
  have eL : lft r = decide (n.val % 256 ≠ 0) := by
    unfold lft
    rw [hm]
  have eR : rgt r = decide (n.val % 256 ≠ 255) := by
    unfold rgt
    rw [hm]
  rw [b0 m c t r k n hn, funext fun k => b0 m c t r k n hn, eL, eR]
  simp only [e3, e4, e5, e6, e7, e8]
  refine ffnAt_beside _ _ _ _ _ _ _ _ _ _ _ _ _ _ _ _ _ _ _ (fun h => ?_) fun h => ?_
  · have hs : n.val % 256 ≠ 0 := of_decide_eq_true h
    funext k
    unfold rowL
    rw [b0 m c t ⟨r.val - 1, by omega⟩ k ⟨n.val - 1, by omega⟩ (by show n.val - 1 = t.val * 512 + (r.val - 1); omega)]
    exact congrArg (m ((c : Thread nD τ).loc main_arg0)) (congr (congr (congrArg ix3 (Fin.ext (by show (n.val - 1) / 256 = n.val / 256; omega))) (Fin.ext (by show (n.val - 1) % 256 = n.val % 256 - 1; omega))) rfl)
  · have hs : n.val % 256 ≠ 255 := of_decide_eq_true h
    have hn1 : n.val + 1 < 4096 := by omega
    funext k
    unfold rowR
    rw [b0 m c t ⟨(r.val + 1) % 512, by omega⟩ k ⟨n.val + 1, hn1⟩ (by show n.val + 1 = t.val * 512 + (r.val + 1) % 512; omega)]
    exact congrArg (m ((c : Thread nD τ).loc main_arg0)) (congr (congr (congrArg ix3 (Fin.ext (by show (n.val + 1) / 256 = n.val / 256; omega))) (Fin.ext (by show (n.val + 1) % 256 = (n.val % 256 + 1) % 256; omega))) rfl)

theorem final (c : Dev nD) : (dats m 0 c).arrAt 9 cfg0.N = spec m c := by
  refine (dats m 0 c).arrAt_eq_of_covers 9 _ (by decide +kernel) fun t hf y => ?_
  have ht : t.val < 8 := t.isLt
  have hemb : ∃ (r : Fin 512) (k : Fin 1024), y = ix2 r k ∧ ((cfg0.win 9).blk t).view.emb y = ix2 (⟨t.val * 512 + r.val, by omega⟩ : Fin 4096) k := by
    obtain ⟨r, k, rfl⟩ : ∃ (r : Fin 512) (k : Fin 1024), y = ix2 r k := ⟨y 0, y 1, eq_ix2 y⟩
    refine ⟨r, k, rfl, (eq_ix2 _).trans ?_⟩
    refine congr (congrArg ix2 (Fin.ext ?_)) (Fin.ext ?_) <;> blk_simp [idx0_9 t]
  obtain ⟨r, k, rfl, he⟩ := hemb
  rw [he]
  show (dats m 0 c).after 9 t (ix2 r k) = _
  rw [after0_9]
  exact point_at m c t r k _ rfl

end Cert.FfnCtxIdeal.Gen
-- ==== Proof.Layer.FfnCtx.Ref.lean ====
/-
  The context's feed-forward reference's result, read at every element.
-/
module

public import proofs.«01_k».proof.Proof.Gen.FfnCtxReferenceIdeal.Read
public import proofs.«01_k».proof.Proof.Layer.FfnCtx.Spec

@[expose] public section

set_option maxRecDepth 4096

noncomputable section

open Idealize.ShloMosaic Idealize.ShloMosaic.TcCoe Idealize.SL.Sem

namespace Cert.FfnCtxReferenceIdeal.Read
open Cert.FfnCtxReferenceIdeal Cert.Layer

variable (x0 : S16x256x1024.Idx → EReal) (x1 : S1x1x6144.Idx → EReal) (x2 : S1024.Idx → EReal) (x3 : S1024x5632.Idx → EReal)
  (x4 : S3x5632.Idx → EReal) (x5 : S5632.Idx → EReal) (x6 : S2816x1024.Idx → EReal)

theorem norm_at (b : Fin 16) (s : Fin 256) (k : Fin 1024) :
    val_main_v21 (F := Ideal) x0 x1 x2 (ix3 b s k)
      = normMod modW epsW (fun k => x0 (ix3 b s k)) (fun k => x2 (ix1 k)) (fun k => x1 (ix3 0 0 ⟨4096 + k.val, by omega⟩))
          (fun k => x1 (ix3 0 0 ⟨3072 + k.val, by omega⟩)) k := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v1, val_main_v0,
    val_main_cst, val_main_cst_0, val_main_cst_1, val_main_cst_2]
  rfl

/-- One element of a row's up-projection. -/
def up (b : Fin 16) (s : Fin 256) (f : Fin 5632) : EReal :=
  upAt (fun k => x0 (ix3 b s k)) (fun k => x2 (ix1 k)) (fun k => x1 (ix3 0 0 ⟨4096 + k.val, by omega⟩))
          (fun k => x1 (ix3 0 0 ⟨3072 + k.val, by omega⟩)) (fun k => x3 (ix2 k f))

theorem up_at (b : Fin 16) (s : Fin 256) (f : Fin 5632) : val_main_v22 (F := Ideal) x0 x1 x2 x3 (ix3 b s f) = up x0 x1 x2 x3 b s f := by
  have h := norm_at x0 x1 x2 b s
  unfold val_main_v22
  generalize val_main_v21 (F := Ideal) x0 x1 x2 = z at *
  pointwise
  simp only [h]
  rfl

theorem conv_at (b : Fin 16) (s : Fin 256) (f : Fin 5632) :
    val_main_v46 (F := Ideal) x0 x1 x2 x3 x4 x5 (ix3 b s f)
      = x4 (ix2 0 f) * (if h : s.val ≠ 0 then up x0 x1 x2 x3 b ⟨s.val - 1, by omega⟩ f else 0) + x4 (ix2 1 f) * up x0 x1 x2 x3 b s f
        + x4 (ix2 2 f) * (if h : s.val ≠ 255 then up x0 x1 x2 x3 b ⟨(s.val + 1) % 256, by omega⟩ f else 0) + x5 (ix1 f) := by
  have h := fun b s => up_at x0 x1 x2 x3 b s f
  unfold val_main_v46 val_main_v43 val_main_v42 val_main_v39 val_main_v36 val_main_v35 val_main_v32 val_main_v29 val_main_v26 val_main_v23
  generalize val_main_v22 (F := Ideal) x0 x1 x2 x3 = z at *
  pointwise [val_main_v24, val_main_v25, val_main_v27, val_main_v28, val_main_v30, val_main_v31, val_main_v33, val_main_v34, val_main_v37, val_main_v38,
    val_main_v40, val_main_v41, val_main_v44, val_main_v45, val_main_call0_v0, val_main_c]
  simp only [h]
  have hz : FloatOps.sitofp (F := Ideal) FTy.f32 0#32 = 0 := by
    show (((0#32 : BitVec 32).toInt : ℝ) : EReal) = 0
    simp
  rw [hz]
  have hs := s.isLt
  refine congr (congrArg HAdd.hAdd (congr (congrArg HAdd.hAdd (congr (congrArg HAdd.hAdd (congrArg _ ?_)) rfl)) (congrArg _ ?_))) rfl
  · split_ifs
    all_goals first
      | omega
      | rfl
  · split_ifs
    all_goals first
      | omega
      | exact congrArg (fun z : Fin 256 => up x0 x1 x2 x3 b z f) (Fin.ext (by show 2 + s.val - 1 = (s.val + 1) % 256; omega))
      | rfl

theorem convUp_at (b : Fin 16) (s : Fin 256) (f : Fin 5632) :
    val_main_v46 (F := Ideal) x0 x1 x2 x3 x4 x5 (ix3 b s f)
      = convUp (decide (s.val ≠ 0)) (decide (s.val ≠ 255)) (fun k => x0 (ix3 b ⟨s.val - 1, by omega⟩ k)) (fun k => x0 (ix3 b s k))
          (fun k => x0 (ix3 b ⟨(s.val + 1) % 256, by omega⟩ k)) (fun k => x2 (ix1 k)) (fun k => x1 (ix3 0 0 ⟨4096 + k.val, by omega⟩))
          (fun k => x1 (ix3 0 0 ⟨3072 + k.val, by omega⟩)) (x4 (ix2 0 f)) (x4 (ix2 1 f)) (x4 (ix2 2 f)) (x5 (ix1 f)) (fun k => x3 (ix2 k f)) := by
  refine (conv_at x0 x1 x2 x3 x4 x5 b s f).trans ?_
  unfold convUp up
  simp only [decide_eq_true_eq, dite_eq_ite]

theorem act_at (b : Fin 16) (s : Fin 256) (f : Fin 2816) :
    val_main_v50 (F := Ideal) x0 x1 x2 x3 x4 x5 (ix3 b s f)
      = siluR (val_main_v46 (F := Ideal) x0 x1 x2 x3 x4 x5 (ix3 b s ⟨2816 + f.val, by omega⟩))
          * val_main_v46 (F := Ideal) x0 x1 x2 x3 x4 x5 (ix3 b s ⟨f.val, by omega⟩) := by
  unfold val_main_v50 val_main_v49 val_main_call1_v5 val_main_call1_v3 val_main_call1_v1 val_main_call1_v0 val_main_v48 val_main_v47
  generalize val_main_v46 (F := Ideal) x0 x1 x2 x3 x4 x5 = z
  pointwise [val_main_call1_v2, val_main_call1_v4, val_main_call1_cst, val_main_call1_cst_0]
  rfl

theorem result_at (n : Fin 4096) (c : Fin 1024) :
    val_main_v55 (F := Ideal) x0 x1 x2 x3 x4 x5 x6 (ix2 n c) = ffnCtx siluR x0 x1 x2 x3 x4 x5 x6 n c := by
  have h1 := fun b s f => act_at x0 x1 x2 x3 x4 x5 b s f
  have h2 := fun b s f => convUp_at x0 x1 x2 x3 x4 x5 b s f
  unfold val_main_v55 val_main_v54 val_main_v53 val_main_v51 ffnCtx ffnAt
  generalize val_main_v50 (F := Ideal) x0 x1 x2 x3 x4 x5 = a at *
  generalize val_main_v46 (F := Ideal) x0 x1 x2 x3 x4 x5 = z at *
  pointwise [val_main_v52, val_main_v2]
  simp only [h1, h2]

end Cert.FfnCtxReferenceIdeal.Read
-- ==== Proof.Layer.FfnCtx.Run.lean ====
/-
  The context's feed-forward: the call's result is the reference's, of finite arguments of the activation.
-/
module

public import proofs.«01_k».proof.Defs
public import proofs.«01_k».proof.Proof.NA.Run
public import proofs.«01_k».proof.Proof.Layer.FfnCtx.Arr
public import proofs.«01_k».proof.Proof.Layer.FfnCtx.Ref
public import proofs.«01_k».proof.Proof.Gen.FfnCtxReferenceIdeal.Run

@[expose] public section

set_option maxRecDepth 4096

noncomputable section

open Idealize.ShloMosaic Idealize.ShloMosaic.TcCoe Idealize.SL.Sem

theorem Cert.Pre_ffn_ctx_finite.holds : Cert.Pre_ffn_ctx_finite.Facts where
  bcast_S_S16x256x1024 := by decide
  slices_S1x1x6144_S1x1x2048_0_0_3072 := by decide
  bcast_S_S1x1x2048 := by decide
  bcast_S_S1024 := by decide
  slices_S1024x5632_S1024x2816_0_2816 := by decide
  bcast_S_S1024x2816 := by decide
  slices_S3x5632_S3x2816_0_2816 := by decide
  bcast_S_S3x2816 := by decide
  slices_S5632_S2816_2816 := by decide
  bcast_S_S2816 := by decide

namespace Cert.Layer.FfnCtx

theorem frame_reference : Cert.quiescent_FfnCtxReferenceIdeal (hFfnCtxReferenceIdeal := Cert.FfnCtxReferenceIdeal.Gen.facts) := fun m ρ _ =>
  (θ_run _ _ _).mono (fun _ h => ⟨fun c => (h c).2, sem_eq_zero_of_no_sems rfl _⟩) (Cert.FfnCtxReferenceIdeal.Value.run (F := Ideal) m ρ)

section
attribute [local instance] Cert.Pre_ffn_ctx_finite.holds

theorem act_eq (m : (ℓ : Loc Cert.FfnCtxIdeal.nD Cert.FfnCtxIdeal.τ Cert.FfnCtxIdeal.sig) → Buf (Elt Ideal) ℓ)
    (hpre : Cert.Pre_FfnCtxIdeal_ffn_ctx_finite (hPre_ffn_ctx_finite := Cert.Pre_ffn_ctx_finite.holds) m) (c : Dev Cert.FfnCtxIdeal.nD) (n : Fin 4096) (k : Fin 1024) :
    ffnCtx siluK (m ((c : Thread Cert.FfnCtxIdeal.nD Cert.FfnCtxIdeal.τ).loc Cert.FfnCtxIdeal.main_arg0)) (m ((c : Thread Cert.FfnCtxIdeal.nD Cert.FfnCtxIdeal.τ).loc Cert.FfnCtxIdeal.main_arg1))
        (m ((c : Thread Cert.FfnCtxIdeal.nD Cert.FfnCtxIdeal.τ).loc Cert.FfnCtxIdeal.main_arg2)) (m ((c : Thread Cert.FfnCtxIdeal.nD Cert.FfnCtxIdeal.τ).loc Cert.FfnCtxIdeal.main_arg3))
        (m ((c : Thread Cert.FfnCtxIdeal.nD Cert.FfnCtxIdeal.τ).loc Cert.FfnCtxIdeal.main_arg4)) (m ((c : Thread Cert.FfnCtxIdeal.nD Cert.FfnCtxIdeal.τ).loc Cert.FfnCtxIdeal.main_arg5))
        (m ((c : Thread Cert.FfnCtxIdeal.nD Cert.FfnCtxIdeal.τ).loc Cert.FfnCtxIdeal.main_arg6)) n k
      = ffnCtx siluR (m ((c : Thread Cert.FfnCtxIdeal.nD Cert.FfnCtxIdeal.τ).loc Cert.FfnCtxIdeal.main_arg0)) (m ((c : Thread Cert.FfnCtxIdeal.nD Cert.FfnCtxIdeal.τ).loc Cert.FfnCtxIdeal.main_arg1))
        (m ((c : Thread Cert.FfnCtxIdeal.nD Cert.FfnCtxIdeal.τ).loc Cert.FfnCtxIdeal.main_arg2)) (m ((c : Thread Cert.FfnCtxIdeal.nD Cert.FfnCtxIdeal.τ).loc Cert.FfnCtxIdeal.main_arg3))
        (m ((c : Thread Cert.FfnCtxIdeal.nD Cert.FfnCtxIdeal.τ).loc Cert.FfnCtxIdeal.main_arg4)) (m ((c : Thread Cert.FfnCtxIdeal.nD Cert.FfnCtxIdeal.τ).loc Cert.FfnCtxIdeal.main_arg5))
        (m ((c : Thread Cert.FfnCtxIdeal.nD Cert.FfnCtxIdeal.τ).loc Cert.FfnCtxIdeal.main_arg6)) n k := by
  obtain ⟨p0, p1, p2, p3, p4, p5⟩ := hpre c
  generalize m ((c : Thread Cert.FfnCtxIdeal.nD Cert.FfnCtxIdeal.τ).loc Cert.FfnCtxIdeal.main_arg0) = x0 at *
  generalize m ((c : Thread Cert.FfnCtxIdeal.nD Cert.FfnCtxIdeal.τ).loc Cert.FfnCtxIdeal.main_arg1) = x1 at *
  generalize m ((c : Thread Cert.FfnCtxIdeal.nD Cert.FfnCtxIdeal.τ).loc Cert.FfnCtxIdeal.main_arg2) = x2 at *
  generalize m ((c : Thread Cert.FfnCtxIdeal.nD Cert.FfnCtxIdeal.τ).loc Cert.FfnCtxIdeal.main_arg3) = x3 at *
  generalize m ((c : Thread Cert.FfnCtxIdeal.nD Cert.FfnCtxIdeal.τ).loc Cert.FfnCtxIdeal.main_arg4) = x4 at *
  generalize m ((c : Thread Cert.FfnCtxIdeal.nD Cert.FfnCtxIdeal.τ).loc Cert.FfnCtxIdeal.main_arg5) = x5 at *
  have f0 : ∀ i, Fin' (x0 i) := fun i => Cert.NA.real_of_word _ (congrFun p0 i)
  have f1 : ∀ (k : Fin 6144), 3072 ≤ k.val → k.val < 5120 → Fin' (x1 (ix3 0 0 k)) := fun k h1 h2 => by
    obtain ⟨r, hr⟩ := Cert.NA.real_of_word _ (congrFun p1 (ix3 0 0 (⟨k.val - 3072, by omega⟩ : Fin 2048)))
    refine ⟨r, Eq.trans ?_ hr⟩
    exact (extractStridedSlice_apply ![0, 0, 3072] x1 _ (ix3 0 0 (⟨k.val - 3072, by omega⟩ : Fin 2048)) (ix3 0 0 k) (fun a => match a with
      | ⟨0, _⟩ => (Nat.zero_add _).symm
      | ⟨1, _⟩ => rfl
      | ⟨2, _⟩ => (show k.val = 3072 + (k.val - 3072) by omega))).symm
  have f2 : ∀ i, Fin' (x2 i) := fun i => Cert.NA.real_of_word _ (congrFun p2 i)
  have f3 : ∀ (j : Fin 1024) (f : Fin 2816), Fin' (x3 (ix2 j ⟨2816 + f.val, by omega⟩)) := fun j f => by
    obtain ⟨r, hr⟩ := Cert.NA.real_of_word _ (congrFun p3 (ix2 j f))
    refine ⟨r, Eq.trans ?_ hr⟩
    exact (extractStridedSlice_apply ![0, 2816] x3 _ (ix2 j f) (ix2 j ⟨2816 + f.val, by omega⟩) (fun a => match a with
      | ⟨0, _⟩ => (Nat.zero_add _).symm
      | ⟨1, _⟩ => rfl)).symm
  have f4 : ∀ (j : Fin 3) (f : Fin 2816), Fin' (x4 (ix2 j ⟨2816 + f.val, by omega⟩)) := fun j f => by
    obtain ⟨r, hr⟩ := Cert.NA.real_of_word _ (congrFun p4 (ix2 j f))
    refine ⟨r, Eq.trans ?_ hr⟩
    exact (extractStridedSlice_apply ![0, 2816] x4 _ (ix2 j f) (ix2 j ⟨2816 + f.val, by omega⟩) (fun a => match a with
      | ⟨0, _⟩ => (Nat.zero_add _).symm
      | ⟨1, _⟩ => rfl)).symm
  have f5 : ∀ (f : Fin 2816), Fin' (x5 (ix1 ⟨2816 + f.val, by omega⟩)) := fun f => by
    obtain ⟨r, hr⟩ := Cert.NA.real_of_word _ (congrFun p5 (ix1 f))
    refine ⟨r, Eq.trans ?_ hr⟩
    exact (extractStridedSlice_apply ![2816] x5 _ (ix1 f) (ix1 ⟨2816 + f.val, by omega⟩) (fun a => match a with
      | ⟨0, _⟩ => rfl)).symm
  exact ffnAt_act _ _ _ _ _ _ _ _ _ _ _ _ _ _ _ _ (fun _ => f0 _) (fun _ => f0 _) (fun _ => f0 _) (fun _ => f2 _)
    (fun k => f1 _ (show 3072 ≤ 4096 + k.val by omega) (show 4096 + k.val < 5120 by omega))
    (fun k => f1 _ (show 3072 ≤ 3072 + k.val by omega) (show 3072 + k.val < 5120 by omega)) f3 (f4 0) (f4 1) (f4 2) f5
end

set_option maxHeartbeats 1000000 in
theorem algebraic : Cert.algebraic_FfnCtxIdeal_FfnCtxReferenceIdeal_pre_ffn_ctx_finite (hFfnCtxIdeal := Cert.FfnCtxIdeal.Gen.facts)
    (hFfnCtxReferenceIdeal := Cert.FfnCtxReferenceIdeal.Gen.facts) (hPre_ffn_ctx_finite := Cert.Pre_ffn_ctx_finite.holds) := by
  intro m g m' g' hpre hargs
  refine ⟨fun c => Cert.FfnCtxIdeal.Gen.spec m c,
    (θ_run _ _ _).mono (fun _ h c => ⟨(h c).1.trans (Cert.FfnCtxIdeal.Gen.final m c), (h c).2⟩) (Cert.FfnCtxIdeal.Value.run_blocks m g),
    (θ_run _ _ _).mono (fun _ h c => ⟨(h c).1.trans ?_, (h c).2⟩) (Cert.FfnCtxReferenceIdeal.Value.run (F := Ideal) m' g')⟩
  obtain ⟨a0, a1, a2, a3, a4, a5, a6⟩ := hargs c
  rw [Cert.FfnCtxReferenceIdeal.Read.val_main_v55_eq, a0, a1, a2, a3, a4, a5, a6]
  funext i
  rw [eq_ix2 i]
  exact (Cert.FfnCtxReferenceIdeal.Read.result_at _ _ _ _ _ _ _ _ _).trans (act_eq m hpre c _ _).symm

end Cert.Layer.FfnCtx
-- ==== Proof.Layer.CtxAttn.Spec.lean ====
/-
  The context's attention as a function of the arguments, and the softmax in powers of two over one kind of key.
-/
module

public import proofs.«01_k».proof.Proof.NA.Math
public import proofs.«01_k».proof.Proof.NA.Spec
public import Idealize.ShloMosaic.Lib.Pointwise

@[expose] public section

noncomputable section

open Idealize.ShloMosaic
open scoped BigOperators

namespace Cert.Layer.CtxAttn

/-- The attention of one query, in powers of two, divided at the end. -/
def attnC (q : Fin 64 → EReal) (k : Fin 256 → Fin 64 → EReal) (v : Fin 256 → EReal) : EReal :=
  Ideal.div (∑ j, Ideal.exp2 ((∑ d, q d * k j d) - Finset.univ.sup fun j => ∑ d, q d * k j d) * v j)
    (∑ j, Ideal.exp2 ((∑ d, q d * k j d) - Finset.univ.sup fun j => ∑ d, q d * k j d))

abbrev Heads : Shape := ⟨4, ![16, 256, 16, 64]⟩

/-- The score of a key. -/
def score (q k : Heads.Idx → EReal) (b : Fin 16) (i : Fin 256) (h : Fin 16) (j : Fin 256) : EReal :=
  (∑ d : Fin 64, q (ix4 b i h d) * k (ix4 b j h d)) * Cert.NA.c8

/-- Softmax of the scores, then the weighted values. -/
def ctx (q k v : Heads.Idx → EReal) (b : Fin 16) (i : Fin 256) (h : Fin 16) (d : Fin 64) : EReal :=
  ∑ j, Ideal.div (Ideal.exp (score q k b i h j - Finset.univ.sup (score q k b i h)))
    (∑ j, Ideal.exp (score q k b i h j - Finset.univ.sup (score q k b i h))) * v (ix4 b j h d)

/-- The kernel's, over queries scaled on the host. -/
def ctxK (q k v : Heads.Idx → EReal) (b : Fin 16) (i : Fin 256) (h : Fin 16) (d : Fin 64) : EReal :=
  attnC (fun d => Ideal.div (q (ix4 b i h d) * Cert.NA.c8) (Ideal.log (Ideal.ofBits .f32 0x40000000#32)))
    (fun j d => k (ix4 b j h d)) (fun j => v (ix4 b j h d))

theorem softmax_one (t s v : Fin 256 → EReal) (hs : ∀ j, s j ≠ ⊤) (hs' : ∀ j, s j ≠ ⊥) (h : ∀ j, t j = (Cert.NA.lam : EReal) * s j) :
    Ideal.div (∑ j, Ideal.exp2 (t j - Finset.univ.sup t) * v j) (∑ j, Ideal.exp2 (t j - Finset.univ.sup t))
      = ∑ j, Ideal.div (Ideal.exp (s j - Finset.univ.sup s)) (∑ j, Ideal.exp (s j - Finset.univ.sup s)) * v j := by
  have key := Cert.NA.softmax (W := Empty) (R := Empty) (C := Fin 256) id Function.injective_id (fun x => x.elim) (fun x => x.elim)
    t v s (fun x => x.elim) (fun x => x.elim) hs hs' (fun x => x.elim) (fun x => x.elim) h (Finset.univ.sup t) (Finset.univ.sup s)
    (by simp) (by simp)
  simp only [Finset.univ_eq_empty, Finset.sum_empty, add_zero, zero_add] at key
  simp only [mul_comm (v _)] at key
  exact key

end Cert.Layer.CtxAttn
-- ==== Proof.Layer.CtxAttn.Out.lean ====
/-
  What one point of the context's attention stores, at every element.
-/
module

public import proofs.«01_k».proof.Proof.Gen.CtxAttnIdeal.Value
public import proofs.«01_k».proof.Proof.Layer.CtxAttn.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.CtxAttnIdeal.Gen
open Cert.Layer.CtxAttn

section
variable {F : FTy → Type} [FloatOps F]

/-- The queries of one head of a pair, zeros in the other head's lanes. -/
def caMask (c : IVec S1x128 1) (q : Vec F S256x128 .bf16) : FVec F S256x128 .bf16 :=
  select (broadcastTo S256x128 (shapeCast S1x128 c shapeCasts_S1x128_S1x128) broadcasts_S1x128_S256x128)
    (shapeCast S256x128 q shapeCasts_S256x128_S256x128) (broadcast S256x128 (Scalar.ofBits .bf16 0x0000#16))

/-- The scores. -/
def caS (q : FVec F S256x128 .bf16) (k : Vec F S256x128 .bf16) : FVec F S256x256 .f32 :=
  matmul dot_S256x128_S256x128_S256x256_1_1_0_0_n_n none q (shapeCast S256x128 k shapeCasts_S256x128_S256x128 : FVec F S256x128 .bf16) (constant S256x256 .f32 0x00000000#32)

/-- The weights, before they are divided by their sum. -/
def caP (s : FVec F S256x256 .f32) : FVec F S256x256 .f32 :=
  exp2 (subf s (broadcastTo S256x256 (shapeCast S256x1 (multiReduction .maximumf [1] S256 s 0xFF800000#32 reduces_S256x256_S256 (.inl rfl) rfl)
    shapeCasts_S256_S256x1) broadcasts_S256x1_S256x256))

/-- The weighted values over the sum of the weights. -/
def caO (p : FVec F S256x256 .f32) (v : Vec F S256x128 .bf16) : FVec F S256x128 .f32 :=
  divf (matmul dot_S256x256_S256x128_S256x128_1_0_0_1_n_n none (truncf .bf16 p bitsLt_bf16_f32) (shapeCast S256x128 v shapeCasts_S256x128_S256x128 : FVec F S256x128 .bf16) (constant S256x128 .f32 0x00000000#32))
    (broadcastTo S256x128 (shapeCast S256x1 (multiReduction .add [1] S256 p 0x00000000#32 reduces_S256x256_S256 (.inl rfl) rfl)
      shapeCasts_S256_S256x1) broadcasts_S256x1_S256x128)

/-- One pair of heads. -/
def caPair (q k v : Vec F S256x128 .bf16) : FVec F S256x128 .bf16 :=
  truncf .bf16 (select (broadcastTo S256x128 (shapeCast S1x128 k0_pay2 shapeCasts_S1x128_S1x128) broadcasts_S1x128_S256x128)
    (caO (caP (caS (caMask k0_pay2 q) k)) v)
    (caO (caP (caS (caMask (xori k0_pay2 (constantI S1x128 1 1#1)) q) k)) v)) bitsLt_bf16_f32

theorem out0_pairs (x0 x1 x2 : Vec F S256x1024 .bf16) : out0_3 x0 x1 x2 = View.canon
    [⟨r0_7, caPair (View.ld x0 r0_7) (View.ld x1 r0_7) (View.ld x2 r0_7)⟩,
     ⟨r0_6, caPair (View.ld x0 r0_6) (View.ld x1 r0_6) (View.ld x2 r0_6)⟩,
     ⟨r0_5, caPair (View.ld x0 r0_5) (View.ld x1 r0_5) (View.ld x2 r0_5)⟩,
     ⟨r0_4, caPair (View.ld x0 r0_4) (View.ld x1 r0_4) (View.ld x2 r0_4)⟩,
     ⟨r0_3, caPair (View.ld x0 r0_3) (View.ld x1 r0_3) (View.ld x2 r0_3)⟩,
     ⟨r0_2, caPair (View.ld x0 r0_2) (View.ld x1 r0_2) (View.ld x2 r0_2)⟩,
     ⟨r0_1, caPair (View.ld x0 r0_1) (View.ld x1 r0_1) (View.ld x2 r0_1)⟩,
     ⟨r0_0, caPair (View.ld x0 r0_0) (View.ld x1 r0_0) (View.ld x2 r0_0)⟩] := rfl
end

theorem negInf : Ideal.ofBits .f32 0xFF800000#32 = ⊥ := by
  simp [Ideal.ofBits, Ideal.ieee]

theorem slt_64 (d : Fin 128) : IntOp.cmpi CmpIPredicate.slt (BitVec.ofNat 32 d.val) 64#32 = if d.val < 64 then 1#1 else 0#1 := by
  revert d; decide +kernel

theorem lo_at (d : Fin 128) : k0_pay2 (ix2 0 d) = if d.val < 64 then 1#1 else 0#1 := by
  pointwise [k0_pay2]
  exact slt_64 d

theorem hi_at (d : Fin 128) : (xori k0_pay2 (constantI S1x128 1 1#1) : IVec S1x128 1) (ix2 0 d) = if d.val < 64 then 0#1 else 1#1 := by
  show k0_pay2 (ix2 0 d) ^^^ 1#1 = _
  rw [lo_at]
  by_cases h : d.val < 64
  · rw [if_pos h, if_pos h]; rfl
  · rw [if_neg h, if_neg h]; rfl

theorem caMask_at (c : IVec S1x128 1) (q : S256x128.Idx → EReal) (r : Fin 256) (x : Fin 128) :
    caMask (F := Ideal) c q (ix2 r x) = if c (ix2 0 x) = 1#1 then q (ix2 r x) else 0 := by
  pointwise [caMask]
  rfl

theorem caS_at (q k : S256x128.Idx → EReal) (r j : Fin 256) :
    caS (F := Ideal) q k (ix2 r j) = ∑ x, q (ix2 r x) * k (ix2 j x) := by
  pointwise [caS]

theorem caP_at (s : S256x256.Idx → EReal) (r j : Fin 256) :
    caP (F := Ideal) s (ix2 r j) = Ideal.exp2 (s (ix2 r j) - Finset.univ.sup fun j => s (ix2 r j)) := by
  pointwise [caP]
  try rw [show Ideal.ofBits FTy.f32 4286578688#32 = ⊥ from negInf]
  rfl

theorem caO_at (p : S256x256.Idx → EReal) (v : S256x128.Idx → EReal) (r : Fin 256) (e : Fin 128) :
    caO (F := Ideal) p v (ix2 r e) = Ideal.div (∑ j, p (ix2 r j) * v (ix2 j e)) (∑ j, p (ix2 r j)) := by
  pointwise [caO]

theorem sum_lo (q k : S256x128.Idx → EReal) (r j : Fin 256) :
    (∑ x, caMask (F := Ideal) k0_pay2 q (ix2 r x) * k (ix2 j x))
      = ∑ d : Fin 64, q (ix2 r ⟨d.val, by omega⟩) * k (ix2 j ⟨d.val, by omega⟩) := by
  rw [Fin.sum_univ_two_halves 64 64 rfl]
  rw [Finset.sum_eq_zero (s := (Finset.univ : Finset (Fin 64))) (f := fun d => caMask (F := Ideal) k0_pay2 q (ix2 r ⟨64 + d.val, _⟩) * _) fun d _ => by
    rw [caMask_at, lo_at, if_neg (c := (64 + d.val) < 64) (by omega), if_neg (by decide), zero_mul], add_zero]
  refine Finset.sum_congr rfl fun d _ => ?_
  rw [caMask_at, lo_at, if_pos (c := d.val < 64) d.isLt, if_pos rfl]

theorem sum_hi (q k : S256x128.Idx → EReal) (r j : Fin 256) :
    (∑ x, caMask (F := Ideal) (xori k0_pay2 (constantI S1x128 1 1#1)) q (ix2 r x) * k (ix2 j x))
      = ∑ d : Fin 64, q (ix2 r ⟨64 + d.val, by omega⟩) * k (ix2 j ⟨64 + d.val, by omega⟩) := by
  rw [Fin.sum_univ_two_halves 64 64 rfl]
  rw [Finset.sum_eq_zero (s := (Finset.univ : Finset (Fin 64))) (f := fun d => caMask (F := Ideal) (xori k0_pay2 (constantI S1x128 1 1#1)) q (ix2 r ⟨d.val, _⟩) * _) fun d _ => by
    rw [caMask_at, hi_at, if_pos (c := d.val < 64) d.isLt, if_neg (by decide), zero_mul], zero_add]
  refine Finset.sum_congr rfl fun d _ => ?_
  rw [caMask_at, hi_at, if_neg (c := (64 + d.val) < 64) (by omega), if_pos rfl]

theorem caPair_at (q k v : S256x128.Idx → EReal) (r : Fin 256) (e : Fin 128) :
    caPair (F := Ideal) q k v (ix2 r e) = if e.val < 64
      then attnC (fun d => q (ix2 r ⟨d.val, by omega⟩)) (fun j d => k (ix2 j ⟨d.val, by omega⟩)) (fun j => v (ix2 j e))
      else attnC (fun d => q (ix2 r ⟨64 + d.val, by omega⟩)) (fun j d => k (ix2 j ⟨64 + d.val, by omega⟩)) (fun j => v (ix2 j e)) := by
  have h : caPair (F := Ideal) q k v (ix2 r e) = if k0_pay2 (ix2 0 e) = 1#1
      then caO (F := Ideal) (caP (caS (caMask k0_pay2 q) k)) v (ix2 r e)
      else caO (F := Ideal) (caP (caS (caMask (xori k0_pay2 (constantI S1x128 1 1#1)) q) k)) v (ix2 r e) := by
    unfold caPair
    generalize caO (F := Ideal) (caP (caS (caMask k0_pay2 q) k)) v = A
    generalize caO (F := Ideal) (caP (caS (caMask (xori k0_pay2 (constantI S1x128 1 1#1)) q) k)) v = B
    generalize k0_pay2 = c
    pointwise
    rfl
  rw [h, lo_at]
  by_cases he : e.val < 64
  · rw [if_pos he, if_pos he, if_pos rfl, caO_at]
    simp only [caP_at, caS_at, sum_lo]
    rfl
  · rw [if_neg he, if_neg he, if_neg (by decide), caO_at]
    simp only [caP_at, caS_at, sum_hi]
    rfl

/-- What a point leaves at an element of its block. -/
def outC (x0 x1 x2 : S256x1024.Idx → EReal) (r : Fin 256) (c : Fin 1024) : EReal :=
  attnC (fun d => x0 (ix2 r ⟨c.val / 64 * 64 + d.val, by omega⟩)) (fun j d => x1 (ix2 j ⟨c.val / 64 * 64 + d.val, by omega⟩)) (fun j => x2 (ix2 j c))

theorem ld_col (x : Vec Ideal S256x1024 .bf16) (p : Nat)
    (inb : ∀ a, (![0, p] : Fin 2 → Nat) a + S256x128.size a ≤ S256x1024.size a) (i : Fin 256) (j : Fin 128) (j' : Fin 1024) (h : j'.val = p + j.val) :
    View.ld x (Rect.unit ![0, p] S256x128.size inb) (ix2 i j) = x (ix2 i j') :=
  View.ld_unit_apply_of x _ _ inb (ix2 i j) (ix2 i j') fun a => by
    refine Fin.cases ?_ (fun a => Fin.cases ?_ (fun a => a.elim0) a) a
    · exact (Nat.zero_add _).symm
    · exact h

theorem pair_tile (x0 x1 x2 : Vec Ideal S256x1024 .bf16) (r : Fin 256) (c : Fin 1024) (p : Nat) (hp : p % 128 = 0)
    (inb : ∀ a, (![0, p] : Fin 2 → Nat) a + S256x128.size a ≤ S256x1024.size a) :
    View.TileAt (S := S256x1024) (Val := Elt Ideal) (e := .bf16) (ix2 r c) ![0, p] S256x128.size
      (caPair (View.ld x0 (Rect.unit ![0, p] S256x128.size inb)) (View.ld x1 (Rect.unit ![0, p] S256x128.size inb)) (View.ld x2 (Rect.unit ![0, p] S256x128.size inb)))
      (outC x0 x1 x2 r c) := by
  intro x hx
  obtain ⟨r', e, rfl⟩ : ∃ (a : Fin 256) (b : Fin 128), x = ix2 a b := ⟨x 0, x 1, eq_ix2 x⟩
  have h0 : r.val = 0 + r'.val := hx 0
  have h1 : c.val = p + e.val := hx 1
  obtain rfl : r' = r := Fin.ext (by omega)
  have hp1 : p + 128 ≤ 1024 := inb 1
  refine (caPair_at _ _ _ _ _).trans ?_
  unfold outC
  have hv : (fun j => View.ld x2 (Rect.unit ![0, p] S256x128.size inb) (ix2 j e)) = fun j => x2 (ix2 j c) :=
    funext fun j => ld_col x2 p inb j e c h1
  rw [hv]
  by_cases he : e.val < 64
  · rw [if_pos he]
    refine congrArg₂ (fun a b => attnC a b _) (funext fun d => ?_) (funext fun j => funext fun d => ?_)
    · exact ld_col x0 p inb _ _ _ (by show c.val / 64 * 64 + d.val = p + d.val; omega)
    · exact ld_col x1 p inb _ _ _ (by show c.val / 64 * 64 + d.val = p + d.val; omega)
  · rw [if_neg he]
    refine congrArg₂ (fun a b => attnC a b _) (funext fun d => ?_) (funext fun j => funext fun d => ?_)
    · exact ld_col x0 p inb _ _ _ (by show c.val / 64 * 64 + d.val = p + (64 + d.val); omega)
    · exact ld_col x1 p inb _ _ _ (by show c.val / 64 * 64 + d.val = p + (64 + d.val); omega)

theorem out_at (x0 x1 x2 : Vec Ideal S256x1024 .bf16) (r : Fin 256) (c : Fin 1024) :
    out0_3 (F := Ideal) x0 x1 x2 (ix2 r c) = outC x0 x1 x2 r c := by
  rw [out0_pairs]
  refine View.canon_eq_of_allAt _ _ _ ?_ ?_
  · exact View.cover_of_tiled _ ![256, 128] rfl _
  · refine View.allAt_cons_unit _ _ _ _ _ (pair_tile x0 x1 x2 r c 896 rfl _) ?_
    refine View.allAt_cons_unit _ _ _ _ _ (pair_tile x0 x1 x2 r c 768 rfl _) ?_
    refine View.allAt_cons_unit _ _ _ _ _ (pair_tile x0 x1 x2 r c 640 rfl _) ?_
    refine View.allAt_cons_unit _ _ _ _ _ (pair_tile x0 x1 x2 r c 512 rfl _) ?_
    refine View.allAt_cons_unit _ _ _ _ _ (pair_tile x0 x1 x2 r c 384 rfl _) ?_
    refine View.allAt_cons_unit _ _ _ _ _ (pair_tile x0 x1 x2 r c 256 rfl _) ?_
    refine View.allAt_cons_unit _ _ _ _ _ (pair_tile x0 x1 x2 r c 128 rfl _) ?_
    refine View.allAt_cons_unit _ _ _ _ _ (pair_tile x0 x1 x2 r c 0 rfl _) ?_
    exact View.allAt_nil _ _

end Cert.CtxAttnIdeal.Gen
-- ==== Proof.Layer.CtxAttn.Arr.lean ====
/-
  The context's attention call's result array, at every element, from the arguments.
-/
module

public import proofs.«01_k».proof.Proof.Layer.CtxAttn.Out
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.CtxAttnIdeal.Gen
open Cert.Layer.CtxAttn

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 1] := (by decide +kernel : ∀ t : Fin grid0.N, win0_1.index t = ![t.val, 1])
theorem idx0_2 : ∀ t : Fin cfg0.N, win0_2.index t = ![t.val, 2] := (by decide +kernel : ∀ t : Fin grid0.N, win0_2.index t = ![t.val, 2])
theorem idx0_3 : ∀ t : Fin cfg0.N, win0_3.index t = ![t.val, 0] := (by decide +kernel : ∀ t : Fin grid0.N, win0_3.index t = ![t.val, 0])

/-- The result, at the arguments of core `c`. -/
def spec (c : Dev nD) : S4096x1024.Idx → EReal := fun i =>
  ctxK (m ((c : Thread nD τ).loc main_arg0)) (m ((c : Thread nD τ).loc main_arg1)) (m ((c : Thread nD τ).loc main_arg2))
    ⟨(i 0).val / 256, by have := (i 0).isLt; exact Nat.div_lt_of_lt_mul this⟩ ⟨(i 0).val % 256, Nat.mod_lt _ (by decide)⟩
    ⟨(i 1).val / 64, by have := (i 1).isLt; exact Nat.div_lt_of_lt_mul this⟩ ⟨(i 1).val % 64, Nat.mod_lt _ (by decide)⟩

section
variable (U : Valuation τ sig (Elt Ideal))

theorem v5_at (q : S16x256x16x64.Idx → EReal) (hq : U (Proc.devRef .tc main_arg0) = q) (n : Fin 4096) (col : Fin 1024) :
    (StableHlo.upto hostOps0 U 10 (Proc.devRef .tc main_v5) : S4096x1024.Idx → EReal) (ix2 n col)
      = Ideal.div (q (ix4 ⟨n.val / 256, by omega⟩ ⟨n.val % 256, by omega⟩ ⟨col.val / 64, by omega⟩ ⟨col.val % 64, by omega⟩) * Ideal.ofBits FTy.f32 0x3E000000#32)
          (Ideal.log (Ideal.ofBits FTy.f32 0x40000000#32)) := by
  after_reads_at
  exact congrArg (fun z => Ideal.div (z * Ideal.ofBits FTy.f32 0x3E000000#32) (Ideal.log (Ideal.ofBits FTy.f32 0x40000000#32))) (congrFun hq _)
theorem v6_at (n : Fin 4096) (col : Fin 1024) :
    (StableHlo.upto hostOps0 U 10 (Proc.devRef .tc main_v6) : S4096x1024.Idx → EReal) (ix2 n col)
      = (U (Proc.devRef .tc main_arg1) : S16x256x16x64.Idx → EReal) (ix4 ⟨n.val / 256, by omega⟩ ⟨n.val % 256, by omega⟩ ⟨col.val / 64, by omega⟩ ⟨col.val % 64, by omega⟩) := by
  after_reads_at
theorem v7_at (n : Fin 4096) (col : Fin 1024) :
    (StableHlo.upto hostOps0 U 10 (Proc.devRef .tc main_v7) : S4096x1024.Idx → EReal) (ix2 n col)
      = (U (Proc.devRef .tc main_arg2) : S16x256x16x64.Idx → EReal) (ix4 ⟨n.val / 256, by omega⟩ ⟨n.val % 256, by omega⟩ ⟨col.val / 64, by omega⟩ ⟨col.val % 64, by omega⟩) := by
  after_reads_at

theorem v9_at (n : Fin 4096) (col : Fin 5120) :
    (StableHlo.after hostOps0 U (Proc.devRef .tc main_v9) : S4096x5120.Idx → EReal) (ix2 n col)
      = (if h : col.val < 1024 then (StableHlo.upto hostOps0 U 10 (Proc.devRef .tc main_v5) : S4096x1024.Idx → EReal) (ix2 n ⟨col.val, h⟩)
        else if h : col.val - 1024 < 1024 then (StableHlo.upto hostOps0 U 10 (Proc.devRef .tc main_v6) : S4096x1024.Idx → EReal) (ix2 n ⟨col.val - 1024, h⟩)
        else if h : col.val - 1024 - 1024 < 1024 then (StableHlo.upto hostOps0 U 10 (Proc.devRef .tc main_v7) : S4096x1024.Idx → EReal) (ix2 n ⟨col.val - 1024 - 1024, h⟩)
        else (StableHlo.upto hostOps0 U 10 (Proc.devRef .tc main_arg3) : S4096x2048.Idx → EReal) (ix2 n ⟨col.val - 1024 - 1024 - 1024, by omega⟩)) := by
  generalize hR : (if h : col.val < 1024 then _ else _ : EReal) = R
  after_reads_at
  exact hR

theorem pq_at (q : S16x256x16x64.Idx → EReal) (hq : U (Proc.devRef .tc main_arg0) = q) (n : Fin 4096) (col : Fin 1024) :
    (StableHlo.after hostOps0 U (Proc.devRef .tc main_v9) : S4096x5120.Idx → EReal) (ix2 n ⟨col.val, by omega⟩)
      = Ideal.div (q (ix4 ⟨n.val / 256, by omega⟩ ⟨n.val % 256, by omega⟩ ⟨col.val / 64, by omega⟩ ⟨col.val % 64, by omega⟩) * Cert.NA.c8) (Ideal.log (Ideal.ofBits .f32 0x40000000#32)) := by
  rw [v9_at, dif_pos (c := col.val < 1024) col.isLt]
  exact v5_at U q hq n col

theorem pk_at (n : Fin 4096) (col : Fin 1024) :
    (StableHlo.after hostOps0 U (Proc.devRef .tc main_v9) : S4096x5120.Idx → EReal) (ix2 n ⟨1024 + col.val, by omega⟩)
      = (U (Proc.devRef .tc main_arg1) : S16x256x16x64.Idx → EReal) (ix4 ⟨n.val / 256, by omega⟩ ⟨n.val % 256, by omega⟩ ⟨col.val / 64, by omega⟩ ⟨col.val % 64, by omega⟩) := by
  rw [v9_at, dif_neg (c := 1024 + col.val < 1024) (by omega), dif_pos (c := 1024 + col.val - 1024 < 1024) (by omega)]
  exact (congrArg _ (congrArg (ix2 n) (Fin.ext (by simp)))).trans (v6_at U n col)

theorem pv_at (n : Fin 4096) (col : Fin 1024) :
    (StableHlo.after hostOps0 U (Proc.devRef .tc main_v9) : S4096x5120.Idx → EReal) (ix2 n ⟨2048 + col.val, by omega⟩)
      = (U (Proc.devRef .tc main_arg2) : S16x256x16x64.Idx → EReal) (ix4 ⟨n.val / 256, by omega⟩ ⟨n.val % 256, by omega⟩ ⟨col.val / 64, by omega⟩ ⟨col.val % 64, by omega⟩) := by
  rw [v9_at, dif_neg (c := 2048 + col.val < 1024) (by omega), dif_neg (c := 2048 + col.val - 1024 < 1024) (by omega),
    dif_pos (c := 2048 + col.val - 1024 - 1024 < 1024) (by omega)]
  exact (congrArg _ (congrArg (ix2 n) (Fin.ext (by simp; omega)))).trans (v7_at U n col)
end

theorem b0 (c : Dev nD) (t : Fin cfg0.N) (r : Fin 256) (k : Fin 1024) (n : Fin 4096) (hn : n.val = t.val * 256 + r.val) :
    iblk m c 0 t (ix2 r k) = V m c main_v9 (ix2 n ⟨k.val, by omega⟩) := by
  blk_simp [iblk]
  refine congrArg _ ((eq_ix2 _).trans ?_)
  refine congr (congrArg ix2 (Fin.ext ?_)) (Fin.ext ?_) <;> blk_simp [idx0_0 t]
  omega
theorem b1 (c : Dev nD) (t : Fin cfg0.N) (r : Fin 256) (k : Fin 1024) (n : Fin 4096) (hn : n.val = t.val * 256 + r.val) :
    iblk m c 1 t (ix2 r k) = V m c main_v9 (ix2 n ⟨1024 + k.val, by omega⟩) := by
  blk_simp [iblk]
  refine congrArg _ ((eq_ix2 _).trans ?_)
  refine congr (congrArg ix2 (Fin.ext ?_)) (Fin.ext ?_) <;> blk_simp [idx0_1 t]
  omega
theorem b2 (c : Dev nD) (t : Fin cfg0.N) (r : Fin 256) (k : Fin 1024) (n : Fin 4096) (hn : n.val = t.val * 256 + r.val) :
    iblk m c 2 t (ix2 r k) = V m c main_v9 (ix2 n ⟨2048 + k.val, by omega⟩) := by
  blk_simp [iblk]
  refine congrArg _ ((eq_ix2 _).trans ?_)
  refine congr (congrArg ix2 (Fin.ext ?_)) (Fin.ext ?_) <;> blk_simp [idx0_2 t]
  omega

theorem final (c : Dev nD) : (dats m 0 c).arrAt 3 cfg0.N = spec m c := by
  refine (dats m 0 c).arrAt_eq_of_covers 3 _ (by decide +kernel) fun t hf y => ?_
  have ht : t.val < 16 := t.isLt
  have hemb : ∃ (r : Fin 256) (k : Fin 1024), y = ix2 r k ∧ ((cfg0.win 3).blk t).view.emb y = ix2 (⟨t.val * 256 + r.val, by omega⟩ : Fin 4096) k := by
    obtain ⟨r, k, rfl⟩ : ∃ (r : Fin 256) (k : Fin 1024), y = ix2 r k := ⟨y 0, y 1, eq_ix2 y⟩
    refine ⟨r, k, rfl, (eq_ix2 _).trans ?_⟩
    refine congr (congrArg ix2 (Fin.ext ?_)) (Fin.ext ?_) <;> blk_simp [idx0_3 t]
  obtain ⟨r, k, rfl, he⟩ := hemb
  rw [he]
  show (dats m 0 c).after 3 t (ix2 r k) = _
  rw [after0_3]
  refine (out_at _ _ _ r k).trans ?_
  unfold outC spec ctxK
  obtain ⟨q0, hq0⟩ : ∃ q0 : S16x256x16x64.Idx → EReal, m ((c : Thread nD τ).loc main_arg0) = q0 := ⟨_, rfl⟩
  rw [hq0]
  have e1 : ∀ (r : Fin 256) (d : Fin 64), (iblk m c 0 t : S256x1024.Idx → EReal) (ix2 r ⟨k.val / 64 * 64 + d.val, by omega⟩)
      = Ideal.div (q0 (ix4 ⟨t.val, ht⟩ r ⟨k.val / 64, by omega⟩ d) * Cert.NA.c8)
          (Ideal.log (Ideal.ofBits .f32 0x40000000#32)) := fun r d => by
    refine (b0 m c t r _ ⟨t.val * 256 + r.val, by omega⟩ rfl).trans ((pq_at _ q0 hq0 _ ⟨k.val / 64 * 64 + d.val, by omega⟩).trans ?_)
    refine congrArg (fun z => Ideal.div (z * Cert.NA.c8) _) (congrArg q0 ?_)
    refine congr (congr (congr (congrArg ix4 ?_) ?_) ?_) ?_ <;> apply Fin.ext <;> simp only <;> omega
  have e2 : ∀ (r : Fin 256) (d : Fin 64), iblk m c 1 t (ix2 r ⟨k.val / 64 * 64 + d.val, by omega⟩)
      = (m ((c : Thread nD τ).loc main_arg1) : S16x256x16x64.Idx → EReal) (ix4 ⟨t.val, ht⟩ r ⟨k.val / 64, by omega⟩ d) := fun r d => by
    refine (b1 m c t r _ ⟨t.val * 256 + r.val, by omega⟩ rfl).trans ((pk_at _ _ ⟨k.val / 64 * 64 + d.val, by omega⟩).trans ?_)
    refine congrArg (m ((c : Thread nD τ).loc main_arg1)) ?_
    refine congr (congr (congr (congrArg ix4 ?_) ?_) ?_) ?_ <;> apply Fin.ext <;> simp only <;> omega
  have e3 : ∀ (r : Fin 256), iblk m c 2 t (ix2 r k)
      = (m ((c : Thread nD τ).loc main_arg2) : S16x256x16x64.Idx → EReal) (ix4 ⟨t.val, ht⟩ r ⟨k.val / 64, by omega⟩ ⟨k.val % 64, by omega⟩) := fun r => by
    refine (b2 m c t r _ ⟨t.val * 256 + r.val, by omega⟩ rfl).trans ((pv_at _ _ k).trans ?_)
    refine congrArg (m ((c : Thread nD τ).loc main_arg2)) ?_
    refine congr (congr (congr (congrArg ix4 ?_) ?_) ?_) ?_ <;> apply Fin.ext <;> simp only <;> omega
  rw [funext (e1 r), funext fun j => funext (e2 j), funext e3]
  have h1 : (⟨t.val, ht⟩ : Fin 16) = ⟨(t.val * 256 + r.val) / 256, by omega⟩ := Fin.ext (by simp only; omega)
  have h2 : r = ⟨(t.val * 256 + r.val) % 256, by omega⟩ := Fin.ext (by simp only; omega)
  rw [h1]
  refine congrArg (fun z : Fin 256 => attnC (fun d => Ideal.div (q0 (ix4 _ z _ d) * Cert.NA.c8) _) _ _) h2

end Cert.CtxAttnIdeal.Gen
-- ==== Proof.Layer.CtxAttn.Ref.lean ====
/-
  The reference's result, at every element.
-/
module

public import proofs.«01_k».proof.Proof.Gen.CtxAttnReferenceIdeal.Read
public import proofs.«01_k».proof.Proof.Layer.CtxAttn.Spec
public import Idealize.ShloMosaic.Lib.Pointwise

@[expose] public section

set_option maxRecDepth 16384

noncomputable section

open Idealize.ShloMosaic Idealize.ShloMosaic.TcCoe Idealize.SL.Sem

namespace Cert.CtxAttnReferenceIdeal.Read
open Cert.CtxAttnReferenceIdeal Cert.CtxAttnReferenceIdeal.Gen Cert.Layer.CtxAttn

variable (q k v : S16x256x16x64.Idx → EReal) (b : Fin 16) (h : Fin 16) (i : Fin 256)

theorem v2_at (j : Fin 256) : val_main_v2 (F := Ideal) q k (ix4 b h i j) = score q k b i h j := by
  pointwise [val_main_v2, val_main_v1, val_main_v0, val_main_cst]
  rfl

theorem negInf : Ideal.ofBits .f32 0xFF800000#32 = ⊥ := by
  simp [Ideal.ofBits, Ideal.ieee]

theorem red_at (X : FVec Ideal S16x16x256x256 .f32) (h1 : S16x16x256x256.ReducesTo [3] S16x16x256) (h2) :
    (Host.reduce (FloatOps.maximumf (F := Ideal) (φ := .f32)) X (val_main_cst_0 (F := Ideal)) h1 h2 (ix3 b h i) : EReal) = Finset.univ.sup fun x : Fin 256 => X (ix4 b h i x) := by
  pointwise [val_main_cst_0]
  rw [negInf]
  rfl

theorem v4_at : val_main_v4 (F := Ideal) (ix3 b h i) = (⊥ : EReal) := by
  rw [← negInf]
  pointwise [val_main_v4, val_main_cst_1]

theorem maximumf_at (X Y : FVec Ideal S16x16x256 .f32) (i : S16x16x256.Idx) : maximumf X Y i = FloatOps.maximumf (F := Ideal) (φ := .f32) (X i) (Y i) := rfl

theorem max_bot (x : EReal) : FloatOps.maximumf (F := Ideal) (φ := .f32) (⊥ : EReal) x = x := max_bot_left x

theorem v5_at : val_main_v5 (F := Ideal) q k (ix3 b h i) = Finset.univ.sup (score q k b i h) := by
  unfold val_main_v5
  rw [maximumf_at, v4_at, max_bot]
  unfold val_main_v3
  refine (red_at b h i _ _ _).trans (congrArg _ (funext fun j => v2_at q k b h i j))

theorem v13_at (j : Fin 256) : val_main_v13 (F := Ideal) q k (ix4 b h i j)
   = Ideal.div (Ideal.exp (val_main_v2 (F := Ideal) q k (ix4 b h i j) - val_main_v5 (F := Ideal) q k (ix3 b h i)))
      (∑ x, Ideal.exp (val_main_v2 (F := Ideal) q k (ix4 b h i x) - val_main_v5 (F := Ideal) q k (ix3 b h i))) := by
  unfold val_main_v13 val_main_v12 val_main_v11 val_main_v10 val_main_v9 val_main_v8 val_main_v7 val_main_v6
  generalize val_main_v2 (F := Ideal) q k = X
  generalize val_main_v5 (F := Ideal) q k = M
  pointwise [val_main_cst_2]

theorem result_at (n : Fin 4096) (c : Fin 1024) : val_main_v17 (F := Ideal) q k v (ix2 n c)
    = ctx q k v ⟨n.val / 256, by omega⟩ ⟨n.val % 256, by omega⟩ ⟨c.val / 64, by omega⟩ ⟨c.val % 64, by omega⟩ := by
  have e : val_main_v17 (F := Ideal) q k v (ix2 n c)
     = ∑ j : Fin 256, v (ix4 ⟨n.val / 256, by omega⟩ j ⟨c.val / 64, by omega⟩ ⟨c.val % 64, by omega⟩)
        * val_main_v13 (F := Ideal) q k (ix4 ⟨n.val / 256, by omega⟩ ⟨c.val / 64, by omega⟩ ⟨n.val % 256, by omega⟩ j) := by
    unfold val_main_v17 val_main_v16 val_main_v15 val_main_v14
    generalize val_main_v13 (F := Ideal) q k = A
    pointwise
  rw [e]
  unfold ctx
  refine Finset.sum_congr rfl fun j _ => ?_
  rw [v13_at, v5_at, mul_comm]
  simp only [v2_at]

end Cert.CtxAttnReferenceIdeal.Read
-- ==== Proof.Layer.CtxAttn.Run.lean ====
/-
  The context's attention: the call's result is the reference's, of finite queries and keys.
-/
module

public import proofs.«01_k».proof.Defs
public import proofs.«01_k».proof.Proof.NA.Run
public import proofs.«01_k».proof.Proof.Layer.CtxAttn.Arr
public import proofs.«01_k».proof.Proof.Layer.CtxAttn.Ref
public import proofs.«01_k».proof.Proof.Gen.CtxAttnReferenceIdeal.Run

@[expose] public section

set_option maxRecDepth 16384

noncomputable section

open Idealize.ShloMosaic Idealize.ShloMosaic.TcCoe Idealize.SL.Sem

theorem Cert.Pre_ctx_scores_finite.holds : Cert.Pre_ctx_scores_finite.Facts where
  bcast_S_S16x256x16x64 := by decide

namespace Cert.Layer.CtxAttn

theorem frame_reference : Cert.quiescent_CtxAttnReferenceIdeal (hCtxAttnReferenceIdeal := Cert.CtxAttnReferenceIdeal.Gen.facts) := fun m ρ _ =>
  (θ_run _ _ _).mono (fun _ h => ⟨fun c => (h c).2, sem_eq_zero_of_no_sems rfl _⟩) (Cert.CtxAttnReferenceIdeal.Value.run (F := Ideal) m ρ)

/-- Of finite queries and keys the attention in powers of two is the softmax. -/
theorem join (q k v : Heads.Idx → EReal) (hq : ∀ i, ∃ r : ℝ, q i = (r : EReal)) (hk : ∀ i, ∃ r : ℝ, k i = (r : EReal))
    (b : Fin 16) (i : Fin 256) (h : Fin 16) (d : Fin 64) : ctxK q k v b i h d = ctx q k v b i h d := by
  choose qr hq using hq
  choose kr hk using hk
  have hs : ∀ j, score q k b i h j = (((∑ d, qr (ix4 b i h d) * kr (ix4 b j h d)) * (1 / 8) : ℝ) : EReal) := fun j => by
    unfold score
    simp only [hq, hk, Cert.KernelIdeal.Gen.c8_real]
    rw [Cert.KernelIdeal.Gen.dot_real (fun d => kr (ix4 b j h d)) (fun d => qr (ix4 b i h d)), ← EReal.coe_mul]
  unfold ctxK attnC ctx
  refine softmax_one _ (score q k b i h) _ (fun j => ?_) (fun j => ?_) (fun j => ?_)
  · rw [hs]; exact EReal.coe_ne_top _
  · rw [hs]; exact EReal.coe_ne_bot _
  · rw [hs]
    simp only [Cert.KernelIdeal.Gen.div_log, hq, hk, Cert.KernelIdeal.Gen.c8_real, mul_comm _ ((kr _ : ℝ) : EReal)]
    rw [Cert.KernelIdeal.Gen.dot_lam (fun d => kr (ix4 b j h d)) (fun d => qr (ix4 b i h d)), ← EReal.coe_mul]

set_option maxHeartbeats 1000000 in
theorem algebraic : Cert.algebraic_CtxAttnIdeal_CtxAttnReferenceIdeal_pre_ctx_scores_finite (hCtxAttnIdeal := Cert.CtxAttnIdeal.Gen.facts)
    (hCtxAttnReferenceIdeal := Cert.CtxAttnReferenceIdeal.Gen.facts) (hPre_ctx_scores_finite := Cert.Pre_ctx_scores_finite.holds) := by
  intro m g m' g' hpre hargs
  refine ⟨fun c => Cert.CtxAttnIdeal.Gen.spec m c,
    (θ_run _ _ _).mono (fun _ h c => ⟨(h c).1.trans (Cert.CtxAttnIdeal.Gen.final m c), (h c).2⟩) (Cert.CtxAttnIdeal.Value.run_blocks m g),
    (θ_run _ _ _).mono (fun _ h c => ⟨(h c).1.trans ?_, (h c).2⟩) (Cert.CtxAttnReferenceIdeal.Value.run (F := Ideal) m' g')⟩
  obtain ⟨a0, a1, a2, a3⟩ := hargs c
  obtain ⟨p0, p1⟩ := hpre c
  rw [Cert.CtxAttnReferenceIdeal.Read.val_main_v17_eq, a0, a1, a2]
  funext i
  rw [eq_ix2 i]
  refine (Cert.CtxAttnReferenceIdeal.Read.result_at _ _ _ _ _).trans (join _ _ _ (fun i => ?_) (fun i => ?_) _ _ _ _).symm
  · exact Cert.NA.real_of_word _ (congrFun p0 i)
  · exact Cert.NA.real_of_word _ (congrFun p1 i)

end Cert.Layer.CtxAttn
-- ==== Proof.Layer.InA.lean ====
/-
  The arithmetic of the first input projection: a head normed by the root of the mean of its squares.
-/
module

public import proofs.«01_k».proof.Proof.Layer.Ffn
public import Idealize.ShloMosaic.Lib.Pipeline.ValueKit
public import Idealize.ShloMosaic.Lib.Pointwise

@[expose] public section

noncomputable section

open Idealize.ShloMosaic
open scoped BigOperators

namespace Cert.Layer

/-- A head's width, as the programs' word. -/
abbrev headW : EReal := Ideal.ofBits FTy.f32 0x42800000#32

theorem headW_eq : headW = ((64 : ℝ) : EReal) := by
  simp [Ideal.ofBits, Ideal.ieee]
  rw [← EReal.coe_mul]; norm_num

theorem mean_word (s : EReal) : s * Ideal.ofBits FTy.f32 0x3C800000#32 = Ideal.div s headW := by
  rw [headW_eq, Ideal.div_coe (by norm_num)]
  congr 1
  simp [Ideal.ofBits, Ideal.ieee]
  rw [← EReal.coe_mul]; norm_num

/-- One element `p` of a head's numbers `y`, normed and scaled. -/
def headAt (y : Fin 64 → EReal) (p g : EReal) : EReal := p * Ideal.rsqrt (Ideal.div (∑ j : Fin 64, y j * y j) headW + epsW) * g

/-- One element of the first input projection of a row, from the plain projection `p` and the gains: the first 2048 columns are
    heads. -/
def inA (p : Fin 5120 → EReal) (q : Fin 2048 → EReal) (f : Fin 5120) : EReal :=
  if h : f.val < 2048 then headAt (fun j => p ⟨f.val / 64 * 64 + j.val, by omega⟩) (p f) (q ⟨f.val, h⟩) else p f

/-- A sum of 256 numbers of which one group of 64 counts. -/
theorem sum_block (f : Fin 256 → EReal) (x : Fin 256) :
    ∑ i : Fin 256, f i * (if i.val / 64 = x.val / 64 then 1 else 0) = ∑ j : Fin 64, f ⟨x.val / 64 * 64 + j.val, by omega⟩ := by
  refine ((Fin.sum_mul_add_fin 4 64 (fun i : Fin 256 => f i * (if i.val / 64 = x.val / 64 then 1 else 0))).symm).trans ?_
  refine (Finset.sum_eq_single (⟨x.val / 64, by omega⟩ : Fin 4) (fun s _ hs => ?_) (fun h => absurd (Finset.mem_univ _) h)).trans ?_
  · refine Finset.sum_eq_zero fun j _ => ?_
    have hj := j.isLt
    have hne : s.val ≠ x.val / 64 := fun h => hs (Fin.ext h)
    show _ * (if (s.val * 64 + j.val) / 64 = x.val / 64 then (1 : EReal) else 0) = 0
    rw [if_neg (by omega), mul_zero]
  · refine Finset.sum_congr rfl fun j _ => ?_
    have hj := j.isLt
    show _ * (if (x.val / 64 * 64 + j.val) / 64 = x.val / 64 then (1 : EReal) else 0) = _
    rw [if_pos (by omega), mul_one]

end Cert.Layer
-- ==== Proof.Layer.InALat.Out.lean ====
/-
  What one point of the first input projection stores, at every element: ten blocks of 512 columns, the first four normed head by
  head.
-/
module

public import proofs.«01_k».proof.Proof.Gen.InALatIdeal.Value
public import proofs.«01_k».proof.Proof.Layer.InA
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.InALatIdeal.Gen
open Cert.Layer

variable (m : (l : Loc nD τ sig) → Buf (Elt Ideal) l)

theorem norm_at (x : S512x1024.Idx → EReal) (g : S1x1024.Idx → EReal) (sh sc : S1x1x1024.Idx → EReal) (r : Fin 512) (k : Fin 1024) :
    k0_pay2 (F := Ideal) x g sh sc (ix2 r k)
      = normMod modW epsW (fun k => x (ix2 r k)) (fun k => g (ix2 0 k)) (fun k => sc (ix3 0 0 k)) (fun k => sh (ix3 0 0 k)) k := by
  pointwise [k0_pay2]
  rfl

/-- A block of the normed columns at row `r`. -/
theorem head_at (H : S512x1024.Idx → EReal) (W : S1024x512.Idx → EReal) (B : S256x256.Idx → EReal) (Q : S1x512.Idx → EReal)
    (hB : ∀ i j : Fin 256, B (ix2 i j) = if i.val / 64 = j.val / 64 then 1 else 0) (r x : Fin 512) :
    k0_pay15 (F := Ideal) H W B B Q (ix2 r x)
      = headAt (fun j => ∑ k : Fin 1024, H (ix2 r k) * W (ix2 k ⟨x.val / 64 * 64 + j.val, by omega⟩)) (∑ k : Fin 1024, H (ix2 r k) * W (ix2 k x)) (Q (ix2 0 x)) := by
  pointwise [k0_pay15]
  unfold headAt
  simp only [hB]
  rw [mean_word]
  refine congrArg (fun z => _ * Ideal.rsqrt (Ideal.div z _ + _) * _) ?_
  have hx := x.isLt
  by_cases h : x.val < 256
  · rw [dif_pos h]
    refine (sum_block (fun i => (∑ k : Fin 1024, H (ix2 r k) * W (ix2 k ⟨i.val, by omega⟩)) * (∑ k : Fin 1024, H (ix2 r k) * W (ix2 k ⟨i.val, by omega⟩))) ⟨x.val, h⟩).trans ?_
    rfl
  · rw [dif_neg h]
    refine (sum_block (fun i => (∑ k : Fin 1024, H (ix2 r k) * W (ix2 k ⟨256 + i.val, by omega⟩)) * (∑ k : Fin 1024, H (ix2 r k) * W (ix2 k ⟨256 + i.val, by omega⟩))) ⟨x.val - 256, by omega⟩).trans ?_
    refine Finset.sum_congr rfl fun j _ => ?_
    refine congrArg (fun z : Fin 512 => (∑ k : Fin 1024, H (ix2 r k) * W (ix2 k z)) * (∑ k : Fin 1024, H (ix2 r k) * W (ix2 k z))) (Fin.ext ?_)
    show 256 + ((x.val - 256) / 64 * 64 + j.val) = x.val / 64 * 64 + j.val
    omega

theorem plain_at (H : S512x1024.Idx → EReal) (W : S1024x512.Idx → EReal) (r x : Fin 512) :
    k0_pay18 (F := Ideal) H W (ix2 r x) = ∑ k : Fin 1024, H (ix2 r k) * W (ix2 k x) := by
  pointwise [k0_pay18]

section
variable (H : S512x1024.Idx → EReal) (W : S1024x512.Idx → EReal) (B : S256x256.Idx → EReal) (Q : S1x512.Idx → EReal)
theorem tile_0 : k0_pay6 (F := Ideal) (k0_pay3 (F := Ideal) H W) (k0_pay4 (F := Ideal) H W) (k0_pay5 (F := Ideal) H W) B B Q = k0_pay15 (F := Ideal) H W B B Q := rfl
theorem tile_1 : k0_pay11 (F := Ideal) (k0_pay7 (F := Ideal) H W) (k0_pay9 (F := Ideal) H W B) (k0_pay10 (F := Ideal) H W B) Q = k0_pay15 (F := Ideal) H W B B Q := rfl
theorem tile_2 : k0_pay14 (F := Ideal) (k0_pay12 (F := Ideal) H W B B) (k0_pay13 (F := Ideal) Q) = k0_pay15 (F := Ideal) H W B B Q := rfl
theorem tile_4 : k0_pay17 (F := Ideal) H (k0_pay16 (F := Ideal) W) (constant S512x512 FTy.f32 0#32) = k0_pay18 (F := Ideal) H W := rfl
theorem tile_6 : k0_pay19 (F := Ideal) H W = k0_pay18 (F := Ideal) H W := rfl
theorem tile_7 : k0_pay20 (F := Ideal) H W = k0_pay18 (F := Ideal) H W := rfl
theorem tile_8 : k0_pay21 (F := Ideal) H W = k0_pay18 (F := Ideal) H W := rfl
theorem tile_9 : k0_pay1 (F := Ideal) H W = k0_pay18 (F := Ideal) H W := rfl
end

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

theorem pass (P : S512x512.Idx → EReal) (L : List (View.Piece (Elt Ideal) S512x5120 .bf16)) (o : Nat) (i) (r : Fin 512) (x : Fin 5120) (h : x.val < o ∨ o + 512 ≤ x.val) :
    View.canon (⟨Rect.unit (s := S512x5120) ![0, o] ![512, 512] i, P⟩ :: L) (ix2 r x) = View.canon L (ix2 r x) := by
  refine View.canon_cons_of_not_mem _ _ fun hm => ?_
  obtain ⟨j, hj, e⟩ := (LoadRect.mem_set _).mp hm (1 : Fin 2)
  have e1 : x.val = o + 1 * j := e
  have e2 : j < 512 := hj
  omega

theorem here (P : S512x512.Idx → EReal) (L : List (View.Piece (Elt Ideal) S512x5120 .bf16)) (o : Nat) (i) (r x : Fin 512) (y : Fin 5120) (h : y.val = o + x.val) :
    View.canon (⟨Rect.unit (s := S512x5120) ![0, o] ![512, 512] i, P⟩ :: L) (ix2 r y) = P (ix2 r x) := by
  have e : (ix2 r y : S512x5120.Idx) = (Rect.unit (s := S512x5120) ![0, o] ![512, 512] i).emb (ix2 r x) := by
    funext a
    match a with
    | ⟨0, _⟩ => exact Fin.ext (show r.val = 0 + 1 * r.val by omega)
    | ⟨1, _⟩ => exact Fin.ext (show y.val = o + 1 * x.val by omega)
  rw [e]
  exact View.canon_cons_emb (Val := Elt Ideal) (e := .bf16) _ _ _ _

/-- One element of what a point stores. -/
def inAPoint (x : S512x1024.Idx → EReal) (mo : S1x1x6144.Idx → EReal) (g : S1x1024.Idx → EReal) (w : S1024x5120.Idx → EReal) (q : S1x2048.Idx → EReal)
    (r : Fin 512) (f : Fin 5120) : EReal :=
  inA (fun f => upAt (fun k => x (ix2 r k)) (fun k => g (ix2 0 k)) (fun k => mo (ix3 0 0 ⟨1024 + k.val, by omega⟩)) (fun k => mo (ix3 0 0 ⟨0 + k.val, by omega⟩)) (fun k => w (ix2 k f)))
    (fun f => q (ix2 0 f)) f

section
variable (x : S512x1024.Idx → EReal) (mo : S1x1x6144.Idx → EReal) (g : S1x1024.Idx → EReal) (w : S1024x5120.Idx → EReal) (q : S1x2048.Idx → EReal)
  (B : S256x256.Idx → EReal)
/-- The normed rows of a point. -/
abbrev nrm (i0 : ∀ a : Fin 3, (![0, 0, 0] : Fin 3 → Nat) a + (![1, 1, 1024] : Fin 3 → Nat) a ≤ S1x1x6144.size a)
    (i1 : ∀ a : Fin 3, (![0, 0, 1024] : Fin 3 → Nat) a + (![1, 1, 1024] : Fin 3 → Nat) a ≤ S1x1x6144.size a) : S512x1024.Idx → EReal :=
  k0_pay2 (F := Ideal) x g (View.ld (Val := Elt Ideal) (e' := .f32) (S := S1x1x6144) mo (Rect.unit ![0, 0, 0] ![1, 1, 1024] i0))
    (View.ld (Val := Elt Ideal) (e' := .f32) (S := S1x1x6144) mo (Rect.unit ![0, 0, 1024] ![1, 1, 1024] i1))

theorem nrm_at (i0 i1) (r : Fin 512) (k : Fin 1024) :
    nrm x mo g i0 i1 (ix2 r k) = normMod modW epsW (fun k => x (ix2 r k)) (fun k => g (ix2 0 k)) (fun k => mo (ix3 0 0 ⟨1024 + k.val, by omega⟩)) (fun k => mo (ix3 0 0 ⟨0 + k.val, by omega⟩)) k := by
  refine (norm_at _ _ _ _ r k).trans ?_
  refine congr (congr (congrArg (normMod modW epsW _ _) ?_) ?_) rfl
  · funext k; exact ld_m mo 1024 i1 k _
  · funext k; exact ld_m mo 0 i0 k _

theorem up_at (i0 i1) (o : Nat) (i2) (r x' : Fin 512) (h : o + x'.val < 5120) :
    (∑ k : Fin 1024, nrm x mo g i0 i1 (ix2 r k) * View.ld (Val := Elt Ideal) (e' := .bf16) (S := S1024x5120) w (Rect.unit ![0, o] ![1024, 512] i2) (ix2 k x'))
      = upAt (fun k => x (ix2 r k)) (fun k => g (ix2 0 k)) (fun k => mo (ix3 0 0 ⟨1024 + k.val, by omega⟩)) (fun k => mo (ix3 0 0 ⟨0 + k.val, by omega⟩)) (fun k => w (ix2 k ⟨o + x'.val, h⟩)) :=
  Finset.sum_congr rfl fun k _ => congr (congrArg HMul.hMul (nrm_at x mo g i0 i1 r k)) (ld_w (e := .bf16) w o 512 i2 k x' h)

theorem plain_of (i0 i1) (o : Nat) (ho : 2048 ≤ o) (i2) (r x' : Fin 512) (y : Fin 5120) (h : y.val = o + x'.val) :
    k0_pay18 (F := Ideal) (nrm x mo g i0 i1) (View.ld (Val := Elt Ideal) (e' := .bf16) (S := S1024x5120) w (Rect.unit ![0, o] ![1024, 512] i2)) (ix2 r x')
      = inAPoint x mo g w q r y := by
  unfold inAPoint inA
  rw [dif_neg (by omega), plain_at, up_at x mo g w i0 i1 o i2 r x' (by omega)]
  exact congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext h.symm)

theorem head_of (hB : ∀ i j : Fin 256, B (ix2 i j) = if i.val / 64 = j.val / 64 then 1 else 0) (i0 i1) (o : Nat) (ho : o + 512 ≤ 2048) (hd : o % 64 = 0) (i2 i3) (r x' : Fin 512) (y : Fin 5120) (h : y.val = o + x'.val) :
    k0_pay15 (F := Ideal) (nrm x mo g i0 i1) (View.ld (Val := Elt Ideal) (e' := .bf16) (S := S1024x5120) w (Rect.unit ![0, o] ![1024, 512] i2)) B B
      (View.ld (Val := Elt Ideal) (e' := .f32) (S := S1x2048) q (Rect.unit ![0, o] ![1, 512] i3)) (ix2 r x')
      = inAPoint x mo g w q r y := by
  unfold inAPoint inA
  have hx := x'.isLt
  rw [dif_pos (by omega), head_at _ _ _ _ hB, up_at x mo g w i0 i1 o i2 r x' (by omega)]
  refine congr (congr (congrArg headAt ?_) ?_) ?_
  · funext j
    have hj := j.isLt
    refine (up_at x mo g w i0 i1 o i2 r ⟨x'.val / 64 * 64 + j.val, by omega⟩ (by show o + (x'.val / 64 * 64 + j.val) < 5120; omega)).trans ?_
    refine congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext ?_)
    show o + (x'.val / 64 * 64 + j.val) = y.val / 64 * 64 + j.val
    omega
  · exact congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext h.symm)
  · refine (ld_w (e := .f32) q o 512 i3 0 x' (by omega)).trans ?_
    exact congrArg (fun z : Fin 2048 => q (ix2 0 z)) (Fin.ext h.symm)
end

theorem out_at (c : Dev nD) (t : Fin cfg0.N) (hB : ∀ i j : Fin 256, iblk m c 5 t (ix2 i j) = if i.val / 64 = j.val / 64 then (1 : EReal) else (0 : EReal)) (r : Fin 512) (f : Fin 5120) :
    outsAt0 m c t (ix2 r f) = inAPoint (iblk m c 0 t) (iblk m c 1 t) (iblk m c 2 t) (iblk m c 3 t) (iblk m c 4 t) r f := by
  unfold outsAt0
  frame_out
  generalize iblk m c 0 t = x
  generalize iblk m c 1 t = mo
  generalize iblk m c 2 t = g
  generalize iblk m c 3 t = w
  generalize iblk m c 4 t = q
  generalize iblk m c 5 t = B at *
  have hf := f.isLt
  by_cases h9 : 4608 ≤ f.val
  · refine (here _ _ 4608 _ r ⟨f.val - 4608, by omega⟩ f (by show f.val = 4608 + (f.val - 4608); omega)).trans ?_
    rw [tile_9]
    exact plain_of x mo g w q _ _ 4608 (by decide) _ r _ f (by show f.val = 4608 + (f.val - 4608); omega)
  refine (pass _ _ 4608 _ r f (by omega)).trans ?_
  by_cases h8 : 4096 ≤ f.val
  · refine (here _ _ 4096 _ r ⟨f.val - 4096, by omega⟩ f (by show f.val = 4096 + (f.val - 4096); omega)).trans ?_
    rw [tile_8]
    exact plain_of x mo g w q _ _ 4096 (by decide) _ r _ f (by show f.val = 4096 + (f.val - 4096); omega)
  refine (pass _ _ 4096 _ r f (by omega)).trans ?_
  by_cases h7 : 3584 ≤ f.val
  · refine (here _ _ 3584 _ r ⟨f.val - 3584, by omega⟩ f (by show f.val = 3584 + (f.val - 3584); omega)).trans ?_
    rw [tile_7]
    exact plain_of x mo g w q _ _ 3584 (by decide) _ r _ f (by show f.val = 3584 + (f.val - 3584); omega)
  refine (pass _ _ 3584 _ r f (by omega)).trans ?_
  by_cases h6 : 3072 ≤ f.val
  · refine (here _ _ 3072 _ r ⟨f.val - 3072, by omega⟩ f (by show f.val = 3072 + (f.val - 3072); omega)).trans ?_
    rw [tile_6]
    exact plain_of x mo g w q _ _ 3072 (by decide) _ r _ f (by show f.val = 3072 + (f.val - 3072); omega)
  refine (pass _ _ 3072 _ r f (by omega)).trans ?_
  by_cases h5 : 2560 ≤ f.val
  · refine (here _ _ 2560 _ r ⟨f.val - 2560, by omega⟩ f (by show f.val = 2560 + (f.val - 2560); omega)).trans ?_
    exact plain_of x mo g w q _ _ 2560 (by decide) _ r _ f (by show f.val = 2560 + (f.val - 2560); omega)
  refine (pass _ _ 2560 _ r f (by omega)).trans ?_
  by_cases h4 : 2048 ≤ f.val
  · refine (here _ _ 2048 _ r ⟨f.val - 2048, by omega⟩ f (by show f.val = 2048 + (f.val - 2048); omega)).trans ?_
    rw [tile_4]
    exact plain_of x mo g w q _ _ 2048 (by decide) _ r _ f (by show f.val = 2048 + (f.val - 2048); omega)
  refine (pass _ _ 2048 _ r f (by omega)).trans ?_
  by_cases h3 : 1536 ≤ f.val
  · refine (here _ _ 1536 _ r ⟨f.val - 1536, by omega⟩ f (by show f.val = 1536 + (f.val - 1536); omega)).trans ?_
    exact head_of x mo g w q B hB _ _ 1536 (by decide) (by decide) _ _ r _ f (by show f.val = 1536 + (f.val - 1536); omega)
  refine (pass _ _ 1536 _ r f (by omega)).trans ?_
  by_cases h2 : 1024 ≤ f.val
  · refine (here _ _ 1024 _ r ⟨f.val - 1024, by omega⟩ f (by show f.val = 1024 + (f.val - 1024); omega)).trans ?_
    rw [tile_2]
    exact head_of x mo g w q B hB _ _ 1024 (by decide) (by decide) _ _ r _ f (by show f.val = 1024 + (f.val - 1024); omega)
  refine (pass _ _ 1024 _ r f (by omega)).trans ?_
  by_cases h1 : 512 ≤ f.val
  · refine (here _ _ 512 _ r ⟨f.val - 512, by omega⟩ f (by show f.val = 512 + (f.val - 512); omega)).trans ?_
    rw [tile_1]
    exact head_of x mo g w q B hB _ _ 512 (by decide) (by decide) _ _ r _ f (by show f.val = 512 + (f.val - 512); omega)
  refine (pass _ _ 512 _ r f (by omega)).trans ?_
  refine (here _ _ 0 _ r ⟨f.val, by omega⟩ f (Nat.zero_add _).symm).trans ?_
  rw [tile_0]
  exact head_of x mo g w q B hB _ _ 0 (by decide) (by decide) _ _ r _ f (Nat.zero_add _).symm

end Cert.InALatIdeal.Gen
-- ==== Proof.Layer.InALat.Spec.lean ====
/-
  The first input projection's result as a function of the arguments.
-/
module

public import proofs.«01_k».proof.Proof.Layer.InA
public import Idealize.ShloMosaic.Lib.Pointwise

@[expose] public section

noncomputable section

open Idealize.ShloMosaic

namespace Cert.Layer

/-- The gain of a column of the heads: a head's gains, the queries' and then the keys'. -/
def gain (gq gk : Fin 64 → EReal) (f : Fin 2048) : EReal :=
  if f.val < 1024 then gq ⟨f.val % 64, by omega⟩ else gk ⟨f.val % 64, by omega⟩

/-- Token `n`'s row of the first projection. -/
def inALat (x : Shape.Idx ⟨3, ![8, 2048, 1024]⟩ → EReal) (m : Shape.Idx ⟨3, ![8, 1, 6144]⟩ → EReal) (g : Shape.Idx ⟨1, ![1024]⟩ → EReal)
    (w : Shape.Idx ⟨2, ![1024, 10304]⟩ → EReal) (gq gk : Shape.Idx ⟨1, ![64]⟩ → EReal) (n : Fin 16384) (f : Fin 5120) : EReal :=
  inA (fun f => upAt (fun k => x (ix3 ⟨n.val / 2048, by omega⟩ ⟨n.val % 2048, by omega⟩ k)) (fun k => g (ix1 k))
      (fun k => m (ix3 ⟨n.val / 2048, by omega⟩ 0 ⟨1024 + k.val, by omega⟩)) (fun k => m (ix3 ⟨n.val / 2048, by omega⟩ 0 ⟨0 + k.val, by omega⟩))
      (fun k => w (ix2 k ⟨f.val, by omega⟩)))
    (gain (fun k => gq (ix1 k)) (fun k => gk (ix1 k))) f

end Cert.Layer
-- ==== Proof.Layer.InALat.Arr.lean ====
/-
  The first input projection's result array, at every element, from the arguments.
-/
module

public import proofs.«01_k».proof.Proof.Layer.InALat.Out
public import proofs.«01_k».proof.Proof.Layer.InALat.Spec
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.InALatIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![1 + t.val / 4, 0, 0] := (by decide +kernel : ∀ t : Fin grid0.N, win0_1.index t = ![1 + t.val / 4, 0, 0])
theorem idx0_2 : ∀ t : Fin cfg0.N, win0_2.index t = ![0, 0] := (by decide +kernel : ∀ t : Fin grid0.N, win0_2.index t = ![0, 0])
theorem idx0_3 : ∀ t : Fin cfg0.N, win0_3.index t = ![0, 0] := (by decide +kernel : ∀ t : Fin grid0.N, win0_3.index t = ![0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_6 : ∀ t : Fin cfg0.N, win0_6.index t = ![t.val, 0] := (by decide +kernel : ∀ t : Fin grid0.N, win0_6.index t = ![t.val, 0])

/-- The result, at the arguments of core `c`. -/
def spec (c : Dev nD) : S16384x5120.Idx → EReal := fun i =>
  inALat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem mod_at (c : Dev nD) (n : Fin 8) (col : Fin 6144) :
    V m c main_v2 (ix3 ⟨1 + n.val, by omega⟩ 0 col) = m ((c : Thread nD τ).loc main_arg1) (ix3 n 0 col) := by
  unfold V
  after_reads_at

theorem x_at (c : Dev nD) (n : Fin 16384) (k : Fin 1024) :
    V m c main_v21 (ix2 n k) = m ((c : Thread nD τ).loc main_arg0) (ix3 ⟨n.val / 2048, by omega⟩ ⟨n.val % 2048, by omega⟩ k) := by
  unfold V
  after_reads_at

theorem g_at (c : Dev nD) (k : Fin 1024) : V m c main_v22 (ix2 0 k) = m ((c : Thread nD τ).loc main_arg2) (ix1 k) := by
  unfold V
  after_reads_at

theorem w_at (c : Dev nD) (j : Fin 1024) (k : Fin 5120) : V m c main_v24 (ix2 j k) = m ((c : Thread nD τ).loc main_arg3) (ix2 j ⟨k.val, by omega⟩) := by
  unfold V
  after_reads_at

theorem gq_at (c : Dev nD) (k : Fin 2048) :
    V m c main_v20 (ix2 0 k) = gain (fun k => m ((c : Thread nD τ).loc main_arg4) (ix1 k)) (fun k => m ((c : Thread nD τ).loc main_arg5) (ix1 k)) k := by
  unfold V gain
  after_reads_at
  have hk := k.isLt
  by_cases h : k.val < 1024
  · rw [dif_pos h, if_pos h]
    after_reads_at
  · rw [dif_neg h, if_neg h]
    after_reads_at
    exact congrArg (fun z : Fin 64 => m ((c : Thread nD τ).loc main_arg5) (ix1 z)) (Fin.ext (by show (k.val - 1024) % 64 = k.val % 64; omega))

/-- The quotient by 64 of a lane's number, as the program computes it. -/
def quot (i : Fin 256) : BitVec 32 :=
  Scalar.select
          (IntOp.andi
            (IntOp.cmpi CmpIPredicate.ne
              (if BitVec.ofNat 32 i.val = 0 then (0 : BitVec 32) else if (BitVec.ofNat 32 i.val).msb = true then -1 else 1)
              (if id (constantI S_ 32 64#32) ix0 = 0 then (0 : BitVec 32)
              else if BitVec.msb (id (constantI S_ 32 64#32) ix0) = true then -1 else 1))
            (IntOp.cmpi CmpIPredicate.ne
              (IntOp.remsi ArithUnit.host (BitVec.ofNat 32 i.val) (id (constantI S_ 32 64#32) ix0)) 0#32))
          (IntOp.subi (IntOp.divsi ArithUnit.host (BitVec.ofNat 32 i.val) (id (constantI S_ 32 64#32) ix0)) 1#32)
          (IntOp.divsi ArithUnit.host (BitVec.ofNat 32 i.val) (id (constantI S_ 32 64#32) ix0))

theorem quot_eq : ∀ i : Fin 256, quot i = BitVec.ofNat 32 (i.val / 64) := by decide +kernel

theorem same_at : ∀ a b : Fin 4, IntOp.cmpi CmpIPredicate.eq (BitVec.ofNat 32 a.val) (BitVec.ofNat 32 b.val) = if a.val = b.val then 1#1 else 0#1 := by decide

theorem bd_at (c : Dev nD) (i j : Fin 256) : V m c main_v12 (ix2 i j) = if i.val / 64 = j.val / 64 then (1 : EReal) else (0 : EReal) := by
  unfold V
  after_reads_at
  show FloatOps.uitofp (F := Ideal) FTy.bf16 (IntOp.cmpi CmpIPredicate.eq (quot i) (quot j)) = _
  rw [quot_eq, quot_eq]
  have e := same_at ⟨i.val / 64, by omega⟩ ⟨j.val / 64, by omega⟩
  rw [e]
  show FloatOps.uitofp (F := Ideal) FTy.bf16 (if i.val / 64 = j.val / 64 then 1#1 else 0#1) = _
  split
  · show (((1#1 : BitVec 1).toNat : ℝ) : EReal) = 1
    simp
  · show (((0#1 : BitVec 1).toNat : ℝ) : EReal) = 0
    simp

theorem b0 (c : Dev nD) (t : Fin cfg0.N) (r : Fin 512) (k : Fin 1024) (n : Fin 16384) (hn : n.val = t.val * 512 + r.val) :
    iblk m c 0 t (ix2 r k) = m ((c : Thread nD τ).loc main_arg0) (ix3 ⟨n.val / 2048, by omega⟩ ⟨n.val % 2048, by omega⟩ k) := by
  have e : iblk m c 0 t (ix2 r k) = V m c main_v21 (ix2 n k) := by
    blk_simp [iblk]
    refine congrArg _ ((eq_ix2 _).trans ?_)
    refine congr (congrArg ix2 (Fin.ext ?_)) (Fin.ext ?_) <;> blk_simp [idx0_0 t, hn]
  exact e.trans (x_at m c n k)
theorem b1 (c : Dev nD) (t : Fin cfg0.N) (k : Fin 6144) (n : Fin 8) (hn : n.val = t.val / 4) :
    iblk m c 1 t (ix3 0 0 k) = m ((c : Thread nD τ).loc main_arg1) (ix3 n 0 k) := by
  have e : iblk m c 1 t (ix3 0 0 k) = V m c main_v2 (ix3 ⟨1 + n.val, by omega⟩ 0 k) := by
    blk_simp [iblk]
    refine congrArg _ ((eq_ix3 _).trans ?_)
    refine congr (congr (congrArg ix3 (Fin.ext ?_)) (Fin.ext ?_)) (Fin.ext ?_) <;> blk_simp [idx0_1 t]
    simp; omega
  exact e.trans (mod_at m c n k)
theorem b2 (c : Dev nD) (t : Fin cfg0.N) (k : Fin 1024) :
    iblk m c 2 t (ix2 0 k) = m ((c : Thread nD τ).loc main_arg2) (ix1 k) := by
  have e : iblk m c 2 t (ix2 0 k) = V m c main_v22 (ix2 0 k) := by
    blk_simp [iblk]
    refine congrArg _ ((eq_ix2 _).trans ?_)
    refine congr (congrArg ix2 (Fin.ext ?_)) (Fin.ext ?_) <;> blk_simp [idx0_2 t]
  exact e.trans (g_at m c k)
theorem b3 (c : Dev nD) (t : Fin cfg0.N) (j : Fin 1024) (k : Fin 5120) :
    iblk m c 3 t (ix2 j k) = m ((c : Thread nD τ).loc main_arg3) (ix2 j ⟨k.val, by omega⟩) := by
  have e : iblk m c 3 t (ix2 j k) = V m c main_v24 (ix2 j k) := by
    blk_simp [iblk]
    refine congrArg _ ((eq_ix2 _).trans ?_)
    refine congr (congrArg ix2 (Fin.ext ?_)) (Fin.ext ?_) <;> blk_simp [idx0_3 t]
  exact e.trans (w_at m c j k)
theorem b4 (c : Dev nD) (t : Fin cfg0.N) (k : Fin 2048) :
    iblk m c 4 t (ix2 0 k) = gain (fun k => m ((c : Thread nD τ).loc main_arg4) (ix1 k)) (fun k => m ((c : Thread nD τ).loc main_arg5) (ix1 k)) k := by
  have e : iblk m c 4 t (ix2 0 k) = V m c main_v20 (ix2 0 k) := by
    blk_simp [iblk]
    refine congrArg _ ((eq_ix2 _).trans ?_)
    refine congr (congrArg ix2 (Fin.ext ?_)) (Fin.ext ?_) <;> blk_simp [idx0_4 t]
  exact e.trans (gq_at m c k)
theorem b5 (c : Dev nD) (t : Fin cfg0.N) (i j : Fin 256) :
    iblk m c 5 t (ix2 i j) = if i.val / 64 = j.val / 64 then (1 : EReal) else (0 : EReal) := by
  have e : iblk m c 5 t (ix2 i j) = V m c main_v12 (ix2 i j) := by
    blk_simp [iblk]
    refine congrArg _ ((eq_ix2 _).trans ?_)
    refine congr (congrArg ix2 (Fin.ext ?_)) (Fin.ext ?_) <;> blk_simp [idx0_5 t]
  exact e.trans (bd_at m c i j)

theorem point_at (c : Dev nD) (t : Fin cfg0.N) (r : Fin 512) (k : Fin 5120) (n : Fin 16384) (hn : n.val = t.val * 512 + r.val) :
    outsAt0 m c t (ix2 r k) = spec m c (ix2 n k) := by
  have ht : t.val < 32 := t.isLt
  have hr := r.isLt
  refine (out_at m c t (b5 m c t) r k).trans ?_
  unfold inAPoint
  have e1 := fun k => b1 m c t k ⟨n.val / 2048, by omega⟩ (show n.val / 2048 = t.val / 4 by omega)
  have e2 := b2 m c t
  have e3 := b3 m c t
  rw [funext fun k => b0 m c t r k n hn, funext fun k => b4 m c t k]
  simp only [e1, e2, e3]
  rfl

theorem final (c : Dev nD) : (dats m 0 c).arrAt 6 cfg0.N = spec m c := by
  refine (dats m 0 c).arrAt_eq_of_covers 6 _ (by decide +kernel) fun t hf y => ?_
  have ht : t.val < 32 := t.isLt
  have hemb : ∃ (r : Fin 512) (k : Fin 5120), y = ix2 r k ∧ ((cfg0.win 6).blk t).view.emb y = ix2 (⟨t.val * 512 + r.val, by omega⟩ : Fin 16384) k := by
    obtain ⟨r, k, rfl⟩ : ∃ (r : Fin 512) (k : Fin 5120), y = ix2 r k := ⟨y 0, y 1, eq_ix2 y⟩
    refine ⟨r, k, rfl, (eq_ix2 _).trans ?_⟩
    refine congr (congrArg ix2 (Fin.ext ?_)) (Fin.ext ?_) <;> blk_simp [idx0_6 t]
  obtain ⟨r, k, rfl, he⟩ := hemb
  rw [he]
  show (dats m 0 c).after 6 t (ix2 r k) = _
  rw [after0_6]
  exact point_at m c t r k _ rfl

end Cert.InALatIdeal.Gen
-- ==== Proof.Layer.InALat.Ref.lean ====
/-
  The first input projection's reference, read at every element.
-/
module

public import proofs.«01_k».proof.Proof.Gen.InALatReferenceIdeal.Read
public import proofs.«01_k».proof.Proof.Layer.InALat.Spec

@[expose] public section

set_option maxRecDepth 16384

noncomputable section

open Idealize.ShloMosaic Idealize.ShloMosaic.TcCoe Idealize.SL.Sem

namespace Cert.InALatReferenceIdeal.Read
open Cert.InALatReferenceIdeal Cert.Layer

variable (x0 : S8x2048x1024.Idx → EReal) (x1 : S8x1x6144.Idx → EReal) (x2 : S1024.Idx → EReal) (x3 : S1024x10304.Idx → EReal)
  (x4 : S64.Idx → EReal) (x5 : S64.Idx → EReal)

theorem norm_at (b : Fin 8) (s : Fin 2048) (k : Fin 1024) :
    val_main_v20 (F := Ideal) x0 x1 x2 (ix3 b s k)
      = normMod modW epsW (fun k => x0 (ix3 b s k)) (fun k => x2 (ix1 k)) (fun k => x1 (ix3 b 0 ⟨1024 + k.val, by omega⟩))
          (fun k => x1 (ix3 b 0 ⟨0 + k.val, by omega⟩)) k := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2]
  unfold normMod rms
  simp only [Nat.zero_add]

/-- One element of a row's projection. -/
def up (b : Fin 8) (s : Fin 2048) (f : Fin 5120) : EReal :=
  upAt (fun k => x0 (ix3 b s k)) (fun k => x2 (ix1 k)) (fun k => x1 (ix3 b 0 ⟨1024 + k.val, by omega⟩))
          (fun k => x1 (ix3 b 0 ⟨0 + k.val, by omega⟩)) (fun k => x3 (ix2 k ⟨f.val, by omega⟩))

theorem up_at (b : Fin 8) (s : Fin 2048) (f : Fin 5120) : val_main_v22 (F := Ideal) x0 x1 x2 x3 (ix3 b s f) = up x0 x1 x2 x3 b s f := by
  have h := norm_at x0 x1 x2 b s
  unfold val_main_v22
  generalize val_main_v20 (F := Ideal) x0 x1 x2 = z at *
  pointwise [val_main_v21]
  simp only [h]
  rfl

theorem q_at (n : Fin 16384) (f : Fin 1024) :
    val_main_v53 (F := Ideal) x0 x1 x2 x3 x4 (ix2 n f)
      = headAt (fun j => up x0 x1 x2 x3 ⟨n.val / 2048, by omega⟩ ⟨n.val % 2048, by omega⟩ ⟨f.val / 64 * 64 + j.val, by omega⟩)
          (up x0 x1 x2 x3 ⟨n.val / 2048, by omega⟩ ⟨n.val % 2048, by omega⟩ ⟨f.val, by omega⟩) (x4 (ix1 ⟨f.val % 64, by omega⟩)) := by
  have h := up_at x0 x1 x2 x3
  unfold val_main_v53 val_main_v37 val_main_v34 val_main_v33 val_main_v32 val_main_v31 val_main_v29 val_main_v27 val_main_v26 val_main_v25 val_main_v24 val_main_v23
  generalize val_main_v22 (F := Ideal) x0 x1 x2 x3 = z at *
  pointwise [val_main_v36, val_main_v35, val_main_v30, val_main_v28, val_main_cst_3, val_main_cst_4, val_main_cst_5]
  simp only [h]
  rfl

theorem k_at (n : Fin 16384) (f : Fin 1024) :
    val_main_v54 (F := Ideal) x0 x1 x2 x3 x5 (ix2 n f)
      = headAt (fun j => up x0 x1 x2 x3 ⟨n.val / 2048, by omega⟩ ⟨n.val % 2048, by omega⟩ ⟨1024 + (f.val / 64 * 64 + j.val), by omega⟩)
          (up x0 x1 x2 x3 ⟨n.val / 2048, by omega⟩ ⟨n.val % 2048, by omega⟩ ⟨1024 + f.val, by omega⟩) (x5 (ix1 ⟨f.val % 64, by omega⟩)) := by
  have h := up_at x0 x1 x2 x3
  unfold val_main_v54 val_main_v52 val_main_v49 val_main_v48 val_main_v47 val_main_v46 val_main_v44 val_main_v42 val_main_v41 val_main_v40 val_main_v39 val_main_v38
  generalize val_main_v22 (F := Ideal) x0 x1 x2 x3 = z at *
  pointwise [val_main_v51, val_main_v50, val_main_v45, val_main_v43, val_main_cst_6, val_main_cst_7, val_main_cst_8]
  simp only [h]
  rfl

theorem rest_at (n : Fin 16384) (f : Fin 3072) :
    val_main_v56 (F := Ideal) x0 x1 x2 x3 (ix2 n f) = up x0 x1 x2 x3 ⟨n.val / 2048, by omega⟩ ⟨n.val % 2048, by omega⟩ ⟨2048 + f.val, by omega⟩ := by
  have h := up_at x0 x1 x2 x3
  unfold val_main_v56 val_main_v55
  generalize val_main_v22 (F := Ideal) x0 x1 x2 x3 = z at *
  pointwise
  exact h _ _ _

theorem result_at (n : Fin 16384) (f : Fin 5120) :
    val_main_v58 (F := Ideal) x0 x1 x2 x3 x4 x5 (ix2 n f) = inALat x0 x1 x2 x3 x4 x5 n f := by
  have hq := q_at x0 x1 x2 x3 x4 n
  have hk := k_at x0 x1 x2 x3 x5 n
  have hr := rest_at x0 x1 x2 x3 n
  unfold val_main_v58 val_main_v57
  generalize val_main_v53 (F := Ideal) x0 x1 x2 x3 x4 = a at *
  generalize val_main_v54 (F := Ideal) x0 x1 x2 x3 x5 = b at *
  generalize val_main_v56 (F := Ideal) x0 x1 x2 x3 = d at *
  pointwise
  unfold inALat inA gain
  have hf := f.isLt
  by_cases h1 : f.val < 1024
  · rw [dif_pos h1, dif_pos (show f.val < 2048 by omega), if_pos (show (⟨f.val, by omega⟩ : Fin 2048).val < 1024 from h1), hq]
    rfl
  · rw [dif_neg h1]
    by_cases h2 : f.val < 2048
    · rw [dif_pos (show f.val - 1024 < 1024 by omega), dif_pos h2, if_neg (show ¬ (⟨f.val, by omega⟩ : Fin 2048).val < 1024 from h1), hk]
      refine congr (congr (congrArg headAt (funext fun j => ?_)) ?_) ?_
      · exact congrArg (up x0 x1 x2 x3 _ _) (Fin.ext (by show 1024 + ((f.val - 1024) / 64 * 64 + j.val) = f.val / 64 * 64 + j.val; omega))
      · exact congrArg (up x0 x1 x2 x3 _ _) (Fin.ext (by show 1024 + (f.val - 1024) = f.val; omega))
      · exact congrArg (fun z : Fin 64 => x5 (ix1 z)) (Fin.ext (by show (f.val - 1024) % 64 = f.val % 64; omega))
    · rw [dif_neg (show ¬ f.val - 1024 < 1024 by omega), dif_neg h2, hr]
      exact congrArg (up x0 x1 x2 x3 _ _) (Fin.ext (by show 2048 + (f.val - 1024 - 1024) = f.val; omega))

end Cert.InALatReferenceIdeal.Read
-- ==== Proof.Layer.InALat.Run.lean ====
/-
  The first input projection: the call's result is the reference's.
-/
module

public import proofs.«01_k».proof.Defs
public import proofs.«01_k».proof.Proof.Layer.InALat.Arr
public import proofs.«01_k».proof.Proof.Layer.InALat.Ref
public import proofs.«01_k».proof.Proof.Gen.InALatReferenceIdeal.Run

@[expose] public section

set_option maxRecDepth 16384

noncomputable section

open Idealize.ShloMosaic Idealize.ShloMosaic.TcCoe Idealize.SL.Sem

namespace Cert.Layer.InALat

theorem frame_reference : Cert.quiescent_InALatReferenceIdeal (hInALatReferenceIdeal := Cert.InALatReferenceIdeal.Gen.facts) := fun m ρ _ =>
  (θ_run _ _ _).mono (fun _ h => ⟨fun c => (h c).2, sem_eq_zero_of_no_sems rfl _⟩) (Cert.InALatReferenceIdeal.Value.run (F := Ideal) m ρ)

set_option maxHeartbeats 1000000 in
theorem algebraic : Cert.algebraic_InALatIdeal_InALatReferenceIdeal (hInALatIdeal := Cert.InALatIdeal.Gen.facts)
    (hInALatReferenceIdeal := Cert.InALatReferenceIdeal.Gen.facts) := by
  intro m g m' g' hpre hargs
  refine ⟨fun c => Cert.InALatIdeal.Gen.spec m c,
    (θ_run _ _ _).mono (fun _ h c => ⟨(h c).1.trans (Cert.InALatIdeal.Gen.final m c), (h c).2⟩) (Cert.InALatIdeal.Value.run_blocks m g),
    (θ_run _ _ _).mono (fun _ h c => ⟨(h c).1.trans ?_, (h c).2⟩) (Cert.InALatReferenceIdeal.Value.run (F := Ideal) m' g')⟩
  obtain ⟨a0, a1, a2, a3, a4, a5⟩ := hargs c
  rw [Cert.InALatReferenceIdeal.Read.val_main_v58_eq, a0, a1, a2, a3, a4, a5]
  funext i
  rw [eq_ix2 i]
  exact Cert.InALatReferenceIdeal.Read.result_at _ _ _ _ _ _ _ _

end Cert.Layer.InALat
-- ==== Proof.Layer.InB.lean ====
/-
  The second input projection of a row: the columns the state-space branch convolves along the tokens, two before and one after,
  and activates, the gates' columns, and the step sizes', as functions of the arguments.
-/
module

public import proofs.«01_k».proof.Proof.Layer.Ffn
public import Idealize.ShloMosaic.Lib.Pointwise

@[expose] public section

noncomputable section

open Idealize.ShloMosaic

namespace Cert.Layer

/-- The projection convolved along the tokens: two rows before, one before, the row, one after; a missing one counts as zero. -/
def convB (has2 has1 hasR : Bool) (x2 x1 xs xn g sc sh : Fin 1024 → EReal) (c0 c1 c2 c3 b : EReal) (w : Fin 1024 → EReal) : EReal :=
  c0 * (if has2 then upAt x2 g sc sh w else 0) + c1 * (if has1 then upAt x1 g sc sh w else 0) + c2 * upAt xs g sc sh w
    + c3 * (if hasR then upAt xn g sc sh w else 0) + b

/-- One element of the projection: a convolved and activated column, or a plain one. -/
def inB (act : EReal → EReal) (has2 has1 hasR : Bool) (x2 x1 xs xn g sc sh : Fin 1024 → EReal) (w : Fin 1024 → Fin 5632 → EReal)
    (c0 c1 c2 c3 b : Fin 3072 → EReal) (f : Fin 5120) : EReal :=
  if h : f.val < 3072 then
    act (convB has2 has1 hasR x2 x1 xs xn g sc sh (c0 ⟨f.val, h⟩) (c1 ⟨f.val, h⟩) (c2 ⟨f.val, h⟩) (c3 ⟨f.val, h⟩) (b ⟨f.val, h⟩)
      (fun k => w k ⟨f.val, by omega⟩))
  else upAt xs g sc sh (fun k => w k ⟨f.val, by omega⟩)

theorem inB_act (has2 has1 hasR : Bool) (x2 x1 xs xn g sc sh : Fin 1024 → EReal) (w : Fin 1024 → Fin 5632 → EReal)
    (c0 c1 c2 c3 b : Fin 3072 → EReal) (h2 : ∀ k, Fin' (x2 k)) (h1 : ∀ k, Fin' (x1 k)) (hs : ∀ k, Fin' (xs k)) (hn : ∀ k, Fin' (xn k))
    (hg : ∀ k, Fin' (g k)) (hc : ∀ k, Fin' (sc k)) (hh : ∀ k, Fin' (sh k)) (hw : ∀ k (f : Fin 5632), f.val < 3072 → Fin' (w k f))
    (k0 : ∀ f, Fin' (c0 f)) (k1 : ∀ f, Fin' (c1 f)) (k2 : ∀ f, Fin' (c2 f)) (k3 : ∀ f, Fin' (c3 f)) (hb : ∀ f, Fin' (b f)) (f : Fin 5120) :
    inB siluK has2 has1 hasR x2 x1 xs xn g sc sh w c0 c1 c2 c3 b f = inB siluR has2 has1 hasR x2 x1 xs xn g sc sh w c0 c1 c2 c3 b f := by
  unfold inB
  split
  · rename_i h
    rw [Fin'.silu]
    exact (((((k0 _).mul (Fin'.upAt h2 hg hc hh fun k => hw k _ h).ite).add ((k1 _).mul (Fin'.upAt h1 hg hc hh fun k => hw k _ h).ite)).add
      ((k2 _).mul (Fin'.upAt hs hg hc hh fun k => hw k _ h))).add ((k3 _).mul (Fin'.upAt hn hg hc hh fun k => hw k _ h).ite)).add (hb _)
  · rfl

/-- What stands beside a row matters only where there is a row beside it. -/
theorem inB_beside (act : EReal → EReal) (has2 has1 hasR : Bool) (x2 x2' x1 x1' xs xn xn' g sc sh : Fin 1024 → EReal) (w : Fin 1024 → Fin 5632 → EReal)
    (c0 c1 c2 c3 b : Fin 3072 → EReal) (f : Fin 5120) (h2 : has2 = true → x2 = x2') (h1 : has1 = true → x1 = x1') (hr : hasR = true → xn = xn') :
    inB act has2 has1 hasR x2 x1 xs xn g sc sh w c0 c1 c2 c3 b f = inB act has2 has1 hasR x2' x1' xs xn' g sc sh w c0 c1 c2 c3 b f := by
  have e : ∀ a0 a1 a2 a3 a4 v, convB has2 has1 hasR x2 x1 xs xn g sc sh a0 a1 a2 a3 a4 v = convB has2 has1 hasR x2' x1' xs xn' g sc sh a0 a1 a2 a3 a4 v := by
    intro a0 a1 a2 a3 a4 v
    unfold convB
    cases has2 <;> cases has1 <;> cases hasR <;> simp_all
  unfold inB
  simp only [e]

/-- The weights' columns in the call's order: the convolved ones, the gates', and for each group of heads a row of 128 numbers, the
    first direction's eight, the second's, and zeros. -/
def wB (w : Shape.Idx ⟨2, ![1024, 10304]⟩ → EReal) (k : Fin 1024) (f : Fin 5632) : EReal :=
  if h : f.val < 3072 then w (ix2 k ⟨5120 + f.val, by omega⟩)
  else if h : f.val < 5120 then w (ix2 k ⟨5184 + f.val, by omega⟩)
  else if (f.val - 5120) % 128 < 8 then w (ix2 k ⟨8192 + (f.val - 5120) / 128 * 8 + (f.val - 5120) % 128, by omega⟩)
  else if (f.val - 5120) % 128 < 16 then w (ix2 k ⟨8224 + (f.val - 5120) / 128 * 8 + ((f.val - 5120) % 128 - 8), by omega⟩)
  else 0

section
variable (x : Shape.Idx ⟨3, ![8, 2048, 1024]⟩ → EReal) (m : Shape.Idx ⟨3, ![8, 1, 6144]⟩ → EReal) (g : Shape.Idx ⟨1, ![1024]⟩ → EReal)
    (w : Shape.Idx ⟨2, ![1024, 10304]⟩ → EReal) (cw : Shape.Idx ⟨2, ![4, 3072]⟩ → EReal) (cb : Shape.Idx ⟨1, ![3072]⟩ → EReal)
/-- Token `n`'s row of the second projection, with the activation `act`. -/
def inBLat (act : EReal → EReal) (n : Fin 16384) (f : Fin 5120) : EReal :=
  inB act (decide (2 ≤ n.val % 2048)) (decide (n.val % 2048 ≠ 0)) (decide (n.val % 2048 ≠ 2047))
    (fun k => x (ix3 ⟨n.val / 2048, by omega⟩ ⟨n.val % 2048 - 2, by omega⟩ k))
    (fun k => x (ix3 ⟨n.val / 2048, by omega⟩ ⟨n.val % 2048 - 1, by omega⟩ k))
    (fun k => x (ix3 ⟨n.val / 2048, by omega⟩ ⟨n.val % 2048, by omega⟩ k))
    (fun k => x (ix3 ⟨n.val / 2048, by omega⟩ ⟨(n.val % 2048 + 1) % 2048, by omega⟩ k))
    (fun k => g (ix1 k)) (fun k => m (ix3 ⟨n.val / 2048, by omega⟩ 0 ⟨1024 + k.val, by omega⟩))
    (fun k => m (ix3 ⟨n.val / 2048, by omega⟩ 0 ⟨0 + k.val, by omega⟩))
    (wB w) (fun f => cw (ix2 0 f)) (fun f => cw (ix2 1 f)) (fun f => cw (ix2 2 f)) (fun f => cw (ix2 3 f)) (fun f => cb (ix1 f)) f
/-- Token `n`'s step sizes. -/
def stepLat (n : Fin 16384) (f : Fin 512) : EReal :=
  upAt (fun k => x (ix3 ⟨n.val / 2048, by omega⟩ ⟨n.val % 2048, by omega⟩ k)) (fun k => g (ix1 k))
    (fun k => m (ix3 ⟨n.val / 2048, by omega⟩ 0 ⟨1024 + k.val, by omega⟩)) (fun k => m (ix3 ⟨n.val / 2048, by omega⟩ 0 ⟨0 + k.val, by omega⟩))
    (fun k => wB w k ⟨5120 + f.val, by omega⟩)
end

end Cert.Layer
-- ==== Proof.Layer.InBLat.Out.lean ====
/-
  What one point of the second input projection stores, at every element: ten blocks of 512 columns, the first six convolved along
  the tokens and activated, and the step sizes' columns.
-/
module

public import proofs.«01_k».proof.Proof.Gen.InBLatIdeal.Value
public import proofs.«01_k».proof.Proof.Layer.InB
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.InBLatIdeal.Gen
open Cert.Layer

variable (m : (l : Loc nD τ sig) → Buf (Elt Ideal) l)

/-- The convolved projection of row `r` of a point, from the projections `u` of its rows: 512 of its own, then the eight
    before and the eight after. -/
def convRow (kb ka : BitVec 1) (u : Fin 528 → EReal) (c0 c1 c2 c3 b : EReal) (r : Fin 512) : EReal :=
  c0 * (if h : r.val < 2 then Scalar.select kb (u ⟨518 + r.val, by omega⟩) 0 else u ⟨r.val - 2, by omega⟩)
    + c1 * (if h : r.val = 0 then Scalar.select kb (u 519) 0 else u ⟨r.val - 1, by omega⟩) + c2 * u ⟨r.val, by omega⟩
    + c3 * (if h : r.val = 511 then Scalar.select ka (u 520) 0 else u ⟨r.val + 1, by omega⟩) + b

/-- The projected rows, convolved. -/
def convs (kb ka : BitVec 1) (H : S528x1024.Idx → EReal) (W : S1024x512.Idx → EReal) (cw : S4x512.Idx → EReal) (cb : S1x512.Idx → EReal) (r x : Fin 512) : EReal :=
  convRow kb ka (fun row => ∑ k : Fin 1024, H (ix2 row k) * W (ix2 k x)) (cw (ix2 0 x)) (cw (ix2 1 x)) (cw (ix2 2 x)) (cw (ix2 3 x)) (cb (ix2 0 x)) r

theorem act_at (kb ka : BitVec 1) (H : S528x1024.Idx → EReal) (W : S1024x512.Idx → EReal) (cw : S4x512.Idx → EReal) (cb : S1x512.Idx → EReal) (r x : Fin 512) :
    k0_pay26 (F := Ideal) kb ka H W cw cb (ix2 r x) = siluK (convs kb ka H W cw cb r x) := by
  pointwise [k0_pay26]
  simp only [half_word]
  generalize hE : (_ : EReal) + cb (ix2 0 x) = E
  have e : E = convs kb ka H W cw cb r x := by
    rw [← hE]
    unfold convs convRow
    have hr := r.isLt
    clear hE
    refine congr (congrArg HAdd.hAdd (congr (congrArg HAdd.hAdd (congr (congrArg HAdd.hAdd (congr (congrArg HAdd.hAdd (congrArg _ ?_)) (congrArg _ ?_))) rfl)) (congrArg _ ?_))) rfl
    · by_cases h0 : r.val < 2
      on_goal 1 => rw [dif_pos h0]
      on_goal 2 => rw [dif_neg h0]
      all_goals split_ifs
      all_goals first
        | omega
        | exact congrArg (fun z => Scalar.select kb z 0) (congrArg (fun z : Fin 528 => ∑ k : Fin 1024, H (ix2 z k) * W (ix2 k x)) (Fin.ext (by first | omega | (simp; done) | (simp; omega) | (show _ = (_ : Nat); change _ = 519; omega) | (change _ = 520; omega))))
        | exact congrArg (fun z : Fin 528 => ∑ k : Fin 1024, H (ix2 z k) * W (ix2 k x)) (Fin.ext (by first | omega | (simp; done) | (simp; omega) | (show _ = (_ : Nat); change _ = 519; omega) | (change _ = 520; omega)))
    · by_cases h0 : r.val = 0
      on_goal 1 => rw [dif_pos h0]
      on_goal 2 => rw [dif_neg h0]
      all_goals split_ifs
      all_goals first
        | omega
        | exact congrArg (fun z => Scalar.select kb z 0) (congrArg (fun z : Fin 528 => ∑ k : Fin 1024, H (ix2 z k) * W (ix2 k x)) (Fin.ext (by first | omega | (simp; done) | (simp; omega) | (show _ = (_ : Nat); change _ = 519; omega) | (change _ = 520; omega))))
        | exact congrArg (fun z : Fin 528 => ∑ k : Fin 1024, H (ix2 z k) * W (ix2 k x)) (Fin.ext (by first | omega | (simp; done) | (simp; omega) | (show _ = (_ : Nat); change _ = 519; omega) | (change _ = 520; omega)))
    · by_cases h0 : r.val = 511
      on_goal 1 => rw [dif_pos h0]
      on_goal 2 => rw [dif_neg h0]
      all_goals split_ifs
      all_goals first
        | omega
        | exact congrArg (fun z => Scalar.select ka z 0) (congrArg (fun z : Fin 528 => ∑ k : Fin 1024, H (ix2 z k) * W (ix2 k x)) (Fin.ext (by first | omega | (simp; done) | (simp; omega) | (show _ = (_ : Nat); change _ = 519; omega) | (change _ = 520; omega))))
        | exact congrArg (fun z : Fin 528 => ∑ k : Fin 1024, H (ix2 z k) * W (ix2 k x)) (Fin.ext (by first | omega | (simp; done) | (simp; omega) | (show _ = (_ : Nat); change _ = 519; omega) | (change _ = 520; omega)))
  rw [e]
  rfl

theorem plain_at (H : S512x1024.Idx → EReal) (W : S1024x512.Idx → EReal) (r x : Fin 512) :
    k0_pay27 (F := Ideal) H W (ix2 r x) = ∑ k : Fin 1024, H (ix2 r k) * W (ix2 k x) := by
  pointwise [k0_pay27]

section
variable (kb ka : BitVec 1) (H : S528x1024.Idx → EReal) (W : S1024x512.Idx → EReal) (cw : S4x512.Idx → EReal) (cb : S1x512.Idx → EReal)
theorem tile_0 (a0 : BitVec 32) (hb : Scalar.cmpi CmpIPredicate.ne (Scalar.andi (Scalar.muli a0 512#32) 2047#32) 0#32 = kb)
    (ha : Scalar.cmpi CmpIPredicate.ne (Scalar.andi (Scalar.addi (Scalar.muli a0 512#32) 512#32) 2047#32) 0#32 = ka) :
    k0_pay12 (F := Ideal) (k0_pay9 (F := Ideal) H W) (k0_pay10 (F := Ideal) a0 H W) (k0_pay11 (F := Ideal) a0 H W) cw cb = k0_pay26 (F := Ideal) kb ka H W cw cb := by
  subst hb ha
  rfl
theorem tile_1 : k0_pay17 (F := Ideal) (k0_pay13 (F := Ideal) H W) (k0_pay14 (F := Ideal) kb H W) (k0_pay15 (F := Ideal) ka H W) (k0_pay16 (F := Ideal) H W) cw cb = k0_pay26 (F := Ideal) kb ka H W cw cb := rfl
theorem tile_2 : k0_pay21 (F := Ideal) ka (k0_pay18 (F := Ideal) H W) (k0_pay19 (F := Ideal) kb H W) (k0_pay20 (F := Ideal) H W) cw cb = k0_pay26 (F := Ideal) kb ka H W cw cb := rfl
theorem tile_3 : k0_pay24 (F := Ideal) kb ka (k0_pay22 (F := Ideal) H W) (k0_pay23 (F := Ideal) H W) cw cb = k0_pay26 (F := Ideal) kb ka H W cw cb := rfl
theorem tile_4 : k0_pay25 (F := Ideal) kb ka H W cw cb = k0_pay26 (F := Ideal) kb ka H W cw cb := rfl
end
section
variable (H : S512x1024.Idx → EReal) (W : S1024x512.Idx → EReal)
theorem tile_7 : k0_pay28 (F := Ideal) H W = k0_pay27 (F := Ideal) H W := rfl
theorem tile_8 : k0_pay29 (F := Ideal) H W = k0_pay27 (F := Ideal) H W := rfl
theorem tile_9 : k0_pay30 (F := Ideal) H W = k0_pay27 (F := Ideal) H W := rfl
theorem tile_10 : k0_pay1 (F := Ideal) H W = k0_pay27 (F := Ideal) H W := rfl
end

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

theorem pass (P : S512x512.Idx → EReal) (L : List (View.Piece (Elt Ideal) S512x5120 .bf16)) (o : Nat) (i) (r : Fin 512) (x : Fin 5120) (h : x.val < o ∨ o + 512 ≤ x.val) :
    View.canon (⟨Rect.unit (s := S512x5120) ![0, o] ![512, 512] i, P⟩ :: L) (ix2 r x) = View.canon L (ix2 r x) := by
  refine View.canon_cons_of_not_mem _ _ fun hm => ?_
  obtain ⟨j, hj, e⟩ := (LoadRect.mem_set _).mp hm (1 : Fin 2)
  have e1 : x.val = o + 1 * j := e
  have e2 : j < 512 := hj
  omega

theorem here (P : S512x512.Idx → EReal) (L : List (View.Piece (Elt Ideal) S512x5120 .bf16)) (o : Nat) (i) (r x : Fin 512) (y : Fin 5120) (h : y.val = o + x.val) :
    View.canon (⟨Rect.unit (s := S512x5120) ![0, o] ![512, 512] i, P⟩ :: L) (ix2 r y) = P (ix2 r x) := by
  have e : (ix2 r y : S512x5120.Idx) = (Rect.unit (s := S512x5120) ![0, o] ![512, 512] i).emb (ix2 r x) := by
    funext a
    match a with
    | ⟨0, _⟩ => exact Fin.ext (show r.val = 0 + 1 * r.val by omega)
    | ⟨1, _⟩ => exact Fin.ext (show y.val = o + 1 * x.val by omega)
  rw [e]
  exact View.canon_cons_emb (Val := Elt Ideal) (e := .bf16) _ _ _ _

section
variable (P8 : S16x1024.Idx → EReal) (P5 : S512x1024.Idx → EReal)
/-- The normed rows as the first scratch holds them: the neighbours', written last, and the point's own. -/
abbrev rows : S528x1024.Idx → EReal :=
  View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![528, 1024] inb_S528x1024_S528x1024_0_0).toLoadRect
theorem below (P : S16x1024.Idx → EReal) (L : List (View.Piece (Elt Ideal) S528x1024 .bf16)) (o o' : Nat) (i i') (h : o + 512 ≤ o') :
    (View.whole cc0_scratch0).readCov (⟨Rect.unit ![o', 0] ![16, 1024] i', P⟩ :: L) (Rect.unit (s := S528x1024) ![o, 0] ![512, 1024] i).toLoadRect
      = (View.whole cc0_scratch0).readCov L (Rect.unit (s := S528x1024) ![o, 0] ![512, 1024] i).toLoadRect :=
  View.readCov_cons_of_disjoint _ _ _ _ (Rect.unit_disjoint (inb := i') (inb' := i) (0 : Fin 2) (Or.inr h))
/-- The point's own rows, read back alone. -/
theorem rows_own : View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![512, 1024] inb_S528x1024_S512x1024_0_0).toLoadRect = P5 :=
  (below P8 _ 0 512 _ _ (by decide)).trans (View.readCov_cons_toLoadRect _ _ _ _)
theorem rows_main (r : Fin 512) (k : Fin 1024) : rows P8 P5 (ix2 ⟨r.val, by omega⟩ k) = P5 (ix2 r k) := by
  have e : (Rect.unit (s := S528x1024) ![0, 0] ![528, 1024] inb_S528x1024_S528x1024_0_0).toLoadRect.idx (ix2 ⟨r.val, by omega⟩ k)
      = (Rect.unit (s := S528x1024) ![0, 0] ![512, 1024] inb_S528x1024_S512x1024_0_0).emb (ix2 r k) := by
    funext a
    match a with
    | ⟨0, _⟩ => exact Fin.ext rfl
    | ⟨1, _⟩ => exact Fin.ext rfl
  unfold rows
  rw [View.readCov_eq_canon']
  show View.canon _ (LoadRect.idx _ _) = _
  rw [e, View.canon_cons_of_not_mem]
  · exact View.canon_cons_emb (Val := Elt Ideal) (e := .bf16) _ _ _ _
  · intro hm
    obtain ⟨j, _, hj⟩ := (LoadRect.mem_set _).mp hm (0 : Fin 2)
    have h1 : 0 + 1 * r.val = 512 + 1 * j := hj
    omega
theorem rows_side (r : Fin 16) (k : Fin 1024) : rows P8 P5 (ix2 ⟨512 + r.val, by omega⟩ k) = P8 (ix2 r k) := by
  have e : (Rect.unit (s := S528x1024) ![0, 0] ![528, 1024] inb_S528x1024_S528x1024_0_0).toLoadRect.idx (ix2 ⟨512 + r.val, by omega⟩ k)
      = (Rect.unit (s := S528x1024) ![512, 0] ![16, 1024] inb_S528x1024_S16x1024_512_0).emb (ix2 r k) := by
    funext a
    match a with
    | ⟨0, _⟩ => exact Fin.ext (show 0 + 1 * (512 + r.val) = 512 + 1 * r.val by omega)
    | ⟨1, _⟩ => exact Fin.ext rfl
  unfold rows
  rw [View.readCov_eq_canon']
  show View.canon _ (LoadRect.idx _ _) = _
  rw [e]
  exact View.canon_cons_emb (Val := Elt Ideal) (e := .bf16) _ _ _ _
end

theorem main_at (g : S1x1024.Idx → EReal) (sh sc : S1x1x1024.Idx → EReal) (x : S512x1024.Idx → EReal) (r : Fin 512) (k : Fin 1024) :
    k0_pay5 (F := Ideal) g sh sc x (ix2 r k)
      = normMod modW epsW (fun k => x (ix2 r k)) (fun k => g (ix2 0 k)) (fun k => sc (ix3 0 0 k)) (fun k => sh (ix3 0 0 k)) k := by
  pointwise [k0_pay5, k0_pay2, k0_pay3, k0_pay4]
  rfl

theorem side_at (g : S1x1024.Idx → EReal) (sh sc : S1x1x1024.Idx → EReal) (xp xn : S8x1024.Idx → EReal) (r : Fin 16) (k : Fin 1024) :
    k0_pay8 (F := Ideal) (k0_pay2 g) (k0_pay3 sh) (k0_pay4 sc) (k0_pay6 xp xn) (k0_pay7 xp xn) (ix2 r k)
      = normMod modW epsW (fun k => if h : r.val < 8 then xp (ix2 ⟨r.val, h⟩ k) else xn (ix2 ⟨r.val - 8, by omega⟩ k)) (fun k => g (ix2 0 k))
          (fun k => sc (ix3 0 0 k)) (fun k => sh (ix3 0 0 k)) k := by
  pointwise [k0_pay8, k0_pay2, k0_pay3, k0_pay4, k0_pay6, k0_pay7]
  rfl

end Cert.InBLatIdeal.Gen
-- ==== Proof.Layer.InBLat.Point.lean ====
/-
  One point of the second input projection, as the layer's own expression over the rows and weights its blocks hold.
-/
module

public import proofs.«01_k».proof.Proof.Layer.InBLat.Out

@[expose] public section

set_option maxRecDepth 16384

noncomputable section

open Idealize.ShloMosaic Idealize.ShloMosaic.TcCoe Idealize.SL.Sem Idealize.ShloMosaic.Pipeline

namespace Cert.InBLatIdeal.Gen
open Cert.Layer

variable (m : (l : Loc nD τ sig) → Buf (Elt Ideal) l)

/-- A point's first row has a row before it, unless the point begins a sequence. -/
def lft (kb : BitVec 1) (r : Fin 512) : Bool := decide (r.val = 0 → kb = 1#1)
/-- A point's first two rows have a row two before them, unless the point begins a sequence. -/
def lft2 (kb : BitVec 1) (r : Fin 512) : Bool := decide (r.val < 2 → kb = 1#1)
/-- A point's last row has a row after it, unless the point ends a sequence. -/
def rgt (ka : BitVec 1) (r : Fin 512) : Bool := decide (r.val = 511 → ka = 1#1)

/-- The row two before row `r`. -/
def rowLL (x : S512x1024.Idx → EReal) (xp : S8x1024.Idx → EReal) (r : Fin 512) (k : Fin 1024) : EReal :=
  if h : r.val < 2 then xp (ix2 ⟨6 + r.val, by omega⟩ k) else x (ix2 ⟨r.val - 2, by omega⟩ k)
/-- The row before row `r`. -/
def rowL (x : S512x1024.Idx → EReal) (xp : S8x1024.Idx → EReal) (r : Fin 512) (k : Fin 1024) : EReal :=
  if h : r.val = 0 then xp (ix2 7 k) else x (ix2 ⟨r.val - 1, by omega⟩ k)
/-- The row after row `r`. -/
def rowR (x : S512x1024.Idx → EReal) (xn : S8x1024.Idx → EReal) (r : Fin 512) (k : Fin 1024) : EReal :=
  if h : r.val = 511 then xn (ix2 0 k) else x (ix2 ⟨r.val + 1, by omega⟩ k)

section
variable (g : S1x1024.Idx → EReal) (sh sc : S1x1x1024.Idx → EReal) (x : S512x1024.Idx → EReal) (xp xn : S8x1024.Idx → EReal)

/-- The first scratch's rows, from the blocks. -/
abbrev hrows : S528x1024.Idx → EReal :=
  rows (k0_pay8 (F := Ideal) (k0_pay2 g) (k0_pay3 sh) (k0_pay4 sc) (k0_pay6 xp xn) (k0_pay7 xp xn)) (k0_pay5 (F := Ideal) g sh sc x)

theorem hrows_main (w : Fin 1024 → EReal) (z : Fin 528) (r : Fin 512) (hz : z.val = r.val) :
    ∑ k : Fin 1024, hrows g sh sc x xp xn (ix2 z k) * w k
      = upAt (fun k => x (ix2 r k)) (fun k => g (ix2 0 k)) (fun k => sc (ix3 0 0 k)) (fun k => sh (ix3 0 0 k)) w := by
  rw [show z = ⟨r.val, by omega⟩ from Fin.ext hz]
  exact Finset.sum_congr rfl fun k _ => congrArg (fun z : EReal => z * w k) ((rows_main _ _ r k).trans (main_at g sh sc x r k))

theorem hrows_side (w : Fin 1024 → EReal) (z : Fin 528) (r : Fin 16) (hz : z.val = 512 + r.val) :
    ∑ k : Fin 1024, hrows g sh sc x xp xn (ix2 z k) * w k
      = upAt (fun k => if h : r.val < 8 then xp (ix2 ⟨r.val, h⟩ k) else xn (ix2 ⟨r.val - 8, by omega⟩ k)) (fun k => g (ix2 0 k))
          (fun k => sc (ix3 0 0 k)) (fun k => sh (ix3 0 0 k)) w := by
  obtain ⟨z, hz'⟩ := z
  have e : z = 512 + r.val := hz
  subst e
  exact Finset.sum_congr rfl fun k _ => congrArg (fun z : EReal => z * w k) ((rows_side _ _ r k).trans (side_at g sh sc xp xn r k))

theorem act_conv (kb ka : BitVec 1) (W : S1024x512.Idx → EReal) (cw : S4x512.Idx → EReal) (cb : S1x512.Idx → EReal) (r f : Fin 512) :
    convs kb ka (hrows g sh sc x xp xn) W cw cb r f
      = convB (lft2 kb r) (lft kb r) (rgt ka r) (rowLL x xp r) (rowL x xp r) (fun k => x (ix2 r k)) (rowR x xn r) (fun k => g (ix2 0 k)) (fun k => sc (ix3 0 0 k))
          (fun k => sh (ix3 0 0 k)) (cw (ix2 0 f)) (cw (ix2 1 f)) (cw (ix2 2 f)) (cw (ix2 3 f)) (cb (ix2 0 f)) (fun k => W (ix2 k f)) := by
  unfold convs convRow convB
  have hr := r.isLt
  refine congr (congrArg HAdd.hAdd (congr (congrArg HAdd.hAdd (congr (congrArg HAdd.hAdd (congr (congrArg HAdd.hAdd (congrArg _ ?_)) (congrArg _ ?_))) (congrArg _ ?_))) (congrArg _ ?_))) rfl
  · by_cases h0 : r.val < 2
    · rw [dif_pos h0]
      have e : rowLL x xp r = fun k => xp (ix2 ⟨6 + r.val, by omega⟩ k) := funext fun k => dif_pos h0
      rw [e]
      by_cases hk : kb = 1#1
      · rw [if_pos (show lft2 kb r = true from decide_eq_true fun _ => hk)]
        refine (if_pos hk).trans ((hrows_side g sh sc x xp xn (fun k => W (ix2 k f)) ⟨518 + r.val, by omega⟩ ⟨6 + r.val, by omega⟩ (show 518 + r.val = 512 + (6 + r.val) by omega)).trans ?_)
        refine congrArg (fun z => upAt z (fun k => g (ix2 0 k)) (fun k => sc (ix3 0 0 k)) (fun k => sh (ix3 0 0 k)) (fun k => W (ix2 k f))) (funext fun k => ?_)
        exact dif_pos (show 6 + r.val < 8 by omega)
      · rw [if_neg (show ¬ lft2 kb r = true from fun h => hk (of_decide_eq_true h h0))]
        exact if_neg hk
    · rw [dif_neg h0]
      have e : rowLL x xp r = fun k => x (ix2 ⟨r.val - 2, by omega⟩ k) := funext fun k => dif_neg h0
      rw [e, if_pos (show lft2 kb r = true from decide_eq_true fun h => absurd h h0)]
      exact hrows_main g sh sc x xp xn (fun k => W (ix2 k f)) _ ⟨r.val - 2, by omega⟩ rfl
  · by_cases h0 : r.val = 0
    · rw [dif_pos h0]
      have e : rowL x xp r = fun k => xp (ix2 7 k) := funext fun k => dif_pos h0
      rw [e]
      by_cases hk : kb = 1#1
      · rw [if_pos (show lft kb r = true from decide_eq_true fun _ => hk)]
        exact (if_pos hk).trans (hrows_side g sh sc x xp xn (fun k => W (ix2 k f)) 519 7 rfl)
      · rw [if_neg (show ¬ lft kb r = true from fun h => hk (of_decide_eq_true h h0))]
        exact if_neg hk
    · rw [dif_neg h0]
      have e : rowL x xp r = fun k => x (ix2 ⟨r.val - 1, by omega⟩ k) := funext fun k => dif_neg h0
      rw [e, if_pos (show lft kb r = true from decide_eq_true fun h => absurd h h0)]
      exact hrows_main g sh sc x xp xn (fun k => W (ix2 k f)) _ ⟨r.val - 1, by omega⟩ rfl
  · exact hrows_main g sh sc x xp xn (fun k => W (ix2 k f)) _ r rfl
  · by_cases h0 : r.val = 511
    · rw [dif_pos h0]
      have e : rowR x xn r = fun k => xn (ix2 0 k) := funext fun k => dif_pos h0
      rw [e]
      by_cases hk : ka = 1#1
      · rw [if_pos (show rgt ka r = true from decide_eq_true fun _ => hk)]
        exact (if_pos hk).trans (hrows_side g sh sc x xp xn (fun k => W (ix2 k f)) 520 8 rfl)
      · rw [if_neg (show ¬ rgt ka r = true from fun h => hk (of_decide_eq_true h h0))]
        exact if_neg hk
    · rw [dif_neg h0]
      have e : rowR x xn r = fun k => x (ix2 ⟨r.val + 1, by omega⟩ k) := funext fun k => dif_neg h0
      rw [e, if_pos (show rgt ka r = true from decide_eq_true fun h => absurd h h0)]
      exact hrows_main g sh sc x xp xn (fun k => W (ix2 k f)) _ ⟨r.val + 1, by omega⟩ rfl
end

/-- What the call stores at a point, from the point's blocks. -/
def inBPoint (kb ka : BitVec 1) (x : S512x1024.Idx → EReal) (xp xn : S8x1024.Idx → EReal) (mo : S1x1x6144.Idx → EReal) (g : S1x1024.Idx → EReal)
    (w : S1024x5632.Idx → EReal) (cw : S4x3072.Idx → EReal) (cb : S1x3072.Idx → EReal) (r : Fin 512) (f : Fin 5120) : EReal :=
  inB siluK (lft2 kb r) (lft kb r) (rgt ka r) (rowLL x xp r) (rowL x xp r) (fun k => x (ix2 r k)) (rowR x xn r)
    (fun k => g (ix2 0 k)) (fun k => mo (ix3 0 0 ⟨1024 + k.val, by omega⟩)) (fun k => mo (ix3 0 0 ⟨0 + k.val, by omega⟩))
    (fun k f => w (ix2 k f)) (fun f => cw (ix2 0 f)) (fun f => cw (ix2 1 f)) (fun f => cw (ix2 2 f)) (fun f => cw (ix2 3 f)) (fun f => cb (ix2 0 f)) f

section
variable (kb ka : BitVec 1) (x : S512x1024.Idx → EReal) (xp xn : S8x1024.Idx → EReal) (mo : S1x1x6144.Idx → EReal) (g : S1x1024.Idx → EReal)
    (w : S1024x5632.Idx → EReal) (cw : S4x3072.Idx → EReal) (cb : S1x3072.Idx → EReal)
/-- The shift and the scale, as the point reads them. -/
abbrev shOf : S1x1x1024.Idx → EReal := View.ld (Val := Elt Ideal) (e' := .f32) (S := S1x1x6144) mo (Rect.unit ![0, 0, 0] ![1, 1, 1024] inb_S1x1x6144_S1x1x1024_0_0_0)
abbrev scOf : S1x1x1024.Idx → EReal := View.ld (Val := Elt Ideal) (e' := .f32) (S := S1x1x6144) mo (Rect.unit ![0, 0, 1024] ![1, 1, 1024] inb_S1x1x6144_S1x1x1024_0_0_1024)

theorem up_at (o : Nat) (i2) (r x' : Fin 512) (y : Fin 5632) (h : y.val = o + x'.val) :
    k0_pay27 (F := Ideal) (k0_pay5 (F := Ideal) g (shOf mo) (scOf mo) x) (View.ld (Val := Elt Ideal) (e' := .bf16) (S := S1024x5632) w (Rect.unit ![0, o] ![1024, 512] i2)) (ix2 r x')
      = upAt (fun k => x (ix2 r k)) (fun k => g (ix2 0 k)) (fun k => mo (ix3 0 0 ⟨1024 + k.val, by omega⟩)) (fun k => mo (ix3 0 0 ⟨0 + k.val, by omega⟩)) (fun k => w (ix2 k y)) := by
  obtain ⟨y, hy⟩ := y
  have e : y = o + x'.val := h
  subst e
  rw [plain_at]
  refine Finset.sum_congr rfl fun k _ => congr (congrArg HMul.hMul ((main_at g (shOf mo) (scOf mo) x r k).trans ?_)) (ld_w (e := .bf16) w o 512 i2 k x' hy)
  refine congr (congr (congrArg (normMod modW epsW _ _) ?_) ?_) rfl
  · funext k; exact ld_m mo 1024 _ k _
  · funext k; exact ld_m mo 0 _ k _

theorem plain_of (o : Nat) (ho : 3072 ≤ o) (i2) (r x' : Fin 512) (y : Fin 5120) (h : y.val = o + x'.val) :
    k0_pay27 (F := Ideal) (k0_pay5 (F := Ideal) g (shOf mo) (scOf mo) x) (View.ld (Val := Elt Ideal) (e' := .bf16) (S := S1024x5632) w (Rect.unit ![0, o] ![1024, 512] i2)) (ix2 r x')
      = inBPoint kb ka x xp xn mo g w cw cb r y := by
  unfold inBPoint inB
  rw [dif_neg (by omega)]
  exact up_at x mo g w o i2 r x' ⟨y.val, by omega⟩ h

theorem conv_of (o : Nat) (ho : o + 512 ≤ 3072) (i2 i3 i4) (r x' : Fin 512) (y : Fin 5120) (h : y.val = o + x'.val) :
    k0_pay26 (F := Ideal) kb ka (hrows g (shOf mo) (scOf mo) x xp xn) (View.ld (Val := Elt Ideal) (e' := .bf16) (S := S1024x5632) w (Rect.unit ![0, o] ![1024, 512] i2))
      (View.ld (Val := Elt Ideal) (e' := .f32) (S := S4x3072) cw (Rect.unit ![0, o] ![4, 512] i3))
      (View.ld (Val := Elt Ideal) (e' := .f32) (S := S1x3072) cb (Rect.unit ![0, o] ![1, 512] i4)) (ix2 r x')
      = inBPoint kb ka x xp xn mo g w cw cb r y := by
  obtain ⟨y, hy⟩ := y
  have e : y = o + x'.val := h
  subst e
  unfold inBPoint inB
  have hx := x'.isLt
  have hf : o + x'.val < 3072 := by omega
  rw [dif_pos (show o + x'.val < 3072 from hf), act_at, act_conv]
  refine congrArg siluK ?_
  unfold convB
  have hs : (fun k => shOf mo (ix3 0 0 k)) = fun k : Fin 1024 => mo (ix3 0 0 ⟨0 + k.val, by omega⟩) := funext fun k => ld_m mo 0 _ k _
  have hc : (fun k => scOf mo (ix3 0 0 k)) = fun k : Fin 1024 => mo (ix3 0 0 ⟨1024 + k.val, by omega⟩) := funext fun k => ld_m mo 1024 _ k _
  have hw : (fun k => View.ld (Val := Elt Ideal) (e' := .bf16) (S := S1024x5632) w (Rect.unit ![0, o] ![1024, 512] i2) (ix2 k x'))
    = fun k : Fin 1024 => w (ix2 k ⟨o + x'.val, by omega⟩) := funext fun k => ld_w (e := .bf16) w o 512 i2 k x' _
  rw [hs, hc, hw]
  have hcw : ∀ j : Fin 4, View.ld (Val := Elt Ideal) (e' := .f32) (S := S4x3072) cw (Rect.unit ![0, o] ![4, 512] i3) (ix2 j x') = cw (ix2 j ⟨o + x'.val, hf⟩) :=
    fun j => ld_w (e := .f32) cw o 512 i3 j x' _
  have hcb : View.ld (Val := Elt Ideal) (e' := .f32) (S := S1x3072) cb (Rect.unit ![0, o] ![1, 512] i4) (ix2 0 x') = cb (ix2 0 ⟨o + x'.val, hf⟩) :=
    ld_w (e := .f32) cb o 512 i4 0 x' _
  rw [hcw, hcw, hcw, hcw, hcb]
end

/-- The two edge words of a point. -/
def kbOf (t : Fin cfg0.N) : BitVec 1 :=
  Scalar.cmpi CmpIPredicate.ne (Scalar.andi (Scalar.muli (BitVec.ofNat 32 ↑(grid0.coords t 0)) 512#32) 2047#32) 0#32
def kaOf (t : Fin cfg0.N) : BitVec 1 :=
  Scalar.cmpi CmpIPredicate.ne (Scalar.andi (Scalar.addi (Scalar.muli (BitVec.ofNat 32 ↑(grid0.coords t 0)) 512#32) 512#32) 2047#32) 0#32

theorem out_at (c : Dev nD) (t : Fin cfg0.N) (r : Fin 512) (f : Fin 5120) :
    (outsAt0 m c t).1 (ix2 r f) = inBPoint (kbOf t) (kaOf t) (iblk m c 0 t) (iblk m c 1 t) (iblk m c 2 t) (iblk m c 3 t) (iblk m c 4 t) (iblk m c 5 t) (iblk m c 6 t) (iblk m c 7 t) r f := by
  unfold outsAt0
  frame_out
  generalize iblk m c 0 t = x
  generalize iblk m c 1 t = xp
  generalize iblk m c 2 t = xn
  generalize iblk m c 3 t = mo
  generalize iblk m c 4 t = g
  generalize iblk m c 5 t = w
  generalize iblk m c 6 t = cw
  generalize iblk m c 7 t = cb
  generalize hkb : Scalar.cmpi CmpIPredicate.ne (Scalar.andi (Scalar.muli (BitVec.ofNat 32 ↑(grid0.coords t 0)) 512#32) 2047#32) 0#32 = kb
  generalize hka : Scalar.cmpi CmpIPredicate.ne (Scalar.andi (Scalar.addi (Scalar.muli (BitVec.ofNat 32 ↑(grid0.coords t 0)) 512#32) 512#32) 2047#32) 0#32 = ka
  rw [show kbOf t = kb from hkb, show kaOf t = ka from hka]
  have hf := f.isLt
  by_cases h9 : 4608 ≤ f.val
  · refine (here _ _ 4608 _ r ⟨f.val - 4608, by omega⟩ f (by show f.val = 4608 + (f.val - 4608); omega)).trans ?_
    rw [tile_9]
    rw [rows_own]
    exact plain_of kb ka x xp xn mo g w cw cb 4608 (by decide) _ r _ f (by show f.val = 4608 + (f.val - 4608); omega)
  refine (pass _ _ 4608 _ r f (by omega)).trans ?_
  by_cases h8 : 4096 ≤ f.val
  · refine (here _ _ 4096 _ r ⟨f.val - 4096, by omega⟩ f (by show f.val = 4096 + (f.val - 4096); omega)).trans ?_
    rw [tile_8]
    rw [rows_own]
    exact plain_of kb ka x xp xn mo g w cw cb 4096 (by decide) _ r _ f (by show f.val = 4096 + (f.val - 4096); omega)
  refine (pass _ _ 4096 _ r f (by omega)).trans ?_
  by_cases h7 : 3584 ≤ f.val
  · refine (here _ _ 3584 _ r ⟨f.val - 3584, by omega⟩ f (by show f.val = 3584 + (f.val - 3584); omega)).trans ?_
    rw [tile_7]
    rw [rows_own]
    exact plain_of kb ka x xp xn mo g w cw cb 3584 (by decide) _ r _ f (by show f.val = 3584 + (f.val - 3584); omega)
  refine (pass _ _ 3584 _ r f (by omega)).trans ?_
  by_cases h6 : 3072 ≤ f.val
  · refine (here _ _ 3072 _ r ⟨f.val - 3072, by omega⟩ f (by show f.val = 3072 + (f.val - 3072); omega)).trans ?_
    rw [rows_own]
    exact plain_of kb ka x xp xn mo g w cw cb 3072 (by decide) _ r _ f (by show f.val = 3072 + (f.val - 3072); omega)
  refine (pass _ _ 3072 _ r f (by omega)).trans ?_
  by_cases h5 : 2560 ≤ f.val
  · refine (here _ _ 2560 _ r ⟨f.val - 2560, by omega⟩ f (by show f.val = 2560 + (f.val - 2560); omega)).trans ?_
    exact conv_of kb ka x xp xn mo g w cw cb 2560 (by decide) _ _ _ r _ f (by show f.val = 2560 + (f.val - 2560); omega)
  refine (pass _ _ 2560 _ r f (by omega)).trans ?_
  by_cases h4 : 2048 ≤ f.val
  · refine (here _ _ 2048 _ r ⟨f.val - 2048, by omega⟩ f (by show f.val = 2048 + (f.val - 2048); omega)).trans ?_
    rw [tile_4]
    exact conv_of kb ka x xp xn mo g w cw cb 2048 (by decide) _ _ _ r _ f (by show f.val = 2048 + (f.val - 2048); omega)
  refine (pass _ _ 2048 _ r f (by omega)).trans ?_
  by_cases h3 : 1536 ≤ f.val
  · refine (here _ _ 1536 _ r ⟨f.val - 1536, by omega⟩ f (by show f.val = 1536 + (f.val - 1536); omega)).trans ?_
    rw [tile_3]
    exact conv_of kb ka x xp xn mo g w cw cb 1536 (by decide) _ _ _ r _ f (by show f.val = 1536 + (f.val - 1536); omega)
  refine (pass _ _ 1536 _ r f (by omega)).trans ?_
  by_cases h2 : 1024 ≤ f.val
  · refine (here _ _ 1024 _ r ⟨f.val - 1024, by omega⟩ f (by show f.val = 1024 + (f.val - 1024); omega)).trans ?_
    rw [tile_2]
    exact conv_of kb ka x xp xn mo g w cw cb 1024 (by decide) _ _ _ r _ f (by show f.val = 1024 + (f.val - 1024); omega)
  refine (pass _ _ 1024 _ r f (by omega)).trans ?_
  by_cases h1 : 512 ≤ f.val
  · refine (here _ _ 512 _ r ⟨f.val - 512, by omega⟩ f (by show f.val = 512 + (f.val - 512); omega)).trans ?_
    rw [tile_1]
    exact conv_of kb ka x xp xn mo g w cw cb 512 (by decide) _ _ _ r _ f (by show f.val = 512 + (f.val - 512); omega)
  refine (pass _ _ 512 _ r f (by omega)).trans ?_
  refine (here _ _ 0 _ r ⟨f.val, by omega⟩ f (Nat.zero_add _).symm).trans ?_
  rw [tile_0 (hb := hkb) (ha := hka)]
  exact conv_of kb ka x xp xn mo g w cw cb 0 (by decide) _ _ _ r _ f (Nat.zero_add _).symm

theorem step_at (c : Dev nD) (t : Fin cfg0.N) (r f : Fin 512) :
    (outsAt0 m c t).2 (ix2 r f) = upAt (fun k => iblk m c 0 t (ix2 r k)) (fun k => iblk m c 4 t (ix2 0 k)) (fun k => iblk m c 3 t (ix3 0 0 ⟨1024 + k.val, by omega⟩))
      (fun k => iblk m c 3 t (ix3 0 0 ⟨0 + k.val, by omega⟩)) (fun k => iblk m c 5 t (ix2 k ⟨5120 + f.val, by omega⟩)) := by
  unfold outsAt0
  frame_out
  generalize iblk m c 0 t = x
  generalize iblk m c 1 t = xp
  generalize iblk m c 2 t = xn
  generalize iblk m c 3 t = mo
  generalize iblk m c 4 t = g
  generalize iblk m c 5 t = w
  generalize iblk m c 6 t = cw
  generalize iblk m c 7 t = cb
  rw [tile_10, rows_own]
  exact up_at x mo g w 5120 _ r f _ rfl

end Cert.InBLatIdeal.Gen
-- ==== Proof.Layer.InBLat.Host.lean ====
/-
  The second input projection's weights as the host leaves them: the columns put together from fourteen pieces.
-/
module

public import proofs.«01_k».proof.Proof.Layer.InBLat.Point
public import proofs.«01_k».proof.Proof.Layer.InB
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.InBLatIdeal.Gen
open Cert.Layer

variable (m : (l : Loc nD τ sig) → Buf (Elt Ideal) l)

section
variable (A : S1024x3072.Idx → EReal) (B : S1024x2048.Idx → EReal) (d0 : S1024x8.Idx → EReal) (e0 : S1024x8.Idx → EReal) (z0 : S1024x112.Idx → EReal) (d1 : S1024x8.Idx → EReal) (e1 : S1024x8.Idx → EReal) (z1 : S1024x112.Idx → EReal) (d2 : S1024x8.Idx → EReal) (e2 : S1024x8.Idx → EReal) (z2 : S1024x112.Idx → EReal) (d3 : S1024x8.Idx → EReal) (e3 : S1024x8.Idx → EReal) (z3 : S1024x112.Idx → EReal)
/-- The call's weights, put together from fourteen pieces. -/
abbrev cat14 : S1024x5632.Idx → EReal :=
  concatenate S1024x5632 1 [⟨S1024x3072, A⟩, ⟨S1024x2048, B⟩, ⟨S1024x8, d0⟩, ⟨S1024x8, e0⟩, ⟨S1024x112, z0⟩, ⟨S1024x8, d1⟩, ⟨S1024x8, e1⟩, ⟨S1024x112, z1⟩, ⟨S1024x8, d2⟩, ⟨S1024x8, e2⟩, ⟨S1024x112, z2⟩, ⟨S1024x8, d3⟩, ⟨S1024x8, e3⟩, ⟨S1024x112, z3⟩]
    concatenates_S1024x3072_S1024x2048_S1024x8_S1024x8_S1024x112_S1024x8_S1024x8_S1024x112_S1024x8_S1024x8_S1024x112_S1024x8_S1024x8_S1024x112_S1024x5632_d1
theorem cat_A (j : Fin 1024) (k : Fin 5632) (x : Fin 3072) (h : 0 + x.val = k.val) : cat14 A B d0 e0 z0 d1 e1 z1 d2 e2 z2 d3 e3 z3 (ix2 j k) = A (ix2 j x) := by
  unfold cat14
  refine concatenate_apply_piece (t := S1024x5632) (1 : Fin 2) _ _ (ix2 j k) 0 ?_ S1024x3072 A ?_ rfl 0 ?_ (ix2 j x) ?_ ?_
  · exact (by decide : 0 < 14)
  · rfl
  · rfl
  · intro b hb
    match b with
    | ⟨0, _⟩ => rfl
    | ⟨1, _⟩ => exact absurd rfl hb
  · exact h
theorem cat_B (j : Fin 1024) (k : Fin 5632) (x : Fin 2048) (h : 3072 + x.val = k.val) : cat14 A B d0 e0 z0 d1 e1 z1 d2 e2 z2 d3 e3 z3 (ix2 j k) = B (ix2 j x) := by
  unfold cat14
  refine concatenate_apply_piece (t := S1024x5632) (1 : Fin 2) _ _ (ix2 j k) 1 ?_ S1024x2048 B ?_ rfl 3072 ?_ (ix2 j x) ?_ ?_
  · exact (by decide : 1 < 14)
  · rfl
  · rfl
  · intro b hb
    match b with
    | ⟨0, _⟩ => rfl
    | ⟨1, _⟩ => exact absurd rfl hb
  · exact h
theorem cat_d0 (j : Fin 1024) (k : Fin 5632) (x : Fin 8) (h : 5120 + x.val = k.val) : cat14 A B d0 e0 z0 d1 e1 z1 d2 e2 z2 d3 e3 z3 (ix2 j k) = d0 (ix2 j x) := by
  unfold cat14
  refine concatenate_apply_piece (t := S1024x5632) (1 : Fin 2) _ _ (ix2 j k) 2 ?_ S1024x8 d0 ?_ rfl 5120 ?_ (ix2 j x) ?_ ?_
  · exact (by decide : 2 < 14)
  · rfl
  · rfl
  · intro b hb
    match b with
    | ⟨0, _⟩ => rfl
    | ⟨1, _⟩ => exact absurd rfl hb
  · exact h
theorem cat_e0 (j : Fin 1024) (k : Fin 5632) (x : Fin 8) (h : 5128 + x.val = k.val) : cat14 A B d0 e0 z0 d1 e1 z1 d2 e2 z2 d3 e3 z3 (ix2 j k) = e0 (ix2 j x) := by
  unfold cat14
  refine concatenate_apply_piece (t := S1024x5632) (1 : Fin 2) _ _ (ix2 j k) 3 ?_ S1024x8 e0 ?_ rfl 5128 ?_ (ix2 j x) ?_ ?_
  · exact (by decide : 3 < 14)
  · rfl
  · rfl
  · intro b hb
    match b with
    | ⟨0, _⟩ => rfl
    | ⟨1, _⟩ => exact absurd rfl hb
  · exact h
theorem cat_z0 (j : Fin 1024) (k : Fin 5632) (x : Fin 112) (h : 5136 + x.val = k.val) : cat14 A B d0 e0 z0 d1 e1 z1 d2 e2 z2 d3 e3 z3 (ix2 j k) = z0 (ix2 j x) := by
  unfold cat14
  refine concatenate_apply_piece (t := S1024x5632) (1 : Fin 2) _ _ (ix2 j k) 4 ?_ S1024x112 z0 ?_ rfl 5136 ?_ (ix2 j x) ?_ ?_
  · exact (by decide : 4 < 14)
  · rfl
  · rfl
  · intro b hb
    match b with
    | ⟨0, _⟩ => rfl
    | ⟨1, _⟩ => exact absurd rfl hb
  · exact h
theorem cat_d1 (j : Fin 1024) (k : Fin 5632) (x : Fin 8) (h : 5248 + x.val = k.val) : cat14 A B d0 e0 z0 d1 e1 z1 d2 e2 z2 d3 e3 z3 (ix2 j k) = d1 (ix2 j x) := by
  unfold cat14
  refine concatenate_apply_piece (t := S1024x5632) (1 : Fin 2) _ _ (ix2 j k) 5 ?_ S1024x8 d1 ?_ rfl 5248 ?_ (ix2 j x) ?_ ?_
  · exact (by decide : 5 < 14)
  · rfl
  · rfl
  · intro b hb
    match b with
    | ⟨0, _⟩ => rfl
    | ⟨1, _⟩ => exact absurd rfl hb
  · exact h
theorem cat_e1 (j : Fin 1024) (k : Fin 5632) (x : Fin 8) (h : 5256 + x.val = k.val) : cat14 A B d0 e0 z0 d1 e1 z1 d2 e2 z2 d3 e3 z3 (ix2 j k) = e1 (ix2 j x) := by
  unfold cat14
  refine concatenate_apply_piece (t := S1024x5632) (1 : Fin 2) _ _ (ix2 j k) 6 ?_ S1024x8 e1 ?_ rfl 5256 ?_ (ix2 j x) ?_ ?_
  · exact (by decide : 6 < 14)
  · rfl
  · rfl
  · intro b hb
    match b with
    | ⟨0, _⟩ => rfl
    | ⟨1, _⟩ => exact absurd rfl hb
  · exact h
theorem cat_z1 (j : Fin 1024) (k : Fin 5632) (x : Fin 112) (h : 5264 + x.val = k.val) : cat14 A B d0 e0 z0 d1 e1 z1 d2 e2 z2 d3 e3 z3 (ix2 j k) = z1 (ix2 j x) := by
  unfold cat14
  refine concatenate_apply_piece (t := S1024x5632) (1 : Fin 2) _ _ (ix2 j k) 7 ?_ S1024x112 z1 ?_ rfl 5264 ?_ (ix2 j x) ?_ ?_
  · exact (by decide : 7 < 14)
  · rfl
  · rfl
  · intro b hb
    match b with
    | ⟨0, _⟩ => rfl
    | ⟨1, _⟩ => exact absurd rfl hb
  · exact h
theorem cat_d2 (j : Fin 1024) (k : Fin 5632) (x : Fin 8) (h : 5376 + x.val = k.val) : cat14 A B d0 e0 z0 d1 e1 z1 d2 e2 z2 d3 e3 z3 (ix2 j k) = d2 (ix2 j x) := by
  unfold cat14
  refine concatenate_apply_piece (t := S1024x5632) (1 : Fin 2) _ _ (ix2 j k) 8 ?_ S1024x8 d2 ?_ rfl 5376 ?_ (ix2 j x) ?_ ?_
  · exact (by decide : 8 < 14)
  · rfl
  · rfl
  · intro b hb
    match b with
    | ⟨0, _⟩ => rfl
    | ⟨1, _⟩ => exact absurd rfl hb
  · exact h
theorem cat_e2 (j : Fin 1024) (k : Fin 5632) (x : Fin 8) (h : 5384 + x.val = k.val) : cat14 A B d0 e0 z0 d1 e1 z1 d2 e2 z2 d3 e3 z3 (ix2 j k) = e2 (ix2 j x) := by
  unfold cat14
  refine concatenate_apply_piece (t := S1024x5632) (1 : Fin 2) _ _ (ix2 j k) 9 ?_ S1024x8 e2 ?_ rfl 5384 ?_ (ix2 j x) ?_ ?_
  · exact (by decide : 9 < 14)
  · rfl
  · rfl
  · intro b hb
    match b with
    | ⟨0, _⟩ => rfl
    | ⟨1, _⟩ => exact absurd rfl hb
  · exact h
theorem cat_z2 (j : Fin 1024) (k : Fin 5632) (x : Fin 112) (h : 5392 + x.val = k.val) : cat14 A B d0 e0 z0 d1 e1 z1 d2 e2 z2 d3 e3 z3 (ix2 j k) = z2 (ix2 j x) := by
  unfold cat14
  refine concatenate_apply_piece (t := S1024x5632) (1 : Fin 2) _ _ (ix2 j k) 10 ?_ S1024x112 z2 ?_ rfl 5392 ?_ (ix2 j x) ?_ ?_
  · exact (by decide : 10 < 14)
  · rfl
  · rfl
  · intro b hb
    match b with
    | ⟨0, _⟩ => rfl
    | ⟨1, _⟩ => exact absurd rfl hb
  · exact h
theorem cat_d3 (j : Fin 1024) (k : Fin 5632) (x : Fin 8) (h : 5504 + x.val = k.val) : cat14 A B d0 e0 z0 d1 e1 z1 d2 e2 z2 d3 e3 z3 (ix2 j k) = d3 (ix2 j x) := by
  unfold cat14
  refine concatenate_apply_piece (t := S1024x5632) (1 : Fin 2) _ _ (ix2 j k) 11 ?_ S1024x8 d3 ?_ rfl 5504 ?_ (ix2 j x) ?_ ?_
  · exact (by decide : 11 < 14)
  · rfl
  · rfl
  · intro b hb
    match b with
    | ⟨0, _⟩ => rfl
    | ⟨1, _⟩ => exact absurd rfl hb
  · exact h
theorem cat_e3 (j : Fin 1024) (k : Fin 5632) (x : Fin 8) (h : 5512 + x.val = k.val) : cat14 A B d0 e0 z0 d1 e1 z1 d2 e2 z2 d3 e3 z3 (ix2 j k) = e3 (ix2 j x) := by
  unfold cat14
  refine concatenate_apply_piece (t := S1024x5632) (1 : Fin 2) _ _ (ix2 j k) 12 ?_ S1024x8 e3 ?_ rfl 5512 ?_ (ix2 j x) ?_ ?_
  · exact (by decide : 12 < 14)
  · rfl
  · rfl
  · intro b hb
    match b with
    | ⟨0, _⟩ => rfl
    | ⟨1, _⟩ => exact absurd rfl hb
  · exact h
theorem cat_z3 (j : Fin 1024) (k : Fin 5632) (x : Fin 112) (h : 5520 + x.val = k.val) : cat14 A B d0 e0 z0 d1 e1 z1 d2 e2 z2 d3 e3 z3 (ix2 j k) = z3 (ix2 j x) := by
  unfold cat14
  refine concatenate_apply_piece (t := S1024x5632) (1 : Fin 2) _ _ (ix2 j k) 13 ?_ S1024x112 z3 ?_ rfl 5520 ?_ (ix2 j x) ?_ ?_
  · exact (by decide : 13 < 14)
  · rfl
  · rfl
  · intro b hb
    match b with
    | ⟨0, _⟩ => rfl
    | ⟨1, _⟩ => exact absurd rfl hb
  · exact h
end

/-- What the host has computed before the weights are put together. -/
abbrev pre26 (c : Dev nD) (b : Ref sig .tc) := StableHlo.upto (hostOps0 (F := Ideal)) (fun b => m (c, b)) 26 (Proc.devRef .tc b)

theorem pc_A (c : Dev nD) (j : Fin 1024) (x : Fin 3072) : (pre26 m c main_v18 : S1024x3072.Idx → EReal) (ix2 j x) = m ((c : Thread nD τ).loc main_arg3) (ix2 j ⟨5120 + x.val, by omega⟩) := by
  unfold pre26
  after_reads_at
theorem pc_B (c : Dev nD) (j : Fin 1024) (x : Fin 2048) : (pre26 m c main_v19 : S1024x2048.Idx → EReal) (ix2 j x) = m ((c : Thread nD τ).loc main_arg3) (ix2 j ⟨8256 + x.val, by omega⟩) := by
  unfold pre26
  after_reads_at
theorem pc_d0 (c : Dev nD) (j : Fin 1024) (x : Fin 8) : (pre26 m c main_v6 : S1024x8.Idx → EReal) (ix2 j x) = m ((c : Thread nD τ).loc main_arg3) (ix2 j ⟨8192 + x.val, by omega⟩) := by
  unfold pre26
  after_reads_at
theorem pc_e0 (c : Dev nD) (j : Fin 1024) (x : Fin 8) : (pre26 m c main_v7 : S1024x8.Idx → EReal) (ix2 j x) = m ((c : Thread nD τ).loc main_arg3) (ix2 j ⟨8224 + x.val, by omega⟩) := by
  unfold pre26
  after_reads_at
  exact congrArg (fun z : Fin 10304 => m ((c : Thread nD τ).loc main_arg3) (ix2 j z)) (Fin.ext (by show 8192 + (32 + x.val) = 8224 + x.val; omega))
theorem pc_z0 (c : Dev nD) (j : Fin 1024) (x : Fin 112) : (pre26 m c main_v8 : S1024x112.Idx → EReal) (ix2 j x) = (0 : EReal) := by
  unfold pre26
  after_reads_at
theorem pc_d1 (c : Dev nD) (j : Fin 1024) (x : Fin 8) : (pre26 m c main_v9 : S1024x8.Idx → EReal) (ix2 j x) = m ((c : Thread nD τ).loc main_arg3) (ix2 j ⟨8200 + x.val, by omega⟩) := by
  unfold pre26
  after_reads_at
  exact congrArg (fun z : Fin 10304 => m ((c : Thread nD τ).loc main_arg3) (ix2 j z)) (Fin.ext (by show 8192 + (8 + x.val) = 8200 + x.val; omega))
theorem pc_e1 (c : Dev nD) (j : Fin 1024) (x : Fin 8) : (pre26 m c main_v10 : S1024x8.Idx → EReal) (ix2 j x) = m ((c : Thread nD τ).loc main_arg3) (ix2 j ⟨8232 + x.val, by omega⟩) := by
  unfold pre26
  after_reads_at
  exact congrArg (fun z : Fin 10304 => m ((c : Thread nD τ).loc main_arg3) (ix2 j z)) (Fin.ext (by show 8192 + (40 + x.val) = 8232 + x.val; omega))
theorem pc_z1 (c : Dev nD) (j : Fin 1024) (x : Fin 112) : (pre26 m c main_v11 : S1024x112.Idx → EReal) (ix2 j x) = (0 : EReal) := by
  unfold pre26
  after_reads_at
theorem pc_d2 (c : Dev nD) (j : Fin 1024) (x : Fin 8) : (pre26 m c main_v12 : S1024x8.Idx → EReal) (ix2 j x) = m ((c : Thread nD τ).loc main_arg3) (ix2 j ⟨8208 + x.val, by omega⟩) := by
  unfold pre26
  after_reads_at
  exact congrArg (fun z : Fin 10304 => m ((c : Thread nD τ).loc main_arg3) (ix2 j z)) (Fin.ext (by show 8192 + (16 + x.val) = 8208 + x.val; omega))
theorem pc_e2 (c : Dev nD) (j : Fin 1024) (x : Fin 8) : (pre26 m c main_v13 : S1024x8.Idx → EReal) (ix2 j x) = m ((c : Thread nD τ).loc main_arg3) (ix2 j ⟨8240 + x.val, by omega⟩) := by
  unfold pre26
  after_reads_at
  exact congrArg (fun z : Fin 10304 => m ((c : Thread nD τ).loc main_arg3) (ix2 j z)) (Fin.ext (by show 8192 + (48 + x.val) = 8240 + x.val; omega))
theorem pc_z2 (c : Dev nD) (j : Fin 1024) (x : Fin 112) : (pre26 m c main_v14 : S1024x112.Idx → EReal) (ix2 j x) = (0 : EReal) := by
  unfold pre26
  after_reads_at
theorem pc_d3 (c : Dev nD) (j : Fin 1024) (x : Fin 8) : (pre26 m c main_v15 : S1024x8.Idx → EReal) (ix2 j x) = m ((c : Thread nD τ).loc main_arg3) (ix2 j ⟨8216 + x.val, by omega⟩) := by
  unfold pre26
  after_reads_at
  exact congrArg (fun z : Fin 10304 => m ((c : Thread nD τ).loc main_arg3) (ix2 j z)) (Fin.ext (by show 8192 + (24 + x.val) = 8216 + x.val; omega))
theorem pc_e3 (c : Dev nD) (j : Fin 1024) (x : Fin 8) : (pre26 m c main_v16 : S1024x8.Idx → EReal) (ix2 j x) = m ((c : Thread nD τ).loc main_arg3) (ix2 j ⟨8248 + x.val, by omega⟩) := by
  unfold pre26
  after_reads_at
  exact congrArg (fun z : Fin 10304 => m ((c : Thread nD τ).loc main_arg3) (ix2 j z)) (Fin.ext (by show 8192 + (56 + x.val) = 8248 + x.val; omega))
theorem pc_z3 (c : Dev nD) (j : Fin 1024) (x : Fin 112) : (pre26 m c main_v17 : S1024x112.Idx → EReal) (ix2 j x) = (0 : EReal) := by
  unfold pre26
  after_reads_at

theorem w_eq (c : Dev nD) (j : Fin 1024) (k : Fin 5632) : V m c main_v21 (ix2 j k) = cat14 (pre26 m c main_v18) (pre26 m c main_v19) (pre26 m c main_v6) (pre26 m c main_v7) (pre26 m c main_v8) (pre26 m c main_v9) (pre26 m c main_v10) (pre26 m c main_v11) (pre26 m c main_v12) (pre26 m c main_v13) (pre26 m c main_v14) (pre26 m c main_v15) (pre26 m c main_v16) (pre26 m c main_v17) (ix2 j k) := by
  unfold V
  after_reads_simp
  rw [show ∀ (X : S1024x5632.Idx → EReal) (h) (i : S1024x5632.Idx), truncf (F := Ideal) (φ := .f32) FTy.bf16 X h i = X i from fun _ _ _ => rfl]
  rfl

theorem w_at (c : Dev nD) (j : Fin 1024) (k : Fin 5632) : V m c main_v21 (ix2 j k) = wB (m ((c : Thread nD τ).loc main_arg3)) j k := by
  refine (w_eq m c j k).trans ?_
  unfold wB
  have hk := k.isLt
  by_cases hA : k.val < 3072
  · rw [dif_pos hA]
    exact (cat_A _ _ _ _ _ _ _ _ _ _ _ _ _ _ j k ⟨k.val, hA⟩ (by show 0 + k.val = k.val; omega)).trans (pc_A m c j _)
  rw [dif_neg hA]
  by_cases hB : k.val < 5120
  · rw [dif_pos hB]
    refine (cat_B _ _ _ _ _ _ _ _ _ _ _ _ _ _ j k ⟨k.val - 3072, by omega⟩ (by show 3072 + (k.val - 3072) = k.val; omega)).trans ((pc_B m c j _).trans ?_)
    exact congrArg (fun z : Fin 10304 => m ((c : Thread nD τ).loc main_arg3) (ix2 j z)) (Fin.ext (by show 8256 + (k.val - 3072) = 5184 + k.val; omega))
  rw [dif_neg hB]
  have hg : (k.val - 5120) / 128 = 0 ∨ (k.val - 5120) / 128 = 1 ∨ (k.val - 5120) / 128 = 2 ∨ (k.val - 5120) / 128 = 3 := by omega
  by_cases hd : (k.val - 5120) % 128 < 8
  · rw [if_pos hd]
    rcases hg with hg | hg | hg | hg
    · refine (cat_d0 _ _ _ _ _ _ _ _ _ _ _ _ _ _ j k ⟨k.val - 5120, by omega⟩ (by show 5120 + (k.val - 5120) = k.val; omega)).trans ((pc_d0 m c j _).trans ?_)
      exact congrArg (fun z : Fin 10304 => m ((c : Thread nD τ).loc main_arg3) (ix2 j z)) (Fin.ext (by show 8192 + (k.val - 5120) = 8192 + (k.val - 5120) / 128 * 8 + (k.val - 5120) % 128; omega))
    · refine (cat_d1 _ _ _ _ _ _ _ _ _ _ _ _ _ _ j k ⟨k.val - 5248, by omega⟩ (by show 5248 + (k.val - 5248) = k.val; omega)).trans ((pc_d1 m c j _).trans ?_)
      exact congrArg (fun z : Fin 10304 => m ((c : Thread nD τ).loc main_arg3) (ix2 j z)) (Fin.ext (by show 8200 + (k.val - 5248) = 8192 + (k.val - 5120) / 128 * 8 + (k.val - 5120) % 128; omega))
    · refine (cat_d2 _ _ _ _ _ _ _ _ _ _ _ _ _ _ j k ⟨k.val - 5376, by omega⟩ (by show 5376 + (k.val - 5376) = k.val; omega)).trans ((pc_d2 m c j _).trans ?_)
      exact congrArg (fun z : Fin 10304 => m ((c : Thread nD τ).loc main_arg3) (ix2 j z)) (Fin.ext (by show 8208 + (k.val - 5376) = 8192 + (k.val - 5120) / 128 * 8 + (k.val - 5120) % 128; omega))
    · refine (cat_d3 _ _ _ _ _ _ _ _ _ _ _ _ _ _ j k ⟨k.val - 5504, by omega⟩ (by show 5504 + (k.val - 5504) = k.val; omega)).trans ((pc_d3 m c j _).trans ?_)
      exact congrArg (fun z : Fin 10304 => m ((c : Thread nD τ).loc main_arg3) (ix2 j z)) (Fin.ext (by show 8216 + (k.val - 5504) = 8192 + (k.val - 5120) / 128 * 8 + (k.val - 5120) % 128; omega))
  rw [if_neg hd]
  by_cases he : (k.val - 5120) % 128 < 16
  · rw [if_pos he]
    rcases hg with hg | hg | hg | hg
    · refine (cat_e0 _ _ _ _ _ _ _ _ _ _ _ _ _ _ j k ⟨k.val - 5128, by omega⟩ (by show 5128 + (k.val - 5128) = k.val; omega)).trans ((pc_e0 m c j _).trans ?_)
      exact congrArg (fun z : Fin 10304 => m ((c : Thread nD τ).loc main_arg3) (ix2 j z)) (Fin.ext (by show 8224 + (k.val - 5128) = 8224 + (k.val - 5120) / 128 * 8 + ((k.val - 5120) % 128 - 8); omega))
    · refine (cat_e1 _ _ _ _ _ _ _ _ _ _ _ _ _ _ j k ⟨k.val - 5256, by omega⟩ (by show 5256 + (k.val - 5256) = k.val; omega)).trans ((pc_e1 m c j _).trans ?_)
      exact congrArg (fun z : Fin 10304 => m ((c : Thread nD τ).loc main_arg3) (ix2 j z)) (Fin.ext (by show 8232 + (k.val - 5256) = 8224 + (k.val - 5120) / 128 * 8 + ((k.val - 5120) % 128 - 8); omega))
    · refine (cat_e2 _ _ _ _ _ _ _ _ _ _ _ _ _ _ j k ⟨k.val - 5384, by omega⟩ (by show 5384 + (k.val - 5384) = k.val; omega)).trans ((pc_e2 m c j _).trans ?_)
      exact congrArg (fun z : Fin 10304 => m ((c : Thread nD τ).loc main_arg3) (ix2 j z)) (Fin.ext (by show 8240 + (k.val - 5384) = 8224 + (k.val - 5120) / 128 * 8 + ((k.val - 5120) % 128 - 8); omega))
    · refine (cat_e3 _ _ _ _ _ _ _ _ _ _ _ _ _ _ j k ⟨k.val - 5512, by omega⟩ (by show 5512 + (k.val - 5512) = k.val; omega)).trans ((pc_e3 m c j _).trans ?_)
      exact congrArg (fun z : Fin 10304 => m ((c : Thread nD τ).loc main_arg3) (ix2 j z)) (Fin.ext (by show 8248 + (k.val - 5512) = 8224 + (k.val - 5120) / 128 * 8 + ((k.val - 5120) % 128 - 8); omega))
  rw [if_neg he]
  rcases hg with hg | hg | hg | hg
  · exact (cat_z0 _ _ _ _ _ _ _ _ _ _ _ _ _ _ j k ⟨k.val - 5136, by omega⟩ (by show 5136 + (k.val - 5136) = k.val; omega)).trans (pc_z0 m c j _)
  · exact (cat_z1 _ _ _ _ _ _ _ _ _ _ _ _ _ _ j k ⟨k.val - 5264, by omega⟩ (by show 5264 + (k.val - 5264) = k.val; omega)).trans (pc_z1 m c j _)
  · exact (cat_z2 _ _ _ _ _ _ _ _ _ _ _ _ _ _ j k ⟨k.val - 5392, by omega⟩ (by show 5392 + (k.val - 5392) = k.val; omega)).trans (pc_z2 m c j _)
  · exact (cat_z3 _ _ _ _ _ _ _ _ _ _ _ _ _ _ j k ⟨k.val - 5520, by omega⟩ (by show 5520 + (k.val - 5520) = k.val; omega)).trans (pc_z3 m c j _)

end Cert.InBLatIdeal.Gen
-- ==== Proof.Layer.InBLat.Arr.lean ====
/-
  The second input projection's result arrays, at every element, from the arguments.
-/
module

public import proofs.«01_k».proof.Proof.Layer.InBLat.Host
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.InBLatIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![64 * t.val - 1, 0] := (by decide +kernel : ∀ t : Fin grid0.N, win0_1.index t = ![64 * t.val - 1, 0])
theorem idx0_2 : ∀ t : Fin cfg0.N, win0_2.index t = ![min (64 * t.val + 64) 2047, 0] := (by decide +kernel : ∀ t : Fin grid0.N, win0_2.index t = ![min (64 * t.val + 64) 2047, 0])
theorem idx0_3 : ∀ t : Fin cfg0.N, win0_3.index t = ![1 + t.val / 4, 0, 0] := (by decide +kernel : ∀ t : Fin grid0.N, win0_3.index t = ![1 + t.val / 4, 0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![t.val, 0] := (by decide +kernel : ∀ t : Fin grid0.N, win0_8.index t = ![t.val, 0])
theorem idx0_9 : ∀ t : Fin cfg0.N, win0_9.index t = ![t.val, 0] := (by decide +kernel : ∀ t : Fin grid0.N, win0_9.index t = ![t.val, 0])

theorem kb_at : ∀ t : Fin cfg0.N, (kbOf t = 1#1 ↔ t.val % 4 ≠ 0) := (by decide +kernel : ∀ t : Fin grid0.N, (kbOf t = 1#1 ↔ t.val % 4 ≠ 0))
theorem ka_at : ∀ t : Fin cfg0.N, (kaOf t = 1#1 ↔ t.val % 4 ≠ 3) := (by decide +kernel : ∀ t : Fin grid0.N, (kaOf t = 1#1 ↔ t.val % 4 ≠ 3))

/-- The projected rows, at the arguments of core `c`. -/
def spec (c : Dev nD) : S16384x5120.Idx → EReal := fun i =>
  inBLat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) siluK (i 0) (i 1)

/-- The step sizes, at the arguments of core `c`. -/
def stepSpec (c : Dev nD) : S16384x512.Idx → EReal := fun i =>
  stepLat (m ((c : Thread nD τ).loc main_arg0)) (m ((c : Thread nD τ).loc main_arg1)) (m ((c : Thread nD τ).loc main_arg2))
    (m ((c : Thread nD τ).loc main_arg3)) (i 0) (i 1)

section
variable (U : Valuation τ sig (Elt Ideal))

theorem mod_at (n : Fin 8) (col : Fin 6144) :
    (StableHlo.after hostOps0 U (Proc.devRef .tc main_v2) : S16x1x6144.Idx → EReal) (ix3 ⟨1 + n.val, by omega⟩ 0 col)
      = (U (Proc.devRef .tc main_arg1) : S8x1x6144.Idx → EReal) (ix3 n 0 col) := by
  after_reads_at
end

theorem b0 (c : Dev nD) (t : Fin cfg0.N) (r : Fin 512) (k : Fin 1024) (n : Fin 16384) (hn : n.val = t.val * 512 + r.val) :
    iblk m c 0 t (ix2 r k) = m ((c : Thread nD τ).loc main_arg0) (ix3 ⟨n.val / 2048, by omega⟩ ⟨n.val % 2048, by omega⟩ k) := by
  blk_point [iblk, V, idx0_0 t]
theorem b1 (c : Dev nD) (t : Fin cfg0.N) (r : Fin 8) (k : Fin 1024) (n : Fin 16384) (hn : n.val + 8 = t.val * 512 + r.val) :
    iblk m c 1 t (ix2 r k) = m ((c : Thread nD τ).loc main_arg0) (ix3 ⟨n.val / 2048, by omega⟩ ⟨n.val % 2048, by omega⟩ k) := by
  have hr := r.isLt
  have h1 : t.val = 64 * t.val / 64 := by omega
  blk_point [iblk, V, idx0_1 t]
theorem b2 (c : Dev nD) (t : Fin cfg0.N) (k : Fin 1024) (n : Fin 16384) (hn : n.val = t.val * 512 + 512) :
    iblk m c 2 t (ix2 0 k) = m ((c : Thread nD τ).loc main_arg0) (ix3 ⟨n.val / 2048, by omega⟩ ⟨n.val % 2048, by omega⟩ k) := by
  have h1 := n.isLt
  blk_point [iblk, V, idx0_2 t]
theorem b3 (c : Dev nD) (t : Fin cfg0.N) (k : Fin 6144) (n : Fin 8) (hn : n.val = t.val / 4) :
    iblk m c 3 t (ix3 0 0 k) = m ((c : Thread nD τ).loc main_arg1) (ix3 n 0 k) := by
  have e : iblk m c 3 t (ix3 0 0 k) = V m c main_v2 (ix3 ⟨1 + n.val, by omega⟩ 0 k) := by
    blk_simp [iblk]
    refine congrArg _ ((eq_ix3 _).trans ?_)
    refine congr (congr (congrArg ix3 (Fin.ext ?_)) (Fin.ext ?_)) (Fin.ext ?_) <;> blk_simp [idx0_3 t]
    simp; omega
  exact e.trans (mod_at _ n k)
theorem b4 (c : Dev nD) (t : Fin cfg0.N) (k : Fin 1024) :
    iblk m c 4 t (ix2 0 k) = m ((c : Thread nD τ).loc main_arg2) (ix1 k) := by
  blk_point [iblk, V, idx0_4 t]
theorem b5 (c : Dev nD) (t : Fin cfg0.N) (j : Fin 1024) (k : Fin 5632) :
    iblk m c 5 t (ix2 j k) = wB (m ((c : Thread nD τ).loc main_arg3)) j k := by
  have e : iblk m c 5 t (ix2 j k) = V m c main_v21 (ix2 j k) := by
    blk_simp [iblk]
    refine congrArg _ ((eq_ix2 _).trans ?_)
    refine congr (congrArg ix2 (Fin.ext ?_)) (Fin.ext ?_) <;> blk_simp [idx0_5 t]
  exact e.trans (w_at m c j k)
theorem b6 (c : Dev nD) (t : Fin cfg0.N) (j : Fin 4) (k : Fin 3072) :
    iblk m c 6 t (ix2 j k) = m ((c : Thread nD τ).loc main_arg4) (ix2 j k) := by
  blk_point [iblk, V, idx0_6 t]
theorem b7 (c : Dev nD) (t : Fin cfg0.N) (k : Fin 3072) :
    iblk m c 7 t (ix2 0 k) = m ((c : Thread nD τ).loc main_arg5) (ix1 k) := by
  blk_point [iblk, V, idx0_7 t]

theorem point_at (c : Dev nD) (t : Fin cfg0.N) (r : Fin 512) (k : Fin 5120) (n : Fin 16384) (hn : n.val = t.val * 512 + r.val) :
    (outsAt0 m c t).1 (ix2 r k) = spec m c (ix2 n k) := by
  have ht : t.val < 32 := t.isLt
  have hr := r.isLt
  refine (out_at m c t r k).trans ?_
  unfold inBPoint
  have e3 := fun k => b3 m c t k ⟨n.val / 2048, by omega⟩ (show n.val / 2048 = t.val / 4 by omega)
  have e4 := b4 m c t
  have e5 := b5 m c t
  have e6 := b6 m c t
  have e7 := b7 m c t
  have eLL : lft2 (kbOf t) r = decide (2 ≤ n.val % 2048) := by
    unfold lft2
    rw [decide_eq_decide, kb_at t]
    omega
  have eL : lft (kbOf t) r = decide (n.val % 2048 ≠ 0) := by
    unfold lft
    rw [decide_eq_decide, kb_at t]
    omega
  have eR : rgt (kaOf t) r = decide (n.val % 2048 ≠ 2047) := by
    unfold rgt
    rw [decide_eq_decide, ka_at t]
    omega
  rw [funext fun k => b0 m c t r k n hn, eLL, eL, eR]
  simp only [e3, e4, e5, e6, e7]
  refine inB_beside _ _ _ _ _ _ _ _ _ _ _ _ _ _ _ _ _ _ _ _ _ (fun h => ?_) (fun h => ?_) fun h => ?_
  · have hs : 2 ≤ n.val % 2048 := of_decide_eq_true h
    funext k
    unfold rowLL
    split
    · rw [b1 m c t ⟨6 + r.val, by omega⟩ k ⟨n.val - 2, by omega⟩ (by show n.val - 2 + 8 = t.val * 512 + (6 + r.val); omega)]
      exact congrArg (m ((c : Thread nD τ).loc main_arg0)) (congr (congr (congrArg ix3 (Fin.ext (by show (n.val - 2) / 2048 = n.val / 2048; omega))) (Fin.ext (by show (n.val - 2) % 2048 = n.val % 2048 - 2; omega))) rfl)
    · rw [b0 m c t ⟨r.val - 2, by omega⟩ k ⟨n.val - 2, by omega⟩ (by show n.val - 2 = t.val * 512 + (r.val - 2); omega)]
      exact congrArg (m ((c : Thread nD τ).loc main_arg0)) (congr (congr (congrArg ix3 (Fin.ext (by show (n.val - 2) / 2048 = n.val / 2048; omega))) (Fin.ext (by show (n.val - 2) % 2048 = n.val % 2048 - 2; omega))) rfl)
  · have hs : n.val % 2048 ≠ 0 := of_decide_eq_true h
    funext k
    unfold rowL
    split
    · rw [b1 m c t 7 k ⟨n.val - 1, by omega⟩ (by show n.val - 1 + 8 = t.val * 512 + 7; omega)]
      exact congrArg (m ((c : Thread nD τ).loc main_arg0)) (congr (congr (congrArg ix3 (Fin.ext (by show (n.val - 1) / 2048 = n.val / 2048; omega))) (Fin.ext (by show (n.val - 1) % 2048 = n.val % 2048 - 1; omega))) rfl)
    · rw [b0 m c t ⟨r.val - 1, by omega⟩ k ⟨n.val - 1, by omega⟩ (by show n.val - 1 = t.val * 512 + (r.val - 1); omega)]
      exact congrArg (m ((c : Thread nD τ).loc main_arg0)) (congr (congr (congrArg ix3 (Fin.ext (by show (n.val - 1) / 2048 = n.val / 2048; omega))) (Fin.ext (by show (n.val - 1) % 2048 = n.val % 2048 - 1; omega))) rfl)
  · have hs : n.val % 2048 ≠ 2047 := of_decide_eq_true h
    have hn1 : n.val + 1 < 16384 := by omega
    funext k
    unfold rowR
    split
    · rw [b2 m c t k ⟨n.val + 1, hn1⟩ (by show n.val + 1 = _; omega)]
      exact congrArg (m ((c : Thread nD τ).loc main_arg0)) (congr (congr (congrArg ix3 (Fin.ext (by show (n.val + 1) / 2048 = n.val / 2048; omega))) (Fin.ext (by show (n.val + 1) % 2048 = (n.val % 2048 + 1) % 2048; omega))) rfl)
    · rw [b0 m c t ⟨r.val + 1, by omega⟩ k ⟨n.val + 1, hn1⟩ (by show n.val + 1 = t.val * 512 + (r.val + 1); omega)]
      exact congrArg (m ((c : Thread nD τ).loc main_arg0)) (congr (congr (congrArg ix3 (Fin.ext (by show (n.val + 1) / 2048 = n.val / 2048; omega))) (Fin.ext (by show (n.val + 1) % 2048 = (n.val % 2048 + 1) % 2048; omega))) rfl)

theorem step_point (c : Dev nD) (t : Fin cfg0.N) (r k : Fin 512) (n : Fin 16384) (hn : n.val = t.val * 512 + r.val) :
    (outsAt0 m c t).2 (ix2 r k) = stepSpec m c (ix2 n k) := by
  have ht : t.val < 32 := t.isLt
  have hr := r.isLt
  refine (step_at m c t r k).trans ?_
  have e3 := fun k => b3 m c t k ⟨n.val / 2048, by omega⟩ (show n.val / 2048 = t.val / 4 by omega)
  have e4 := b4 m c t
  have e5 := b5 m c t
  rw [funext fun k => b0 m c t r k n hn]
  simp only [e3, e4, e5]
  rfl

theorem final (c : Dev nD) : (dats m 0 c).arrAt 8 cfg0.N = spec m c := by
  refine (dats m 0 c).arrAt_eq_of_covers 8 _ (by decide +kernel) fun t hf y => ?_
  have ht : t.val < 32 := t.isLt
  have hemb : ∃ (r : Fin 512) (k : Fin 5120), y = ix2 r k ∧ ((cfg0.win 8).blk t).view.emb y = ix2 (⟨t.val * 512 + r.val, by omega⟩ : Fin 16384) k := by
    obtain ⟨r, k, rfl⟩ : ∃ (r : Fin 512) (k : Fin 5120), y = ix2 r k := ⟨y 0, y 1, eq_ix2 y⟩
    refine ⟨r, k, rfl, (eq_ix2 _).trans ?_⟩
    refine congr (congrArg ix2 (Fin.ext ?_)) (Fin.ext ?_) <;> blk_simp [idx0_8 t]
  obtain ⟨r, k, rfl, he⟩ := hemb
  rw [he]
  show (dats m 0 c).after 8 t (ix2 r k) = _
  rw [after0_8]
  exact point_at m c t r k _ rfl

theorem final_step (c : Dev nD) : (dats m 0 c).arrAt 9 cfg0.N = stepSpec m c := by
  refine (dats m 0 c).arrAt_eq_of_covers 9 _ (by decide +kernel) fun t hf y => ?_
  have ht : t.val < 32 := t.isLt
  have hemb : ∃ (r : Fin 512) (k : Fin 512), y = ix2 r k ∧ ((cfg0.win 9).blk t).view.emb y = ix2 (⟨t.val * 512 + r.val, by omega⟩ : Fin 16384) k := by
    obtain ⟨r, k, rfl⟩ : ∃ (r : Fin 512) (k : Fin 512), y = ix2 r k := ⟨y 0, y 1, eq_ix2 y⟩
    refine ⟨r, k, rfl, (eq_ix2 _).trans ?_⟩
    refine congr (congrArg ix2 (Fin.ext ?_)) (Fin.ext ?_) <;> blk_simp [idx0_9 t]
  obtain ⟨r, k, rfl, he⟩ := hemb
  rw [he]
  show (dats m 0 c).after 9 t (ix2 r k) = _
  rw [after0_9]
  exact step_point m c t r k _ rfl

end Cert.InBLatIdeal.Gen
-- ==== Proof.Layer.InBLat.Ref.lean ====
/-
  The second input projection's reference, read at every element.
-/
module

public import proofs.«01_k».proof.Proof.Gen.InBLatReferenceIdeal.Read
public import proofs.«01_k».proof.Proof.Layer.InB

@[expose] public section

set_option maxRecDepth 16384

noncomputable section

open Idealize.ShloMosaic Idealize.ShloMosaic.TcCoe Idealize.SL.Sem

namespace Cert.InBLatReferenceIdeal.Read
open Cert.InBLatReferenceIdeal Cert.Layer

variable (x0 : S8x2048x1024.Idx → EReal) (x1 : S8x1x6144.Idx → EReal) (x2 : S1024.Idx → EReal) (x3 : S1024x10304.Idx → EReal)
  (x4 : S4x3072.Idx → EReal) (x5 : S3072.Idx → EReal)

theorem norm_at (b : Fin 8) (s : Fin 2048) (k : Fin 1024) :
    val_main_v20 (F := Ideal) x0 x1 x2 (ix3 b s k)
      = normMod modW epsW (fun k => x0 (ix3 b s k)) (fun k => x2 (ix1 k)) (fun k => x1 (ix3 b 0 ⟨1024 + k.val, by omega⟩))
          (fun k => x1 (ix3 b 0 ⟨0 + k.val, by omega⟩)) k := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2]
  unfold normMod rms
  simp only [Nat.zero_add]

/-- One element of a row's projection, by its column among the weights. -/
def up (b : Fin 8) (s : Fin 2048) (f : Fin 10304) : EReal :=
  upAt (fun k => x0 (ix3 b s k)) (fun k => x2 (ix1 k)) (fun k => x1 (ix3 b 0 ⟨1024 + k.val, by omega⟩))
          (fun k => x1 (ix3 b 0 ⟨0 + k.val, by omega⟩)) (fun k => x3 (ix2 k f))

theorem up_at (b : Fin 8) (s : Fin 2048) (f : Fin 5184) :
    val_main_v22 (F := Ideal) x0 x1 x2 x3 (ix3 b s f) = up x0 x1 x2 x3 b s ⟨5120 + f.val, by omega⟩ := by
  have h := norm_at x0 x1 x2 b s
  unfold val_main_v22
  generalize val_main_v20 (F := Ideal) x0 x1 x2 = z at *
  pointwise [val_main_v21]
  simp only [h]
  rfl

theorem conv_at (b : Fin 8) (s : Fin 2048) (f : Fin 3072) :
    val_main_v54 (F := Ideal) x0 x1 x2 x3 x4 x5 (ix3 b s f)
      = x4 (ix2 0 f) * (if 2 ≤ s.val then up x0 x1 x2 x3 b ⟨s.val - 2, by omega⟩ ⟨5120 + f.val, by omega⟩ else 0)
        + x4 (ix2 1 f) * (if s.val ≠ 0 then up x0 x1 x2 x3 b ⟨s.val - 1, by omega⟩ ⟨5120 + f.val, by omega⟩ else 0)
        + x4 (ix2 2 f) * up x0 x1 x2 x3 b s ⟨5120 + f.val, by omega⟩
        + x4 (ix2 3 f) * (if s.val ≠ 2047 then up x0 x1 x2 x3 b ⟨(s.val + 1) % 2048, by omega⟩ ⟨5120 + f.val, by omega⟩ else 0)
        + x5 (ix1 f) := by
  have h := fun b s => up_at x0 x1 x2 x3 b s
  unfold val_main_v54 val_main_v51 val_main_v50 val_main_v47 val_main_v44 val_main_v43 val_main_v40 val_main_v37 val_main_v36 val_main_v33 val_main_v30
    val_main_v27 val_main_v24 val_main_v23
  generalize val_main_v22 (F := Ideal) x0 x1 x2 x3 = z at *
  pointwise [val_main_v25, val_main_v26, val_main_v28, val_main_v29, val_main_v31, val_main_v32, val_main_v34, val_main_v35, val_main_v38, val_main_v39,
    val_main_v41, val_main_v42, val_main_v45, val_main_v46, val_main_v48, val_main_v49, val_main_v52, val_main_v53, val_main_call0_v0, val_main_c]
  simp only [h]
  have hz : FloatOps.sitofp (F := Ideal) FTy.f32 0#32 = 0 := by
    show (((0#32 : BitVec 32).toInt : ℝ) : EReal) = 0
    simp
  rw [hz]
  have hs := s.isLt
  have g1 : ∀ (p q : Fin 2048) (u v : Fin 10304), p.val = q.val → u.val = v.val → up x0 x1 x2 x3 b p u = up x0 x1 x2 x3 b q v := by
    intro p q u v e1 e2
    rw [Fin.ext e1, Fin.ext e2]
  refine congr (congrArg HAdd.hAdd (congr (congrArg HAdd.hAdd (congr (congrArg HAdd.hAdd (congr (congrArg HAdd.hAdd (congrArg _ ?_)) (congrArg _ ?_))) (congrArg _ ?_))) (congrArg _ ?_))) rfl
  · split_ifs
    all_goals first
      | omega
      | exact g1 _ _ _ _ (by dsimp only; omega) rfl
      | rfl
  · split_ifs
    all_goals first
      | omega
      | exact g1 _ _ _ _ (by dsimp only; omega) rfl
      | rfl
  · rfl
  · split_ifs
    all_goals first
      | omega
      | exact g1 _ _ _ _ (by dsimp only; omega) rfl
      | rfl

theorem act_at (b : Fin 8) (s : Fin 2048) (f : Fin 3072) :
    val_main_v64 (F := Ideal) x0 x1 x2 x3 x4 x5 (ix3 b s f) = siluR (val_main_v54 (F := Ideal) x0 x1 x2 x3 x4 x5 (ix3 b s f)) := by
  unfold val_main_v64 val_main_call1_v5 val_main_call1_v3 val_main_call1_v1 val_main_call1_v0
  generalize val_main_v54 (F := Ideal) x0 x1 x2 x3 x4 x5 = z
  pointwise [val_main_call1_v2, val_main_call1_v4, val_main_call1_cst, val_main_call1_cst_0]
  rfl

theorem gate_at (b : Fin 8) (s : Fin 2048) (f : Fin 2048) :
    val_main_v63 (F := Ideal) x0 x1 x2 x3 (ix3 b s f) = up x0 x1 x2 x3 b s ⟨5120 + (3136 + f.val), by omega⟩ := by
  have h := fun f => up_at x0 x1 x2 x3 b s f
  unfold val_main_v63
  generalize val_main_v22 (F := Ideal) x0 x1 x2 x3 = z at *
  pointwise
  exact h _

theorem result_at (n : Fin 16384) (f : Fin 5120) :
    val_main_v67 (F := Ideal) x0 x1 x2 x3 x4 x5 (ix2 n f) = inBLat x0 x1 x2 x3 x4 x5 siluR n f := by
  have ha := act_at x0 x1 x2 x3 x4 x5
  have hg := gate_at x0 x1 x2 x3
  have hc := conv_at x0 x1 x2 x3 x4 x5
  unfold val_main_v67 val_main_v66 val_main_v65
  generalize val_main_v64 (F := Ideal) x0 x1 x2 x3 x4 x5 = a at *
  generalize val_main_v63 (F := Ideal) x0 x1 x2 x3 = d at *
  generalize val_main_v54 (F := Ideal) x0 x1 x2 x3 x4 x5 = e at *
  pointwise
  unfold inBLat inB
  have hf := f.isLt
  by_cases h1 : f.val < 3072
  · rw [dif_pos h1, dif_pos h1, ha, hc]
    unfold convB up wB
    simp only [decide_eq_true_eq, dif_pos h1]
  · rw [dif_neg h1, dif_neg h1, hg]
    unfold up wB
    simp only [dif_neg h1, dif_pos hf]
    refine congrArg (upAt _ _ _ _) (funext fun k => congrArg x3 (congrArg (ix2 k) (Fin.ext ?_)))
    show 5120 + (3136 + (f.val - 3072)) = 5184 + f.val
    omega

/-- A head's step size, the first direction's heads and then the second's. -/
theorem dt_at (n : Fin 16384) (e : Fin 2) (q : Fin 4) (j : Fin 8) :
    val_main_v56 (F := Ideal) x0 x1 x2 x3 (ix4 n e q j)
      = up x0 x1 x2 x3 ⟨n.val / 2048, by omega⟩ ⟨n.val % 2048, by omega⟩ ⟨8192 + e.val * 32 + q.val * 8 + j.val, by omega⟩ := by
  have h := up_at x0 x1 x2 x3
  unfold val_main_v56 val_main_v55
  generalize val_main_v22 (F := Ideal) x0 x1 x2 x3 = z at *
  pointwise
  rw [h]
  have g1 : ∀ (a a' : Fin 8) (p q : Fin 2048) (u v : Fin 10304), a.val = a'.val → p.val = q.val → u.val = v.val →
      up x0 x1 x2 x3 a p u = up x0 x1 x2 x3 a' q v := by
    intro a a' p q u v e0 e1 e2
    rw [Fin.ext e0, Fin.ext e1, Fin.ext e2]
  have := e.isLt
  have := q.isLt
  have := j.isLt
  exact g1 _ _ _ _ _ _ (by first | rfl | (dsimp only; omega)) (by first | rfl | (dsimp only; omega)) (by first | rfl | (dsimp only; omega))

theorem step_at (n : Fin 16384) (f : Fin 512) :
    val_main_v68 (F := Ideal) x0 x1 x2 x3 (ix2 n f) = stepLat x0 x1 x2 x3 n f := by
  have h := dt_at x0 x1 x2 x3 n
  unfold val_main_v68 val_main_v62 val_main_v60 val_main_v59 val_main_v58 val_main_v57
  generalize val_main_v56 (F := Ideal) x0 x1 x2 x3 = z at *
  pointwise [val_main_v61, val_main_cst_3]
  unfold stepLat wB
  have hf := f.isLt
  have e5 : 5120 + f.val - 5120 = f.val := by omega
  simp only [e5, dif_neg (show ¬ 5120 + f.val < 3072 by omega), dif_neg (show ¬ 5120 + f.val < 5120 by omega)]
  by_cases h1 : f.val % 128 < 8
  · rw [dif_pos h1, h]
    simp only [if_pos h1]
    unfold up
    refine congrArg (upAt _ _ _ _) (funext fun k => congrArg x3 (congrArg (ix2 k) (Fin.ext ?_)))
    show 8192 + 0 * 32 + f.val / 128 * 8 + f.val % 128 = 8192 + f.val / 128 * 8 + f.val % 128
    omega
  · rw [dif_neg h1]
    by_cases h2 : f.val % 128 < 16
    · rw [dif_pos (by omega), h]
      simp only [if_neg h1, if_pos h2]
      unfold up
      refine congrArg (upAt _ _ _ _) (funext fun k => congrArg x3 (congrArg (ix2 k) (Fin.ext ?_)))
      show 8192 + 1 * 32 + f.val / 128 * 8 + (f.val % 128 - 8) = 8224 + f.val / 128 * 8 + (f.val % 128 - 8)
      omega
    · rw [dif_neg (by omega)]
      simp only [if_neg h1, if_neg h2]
      unfold upAt
      simp

end Cert.InBLatReferenceIdeal.Read
-- ==== Proof.Layer.InBLat.Run.lean ====
/-
  The second input projection: the call's results are the reference's, of finite arguments of the activation.
-/
module

public import proofs.«01_k».proof.Defs
public import proofs.«01_k».proof.Proof.NA.Run
public import proofs.«01_k».proof.Proof.Layer.InBLat.Arr
public import proofs.«01_k».proof.Proof.Layer.InBLat.Ref
public import proofs.«01_k».proof.Proof.Gen.InBLatReferenceIdeal.Run

@[expose] public section

set_option maxRecDepth 16384

noncomputable section

open Idealize.ShloMosaic Idealize.ShloMosaic.TcCoe Idealize.SL.Sem

theorem Cert.Pre_in_b_finite.holds : Cert.Pre_in_b_finite.Facts where
  bcast_S_S8x2048x1024 := by decide
  slices_S8x1x6144_S8x1x2048_0_0_0 := by decide
  bcast_S_S8x1x2048 := by decide
  bcast_S_S1024 := by decide
  slices_S1024x10304_S1024x3072_0_5120 := by decide
  bcast_S_S1024x3072 := by decide
  bcast_S_S4x3072 := by decide
  bcast_S_S3072 := by decide

namespace Cert.Layer.InBLat

theorem frame_reference : Cert.quiescent_InBLatReferenceIdeal (hInBLatReferenceIdeal := Cert.InBLatReferenceIdeal.Gen.facts) := fun m ρ _ =>
  (θ_run _ _ _).mono (fun _ h => ⟨fun c => (h c).2.2, sem_eq_zero_of_no_sems rfl _⟩) (Cert.InBLatReferenceIdeal.Value.run (F := Ideal) m ρ)

section
attribute [local instance] Cert.Pre_in_b_finite.holds

theorem act_eq (m : (ℓ : Loc Cert.InBLatIdeal.nD Cert.InBLatIdeal.τ Cert.InBLatIdeal.sig) → Buf (Elt Ideal) ℓ)
    (hpre : Cert.Pre_InBLatIdeal_in_b_finite (hPre_in_b_finite := Cert.Pre_in_b_finite.holds) m) (c : Dev Cert.InBLatIdeal.nD) (n : Fin 16384) (k : Fin 5120) :
    inBLat (m ((c : Thread Cert.InBLatIdeal.nD Cert.InBLatIdeal.τ).loc Cert.InBLatIdeal.main_arg0)) (m ((c : Thread Cert.InBLatIdeal.nD Cert.InBLatIdeal.τ).loc Cert.InBLatIdeal.main_arg1))
        (m ((c : Thread Cert.InBLatIdeal.nD Cert.InBLatIdeal.τ).loc Cert.InBLatIdeal.main_arg2)) (m ((c : Thread Cert.InBLatIdeal.nD Cert.InBLatIdeal.τ).loc Cert.InBLatIdeal.main_arg3))
        (m ((c : Thread Cert.InBLatIdeal.nD Cert.InBLatIdeal.τ).loc Cert.InBLatIdeal.main_arg4)) (m ((c : Thread Cert.InBLatIdeal.nD Cert.InBLatIdeal.τ).loc Cert.InBLatIdeal.main_arg5)) siluK n k
      = inBLat (m ((c : Thread Cert.InBLatIdeal.nD Cert.InBLatIdeal.τ).loc Cert.InBLatIdeal.main_arg0)) (m ((c : Thread Cert.InBLatIdeal.nD Cert.InBLatIdeal.τ).loc Cert.InBLatIdeal.main_arg1))
        (m ((c : Thread Cert.InBLatIdeal.nD Cert.InBLatIdeal.τ).loc Cert.InBLatIdeal.main_arg2)) (m ((c : Thread Cert.InBLatIdeal.nD Cert.InBLatIdeal.τ).loc Cert.InBLatIdeal.main_arg3))
        (m ((c : Thread Cert.InBLatIdeal.nD Cert.InBLatIdeal.τ).loc Cert.InBLatIdeal.main_arg4)) (m ((c : Thread Cert.InBLatIdeal.nD Cert.InBLatIdeal.τ).loc Cert.InBLatIdeal.main_arg5)) siluR n k := by
  obtain ⟨p0, p1, p2, p3, p4, p5⟩ := hpre c
  generalize m ((c : Thread Cert.InBLatIdeal.nD Cert.InBLatIdeal.τ).loc Cert.InBLatIdeal.main_arg0) = x0 at *
  generalize m ((c : Thread Cert.InBLatIdeal.nD Cert.InBLatIdeal.τ).loc Cert.InBLatIdeal.main_arg1) = x1 at *
  generalize m ((c : Thread Cert.InBLatIdeal.nD Cert.InBLatIdeal.τ).loc Cert.InBLatIdeal.main_arg2) = x2 at *
  generalize m ((c : Thread Cert.InBLatIdeal.nD Cert.InBLatIdeal.τ).loc Cert.InBLatIdeal.main_arg3) = x3 at *
  generalize m ((c : Thread Cert.InBLatIdeal.nD Cert.InBLatIdeal.τ).loc Cert.InBLatIdeal.main_arg4) = x4 at *
  generalize m ((c : Thread Cert.InBLatIdeal.nD Cert.InBLatIdeal.τ).loc Cert.InBLatIdeal.main_arg5) = x5 at *
  have f0 : ∀ i, Fin' (x0 i) := fun i => Cert.NA.real_of_word _ (congrFun p0 i)
  have f1 : ∀ (b : Fin 8) (k : Fin 6144), k.val < 2048 → Fin' (x1 (ix3 b 0 k)) := fun b k h => by
    obtain ⟨r, hr⟩ := Cert.NA.real_of_word _ (congrFun p1 (ix3 b 0 (⟨k.val, h⟩ : Fin 2048)))
    refine ⟨r, Eq.trans ?_ hr⟩
    exact (extractStridedSlice_apply ![0, 0, 0] x1 _ (ix3 b 0 (⟨k.val, h⟩ : Fin 2048)) (ix3 b 0 k) (fun a => match a with
      | ⟨0, _⟩ => (Nat.zero_add _).symm
      | ⟨1, _⟩ => rfl
      | ⟨2, _⟩ => (Nat.zero_add _).symm)).symm
  have f2 : ∀ i, Fin' (x2 i) := fun i => Cert.NA.real_of_word _ (congrFun p2 i)
  have f3 : ∀ (j : Fin 1024) (f : Fin 3072), Fin' (x3 (ix2 j ⟨5120 + f.val, by omega⟩)) := fun j f => by
    obtain ⟨r, hr⟩ := Cert.NA.real_of_word _ (congrFun p3 (ix2 j f))
    refine ⟨r, Eq.trans ?_ hr⟩
    exact (extractStridedSlice_apply ![0, 5120] x3 _ (ix2 j f) (ix2 j ⟨5120 + f.val, by omega⟩) (fun a => match a with
      | ⟨0, _⟩ => (Nat.zero_add _).symm
      | ⟨1, _⟩ => rfl)).symm
  have f4 : ∀ i, Fin' (x4 i) := fun i => Cert.NA.real_of_word _ (congrFun p4 i)
  have f5 : ∀ i, Fin' (x5 i) := fun i => Cert.NA.real_of_word _ (congrFun p5 i)
  exact inB_act _ _ _ _ _ _ _ _ _ _ _ _ _ _ _ _ (fun _ => f0 _) (fun _ => f0 _) (fun _ => f0 _) (fun _ => f0 _) (fun _ => f2 _)
    (fun k => f1 _ _ (show 1024 + k.val < 2048 by omega)) (fun k => f1 _ _ (show 0 + k.val < 2048 by omega))
    (fun j f h => by unfold wB; rw [dif_pos h]; exact f3 j ⟨f.val, h⟩)
    (fun _ => f4 _) (fun _ => f4 _) (fun _ => f4 _) (fun _ => f4 _) (fun _ => f5 _) _
end

set_option maxHeartbeats 1000000 in
theorem algebraic : Cert.algebraic_InBLatIdeal_InBLatReferenceIdeal_pre_in_b_finite (hInBLatIdeal := Cert.InBLatIdeal.Gen.facts)
    (hInBLatReferenceIdeal := Cert.InBLatReferenceIdeal.Gen.facts) (hPre_in_b_finite := Cert.Pre_in_b_finite.holds) := by
  intro m g m' g' hpre hargs
  refine ⟨fun c => Cert.InBLatIdeal.Gen.spec m c, fun c => Cert.InBLatIdeal.Gen.stepSpec m c,
    (θ_run _ _ _).mono (fun _ h c => ⟨(h c).1.trans (Cert.InBLatIdeal.Gen.final m c), (h c).2.1.trans (Cert.InBLatIdeal.Gen.final_step m c), (h c).2.2⟩)
      (Cert.InBLatIdeal.Value.run_blocks m g),
    (θ_run _ _ _).mono (fun _ h c => ⟨(h c).1.trans ?_, (h c).2.1.trans ?_, (h c).2.2⟩) (Cert.InBLatReferenceIdeal.Value.run (F := Ideal) m' g')⟩
  · obtain ⟨a0, a1, a2, a3, a4, a5⟩ := hargs c
    rw [Cert.InBLatReferenceIdeal.Read.val_main_v67_eq, a0, a1, a2, a3, a4, a5]
    funext i
    rw [eq_ix2 i]
    exact (Cert.InBLatReferenceIdeal.Read.result_at _ _ _ _ _ _ _ _).trans (act_eq m hpre c _ _).symm
  · obtain ⟨a0, a1, a2, a3, a4, a5⟩ := hargs c
    rw [Cert.InBLatReferenceIdeal.Read.val_main_v68_eq, a0, a1, a2, a3]
    funext i
    rw [eq_ix2 i]
    exact Cert.InBLatReferenceIdeal.Read.step_at _ _ _ _ _ _

end Cert.Layer.InBLat
-- ==== Proof.Layer.InACtx.Out.lean ====
/-
  What one point of the context stream's first input projection stores, at every element: ten blocks of 512 columns, the first four
  normed head by head, and the keys' and values' blocks once more, a sequence at a time.
-/
module

public import proofs.«01_k».proof.Proof.Gen.InACtxIdeal.Value
public import proofs.«01_k».proof.Proof.Layer.InA
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.InACtxIdeal.Gen
open Cert.Layer

variable (m : (l : Loc nD τ sig) → Buf (Elt Ideal) l)

theorem norm_at (x : S512x1024.Idx → EReal) (g : S1x1024.Idx → EReal) (sh sc : S1x1x1024.Idx → EReal) (r : Fin 512) (k : Fin 1024) :
    k0_pay3 (F := Ideal) x g sh sc (ix2 r k)
      = normMod modW epsW (fun k => x (ix2 r k)) (fun k => g (ix2 0 k)) (fun k => sc (ix3 0 0 k)) (fun k => sh (ix3 0 0 k)) k := by
  pointwise [k0_pay3]
  rfl

/-- The normed columns of one block, whole. -/
def headPay (H : S512x1024.Idx → EReal) (W : S1024x512.Idx → EReal) (B : S256x256.Idx → EReal) (Q : S1x512.Idx → EReal) : S512x512.Idx → EReal :=
  k0_pay21 (F := Ideal) (k0_pay19 (F := Ideal) H W B B) Q

/-- The plain columns of one block, whole. -/
def plainPay (H : S512x1024.Idx → EReal) (W : S1024x512.Idx → EReal) : S512x512.Idx → EReal := k0_pay25 (F := Ideal) H W

/-- A block of the normed columns at row `r`. -/
theorem head_at (H : S512x1024.Idx → EReal) (W : S1024x512.Idx → EReal) (B : S256x256.Idx → EReal) (Q : S1x512.Idx → EReal)
    (hB : ∀ i j : Fin 256, B (ix2 i j) = if i.val / 64 = j.val / 64 then 1 else 0) (r x : Fin 512) :
    headPay H W B Q (ix2 r x)
      = headAt (fun j => ∑ k : Fin 1024, H (ix2 r k) * W (ix2 k ⟨x.val / 64 * 64 + j.val, by omega⟩)) (∑ k : Fin 1024, H (ix2 r k) * W (ix2 k x)) (Q (ix2 0 x)) := by
  unfold headPay
  pointwise [k0_pay21, k0_pay20, k0_pay19]
  unfold headAt
  simp only [hB]
  rw [mean_word]
  refine congrArg (fun z => _ * Ideal.rsqrt (Ideal.div z _ + _) * _) ?_
  have hx := x.isLt
  by_cases h : x.val < 256
  · rw [dif_pos h]
    refine (sum_block (fun i => (∑ k : Fin 1024, H (ix2 r k) * W (ix2 k ⟨i.val, by omega⟩)) * (∑ k : Fin 1024, H (ix2 r k) * W (ix2 k ⟨i.val, by omega⟩))) ⟨x.val, h⟩).trans ?_
    rfl
  · rw [dif_neg h]
    refine (sum_block (fun i => (∑ k : Fin 1024, H (ix2 r k) * W (ix2 k ⟨256 + i.val, by omega⟩)) * (∑ k : Fin 1024, H (ix2 r k) * W (ix2 k ⟨256 + i.val, by omega⟩))) ⟨x.val - 256, by omega⟩).trans ?_
    refine Finset.sum_congr rfl fun j _ => ?_
    refine congrArg (fun z : Fin 512 => (∑ k : Fin 1024, H (ix2 r k) * W (ix2 k z)) * (∑ k : Fin 1024, H (ix2 r k) * W (ix2 k z))) (Fin.ext ?_)
    show 256 + ((x.val - 256) / 64 * 64 + j.val) = x.val / 64 * 64 + j.val
    omega

theorem plain_at (H : S512x1024.Idx → EReal) (W : S1024x512.Idx → EReal) (r x : Fin 512) :
    plainPay H W (ix2 r x) = ∑ k : Fin 1024, H (ix2 r k) * W (ix2 k x) := by
  unfold plainPay
  pointwise [k0_pay25, k0_pay24]

section
variable (H : S512x1024.Idx → EReal) (W : S1024x512.Idx → EReal) (B : S256x256.Idx → EReal) (Q : S1x512.Idx → EReal)
theorem tile_0 : k0_pay7 (F := Ideal) (k0_pay4 (F := Ideal) H W) (k0_pay5 (F := Ideal) H W) (k0_pay6 (F := Ideal) H W) B B Q = headPay H W B Q := rfl
theorem tile_1 : k0_pay12 (F := Ideal) (k0_pay8 (F := Ideal) H W) (k0_pay10 (F := Ideal) H W B) (k0_pay11 (F := Ideal) H W B) Q = headPay H W B Q := rfl
theorem tile_2 : k0_pay16 (F := Ideal) (k0_pay13 (F := Ideal) H W B B) (k0_pay14 (F := Ideal) Q) = headPay H W B Q := rfl
theorem tile_3 : k0_pay21 (F := Ideal) (k0_pay19 (F := Ideal) H W B B) Q = headPay H W B Q := rfl
theorem tile_4 : k0_pay25 (F := Ideal) H W = plainPay H W := rfl
theorem tile_5 : k0_pay29 (F := Ideal) H W = plainPay H W := rfl
theorem tile_6 : k0_pay32 (F := Ideal) H W = plainPay H W := rfl
theorem tile_7 : k0_pay33 (F := Ideal) H W = plainPay H W := rfl
theorem tile_8 : k0_pay1 (F := Ideal) H W = plainPay H W := rfl
theorem tile_9 : k0_pay2 (F := Ideal) H W = plainPay H W := rfl

theorem key_00 (s : Fin 256) (x : Fin 512) : k0_pay17 (F := Ideal) (k0_pay13 (F := Ideal) H W B B) (k0_pay14 (F := Ideal) Q) (ix4 0 0 s x) = headPay H W B Q (ix2 ⟨s.val, by omega⟩ x) := by
  rw [← tile_2]
  generalize k0_pay13 (F := Ideal) H W B B = P
  generalize k0_pay14 (F := Ideal) Q = R
  pointwise [k0_pay17, k0_pay16, k0_pay15]
theorem key_10 (s : Fin 256) (x : Fin 512) : k0_pay18 (F := Ideal) (k0_pay13 (F := Ideal) H W B B) (k0_pay14 (F := Ideal) Q) (ix4 0 0 s x) = headPay H W B Q (ix2 ⟨256 + s.val, by omega⟩ x) := by
  rw [← tile_2]
  generalize k0_pay13 (F := Ideal) H W B B = P
  generalize k0_pay14 (F := Ideal) Q = R
  pointwise [k0_pay18, k0_pay16, k0_pay15]
theorem key_01 (s : Fin 256) (x : Fin 512) : k0_pay22 (F := Ideal) (k0_pay19 (F := Ideal) H W B B) Q (ix4 0 0 s x) = headPay H W B Q (ix2 ⟨s.val, by omega⟩ x) := by
  rw [← tile_3]
  generalize k0_pay19 (F := Ideal) H W B B = P
  pointwise [k0_pay22, k0_pay21, k0_pay20]
theorem key_11 (s : Fin 256) (x : Fin 512) : k0_pay23 (F := Ideal) (k0_pay19 (F := Ideal) H W B B) Q (ix4 0 0 s x) = headPay H W B Q (ix2 ⟨256 + s.val, by omega⟩ x) := by
  rw [← tile_3]
  generalize k0_pay19 (F := Ideal) H W B B = P
  pointwise [k0_pay23, k0_pay21, k0_pay20]
theorem val_00 (s : Fin 256) (x : Fin 512) : k0_pay26 (F := Ideal) H W (ix4 0 0 s x) = plainPay H W (ix2 ⟨s.val, by omega⟩ x) := by
  rw [← tile_4]
  pointwise [k0_pay26, k0_pay25, k0_pay24]
theorem val_10 (s : Fin 256) (x : Fin 512) : k0_pay27 (F := Ideal) H W (ix4 0 0 s x) = plainPay H W (ix2 ⟨256 + s.val, by omega⟩ x) := by
  rw [← tile_4]
  pointwise [k0_pay27, k0_pay25, k0_pay24]
theorem val_01 (s : Fin 256) (x : Fin 512) : k0_pay30 (F := Ideal) H W (ix4 0 0 s x) = plainPay H W (ix2 ⟨s.val, by omega⟩ x) := by
  rw [← tile_5]
  pointwise [k0_pay30, k0_pay29, k0_pay28]
theorem val_11 (s : Fin 256) (x : Fin 512) : k0_pay31 (F := Ideal) H W (ix4 0 0 s x) = plainPay H W (ix2 ⟨256 + s.val, by omega⟩ x) := by
  rw [← tile_5]
  pointwise [k0_pay31, k0_pay29, k0_pay28]
end

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

theorem pass4 (P : S1x1x256x512.Idx → EReal) (L : List (View.Piece (Elt Ideal) S2x1x256x1024 .f32)) (p o : Nat) (i) (b : Fin 2) (s : Fin 256) (f : Fin 1024)
    (h : b.val ≠ p ∨ f.val < o ∨ o + 512 ≤ f.val) :
    View.canon (⟨Rect.unit (s := S2x1x256x1024) ![p, 0, 0, o] ![1, 1, 256, 512] i, P⟩ :: L) (ix4 b 0 s f) = View.canon L (ix4 b 0 s f) := by
  refine View.canon_cons_of_not_mem _ _ fun hm => ?_
  rcases h with h | h
  · obtain ⟨j, hj, e⟩ := (LoadRect.mem_set _).mp hm (0 : Fin 4)
    have e1 : b.val = p + 1 * j := e
    have e2 : j < 1 := hj
    omega
  · obtain ⟨j, hj, e⟩ := (LoadRect.mem_set _).mp hm (3 : Fin 4)
    have e1 : f.val = o + 1 * j := e
    have e2 : j < 512 := hj
    omega

theorem here4 (P : S1x1x256x512.Idx → EReal) (L : List (View.Piece (Elt Ideal) S2x1x256x1024 .f32)) (p o : Nat) (i) (b : Fin 2) (s : Fin 256) (f : Fin 1024) (x : Fin 512)
    (hb : b.val = p) (h : f.val = o + x.val) :
    View.canon (⟨Rect.unit (s := S2x1x256x1024) ![p, 0, 0, o] ![1, 1, 256, 512] i, P⟩ :: L) (ix4 b 0 s f) = P (ix4 0 0 s x) := by
  have e : (ix4 b 0 s f : S2x1x256x1024.Idx) = (Rect.unit (s := S2x1x256x1024) ![p, 0, 0, o] ![1, 1, 256, 512] i).emb (ix4 0 0 s x) := by
    funext a
    match a with
    | ⟨0, _⟩ => exact Fin.ext (show b.val = p + 1 * 0 by omega)
    | ⟨1, _⟩ => rfl
    | ⟨2, _⟩ => exact Fin.ext (show s.val = 0 + 1 * s.val by omega)
    | ⟨3, _⟩ => exact Fin.ext (show f.val = o + 1 * x.val by omega)
  rw [e]
  exact View.canon_cons_emb (Val := Elt Ideal) (e := .f32) _ _ _ _

theorem pass (P : S512x512.Idx → EReal) (L : List (View.Piece (Elt Ideal) S512x5120 .bf16)) (o : Nat) (i) (r : Fin 512) (x : Fin 5120) (h : x.val < o ∨ o + 512 ≤ x.val) :
    View.canon (⟨Rect.unit (s := S512x5120) ![0, o] ![512, 512] i, P⟩ :: L) (ix2 r x) = View.canon L (ix2 r x) := by
  refine View.canon_cons_of_not_mem _ _ fun hm => ?_
  obtain ⟨j, hj, e⟩ := (LoadRect.mem_set _).mp hm (1 : Fin 2)
  have e1 : x.val = o + 1 * j := e
  have e2 : j < 512 := hj
  omega

theorem here (P : S512x512.Idx → EReal) (L : List (View.Piece (Elt Ideal) S512x5120 .bf16)) (o : Nat) (i) (r x : Fin 512) (y : Fin 5120) (h : y.val = o + x.val) :
    View.canon (⟨Rect.unit (s := S512x5120) ![0, o] ![512, 512] i, P⟩ :: L) (ix2 r y) = P (ix2 r x) := by
  have e : (ix2 r y : S512x5120.Idx) = (Rect.unit (s := S512x5120) ![0, o] ![512, 512] i).emb (ix2 r x) := by
    funext a
    match a with
    | ⟨0, _⟩ => exact Fin.ext (show r.val = 0 + 1 * r.val by omega)
    | ⟨1, _⟩ => exact Fin.ext (show y.val = o + 1 * x.val by omega)
  rw [e]
  exact View.canon_cons_emb (Val := Elt Ideal) (e := .bf16) _ _ _ _

/-- One element of what a point stores. -/
def inAPoint (x : S512x1024.Idx → EReal) (mo : S1x1x6144.Idx → EReal) (g : S1x1024.Idx → EReal) (w : S1024x5120.Idx → EReal) (q : S1x2048.Idx → EReal)
    (r : Fin 512) (f : Fin 5120) : EReal :=
  inA (fun f => upAt (fun k => x (ix2 r k)) (fun k => g (ix2 0 k)) (fun k => mo (ix3 0 0 ⟨1024 + k.val, by omega⟩)) (fun k => mo (ix3 0 0 ⟨0 + k.val, by omega⟩)) (fun k => w (ix2 k f)))
    (fun f => q (ix2 0 f)) f

section
variable (x : S512x1024.Idx → EReal) (mo : S1x1x6144.Idx → EReal) (g : S1x1024.Idx → EReal) (w : S1024x5120.Idx → EReal) (q : S1x2048.Idx → EReal)
  (B : S256x256.Idx → EReal)
/-- The normed rows of a point. -/
abbrev nrm (i0 : ∀ a : Fin 3, (![0, 0, 0] : Fin 3 → Nat) a + (![1, 1, 1024] : Fin 3 → Nat) a ≤ S1x1x6144.size a)
    (i1 : ∀ a : Fin 3, (![0, 0, 1024] : Fin 3 → Nat) a + (![1, 1, 1024] : Fin 3 → Nat) a ≤ S1x1x6144.size a) : S512x1024.Idx → EReal :=
  k0_pay3 (F := Ideal) x g (View.ld (Val := Elt Ideal) (e' := .f32) (S := S1x1x6144) mo (Rect.unit ![0, 0, 0] ![1, 1, 1024] i0))
    (View.ld (Val := Elt Ideal) (e' := .f32) (S := S1x1x6144) mo (Rect.unit ![0, 0, 1024] ![1, 1, 1024] i1))

theorem nrm_at (i0 i1) (r : Fin 512) (k : Fin 1024) :
    nrm x mo g i0 i1 (ix2 r k) = normMod modW epsW (fun k => x (ix2 r k)) (fun k => g (ix2 0 k)) (fun k => mo (ix3 0 0 ⟨1024 + k.val, by omega⟩)) (fun k => mo (ix3 0 0 ⟨0 + k.val, by omega⟩)) k := by
  refine (norm_at _ _ _ _ r k).trans ?_
  refine congr (congr (congrArg (normMod modW epsW _ _) ?_) ?_) rfl
  · funext k; exact ld_m mo 1024 i1 k _
  · funext k; exact ld_m mo 0 i0 k _

theorem up_at (i0 i1) (o : Nat) (i2) (r x' : Fin 512) (h : o + x'.val < 5120) :
    (∑ k : Fin 1024, nrm x mo g i0 i1 (ix2 r k) * View.ld (Val := Elt Ideal) (e' := .bf16) (S := S1024x5120) w (Rect.unit ![0, o] ![1024, 512] i2) (ix2 k x'))
      = upAt (fun k => x (ix2 r k)) (fun k => g (ix2 0 k)) (fun k => mo (ix3 0 0 ⟨1024 + k.val, by omega⟩)) (fun k => mo (ix3 0 0 ⟨0 + k.val, by omega⟩)) (fun k => w (ix2 k ⟨o + x'.val, h⟩)) :=
  Finset.sum_congr rfl fun k _ => congr (congrArg HMul.hMul (nrm_at x mo g i0 i1 r k)) (ld_w (e := .bf16) w o 512 i2 k x' h)

theorem plain_of (i0 i1) (o : Nat) (ho : 2048 ≤ o) (i2) (r x' : Fin 512) (y : Fin 5120) (h : y.val = o + x'.val) :
    plainPay (nrm x mo g i0 i1) (View.ld (Val := Elt Ideal) (e' := .bf16) (S := S1024x5120) w (Rect.unit ![0, o] ![1024, 512] i2)) (ix2 r x')
      = inAPoint x mo g w q r y := by
  unfold inAPoint inA
  rw [dif_neg (by omega), plain_at, up_at x mo g w i0 i1 o i2 r x' (by omega)]
  exact congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext h.symm)

theorem head_of (hB : ∀ i j : Fin 256, B (ix2 i j) = if i.val / 64 = j.val / 64 then 1 else 0) (i0 i1) (o : Nat) (ho : o + 512 ≤ 2048) (hd : o % 64 = 0) (i2 i3) (r x' : Fin 512) (y : Fin 5120) (h : y.val = o + x'.val) :
    headPay (nrm x mo g i0 i1) (View.ld (Val := Elt Ideal) (e' := .bf16) (S := S1024x5120) w (Rect.unit ![0, o] ![1024, 512] i2)) B
      (View.ld (Val := Elt Ideal) (e' := .f32) (S := S1x2048) q (Rect.unit ![0, o] ![1, 512] i3)) (ix2 r x')
      = inAPoint x mo g w q r y := by
  unfold inAPoint inA
  have hx := x'.isLt
  rw [dif_pos (by omega), head_at _ _ _ _ hB, up_at x mo g w i0 i1 o i2 r x' (by omega)]
  refine congr (congr (congrArg headAt ?_) ?_) ?_
  · funext j
    have hj := j.isLt
    refine (up_at x mo g w i0 i1 o i2 r ⟨x'.val / 64 * 64 + j.val, by omega⟩ (by show o + (x'.val / 64 * 64 + j.val) < 5120; omega)).trans ?_
    refine congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext ?_)
    show o + (x'.val / 64 * 64 + j.val) = y.val / 64 * 64 + j.val
    omega
  · exact congrArg (fun z : Fin 5120 => upAt (fun k => x (ix2 r k)) (fun k => g (ix2 0 k)) (fun k => mo (ix3 0 0 ⟨1024 + k.val, by omega⟩)) (fun k => mo (ix3 0 0 ⟨0 + k.val, by omega⟩)) (fun k => w (ix2 k z))) (Fin.ext h.symm)
  · refine (ld_w (e := .f32) q o 512 i3 0 x' (by omega)).trans ?_
    exact congrArg (fun z : Fin 2048 => q (ix2 0 z)) (Fin.ext h.symm)
end

theorem out_at (c : Dev nD) (t : Fin cfg0.N) (hB : ∀ i j : Fin 256, iblk m c 5 t (ix2 i j) = if i.val / 64 = j.val / 64 then (1 : EReal) else (0 : EReal)) (r : Fin 512) (f : Fin 5120) :
    (outsAt0 m c t).1 (ix2 r f) = inAPoint (iblk m c 0 t) (iblk m c 1 t) (iblk m c 2 t) (iblk m c 3 t) (iblk m c 4 t) r f := by
  unfold outsAt0
  frame_out
  generalize iblk m c 0 t = x
  generalize iblk m c 1 t = mo
  generalize iblk m c 2 t = g
  generalize iblk m c 3 t = w
  generalize iblk m c 4 t = q
  generalize iblk m c 5 t = B at *
  have hf := f.isLt
  by_cases h9 : 4608 ≤ f.val
  · refine (here _ _ 4608 _ r ⟨f.val - 4608, by omega⟩ f (by show f.val = 4608 + (f.val - 4608); omega)).trans ?_
    rw [tile_9]
    exact plain_of x mo g w q _ _ 4608 (by decide) _ r _ f (by show f.val = 4608 + (f.val - 4608); omega)
  refine (pass _ _ 4608 _ r f (by omega)).trans ?_
  by_cases h8 : 4096 ≤ f.val
  · refine (here _ _ 4096 _ r ⟨f.val - 4096, by omega⟩ f (by show f.val = 4096 + (f.val - 4096); omega)).trans ?_
    rw [tile_8]
    exact plain_of x mo g w q _ _ 4096 (by decide) _ r _ f (by show f.val = 4096 + (f.val - 4096); omega)
  refine (pass _ _ 4096 _ r f (by omega)).trans ?_
  by_cases h7 : 3584 ≤ f.val
  · refine (here _ _ 3584 _ r ⟨f.val - 3584, by omega⟩ f (by show f.val = 3584 + (f.val - 3584); omega)).trans ?_
    rw [tile_7]
    exact plain_of x mo g w q _ _ 3584 (by decide) _ r _ f (by show f.val = 3584 + (f.val - 3584); omega)
  refine (pass _ _ 3584 _ r f (by omega)).trans ?_
  by_cases h6 : 3072 ≤ f.val
  · refine (here _ _ 3072 _ r ⟨f.val - 3072, by omega⟩ f (by show f.val = 3072 + (f.val - 3072); omega)).trans ?_
    rw [tile_6]
    exact plain_of x mo g w q _ _ 3072 (by decide) _ r _ f (by show f.val = 3072 + (f.val - 3072); omega)
  refine (pass _ _ 3072 _ r f (by omega)).trans ?_
  by_cases h5 : 2560 ≤ f.val
  · refine (here _ _ 2560 _ r ⟨f.val - 2560, by omega⟩ f (by show f.val = 2560 + (f.val - 2560); omega)).trans ?_
    rw [tile_5]
    exact plain_of x mo g w q _ _ 2560 (by decide) _ r _ f (by show f.val = 2560 + (f.val - 2560); omega)
  refine (pass _ _ 2560 _ r f (by omega)).trans ?_
  by_cases h4 : 2048 ≤ f.val
  · refine (here _ _ 2048 _ r ⟨f.val - 2048, by omega⟩ f (by show f.val = 2048 + (f.val - 2048); omega)).trans ?_
    rw [tile_4]
    exact plain_of x mo g w q _ _ 2048 (by decide) _ r _ f (by show f.val = 2048 + (f.val - 2048); omega)
  refine (pass _ _ 2048 _ r f (by omega)).trans ?_
  by_cases h3 : 1536 ≤ f.val
  · refine (here _ _ 1536 _ r ⟨f.val - 1536, by omega⟩ f (by show f.val = 1536 + (f.val - 1536); omega)).trans ?_
    rw [tile_3]
    exact head_of x mo g w q B hB _ _ 1536 (by decide) (by decide) _ _ r _ f (by show f.val = 1536 + (f.val - 1536); omega)
  refine (pass _ _ 1536 _ r f (by omega)).trans ?_
  by_cases h2 : 1024 ≤ f.val
  · refine (here _ _ 1024 _ r ⟨f.val - 1024, by omega⟩ f (by show f.val = 1024 + (f.val - 1024); omega)).trans ?_
    rw [tile_2]
    exact head_of x mo g w q B hB _ _ 1024 (by decide) (by decide) _ _ r _ f (by show f.val = 1024 + (f.val - 1024); omega)
  refine (pass _ _ 1024 _ r f (by omega)).trans ?_
  by_cases h1 : 512 ≤ f.val
  · refine (here _ _ 512 _ r ⟨f.val - 512, by omega⟩ f (by show f.val = 512 + (f.val - 512); omega)).trans ?_
    rw [tile_1]
    exact head_of x mo g w q B hB _ _ 512 (by decide) (by decide) _ _ r _ f (by show f.val = 512 + (f.val - 512); omega)
  refine (pass _ _ 512 _ r f (by omega)).trans ?_
  refine (here _ _ 0 _ r ⟨f.val, by omega⟩ f (Nat.zero_add _).symm).trans ?_
  rw [tile_0]
  exact head_of x mo g w q B hB _ _ 0 (by decide) (by decide) _ _ r _ f (Nat.zero_add _).symm

theorem keys_at (c : Dev nD) (t : Fin cfg0.N) (hB : ∀ i j : Fin 256, iblk m c 5 t (ix2 i j) = if i.val / 64 = j.val / 64 then (1 : EReal) else (0 : EReal)) (b : Fin 2) (s : Fin 256) (f : Fin 1024) :
    (outsAt0 m c t).2.1 (ix4 b 0 s f) = inAPoint (iblk m c 0 t) (iblk m c 1 t) (iblk m c 2 t) (iblk m c 3 t) (iblk m c 4 t) ⟨b.val * 256 + s.val, by omega⟩ ⟨1024 + f.val, by omega⟩ := by
  unfold outsAt0
  frame_out
  generalize iblk m c 0 t = x
  generalize iblk m c 1 t = mo
  generalize iblk m c 2 t = g
  generalize iblk m c 3 t = w
  generalize iblk m c 4 t = q
  generalize iblk m c 5 t = B at *
  have hf := f.isLt
  have hb := b.isLt
  by_cases h11 : b.val = 1 ∧ 512 ≤ f.val
  · refine (here4 _ _ 1 512 _ b s f ⟨f.val - 512, by omega⟩ (by omega) (by show f.val = 512 + (f.val - 512); omega)).trans ?_
    refine (key_11 _ _ _ _ s _).trans ?_
    have hr : (⟨b.val * 256 + s.val, by omega⟩ : Fin 512) = ⟨256 + s.val, by omega⟩ := Fin.ext (by show b.val * 256 + s.val = 256 + s.val; omega)
    rw [hr]
    exact head_of x mo g w q B hB _ _ 1536 (by decide) (by decide) _ _ _ _ _ (by show 1024 + f.val = 1536 + (f.val - 512); omega)
  refine (pass4 _ _ 1 512 _ b s f (by omega)).trans ?_
  by_cases h01 : b.val = 0 ∧ 512 ≤ f.val
  · refine (here4 _ _ 0 512 _ b s f ⟨f.val - 512, by omega⟩ (by omega) (by show f.val = 512 + (f.val - 512); omega)).trans ?_
    refine (key_01 _ _ _ _ s _).trans ?_
    have hr : (⟨b.val * 256 + s.val, by omega⟩ : Fin 512) = ⟨s.val, by omega⟩ := Fin.ext (by show b.val * 256 + s.val = s.val; omega)
    rw [hr]
    exact head_of x mo g w q B hB _ _ 1536 (by decide) (by decide) _ _ _ _ _ (by show 1024 + f.val = 1536 + (f.val - 512); omega)
  refine (pass4 _ _ 0 512 _ b s f (by omega)).trans ?_
  by_cases h10 : b.val = 1
  · refine (here4 _ _ 1 0 _ b s f ⟨f.val, by omega⟩ (by omega) ((Nat.zero_add _).symm)).trans ?_
    refine (key_10 _ _ _ _ s _).trans ?_
    have hr : (⟨b.val * 256 + s.val, by omega⟩ : Fin 512) = ⟨256 + s.val, by omega⟩ := Fin.ext (by show b.val * 256 + s.val = 256 + s.val; omega)
    rw [hr]
    exact head_of x mo g w q B hB _ _ 1024 (by decide) (by decide) _ _ _ _ _ (by show 1024 + f.val = 1024 + (f.val); omega)
  refine (pass4 _ _ 1 0 _ b s f (by omega)).trans ?_
  refine (here4 _ _ 0 0 _ b s f ⟨f.val, by omega⟩ (by omega) ((Nat.zero_add _).symm)).trans ?_
  refine (key_00 _ _ _ _ s _).trans ?_
  have hr : (⟨b.val * 256 + s.val, by omega⟩ : Fin 512) = ⟨s.val, by omega⟩ := Fin.ext (by show b.val * 256 + s.val = s.val; omega)
  rw [hr]
  exact head_of x mo g w q B hB _ _ 1024 (by decide) (by decide) _ _ _ _ _ (by show 1024 + f.val = 1024 + (f.val); omega)

theorem vals_at (c : Dev nD) (t : Fin cfg0.N) (hB : ∀ i j : Fin 256, iblk m c 5 t (ix2 i j) = if i.val / 64 = j.val / 64 then (1 : EReal) else (0 : EReal)) (b : Fin 2) (s : Fin 256) (f : Fin 1024) :
    (outsAt0 m c t).2.2 (ix4 b 0 s f) = inAPoint (iblk m c 0 t) (iblk m c 1 t) (iblk m c 2 t) (iblk m c 3 t) (iblk m c 4 t) ⟨b.val * 256 + s.val, by omega⟩ ⟨2048 + f.val, by omega⟩ := by
  unfold outsAt0
  frame_out
  generalize iblk m c 0 t = x
  generalize iblk m c 1 t = mo
  generalize iblk m c 2 t = g
  generalize iblk m c 3 t = w
  generalize iblk m c 4 t = q
  generalize iblk m c 5 t = B at *
  have hf := f.isLt
  have hb := b.isLt
  by_cases h11 : b.val = 1 ∧ 512 ≤ f.val
  · refine (here4 _ _ 1 512 _ b s f ⟨f.val - 512, by omega⟩ (by omega) (by show f.val = 512 + (f.val - 512); omega)).trans ?_
    refine (val_11 _ _ s _).trans ?_
    have hr : (⟨b.val * 256 + s.val, by omega⟩ : Fin 512) = ⟨256 + s.val, by omega⟩ := Fin.ext (by show b.val * 256 + s.val = 256 + s.val; omega)
    rw [hr]
    exact plain_of x mo g w q _ _ 2560 (by decide) _ _ _ _ (by show 2048 + f.val = 2560 + (f.val - 512); omega)
  refine (pass4 _ _ 1 512 _ b s f (by omega)).trans ?_
  by_cases h01 : b.val = 0 ∧ 512 ≤ f.val
  · refine (here4 _ _ 0 512 _ b s f ⟨f.val - 512, by omega⟩ (by omega) (by show f.val = 512 + (f.val - 512); omega)).trans ?_
    refine (val_01 _ _ s _).trans ?_
    have hr : (⟨b.val * 256 + s.val, by omega⟩ : Fin 512) = ⟨s.val, by omega⟩ := Fin.ext (by show b.val * 256 + s.val = s.val; omega)
    rw [hr]
    exact plain_of x mo g w q _ _ 2560 (by decide) _ _ _ _ (by show 2048 + f.val = 2560 + (f.val - 512); omega)
  refine (pass4 _ _ 0 512 _ b s f (by omega)).trans ?_
  by_cases h10 : b.val = 1
  · refine (here4 _ _ 1 0 _ b s f ⟨f.val, by omega⟩ (by omega) ((Nat.zero_add _).symm)).trans ?_
    refine (val_10 _ _ s _).trans ?_
    have hr : (⟨b.val * 256 + s.val, by omega⟩ : Fin 512) = ⟨256 + s.val, by omega⟩ := Fin.ext (by show b.val * 256 + s.val = 256 + s.val; omega)
    rw [hr]
    exact plain_of x mo g w q _ _ 2048 (by decide) _ _ _ _ (by show 2048 + f.val = 2048 + (f.val); omega)
  refine (pass4 _ _ 1 0 _ b s f (by omega)).trans ?_
  refine (here4 _ _ 0 0 _ b s f ⟨f.val, by omega⟩ (by omega) ((Nat.zero_add _).symm)).trans ?_
  refine (val_00 _ _ s _).trans ?_
  have hr : (⟨b.val * 256 + s.val, by omega⟩ : Fin 512) = ⟨s.val, by omega⟩ := Fin.ext (by show b.val * 256 + s.val = s.val; omega)
  rw [hr]
  exact plain_of x mo g w q _ _ 2048 (by decide) _ _ _ _ (by show 2048 + f.val = 2048 + (f.val); omega)

end Cert.InACtxIdeal.Gen
-- ==== Proof.Layer.InACtx.Spec.lean ====
/-
  The results of the context stream's first input projection, as functions of the arguments.
-/
module

public import proofs.«01_k».proof.Proof.Layer.InALat.Spec
public import Idealize.ShloMosaic.Lib.Pointwise

@[expose] public section

noncomputable section

open Idealize.ShloMosaic

namespace Cert.Layer

/-- Token `n` of the context's row of the first projection. -/
def inACtx (x : Shape.Idx ⟨3, ![16, 256, 1024]⟩ → EReal) (m : Shape.Idx ⟨3, ![1, 1, 6144]⟩ → EReal) (g : Shape.Idx ⟨1, ![1024]⟩ → EReal)
    (w : Shape.Idx ⟨2, ![1024, 10304]⟩ → EReal) (gq gk : Shape.Idx ⟨1, ![64]⟩ → EReal) (n : Fin 4096) (f : Fin 5120) : EReal :=
  inA (fun f => upAt (fun k => x (ix3 ⟨n.val / 256, by omega⟩ ⟨n.val % 256, by omega⟩ k)) (fun k => g (ix1 k))
      (fun k => m (ix3 0 0 ⟨1024 + k.val, by omega⟩)) (fun k => m (ix3 0 0 ⟨0 + k.val, by omega⟩))
      (fun k => w (ix2 k ⟨f.val, by omega⟩)))
    (gain (fun k => gq (ix1 k)) (fun k => gk (ix1 k))) f

/-- A cache after the first layer's call: the first layer holds the projection's columns from `o` on, the second nothing yet. -/
def cacheCtx (p : Fin 4096 → Fin 5120 → EReal) (o : Nat) (ho : o ≤ 4096) (b : Fin 16) (l : Fin 2) (s : Fin 256) (f : Fin 1024) : EReal :=
  if l.val = 0 then p ⟨b.val * 256 + s.val, by omega⟩ ⟨o + f.val, by omega⟩ else 0

end Cert.Layer
-- ==== Proof.Layer.InACtx.Arr.lean ====
/-
  The result arrays of the context stream's first input projection, at every element, from the arguments.
-/
module

public import proofs.«01_k».proof.Proof.Layer.InACtx.Out
public import proofs.«01_k».proof.Proof.Layer.InACtx.Spec
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.InACtxIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0, 0] := (by decide +kernel : ∀ t : Fin grid0.N, win0_1.index t = ![0, 0, 0])
theorem idx0_2 : ∀ t : Fin cfg0.N, win0_2.index t = ![0, 0] := (by decide +kernel : ∀ t : Fin grid0.N, win0_2.index t = ![0, 0])
theorem idx0_3 : ∀ t : Fin cfg0.N, win0_3.index t = ![0, 0] := (by decide +kernel : ∀ t : Fin grid0.N, win0_3.index t = ![0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_7 : ∀ t : Fin cfg0.N, win0_7.index t = ![t.val, 0, 0, 0] := (by decide +kernel : ∀ t : Fin grid0.N, win0_7.index t = ![t.val, 0, 0, 0])
theorem idx0_8 : ∀ t : Fin cfg0.N, win0_8.index t = ![t.val, 0, 0, 0] := (by decide +kernel : ∀ t : Fin grid0.N, win0_8.index t = ![t.val, 0, 0, 0])
theorem idx0_6 : ∀ t : Fin cfg0.N, win0_6.index t = ![t.val, 0] := (by decide +kernel : ∀ t : Fin grid0.N, win0_6.index t = ![t.val, 0])

/-- The projected rows, at the arguments of core `c`. -/
def spec (c : Dev nD) : S4096x5120.Idx → EReal := fun i =>
  inACtx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem mod_at (c : Dev nD) (col : Fin 6144) :
    V m c main_v1 (ix3 0 0 col) = m ((c : Thread nD τ).loc main_arg1) (ix3 0 0 col) := by
  unfold V
  after_reads_at

theorem rest1_at (c : Dev nD) (b : Fin 16) (l : Fin 2) (s : Fin 256) (f : Fin 1024) : V m c main_v26_1 (ix4 b l s f) = (0 : EReal) := by
  unfold V
  after_reads_at
  show broadcastInDim S16x2x256x1024 ![] bcast_S_S16x2x256x1024 (constant (F := Ideal) S_ FTy.f32 0#32) (ix4 b l s f) = (0 : EReal)
  pointwise

theorem rest2_at (c : Dev nD) (b : Fin 16) (l : Fin 2) (s : Fin 256) (f : Fin 1024) : V m c main_v26_2 (ix4 b l s f) = (0 : EReal) := by
  unfold V
  after_reads_at
  show broadcastInDim S16x2x256x1024 ![] bcast_S_S16x2x256x1024 (constant (F := Ideal) S_ FTy.f32 0#32) (ix4 b l s f) = (0 : EReal)
  pointwise

theorem x_at (c : Dev nD) (n : Fin 4096) (k : Fin 1024) :
    V m c main_v22 (ix2 n k) = m ((c : Thread nD τ).loc main_arg0) (ix3 ⟨n.val / 256, by omega⟩ ⟨n.val % 256, by omega⟩ k) := by
  unfold V
  after_reads_at

theorem g_at (c : Dev nD) (k : Fin 1024) : V m c main_v23 (ix2 0 k) = m ((c : Thread nD τ).loc main_arg2) (ix1 k) := by
  unfold V
  after_reads_at

theorem w_at (c : Dev nD) (j : Fin 1024) (k : Fin 5120) : V m c main_v25 (ix2 j k) = m ((c : Thread nD τ).loc main_arg3) (ix2 j ⟨k.val, by omega⟩) := by
  unfold V
  after_reads_at

theorem gq_at (c : Dev nD) (k : Fin 2048) :
    V m c main_v19 (ix2 0 k) = gain (fun k => m ((c : Thread nD τ).loc main_arg4) (ix1 k)) (fun k => m ((c : Thread nD τ).loc main_arg5) (ix1 k)) k := by
  unfold V gain
  after_reads_at
  have hk := k.isLt
  by_cases h : k.val < 1024
  · rw [dif_pos h, if_pos h]
    after_reads_at
  · rw [dif_neg h, if_neg h]
    after_reads_at
    exact congrArg (fun z : Fin 64 => m ((c : Thread nD τ).loc main_arg5) (ix1 z)) (Fin.ext (by show (k.val - 1024) % 64 = k.val % 64; omega))

/-- The quotient by 64 of a lane's number, as the program computes it. -/
def quot (i : Fin 256) : BitVec 32 :=
  Scalar.select
          (IntOp.andi
            (IntOp.cmpi CmpIPredicate.ne
              (if BitVec.ofNat 32 i.val = 0 then (0 : BitVec 32) else if (BitVec.ofNat 32 i.val).msb = true then -1 else 1)
              (if id (constantI S_ 32 64#32) ix0 = 0 then (0 : BitVec 32)
              else if BitVec.msb (id (constantI S_ 32 64#32) ix0) = true then -1 else 1))
            (IntOp.cmpi CmpIPredicate.ne
              (IntOp.remsi ArithUnit.host (BitVec.ofNat 32 i.val) (id (constantI S_ 32 64#32) ix0)) 0#32))
          (IntOp.subi (IntOp.divsi ArithUnit.host (BitVec.ofNat 32 i.val) (id (constantI S_ 32 64#32) ix0)) 1#32)
          (IntOp.divsi ArithUnit.host (BitVec.ofNat 32 i.val) (id (constantI S_ 32 64#32) ix0))

theorem quot_eq : ∀ i : Fin 256, quot i = BitVec.ofNat 32 (i.val / 64) := by decide +kernel

theorem same_at : ∀ a b : Fin 4, IntOp.cmpi CmpIPredicate.eq (BitVec.ofNat 32 a.val) (BitVec.ofNat 32 b.val) = if a.val = b.val then 1#1 else 0#1 := by decide

theorem bd_at (c : Dev nD) (i j : Fin 256) : V m c main_v11 (ix2 i j) = if i.val / 64 = j.val / 64 then (1 : EReal) else (0 : EReal) := by
  unfold V
  after_reads_at
  show FloatOps.uitofp (F := Ideal) FTy.bf16 (IntOp.cmpi CmpIPredicate.eq (quot i) (quot j)) = _
  rw [quot_eq, quot_eq]
  have e := same_at ⟨i.val / 64, by omega⟩ ⟨j.val / 64, by omega⟩
  rw [e]
  show FloatOps.uitofp (F := Ideal) FTy.bf16 (if i.val / 64 = j.val / 64 then 1#1 else 0#1) = _
  split
  · show (((1#1 : BitVec 1).toNat : ℝ) : EReal) = 1
    simp
  · show (((0#1 : BitVec 1).toNat : ℝ) : EReal) = 0
    simp

theorem b0 (c : Dev nD) (t : Fin cfg0.N) (r : Fin 512) (k : Fin 1024) (n : Fin 4096) (hn : n.val = t.val * 512 + r.val) :
    iblk m c 0 t (ix2 r k) = m ((c : Thread nD τ).loc main_arg0) (ix3 ⟨n.val / 256, by omega⟩ ⟨n.val % 256, by omega⟩ k) := by
  have e : iblk m c 0 t (ix2 r k) = V m c main_v22 (ix2 n k) := by
    blk_simp [iblk]
    refine congrArg _ ((eq_ix2 _).trans ?_)
    refine congr (congrArg ix2 (Fin.ext ?_)) (Fin.ext ?_) <;> blk_simp [idx0_0 t, hn]
  exact e.trans (x_at m c n k)
theorem b1 (c : Dev nD) (t : Fin cfg0.N) (k : Fin 6144) :
    iblk m c 1 t (ix3 0 0 k) = m ((c : Thread nD τ).loc main_arg1) (ix3 0 0 k) := by
  have e : iblk m c 1 t (ix3 0 0 k) = V m c main_v1 (ix3 0 0 k) := by
    blk_simp [iblk]
    refine congrArg _ ((eq_ix3 _).trans ?_)
    refine congr (congr (congrArg ix3 (Fin.ext ?_)) (Fin.ext ?_)) (Fin.ext ?_) <;> blk_simp [idx0_1 t]
    rfl
  exact e.trans (mod_at m c k)
theorem b2 (c : Dev nD) (t : Fin cfg0.N) (k : Fin 1024) :
    iblk m c 2 t (ix2 0 k) = m ((c : Thread nD τ).loc main_arg2) (ix1 k) := by
  have e : iblk m c 2 t (ix2 0 k) = V m c main_v23 (ix2 0 k) := by
    blk_simp [iblk]
    refine congrArg _ ((eq_ix2 _).trans ?_)
    refine congr (congrArg ix2 (Fin.ext ?_)) (Fin.ext ?_) <;> blk_simp [idx0_2 t]
  exact e.trans (g_at m c k)
theorem b3 (c : Dev nD) (t : Fin cfg0.N) (j : Fin 1024) (k : Fin 5120) :
    iblk m c 3 t (ix2 j k) = m ((c : Thread nD τ).loc main_arg3) (ix2 j ⟨k.val, by omega⟩) := by
  have e : iblk m c 3 t (ix2 j k) = V m c main_v25 (ix2 j k) := by
    blk_simp [iblk]
    refine congrArg _ ((eq_ix2 _).trans ?_)
    refine congr (congrArg ix2 (Fin.ext ?_)) (Fin.ext ?_) <;> blk_simp [idx0_3 t]
  exact e.trans (w_at m c j k)
theorem b4 (c : Dev nD) (t : Fin cfg0.N) (k : Fin 2048) :
    iblk m c 4 t (ix2 0 k) = gain (fun k => m ((c : Thread nD τ).loc main_arg4) (ix1 k)) (fun k => m ((c : Thread nD τ).loc main_arg5) (ix1 k)) k := by
  have e : iblk m c 4 t (ix2 0 k) = V m c main_v19 (ix2 0 k) := by
    blk_simp [iblk]
    refine congrArg _ ((eq_ix2 _).trans ?_)
    refine congr (congrArg ix2 (Fin.ext ?_)) (Fin.ext ?_) <;> blk_simp [idx0_4 t]
  exact e.trans (gq_at m c k)
theorem b5 (c : Dev nD) (t : Fin cfg0.N) (i j : Fin 256) :
    iblk m c 5 t (ix2 i j) = if i.val / 64 = j.val / 64 then (1 : EReal) else (0 : EReal) := by
  have e : iblk m c 5 t (ix2 i j) = V m c main_v11 (ix2 i j) := by
    blk_simp [iblk]
    refine congrArg _ ((eq_ix2 _).trans ?_)
    refine congr (congrArg ix2 (Fin.ext ?_)) (Fin.ext ?_) <;> blk_simp [idx0_5 t]
  exact e.trans (bd_at m c i j)

theorem inA_point (c : Dev nD) (t : Fin cfg0.N) (r : Fin 512) (k : Fin 5120) (n : Fin 4096) (hn : n.val = t.val * 512 + r.val) :
    inAPoint (iblk m c 0 t) (iblk m c 1 t) (iblk m c 2 t) (iblk m c 3 t) (iblk m c 4 t) r k = spec m c (ix2 n k) := by
  unfold inAPoint
  have e1 := fun k => b1 m c t k
  have e2 := b2 m c t
  have e3 := b3 m c t
  rw [funext fun k => b0 m c t r k n hn, funext fun k => b4 m c t k]
  simp only [e1, e2, e3]
  rfl

theorem point_at (c : Dev nD) (t : Fin cfg0.N) (r : Fin 512) (k : Fin 5120) (n : Fin 4096) (hn : n.val = t.val * 512 + r.val) :
    (outsAt0 m c t).1 (ix2 r k) = spec m c (ix2 n k) :=
  (out_at m c t (b5 m c t) r k).trans (inA_point m c t r k n hn)

/-- The keys' cache, at the arguments of core `c`. -/
def keySpec (c : Dev nD) : S16x2x256x1024.Idx → EReal := fun i => cacheCtx (fun n f => spec m c (ix2 n f)) 1024 (by decide) (i 0) (i 1) (i 2) (i 3)

/-- The values' cache, at the arguments of core `c`. -/
def valSpec (c : Dev nD) : S16x2x256x1024.Idx → EReal := fun i => cacheCtx (fun n f => spec m c (ix2 n f)) 2048 (by decide) (i 0) (i 1) (i 2) (i 3)

theorem final (c : Dev nD) : (dats m 0 c).arrAt 6 cfg0.N = spec m c := by
  refine (dats m 0 c).arrAt_eq_of_covers 6 _ (by decide +kernel) fun t hf y => ?_
  have ht : t.val < 8 := t.isLt
  have hemb : ∃ (r : Fin 512) (k : Fin 5120), y = ix2 r k ∧ ((cfg0.win 6).blk t).view.emb y = ix2 (⟨t.val * 512 + r.val, by omega⟩ : Fin 4096) k := by
    obtain ⟨r, k, rfl⟩ : ∃ (r : Fin 512) (k : Fin 5120), y = ix2 r k := ⟨y 0, y 1, eq_ix2 y⟩
    refine ⟨r, k, rfl, (eq_ix2 _).trans ?_⟩
    refine congr (congrArg ix2 (Fin.ext ?_)) (Fin.ext ?_) <;> blk_simp [idx0_6 t]
  obtain ⟨r, k, rfl, he⟩ := hemb
  rw [he]
  show (dats m 0 c).after 6 t (ix2 r k) = _
  rw [after0_6]
  exact point_at m c t r k _ rfl

theorem final_keys (c : Dev nD) : (dats m 0 c).arrAt 7 cfg0.N = keySpec m c := by
  refine (dats m 0 c).arrAt_eq_of_coversWhere_of_agree 7 _ (fun β => β (1 : Fin 4) = 0) (by decide +kernel) (fun t hf y => ?_) (fun j hj => ?_)
  · have ht : t.val < 8 := t.isLt
    have hemb : ∃ (b : Fin 2) (s : Fin 256) (f : Fin 1024), y = ix4 b 0 s f
        ∧ ((cfg0.win 7).blk t).view.emb y = ix4 (⟨t.val * 2 + b.val, by omega⟩ : Fin 16) (0 : Fin 2) s f := by
      obtain ⟨b, s, f, rfl⟩ : ∃ (b : Fin 2) (s : Fin 256) (f : Fin 1024), y = ix4 b 0 s f :=
        ⟨y 0, y 2, y 3, (eq_ix4 y).trans (congrArg (fun z : Fin 1 => ix4 (y 0) z (y 2) (y 3)) (Subsingleton.elim _ _))⟩
      refine ⟨b, s, f, rfl, (eq_ix4 _).trans ?_⟩
      refine congr (congr (congr (congrArg ix4 (Fin.ext ?_)) (Fin.ext ?_)) (Fin.ext ?_)) (Fin.ext ?_) <;> blk_simp [idx0_7 t]
      rfl
    obtain ⟨b, s, f, rfl, he⟩ := hemb
    rw [he]
    show (dats m 0 c).after 7 t (ix4 b 0 s f) = _
    rw [after0_7]
    refine (keys_at m c t (b5 m c t) b s f).trans ?_
    refine (inA_point m c t _ _ (⟨(t.val * 2 + b.val) * 256 + s.val, by omega⟩ : Fin 4096) (by show (t.val * 2 + b.val) * 256 + s.val = t.val * 512 + (b.val * 256 + s.val); omega)).trans ?_
    unfold keySpec cacheCtx
    exact (if_pos rfl).symm
  · obtain ⟨b, l, s, f, rfl⟩ : ∃ (b : Fin 16) (l : Fin 2) (s : Fin 256) (f : Fin 1024), j = ix4 b l s f := ⟨j 0, j 1, j 2, j 3, eq_ix4 j⟩
    have hl : l.val ≠ 0 := fun h => hj (by show l.val / 1 = 0; omega)
    refine Eq.trans ?_ ((rest1_at m c b l s f).trans ((if_neg hl).symm))
    rw [A_eq]
    rfl

theorem final_vals (c : Dev nD) : (dats m 0 c).arrAt 8 cfg0.N = valSpec m c := by
  refine (dats m 0 c).arrAt_eq_of_coversWhere_of_agree 8 _ (fun β => β (1 : Fin 4) = 0) (by decide +kernel) (fun t hf y => ?_) (fun j hj => ?_)
  · have ht : t.val < 8 := t.isLt
    have hemb : ∃ (b : Fin 2) (s : Fin 256) (f : Fin 1024), y = ix4 b 0 s f
        ∧ ((cfg0.win 8).blk t).view.emb y = ix4 (⟨t.val * 2 + b.val, by omega⟩ : Fin 16) (0 : Fin 2) s f := by
      obtain ⟨b, s, f, rfl⟩ : ∃ (b : Fin 2) (s : Fin 256) (f : Fin 1024), y = ix4 b 0 s f :=
        ⟨y 0, y 2, y 3, (eq_ix4 y).trans (congrArg (fun z : Fin 1 => ix4 (y 0) z (y 2) (y 3)) (Subsingleton.elim _ _))⟩
      refine ⟨b, s, f, rfl, (eq_ix4 _).trans ?_⟩
      refine congr (congr (congr (congrArg ix4 (Fin.ext ?_)) (Fin.ext ?_)) (Fin.ext ?_)) (Fin.ext ?_) <;> blk_simp [idx0_8 t]
      rfl
    obtain ⟨b, s, f, rfl, he⟩ := hemb
    rw [he]
    show (dats m 0 c).after 8 t (ix4 b 0 s f) = _
    rw [after0_8]
    refine (vals_at m c t (b5 m c t) b s f).trans ?_
    refine (inA_point m c t _ _ (⟨(t.val * 2 + b.val) * 256 + s.val, by omega⟩ : Fin 4096) (by show (t.val * 2 + b.val) * 256 + s.val = t.val * 512 + (b.val * 256 + s.val); omega)).trans ?_
    unfold valSpec cacheCtx
    exact (if_pos rfl).symm
  · obtain ⟨b, l, s, f, rfl⟩ : ∃ (b : Fin 16) (l : Fin 2) (s : Fin 256) (f : Fin 1024), j = ix4 b l s f := ⟨j 0, j 1, j 2, j 3, eq_ix4 j⟩
    have hl : l.val ≠ 0 := fun h => hj (by show l.val / 1 = 0; omega)
    refine Eq.trans ?_ ((rest2_at m c b l s f).trans ((if_neg hl).symm))
    rw [A_eq]
    rfl

end Cert.InACtxIdeal.Gen
-- ==== Proof.Layer.InACtx.Ref.lean ====
/-
  The reference of the context stream's first input projection, read at every element.
-/
module

public import proofs.«01_k».proof.Proof.Gen.InACtxReferenceIdeal.Read
public import proofs.«01_k».proof.Proof.Layer.InACtx.Spec

@[expose] public section

set_option maxRecDepth 16384

noncomputable section

open Idealize.ShloMosaic Idealize.ShloMosaic.TcCoe Idealize.SL.Sem

namespace Cert.InACtxReferenceIdeal.Read
open Cert.InACtxReferenceIdeal Cert.Layer

variable (x0 : S16x256x1024.Idx → EReal) (x1 : S1x1x6144.Idx → EReal) (x2 : S1024.Idx → EReal) (x3 : S1024x10304.Idx → EReal)
  (x4 : S64.Idx → EReal) (x5 : S64.Idx → EReal)

theorem norm_at (b : Fin 16) (s : Fin 256) (k : Fin 1024) :
    val_main_v20 (F := Ideal) x0 x1 x2 (ix3 b s k)
      = normMod modW epsW (fun k => x0 (ix3 b s k)) (fun k => x2 (ix1 k)) (fun k => x1 (ix3 0 0 ⟨1024 + k.val, by omega⟩))
          (fun k => x1 (ix3 0 0 ⟨0 + k.val, by omega⟩)) k := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2]
  unfold normMod rms
  simp only [Nat.zero_add]

/-- One element of a row's projection. -/
def up (b : Fin 16) (s : Fin 256) (f : Fin 5120) : EReal :=
  upAt (fun k => x0 (ix3 b s k)) (fun k => x2 (ix1 k)) (fun k => x1 (ix3 0 0 ⟨1024 + k.val, by omega⟩))
          (fun k => x1 (ix3 0 0 ⟨0 + k.val, by omega⟩)) (fun k => x3 (ix2 k ⟨f.val, by omega⟩))

theorem up_at (b : Fin 16) (s : Fin 256) (f : Fin 5120) : val_main_v22 (F := Ideal) x0 x1 x2 x3 (ix3 b s f) = up x0 x1 x2 x3 b s f := by
  have h := norm_at x0 x1 x2 b s
  unfold val_main_v22
  generalize val_main_v20 (F := Ideal) x0 x1 x2 = z at *
  pointwise [val_main_v21]
  simp only [h]
  rfl

theorem q_at (n : Fin 4096) (f : Fin 1024) :
    val_main_v54 (F := Ideal) x0 x1 x2 x3 x4 (ix2 n f)
      = headAt (fun j => up x0 x1 x2 x3 ⟨n.val / 256, by omega⟩ ⟨n.val % 256, by omega⟩ ⟨f.val / 64 * 64 + j.val, by omega⟩)
          (up x0 x1 x2 x3 ⟨n.val / 256, by omega⟩ ⟨n.val % 256, by omega⟩ ⟨f.val, by omega⟩) (x4 (ix1 ⟨f.val % 64, by omega⟩)) := by
  have h := up_at x0 x1 x2 x3
  unfold val_main_v54 val_main_v37 val_main_v34 val_main_v33 val_main_v32 val_main_v31 val_main_v29 val_main_v27 val_main_v26 val_main_v25 val_main_v24 val_main_v23
  generalize val_main_v22 (F := Ideal) x0 x1 x2 x3 = z at *
  pointwise [val_main_v36, val_main_v35, val_main_v30, val_main_v28, val_main_cst_3, val_main_cst_4, val_main_cst_5]
  simp only [h]
  rfl

theorem k_at (n : Fin 4096) (f : Fin 1024) :
    val_main_v55 (F := Ideal) x0 x1 x2 x3 x5 (ix2 n f)
      = headAt (fun j => up x0 x1 x2 x3 ⟨n.val / 256, by omega⟩ ⟨n.val % 256, by omega⟩ ⟨1024 + (f.val / 64 * 64 + j.val), by omega⟩)
          (up x0 x1 x2 x3 ⟨n.val / 256, by omega⟩ ⟨n.val % 256, by omega⟩ ⟨1024 + f.val, by omega⟩) (x5 (ix1 ⟨f.val % 64, by omega⟩)) := by
  have h := up_at x0 x1 x2 x3
  unfold val_main_v55 val_main_v52 val_main_v49 val_main_v48 val_main_v47 val_main_v46 val_main_v44 val_main_v42 val_main_v41 val_main_v40 val_main_v39 val_main_v38
  generalize val_main_v22 (F := Ideal) x0 x1 x2 x3 = z at *
  pointwise [val_main_v51, val_main_v50, val_main_v45, val_main_v43, val_main_cst_6, val_main_cst_7, val_main_cst_8]
  simp only [h]
  rfl

theorem rest_at (n : Fin 4096) (f : Fin 3072) :
    val_main_v57 (F := Ideal) x0 x1 x2 x3 (ix2 n f) = up x0 x1 x2 x3 ⟨n.val / 256, by omega⟩ ⟨n.val % 256, by omega⟩ ⟨2048 + f.val, by omega⟩ := by
  have h := up_at x0 x1 x2 x3
  unfold val_main_v57 val_main_v56
  generalize val_main_v22 (F := Ideal) x0 x1 x2 x3 = z at *
  pointwise
  exact h _ _ _

theorem result_at (n : Fin 4096) (f : Fin 5120) :
    val_main_v59 (F := Ideal) x0 x1 x2 x3 x4 x5 (ix2 n f) = inACtx x0 x1 x2 x3 x4 x5 n f := by
  have hq := q_at x0 x1 x2 x3 x4 n
  have hk := k_at x0 x1 x2 x3 x5 n
  have hr := rest_at x0 x1 x2 x3 n
  unfold val_main_v59 val_main_v58
  generalize val_main_v54 (F := Ideal) x0 x1 x2 x3 x4 = a at *
  generalize val_main_v55 (F := Ideal) x0 x1 x2 x3 x5 = b at *
  generalize val_main_v57 (F := Ideal) x0 x1 x2 x3 = d at *
  pointwise
  unfold inACtx inA gain
  have hf := f.isLt
  by_cases h1 : f.val < 1024
  · rw [dif_pos h1, dif_pos (show f.val < 2048 by omega), if_pos (show (⟨f.val, by omega⟩ : Fin 2048).val < 1024 from h1), hq]
    rfl
  · rw [dif_neg h1]
    by_cases h2 : f.val < 2048
    · rw [dif_pos (show f.val - 1024 < 1024 by omega), dif_pos h2, if_neg (show ¬ (⟨f.val, by omega⟩ : Fin 2048).val < 1024 from h1), hk]
      refine congr (congr (congrArg headAt (funext fun j => ?_)) ?_) ?_
      · exact congrArg (up x0 x1 x2 x3 _ _) (Fin.ext (by show 1024 + ((f.val - 1024) / 64 * 64 + j.val) = f.val / 64 * 64 + j.val; omega))
      · exact congrArg (up x0 x1 x2 x3 _ _) (Fin.ext (by show 1024 + (f.val - 1024) = f.val; omega))
      · exact congrArg (fun z : Fin 64 => x5 (ix1 z)) (Fin.ext (by show (f.val - 1024) % 64 = f.val % 64; omega))
    · rw [dif_neg (show ¬ f.val - 1024 < 1024 by omega), dif_neg h2, hr]
      exact congrArg (up x0 x1 x2 x3 _ _) (Fin.ext (by show 2048 + (f.val - 1024 - 1024) = f.val; omega))

/-- A cache's first layer, read; the second is zero. -/
theorem keys_at (b : Fin 16) (l : Fin 2) (s : Fin 256) (f : Fin 1024) :
    val_main_v64 (F := Ideal) x0 x1 x2 x3 x5 (ix4 b l s f) = cacheCtx (fun n f => inACtx x0 x1 x2 x3 x4 x5 n f) 1024 (by decide) b l s f := by
  have h : val_main_v61 (F := Ideal) x0 x1 x2 x3 x5 (ix3 b s f) = val_main_v55 (F := Ideal) x0 x1 x2 x3 x5 (ix2 (⟨b.val * 256 + s.val, by omega⟩ : Fin 4096) f) := by
    unfold val_main_v61 val_main_v55
    generalize val_main_v52 (F := Ideal) x0 x1 x2 x3 x5 = z
    pointwise
  unfold val_main_v64 val_main_v62
  generalize val_main_v61 (F := Ideal) x0 x1 x2 x3 x5 = z at *
  pointwise [val_main_v63, val_main_v60, val_main_cst_9]
  unfold cacheCtx
  have hf := f.isLt
  by_cases h1 : l.val = 0
  · rw [dif_pos (show l.val < 1 by omega), if_pos h1, h, k_at]
    show _ = inACtx x0 x1 x2 x3 x4 x5 ⟨b.val * 256 + s.val, by omega⟩ ⟨1024 + f.val, by omega⟩
    unfold inACtx inA gain
    rw [dif_pos (show 1024 + f.val < 2048 by omega), if_neg (show ¬ 1024 + f.val < 1024 by omega)]
    refine congr (congr (congrArg headAt (funext fun j => ?_)) ?_) ?_
    · exact congrArg (up x0 x1 x2 x3 _ _) (Fin.ext (by show 1024 + (f.val / 64 * 64 + j.val) = (1024 + f.val) / 64 * 64 + j.val; omega))
    · rfl
    · exact congrArg (fun z : Fin 64 => x5 (ix1 z)) (Fin.ext (by show f.val % 64 = (1024 + f.val) % 64; omega))
  · rw [dif_neg (show ¬ l.val < 1 by omega), if_neg h1]

theorem vals_at (b : Fin 16) (l : Fin 2) (s : Fin 256) (f : Fin 1024) :
    val_main_v67 (F := Ideal) x0 x1 x2 x3 (ix4 b l s f) = cacheCtx (fun n f => inACtx x0 x1 x2 x3 x4 x5 n f) 2048 (by decide) b l s f := by
  have h := up_at x0 x1 x2 x3
  unfold val_main_v67 val_main_v65 val_main_v53
  generalize val_main_v22 (F := Ideal) x0 x1 x2 x3 = z at *
  pointwise [val_main_v66, val_main_v60, val_main_cst_9]
  simp only [h]
  unfold cacheCtx
  have hf := f.isLt
  have hs := s.isLt
  by_cases h1 : l.val = 0
  · rw [dif_pos (show l.val < 1 by omega), if_pos h1]
    show _ = inACtx x0 x1 x2 x3 x4 x5 ⟨b.val * 256 + s.val, by omega⟩ ⟨2048 + f.val, by omega⟩
    unfold inACtx inA
    rw [dif_neg (show ¬ 2048 + f.val < 2048 by omega)]
    have eb : (⟨(b.val * 256 + s.val) / 256, by omega⟩ : Fin 16) = b := Fin.ext (by show (b.val * 256 + s.val) / 256 = b.val; omega)
    have es : (⟨(b.val * 256 + s.val) % 256, by omega⟩ : Fin 256) = s := Fin.ext (by show (b.val * 256 + s.val) % 256 = s.val; omega)
    show _ = upAt (fun k => x0 (ix3 ⟨(b.val * 256 + s.val) / 256, _⟩ ⟨(b.val * 256 + s.val) % 256, _⟩ k)) _ _ _ _
    rw [eb, es]
    rfl
  · rw [dif_neg (show ¬ l.val < 1 by omega), if_neg h1]

end Cert.InACtxReferenceIdeal.Read
-- ==== Proof.Layer.InACtx.Run.lean ====
/-
  The context stream's first input projection: the call's results are the reference's.
-/
module

public import proofs.«01_k».proof.Defs
public import proofs.«01_k».proof.Proof.Layer.InACtx.Arr
public import proofs.«01_k».proof.Proof.Layer.InACtx.Ref
public import proofs.«01_k».proof.Proof.Gen.InACtxReferenceIdeal.Run

@[expose] public section

set_option maxRecDepth 16384

noncomputable section

open Idealize.ShloMosaic Idealize.ShloMosaic.TcCoe Idealize.SL.Sem

namespace Cert.Layer.InACtx

theorem frame_reference : Cert.quiescent_InACtxReferenceIdeal (hInACtxReferenceIdeal := Cert.InACtxReferenceIdeal.Gen.facts) := fun m ρ _ =>
  (θ_run _ _ _).mono (fun _ h => ⟨fun c => (h c).2.2.2, sem_eq_zero_of_no_sems rfl _⟩) (Cert.InACtxReferenceIdeal.Value.run (F := Ideal) m ρ)

set_option maxHeartbeats 1000000 in
theorem algebraic : Cert.algebraic_InACtxIdeal_InACtxReferenceIdeal (hInACtxIdeal := Cert.InACtxIdeal.Gen.facts)
    (hInACtxReferenceIdeal := Cert.InACtxReferenceIdeal.Gen.facts) := by
  intro m g m' g' hpre hargs
  refine ⟨fun c => Cert.InACtxIdeal.Gen.spec m c, fun c => Cert.InACtxIdeal.Gen.keySpec m c, fun c => Cert.InACtxIdeal.Gen.valSpec m c,
    (θ_run _ _ _).mono (fun _ h c => ⟨(h c).1.trans (Cert.InACtxIdeal.Gen.final m c), (h c).2.1.trans (Cert.InACtxIdeal.Gen.final_keys m c),
      (h c).2.2.1.trans (Cert.InACtxIdeal.Gen.final_vals m c), (h c).2.2.2⟩) (Cert.InACtxIdeal.Value.run_blocks m g),
    (θ_run _ _ _).mono (fun _ h c => ⟨(h c).1.trans ?_, (h c).2.1.trans ?_, (h c).2.2.1.trans ?_, (h c).2.2.2⟩)
      (Cert.InACtxReferenceIdeal.Value.run (F := Ideal) m' g')⟩
  · obtain ⟨a0, a1, a2, a3, a4, a5⟩ := hargs c
    rw [Cert.InACtxReferenceIdeal.Read.val_main_v59_eq, a0, a1, a2, a3, a4, a5]
    funext i
    rw [eq_ix2 i]
    exact Cert.InACtxReferenceIdeal.Read.result_at _ _ _ _ _ _ _ _
  · obtain ⟨a0, a1, a2, a3, a4, a5⟩ := hargs c
    rw [Cert.InACtxReferenceIdeal.Read.val_main_v64_eq, a0, a1, a2, a3, a5]
    funext i
    rw [eq_ix4 i]
    exact Cert.InACtxReferenceIdeal.Read.keys_at _ _ _ _ _ _ _ _ _ _
  · obtain ⟨a0, a1, a2, a3, a4, a5⟩ := hargs c
    refine (Cert.InACtxReferenceIdeal.Read.val_main_v67_eq _ _ _ _).trans ?_
    rw [a0, a1, a2, a3]
    funext i
    rw [eq_ix4 i]
    exact Cert.InACtxReferenceIdeal.Read.vals_at _ _ _ _ (m ((c : Thread Cert.InACtxIdeal.nD Cert.InACtxIdeal.τ).loc Cert.InACtxIdeal.main_arg4)) (m ((c : Thread Cert.InACtxIdeal.nD Cert.InACtxIdeal.τ).loc Cert.InACtxIdeal.main_arg5)) _ _ _ _

end Cert.Layer.InACtx
-- ==== Proof.Layer.InBCtx.Out.lean ====
/-
  What one point of the context's second input projection stores, at every element: ten blocks of 512 columns, the first six convolved along
  the tokens and activated, and the step sizes' columns.
-/
module

public import proofs.«01_k».proof.Proof.Gen.InBCtxIdeal.Value
public import proofs.«01_k».proof.Proof.Layer.InB
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pipeline

namespace Cert.InBCtxIdeal.Gen
open Cert.Layer

variable (m : (l : Loc nD τ sig) → Buf (Elt Ideal) l)

/-- The convolved projection of row `r` of a point, from the projections `u` of its rows: 512 of its own, then the eight
    before and the eight after; `p` is the row's place in its sequence. -/
def convRow (p : BitVec 32) (kb ka : BitVec 1) (u : Fin 528 → EReal) (c0 c1 c2 c3 b : EReal) (r : Fin 512) : EReal :=
  c0 * Scalar.select (Scalar.cmpi .sge p 2#32) (if h : r.val < 2 then Scalar.select kb (u ⟨518 + r.val, by omega⟩) 0 else u ⟨r.val - 2, by omega⟩) 0
    + c1 * Scalar.select (Scalar.cmpi .sge p 1#32) (if h : r.val = 0 then Scalar.select kb (u 519) 0 else u ⟨r.val - 1, by omega⟩) 0 + c2 * u ⟨r.val, by omega⟩
    + c3 * Scalar.select (Scalar.cmpi .ne p 255#32) (if h : r.val = 511 then Scalar.select ka (u 520) 0 else u ⟨r.val + 1, by omega⟩) 0 + b

/-- The projected rows, convolved. -/
def convs (p : BitVec 32) (kb ka : BitVec 1) (H : S528x1024.Idx → EReal) (W : S1024x512.Idx → EReal) (cw : S4x512.Idx → EReal) (cb : S1x512.Idx → EReal) (r x : Fin 512) : EReal :=
  convRow p kb ka (fun row => ∑ k : Fin 1024, H (ix2 row k) * W (ix2 k x)) (cw (ix2 0 x)) (cw (ix2 1 x)) (cw (ix2 2 x)) (cw (ix2 3 x)) (cb (ix2 0 x)) r

theorem mul_sel (k : BitVec 1) (a b : EReal) : Scalar.select k (a * b) 0 = a * Scalar.select k b 0 := by
  unfold Scalar.select
  split
  · rfl
  · exact (mul_zero a).symm

/-- A block of 512 convolved columns, before its activation: half of it. -/
def half (p : S512x1.Idx → BitVec 32) (kb ka : BitVec 1) (H : S528x1024.Idx → EReal) (W : S1024x512.Idx → EReal) (cw : S4x512.Idx → EReal) (cb : S1x512.Idx → EReal) : S512x512.Idx → EReal :=
  k0_pay28 (F := Ideal) p (k0_pay26 (F := Ideal) H W) (k0_pay27 (F := Ideal) kb ka H W) 2#32 cw cb

/-- A block of 512 convolved and activated columns. -/
def tile (p : S512x1.Idx → BitVec 32) (kb ka : BitVec 1) (H : S528x1024.Idx → EReal) (W : S1024x512.Idx → EReal) (cw : S4x512.Idx → EReal) (cb : S1x512.Idx → EReal) : S512x512.Idx → EReal := k0_pay29 (F := Ideal) (half p kb ka H W cw cb)

theorem half_at (p : S512x1.Idx → BitVec 32) (kb ka : BitVec 1) (H : S528x1024.Idx → EReal) (W : S1024x512.Idx → EReal) (cw : S4x512.Idx → EReal) (cb : S1x512.Idx → EReal) (r x : Fin 512) :
    half p kb ka H W cw cb (ix2 r x) = Ideal.ofBits .f32 0x3F000000#32 * convs (p (ix2 r 0)) kb ka H W cw cb r x := by
  pointwise [half, k0_pay28, k0_pay27, k0_pay26]
  simp only [mul_sel]
  unfold convs convRow
  have hr := r.isLt
  refine congrArg _ ?_
  refine congr (congrArg HAdd.hAdd (congr (congrArg HAdd.hAdd (congr (congrArg HAdd.hAdd (congr (congrArg HAdd.hAdd (congrArg _ (congrArg (fun z : EReal => Scalar.select (Scalar.cmpi .sge (p (ix2 r 0)) 2#32) z 0) ?_))) (congrArg _ (congrArg (fun z : EReal => Scalar.select (Scalar.cmpi .sge (p (ix2 r 0)) 1#32) z 0) ?_)))) rfl)) (congrArg _ (congrArg (fun z : EReal => Scalar.select (Scalar.cmpi .ne (p (ix2 r 0)) 255#32) z 0) ?_)))) rfl
  · by_cases h0 : r.val < 2
    on_goal 1 => rw [dif_pos h0]
    on_goal 2 => rw [dif_neg h0]
    all_goals split_ifs
    all_goals first
      | omega
      | exact congrArg (fun z => Scalar.select kb z 0) (congrArg (fun z : Fin 528 => ∑ k : Fin 1024, H (ix2 z k) * W (ix2 k x)) (Fin.ext (by first | omega | (simp; done) | (simp; omega) | (show _ = (_ : Nat); change _ = 519; omega) | (change _ = 520; omega))))
      | exact congrArg (fun z : Fin 528 => ∑ k : Fin 1024, H (ix2 z k) * W (ix2 k x)) (Fin.ext (by first | omega | (simp; done) | (simp; omega) | (show _ = (_ : Nat); change _ = 519; omega) | (change _ = 520; omega)))
  · by_cases h0 : r.val = 0
    on_goal 1 => rw [dif_pos h0]
    on_goal 2 => rw [dif_neg h0]
    all_goals split_ifs
    all_goals first
      | omega
      | exact congrArg (fun z => Scalar.select kb z 0) (congrArg (fun z : Fin 528 => ∑ k : Fin 1024, H (ix2 z k) * W (ix2 k x)) (Fin.ext (by first | omega | (simp; done) | (simp; omega) | (show _ = (_ : Nat); change _ = 519; omega) | (change _ = 520; omega))))
      | exact congrArg (fun z : Fin 528 => ∑ k : Fin 1024, H (ix2 z k) * W (ix2 k x)) (Fin.ext (by first | omega | (simp; done) | (simp; omega) | (show _ = (_ : Nat); change _ = 519; omega) | (change _ = 520; omega)))
  · by_cases h0 : r.val = 511
    on_goal 1 => rw [dif_pos h0]
    on_goal 2 => rw [dif_neg h0]
    all_goals split_ifs
    all_goals first
      | omega
      | exact congrArg (fun z => Scalar.select ka z 0) (congrArg (fun z : Fin 528 => ∑ k : Fin 1024, H (ix2 z k) * W (ix2 k x)) (Fin.ext (by first | omega | (simp; done) | (simp; omega) | (show _ = (_ : Nat); change _ = 519; omega) | (change _ = 520; omega))))
      | exact congrArg (fun z : Fin 528 => ∑ k : Fin 1024, H (ix2 z k) * W (ix2 k x)) (Fin.ext (by first | omega | (simp; done) | (simp; omega) | (show _ = (_ : Nat); change _ = 519; omega) | (change _ = 520; omega)))

theorem act_at (p : S512x1.Idx → BitVec 32) (kb ka : BitVec 1) (H : S528x1024.Idx → EReal) (W : S1024x512.Idx → EReal) (cw : S4x512.Idx → EReal) (cb : S1x512.Idx → EReal) (r x : Fin 512) :
    tile p kb ka H W cw cb (ix2 r x) = siluK (convs (p (ix2 r 0)) kb ka H W cw cb r x) := by
  have e := half_at p kb ka H W cw cb r x
  unfold tile
  generalize half p kb ka H W cw cb = Y at *
  pointwise [k0_pay29]
  rw [e]
  simp only [half_word]
  rfl

theorem plain_at (H : S512x1024.Idx → EReal) (W : S1024x512.Idx → EReal) (r x : Fin 512) :
    k0_pay48 (F := Ideal) H W (ix2 r x) = ∑ k : Fin 1024, H (ix2 r k) * W (ix2 k x) := by
  pointwise [k0_pay48]

section
variable (p : S512x1.Idx → BitVec 32) (kb ka : BitVec 1) (H : S528x1024.Idx → EReal) (W : S1024x512.Idx → EReal) (cw : S4x512.Idx → EReal) (cb : S1x512.Idx → EReal)
theorem tile_0 (a0 : BitVec 32) (hb : Scalar.cmpi CmpIPredicate.ne (Scalar.andi (Scalar.muli a0 512#32) 255#32) 0#32 = kb) :
    k0_pay18 (F := Ideal) (k0_pay16 (F := Ideal) p ka (k0_pay12 (F := Ideal) H W) (k0_pay13 (F := Ideal) a0 H W) (k0_pay14 (F := Ideal) H W) (k0_pay15 (F := Ideal)) cw) (k0_pay17 (F := Ideal) cb)
      = tile p kb ka H W cw cb := by
  subst hb
  rfl
theorem tile_1 : k0_pay25 (F := Ideal) (k0_pay19 (F := Ideal) H W) (k0_pay21 (F := Ideal) kb ka H W) (k0_pay22 (F := Ideal) p kb ka H W) (k0_pay23 (F := Ideal) p kb ka H W) (k0_pay24 p)
    (FloatOps.ofBits (F := Ideal) FTy.f32 0#32) cw cb = tile p kb ka H W cw cb := rfl
theorem tile_2 : k0_pay29 (F := Ideal) (k0_pay28 (F := Ideal) p (k0_pay26 (F := Ideal) H W) (k0_pay27 (F := Ideal) kb ka H W) 2#32 cw cb) = tile p kb ka H W cw cb := rfl
theorem tile_3 : k0_pay35 (F := Ideal) (k0_pay30 (F := Ideal) H W) (k0_pay32 (F := Ideal) p kb ka H W) (k0_pay33 (F := Ideal) p kb ka H W) (k0_pay34 (F := Ideal) p kb ka H W) cw cb
    = tile p kb ka H W cw cb := rfl
theorem tile_4 : k0_pay40 (F := Ideal) p (k0_pay36 (F := Ideal) H W) (k0_pay37 (F := Ideal) kb ka H W) (k0_pay38 (F := Ideal) kb ka H W) (k0_pay39 (F := Ideal) kb ka H W) cw cb
    = tile p kb ka H W cw cb := rfl
theorem tile_5 : k0_pay47 (F := Ideal) (k0_pay41 (F := Ideal) H W) (k0_pay43 (F := Ideal) p kb ka H W) (k0_pay44 (F := Ideal) p kb ka H W) (k0_pay45 (F := Ideal) p kb ka H W) cw
    (k0_pay46 (F := Ideal) cw) cb = tile p kb ka H W cw cb := rfl
end
section
variable (H : S512x1024.Idx → EReal) (W : S1024x512.Idx → EReal)
theorem tile_7 : k0_pay49 (F := Ideal) H W = k0_pay48 (F := Ideal) H W := rfl
theorem tile_8 : k0_pay1 (F := Ideal) H W = k0_pay48 (F := Ideal) H W := rfl
theorem tile_9 : k0_pay2 (F := Ideal) H W = k0_pay48 (F := Ideal) H W := rfl
theorem tile_10 : k0_pay3 (F := Ideal) H W = k0_pay48 (F := Ideal) H W := rfl
end

theorem ld_w {e : EltTy} {n w : Nat} (X : (⟨2, ![n, w]⟩ : Shape).Idx → Elt Ideal e) (o z : Nat) (inb) (k : Fin n) (x : Fin z) (h : o + x.val < w) :
    View.ld (Val := Elt Ideal) (e' := e) (S := ⟨2, ![n, w]⟩) X (Rect.unit ![0, o] ![n, z] inb) (ix2 k x) = X (ix2 k ⟨o + x.val, h⟩) :=
  View.ld_unit_apply_of (Val := Elt Ideal) (e := e) X _ _ inb (ix2 k x) (ix2 k ⟨o + x.val, h⟩) fun a => by
    match a with
    | ⟨0, _⟩ => exact (Nat.zero_add _).symm
    | ⟨1, _⟩ => rfl

theorem ld_m (X : S1x1x6144.Idx → EReal) (o : Nat) (inb) (x : Fin 1024) (h : o + x.val < 6144) :
    View.ld (Val := Elt Ideal) (e' := .f32) (S := S1x1x6144) X (Rect.unit ![0, 0, o] ![1, 1, 1024] inb) (ix3 0 0 x) = X (ix3 0 0 ⟨o + x.val, h⟩) :=
  View.ld_unit_apply_of (Val := Elt Ideal) (e := .f32) X _ _ inb (ix3 0 0 x) (ix3 0 0 ⟨o + x.val, h⟩) fun a => by
    match a with
    | ⟨0, _⟩ => rfl
    | ⟨1, _⟩ => rfl
    | ⟨2, _⟩ => rfl

theorem pass (P : S512x512.Idx → EReal) (L : List (View.Piece (Elt Ideal) S512x5120 .bf16)) (o : Nat) (i) (r : Fin 512) (x : Fin 5120) (h : x.val < o ∨ o + 512 ≤ x.val) :
    View.canon (⟨Rect.unit (s := S512x5120) ![0, o] ![512, 512] i, P⟩ :: L) (ix2 r x) = View.canon L (ix2 r x) := by
  refine View.canon_cons_of_not_mem _ _ fun hm => ?_
  obtain ⟨j, hj, e⟩ := (LoadRect.mem_set _).mp hm (1 : Fin 2)
  have e1 : x.val = o + 1 * j := e
  have e2 : j < 512 := hj
  omega

theorem here (P : S512x512.Idx → EReal) (L : List (View.Piece (Elt Ideal) S512x5120 .bf16)) (o : Nat) (i) (r x : Fin 512) (y : Fin 5120) (h : y.val = o + x.val) :
    View.canon (⟨Rect.unit (s := S512x5120) ![0, o] ![512, 512] i, P⟩ :: L) (ix2 r y) = P (ix2 r x) := by
  have e : (ix2 r y : S512x5120.Idx) = (Rect.unit (s := S512x5120) ![0, o] ![512, 512] i).emb (ix2 r x) := by
    funext a
    match a with
    | ⟨0, _⟩ => exact Fin.ext (show r.val = 0 + 1 * r.val by omega)
    | ⟨1, _⟩ => exact Fin.ext (show y.val = o + 1 * x.val by omega)
  rw [e]
  exact View.canon_cons_emb (Val := Elt Ideal) (e := .bf16) _ _ _ _

section
variable (P8 : S16x1024.Idx → EReal) (P5 : S512x1024.Idx → EReal)
/-- The normed rows as the first scratch holds them: the neighbours', written last, and the point's own. -/
abbrev rows : S528x1024.Idx → EReal :=
  View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![528, 1024] inb_S528x1024_S528x1024_0_0).toLoadRect
theorem below (P : S16x1024.Idx → EReal) (L : List (View.Piece (Elt Ideal) S528x1024 .bf16)) (o o' : Nat) (i i') (h : o + 512 ≤ o') :
    (View.whole cc0_scratch0).readCov (⟨Rect.unit ![o', 0] ![16, 1024] i', P⟩ :: L) (Rect.unit (s := S528x1024) ![o, 0] ![512, 1024] i).toLoadRect
      = (View.whole cc0_scratch0).readCov L (Rect.unit (s := S528x1024) ![o, 0] ![512, 1024] i).toLoadRect :=
  View.readCov_cons_of_disjoint _ _ _ _ (Rect.unit_disjoint (inb := i') (inb' := i) (0 : Fin 2) (Or.inr h))
/-- The point's own rows, read back alone. -/
theorem rows_own : View.readCov (View.whole cc0_scratch0)
    ([⟨Rect.unit ![512, 0] ![16, 1024] inb_S528x1024_S16x1024_512_0, P8⟩, ⟨Rect.unit ![0, 0] ![512, 1024] inb_S528x1024_S512x1024_0_0, P5⟩] : List (View.Piece (Elt Ideal) S528x1024 .bf16))
    (Rect.unit (s := S528x1024) ![0, 0] ![512, 1024] inb_S528x1024_S512x1024_0_0).toLoadRect = P5 :=
  (below P8 _ 0 512 _ _ (by decide)).trans (View.readCov_cons_toLoadRect _ _ _ _)
theorem rows_main (r : Fin 512) (k : Fin 1024) : rows P8 P5 (ix2 ⟨r.val, by omega⟩ k) = P5 (ix2 r k) := by
  have e : (Rect.unit (s := S528x1024) ![0, 0] ![528, 1024] inb_S528x1024_S528x1024_0_0).toLoadRect.idx (ix2 ⟨r.val, by omega⟩ k)
      = (Rect.unit (s := S528x1024) ![0, 0] ![512, 1024] inb_S528x1024_S512x1024_0_0).emb (ix2 r k) := by
    funext a
    match a with
    | ⟨0, _⟩ => exact Fin.ext rfl
    | ⟨1, _⟩ => exact Fin.ext rfl
  unfold rows
  rw [View.readCov_eq_canon']
  show View.canon _ (LoadRect.idx _ _) = _
  rw [e, View.canon_cons_of_not_mem]
  · exact View.canon_cons_emb (Val := Elt Ideal) (e := .bf16) _ _ _ _
  · intro hm
    obtain ⟨j, _, hj⟩ := (LoadRect.mem_set _).mp hm (0 : Fin 2)
    have h1 : 0 + 1 * r.val = 512 + 1 * j := hj
    omega
theorem rows_side (r : Fin 16) (k : Fin 1024) : rows P8 P5 (ix2 ⟨512 + r.val, by omega⟩ k) = P8 (ix2 r k) := by
  have e : (Rect.unit (s := S528x1024) ![0, 0] ![528, 1024] inb_S528x1024_S528x1024_0_0).toLoadRect.idx (ix2 ⟨512 + r.val, by omega⟩ k)
      = (Rect.unit (s := S528x1024) ![512, 0] ![16, 1024] inb_S528x1024_S16x1024_512_0).emb (ix2 r k) := by
    funext a
    match a with
    | ⟨0, _⟩ => exact Fin.ext (show 0 + 1 * (512 + r.val) = 512 + 1 * r.val by omega)
    | ⟨1, _⟩ => exact Fin.ext rfl
  unfold rows
  rw [View.readCov_eq_canon']
  show View.canon _ (LoadRect.idx _ _) = _
  rw [e]
  exact View.canon_cons_emb (Val := Elt Ideal) (e := .bf16) _ _ _ _
end

theorem main_at (g : S1x1024.Idx → EReal) (sh sc : S1x1x1024.Idx → EReal) (x : S512x1024.Idx → EReal) (r : Fin 512) (k : Fin 1024) :
    k0_pay7 (F := Ideal) g sh sc x (ix2 r k)
      = normMod modW epsW (fun k => x (ix2 r k)) (fun k => g (ix2 0 k)) (fun k => sc (ix3 0 0 k)) (fun k => sh (ix3 0 0 k)) k := by
  pointwise [k0_pay7, k0_pay4, k0_pay5, k0_pay6]
  rfl

theorem side_at (g : S1x1024.Idx → EReal) (sh sc : S1x1x1024.Idx → EReal) (xp xn : S8x1024.Idx → EReal) (r : Fin 16) (k : Fin 1024) :
    k0_pay10 (F := Ideal) (k0_pay4 g) (k0_pay5 sh) (k0_pay6 sc) (k0_pay8 xp xn) (k0_pay9 xp xn) (ix2 r k)
      = normMod modW epsW (fun k => if h : r.val < 8 then xp (ix2 ⟨r.val, h⟩ k) else xn (ix2 ⟨r.val - 8, by omega⟩ k)) (fun k => g (ix2 0 k))
          (fun k => sc (ix3 0 0 k)) (fun k => sh (ix3 0 0 k)) k := by
  pointwise [k0_pay10, k0_pay4, k0_pay5, k0_pay6, k0_pay8, k0_pay9]
  rfl

end Cert.InBCtxIdeal.Gen
-- ==== Proof.Layer.InBCtx.Point.lean ====
/-
  One point of the context's second input projection, as the layer's own expression over the rows and weights its blocks hold.
-/
module

public import proofs.«01_k».proof.Proof.Layer.InBCtx.Out

@[expose] public section

set_option maxRecDepth 16384

noncomputable section

open Idealize.ShloMosaic Idealize.ShloMosaic.TcCoe Idealize.SL.Sem Idealize.ShloMosaic.Pipeline

namespace Cert.InBCtxIdeal.Gen
open Cert.Layer

variable (m : (l : Loc nD τ sig) → Buf (Elt Ideal) l)

/-- A row has a row before it in its sequence of 256, two before it, and one after it. -/
def lft (r : Fin 512) : Bool := decide (r.val % 256 ≠ 0)
def lft2 (r : Fin 512) : Bool := decide (2 ≤ r.val % 256)
def rgt (r : Fin 512) : Bool := decide (r.val % 256 ≠ 255)

/-- The row two before row `r`. -/
def rowLL (x : S512x1024.Idx → EReal) (r : Fin 512) (k : Fin 1024) : EReal := x (ix2 ⟨r.val - 2, by omega⟩ k)
/-- The row before row `r`. -/
def rowL (x : S512x1024.Idx → EReal) (r : Fin 512) (k : Fin 1024) : EReal := x (ix2 ⟨r.val - 1, by omega⟩ k)
/-- The row after row `r`. -/
def rowR (x : S512x1024.Idx → EReal) (r : Fin 512) (k : Fin 1024) : EReal := x (ix2 ⟨(r.val + 1) % 512, by omega⟩ k)

/-- A row's place in its sequence, as the call computes it. -/
theorem pos_at (i : Nat) (r : Fin 512) : (k0_pay11 (BitVec.ofNat 32 i) (ix2 r 0)).toNat = r.val % 256 := by
  have e : k0_pay11 (BitVec.ofNat 32 i) (ix2 r 0) = (BitVec.ofNat 32 i * 512#32 + BitVec.ofNat 32 r.val) &&& 255#32 := by
    pointwise [k0_pay11]
    rfl
  rw [e, BitVec.toNat_and]
  refine (Nat.and_two_pow_sub_one_eq_mod _ 8).trans ?_
  have hr := r.isLt
  simp only [BitVec.toNat_add, BitVec.toNat_mul, BitVec.toNat_ofNat]
  omega

/-- The three comparisons of a place in a sequence. -/
theorem cmp2 : ∀ q : Fin 256, Scalar.cmpi CmpIPredicate.sge (BitVec.ofNat 32 q.val) 2#32 = BitVec.ofBool (decide (2 ≤ q.val)) := by decide +kernel
theorem cmp1 : ∀ q : Fin 256, Scalar.cmpi CmpIPredicate.sge (BitVec.ofNat 32 q.val) 1#32 = BitVec.ofBool (decide (q.val ≠ 0)) := by decide +kernel
theorem cmpn : ∀ q : Fin 256, Scalar.cmpi CmpIPredicate.ne (BitVec.ofNat 32 q.val) 255#32 = BitVec.ofBool (decide (q.val ≠ 255)) := by decide +kernel

theorem sel_bool (b : Bool) (z : EReal) : Scalar.select (BitVec.ofBool b) z 0 = if b then z else 0 := by
  cases b <;> rfl

section
variable (g : S1x1024.Idx → EReal) (sh sc : S1x1x1024.Idx → EReal) (x : S512x1024.Idx → EReal) (xp xn : S8x1024.Idx → EReal)

/-- The first scratch's rows, from the blocks. -/
abbrev hrows : S528x1024.Idx → EReal :=
  rows (k0_pay10 (F := Ideal) (k0_pay4 g) (k0_pay5 sh) (k0_pay6 sc) (k0_pay8 xp xn) (k0_pay9 xp xn)) (k0_pay7 (F := Ideal) g sh sc x)

theorem hrows_main (w : Fin 1024 → EReal) (z : Fin 528) (r : Fin 512) (hz : z.val = r.val) :
    ∑ k : Fin 1024, hrows g sh sc x xp xn (ix2 z k) * w k
      = upAt (fun k => x (ix2 r k)) (fun k => g (ix2 0 k)) (fun k => sc (ix3 0 0 k)) (fun k => sh (ix3 0 0 k)) w := by
  rw [show z = ⟨r.val, by omega⟩ from Fin.ext hz]
  exact Finset.sum_congr rfl fun k _ => congrArg (fun z : EReal => z * w k) ((rows_main _ _ r k).trans (main_at g sh sc x r k))

theorem act_conv (p : BitVec 32) (kb ka : BitVec 1) (W : S1024x512.Idx → EReal) (cw : S4x512.Idx → EReal) (cb : S1x512.Idx → EReal) (r f : Fin 512)
    (hp : p.toNat = r.val % 256) :
    convs p kb ka (hrows g sh sc x xp xn) W cw cb r f
      = convB (lft2 r) (lft r) (rgt r) (rowLL x r) (rowL x r) (fun k => x (ix2 r k)) (rowR x r) (fun k => g (ix2 0 k)) (fun k => sc (ix3 0 0 k))
          (fun k => sh (ix3 0 0 k)) (cw (ix2 0 f)) (cw (ix2 1 f)) (cw (ix2 2 f)) (cw (ix2 3 f)) (cb (ix2 0 f)) (fun k => W (ix2 k f)) := by
  unfold convs convRow convB
  have hr := r.isLt
  have e : p = BitVec.ofNat 32 (⟨r.val % 256, by omega⟩ : Fin 256).val :=
    BitVec.eq_of_toNat_eq (hp.trans (by simp only [BitVec.toNat_ofNat]; omega))
  rw [e, cmp2, cmp1, cmpn, sel_bool, sel_bool, sel_bool]
  refine congr (congrArg HAdd.hAdd (congr (congrArg HAdd.hAdd (congr (congrArg HAdd.hAdd (congr (congrArg HAdd.hAdd (congrArg _ ?_)) (congrArg _ ?_))) (congrArg _ ?_))) (congrArg _ ?_))) rfl
  · by_cases h0 : 2 ≤ r.val % 256
    · rw [if_pos (show decide (2 ≤ r.val % 256) = true from decide_eq_true h0), if_pos (show lft2 r = true from decide_eq_true h0), dif_neg (show ¬ r.val < 2 by omega)]
      exact hrows_main g sh sc x xp xn (fun k => W (ix2 k f)) _ ⟨r.val - 2, by omega⟩ rfl
    · rw [if_neg (show ¬ decide (2 ≤ r.val % 256) = true from fun h => h0 (of_decide_eq_true h)), if_neg (show ¬ lft2 r = true from fun h => h0 (of_decide_eq_true h))]
  · by_cases h0 : r.val % 256 ≠ 0
    · rw [if_pos (show decide (r.val % 256 ≠ 0) = true from decide_eq_true h0), if_pos (show lft r = true from decide_eq_true h0), dif_neg (show ¬ r.val = 0 by omega)]
      exact hrows_main g sh sc x xp xn (fun k => W (ix2 k f)) _ ⟨r.val - 1, by omega⟩ rfl
    · rw [if_neg (show ¬ decide (r.val % 256 ≠ 0) = true from fun h => h0 (of_decide_eq_true h)), if_neg (show ¬ lft r = true from fun h => h0 (of_decide_eq_true h))]
  · exact hrows_main g sh sc x xp xn (fun k => W (ix2 k f)) _ r rfl
  · by_cases h0 : r.val % 256 ≠ 255
    · rw [if_pos (show decide (r.val % 256 ≠ 255) = true from decide_eq_true h0), if_pos (show rgt r = true from decide_eq_true h0), dif_neg (show ¬ r.val = 511 by omega)]
      exact hrows_main g sh sc x xp xn (fun k => W (ix2 k f)) _ ⟨(r.val + 1) % 512, by omega⟩ (Nat.mod_eq_of_lt (show r.val + 1 < 512 by omega)).symm
    · rw [if_neg (show ¬ decide (r.val % 256 ≠ 255) = true from fun h => h0 (of_decide_eq_true h)), if_neg (show ¬ rgt r = true from fun h => h0 (of_decide_eq_true h))]
end

/-- What the call stores at a point, from the point's blocks. -/
def inBPoint (x : S512x1024.Idx → EReal) (mo : S1x1x6144.Idx → EReal) (g : S1x1024.Idx → EReal)
    (w : S1024x5632.Idx → EReal) (cw : S4x3072.Idx → EReal) (cb : S1x3072.Idx → EReal) (r : Fin 512) (f : Fin 5120) : EReal :=
  inB siluK (lft2 r) (lft r) (rgt r) (rowLL x r) (rowL x r) (fun k => x (ix2 r k)) (rowR x r)
    (fun k => g (ix2 0 k)) (fun k => mo (ix3 0 0 ⟨1024 + k.val, by omega⟩)) (fun k => mo (ix3 0 0 ⟨0 + k.val, by omega⟩))
    (fun k f => w (ix2 k f)) (fun f => cw (ix2 0 f)) (fun f => cw (ix2 1 f)) (fun f => cw (ix2 2 f)) (fun f => cw (ix2 3 f)) (fun f => cb (ix2 0 f)) f

section
variable (p : S512x1.Idx → BitVec 32) (kb ka : BitVec 1) (x : S512x1024.Idx → EReal) (xp xn : S8x1024.Idx → EReal) (mo : S1x1x6144.Idx → EReal) (g : S1x1024.Idx → EReal)
    (w : S1024x5632.Idx → EReal) (cw : S4x3072.Idx → EReal) (cb : S1x3072.Idx → EReal)
/-- The shift and the scale, as the point reads them. -/
abbrev shOf : S1x1x1024.Idx → EReal := View.ld (Val := Elt Ideal) (e' := .f32) (S := S1x1x6144) mo (Rect.unit ![0, 0, 0] ![1, 1, 1024] inb_S1x1x6144_S1x1x1024_0_0_0)
abbrev scOf : S1x1x1024.Idx → EReal := View.ld (Val := Elt Ideal) (e' := .f32) (S := S1x1x6144) mo (Rect.unit ![0, 0, 1024] ![1, 1, 1024] inb_S1x1x6144_S1x1x1024_0_0_1024)

theorem up_at (o : Nat) (i2) (r x' : Fin 512) (y : Fin 5632) (h : y.val = o + x'.val) :
    k0_pay48 (F := Ideal) (k0_pay7 (F := Ideal) g (shOf mo) (scOf mo) x) (View.ld (Val := Elt Ideal) (e' := .bf16) (S := S1024x5632) w (Rect.unit ![0, o] ![1024, 512] i2)) (ix2 r x')
      = upAt (fun k => x (ix2 r k)) (fun k => g (ix2 0 k)) (fun k => mo (ix3 0 0 ⟨1024 + k.val, by omega⟩)) (fun k => mo (ix3 0 0 ⟨0 + k.val, by omega⟩)) (fun k => w (ix2 k y)) := by
  obtain ⟨y, hy⟩ := y
  have e : y = o + x'.val := h
  subst e
  rw [plain_at]
  refine Finset.sum_congr rfl fun k _ => congr (congrArg HMul.hMul ((main_at g (shOf mo) (scOf mo) x r k).trans ?_)) (ld_w (e := .bf16) w o 512 i2 k x' hy)
  refine congr (congr (congrArg (normMod modW epsW _ _) ?_) ?_) rfl
  · funext k; exact ld_m mo 1024 _ k _
  · funext k; exact ld_m mo 0 _ k _

theorem plain_of (o : Nat) (ho : 3072 ≤ o) (i2) (r x' : Fin 512) (y : Fin 5120) (h : y.val = o + x'.val) :
    k0_pay48 (F := Ideal) (k0_pay7 (F := Ideal) g (shOf mo) (scOf mo) x) (View.ld (Val := Elt Ideal) (e' := .bf16) (S := S1024x5632) w (Rect.unit ![0, o] ![1024, 512] i2)) (ix2 r x')
      = inBPoint x mo g w cw cb r y := by
  unfold inBPoint inB
  rw [dif_neg (by omega)]
  exact up_at x mo g w o i2 r x' ⟨y.val, by omega⟩ h

theorem conv_of (hp : ∀ r : Fin 512, (p (ix2 r 0)).toNat = r.val % 256) (o : Nat) (ho : o + 512 ≤ 3072) (i2 i3 i4) (r x' : Fin 512) (y : Fin 5120) (h : y.val = o + x'.val) :
    tile p kb ka (hrows g (shOf mo) (scOf mo) x xp xn) (View.ld (Val := Elt Ideal) (e' := .bf16) (S := S1024x5632) w (Rect.unit ![0, o] ![1024, 512] i2))
      (View.ld (Val := Elt Ideal) (e' := .f32) (S := S4x3072) cw (Rect.unit ![0, o] ![4, 512] i3))
      (View.ld (Val := Elt Ideal) (e' := .f32) (S := S1x3072) cb (Rect.unit ![0, o] ![1, 512] i4)) (ix2 r x')
      = inBPoint x mo g w cw cb r y := by
  obtain ⟨y, hy⟩ := y
  have e : y = o + x'.val := h
  subst e
  unfold inBPoint inB
  have hx := x'.isLt
  have hf : o + x'.val < 3072 := by omega
  rw [dif_pos (show o + x'.val < 3072 from hf), act_at, act_conv (hp := hp r)]
  refine congrArg siluK ?_
  unfold convB
  have hs : (fun k => shOf mo (ix3 0 0 k)) = fun k : Fin 1024 => mo (ix3 0 0 ⟨0 + k.val, by omega⟩) := funext fun k => ld_m mo 0 _ k _
  have hc : (fun k => scOf mo (ix3 0 0 k)) = fun k : Fin 1024 => mo (ix3 0 0 ⟨1024 + k.val, by omega⟩) := funext fun k => ld_m mo 1024 _ k _
  have hw : (fun k => View.ld (Val := Elt Ideal) (e' := .bf16) (S := S1024x5632) w (Rect.unit ![0, o] ![1024, 512] i2) (ix2 k x'))
    = fun k : Fin 1024 => w (ix2 k ⟨o + x'.val, by omega⟩) := funext fun k => ld_w (e := .bf16) w o 512 i2 k x' _
  rw [hs, hc, hw]
  have hcw : ∀ j : Fin 4, View.ld (Val := Elt Ideal) (e' := .f32) (S := S4x3072) cw (Rect.unit ![0, o] ![4, 512] i3) (ix2 j x') = cw (ix2 j ⟨o + x'.val, hf⟩) :=
    fun j => ld_w (e := .f32) cw o 512 i3 j x' _
  have hcb : View.ld (Val := Elt Ideal) (e' := .f32) (S := S1x3072) cb (Rect.unit ![0, o] ![1, 512] i4) (ix2 0 x') = cb (ix2 0 ⟨o + x'.val, hf⟩) :=
    ld_w (e := .f32) cb o 512 i4 0 x' _
  rw [hcw, hcw, hcw, hcw, hcb]
end

theorem out_at (c : Dev nD) (t : Fin cfg0.N) (r : Fin 512) (f : Fin 5120) :
    (outsAt0 m c t).1 (ix2 r f) = inBPoint (iblk m c 0 t) (iblk m c 3 t) (iblk m c 4 t) (iblk m c 5 t) (iblk m c 6 t) (iblk m c 7 t) r f := by
  unfold outsAt0
  frame_out
  generalize iblk m c 0 t = x
  generalize iblk m c 1 t = xp
  generalize iblk m c 2 t = xn
  generalize iblk m c 3 t = mo
  generalize iblk m c 4 t = g
  generalize iblk m c 5 t = w
  generalize iblk m c 6 t = cw
  generalize iblk m c 7 t = cb
  generalize hkb : Scalar.cmpi CmpIPredicate.ne (Scalar.andi (Scalar.muli (BitVec.ofNat 32 ↑(grid0.coords t 0)) 512#32) 255#32) 0#32 = kb
  generalize hka : Scalar.cmpi CmpIPredicate.ne (Scalar.andi (Scalar.addi (Scalar.muli (BitVec.ofNat 32 ↑(grid0.coords t 0)) 512#32) 512#32) 255#32) 0#32 = ka
  have hp := pos_at (grid0.coords t 0).val
  generalize hP : k0_pay11 (BitVec.ofNat 32 ↑(grid0.coords t 0)) = p at *
  have hf := f.isLt
  by_cases h9 : 4608 ≤ f.val
  · refine (here _ _ 4608 _ r ⟨f.val - 4608, by omega⟩ f (by show f.val = 4608 + (f.val - 4608); omega)).trans ?_
    rw [tile_9]
    rw [rows_own]
    exact plain_of x mo g w cw cb 4608 (by decide) _ r _ f (by show f.val = 4608 + (f.val - 4608); omega)
  refine (pass _ _ 4608 _ r f (by omega)).trans ?_
  by_cases h8 : 4096 ≤ f.val
  · refine (here _ _ 4096 _ r ⟨f.val - 4096, by omega⟩ f (by show f.val = 4096 + (f.val - 4096); omega)).trans ?_
    rw [tile_8]
    rw [rows_own]
    exact plain_of x mo g w cw cb 4096 (by decide) _ r _ f (by show f.val = 4096 + (f.val - 4096); omega)
  refine (pass _ _ 4096 _ r f (by omega)).trans ?_
  by_cases h7 : 3584 ≤ f.val
  · refine (here _ _ 3584 _ r ⟨f.val - 3584, by omega⟩ f (by show f.val = 3584 + (f.val - 3584); omega)).trans ?_
    rw [tile_7]
    rw [rows_own]
    exact plain_of x mo g w cw cb 3584 (by decide) _ r _ f (by show f.val = 3584 + (f.val - 3584); omega)
  refine (pass _ _ 3584 _ r f (by omega)).trans ?_
  by_cases h6 : 3072 ≤ f.val
  · refine (here _ _ 3072 _ r ⟨f.val - 3072, by omega⟩ f (by show f.val = 3072 + (f.val - 3072); omega)).trans ?_
    rw [rows_own]
    exact plain_of x mo g w cw cb 3072 (by decide) _ r _ f (by show f.val = 3072 + (f.val - 3072); omega)
  refine (pass _ _ 3072 _ r f (by omega)).trans ?_
  by_cases h5 : 2560 ≤ f.val
  · refine (here _ _ 2560 _ r ⟨f.val - 2560, by omega⟩ f (by show f.val = 2560 + (f.val - 2560); omega)).trans ?_
    rw [tile_5]
    exact conv_of p kb ka x xp xn mo g w cw cb hp 2560 (by decide) _ _ _ r _ f (by show f.val = 2560 + (f.val - 2560); omega)
  refine (pass _ _ 2560 _ r f (by omega)).trans ?_
  by_cases h4 : 2048 ≤ f.val
  · refine (here _ _ 2048 _ r ⟨f.val - 2048, by omega⟩ f (by show f.val = 2048 + (f.val - 2048); omega)).trans ?_
    rw [tile_4]
    exact conv_of p kb ka x xp xn mo g w cw cb hp 2048 (by decide) _ _ _ r _ f (by show f.val = 2048 + (f.val - 2048); omega)
  refine (pass _ _ 2048 _ r f (by omega)).trans ?_
  by_cases h3 : 1536 ≤ f.val
  · refine (here _ _ 1536 _ r ⟨f.val - 1536, by omega⟩ f (by show f.val = 1536 + (f.val - 1536); omega)).trans ?_
    rw [tile_3]
    exact conv_of p kb ka x xp xn mo g w cw cb hp 1536 (by decide) _ _ _ r _ f (by show f.val = 1536 + (f.val - 1536); omega)
  refine (pass _ _ 1536 _ r f (by omega)).trans ?_
  by_cases h2 : 1024 ≤ f.val
  · refine (here _ _ 1024 _ r ⟨f.val - 1024, by omega⟩ f (by show f.val = 1024 + (f.val - 1024); omega)).trans ?_
    rw [tile_2]
    exact conv_of p kb ka x xp xn mo g w cw cb hp 1024 (by decide) _ _ _ r _ f (by show f.val = 1024 + (f.val - 1024); omega)
  refine (pass _ _ 1024 _ r f (by omega)).trans ?_
  by_cases h1 : 512 ≤ f.val
  · refine (here _ _ 512 _ r ⟨f.val - 512, by omega⟩ f (by show f.val = 512 + (f.val - 512); omega)).trans ?_
    rw [tile_1]
    exact conv_of p kb ka x xp xn mo g w cw cb hp 512 (by decide) _ _ _ r _ f (by show f.val = 512 + (f.val - 512); omega)
  refine (pass _ _ 512 _ r f (by omega)).trans ?_
  refine (here _ _ 0 _ r ⟨f.val, by omega⟩ f (Nat.zero_add _).symm).trans ?_
  rw [tile_0 (hb := hkb)]
  exact conv_of p kb ka x xp xn mo g w cw cb hp 0 (by decide) _ _ _ r _ f (Nat.zero_add _).symm

theorem step_at (c : Dev nD) (t : Fin cfg0.N) (r f : Fin 512) :
    (outsAt0 m c t).2 (ix2 r f) = upAt (fun k => iblk m c 0 t (ix2 r k)) (fun k => iblk m c 4 t (ix2 0 k)) (fun k => iblk m c 3 t (ix3 0 0 ⟨1024 + k.val, by omega⟩))
      (fun k => iblk m c 3 t (ix3 0 0 ⟨0 + k.val, by omega⟩)) (fun k => iblk m c 5 t (ix2 k ⟨5120 + f.val, by omega⟩)) := by
  unfold outsAt0
  frame_out
  generalize iblk m c 0 t = x
  generalize iblk m c 1 t = xp
  generalize iblk m c 2 t = xn
  generalize iblk m c 3 t = mo
  generalize iblk m c 4 t = g
  generalize iblk m c 5 t = w
  generalize iblk m c 6 t = cw
  generalize iblk m c 7 t = cb
  rw [tile_10, rows_own]
  exact up_at x mo g w 5120 _ r f _ rfl

end Cert.InBCtxIdeal.Gen
-- ==== Proof.Layer.InBCtx.Host.lean ====
/-
  The context's second input projection's weights as the host leaves them: the columns put together from fourteen pieces.
-/
module

public import proofs.«01_k».proof.Proof.Layer.InBCtx.Point
public import proofs.«01_k».proof.Proof.Layer.InB
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.InBCtxIdeal.Gen
open Cert.Layer

variable (m : (l : Loc nD τ sig) → Buf (Elt Ideal) l)

section
variable (A : S1024x3072.Idx → EReal) (B : S1024x2048.Idx → EReal) (d0 : S1024x8.Idx → EReal) (e0 : S1024x8.Idx → EReal) (z0 : S1024x112.Idx → EReal) (d1 : S1024x8.Idx → EReal) (e1 : S1024x8.Idx → EReal) (z1 : S1024x112.Idx → EReal) (d2 : S1024x8.Idx → EReal) (e2 : S1024x8.Idx → EReal) (z2 : S1024x112.Idx → EReal) (d3 : S1024x8.Idx → EReal) (e3 : S1024x8.Idx → EReal) (z3 : S1024x112.Idx → EReal)
/-- The call's weights, put together from fourteen pieces. -/
abbrev cat14 : S1024x5632.Idx → EReal :=
  concatenate S1024x5632 1 [⟨S1024x3072, A⟩, ⟨S1024x2048, B⟩, ⟨S1024x8, d0⟩, ⟨S1024x8, e0⟩, ⟨S1024x112, z0⟩, ⟨S1024x8, d1⟩, ⟨S1024x8, e1⟩, ⟨S1024x112, z1⟩, ⟨S1024x8, d2⟩, ⟨S1024x8, e2⟩, ⟨S1024x112, z2⟩, ⟨S1024x8, d3⟩, ⟨S1024x8, e3⟩, ⟨S1024x112, z3⟩]
    concatenates_S1024x3072_S1024x2048_S1024x8_S1024x8_S1024x112_S1024x8_S1024x8_S1024x112_S1024x8_S1024x8_S1024x112_S1024x8_S1024x8_S1024x112_S1024x5632_d1
theorem cat_A (j : Fin 1024) (k : Fin 5632) (x : Fin 3072) (h : 0 + x.val = k.val) : cat14 A B d0 e0 z0 d1 e1 z1 d2 e2 z2 d3 e3 z3 (ix2 j k) = A (ix2 j x) := by
  unfold cat14
  refine concatenate_apply_piece (t := S1024x5632) (1 : Fin 2) _ _ (ix2 j k) 0 ?_ S1024x3072 A ?_ rfl 0 ?_ (ix2 j x) ?_ ?_
  · exact (by decide : 0 < 14)
  · rfl
  · rfl
  · intro b hb
    match b with
    | ⟨0, _⟩ => rfl
    | ⟨1, _⟩ => exact absurd rfl hb
  · exact h
theorem cat_B (j : Fin 1024) (k : Fin 5632) (x : Fin 2048) (h : 3072 + x.val = k.val) : cat14 A B d0 e0 z0 d1 e1 z1 d2 e2 z2 d3 e3 z3 (ix2 j k) = B (ix2 j x) := by
  unfold cat14
  refine concatenate_apply_piece (t := S1024x5632) (1 : Fin 2) _ _ (ix2 j k) 1 ?_ S1024x2048 B ?_ rfl 3072 ?_ (ix2 j x) ?_ ?_
  · exact (by decide : 1 < 14)
  · rfl
  · rfl
  · intro b hb
    match b with
    | ⟨0, _⟩ => rfl
    | ⟨1, _⟩ => exact absurd rfl hb
  · exact h
theorem cat_d0 (j : Fin 1024) (k : Fin 5632) (x : Fin 8) (h : 5120 + x.val = k.val) : cat14 A B d0 e0 z0 d1 e1 z1 d2 e2 z2 d3 e3 z3 (ix2 j k) = d0 (ix2 j x) := by
  unfold cat14
  refine concatenate_apply_piece (t := S1024x5632) (1 : Fin 2) _ _ (ix2 j k) 2 ?_ S1024x8 d0 ?_ rfl 5120 ?_ (ix2 j x) ?_ ?_
  · exact (by decide : 2 < 14)
  · rfl
  · rfl
  · intro b hb
    match b with
    | ⟨0, _⟩ => rfl
    | ⟨1, _⟩ => exact absurd rfl hb
  · exact h
theorem cat_e0 (j : Fin 1024) (k : Fin 5632) (x : Fin 8) (h : 5128 + x.val = k.val) : cat14 A B d0 e0 z0 d1 e1 z1 d2 e2 z2 d3 e3 z3 (ix2 j k) = e0 (ix2 j x) := by
  unfold cat14
  refine concatenate_apply_piece (t := S1024x5632) (1 : Fin 2) _ _ (ix2 j k) 3 ?_ S1024x8 e0 ?_ rfl 5128 ?_ (ix2 j x) ?_ ?_
  · exact (by decide : 3 < 14)
  · rfl
  · rfl
  · intro b hb
    match b with
    | ⟨0, _⟩ => rfl
    | ⟨1, _⟩ => exact absurd rfl hb
  · exact h
theorem cat_z0 (j : Fin 1024) (k : Fin 5632) (x : Fin 112) (h : 5136 + x.val = k.val) : cat14 A B d0 e0 z0 d1 e1 z1 d2 e2 z2 d3 e3 z3 (ix2 j k) = z0 (ix2 j x) := by
  unfold cat14
  refine concatenate_apply_piece (t := S1024x5632) (1 : Fin 2) _ _ (ix2 j k) 4 ?_ S1024x112 z0 ?_ rfl 5136 ?_ (ix2 j x) ?_ ?_
  · exact (by decide : 4 < 14)
  · rfl
  · rfl
  · intro b hb
    match b with
    | ⟨0, _⟩ => rfl
    | ⟨1, _⟩ => exact absurd rfl hb
  · exact h
theorem cat_d1 (j : Fin 1024) (k : Fin 5632) (x : Fin 8) (h : 5248 + x.val = k.val) : cat14 A B d0 e0 z0 d1 e1 z1 d2 e2 z2 d3 e3 z3 (ix2 j k) = d1 (ix2 j x) := by
  unfold cat14
  refine concatenate_apply_piece (t := S1024x5632) (1 : Fin 2) _ _ (ix2 j k) 5 ?_ S1024x8 d1 ?_ rfl 5248 ?_ (ix2 j x) ?_ ?_
  · exact (by decide : 5 < 14)
  · rfl
  · rfl
  · intro b hb
    match b with
    | ⟨0, _⟩ => rfl
    | ⟨1, _⟩ => exact absurd rfl hb
  · exact h
theorem cat_e1 (j : Fin 1024) (k : Fin 5632) (x : Fin 8) (h : 5256 + x.val = k.val) : cat14 A B d0 e0 z0 d1 e1 z1 d2 e2 z2 d3 e3 z3 (ix2 j k) = e1 (ix2 j x) := by
  unfold cat14
  refine concatenate_apply_piece (t := S1024x5632) (1 : Fin 2) _ _ (ix2 j k) 6 ?_ S1024x8 e1 ?_ rfl 5256 ?_ (ix2 j x) ?_ ?_
  · exact (by decide : 6 < 14)
  · rfl
  · rfl
  · intro b hb
    match b with
    | ⟨0, _⟩ => rfl
    | ⟨1, _⟩ => exact absurd rfl hb
  · exact h
theorem cat_z1 (j : Fin 1024) (k : Fin 5632) (x : Fin 112) (h : 5264 + x.val = k.val) : cat14 A B d0 e0 z0 d1 e1 z1 d2 e2 z2 d3 e3 z3 (ix2 j k) = z1 (ix2 j x) := by
  unfold cat14
  refine concatenate_apply_piece (t := S1024x5632) (1 : Fin 2) _ _ (ix2 j k) 7 ?_ S1024x112 z1 ?_ rfl 5264 ?_ (ix2 j x) ?_ ?_
  · exact (by decide : 7 < 14)
  · rfl
  · rfl
  · intro b hb
    match b with
    | ⟨0, _⟩ => rfl
    | ⟨1, _⟩ => exact absurd rfl hb
  · exact h
theorem cat_d2 (j : Fin 1024) (k : Fin 5632) (x : Fin 8) (h : 5376 + x.val = k.val) : cat14 A B d0 e0 z0 d1 e1 z1 d2 e2 z2 d3 e3 z3 (ix2 j k) = d2 (ix2 j x) := by
  unfold cat14
  refine concatenate_apply_piece (t := S1024x5632) (1 : Fin 2) _ _ (ix2 j k) 8 ?_ S1024x8 d2 ?_ rfl 5376 ?_ (ix2 j x) ?_ ?_
  · exact (by decide : 8 < 14)
  · rfl
  · rfl
  · intro b hb
    match b with
    | ⟨0, _⟩ => rfl
    | ⟨1, _⟩ => exact absurd rfl hb
  · exact h
theorem cat_e2 (j : Fin 1024) (k : Fin 5632) (x : Fin 8) (h : 5384 + x.val = k.val) : cat14 A B d0 e0 z0 d1 e1 z1 d2 e2 z2 d3 e3 z3 (ix2 j k) = e2 (ix2 j x) := by
  unfold cat14
  refine concatenate_apply_piece (t := S1024x5632) (1 : Fin 2) _ _ (ix2 j k) 9 ?_ S1024x8 e2 ?_ rfl 5384 ?_ (ix2 j x) ?_ ?_
  · exact (by decide : 9 < 14)
  · rfl
  · rfl
  · intro b hb
    match b with
    | ⟨0, _⟩ => rfl
    | ⟨1, _⟩ => exact absurd rfl hb
  · exact h
theorem cat_z2 (j : Fin 1024) (k : Fin 5632) (x : Fin 112) (h : 5392 + x.val = k.val) : cat14 A B d0 e0 z0 d1 e1 z1 d2 e2 z2 d3 e3 z3 (ix2 j k) = z2 (ix2 j x) := by
  unfold cat14
  refine concatenate_apply_piece (t := S1024x5632) (1 : Fin 2) _ _ (ix2 j k) 10 ?_ S1024x112 z2 ?_ rfl 5392 ?_ (ix2 j x) ?_ ?_
  · exact (by decide : 10 < 14)
  · rfl
  · rfl
  · intro b hb
    match b with
    | ⟨0, _⟩ => rfl
    | ⟨1, _⟩ => exact absurd rfl hb
  · exact h
theorem cat_d3 (j : Fin 1024) (k : Fin 5632) (x : Fin 8) (h : 5504 + x.val = k.val) : cat14 A B d0 e0 z0 d1 e1 z1 d2 e2 z2 d3 e3 z3 (ix2 j k) = d3 (ix2 j x) := by
  unfold cat14
  refine concatenate_apply_piece (t := S1024x5632) (1 : Fin 2) _ _ (ix2 j k) 11 ?_ S1024x8 d3 ?_ rfl 5504 ?_ (ix2 j x) ?_ ?_
  · exact (by decide : 11 < 14)
  · rfl
  · rfl
  · intro b hb
    match b with
    | ⟨0, _⟩ => rfl
    | ⟨1, _⟩ => exact absurd rfl hb
  · exact h
theorem cat_e3 (j : Fin 1024) (k : Fin 5632) (x : Fin 8) (h : 5512 + x.val = k.val) : cat14 A B d0 e0 z0 d1 e1 z1 d2 e2 z2 d3 e3 z3 (ix2 j k) = e3 (ix2 j x) := by
  unfold cat14
  refine concatenate_apply_piece (t := S1024x5632) (1 : Fin 2) _ _ (ix2 j k) 12 ?_ S1024x8 e3 ?_ rfl 5512 ?_ (ix2 j x) ?_ ?_
  · exact (by decide : 12 < 14)
  · rfl
  · rfl
  · intro b hb
    match b with
    | ⟨0, _⟩ => rfl
    | ⟨1, _⟩ => exact absurd rfl hb
  · exact h
theorem cat_z3 (j : Fin 1024) (k : Fin 5632) (x : Fin 112) (h : 5520 + x.val = k.val) : cat14 A B d0 e0 z0 d1 e1 z1 d2 e2 z2 d3 e3 z3 (ix2 j k) = z3 (ix2 j x) := by
  unfold cat14
  refine concatenate_apply_piece (t := S1024x5632) (1 : Fin 2) _ _ (ix2 j k) 13 ?_ S1024x112 z3 ?_ rfl 5520 ?_ (ix2 j x) ?_ ?_
  · exact (by decide : 13 < 14)
  · rfl
  · rfl
  · intro b hb
    match b with
    | ⟨0, _⟩ => rfl
    | ⟨1, _⟩ => exact absurd rfl hb
  · exact h
end

/-- What the host has computed before the weights are put together. -/
abbrev pre24 (c : Dev nD) (b : Ref sig .tc) := StableHlo.upto (hostOps0 (F := Ideal)) (fun b => m (c, b)) 24 (Proc.devRef .tc b)

theorem pc_A (c : Dev nD) (j : Fin 1024) (x : Fin 3072) : (pre24 m c main_v17 : S1024x3072.Idx → EReal) (ix2 j x) = m ((c : Thread nD τ).loc main_arg3) (ix2 j ⟨5120 + x.val, by omega⟩) := by
  unfold pre24
  after_reads_at
theorem pc_B (c : Dev nD) (j : Fin 1024) (x : Fin 2048) : (pre24 m c main_v18 : S1024x2048.Idx → EReal) (ix2 j x) = m ((c : Thread nD τ).loc main_arg3) (ix2 j ⟨8256 + x.val, by omega⟩) := by
  unfold pre24
  after_reads_at
theorem pc_d0 (c : Dev nD) (j : Fin 1024) (x : Fin 8) : (pre24 m c main_v5 : S1024x8.Idx → EReal) (ix2 j x) = m ((c : Thread nD τ).loc main_arg3) (ix2 j ⟨8192 + x.val, by omega⟩) := by
  unfold pre24
  after_reads_at
theorem pc_e0 (c : Dev nD) (j : Fin 1024) (x : Fin 8) : (pre24 m c main_v6 : S1024x8.Idx → EReal) (ix2 j x) = m ((c : Thread nD τ).loc main_arg3) (ix2 j ⟨8224 + x.val, by omega⟩) := by
  unfold pre24
  after_reads_at
  exact congrArg (fun z : Fin 10304 => m ((c : Thread nD τ).loc main_arg3) (ix2 j z)) (Fin.ext (by show 8192 + (32 + x.val) = 8224 + x.val; omega))
theorem pc_z0 (c : Dev nD) (j : Fin 1024) (x : Fin 112) : (pre24 m c main_v7 : S1024x112.Idx → EReal) (ix2 j x) = (0 : EReal) := by
  unfold pre24
  after_reads_at
theorem pc_d1 (c : Dev nD) (j : Fin 1024) (x : Fin 8) : (pre24 m c main_v8 : S1024x8.Idx → EReal) (ix2 j x) = m ((c : Thread nD τ).loc main_arg3) (ix2 j ⟨8200 + x.val, by omega⟩) := by
  unfold pre24
  after_reads_at
  exact congrArg (fun z : Fin 10304 => m ((c : Thread nD τ).loc main_arg3) (ix2 j z)) (Fin.ext (by show 8192 + (8 + x.val) = 8200 + x.val; omega))
theorem pc_e1 (c : Dev nD) (j : Fin 1024) (x : Fin 8) : (pre24 m c main_v9 : S1024x8.Idx → EReal) (ix2 j x) = m ((c : Thread nD τ).loc main_arg3) (ix2 j ⟨8232 + x.val, by omega⟩) := by
  unfold pre24
  after_reads_at
  exact congrArg (fun z : Fin 10304 => m ((c : Thread nD τ).loc main_arg3) (ix2 j z)) (Fin.ext (by show 8192 + (40 + x.val) = 8232 + x.val; omega))
theorem pc_z1 (c : Dev nD) (j : Fin 1024) (x : Fin 112) : (pre24 m c main_v10 : S1024x112.Idx → EReal) (ix2 j x) = (0 : EReal) := by
  unfold pre24
  after_reads_at
theorem pc_d2 (c : Dev nD) (j : Fin 1024) (x : Fin 8) : (pre24 m c main_v11 : S1024x8.Idx → EReal) (ix2 j x) = m ((c : Thread nD τ).loc main_arg3) (ix2 j ⟨8208 + x.val, by omega⟩) := by
  unfold pre24
  after_reads_at
  exact congrArg (fun z : Fin 10304 => m ((c : Thread nD τ).loc main_arg3) (ix2 j z)) (Fin.ext (by show 8192 + (16 + x.val) = 8208 + x.val; omega))
theorem pc_e2 (c : Dev nD) (j : Fin 1024) (x : Fin 8) : (pre24 m c main_v12 : S1024x8.Idx → EReal) (ix2 j x) = m ((c : Thread nD τ).loc main_arg3) (ix2 j ⟨8240 + x.val, by omega⟩) := by
  unfold pre24
  after_reads_at
  exact congrArg (fun z : Fin 10304 => m ((c : Thread nD τ).loc main_arg3) (ix2 j z)) (Fin.ext (by show 8192 + (48 + x.val) = 8240 + x.val; omega))
theorem pc_z2 (c : Dev nD) (j : Fin 1024) (x : Fin 112) : (pre24 m c main_v13 : S1024x112.Idx → EReal) (ix2 j x) = (0 : EReal) := by
  unfold pre24
  after_reads_at
theorem pc_d3 (c : Dev nD) (j : Fin 1024) (x : Fin 8) : (pre24 m c main_v14 : S1024x8.Idx → EReal) (ix2 j x) = m ((c : Thread nD τ).loc main_arg3) (ix2 j ⟨8216 + x.val, by omega⟩) := by
  unfold pre24
  after_reads_at
  exact congrArg (fun z : Fin 10304 => m ((c : Thread nD τ).loc main_arg3) (ix2 j z)) (Fin.ext (by show 8192 + (24 + x.val) = 8216 + x.val; omega))
theorem pc_e3 (c : Dev nD) (j : Fin 1024) (x : Fin 8) : (pre24 m c main_v15 : S1024x8.Idx → EReal) (ix2 j x) = m ((c : Thread nD τ).loc main_arg3) (ix2 j ⟨8248 + x.val, by omega⟩) := by
  unfold pre24
  after_reads_at
  exact congrArg (fun z : Fin 10304 => m ((c : Thread nD τ).loc main_arg3) (ix2 j z)) (Fin.ext (by show 8192 + (56 + x.val) = 8248 + x.val; omega))
theorem pc_z3 (c : Dev nD) (j : Fin 1024) (x : Fin 112) : (pre24 m c main_v16 : S1024x112.Idx → EReal) (ix2 j x) = (0 : EReal) := by
  unfold pre24
  after_reads_at

theorem w_eq (c : Dev nD) (j : Fin 1024) (k : Fin 5632) : V m c main_v20 (ix2 j k) = cat14 (pre24 m c main_v17) (pre24 m c main_v18) (pre24 m c main_v5) (pre24 m c main_v6) (pre24 m c main_v7) (pre24 m c main_v8) (pre24 m c main_v9) (pre24 m c main_v10) (pre24 m c main_v11) (pre24 m c main_v12) (pre24 m c main_v13) (pre24 m c main_v14) (pre24 m c main_v15) (pre24 m c main_v16) (ix2 j k) := by
  unfold V
  after_reads_simp
  rw [show ∀ (X : S1024x5632.Idx → EReal) (h) (i : S1024x5632.Idx), truncf (F := Ideal) (φ := .f32) FTy.bf16 X h i = X i from fun _ _ _ => rfl]
  rfl

theorem w_at (c : Dev nD) (j : Fin 1024) (k : Fin 5632) : V m c main_v20 (ix2 j k) = wB (m ((c : Thread nD τ).loc main_arg3)) j k := by
  refine (w_eq m c j k).trans ?_
  unfold wB
  have hk := k.isLt
  by_cases hA : k.val < 3072
  · rw [dif_pos hA]
    exact (cat_A _ _ _ _ _ _ _ _ _ _ _ _ _ _ j k ⟨k.val, hA⟩ (by show 0 + k.val = k.val; omega)).trans (pc_A m c j _)
  rw [dif_neg hA]
  by_cases hB : k.val < 5120
  · rw [dif_pos hB]
    refine (cat_B _ _ _ _ _ _ _ _ _ _ _ _ _ _ j k ⟨k.val - 3072, by omega⟩ (by show 3072 + (k.val - 3072) = k.val; omega)).trans ((pc_B m c j _).trans ?_)
    exact congrArg (fun z : Fin 10304 => m ((c : Thread nD τ).loc main_arg3) (ix2 j z)) (Fin.ext (by show 8256 + (k.val - 3072) = 5184 + k.val; omega))
  rw [dif_neg hB]
  have hg : (k.val - 5120) / 128 = 0 ∨ (k.val - 5120) / 128 = 1 ∨ (k.val - 5120) / 128 = 2 ∨ (k.val - 5120) / 128 = 3 := by omega
  by_cases hd : (k.val - 5120) % 128 < 8
  · rw [if_pos hd]
    rcases hg with hg | hg | hg | hg
    · refine (cat_d0 _ _ _ _ _ _ _ _ _ _ _ _ _ _ j k ⟨k.val - 5120, by omega⟩ (by show 5120 + (k.val - 5120) = k.val; omega)).trans ((pc_d0 m c j _).trans ?_)
      exact congrArg (fun z : Fin 10304 => m ((c : Thread nD τ).loc main_arg3) (ix2 j z)) (Fin.ext (by show 8192 + (k.val - 5120) = 8192 + (k.val - 5120) / 128 * 8 + (k.val - 5120) % 128; omega))
    · refine (cat_d1 _ _ _ _ _ _ _ _ _ _ _ _ _ _ j k ⟨k.val - 5248, by omega⟩ (by show 5248 + (k.val - 5248) = k.val; omega)).trans ((pc_d1 m c j _).trans ?_)
      exact congrArg (fun z : Fin 10304 => m ((c : Thread nD τ).loc main_arg3) (ix2 j z)) (Fin.ext (by show 8200 + (k.val - 5248) = 8192 + (k.val - 5120) / 128 * 8 + (k.val - 5120) % 128; omega))
    · refine (cat_d2 _ _ _ _ _ _ _ _ _ _ _ _ _ _ j k ⟨k.val - 5376, by omega⟩ (by show 5376 + (k.val - 5376) = k.val; omega)).trans ((pc_d2 m c j _).trans ?_)
      exact congrArg (fun z : Fin 10304 => m ((c : Thread nD τ).loc main_arg3) (ix2 j z)) (Fin.ext (by show 8208 + (k.val - 5376) = 8192 + (k.val - 5120) / 128 * 8 + (k.val - 5120) % 128; omega))
    · refine (cat_d3 _ _ _ _ _ _ _ _ _ _ _ _ _ _ j k ⟨k.val - 5504, by omega⟩ (by show 5504 + (k.val - 5504) = k.val; omega)).trans ((pc_d3 m c j _).trans ?_)
      exact congrArg (fun z : Fin 10304 => m ((c : Thread nD τ).loc main_arg3) (ix2 j z)) (Fin.ext (by show 8216 + (k.val - 5504) = 8192 + (k.val - 5120) / 128 * 8 + (k.val - 5120) % 128; omega))
  rw [if_neg hd]
  by_cases he : (k.val - 5120) % 128 < 16
  · rw [if_pos he]
    rcases hg with hg | hg | hg | hg
    · refine (cat_e0 _ _ _ _ _ _ _ _ _ _ _ _ _ _ j k ⟨k.val - 5128, by omega⟩ (by show 5128 + (k.val - 5128) = k.val; omega)).trans ((pc_e0 m c j _).trans ?_)
      exact congrArg (fun z : Fin 10304 => m ((c : Thread nD τ).loc main_arg3) (ix2 j z)) (Fin.ext (by show 8224 + (k.val - 5128) = 8224 + (k.val - 5120) / 128 * 8 + ((k.val - 5120) % 128 - 8); omega))
    · refine (cat_e1 _ _ _ _ _ _ _ _ _ _ _ _ _ _ j k ⟨k.val - 5256, by omega⟩ (by show 5256 + (k.val - 5256) = k.val; omega)).trans ((pc_e1 m c j _).trans ?_)
      exact congrArg (fun z : Fin 10304 => m ((c : Thread nD τ).loc main_arg3) (ix2 j z)) (Fin.ext (by show 8232 + (k.val - 5256) = 8224 + (k.val - 5120) / 128 * 8 + ((k.val - 5120) % 128 - 8); omega))
    · refine (cat_e2 _ _ _ _ _ _ _ _ _ _ _ _ _ _ j k ⟨k.val - 5384, by omega⟩ (by show 5384 + (k.val - 5384) = k.val; omega)).trans ((pc_e2 m c j _).trans ?_)
      exact congrArg (fun z : Fin 10304 => m ((c : Thread nD τ).loc main_arg3) (ix2 j z)) (Fin.ext (by show 8240 + (k.val - 5384) = 8224 + (k.val - 5120) / 128 * 8 + ((k.val - 5120) % 128 - 8); omega))
    · refine (cat_e3 _ _ _ _ _ _ _ _ _ _ _ _ _ _ j k ⟨k.val - 5512, by omega⟩ (by show 5512 + (k.val - 5512) = k.val; omega)).trans ((pc_e3 m c j _).trans ?_)
      exact congrArg (fun z : Fin 10304 => m ((c : Thread nD τ).loc main_arg3) (ix2 j z)) (Fin.ext (by show 8248 + (k.val - 5512) = 8224 + (k.val - 5120) / 128 * 8 + ((k.val - 5120) % 128 - 8); omega))
  rw [if_neg he]
  rcases hg with hg | hg | hg | hg
  · exact (cat_z0 _ _ _ _ _ _ _ _ _ _ _ _ _ _ j k ⟨k.val - 5136, by omega⟩ (by show 5136 + (k.val - 5136) = k.val; omega)).trans (pc_z0 m c j _)
  · exact (cat_z1 _ _ _ _ _ _ _ _ _ _ _ _ _ _ j k ⟨k.val - 5264, by omega⟩ (by show 5264 + (k.val - 5264) = k.val; omega)).trans (pc_z1 m c j _)
  · exact (cat_z2 _ _ _ _ _ _ _ _ _ _ _ _ _ _ j k ⟨k.val - 5392, by omega⟩ (by show 5392 + (k.val - 5392) = k.val; omega)).trans (pc_z2 m c j _)
  · exact (cat_z3 _ _ _ _ _ _ _ _ _ _ _ _ _ _ j k ⟨k.val - 5520, by omega⟩ (by show 5520 + (k.val - 5520) = k.val; omega)).trans (pc_z3 m c j _)

end Cert.InBCtxIdeal.Gen
-- ==== Proof.Layer.InBCtx.Spec.lean ====
/-
  The context's second input projection, as functions of the arguments.
-/
module

public import proofs.«01_k».proof.Proof.Layer.InB
public import Idealize.ShloMosaic.Lib.Pointwise

@[expose] public section

noncomputable section

open Idealize.ShloMosaic

namespace Cert.Layer

section
variable (x : Shape.Idx ⟨3, ![16, 256, 1024]⟩ → EReal) (m : Shape.Idx ⟨3, ![1, 1, 6144]⟩ → EReal) (g : Shape.Idx ⟨1, ![1024]⟩ → EReal)
    (w : Shape.Idx ⟨2, ![1024, 10304]⟩ → EReal) (cw : Shape.Idx ⟨2, ![4, 3072]⟩ → EReal) (cb : Shape.Idx ⟨1, ![3072]⟩ → EReal)
/-- Token `n`'s row of the second projection, with the activation `act`. -/
def inBCtx (act : EReal → EReal) (n : Fin 4096) (f : Fin 5120) : EReal :=
  inB act (decide (2 ≤ n.val % 256)) (decide (n.val % 256 ≠ 0)) (decide (n.val % 256 ≠ 255))
    (fun k => x (ix3 ⟨n.val / 256, by omega⟩ ⟨n.val % 256 - 2, by omega⟩ k))
    (fun k => x (ix3 ⟨n.val / 256, by omega⟩ ⟨n.val % 256 - 1, by omega⟩ k))
    (fun k => x (ix3 ⟨n.val / 256, by omega⟩ ⟨n.val % 256, by omega⟩ k))
    (fun k => x (ix3 ⟨n.val / 256, by omega⟩ ⟨(n.val % 256 + 1) % 256, by omega⟩ k))
    (fun k => g (ix1 k)) (fun k => m (ix3 0 0 ⟨1024 + k.val, by omega⟩))
    (fun k => m (ix3 0 0 ⟨0 + k.val, by omega⟩))
    (wB w) (fun f => cw (ix2 0 f)) (fun f => cw (ix2 1 f)) (fun f => cw (ix2 2 f)) (fun f => cw (ix2 3 f)) (fun f => cb (ix1 f)) f
/-- Token `n`'s step sizes. -/
def stepCtx (n : Fin 4096) (f : Fin 512) : EReal :=
  upAt (fun k => x (ix3 ⟨n.val / 256, by omega⟩ ⟨n.val % 256, by omega⟩ k)) (fun k => g (ix1 k))
    (fun k => m (ix3 0 0 ⟨1024 + k.val, by omega⟩)) (fun k => m (ix3 0 0 ⟨0 + k.val, by omega⟩))
    (fun k => wB w k ⟨5120 + f.val, by omega⟩)
end

end Cert.Layer
-- ==== Proof.Layer.InBCtx.Arr.lean ====
/-
  The context's second input projection's result arrays, at every element, from the arguments.
-/
module

public import proofs.«01_k».proof.Proof.Layer.InBCtx.Host
public import proofs.«01_k».proof.Proof.Layer.InBCtx.Spec
public import Idealize.ShloMosaic.Lib.StableHlo.ReadAt

@[expose] public section

set_option maxRecDepth 16384

noncomputable section

open Idealize.ShloMosaic Idealize.ShloMosaic.TcCoe Idealize.SL.Sem Idealize.ShloMosaic.Pipeline

namespace Cert.InBCtxIdeal.Gen
open Cert.Layer

variable (m : (l : Loc nD τ sig) → Buf (Elt Ideal) l)

theorem idx0_0 : ∀ t : Fin cfg0.N, win0_0.index t = ![t.val, 0] := (by decide +kernel : ∀ t : Fin grid0.N, win0_0.index t = ![t.val, 0])
theorem idx0_3 : ∀ t : Fin cfg0.N, win0_3.index t = ![0, 0, 0] := (by decide +kernel : ∀ t : Fin grid0.N, win0_3.index t = ![0, 0, 0])
theorem idx0_4 : ∀ t : Fin cfg0.N, win0_4.index t = ![0, 0] := (by decide +kernel : ∀ t : Fin grid0.N, win0_4.index t = ![0, 0])
theorem idx0_5 : ∀ t : Fin cfg0.N, win0_5.index t = ![0, 0] := (by decide +kernel : ∀ t : Fin grid0.N, win0_5.index t = ![0, 0])
theorem idx0_6 : ∀ t : Fin cfg0.N, win0_6.index t = ![0, 0] := (by decide +kernel : ∀ t : Fin grid0.N, win0_6.index t = ![0, 0])
theorem idx0_7 : ∀ t : Fin cfg0.N, win0_7.index t = ![0, 0] := (by decide +kernel : ∀ t : Fin grid0.N, win0_7.index t = ![0, 0])
theorem idx0_8 : ∀ t : Fin cfg0.N, win0_8.index t = ![t.val, 0] := (by decide +kernel : ∀ t : Fin grid0.N, win0_8.index t = ![t.val, 0])
theorem idx0_9 : ∀ t : Fin cfg0.N, win0_9.index t = ![t.val, 0] := (by decide +kernel : ∀ t : Fin grid0.N, win0_9.index t = ![t.val, 0])

/-- The projected rows, at the arguments of core `c`. -/
def spec (c : Dev nD) : S4096x5120.Idx → EReal := fun i =>
  inBCtx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) siluK (i 0) (i 1)

/-- The step sizes, at the arguments of core `c`. -/
def stepSpec (c : Dev nD) : S4096x512.Idx → EReal := fun i =>
  stepCtx (m ((c : Thread nD τ).loc main_arg0)) (m ((c : Thread nD τ).loc main_arg1)) (m ((c : Thread nD τ).loc main_arg2))
    (m ((c : Thread nD τ).loc main_arg3)) (i 0) (i 1)

section
variable (U : Valuation τ sig (Elt Ideal))

theorem mod_at (col : Fin 6144) :
    (StableHlo.after hostOps0 U (Proc.devRef .tc main_v1) : S16x1x6144.Idx → EReal) (ix3 0 0 col)
      = (U (Proc.devRef .tc main_arg1) : S1x1x6144.Idx → EReal) (ix3 0 0 col) := by
  after_reads_at
end

theorem b0 (c : Dev nD) (t : Fin cfg0.N) (r : Fin 512) (k : Fin 1024) (n : Fin 4096) (hn : n.val = t.val * 512 + r.val) :
    iblk m c 0 t (ix2 r k) = m ((c : Thread nD τ).loc main_arg0) (ix3 ⟨n.val / 256, by omega⟩ ⟨n.val % 256, by omega⟩ k) := by
  blk_point [iblk, V, idx0_0 t]
theorem b3 (c : Dev nD) (t : Fin cfg0.N) (k : Fin 6144) :
    iblk m c 3 t (ix3 0 0 k) = m ((c : Thread nD τ).loc main_arg1) (ix3 0 0 k) := by
  have e : iblk m c 3 t (ix3 0 0 k) = V m c main_v1 (ix3 0 0 k) := by
    blk_simp [iblk]
    refine congrArg _ ((eq_ix3 _).trans ?_)
    refine congr (congr (congrArg ix3 (Fin.ext ?_)) (Fin.ext ?_)) (Fin.ext ?_) <;> blk_simp [idx0_3 t]
    rfl
  exact e.trans (mod_at _ k)
theorem b4 (c : Dev nD) (t : Fin cfg0.N) (k : Fin 1024) :
    iblk m c 4 t (ix2 0 k) = m ((c : Thread nD τ).loc main_arg2) (ix1 k) := by
  blk_point [iblk, V, idx0_4 t]
theorem b5 (c : Dev nD) (t : Fin cfg0.N) (j : Fin 1024) (k : Fin 5632) :
    iblk m c 5 t (ix2 j k) = wB (m ((c : Thread nD τ).loc main_arg3)) j k := by
  have e : iblk m c 5 t (ix2 j k) = V m c main_v20 (ix2 j k) := by
    blk_simp [iblk]
    refine congrArg _ ((eq_ix2 _).trans ?_)
    refine congr (congrArg ix2 (Fin.ext ?_)) (Fin.ext ?_) <;> blk_simp [idx0_5 t]
  exact e.trans (w_at m c j k)
theorem b6 (c : Dev nD) (t : Fin cfg0.N) (j : Fin 4) (k : Fin 3072) :
    iblk m c 6 t (ix2 j k) = m ((c : Thread nD τ).loc main_arg4) (ix2 j k) := by
  blk_point [iblk, V, idx0_6 t]
theorem b7 (c : Dev nD) (t : Fin cfg0.N) (k : Fin 3072) :
    iblk m c 7 t (ix2 0 k) = m ((c : Thread nD τ).loc main_arg5) (ix1 k) := by
  blk_point [iblk, V, idx0_7 t]

theorem point_at (c : Dev nD) (t : Fin cfg0.N) (r : Fin 512) (k : Fin 5120) (n : Fin 4096) (hn : n.val = t.val * 512 + r.val) :
    (outsAt0 m c t).1 (ix2 r k) = spec m c (ix2 n k) := by
  have ht : t.val < 8 := t.isLt
  have hr := r.isLt
  refine (out_at m c t r k).trans ?_
  unfold inBPoint
  have e3 := b3 m c t
  have e4 := b4 m c t
  have e5 := b5 m c t
  have e6 := b6 m c t
  have e7 := b7 m c t
  have hm : n.val % 256 = r.val % 256 := by omega
  have eLL : lft2 r = decide (2 ≤ n.val % 256) := by
    unfold lft2
    rw [hm]
  have eL : lft r = decide (n.val % 256 ≠ 0) := by
    unfold lft
    rw [hm]
  have eR : rgt r = decide (n.val % 256 ≠ 255) := by
    unfold rgt
    rw [hm]
  rw [funext fun k => b0 m c t r k n hn, eLL, eL, eR]
  simp only [e3, e4, e5, e6, e7]
  refine inB_beside _ _ _ _ _ _ _ _ _ _ _ _ _ _ _ _ _ _ _ _ _ (fun h => ?_) (fun h => ?_) fun h => ?_
  · have hs : 2 ≤ n.val % 256 := of_decide_eq_true h
    funext k
    unfold rowLL
    rw [b0 m c t ⟨r.val - 2, by omega⟩ k ⟨n.val - 2, by omega⟩ (by show n.val - 2 = t.val * 512 + (r.val - 2); omega)]
    exact congrArg (m ((c : Thread nD τ).loc main_arg0)) (congr (congr (congrArg ix3 (Fin.ext (by show (n.val - 2) / 256 = n.val / 256; omega))) (Fin.ext (by show (n.val - 2) % 256 = n.val % 256 - 2; omega))) rfl)
  · have hs : n.val % 256 ≠ 0 := of_decide_eq_true h
    funext k
    unfold rowL
    rw [b0 m c t ⟨r.val - 1, by omega⟩ k ⟨n.val - 1, by omega⟩ (by show n.val - 1 = t.val * 512 + (r.val - 1); omega)]
    exact congrArg (m ((c : Thread nD τ).loc main_arg0)) (congr (congr (congrArg ix3 (Fin.ext (by show (n.val - 1) / 256 = n.val / 256; omega))) (Fin.ext (by show (n.val - 1) % 256 = n.val % 256 - 1; omega))) rfl)
  · have hs : n.val % 256 ≠ 255 := of_decide_eq_true h
    have hn1 : n.val + 1 < 4096 := by omega
    funext k
    unfold rowR
    rw [b0 m c t ⟨(r.val + 1) % 512, by omega⟩ k ⟨n.val + 1, hn1⟩ (by show n.val + 1 = t.val * 512 + (r.val + 1) % 512; omega)]
    exact congrArg (m ((c : Thread nD τ).loc main_arg0)) (congr (congr (congrArg ix3 (Fin.ext (by show (n.val + 1) / 256 = n.val / 256; omega))) (Fin.ext (by show (n.val + 1) % 256 = (n.val % 256 + 1) % 256; omega))) rfl)

theorem step_point (c : Dev nD) (t : Fin cfg0.N) (r k : Fin 512) (n : Fin 4096) (hn : n.val = t.val * 512 + r.val) :
    (outsAt0 m c t).2 (ix2 r k) = stepSpec m c (ix2 n k) := by
  have ht : t.val < 8 := t.isLt
  have hr := r.isLt
  refine (step_at m c t r k).trans ?_
  have e3 := b3 m c t
  have e4 := b4 m c t
  have e5 := b5 m c t
  rw [funext fun k => b0 m c t r k n hn]
  simp only [e3, e4, e5]
  rfl

theorem final (c : Dev nD) : (dats m 0 c).arrAt 8 cfg0.N = spec m c := by
  refine (dats m 0 c).arrAt_eq_of_covers 8 _ (by decide +kernel) fun t hf y => ?_
  have ht : t.val < 8 := t.isLt
  have hemb : ∃ (r : Fin 512) (k : Fin 5120), y = ix2 r k ∧ ((cfg0.win 8).blk t).view.emb y = ix2 (⟨t.val * 512 + r.val, by omega⟩ : Fin 4096) k := by
    obtain ⟨r, k, rfl⟩ : ∃ (r : Fin 512) (k : Fin 5120), y = ix2 r k := ⟨y 0, y 1, eq_ix2 y⟩
    refine ⟨r, k, rfl, (eq_ix2 _).trans ?_⟩
    refine congr (congrArg ix2 (Fin.ext ?_)) (Fin.ext ?_) <;> blk_simp [idx0_8 t]
  obtain ⟨r, k, rfl, he⟩ := hemb
  rw [he]
  show (dats m 0 c).after 8 t (ix2 r k) = _
  rw [after0_8]
  exact point_at m c t r k _ rfl

theorem final_step (c : Dev nD) : (dats m 0 c).arrAt 9 cfg0.N = stepSpec m c := by
  refine (dats m 0 c).arrAt_eq_of_covers 9 _ (by decide +kernel) fun t hf y => ?_
  have ht : t.val < 8 := t.isLt
  have hemb : ∃ (r : Fin 512) (k : Fin 512), y = ix2 r k ∧ ((cfg0.win 9).blk t).view.emb y = ix2 (⟨t.val * 512 + r.val, by omega⟩ : Fin 4096) k := by
    obtain ⟨r, k, rfl⟩ : ∃ (r : Fin 512) (k : Fin 512), y = ix2 r k := ⟨y 0, y 1, eq_ix2 y⟩
    refine ⟨r, k, rfl, (eq_ix2 _).trans ?_⟩
    refine congr (congrArg ix2 (Fin.ext ?_)) (Fin.ext ?_) <;> blk_simp [idx0_9 t]
  obtain ⟨r, k, rfl, he⟩ := hemb
  rw [he]
  show (dats m 0 c).after 9 t (ix2 r k) = _
  rw [after0_9]
  exact step_point m c t r k _ rfl

end Cert.InBCtxIdeal.Gen
-- ==== Proof.Layer.InBCtx.Ref.lean ====
/-
  The context's second input projection's reference, read at every element.
-/
module

public import proofs.«01_k».proof.Proof.Gen.InBCtxReferenceIdeal.Read
public import proofs.«01_k».proof.Proof.Layer.InB
public import proofs.«01_k».proof.Proof.Layer.InBCtx.Spec

@[expose] public section

set_option maxRecDepth 16384

noncomputable section

open Idealize.ShloMosaic Idealize.ShloMosaic.TcCoe Idealize.SL.Sem

namespace Cert.InBCtxReferenceIdeal.Read
open Cert.InBCtxReferenceIdeal Cert.Layer

variable (x0 : S16x256x1024.Idx → EReal) (x1 : S1x1x6144.Idx → EReal) (x2 : S1024.Idx → EReal) (x3 : S1024x10304.Idx → EReal)
  (x4 : S4x3072.Idx → EReal) (x5 : S3072.Idx → EReal)

theorem norm_at (b : Fin 16) (s : Fin 256) (k : Fin 1024) :
    val_main_v20 (F := Ideal) x0 x1 x2 (ix3 b s k)
      = normMod modW epsW (fun k => x0 (ix3 b s k)) (fun k => x2 (ix1 k)) (fun k => x1 (ix3 0 0 ⟨1024 + k.val, by omega⟩))
          (fun k => x1 (ix3 0 0 ⟨0 + k.val, by omega⟩)) k := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0,
    val_main_cst, val_main_cst_0, val_main_cst_1, val_main_cst_2]
  unfold normMod rms
  simp only [Nat.zero_add]

/-- One element of a row's projection, by its column among the weights. -/
def up (b : Fin 16) (s : Fin 256) (f : Fin 10304) : EReal :=
  upAt (fun k => x0 (ix3 b s k)) (fun k => x2 (ix1 k)) (fun k => x1 (ix3 0 0 ⟨1024 + k.val, by omega⟩))
          (fun k => x1 (ix3 0 0 ⟨0 + k.val, by omega⟩)) (fun k => x3 (ix2 k f))

theorem up_at (b : Fin 16) (s : Fin 256) (f : Fin 5184) :
    val_main_v22 (F := Ideal) x0 x1 x2 x3 (ix3 b s f) = up x0 x1 x2 x3 b s ⟨5120 + f.val, by omega⟩ := by
  have h := norm_at x0 x1 x2 b s
  unfold val_main_v22
  generalize val_main_v20 (F := Ideal) x0 x1 x2 = z at *
  pointwise [val_main_v21]
  simp only [h]
  rfl

theorem conv_at (b : Fin 16) (s : Fin 256) (f : Fin 3072) :
    val_main_v54 (F := Ideal) x0 x1 x2 x3 x4 x5 (ix3 b s f)
      = x4 (ix2 0 f) * (if 2 ≤ s.val then up x0 x1 x2 x3 b ⟨s.val - 2, by omega⟩ ⟨5120 + f.val, by omega⟩ else 0)
        + x4 (ix2 1 f) * (if s.val ≠ 0 then up x0 x1 x2 x3 b ⟨s.val - 1, by omega⟩ ⟨5120 + f.val, by omega⟩ else 0)
        + x4 (ix2 2 f) * up x0 x1 x2 x3 b s ⟨5120 + f.val, by omega⟩
        + x4 (ix2 3 f) * (if s.val ≠ 255 then up x0 x1 x2 x3 b ⟨(s.val + 1) % 256, by omega⟩ ⟨5120 + f.val, by omega⟩ else 0)
        + x5 (ix1 f) := by
  have h := fun b s => up_at x0 x1 x2 x3 b s
  unfold val_main_v54 val_main_v51 val_main_v50 val_main_v47 val_main_v44 val_main_v43 val_main_v40 val_main_v37 val_main_v36 val_main_v33 val_main_v30
    val_main_v27 val_main_v24 val_main_v23
  generalize val_main_v22 (F := Ideal) x0 x1 x2 x3 = z at *
  pointwise [val_main_v25, val_main_v26, val_main_v28, val_main_v29, val_main_v31, val_main_v32, val_main_v34, val_main_v35, val_main_v38, val_main_v39,
    val_main_v41, val_main_v42, val_main_v45, val_main_v46, val_main_v48, val_main_v49, val_main_v52, val_main_v53, val_main_call0_v0, val_main_c]
  simp only [h]
  have hz : FloatOps.sitofp (F := Ideal) FTy.f32 0#32 = 0 := by
    show (((0#32 : BitVec 32).toInt : ℝ) : EReal) = 0
    simp
  rw [hz]
  have hs := s.isLt
  have g1 : ∀ (p q : Fin 256) (u v : Fin 10304), p.val = q.val → u.val = v.val → up x0 x1 x2 x3 b p u = up x0 x1 x2 x3 b q v := by
    intro p q u v e1 e2
    rw [Fin.ext e1, Fin.ext e2]
  refine congr (congrArg HAdd.hAdd (congr (congrArg HAdd.hAdd (congr (congrArg HAdd.hAdd (congr (congrArg HAdd.hAdd (congrArg _ ?_)) (congrArg _ ?_))) (congrArg _ ?_))) (congrArg _ ?_))) rfl
  · split_ifs
    all_goals first
      | omega
      | exact g1 _ _ _ _ (by dsimp only; omega) rfl
      | rfl
  · split_ifs
    all_goals first
      | omega
      | exact g1 _ _ _ _ (by dsimp only; omega) rfl
      | rfl
  · rfl
  · split_ifs
    all_goals first
      | omega
      | exact g1 _ _ _ _ (by dsimp only; omega) rfl
      | rfl

theorem act_at (b : Fin 16) (s : Fin 256) (f : Fin 3072) :
    val_main_v64 (F := Ideal) x0 x1 x2 x3 x4 x5 (ix3 b s f) = siluR (val_main_v54 (F := Ideal) x0 x1 x2 x3 x4 x5 (ix3 b s f)) := by
  unfold val_main_v64 val_main_call1_v5 val_main_call1_v3 val_main_call1_v1 val_main_call1_v0
  generalize val_main_v54 (F := Ideal) x0 x1 x2 x3 x4 x5 = z
  pointwise [val_main_call1_v2, val_main_call1_v4, val_main_call1_cst, val_main_call1_cst_0]
  rfl

theorem gate_at (b : Fin 16) (s : Fin 256) (f : Fin 2048) :
    val_main_v63 (F := Ideal) x0 x1 x2 x3 (ix3 b s f) = up x0 x1 x2 x3 b s ⟨5120 + (3136 + f.val), by omega⟩ := by
  have h := fun f => up_at x0 x1 x2 x3 b s f
  unfold val_main_v63
  generalize val_main_v22 (F := Ideal) x0 x1 x2 x3 = z at *
  pointwise
  exact h _

theorem result_at (n : Fin 4096) (f : Fin 5120) :
    val_main_v67 (F := Ideal) x0 x1 x2 x3 x4 x5 (ix2 n f) = inBCtx x0 x1 x2 x3 x4 x5 siluR n f := by
  have ha := act_at x0 x1 x2 x3 x4 x5
  have hg := gate_at x0 x1 x2 x3
  have hc := conv_at x0 x1 x2 x3 x4 x5
  unfold val_main_v67 val_main_v66 val_main_v65
  generalize val_main_v64 (F := Ideal) x0 x1 x2 x3 x4 x5 = a at *
  generalize val_main_v63 (F := Ideal) x0 x1 x2 x3 = d at *
  generalize val_main_v54 (F := Ideal) x0 x1 x2 x3 x4 x5 = e at *
  pointwise
  unfold inBCtx inB
  have hf := f.isLt
  by_cases h1 : f.val < 3072
  · rw [dif_pos h1, dif_pos h1, ha, hc]
    unfold convB up wB
    simp only [decide_eq_true_eq, dif_pos h1]
  · rw [dif_neg h1, dif_neg h1, hg]
    unfold up wB
    simp only [dif_neg h1, dif_pos hf]
    refine congrArg (upAt _ _ _ _) (funext fun k => congrArg x3 (congrArg (ix2 k) (Fin.ext ?_)))
    show 5120 + (3136 + (f.val - 3072)) = 5184 + f.val
    omega

/-- A head's step size, the first direction's heads and then the second's. -/
theorem dt_at (n : Fin 4096) (e : Fin 2) (q : Fin 4) (j : Fin 8) :
    val_main_v56 (F := Ideal) x0 x1 x2 x3 (ix4 n e q j)
      = up x0 x1 x2 x3 ⟨n.val / 256, by omega⟩ ⟨n.val % 256, by omega⟩ ⟨8192 + e.val * 32 + q.val * 8 + j.val, by omega⟩ := by
  have h := up_at x0 x1 x2 x3
  unfold val_main_v56 val_main_v55
  generalize val_main_v22 (F := Ideal) x0 x1 x2 x3 = z at *
  pointwise
  rw [h]
  have g1 : ∀ (a a' : Fin 16) (p q : Fin 256) (u v : Fin 10304), a.val = a'.val → p.val = q.val → u.val = v.val →
      up x0 x1 x2 x3 a p u = up x0 x1 x2 x3 a' q v := by
    intro a a' p q u v e0 e1 e2
    rw [Fin.ext e0, Fin.ext e1, Fin.ext e2]
  have := e.isLt
  have := q.isLt
  have := j.isLt
  exact g1 _ _ _ _ _ _ (by first | rfl | (dsimp only; omega)) (by first | rfl | (dsimp only; omega)) (by first | rfl | (dsimp only; omega))

theorem step_at (n : Fin 4096) (f : Fin 512) :
    val_main_v68 (F := Ideal) x0 x1 x2 x3 (ix2 n f) = stepCtx x0 x1 x2 x3 n f := by
  have h := dt_at x0 x1 x2 x3 n
  unfold val_main_v68 val_main_v62 val_main_v60 val_main_v59 val_main_v58 val_main_v57
  generalize val_main_v56 (F := Ideal) x0 x1 x2 x3 = z at *
  pointwise [val_main_v61, val_main_cst_3]
  unfold stepCtx wB
  have hf := f.isLt
  have e5 : 5120 + f.val - 5120 = f.val := by omega
  simp only [e5, dif_neg (show ¬ 5120 + f.val < 3072 by omega), dif_neg (show ¬ 5120 + f.val < 5120 by omega)]
  by_cases h1 : f.val % 128 < 8
  · rw [dif_pos h1, h]
    simp only [if_pos h1]
    unfold up
    refine congrArg (upAt _ _ _ _) (funext fun k => congrArg x3 (congrArg (ix2 k) (Fin.ext ?_)))
    show 8192 + 0 * 32 + f.val / 128 * 8 + f.val % 128 = 8192 + f.val / 128 * 8 + f.val % 128
    omega
  · rw [dif_neg h1]
    by_cases h2 : f.val % 128 < 16
    · rw [dif_pos (by omega), h]
      simp only [if_neg h1, if_pos h2]
      unfold up
      refine congrArg (upAt _ _ _ _) (funext fun k => congrArg x3 (congrArg (ix2 k) (Fin.ext ?_)))
      show 8192 + 1 * 32 + f.val / 128 * 8 + (f.val % 128 - 8) = 8224 + f.val / 128 * 8 + (f.val % 128 - 8)
      omega
    · rw [dif_neg (by omega)]
      simp only [if_neg h1, if_neg h2]
      unfold upAt
      simp

end Cert.InBCtxReferenceIdeal.Read
-- ==== Proof.Layer.InBCtx.Run.lean ====
/-
  The context's second input projection: the call's results are the reference's, of finite arguments of the activation.
-/
module

public import proofs.«01_k».proof.Defs
public import proofs.«01_k».proof.Proof.NA.Run
public import proofs.«01_k».proof.Proof.Layer.InBCtx.Arr
public import proofs.«01_k».proof.Proof.Layer.InBCtx.Ref
public import proofs.«01_k».proof.Proof.Gen.InBCtxReferenceIdeal.Run

@[expose] public section

set_option maxRecDepth 16384

noncomputable section

open Idealize.ShloMosaic Idealize.ShloMosaic.TcCoe Idealize.SL.Sem

theorem Cert.Pre_in_b_ctx_finite.holds : Cert.Pre_in_b_ctx_finite.Facts where
  bcast_S_S16x256x1024 := by decide
  slices_S1x1x6144_S1x1x2048_0_0_0 := by decide
  bcast_S_S1x1x2048 := by decide
  bcast_S_S1024 := by decide
  slices_S1024x10304_S1024x3072_0_5120 := by decide
  bcast_S_S1024x3072 := by decide
  bcast_S_S4x3072 := by decide
  bcast_S_S3072 := by decide

namespace Cert.Layer.InBCtx

theorem frame_reference : Cert.quiescent_InBCtxReferenceIdeal (hInBCtxReferenceIdeal := Cert.InBCtxReferenceIdeal.Gen.facts) := fun m ρ _ =>
  (θ_run _ _ _).mono (fun _ h => ⟨fun c => (h c).2.2, sem_eq_zero_of_no_sems rfl _⟩) (Cert.InBCtxReferenceIdeal.Value.run (F := Ideal) m ρ)

section
attribute [local instance] Cert.Pre_in_b_ctx_finite.holds

theorem act_eq (m : (ℓ : Loc Cert.InBCtxIdeal.nD Cert.InBCtxIdeal.τ Cert.InBCtxIdeal.sig) → Buf (Elt Ideal) ℓ)
    (hpre : Cert.Pre_InBCtxIdeal_in_b_ctx_finite (hPre_in_b_ctx_finite := Cert.Pre_in_b_ctx_finite.holds) m) (c : Dev Cert.InBCtxIdeal.nD) (n : Fin 4096) (k : Fin 5120) :
    inBCtx (m ((c : Thread Cert.InBCtxIdeal.nD Cert.InBCtxIdeal.τ).loc Cert.InBCtxIdeal.main_arg0)) (m ((c : Thread Cert.InBCtxIdeal.nD Cert.InBCtxIdeal.τ).loc Cert.InBCtxIdeal.main_arg1))
        (m ((c : Thread Cert.InBCtxIdeal.nD Cert.InBCtxIdeal.τ).loc Cert.InBCtxIdeal.main_arg2)) (m ((c : Thread Cert.InBCtxIdeal.nD Cert.InBCtxIdeal.τ).loc Cert.InBCtxIdeal.main_arg3))
        (m ((c : Thread Cert.InBCtxIdeal.nD Cert.InBCtxIdeal.τ).loc Cert.InBCtxIdeal.main_arg4)) (m ((c : Thread Cert.InBCtxIdeal.nD Cert.InBCtxIdeal.τ).loc Cert.InBCtxIdeal.main_arg5)) siluK n k
      = inBCtx (m ((c : Thread Cert.InBCtxIdeal.nD Cert.InBCtxIdeal.τ).loc Cert.InBCtxIdeal.main_arg0)) (m ((c : Thread Cert.InBCtxIdeal.nD Cert.InBCtxIdeal.τ).loc Cert.InBCtxIdeal.main_arg1))
        (m ((c : Thread Cert.InBCtxIdeal.nD Cert.InBCtxIdeal.τ).loc Cert.InBCtxIdeal.main_arg2)) (m ((c : Thread Cert.InBCtxIdeal.nD Cert.InBCtxIdeal.τ).loc Cert.InBCtxIdeal.main_arg3))
        (m ((c : Thread Cert.InBCtxIdeal.nD Cert.InBCtxIdeal.τ).loc Cert.InBCtxIdeal.main_arg4)) (m ((c : Thread Cert.InBCtxIdeal.nD Cert.InBCtxIdeal.τ).loc Cert.InBCtxIdeal.main_arg5)) siluR n k := by
  obtain ⟨p0, p1, p2, p3, p4, p5⟩ := hpre c
  generalize m ((c : Thread Cert.InBCtxIdeal.nD Cert.InBCtxIdeal.τ).loc Cert.InBCtxIdeal.main_arg0) = x0 at *
  generalize m ((c : Thread Cert.InBCtxIdeal.nD Cert.InBCtxIdeal.τ).loc Cert.InBCtxIdeal.main_arg1) = x1 at *
  generalize m ((c : Thread Cert.InBCtxIdeal.nD Cert.InBCtxIdeal.τ).loc Cert.InBCtxIdeal.main_arg2) = x2 at *
  generalize m ((c : Thread Cert.InBCtxIdeal.nD Cert.InBCtxIdeal.τ).loc Cert.InBCtxIdeal.main_arg3) = x3 at *
  generalize m ((c : Thread Cert.InBCtxIdeal.nD Cert.InBCtxIdeal.τ).loc Cert.InBCtxIdeal.main_arg4) = x4 at *
  generalize m ((c : Thread Cert.InBCtxIdeal.nD Cert.InBCtxIdeal.τ).loc Cert.InBCtxIdeal.main_arg5) = x5 at *
  have f0 : ∀ i, Fin' (x0 i) := fun i => Cert.NA.real_of_word _ (congrFun p0 i)
  have f1 : ∀ (k : Fin 6144), k.val < 2048 → Fin' (x1 (ix3 0 0 k)) := fun k h => by
    obtain ⟨r, hr⟩ := Cert.NA.real_of_word _ (congrFun p1 (ix3 0 0 (⟨k.val, h⟩ : Fin 2048)))
    refine ⟨r, Eq.trans ?_ hr⟩
    exact (extractStridedSlice_apply ![0, 0, 0] x1 _ (ix3 0 0 (⟨k.val, h⟩ : Fin 2048)) (ix3 0 0 k) (fun a => match a with
      | ⟨0, _⟩ => (Nat.zero_add _).symm
      | ⟨1, _⟩ => rfl
      | ⟨2, _⟩ => (Nat.zero_add _).symm)).symm
  have f2 : ∀ i, Fin' (x2 i) := fun i => Cert.NA.real_of_word _ (congrFun p2 i)
  have f3 : ∀ (j : Fin 1024) (f : Fin 3072), Fin' (x3 (ix2 j ⟨5120 + f.val, by omega⟩)) := fun j f => by
    obtain ⟨r, hr⟩ := Cert.NA.real_of_word _ (congrFun p3 (ix2 j f))
    refine ⟨r, Eq.trans ?_ hr⟩
    exact (extractStridedSlice_apply ![0, 5120] x3 _ (ix2 j f) (ix2 j ⟨5120 + f.val, by omega⟩) (fun a => match a with
      | ⟨0, _⟩ => (Nat.zero_add _).symm
      | ⟨1, _⟩ => rfl)).symm
  have f4 : ∀ i, Fin' (x4 i) := fun i => Cert.NA.real_of_word _ (congrFun p4 i)
  have f5 : ∀ i, Fin' (x5 i) := fun i => Cert.NA.real_of_word _ (congrFun p5 i)
  exact inB_act _ _ _ _ _ _ _ _ _ _ _ _ _ _ _ _ (fun _ => f0 _) (fun _ => f0 _) (fun _ => f0 _) (fun _ => f0 _) (fun _ => f2 _)
    (fun k => f1 _ (show 1024 + k.val < 2048 by omega)) (fun k => f1 _ (show 0 + k.val < 2048 by omega))
    (fun j f h => by unfold wB; rw [dif_pos h]; exact f3 j ⟨f.val, h⟩)
    (fun _ => f4 _) (fun _ => f4 _) (fun _ => f4 _) (fun _ => f4 _) (fun _ => f5 _) _
end

set_option maxHeartbeats 1000000 in
theorem algebraic : Cert.algebraic_InBCtxIdeal_InBCtxReferenceIdeal_pre_in_b_ctx_finite (hInBCtxIdeal := Cert.InBCtxIdeal.Gen.facts)
    (hInBCtxReferenceIdeal := Cert.InBCtxReferenceIdeal.Gen.facts) (hPre_in_b_ctx_finite := Cert.Pre_in_b_ctx_finite.holds) := by
  intro m g m' g' hpre hargs
  refine ⟨fun c => Cert.InBCtxIdeal.Gen.spec m c, fun c => Cert.InBCtxIdeal.Gen.stepSpec m c,
    (θ_run _ _ _).mono (fun _ h c => ⟨(h c).1.trans (Cert.InBCtxIdeal.Gen.final m c), (h c).2.1.trans (Cert.InBCtxIdeal.Gen.final_step m c), (h c).2.2⟩)
      (Cert.InBCtxIdeal.Value.run_blocks m g),
    (θ_run _ _ _).mono (fun _ h c => ⟨(h c).1.trans ?_, (h c).2.1.trans ?_, (h c).2.2⟩) (Cert.InBCtxReferenceIdeal.Value.run (F := Ideal) m' g')⟩
  · obtain ⟨a0, a1, a2, a3, a4, a5⟩ := hargs c
    rw [Cert.InBCtxReferenceIdeal.Read.val_main_v67_eq, a0, a1, a2, a3, a4, a5]
    funext i
    rw [eq_ix2 i]
    exact (Cert.InBCtxReferenceIdeal.Read.result_at _ _ _ _ _ _ _ _).trans (act_eq m hpre c _ _).symm
  · obtain ⟨a0, a1, a2, a3, a4, a5⟩ := hargs c
    rw [Cert.InBCtxReferenceIdeal.Read.val_main_v68_eq, a0, a1, a2, a3]
    funext i
    rw [eq_ix2 i]
    exact Cert.InBCtxReferenceIdeal.Read.step_at _ _ _ _ _ _

end Cert.Layer.InBCtx
-- ==== Proof.NA.Ref.lean ====
/-
  The reference's result, read at every element.
-/
module

public import proofs.«01_k».proof.Proof.Gen.ReferenceIdeal.Read
public import proofs.«01_k».proof.Proof.NA.Spec

@[expose] public section

set_option maxRecDepth 16384

noncomputable section

open Idealize.ShloMosaic Idealize.ShloMosaic.TcCoe Idealize.SL.Sem

namespace Cert.ReferenceIdeal.Read
open Cert.ReferenceIdeal Cert.NA

theorem gatherK_at {α : Type} (x : S8x32x64x16x64.Idx → α) (idx : IVec S32x8x1 32) (b : Fin 8) (r : Fin 32) (kr : Fin 8) (kc : Fin 64) (h : Fin 16) (d : Fin 64) :
    Host.gather gather_S8x32x64x16x64_S32x8x1_S8x32x8x64x16x64_0345_1_n_n_1_2_81641664 x idx (ix6 b r kr kc h d)
      = x (ix5 b ⟨min (idx (ix3 r kr 0)).toInt.toNat 31, by omega⟩ kc h d) := by
  unfold Host.gather
  refine congrArg x (funext fun a => Fin.ext ?_)
  match a with
  | ⟨0, _⟩ => exact Nat.zero_add _
  | ⟨1, _⟩ =>
    show (gather_S8x32x64x16x64_S32x8x1_S8x32x8x64x16x64_0345_1_n_n_1_2_81641664).start (ix6 b r kr kc h d) idx (1 : Fin 5) + (gather_S8x32x64x16x64_S32x8x1_S8x32x8x64x16x64_0345_1_n_n_1_2_81641664).batchCoord (ix6 b r kr kc h d) (1 : Fin 5) + (gather_S8x32x64x16x64_S32x8x1_S8x32x8x64x16x64_0345_1_n_n_1_2_81641664).offCoord (ix6 b r kr kc h d) (1 : Fin 5) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 5) ∈ (gather_S8x32x64x16x64_S32x8x1_S8x32x8x64x16x64_0345_1_n_n_1_2_81641664).startIndexMap by decide)]
    have hsi : (gather_S8x32x64x16x64_S32x8x1_S8x32x8x64x16x64_0345_1_n_n_1_2_81641664).siIdx (ix6 b r kr kc h d) ⟨List.idxOf (1 : Fin 5) (gather_S8x32x64x16x64_S32x8x1_S8x32x8x64x16x64_0345_1_n_n_1_2_81641664).startIndexMap,
        List.idxOf_lt_length_iff.2 (by decide)⟩ = ix3 r kr 0 := by
      funext b; refine Fin.ext ?_
      match b with
      | ⟨0, _⟩ => rfl
      | ⟨1, _⟩ => rfl
      | ⟨2, _⟩ => rfl
    rw [hsi]
    rfl
  | ⟨2, _⟩ => exact Nat.zero_add _
  | ⟨3, _⟩ => exact Nat.zero_add _
  | ⟨4, _⟩ => exact Nat.zero_add _

theorem gatherB_at {α : Type} (x : S16x15x31.Idx → α) (idx : IVec S32x64x8x64x2 32) (b : Fin 16) (r : Fin 32) (q : Fin 64) (kr : Fin 8) (kc : Fin 64) :
    Host.gather gather_S16x15x31_S32x64x8x64x2_S16x32x64x8x64_0_12_n_n_12_4_1611 x idx (ix5 b r q kr kc)
      = x (ix3 b ⟨min (idx (ix5 r q kr kc 0)).toInt.toNat 14, by omega⟩ ⟨min (idx (ix5 r q kr kc 1)).toInt.toNat 30, by omega⟩) := by
  unfold Host.gather
  refine congrArg x (funext fun a => Fin.ext ?_)
  match a with
  | ⟨0, _⟩ => exact Nat.zero_add _
  | ⟨1, _⟩ =>
    show (gather_S16x15x31_S32x64x8x64x2_S16x32x64x8x64_0_12_n_n_12_4_1611).start (ix5 b r q kr kc) idx (1 : Fin 3) + (gather_S16x15x31_S32x64x8x64x2_S16x32x64x8x64_0_12_n_n_12_4_1611).batchCoord (ix5 b r q kr kc) (1 : Fin 3) + (gather_S16x15x31_S32x64x8x64x2_S16x32x64x8x64_0_12_n_n_12_4_1611).offCoord (ix5 b r q kr kc) (1 : Fin 3) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ (gather_S16x15x31_S32x64x8x64x2_S16x32x64x8x64_0_12_n_n_12_4_1611).startIndexMap by decide)]
    have hsi : (gather_S16x15x31_S32x64x8x64x2_S16x32x64x8x64_0_12_n_n_12_4_1611).siIdx (ix5 b r q kr kc) ⟨List.idxOf (1 : Fin 3) (gather_S16x15x31_S32x64x8x64x2_S16x32x64x8x64_0_12_n_n_12_4_1611).startIndexMap,
        List.idxOf_lt_length_iff.2 (by decide)⟩ = ix5 r q kr kc 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨2, _⟩ =>
    show (gather_S16x15x31_S32x64x8x64x2_S16x32x64x8x64_0_12_n_n_12_4_1611).start (ix5 b r q kr kc) idx (2 : Fin 3) + (gather_S16x15x31_S32x64x8x64x2_S16x32x64x8x64_0_12_n_n_12_4_1611).batchCoord (ix5 b r q kr kc) (2 : Fin 3) + (gather_S16x15x31_S32x64x8x64x2_S16x32x64x8x64_0_12_n_n_12_4_1611).offCoord (ix5 b r q kr kc) (2 : Fin 3) = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ (gather_S16x15x31_S32x64x8x64x2_S16x32x64x8x64_0_12_n_n_12_4_1611).startIndexMap by decide)]
    have hsi : (gather_S16x15x31_S32x64x8x64x2_S16x32x64x8x64_0_12_n_n_12_4_1611).siIdx (ix5 b r q kr kc) ⟨List.idxOf (2 : Fin 3) (gather_S16x15x31_S32x64x8x64x2_S16x32x64x8x64_0_12_n_n_12_4_1611).startIndexMap,
        List.idxOf_lt_length_iff.2 (by decide)⟩ = ix5 r q kr kc 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl

theorem v55_at : ∀ (r : Fin 32) (kr : Fin 8), min (val_main_v55 (F := Ideal) (ix2 r kr)).toInt.toNat 31 = rs r.val + kr.val := by
  decide +kernel
theorem v62_at : ∀ (r : Fin 32) (kr : Fin 8), min (val_main_v62 (F := Ideal) (ix2 r kr)).toInt.toNat 31 = rs r.val + kr.val := by
  decide +kernel
theorem v71_at : ∀ (r : Fin 32) (kr : Fin 8), min (val_main_v71 (F := Ideal) (ix4 r 0 kr 0)).toInt.toNat 14 = min (rs r.val + kr.val + 7 - r.val) 14 := by
  decide +kernel
theorem v76_at : ∀ (cq kc : Fin 64), min (val_main_v76 (F := Ideal) (ix4 0 cq 0 kc)).toInt.toNat 30 = min (kc.val + 15 - cq.val) 30 := by
  decide +kernel
theorem v23_at : ∀ (cq kc : Fin 64), val_main_v23 (F := Ideal) (ix2 cq kc) = if colOk cq.val kc.val then 1#1 else 0#1 := by
  decide +kernel

theorem v5_at (x1 : S8x2048x16x64.Idx → EReal) (b : Fin 8) (r : Fin 32) (kc : Fin 64) (h : Fin 16) (d : Fin 64) :
    val_main_v5 (F := Ideal) x1 (ix5 b r kc h d) = x1 (ix4 b ⟨r.val * 64 + kc.val, by omega⟩ h d) := by
  pointwise [val_main_v5]

theorem v6_at (x1 : S8x2048x16x64.Idx → EReal) (b : Fin 8) (r : Fin 32) (kc : Fin 64) (h : Fin 16) (d : Fin 64) :
    val_main_v6 (F := Ideal) x1 (ix5 b r kc h d) = x1 (ix4 b ⟨r.val * 64 + kc.val, by omega⟩ h d) := by
  pointwise [val_main_v6]

theorem v56_at (r : Fin 32) (kr : Fin 8) : val_main_v56 (F := Ideal) (ix3 r kr 0) = val_main_v55 (F := Ideal) (ix2 r kr) := by
  pointwise [val_main_v56]

theorem v63_at (r : Fin 32) (kr : Fin 8) : val_main_v63 (F := Ideal) (ix3 r kr 0) = val_main_v62 (F := Ideal) (ix2 r kr) := by
  pointwise [val_main_v63]

theorem v57_at (x1 : S8x2048x16x64.Idx → EReal) (b : Fin 8) (r : Fin 32) (kr : Fin 8) (kc : Fin 64) (h : Fin 16) (d : Fin 64) :
    val_main_v57 (F := Ideal) x1 (ix6 b r kr kc h d) = x1 (ix4 b ⟨(rs r.val + kr.val) * 64 + kc.val, by unfold rs; omega⟩ h d) := by
  unfold val_main_v57
  refine (gatherK_at _ _ b r kr kc h d).trans ((v5_at x1 b _ kc h d).trans (congrArg (fun z => x1 (ix4 b z h d)) (Fin.ext ?_)))
  exact congrArg (fun z => z * 64 + kc.val) ((congrArg (fun z : BitVec 32 => min z.toInt.toNat 31) (v56_at r kr)).trans (v55_at r kr))

theorem v64_at (x1 : S8x2048x16x64.Idx → EReal) (b : Fin 8) (r : Fin 32) (kr : Fin 8) (kc : Fin 64) (h : Fin 16) (d : Fin 64) :
    val_main_v64 (F := Ideal) x1 (ix6 b r kr kc h d) = x1 (ix4 b ⟨(rs r.val + kr.val) * 64 + kc.val, by unfold rs; omega⟩ h d) := by
  unfold val_main_v64
  refine (gatherK_at _ _ b r kr kc h d).trans ((v6_at x1 b _ kc h d).trans (congrArg (fun z => x1 (ix4 b z h d)) (Fin.ext ?_)))
  exact congrArg (fun z => z * 64 + kc.val) ((congrArg (fun z : BitVec 32 => min z.toInt.toNat 31) (v63_at r kr)).trans (v62_at r kr))

theorem v82_at (x6 : S16x15x31.Idx → EReal) (h : Fin 16) (r : Fin 32) (cq : Fin 64) (kr : Fin 8) (kc : Fin 64) :
    val_main_v82 (F := Ideal) x6 (ix5 h r cq kr kc) = x6 (ix3 h ⟨min (rs r.val + kr.val + 7 - r.val) 14, by omega⟩ ⟨min (kc.val + 15 - cq.val) 30, by omega⟩) := by
  unfold val_main_v82
  rw [gatherB_at]
  have e0 : val_main_v81 (F := Ideal) (ix5 r cq kr kc 0) = val_main_v71 (F := Ideal) (ix4 r 0 kr 0) := by
    pointwise [val_main_v81, val_main_v79, val_main_v77]
  have e1 : val_main_v81 (F := Ideal) (ix5 r cq kr kc 1) = val_main_v76 (F := Ideal) (ix4 0 cq 0 kc) := by
    pointwise [val_main_v81, val_main_v80, val_main_v78]
  refine congrArg x6 (congr (congrArg (ix3 h) (Fin.ext ?_)) (Fin.ext ?_))
  · exact (congrArg (fun z : BitVec 32 => min z.toInt.toNat 14) e0).trans (v71_at r kr)
  · exact (congrArg (fun z : BitVec 32 => min z.toInt.toNat 30) e1).trans (v76_at cq kc)

theorem ofBits_negInf : Ideal.ofBits .f32 0xFF800000#32 = ⊥ := by
  simp [Ideal.ofBits, Ideal.ieee]

theorem v90_at (x0 x1 : S8x2048x16x64.Idx → EReal) (x6 : S16x15x31.Idx → EReal) (b : Fin 8) (h : Fin 16) (r : Fin 32) (cq : Fin 64) (kr : Fin 8) (kc : Fin 64) :
    val_main_v90 (F := Ideal) x0 x1 x6 (ix6 b h r cq kr kc) = scoreR x0 x1 x6 b r cq h (kr, kc) := by
  pointwise [val_main_v90, val_main_v89, val_main_v85, val_main_v84, val_main_v83, val_main_v88, val_main_v87, val_main_v4, val_main_cst, val_main_call3_v1, val_main_call3_v2, val_main_call3_v0, val_main_v86]
  rw [v23_at, v82_at]
  simp only [v57_at]
  unfold scoreR c8
  by_cases hc : colOk cq.val kc.val
  · rw [if_pos hc, if_pos hc]; rfl
  · rw [if_neg hc, if_neg hc]; exact ofBits_negInf

theorem v93_at (x0 : S8x2048x16x64.Idx → EReal) (x4 : S8x2x256x16x64.Idx → EReal) (b : Fin 8) (h : Fin 16) (r : Fin 32) (cq : Fin 64) (j : Fin 256) :
    val_main_v93 (F := Ideal) x0 x4 (ix5 b h r cq j) = scoreC x0 x4 b r cq h j := by
  pointwise [val_main_v93, val_main_v92, val_main_v91, val_main_v4, val_main_v1, val_main_v0, val_main_cst_21]
  rfl

section
variable (x0 x1 x2 : S8x2048x16x64.Idx → EReal) (x4 x5 : S8x2x256x16x64.Idx → EReal) (x6 : S16x15x31.Idx → EReal) (b : Fin 8) (h : Fin 16) (r : Fin 32) (cq : Fin 64)

theorem v95_inl (p : Fin 8 × Fin 64) : val_main_v95 (F := Ideal) x0 x1 x4 x6 (ix5 b h r cq (keys (.inl p))) = scoreR x0 x1 x6 b r cq h p := by
  obtain ⟨kr, kc⟩ := p
  have hk : (keys (.inl (kr, kc))).val = kr.val * 64 + kc.val := rfl
  generalize keys (.inl (kr, kc)) = z at hk
  have hb := kr.isLt
  have hc := kc.isLt
  pointwise [val_main_v95, val_main_v94]
  rw [dif_pos (by omega), ← v90_at]
  exact congrArg _ (congr (congrArg (ix6 b h r cq) (Fin.ext (by simp; omega))) (Fin.ext (by simp; omega)))

theorem v95_inr (j : Fin 256) : val_main_v95 (F := Ideal) x0 x1 x4 x6 (ix5 b h r cq (keys (.inr j))) = scoreC x0 x4 b r cq h j := by
  have hk : (keys (.inr j)).val = 512 + j.val := rfl
  generalize keys (.inr j) = z at hk
  pointwise [val_main_v95, val_main_v94]
  rw [dif_neg (by omega), ← v93_at]
  exact congrArg _ (congrArg (ix5 b h r cq) (Fin.ext (by simp; omega)))

theorem red_at (X : FVec Ideal S8x16x32x64x768 .f32) (h1 : S8x16x32x64x768.ReducesTo [4] S8x16x32x64) (h2) :
    (Host.reduce (FloatOps.maximumf (F := Ideal) (φ := .f32)) X (val_main_cst_22 (F := Ideal)) h1 h2 (ix4 b h r cq) : EReal) = Finset.univ.sup fun x : Fin 768 => X (ix5 b h r cq x) := by
  pointwise [val_main_cst_22]
  rw [ofBits_negInf]
  rfl

theorem v96_at : val_main_v96 (F := Ideal) x0 x1 x4 x6 (ix4 b h r cq) = Finset.univ.sup fun x : Fin 768 => val_main_v95 (F := Ideal) x0 x1 x4 x6 (ix5 b h r cq x) := by
  unfold val_main_v96
  generalize val_main_v95 (F := Ideal) x0 x1 x4 x6 = X
  exact red_at b h r cq X _ _

theorem v97_at : val_main_v97 (F := Ideal) (ix4 b h r cq) = (⊥ : EReal) := by
  rw [← ofBits_negInf]
  pointwise [val_main_v97, val_main_cst_23]

theorem maximumf_at (X Y : FVec Ideal S8x16x32x64 .f32) (i : S8x16x32x64.Idx) : maximumf X Y i = FloatOps.maximumf (F := Ideal) (φ := .f32) (X i) (Y i) := rfl

theorem max_bot (x : EReal) : FloatOps.maximumf (F := Ideal) (φ := .f32) (⊥ : EReal) x = x := max_bot_left x

theorem v98_96 : val_main_v98 (F := Ideal) x0 x1 x4 x6 (ix4 b h r cq) = val_main_v96 (F := Ideal) x0 x1 x4 x6 (ix4 b h r cq) := by
  unfold val_main_v98
  rw [maximumf_at, v97_at, max_bot]

theorem v98_at : val_main_v98 (F := Ideal) x0 x1 x4 x6 (ix4 b h r cq)
    = max (Finset.univ.sup (scoreR x0 x1 x6 b r cq h)) (Finset.univ.sup (scoreC x0 x4 b r cq h)) := by
  refine (v98_96 x0 x1 x4 x6 b h r cq).trans (((v96_at x0 x1 x4 x6 b h r cq).trans ((sup_keys _).trans ?_)))
  exact congrArg₂ max (congrArg _ (funext fun p => v95_inl x0 x1 x4 x6 b h r cq p)) (congrArg _ (funext fun j => v95_inr x0 x1 x4 x6 b h r cq j))

theorem v106_at (x : Fin 768) : val_main_v106 (F := Ideal) x0 x1 x4 x6 (ix5 b h r cq x)
   = Ideal.div (Ideal.exp (val_main_v95 (F := Ideal) x0 x1 x4 x6 (ix5 b h r cq x) - val_main_v98 (F := Ideal) x0 x1 x4 x6 (ix4 b h r cq)))
      (∑ x, Ideal.exp (val_main_v95 (F := Ideal) x0 x1 x4 x6 (ix5 b h r cq x) - val_main_v98 (F := Ideal) x0 x1 x4 x6 (ix4 b h r cq))) := by
  unfold val_main_v106 val_main_v105 val_main_v104 val_main_v103 val_main_v102 val_main_v101 val_main_v100 val_main_v99
  generalize val_main_v95 (F := Ideal) x0 x1 x4 x6 = X
  generalize val_main_v98 (F := Ideal) x0 x1 x4 x6 = M
  pointwise [val_main_cst_24]

theorem v114_at (d : Fin 64) : val_main_v114 (F := Ideal) x0 x1 x2 x4 x5 x6 (ix5 b r cq h d) = Cert.NA.out x0 x1 x2 x4 x5 x6 b r cq h d := by
  have e : val_main_v114 (F := Ideal) x0 x1 x2 x4 x5 x6 (ix5 b r cq h d)
     = (∑ kr : Fin 8, ∑ kc : Fin 64, val_main_v64 (F := Ideal) x2 (ix6 b r kr kc h d) * val_main_v106 (F := Ideal) x0 x1 x4 x6 (ix5 b h r cq (keys (.inl (kr, kc)))))
      + ∑ j : Fin 256, x5 (ix5 b 0 j h d) * val_main_v106 (F := Ideal) x0 x1 x4 x6 (ix5 b h r cq (keys (.inr j))) := by
    unfold val_main_v114 val_main_v113 val_main_v112 val_main_v111 val_main_v110 val_main_v109 val_main_v108 val_main_v107
    generalize val_main_v64 (F := Ideal) x2 = A
    generalize val_main_v106 (F := Ideal) x0 x1 x4 x6 = B
    pointwise [val_main_v3, val_main_v2]
    rfl
  rw [e]
  clear e
  have hm := v98_at x0 x1 x4 x6 b h r cq
  have hd : (∑ x, Ideal.exp (val_main_v95 (F := Ideal) x0 x1 x4 x6 (ix5 b h r cq x) - val_main_v98 (F := Ideal) x0 x1 x4 x6 (ix4 b h r cq)))
     = (∑ p, Ideal.exp (scoreR x0 x1 x6 b r cq h p - val_main_v98 (F := Ideal) x0 x1 x4 x6 (ix4 b h r cq)))
       + ∑ j, Ideal.exp (scoreC x0 x4 b r cq h j - val_main_v98 (F := Ideal) x0 x1 x4 x6 (ix4 b h r cq)) := by
    rw [sum_keys]
    exact congrArg₂ (· + ·) (Finset.sum_congr rfl fun p _ => by rw [v95_inl]) (Finset.sum_congr rfl fun p _ => by rw [v95_inr])
  have h1 : ∀ p, val_main_v106 (F := Ideal) x0 x1 x4 x6 (ix5 b h r cq (keys (.inl p))) = _ := fun p => by
    rw [v106_at, hd, v95_inl, hm]
  have h2 : ∀ j, val_main_v106 (F := Ideal) x0 x1 x4 x6 (ix5 b h r cq (keys (.inr j))) = _ := fun j => by
    rw [v106_at, hd, v95_inr, hm]
  unfold Cert.NA.out soft
  refine congrArg₂ (· + ·) ?_ (Finset.sum_congr rfl fun j _ => ?_)
  · rw [Fintype.sum_prod_type]
    refine Finset.sum_congr rfl fun kr _ => Finset.sum_congr rfl fun kc _ => ?_
    rw [v64_at, h1, mul_comm]
  · rw [h2, mul_comm]

theorem v116_at (n : Fin 16384) (c : Fin 1024) : val_main_v116 (F := Ideal) x0 x1 x2 x4 x5 x6 (ix2 n c)
    = Cert.NA.out x0 x1 x2 x4 x5 x6 ⟨n.val / 2048, by omega⟩ ⟨n.val / 64 % 32, by omega⟩ ⟨n.val % 64, by omega⟩ ⟨c.val / 64, by omega⟩ ⟨c.val % 64, by omega⟩ := by
  rw [← v114_at]
  unfold val_main_v116 val_main_v115
  generalize val_main_v114 (F := Ideal) x0 x1 x2 x4 x5 x6 = X
  pointwise

end

end Cert.ReferenceIdeal.Read
-- ==== Proof.lean ====
/-
  The certificate: the frames of the programs, the named constants, and each kernel's result equal to its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MergeLat
public import proofs.«01_k».proof.Proof.Gen.MergeLat.Frame
public import proofs.«01_k».proof.Proof.Gen.MergeLatIdeal
public import proofs.«01_k».proof.Proof.Gen.MergeLatIdeal.Frame
public import proofs.«01_k».proof.Proof.Gen.MergeLatIdeal.Value
public import proofs.«01_k».proof.Proof.Gen.MergeLatReferenceIdeal
public import proofs.«01_k».proof.Proof.Gen.MergeLatReferenceIdeal.Run
public import proofs.«01_k».proof.Proof.Gen.MergeLatReferenceIdeal.Read
public import proofs.«01_k».proof.Proof.Gen.FfnLat
public import proofs.«01_k».proof.Proof.Gen.FfnLat.Frame
public import proofs.«01_k».proof.Proof.Gen.FfnLatIdeal
public import proofs.«01_k».proof.Proof.Gen.FfnLatIdeal.Frame
public import proofs.«01_k».proof.Proof.Gen.FfnLatIdeal.Value
public import proofs.«01_k».proof.Proof.Gen.FfnLatReferenceIdeal
public import proofs.«01_k».proof.Proof.Gen.FfnLatReferenceIdeal.Run
public import proofs.«01_k».proof.Proof.Gen.FfnLatReferenceIdeal.Read
public import proofs.«01_k».proof.Proof.Gen.MergeCtx
public import proofs.«01_k».proof.Proof.Gen.MergeCtx.Frame
public import proofs.«01_k».proof.Proof.Gen.MergeCtxIdeal
public import proofs.«01_k».proof.Proof.Gen.MergeCtxIdeal.Frame
public import proofs.«01_k».proof.Proof.Gen.MergeCtxIdeal.Value
public import proofs.«01_k».proof.Proof.Gen.MergeCtxReferenceIdeal
public import proofs.«01_k».proof.Proof.Gen.MergeCtxReferenceIdeal.Run
public import proofs.«01_k».proof.Proof.Gen.MergeCtxReferenceIdeal.Read
public import proofs.«01_k».proof.Proof.Gen.FfnCtx
public import proofs.«01_k».proof.Proof.Gen.FfnCtx.Frame
public import proofs.«01_k».proof.Proof.Gen.FfnCtxIdeal
public import proofs.«01_k».proof.Proof.Gen.FfnCtxIdeal.Frame
public import proofs.«01_k».proof.Proof.Gen.FfnCtxIdeal.Value
public import proofs.«01_k».proof.Proof.Gen.FfnCtxReferenceIdeal
public import proofs.«01_k».proof.Proof.Gen.FfnCtxReferenceIdeal.Run
public import proofs.«01_k».proof.Proof.Gen.FfnCtxReferenceIdeal.Read
public import proofs.«01_k».proof.Proof.Gen.CtxAttn
public import proofs.«01_k».proof.Proof.Gen.CtxAttn.Frame
public import proofs.«01_k».proof.Proof.Gen.CtxAttnIdeal
public import proofs.«01_k».proof.Proof.Gen.CtxAttnIdeal.Frame
public import proofs.«01_k».proof.Proof.Gen.CtxAttnIdeal.Value
public import proofs.«01_k».proof.Proof.Gen.CtxAttnReferenceIdeal
public import proofs.«01_k».proof.Proof.Gen.CtxAttnReferenceIdeal.Run
public import proofs.«01_k».proof.Proof.Gen.CtxAttnReferenceIdeal.Read
public import proofs.«01_k».proof.Proof.Gen.InALat
public import proofs.«01_k».proof.Proof.Gen.InALat.Frame
public import proofs.«01_k».proof.Proof.Gen.InALatIdeal
public import proofs.«01_k».proof.Proof.Gen.InALatIdeal.Frame
public import proofs.«01_k».proof.Proof.Gen.InALatIdeal.Value
public import proofs.«01_k».proof.Proof.Gen.InALatReferenceIdeal
public import proofs.«01_k».proof.Proof.Gen.InALatReferenceIdeal.Run
public import proofs.«01_k».proof.Proof.Gen.InALatReferenceIdeal.Read
public import proofs.«01_k».proof.Proof.Gen.InBLat
public import proofs.«01_k».proof.Proof.Gen.InBLat.Frame
public import proofs.«01_k».proof.Proof.Gen.InBLatIdeal
public import proofs.«01_k».proof.Proof.Gen.InBLatIdeal.Frame
public import proofs.«01_k».proof.Proof.Gen.InBLatIdeal.Value
public import proofs.«01_k».proof.Proof.Gen.InBLatReferenceIdeal
public import proofs.«01_k».proof.Proof.Gen.InBLatReferenceIdeal.Run
public import proofs.«01_k».proof.Proof.Gen.InBLatReferenceIdeal.Read
public import proofs.«01_k».proof.Proof.Gen.InACtx
public import proofs.«01_k».proof.Proof.Gen.InACtx.Frame
public import proofs.«01_k».proof.Proof.Gen.InACtxIdeal
public import proofs.«01_k».proof.Proof.Gen.InACtxIdeal.Frame
public import proofs.«01_k».proof.Proof.Gen.InACtxIdeal.Value
public import proofs.«01_k».proof.Proof.Gen.InACtxReferenceIdeal
public import proofs.«01_k».proof.Proof.Gen.InACtxReferenceIdeal.Run
public import proofs.«01_k».proof.Proof.Gen.InACtxReferenceIdeal.Read
public import proofs.«01_k».proof.Proof.Gen.InBCtx
public import proofs.«01_k».proof.Proof.Gen.InBCtx.Frame
public import proofs.«01_k».proof.Proof.Gen.InBCtxIdeal
public import proofs.«01_k».proof.Proof.Gen.InBCtxIdeal.Frame
public import proofs.«01_k».proof.Proof.Gen.InBCtxIdeal.Value
public import proofs.«01_k».proof.Proof.Gen.InBCtxReferenceIdeal
public import proofs.«01_k».proof.Proof.Gen.InBCtxReferenceIdeal.Run
public import proofs.«01_k».proof.Proof.Gen.InBCtxReferenceIdeal.Read
public import proofs.«01_k».proof.Proof.NA.Run
public import proofs.«01_k».proof.Proof.Layer.MergeLat.Run
public import proofs.«01_k».proof.Proof.Layer.FfnLat.Run
public import proofs.«01_k».proof.Proof.Layer.MergeCtx.Run
public import proofs.«01_k».proof.Proof.Layer.FfnCtx.Run
public import proofs.«01_k».proof.Proof.Layer.CtxAttn.Run
public import proofs.«01_k».proof.Proof.Layer.InALat.Run
public import proofs.«01_k».proof.Proof.Layer.InBLat.Run
public import proofs.«01_k».proof.Proof.Layer.InACtx.Run
public import proofs.«01_k».proof.Proof.Layer.InBCtx.Run
public import proofs.«01_k».proof.Proof.NA.Ref
public import Idealize.ShloMosaic.Adequacy
public import Idealize.ShloMosaic.Init

@[expose] public section

noncomputable section

namespace Cert.Proof

open Idealize.ShloMosaic Idealize.SL.Sem Cert.Kernel

/-- The reference's frame, from its generated run. -/
theorem frame_reference : Cert.quiescent_ReferenceIdeal (hReferenceIdeal := Cert.ReferenceIdeal.Gen.facts) := fun m ρ _ =>
  (θ_run _ _ _).mono (fun _ h => ⟨fun c => (h c).2, sem_eq_zero_of_no_sems rfl _⟩) (Cert.ReferenceIdeal.Value.run (F := Ideal) m ρ)

/-- An array whose absolute values are below infinity is an array of reals. -/
theorem reals {s : Shape} (x : FVec Ideal s .f32) (h : ∀ i, ∃ r : ℝ, (x i : EReal) = (r : EReal)) :
    ∃ f : s.Idx → ℝ, ∀ i, (x i : EReal) = (f i : EReal) := ⟨fun i => (h i).choose, fun i => (h i).choose_spec⟩

/-- The kernel's result is the reference's, of finite queries, keys, cached keys and biases. -/
theorem algebraic : Cert.algebraic_KernelIdeal_ReferenceIdeal_pre_scores_finite (hKernelIdeal := Cert.KernelIdeal.Gen.facts)
    (hReferenceIdeal := Cert.ReferenceIdeal.Gen.facts) (hPre_scores_finite := Cert.Pre_scores_finite.holds) := by
  intro m g m' g' hpre hargs
  refine ⟨fun c => (Cert.KernelIdeal.Gen.dat1 (Cert.KernelIdeal.Gen.V3 m g) c).arrAt 6 Cert.KernelIdeal.cfg1.N,
    (θ_run _ _ _).mono (fun _ h c => h.1 c) (Cert.KernelIdeal.Gen.result_run m g),
    (θ_run _ _ _).mono (fun _ h c => ⟨(h c).1.trans ?_, (h c).2⟩) (Cert.ReferenceIdeal.Value.run (F := Ideal) m' g')⟩
  obtain ⟨p0, p1, p2, p3⟩ := hpre c
  obtain ⟨qr, hq⟩ := reals _ (fun i => Cert.NA.real_of_word _ (congrFun p0 i))
  obtain ⟨kr, hk⟩ := reals _ (fun i => Cert.NA.real_of_word _ (congrFun p1 i))
  obtain ⟨ckr, hck⟩ := reals _ (fun i => Cert.NA.real_of_word _ (congrFun p2 i))
  obtain ⟨rpbr, hrpb⟩ := reals _ (fun i => Cert.NA.real_of_word _ (congrFun p3 i))
  obtain ⟨a0, a1, a2, a3, a4, a5, a6⟩ := hargs c
  rw [Cert.ReferenceIdeal.Read.val_main_v116_eq, a0, a1, a2, a4, a5, a6]
  funext i
  rw [show i = ix2 (i 0) (i 1) from by funext a; fin_cases a <;> rfl]
  exact (Cert.ReferenceIdeal.Read.v116_at _ _ _ _ _ _ _ _).trans (Cert.KernelIdeal.Gen.result_at m g c qr kr ckr rpbr hq hk hck hrpb _ _).symm

theorem claim : Cert.Claim := ⟨Cert.Kernel.Gen.facts, Cert.KernelIdeal.Gen.facts, Cert.ReferenceIdeal.Gen.facts,
  Cert.MergeLat.Gen.facts, Cert.MergeLatIdeal.Gen.facts, Cert.MergeLatReferenceIdeal.Gen.facts,
  Cert.FfnLat.Gen.facts, Cert.FfnLatIdeal.Gen.facts, Cert.FfnLatReferenceIdeal.Gen.facts,
  Cert.MergeCtx.Gen.facts, Cert.MergeCtxIdeal.Gen.facts, Cert.MergeCtxReferenceIdeal.Gen.facts,
  Cert.FfnCtx.Gen.facts, Cert.FfnCtxIdeal.Gen.facts, Cert.FfnCtxReferenceIdeal.Gen.facts,
  Cert.CtxAttn.Gen.facts, Cert.CtxAttnIdeal.Gen.facts, Cert.CtxAttnReferenceIdeal.Gen.facts,
  Cert.InALat.Gen.facts, Cert.InALatIdeal.Gen.facts, Cert.InALatReferenceIdeal.Gen.facts,
  Cert.InBLat.Gen.facts, Cert.InBLatIdeal.Gen.facts, Cert.InBLatReferenceIdeal.Gen.facts,
  Cert.InACtx.Gen.facts, Cert.InACtxIdeal.Gen.facts, Cert.InACtxReferenceIdeal.Gen.facts,
  Cert.InBCtx.Gen.facts, Cert.InBCtxIdeal.Gen.facts, Cert.InBCtxReferenceIdeal.Gen.facts,
  Cert.Pre_scores_finite.holds, Cert.Pre_ffn_finite.holds, Cert.Pre_ffn_ctx_finite.holds, Cert.Pre_ctx_scores_finite.holds, Cert.Pre_in_b_finite.holds, Cert.Pre_in_b_ctx_finite.holds,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.MergeLat.Gen.frame m ρ, fun m ρ _ => Cert.MergeLatIdeal.Gen.frame m ρ, Cert.Layer.MergeLat.frame_reference,
  fun m ρ _ => Cert.FfnLat.Gen.frame m ρ, fun m ρ _ => Cert.FfnLatIdeal.Gen.frame m ρ, fun m ρ _ => Cert.FfnLatIdeal.Gen.frame m ρ,
  Cert.Layer.FfnLat.frame_reference, fun m ρ _ => Cert.Layer.FfnLat.frame_reference m ρ trivial,
  fun m ρ _ => Cert.MergeCtx.Gen.frame m ρ, fun m ρ _ => Cert.MergeCtxIdeal.Gen.frame m ρ,
  Cert.Layer.MergeCtx.frame_reference,
  fun m ρ _ => Cert.FfnCtx.Gen.frame m ρ, fun m ρ _ => Cert.FfnCtxIdeal.Gen.frame m ρ, fun m ρ _ => Cert.FfnCtxIdeal.Gen.frame m ρ,
  Cert.Layer.FfnCtx.frame_reference, fun m ρ _ => Cert.Layer.FfnCtx.frame_reference m ρ trivial,
  fun m ρ _ => Cert.CtxAttn.Gen.frame m ρ, fun m ρ _ => Cert.CtxAttnIdeal.Gen.frame m ρ, fun m ρ _ => Cert.CtxAttnIdeal.Gen.frame m ρ,
  Cert.Layer.CtxAttn.frame_reference, fun m ρ _ => Cert.Layer.CtxAttn.frame_reference m ρ trivial,
  fun m ρ _ => Cert.InALat.Gen.frame m ρ, fun m ρ _ => Cert.InALatIdeal.Gen.frame m ρ,
  Cert.Layer.InALat.frame_reference,
  fun m ρ _ => Cert.InBLat.Gen.frame m ρ, fun m ρ _ => Cert.InBLatIdeal.Gen.frame m ρ, fun m ρ _ => Cert.InBLatIdeal.Gen.frame m ρ,
  Cert.Layer.InBLat.frame_reference, fun m ρ _ => Cert.Layer.InBLat.frame_reference m ρ trivial,
  fun m ρ _ => Cert.InACtx.Gen.frame m ρ, fun m ρ _ => Cert.InACtxIdeal.Gen.frame m ρ,
  Cert.Layer.InACtx.frame_reference,
  fun m ρ _ => Cert.InBCtx.Gen.frame m ρ, fun m ρ _ => Cert.InBCtxIdeal.Gen.frame m ρ, fun m ρ _ => Cert.InBCtxIdeal.Gen.frame m ρ,
  Cert.Layer.InBCtx.frame_reference, fun m ρ _ => Cert.Layer.InBCtx.frame_reference m ρ trivial,
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩, algebraic, trivial,
  Cert.Layer.MergeLat.algebraic, trivial, Cert.Layer.FfnLat.algebraic, trivial, Cert.Layer.MergeCtx.algebraic, trivial, Cert.Layer.FfnCtx.algebraic, trivial, Cert.Layer.CtxAttn.algebraic, trivial, Cert.Layer.InALat.algebraic, trivial, Cert.Layer.InBLat.algebraic, trivial, Cert.Layer.InACtx.algebraic, trivial, Cert.Layer.InBCtx.algebraic⟩

end Cert.Proof

end
